-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_ReferenceDActIdeal (m : (ℓ : Loc Cert.ReferenceDActIdeal.nD Cert.ReferenceDActIdeal.τ Cert.ReferenceDActIdeal.sig) → Buf (Elt Ideal) ℓ) : Prop :=
  True

def Pre_GDown (m : (ℓ : Loc Cert.GDown.nD Cert.GDown.τ Cert.GDown.sig) → Buf (Elt Bits) ℓ) : Prop :=
  True

def Pre_GDownIdeal (m : (ℓ : Loc Cert.GDownIdeal.nD Cert.GDownIdeal.τ Cert.GDownIdeal.sig) → Buf (Elt Ideal) ℓ) : Prop :=
  True

def Pre_ReferenceGDownIdeal (m : (ℓ : Loc Cert.ReferenceGDownIdeal.nD Cert.ReferenceGDownIdeal.τ Cert.ReferenceGDownIdeal.sig) → Buf (Elt Ideal) ℓ) : Prop :=
  True

def Pre_DHidden (m : (ℓ : Loc Cert.DHidden.nD Cert.DHidden.τ Cert.DHidden.sig) → Buf (Elt Bits) ℓ) : Prop :=
  True

def Pre_DHiddenIdeal (m : (ℓ : Loc Cert.DHiddenIdeal.nD Cert.DHiddenIdeal.τ Cert.DHiddenIdeal.sig) → Buf (Elt Ideal) ℓ) : Prop :=
  True

def Pre_ReferenceDHiddenIdeal (m : (ℓ : Loc Cert.ReferenceDHiddenIdeal.nD Cert.ReferenceDHiddenIdeal.τ Cert.ReferenceDHiddenIdeal.sig) → Buf (Elt Ideal) ℓ) : Prop :=
  True

def Pre_GUp (m : (ℓ : Loc Cert.GUp.nD Cert.GUp.τ Cert.GUp.sig) → Buf (Elt Bits) ℓ) : Prop :=
  True

def Pre_GUpIdeal (m : (ℓ : Loc Cert.GUpIdeal.nD Cert.GUpIdeal.τ Cert.GUpIdeal.sig) → Buf (Elt Ideal) ℓ) : Prop :=
  True

def Pre_ReferenceGUpIdeal (m : (ℓ : Loc Cert.ReferenceGUpIdeal.nD Cert.ReferenceGUpIdeal.τ Cert.ReferenceGUpIdeal.sig) → Buf (Elt Ideal) ℓ) : Prop :=
  True

def Pre_DIn (m : (ℓ : Loc Cert.DIn.nD Cert.DIn.τ Cert.DIn.sig) → Buf (Elt Bits) ℓ) : Prop :=
  True

def Pre_DInIdeal (m : (ℓ : Loc Cert.DInIdeal.nD Cert.DInIdeal.τ Cert.DInIdeal.sig) → Buf (Elt Ideal) ℓ) : Prop :=
  True

def Pre_ReferenceDInIdeal (m : (ℓ : Loc Cert.ReferenceDInIdeal.nD Cert.ReferenceDInIdeal.τ Cert.ReferenceDInIdeal.sig) → Buf (Elt Ideal) ℓ) : Prop :=
  True

def Pre_GQkv (m : (ℓ : Loc Cert.GQkv.nD Cert.GQkv.τ Cert.GQkv.sig) → Buf (Elt Bits) ℓ) : Prop :=
  True

def Pre_GQkvIdeal (m : (ℓ : Loc Cert.GQkvIdeal.nD Cert.GQkvIdeal.τ Cert.GQkvIdeal.sig) → Buf (Elt Ideal) ℓ) : Prop :=
  True

def Pre_ReferenceGQkvIdeal (m : (ℓ : Loc Cert.ReferenceGQkvIdeal.nD Cert.ReferenceGQkvIdeal.τ Cert.ReferenceGQkvIdeal.sig) → Buf (Elt Ideal) ℓ) : Prop :=
  True

def Pre_GAux (m : (ℓ : Loc Cert.GAux.nD Cert.GAux.τ Cert.GAux.sig) → Buf (Elt Bits) ℓ) : Prop :=
  True

def Pre_GAuxIdeal (m : (ℓ : Loc Cert.GAuxIdeal.nD Cert.GAuxIdeal.τ Cert.GAuxIdeal.sig) → Buf (Elt Ideal) ℓ) : Prop :=
  True

def Pre_ReferenceGAuxIdeal (m : (ℓ : Loc Cert.ReferenceGAuxIdeal.nD Cert.ReferenceGAuxIdeal.τ Cert.ReferenceGAuxIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_ReferenceDMixedIdeal (m : (ℓ : Loc Cert.ReferenceDMixedIdeal.nD Cert.ReferenceDMixedIdeal.τ Cert.ReferenceDMixedIdeal.sig) → Buf (Elt Ideal) ℓ) : Prop :=
  True

def Pre_GOut (m : (ℓ : Loc Cert.GOut.nD Cert.GOut.τ Cert.GOut.sig) → Buf (Elt Bits) ℓ) : Prop :=
  True

def Pre_GOutIdeal (m : (ℓ : Loc Cert.GOutIdeal.nD Cert.GOutIdeal.τ Cert.GOutIdeal.sig) → Buf (Elt Ideal) ℓ) : Prop :=
  True

def Pre_ReferenceGOutIdeal (m : (ℓ : Loc Cert.ReferenceGOutIdeal.nD Cert.ReferenceGOutIdeal.τ Cert.ReferenceGOutIdeal.sig) → Buf (Elt Ideal) ℓ) : Prop :=
  True

def Pre_DOc (m : (ℓ : Loc Cert.DOc.nD Cert.DOc.τ Cert.DOc.sig) → Buf (Elt Bits) ℓ) : Prop :=
  True

def Pre_DOcIdeal (m : (ℓ : Loc Cert.DOcIdeal.nD Cert.DOcIdeal.τ Cert.DOcIdeal.sig) → Buf (Elt Ideal) ℓ) : Prop :=
  True

def Pre_ReferenceDOcIdeal (m : (ℓ : Loc Cert.ReferenceDOcIdeal.nD Cert.ReferenceDOcIdeal.τ Cert.ReferenceDOcIdeal.sig) → Buf (Elt Ideal) ℓ) : Prop :=
  True

def Pre_GCo (m : (ℓ : Loc Cert.GCo.nD Cert.GCo.τ Cert.GCo.sig) → Buf (Elt Bits) ℓ) : Prop :=
  True

def Pre_GCoIdeal (m : (ℓ : Loc Cert.GCoIdeal.nD Cert.GCoIdeal.τ Cert.GCoIdeal.sig) → Buf (Elt Ideal) ℓ) : Prop :=
  True

def Pre_ReferenceGCoIdeal (m : (ℓ : Loc Cert.ReferenceGCoIdeal.nD Cert.ReferenceGCoIdeal.τ Cert.ReferenceGCoIdeal.sig) → Buf (Elt Ideal) ℓ) : Prop :=
  True

def Pre_DHq (m : (ℓ : Loc Cert.DHq.nD Cert.DHq.τ Cert.DHq.sig) → Buf (Elt Bits) ℓ) : Prop :=
  True

def Pre_DHqIdeal (m : (ℓ : Loc Cert.DHqIdeal.nD Cert.DHqIdeal.τ Cert.DHqIdeal.sig) → Buf (Elt Ideal) ℓ) : Prop :=
  True

def Pre_ReferenceDHqIdeal (m : (ℓ : Loc Cert.ReferenceDHqIdeal.nD Cert.ReferenceDHqIdeal.τ Cert.ReferenceDHqIdeal.sig) → Buf (Elt Ideal) ℓ) : Prop :=
  True

def Pre_GCq (m : (ℓ : Loc Cert.GCq.nD Cert.GCq.τ Cert.GCq.sig) → Buf (Elt Bits) ℓ) : Prop :=
  True

def Pre_GCqIdeal (m : (ℓ : Loc Cert.GCqIdeal.nD Cert.GCqIdeal.τ Cert.GCqIdeal.sig) → Buf (Elt Ideal) ℓ) : Prop :=
  True

def Pre_ReferenceGCqIdeal (m : (ℓ : Loc Cert.ReferenceGCqIdeal.nD Cert.ReferenceGCqIdeal.τ Cert.ReferenceGCqIdeal.sig) → Buf (Elt Ideal) ℓ) : Prop :=
  True

def Pre_DMemn (m : (ℓ : Loc Cert.DMemn.nD Cert.DMemn.τ Cert.DMemn.sig) → Buf (Elt Bits) ℓ) : Prop :=
  True

def Pre_DMemnIdeal (m : (ℓ : Loc Cert.DMemnIdeal.nD Cert.DMemnIdeal.τ Cert.DMemnIdeal.sig) → Buf (Elt Ideal) ℓ) : Prop :=
  True

def Pre_ReferenceDMemnIdeal (m : (ℓ : Loc Cert.ReferenceDMemnIdeal.nD Cert.ReferenceDMemnIdeal.τ Cert.ReferenceDMemnIdeal.sig) → Buf (Elt Ideal) ℓ) : Prop :=
  True

def Pre_GCkv (m : (ℓ : Loc Cert.GCkv.nD Cert.GCkv.τ Cert.GCkv.sig) → Buf (Elt Bits) ℓ) : Prop :=
  True

def Pre_GCkvIdeal (m : (ℓ : Loc Cert.GCkvIdeal.nD Cert.GCkvIdeal.τ Cert.GCkvIdeal.sig) → Buf (Elt Ideal) ℓ) : Prop :=
  True

def Pre_ReferenceGCkvIdeal (m : (ℓ : Loc Cert.ReferenceGCkvIdeal.nD Cert.ReferenceGCkvIdeal.τ Cert.ReferenceGCkvIdeal.sig) → Buf (Elt Ideal) ℓ) : Prop :=
  True

def Pre_FUp (m : (ℓ : Loc Cert.FUp.nD Cert.FUp.τ Cert.FUp.sig) → Buf (Elt Bits) ℓ) : Prop :=
  True

def Pre_FUpIdeal (m : (ℓ : Loc Cert.FUpIdeal.nD Cert.FUpIdeal.τ Cert.FUpIdeal.sig) → Buf (Elt Ideal) ℓ) : Prop :=
  True

def Pre_ReferenceFUpIdeal (m : (ℓ : Loc Cert.ReferenceFUpIdeal.nD Cert.ReferenceFUpIdeal.τ Cert.ReferenceFUpIdeal.sig) → Buf (Elt Ideal) ℓ) : Prop :=
  True

def Pre_FDown (m : (ℓ : Loc Cert.FDown.nD Cert.FDown.τ Cert.FDown.sig) → Buf (Elt Bits) ℓ) : Prop :=
  True

def Pre_FDownIdeal (m : (ℓ : Loc Cert.FDownIdeal.nD Cert.FDownIdeal.τ Cert.FDownIdeal.sig) → Buf (Elt Ideal) ℓ) : Prop :=
  True

def Pre_ReferenceFDownIdeal (m : (ℓ : Loc Cert.ReferenceFDownIdeal.nD Cert.ReferenceFDownIdeal.τ Cert.ReferenceFDownIdeal.sig) → Buf (Elt Ideal) ℓ) : Prop :=
  True

def Pre_FQkv (m : (ℓ : Loc Cert.FQkv.nD Cert.FQkv.τ Cert.FQkv.sig) → Buf (Elt Bits) ℓ) : Prop :=
  True

def Pre_FQkvIdeal (m : (ℓ : Loc Cert.FQkvIdeal.nD Cert.FQkvIdeal.τ Cert.FQkvIdeal.sig) → Buf (Elt Ideal) ℓ) : Prop :=
  True

def Pre_ReferenceFQkvIdeal (m : (ℓ : Loc Cert.ReferenceFQkvIdeal.nD Cert.ReferenceFQkvIdeal.τ Cert.ReferenceFQkvIdeal.sig) → Buf (Elt Ideal) ℓ) : Prop :=
  True

def Pre_FAux (m : (ℓ : Loc Cert.FAux.nD Cert.FAux.τ Cert.FAux.sig) → Buf (Elt Bits) ℓ) : Prop :=
  True

def Pre_FAuxIdeal (m : (ℓ : Loc Cert.FAuxIdeal.nD Cert.FAuxIdeal.τ Cert.FAuxIdeal.sig) → Buf (Elt Ideal) ℓ) : Prop :=
  True

def Pre_ReferenceFAuxIdeal (m : (ℓ : Loc Cert.ReferenceFAuxIdeal.nD Cert.ReferenceFAuxIdeal.τ Cert.ReferenceFAuxIdeal.sig) → Buf (Elt Ideal) ℓ) : Prop :=
  True

def Pre_FOut (m : (ℓ : Loc Cert.FOut.nD Cert.FOut.τ Cert.FOut.sig) → Buf (Elt Bits) ℓ) : Prop :=
  True

def Pre_FOutIdeal (m : (ℓ : Loc Cert.FOutIdeal.nD Cert.FOutIdeal.τ Cert.FOutIdeal.sig) → Buf (Elt Ideal) ℓ) : Prop :=
  True

def Pre_ReferenceFOutIdeal (m : (ℓ : Loc Cert.ReferenceFOutIdeal.nD Cert.ReferenceFOutIdeal.τ Cert.ReferenceFOutIdeal.sig) → Buf (Elt Ideal) ℓ) : Prop :=
  True

def Pre_FCq (m : (ℓ : Loc Cert.FCq.nD Cert.FCq.τ Cert.FCq.sig) → Buf (Elt Bits) ℓ) : Prop :=
  True

def Pre_FCqIdeal (m : (ℓ : Loc Cert.FCqIdeal.nD Cert.FCqIdeal.τ Cert.FCqIdeal.sig) → Buf (Elt Ideal) ℓ) : Prop :=
  True

def Pre_ReferenceFCqIdeal (m : (ℓ : Loc Cert.ReferenceFCqIdeal.nD Cert.ReferenceFCqIdeal.τ Cert.ReferenceFCqIdeal.sig) → Buf (Elt Ideal) ℓ) : Prop :=
  True

def Pre_FCkv (m : (ℓ : Loc Cert.FCkv.nD Cert.FCkv.τ Cert.FCkv.sig) → Buf (Elt Bits) ℓ) : Prop :=
  True

def Pre_FCkvIdeal (m : (ℓ : Loc Cert.FCkvIdeal.nD Cert.FCkvIdeal.τ Cert.FCkvIdeal.sig) → Buf (Elt Ideal) ℓ) : Prop :=
  True

def Pre_ReferenceFCkvIdeal (m : (ℓ : Loc Cert.ReferenceFCkvIdeal.nD Cert.ReferenceFCkvIdeal.τ Cert.ReferenceFCkvIdeal.sig) → Buf (Elt Ideal) ℓ) : Prop :=
  True

def Pre_FCo (m : (ℓ : Loc Cert.FCo.nD Cert.FCo.τ Cert.FCo.sig) → Buf (Elt Bits) ℓ) : Prop :=
  True

def Pre_FCoIdeal (m : (ℓ : Loc Cert.FCoIdeal.nD Cert.FCoIdeal.τ Cert.FCoIdeal.sig) → Buf (Elt Ideal) ℓ) : Prop :=
  True

def Pre_ReferenceFCoIdeal (m : (ℓ : Loc Cert.ReferenceFCoIdeal.nD Cert.ReferenceFCoIdeal.τ Cert.ReferenceFCoIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_ReferenceAdInIdeal (m : (ℓ : Loc Cert.ReferenceAdInIdeal.nD Cert.ReferenceAdInIdeal.τ Cert.ReferenceAdInIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_ReferenceAdOutIdeal (m : (ℓ : Loc Cert.ReferenceAdOutIdeal.nD Cert.ReferenceAdOutIdeal.τ Cert.ReferenceAdOutIdeal.sig) → Buf (Elt Ideal) ℓ) : Prop :=
  True

def Pre_AdCross (m : (ℓ : Loc Cert.AdCross.nD Cert.AdCross.τ Cert.AdCross.sig) → Buf (Elt Bits) ℓ) : Prop :=
  True

def Pre_AdCrossIdeal (m : (ℓ : Loc Cert.AdCrossIdeal.nD Cert.AdCrossIdeal.τ Cert.AdCrossIdeal.sig) → Buf (Elt Ideal) ℓ) : Prop :=
  True

def Pre_ReferenceAdCrossIdeal (m : (ℓ : Loc Cert.ReferenceAdCrossIdeal.nD Cert.ReferenceAdCrossIdeal.τ Cert.ReferenceAdCrossIdeal.sig) → Buf (Elt Ideal) ℓ) : Prop :=
  True

def Pre_AdCo (m : (ℓ : Loc Cert.AdCo.nD Cert.AdCo.τ Cert.AdCo.sig) → Buf (Elt Bits) ℓ) : Prop :=
  True

def Pre_AdCoIdeal (m : (ℓ : Loc Cert.AdCoIdeal.nD Cert.AdCoIdeal.τ Cert.AdCoIdeal.sig) → Buf (Elt Ideal) ℓ) : Prop :=
  True

def Pre_ReferenceAdCoIdeal (m : (ℓ : Loc Cert.ReferenceAdCoIdeal.nD Cert.ReferenceAdCoIdeal.τ Cert.ReferenceAdCoIdeal.sig) → Buf (Elt Ideal) ℓ) : Prop :=
  True

def Pre_AdUp (m : (ℓ : Loc Cert.AdUp.nD Cert.AdUp.τ Cert.AdUp.sig) → Buf (Elt Bits) ℓ) : Prop :=
  True

def Pre_AdUpIdeal (m : (ℓ : Loc Cert.AdUpIdeal.nD Cert.AdUpIdeal.τ Cert.AdUpIdeal.sig) → Buf (Elt Ideal) ℓ) : Prop :=
  True

def Pre_ReferenceAdUpIdeal (m : (ℓ : Loc Cert.ReferenceAdUpIdeal.nD Cert.ReferenceAdUpIdeal.τ Cert.ReferenceAdUpIdeal.sig) → Buf (Elt Ideal) ℓ) : Prop :=
  True

def Pre_AdDown (m : (ℓ : Loc Cert.AdDown.nD Cert.AdDown.τ Cert.AdDown.sig) → Buf (Elt Bits) ℓ) : Prop :=
  True

def Pre_AdDownIdeal (m : (ℓ : Loc Cert.AdDownIdeal.nD Cert.AdDownIdeal.τ Cert.AdDownIdeal.sig) → Buf (Elt Ideal) ℓ) : Prop :=
  True

def Pre_ReferenceAdDownIdeal (m : (ℓ : Loc Cert.ReferenceAdDownIdeal.nD Cert.ReferenceAdDownIdeal.τ Cert.ReferenceAdDownIdeal.sig) → Buf (Elt Ideal) ℓ) : Prop :=
  True

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_finite_qk [hPre_finite_qk : Cert.Pre_finite_qk.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_finite_qk.fn (F := Ideal) (m ((c.tc : Thread Cert.SbFwdIdeal.nD Cert.SbFwdIdeal.τ).loc Cert.SbFwdIdeal.main_arg0))) = (fun _ => 1#1)

def Pre_ReferenceSbFwdIdeal (m : (ℓ : Loc Cert.ReferenceSbFwdIdeal.nD Cert.ReferenceSbFwdIdeal.τ Cert.ReferenceSbFwdIdeal.sig) → Buf (Elt Ideal) ℓ) : Prop :=
  True

def Pre_ReferenceSbFwdIdeal_finite_qk [hPre_finite_qk : Cert.Pre_finite_qk.Facts] (m : (ℓ : Loc Cert.ReferenceSbFwdIdeal.nD Cert.ReferenceSbFwdIdeal.τ Cert.ReferenceSbFwdIdeal.sig) → Buf (Elt Ideal) ℓ) : Prop :=
  ∀ c : Dev Cert.ReferenceSbFwdIdeal.nD,
    (Cert.Pre_finite_qk.fn (F := Ideal) (m ((c.tc : Thread Cert.ReferenceSbFwdIdeal.nD Cert.ReferenceSbFwdIdeal.τ).loc Cert.ReferenceSbFwdIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_ReferenceDActIdeal [hReferenceDActIdeal : Cert.ReferenceDActIdeal.Facts] : Prop :=
  ∀ (m : (ℓ : Loc Cert.ReferenceDActIdeal.nD Cert.ReferenceDActIdeal.τ Cert.ReferenceDActIdeal.sig) → Buf (Elt Ideal) ℓ) (g : Dev Cert.ReferenceDActIdeal.nD → PrngReg), Pre_ReferenceDActIdeal m →
    θ_run (Cert.ReferenceDActIdeal.defs (F := Ideal)) (onTc (τ := Cert.ReferenceDActIdeal.τ) (Cert.ReferenceDActIdeal.main (F := Ideal))) ⟨m, fun _ => 0, g⟩ (fun r => (∀ c : Dev Cert.ReferenceDActIdeal.nD,
      r.2.mem ((c.tc : Thread Cert.ReferenceDActIdeal.nD Cert.ReferenceDActIdeal.τ).loc Cert.ReferenceDActIdeal.main_arg0) = m ((c.tc : Thread Cert.ReferenceDActIdeal.nD Cert.ReferenceDActIdeal.τ).loc Cert.ReferenceDActIdeal.main_arg0)
      ∧ r.2.mem ((c.tc : Thread Cert.ReferenceDActIdeal.nD Cert.ReferenceDActIdeal.τ).loc Cert.ReferenceDActIdeal.main_arg1) = m ((c.tc : Thread Cert.ReferenceDActIdeal.nD Cert.ReferenceDActIdeal.τ).loc Cert.ReferenceDActIdeal.main_arg1))
      ∧ r.2.sem = fun _ => 0)

def quiescent_GDown [hGDown : Cert.GDown.Facts] : Prop :=
  ∀ (m : (ℓ : Loc Cert.GDown.nD Cert.GDown.τ Cert.GDown.sig) → Buf (Elt Bits) ℓ) (g : Dev Cert.GDown.nD → PrngReg), Pre_GDown m →
    θ_run (Cert.GDown.defs (F := Bits)) (onTc (τ := Cert.GDown.τ) (Cert.GDown.main (F := Bits))) ⟨m, fun _ => 0, g⟩ (fun r => (∀ c : Dev Cert.GDown.nD,
      r.2.mem ((c.tc : Thread Cert.GDown.nD Cert.GDown.τ).loc Cert.GDown.main_arg0) = m ((c.tc : Thread Cert.GDown.nD Cert.GDown.τ).loc Cert.GDown.main_arg0)
      ∧ r.2.mem ((c.tc : Thread Cert.GDown.nD Cert.GDown.τ).loc Cert.GDown.main_arg1) = m ((c.tc : Thread Cert.GDown.nD Cert.GDown.τ).loc Cert.GDown.main_arg1))
      ∧ r.2.sem = fun _ => 0)

def quiescent_GDownIdeal [hGDownIdeal : Cert.GDownIdeal.Facts] : Prop :=
  ∀ (m : (ℓ : Loc Cert.GDownIdeal.nD Cert.GDownIdeal.τ Cert.GDownIdeal.sig) → Buf (Elt Ideal) ℓ) (g : Dev Cert.GDownIdeal.nD → PrngReg), Pre_GDownIdeal m →
    θ_run (Cert.GDownIdeal.defs (F := Ideal)) (onTc (τ := Cert.GDownIdeal.τ) (Cert.GDownIdeal.main (F := Ideal))) ⟨m, fun _ => 0, g⟩ (fun r => (∀ c : Dev Cert.GDownIdeal.nD,
      r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
      ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ r.2.sem = fun _ => 0)

def quiescent_ReferenceGDownIdeal [hReferenceGDownIdeal : Cert.ReferenceGDownIdeal.Facts] : Prop :=
  ∀ (m : (ℓ : Loc Cert.ReferenceGDownIdeal.nD Cert.ReferenceGDownIdeal.τ Cert.ReferenceGDownIdeal.sig) → Buf (Elt Ideal) ℓ) (g : Dev Cert.ReferenceGDownIdeal.nD → PrngReg), Pre_ReferenceGDownIdeal m →
    θ_run (Cert.ReferenceGDownIdeal.defs (F := Ideal)) (onTc (τ := Cert.ReferenceGDownIdeal.τ) (Cert.ReferenceGDownIdeal.main (F := Ideal))) ⟨m, fun _ => 0, g⟩ (fun r => (∀ c : Dev Cert.ReferenceGDownIdeal.nD,
      r.2.mem ((c.tc : Thread Cert.ReferenceGDownIdeal.nD Cert.ReferenceGDownIdeal.τ).loc Cert.ReferenceGDownIdeal.main_arg0) = m ((c.tc : Thread Cert.ReferenceGDownIdeal.nD Cert.ReferenceGDownIdeal.τ).loc Cert.ReferenceGDownIdeal.main_arg0)
      ∧ r.2.mem ((c.tc : Thread Cert.ReferenceGDownIdeal.nD Cert.ReferenceGDownIdeal.τ).loc Cert.ReferenceGDownIdeal.main_arg1) = m ((c.tc : Thread Cert.ReferenceGDownIdeal.nD Cert.ReferenceGDownIdeal.τ).loc Cert.ReferenceGDownIdeal.main_arg1))
      ∧ r.2.sem = fun _ => 0)

def quiescent_DHidden [hDHidden : Cert.DHidden.Facts] : Prop :=
  ∀ (m : (ℓ : Loc Cert.DHidden.nD Cert.DHidden.τ Cert.DHidden.sig) → Buf (Elt Bits) ℓ) (g : Dev Cert.DHidden.nD → PrngReg), Pre_DHidden m →
    θ_run (Cert.DHidden.defs (F := Bits)) (onTc (τ := Cert.DHidden.τ) (Cert.DHidden.main (F := Bits))) ⟨m, fun _ => 0, g⟩ (fun r => (∀ c : Dev Cert.DHidden.nD,
      r.2.mem ((c.tc : Thread Cert.DHidden.nD Cert.DHidden.τ).loc Cert.DHidden.main_arg0) = m ((c.tc : Thread Cert.DHidden.nD Cert.DHidden.τ).loc Cert.DHidden.main_arg0)
      ∧ r.2.mem ((c.tc : Thread Cert.DHidden.nD Cert.DHidden.τ).loc Cert.DHidden.main_arg1) = m ((c.tc : Thread Cert.DHidden.nD Cert.DHidden.τ).loc Cert.DHidden.main_arg1)
      ∧ r.2.mem ((c.tc : Thread Cert.DHidden.nD Cert.DHidden.τ).loc Cert.DHidden.main_arg2) = m ((c.tc : Thread Cert.DHidden.nD Cert.DHidden.τ).loc Cert.DHidden.main_arg2)
      ∧ r.2.mem ((c.tc : Thread Cert.DHidden.nD Cert.DHidden.τ).loc Cert.DHidden.main_arg3) = m ((c.tc : Thread Cert.DHidden.nD Cert.DHidden.τ).loc Cert.DHidden.main_arg3))
      ∧ r.2.sem = fun _ => 0)

def quiescent_DHiddenIdeal [hDHiddenIdeal : Cert.DHiddenIdeal.Facts] : Prop :=
  ∀ (m : (ℓ : Loc Cert.DHiddenIdeal.nD Cert.DHiddenIdeal.τ Cert.DHiddenIdeal.sig) → Buf (Elt Ideal) ℓ) (g : Dev Cert.DHiddenIdeal.nD → PrngReg), Pre_DHiddenIdeal m →
    θ_run (Cert.DHiddenIdeal.defs (F := Ideal)) (onTc (τ := Cert.DHiddenIdeal.τ) (Cert.DHiddenIdeal.main (F := Ideal))) ⟨m, fun _ => 0, g⟩ (fun r => (∀ c : Dev Cert.DHiddenIdeal.nD,
      r.2.mem ((c.tc : Thread Cert.DHiddenIdeal.nD Cert.DHiddenIdeal.τ).loc Cert.DHiddenIdeal.main_arg0) = m ((c.tc : Thread Cert.DHiddenIdeal.nD Cert.DHiddenIdeal.τ).loc Cert.DHiddenIdeal.main_arg0)
      ∧ r.2.mem ((c.tc : Thread Cert.DHiddenIdeal.nD Cert.DHiddenIdeal.τ).loc Cert.DHiddenIdeal.main_arg1) = m ((c.tc : Thread Cert.DHiddenIdeal.nD Cert.DHiddenIdeal.τ).loc Cert.DHiddenIdeal.main_arg1)
      ∧ r.2.mem ((c.tc : Thread Cert.DHiddenIdeal.nD Cert.DHiddenIdeal.τ).loc Cert.DHiddenIdeal.main_arg2) = m ((c.tc : Thread Cert.DHiddenIdeal.nD Cert.DHiddenIdeal.τ).loc Cert.DHiddenIdeal.main_arg2)
      ∧ r.2.mem ((c.tc : Thread Cert.DHiddenIdeal.nD Cert.DHiddenIdeal.τ).loc Cert.DHiddenIdeal.main_arg3) = m ((c.tc : Thread Cert.DHiddenIdeal.nD Cert.DHiddenIdeal.τ).loc Cert.DHiddenIdeal.main_arg3))
      ∧ r.2.sem = fun _ => 0)

def quiescent_ReferenceDHiddenIdeal [hReferenceDHiddenIdeal : Cert.ReferenceDHiddenIdeal.Facts] : Prop :=
  ∀ (m : (ℓ : Loc Cert.ReferenceDHiddenIdeal.nD Cert.ReferenceDHiddenIdeal.τ Cert.ReferenceDHiddenIdeal.sig) → Buf (Elt Ideal) ℓ) (g : Dev Cert.ReferenceDHiddenIdeal.nD → PrngReg), Pre_ReferenceDHiddenIdeal m →
    θ_run (Cert.ReferenceDHiddenIdeal.defs (F := Ideal)) (onTc (τ := Cert.ReferenceDHiddenIdeal.τ) (Cert.ReferenceDHiddenIdeal.main (F := Ideal))) ⟨m, fun _ => 0, g⟩ (fun r => (∀ c : Dev Cert.ReferenceDHiddenIdeal.nD,
      r.2.mem ((c.tc : Thread Cert.ReferenceDHiddenIdeal.nD Cert.ReferenceDHiddenIdeal.τ).loc Cert.ReferenceDHiddenIdeal.main_arg0) = m ((c.tc : Thread Cert.ReferenceDHiddenIdeal.nD Cert.ReferenceDHiddenIdeal.τ).loc Cert.ReferenceDHiddenIdeal.main_arg0)
      ∧ r.2.mem ((c.tc : Thread Cert.ReferenceDHiddenIdeal.nD Cert.ReferenceDHiddenIdeal.τ).loc Cert.ReferenceDHiddenIdeal.main_arg1) = m ((c.tc : Thread Cert.ReferenceDHiddenIdeal.nD Cert.ReferenceDHiddenIdeal.τ).loc Cert.ReferenceDHiddenIdeal.main_arg1)
      ∧ r.2.mem ((c.tc : Thread Cert.ReferenceDHiddenIdeal.nD Cert.ReferenceDHiddenIdeal.τ).loc Cert.ReferenceDHiddenIdeal.main_arg2) = m ((c.tc : Thread Cert.ReferenceDHiddenIdeal.nD Cert.ReferenceDHiddenIdeal.τ).loc Cert.ReferenceDHiddenIdeal.main_arg2)
      ∧ r.2.mem ((c.tc : Thread Cert.ReferenceDHiddenIdeal.nD Cert.ReferenceDHiddenIdeal.τ).loc Cert.ReferenceDHiddenIdeal.main_arg3) = m ((c.tc : Thread Cert.ReferenceDHiddenIdeal.nD Cert.ReferenceDHiddenIdeal.τ).loc Cert.ReferenceDHiddenIdeal.main_arg3))
      ∧ r.2.sem = fun _ => 0)

def quiescent_GUp [hGUp : Cert.GUp.Facts] : Prop :=
  ∀ (m : (ℓ : Loc Cert.GUp.nD Cert.GUp.τ Cert.GUp.sig) → Buf (Elt Bits) ℓ) (g : Dev Cert.GUp.nD → PrngReg), Pre_GUp m →
    θ_run (Cert.GUp.defs (F := Bits)) (onTc (τ := Cert.GUp.τ) (Cert.GUp.main (F := Bits))) ⟨m, fun _ => 0, g⟩ (fun r => (∀ c : Dev Cert.GUp.nD,
      r.2.mem ((c.tc : Thread Cert.GUp.nD Cert.GUp.τ).loc Cert.GUp.main_arg0) = m ((c.tc : Thread Cert.GUp.nD Cert.GUp.τ).loc Cert.GUp.main_arg0)
      ∧ r.2.mem ((c.tc : Thread Cert.GUp.nD Cert.GUp.τ).loc Cert.GUp.main_arg1) = m ((c.tc : Thread Cert.GUp.nD Cert.GUp.τ).loc Cert.GUp.main_arg1))
      ∧ r.2.sem = fun _ => 0)

def quiescent_GUpIdeal [hGUpIdeal : Cert.GUpIdeal.Facts] : Prop :=
  ∀ (m : (ℓ : Loc Cert.GUpIdeal.nD Cert.GUpIdeal.τ Cert.GUpIdeal.sig) → Buf (Elt Ideal) ℓ) (g : Dev Cert.GUpIdeal.nD → PrngReg), Pre_GUpIdeal m →
    θ_run (Cert.GUpIdeal.defs (F := Ideal)) (onTc (τ := Cert.GUpIdeal.τ) (Cert.GUpIdeal.main (F := Ideal))) ⟨m, fun _ => 0, g⟩ (fun r => (∀ c : Dev Cert.GUpIdeal.nD,
      r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
      ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1))
      ∧ r.2.sem = fun _ => 0)

def quiescent_ReferenceGUpIdeal [hReferenceGUpIdeal : Cert.ReferenceGUpIdeal.Facts] : Prop :=
  ∀ (m : (ℓ : Loc Cert.ReferenceGUpIdeal.nD Cert.ReferenceGUpIdeal.τ Cert.ReferenceGUpIdeal.sig) → Buf (Elt Ideal) ℓ) (g : Dev Cert.ReferenceGUpIdeal.nD → PrngReg), Pre_ReferenceGUpIdeal m →
    θ_run (Cert.ReferenceGUpIdeal.defs (F := Ideal)) (onTc (τ := Cert.ReferenceGUpIdeal.τ) (Cert.ReferenceGUpIdeal.main (F := Ideal))) ⟨m, fun _ => 0, g⟩ (fun r => (∀ c : Dev Cert.ReferenceGUpIdeal.nD,
      r.2.mem ((c.tc : Thread Cert.ReferenceGUpIdeal.nD Cert.ReferenceGUpIdeal.τ).loc Cert.ReferenceGUpIdeal.main_arg0) = m ((c.tc : Thread Cert.ReferenceGUpIdeal.nD Cert.ReferenceGUpIdeal.τ).loc Cert.ReferenceGUpIdeal.main_arg0)
      ∧ r.2.mem ((c.tc : Thread Cert.ReferenceGUpIdeal.nD Cert.ReferenceGUpIdeal.τ).loc Cert.ReferenceGUpIdeal.main_arg1) = m ((c.tc : Thread Cert.ReferenceGUpIdeal.nD Cert.ReferenceGUpIdeal.τ).loc Cert.ReferenceGUpIdeal.main_arg1))
      ∧ r.2.sem = fun _ => 0)

def quiescent_DIn [hDIn : Cert.DIn.Facts] : Prop :=
  ∀ (m : (ℓ : Loc Cert.DIn.nD Cert.DIn.τ Cert.DIn.sig) → Buf (Elt Bits) ℓ) (g : Dev Cert.DIn.nD → PrngReg), Pre_DIn m →
    θ_run (Cert.DIn.defs (F := Bits)) (onTc (τ := Cert.DIn.τ) (Cert.DIn.main (F := Bits))) ⟨m, fun _ => 0, g⟩ (fun r => (∀ c : Dev Cert.DIn.nD,
      r.2.mem ((c.tc : Thread Cert.DIn.nD Cert.DIn.τ).loc Cert.DIn.main_arg0) = m ((c.tc : Thread Cert.DIn.nD Cert.DIn.τ).loc Cert.DIn.main_arg0)
      ∧ r.2.mem ((c.tc : Thread Cert.DIn.nD Cert.DIn.τ).loc Cert.DIn.main_arg1) = m ((c.tc : Thread Cert.DIn.nD Cert.DIn.τ).loc Cert.DIn.main_arg1)
      ∧ r.2.mem ((c.tc : Thread Cert.DIn.nD Cert.DIn.τ).loc Cert.DIn.main_arg2) = m ((c.tc : Thread Cert.DIn.nD Cert.DIn.τ).loc Cert.DIn.main_arg2)
      ∧ r.2.mem ((c.tc : Thread Cert.DIn.nD Cert.DIn.τ).loc Cert.DIn.main_arg3) = m ((c.tc : Thread Cert.DIn.nD Cert.DIn.τ).loc Cert.DIn.main_arg3))
      ∧ r.2.sem = fun _ => 0)

def quiescent_DInIdeal [hDInIdeal : Cert.DInIdeal.Facts] : Prop :=
  ∀ (m : (ℓ : Loc Cert.DInIdeal.nD Cert.DInIdeal.τ Cert.DInIdeal.sig) → Buf (Elt Ideal) ℓ) (g : Dev Cert.DInIdeal.nD → PrngReg), Pre_DInIdeal m →
    θ_run (Cert.DInIdeal.defs (F := Ideal)) (onTc (τ := Cert.DInIdeal.τ) (Cert.DInIdeal.main (F := Ideal))) ⟨m, fun _ => 0, g⟩ (fun r => (∀ c : Dev Cert.DInIdeal.nD,
      r.2.mem ((c.tc : Thread Cert.DInIdeal.nD Cert.DInIdeal.τ).loc Cert.DInIdeal.main_arg0) = m ((c.tc : Thread Cert.DInIdeal.nD Cert.DInIdeal.τ).loc Cert.DInIdeal.main_arg0)
      ∧ r.2.mem ((c.tc : Thread Cert.DInIdeal.nD Cert.DInIdeal.τ).loc Cert.DInIdeal.main_arg1) = m ((c.tc : Thread Cert.DInIdeal.nD Cert.DInIdeal.τ).loc Cert.DInIdeal.main_arg1)
      ∧ r.2.mem ((c.tc : Thread Cert.DInIdeal.nD Cert.DInIdeal.τ).loc Cert.DInIdeal.main_arg2) = m ((c.tc : Thread Cert.DInIdeal.nD Cert.DInIdeal.τ).loc Cert.DInIdeal.main_arg2)
      ∧ r.2.mem ((c.tc : Thread Cert.DInIdeal.nD Cert.DInIdeal.τ).loc Cert.DInIdeal.main_arg3) = m ((c.tc : Thread Cert.DInIdeal.nD Cert.DInIdeal.τ).loc Cert.DInIdeal.main_arg3))
      ∧ r.2.sem = fun _ => 0)

def quiescent_ReferenceDInIdeal [hReferenceDInIdeal : Cert.ReferenceDInIdeal.Facts] : Prop :=
  ∀ (m : (ℓ : Loc Cert.ReferenceDInIdeal.nD Cert.ReferenceDInIdeal.τ Cert.ReferenceDInIdeal.sig) → Buf (Elt Ideal) ℓ) (g : Dev Cert.ReferenceDInIdeal.nD → PrngReg), Pre_ReferenceDInIdeal m →
    θ_run (Cert.ReferenceDInIdeal.defs (F := Ideal)) (onTc (τ := Cert.ReferenceDInIdeal.τ) (Cert.ReferenceDInIdeal.main (F := Ideal))) ⟨m, fun _ => 0, g⟩ (fun r => (∀ c : Dev Cert.ReferenceDInIdeal.nD,
      r.2.mem ((c.tc : Thread Cert.ReferenceDInIdeal.nD Cert.ReferenceDInIdeal.τ).loc Cert.ReferenceDInIdeal.main_arg0) = m ((c.tc : Thread Cert.ReferenceDInIdeal.nD Cert.ReferenceDInIdeal.τ).loc Cert.ReferenceDInIdeal.main_arg0)
      ∧ r.2.mem ((c.tc : Thread Cert.ReferenceDInIdeal.nD Cert.ReferenceDInIdeal.τ).loc Cert.ReferenceDInIdeal.main_arg1) = m ((c.tc : Thread Cert.ReferenceDInIdeal.nD Cert.ReferenceDInIdeal.τ).loc Cert.ReferenceDInIdeal.main_arg1)
      ∧ r.2.mem ((c.tc : Thread Cert.ReferenceDInIdeal.nD Cert.ReferenceDInIdeal.τ).loc Cert.ReferenceDInIdeal.main_arg2) = m ((c.tc : Thread Cert.ReferenceDInIdeal.nD Cert.ReferenceDInIdeal.τ).loc Cert.ReferenceDInIdeal.main_arg2)
      ∧ r.2.mem ((c.tc : Thread Cert.ReferenceDInIdeal.nD Cert.ReferenceDInIdeal.τ).loc Cert.ReferenceDInIdeal.main_arg3) = m ((c.tc : Thread Cert.ReferenceDInIdeal.nD Cert.ReferenceDInIdeal.τ).loc Cert.ReferenceDInIdeal.main_arg3))
      ∧ r.2.sem = fun _ => 0)

def quiescent_GQkv [hGQkv : Cert.GQkv.Facts] : Prop :=
  ∀ (m : (ℓ : Loc Cert.GQkv.nD Cert.GQkv.τ Cert.GQkv.sig) → Buf (Elt Bits) ℓ) (g : Dev Cert.GQkv.nD → PrngReg), Pre_GQkv m →
    θ_run (Cert.GQkv.defs (F := Bits)) (onTc (τ := Cert.GQkv.τ) (Cert.GQkv.main (F := Bits))) ⟨m, fun _ => 0, g⟩ (fun r => (∀ c : Dev Cert.GQkv.nD,
      r.2.mem ((c.tc : Thread Cert.GQkv.nD Cert.GQkv.τ).loc Cert.GQkv.main_arg0) = m ((c.tc : Thread Cert.GQkv.nD Cert.GQkv.τ).loc Cert.GQkv.main_arg0)
      ∧ r.2.mem ((c.tc : Thread Cert.GQkv.nD Cert.GQkv.τ).loc Cert.GQkv.main_arg1) = m ((c.tc : Thread Cert.GQkv.nD Cert.GQkv.τ).loc Cert.GQkv.main_arg1))
      ∧ r.2.sem = fun _ => 0)

def quiescent_GQkvIdeal [hGQkvIdeal : Cert.GQkvIdeal.Facts] : Prop :=
  ∀ (m : (ℓ : Loc Cert.GQkvIdeal.nD Cert.GQkvIdeal.τ Cert.GQkvIdeal.sig) → Buf (Elt Ideal) ℓ) (g : Dev Cert.GQkvIdeal.nD → PrngReg), Pre_GQkvIdeal m →
    θ_run (Cert.GQkvIdeal.defs (F := Ideal)) (onTc (τ := Cert.GQkvIdeal.τ) (Cert.GQkvIdeal.main (F := Ideal))) ⟨m, fun _ => 0, g⟩ (fun r => (∀ c : Dev Cert.GQkvIdeal.nD,
      r.2.mem ((c.tc : Thread Cert.GQkvIdeal.nD Cert.GQkvIdeal.τ).loc Cert.GQkvIdeal.main_arg0) = m ((c.tc : Thread Cert.GQkvIdeal.nD Cert.GQkvIdeal.τ).loc Cert.GQkvIdeal.main_arg0)
      ∧ r.2.mem ((c.tc : Thread Cert.GQkvIdeal.nD Cert.GQkvIdeal.τ).loc Cert.GQkvIdeal.main_arg1) = m ((c.tc : Thread Cert.GQkvIdeal.nD Cert.GQkvIdeal.τ).loc Cert.GQkvIdeal.main_arg1))
      ∧ r.2.sem = fun _ => 0)

def quiescent_ReferenceGQkvIdeal [hReferenceGQkvIdeal : Cert.ReferenceGQkvIdeal.Facts] : Prop :=
  ∀ (m : (ℓ : Loc Cert.ReferenceGQkvIdeal.nD Cert.ReferenceGQkvIdeal.τ Cert.ReferenceGQkvIdeal.sig) → Buf (Elt Ideal) ℓ) (g : Dev Cert.ReferenceGQkvIdeal.nD → PrngReg), Pre_ReferenceGQkvIdeal m →
    θ_run (Cert.ReferenceGQkvIdeal.defs (F := Ideal)) (onTc (τ := Cert.ReferenceGQkvIdeal.τ) (Cert.ReferenceGQkvIdeal.main (F := Ideal))) ⟨m, fun _ => 0, g⟩ (fun r => (∀ c : Dev Cert.ReferenceGQkvIdeal.nD,
      r.2.mem ((c.tc : Thread Cert.ReferenceGQkvIdeal.nD Cert.ReferenceGQkvIdeal.τ).loc Cert.ReferenceGQkvIdeal.main_arg0) = m ((c.tc : Thread Cert.ReferenceGQkvIdeal.nD Cert.ReferenceGQkvIdeal.τ).loc Cert.ReferenceGQkvIdeal.main_arg0)
      ∧ r.2.mem ((c.tc : Thread Cert.ReferenceGQkvIdeal.nD Cert.ReferenceGQkvIdeal.τ).loc Cert.ReferenceGQkvIdeal.main_arg1) = m ((c.tc : Thread Cert.ReferenceGQkvIdeal.nD Cert.ReferenceGQkvIdeal.τ).loc Cert.ReferenceGQkvIdeal.main_arg1))
      ∧ r.2.sem = fun _ => 0)

def quiescent_GAux [hGAux : Cert.GAux.Facts] : Prop :=
  ∀ (m : (ℓ : Loc Cert.GAux.nD Cert.GAux.τ Cert.GAux.sig) → Buf (Elt Bits) ℓ) (g : Dev Cert.GAux.nD → PrngReg), Pre_GAux m →
    θ_run (Cert.GAux.defs (F := Bits)) (onTc (τ := Cert.GAux.τ) (Cert.GAux.main (F := Bits))) ⟨m, fun _ => 0, g⟩ (fun r => (∀ c : Dev Cert.GAux.nD,
      r.2.mem ((c.tc : Thread Cert.GAux.nD Cert.GAux.τ).loc Cert.GAux.main_arg0) = m ((c.tc : Thread Cert.GAux.nD Cert.GAux.τ).loc Cert.GAux.main_arg0)
      ∧ r.2.mem ((c.tc : Thread Cert.GAux.nD Cert.GAux.τ).loc Cert.GAux.main_arg1) = m ((c.tc : Thread Cert.GAux.nD Cert.GAux.τ).loc Cert.GAux.main_arg1))
      ∧ r.2.sem = fun _ => 0)

def quiescent_GAuxIdeal [hGAuxIdeal : Cert.GAuxIdeal.Facts] : Prop :=
  ∀ (m : (ℓ : Loc Cert.GAuxIdeal.nD Cert.GAuxIdeal.τ Cert.GAuxIdeal.sig) → Buf (Elt Ideal) ℓ) (g : Dev Cert.GAuxIdeal.nD → PrngReg), Pre_GAuxIdeal m →
    θ_run (Cert.GAuxIdeal.defs (F := Ideal)) (onTc (τ := Cert.GAuxIdeal.τ) (Cert.GAuxIdeal.main (F := Ideal))) ⟨m, fun _ => 0, g⟩ (fun r => (∀ c : Dev Cert.GAuxIdeal.nD,
      r.2.mem ((c.tc : Thread Cert.GAuxIdeal.nD Cert.GAuxIdeal.τ).loc Cert.GAuxIdeal.main_arg0) = m ((c.tc : Thread Cert.GAuxIdeal.nD Cert.GAuxIdeal.τ).loc Cert.GAuxIdeal.main_arg0)
      ∧ r.2.mem ((c.tc : Thread Cert.GAuxIdeal.nD Cert.GAuxIdeal.τ).loc Cert.GAuxIdeal.main_arg1) = m ((c.tc : Thread Cert.GAuxIdeal.nD Cert.GAuxIdeal.τ).loc Cert.GAuxIdeal.main_arg1))
      ∧ r.2.sem = fun _ => 0)

def quiescent_ReferenceGAuxIdeal [hReferenceGAuxIdeal : Cert.ReferenceGAuxIdeal.Facts] : Prop :=
  ∀ (m : (ℓ : Loc Cert.ReferenceGAuxIdeal.nD Cert.ReferenceGAuxIdeal.τ Cert.ReferenceGAuxIdeal.sig) → Buf (Elt Ideal) ℓ) (g : Dev Cert.ReferenceGAuxIdeal.nD → PrngReg), Pre_ReferenceGAuxIdeal m →
    θ_run (Cert.ReferenceGAuxIdeal.defs (F := Ideal)) (onTc (τ := Cert.ReferenceGAuxIdeal.τ) (Cert.ReferenceGAuxIdeal.main (F := Ideal))) ⟨m, fun _ => 0, g⟩ (fun r => (∀ c : Dev Cert.ReferenceGAuxIdeal.nD,
      r.2.mem ((c.tc : Thread Cert.ReferenceGAuxIdeal.nD Cert.ReferenceGAuxIdeal.τ).loc Cert.ReferenceGAuxIdeal.main_arg0) = m ((c.tc : Thread Cert.ReferenceGAuxIdeal.nD Cert.ReferenceGAuxIdeal.τ).loc Cert.ReferenceGAuxIdeal.main_arg0)
      ∧ r.2.mem ((c.tc : Thread Cert.ReferenceGAuxIdeal.nD Cert.ReferenceGAuxIdeal.τ).loc Cert.ReferenceGAuxIdeal.main_arg1) = m ((c.tc : Thread Cert.ReferenceGAuxIdeal.nD Cert.ReferenceGAuxIdeal.τ).loc Cert.ReferenceGAuxIdeal.main_arg1))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_ReferenceDMixedIdeal [hReferenceDMixedIdeal : Cert.ReferenceDMixedIdeal.Facts] : Prop :=
  ∀ (m : (ℓ : Loc Cert.ReferenceDMixedIdeal.nD Cert.ReferenceDMixedIdeal.τ Cert.ReferenceDMixedIdeal.sig) → Buf (Elt Ideal) ℓ) (g : Dev Cert.ReferenceDMixedIdeal.nD → PrngReg), Pre_ReferenceDMixedIdeal m →
    θ_run (Cert.ReferenceDMixedIdeal.defs (F := Ideal)) (onTc (τ := Cert.ReferenceDMixedIdeal.τ) (Cert.ReferenceDMixedIdeal.main (F := Ideal))) ⟨m, fun _ => 0, g⟩ (fun r => (∀ c : Dev Cert.ReferenceDMixedIdeal.nD,
      r.2.mem ((c.tc : Thread Cert.ReferenceDMixedIdeal.nD Cert.ReferenceDMixedIdeal.τ).loc Cert.ReferenceDMixedIdeal.main_arg0) = m ((c.tc : Thread Cert.ReferenceDMixedIdeal.nD Cert.ReferenceDMixedIdeal.τ).loc Cert.ReferenceDMixedIdeal.main_arg0)
      ∧ r.2.mem ((c.tc : Thread Cert.ReferenceDMixedIdeal.nD Cert.ReferenceDMixedIdeal.τ).loc Cert.ReferenceDMixedIdeal.main_arg1) = m ((c.tc : Thread Cert.ReferenceDMixedIdeal.nD Cert.ReferenceDMixedIdeal.τ).loc Cert.ReferenceDMixedIdeal.main_arg1))
      ∧ r.2.sem = fun _ => 0)

def quiescent_GOut [hGOut : Cert.GOut.Facts] : Prop :=
  ∀ (m : (ℓ : Loc Cert.GOut.nD Cert.GOut.τ Cert.GOut.sig) → Buf (Elt Bits) ℓ) (g : Dev Cert.GOut.nD → PrngReg), Pre_GOut m →
    θ_run (Cert.GOut.defs (F := Bits)) (onTc (τ := Cert.GOut.τ) (Cert.GOut.main (F := Bits))) ⟨m, fun _ => 0, g⟩ (fun r => (∀ c : Dev Cert.GOut.nD,
      r.2.mem ((c.tc : Thread Cert.GOut.nD Cert.GOut.τ).loc Cert.GOut.main_arg0) = m ((c.tc : Thread Cert.GOut.nD Cert.GOut.τ).loc Cert.GOut.main_arg0)
      ∧ r.2.mem ((c.tc : Thread Cert.GOut.nD Cert.GOut.τ).loc Cert.GOut.main_arg1) = m ((c.tc : Thread Cert.GOut.nD Cert.GOut.τ).loc Cert.GOut.main_arg1))
      ∧ r.2.sem = fun _ => 0)

def quiescent_GOutIdeal [hGOutIdeal : Cert.GOutIdeal.Facts] : Prop :=
  ∀ (m : (ℓ : Loc Cert.GOutIdeal.nD Cert.GOutIdeal.τ Cert.GOutIdeal.sig) → Buf (Elt Ideal) ℓ) (g : Dev Cert.GOutIdeal.nD → PrngReg), Pre_GOutIdeal m →
    θ_run (Cert.GOutIdeal.defs (F := Ideal)) (onTc (τ := Cert.GOutIdeal.τ) (Cert.GOutIdeal.main (F := Ideal))) ⟨m, fun _ => 0, g⟩ (fun r => (∀ c : Dev Cert.GOutIdeal.nD,
      r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
      ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ r.2.sem = fun _ => 0)

def quiescent_ReferenceGOutIdeal [hReferenceGOutIdeal : Cert.ReferenceGOutIdeal.Facts] : Prop :=
  ∀ (m : (ℓ : Loc Cert.ReferenceGOutIdeal.nD Cert.ReferenceGOutIdeal.τ Cert.ReferenceGOutIdeal.sig) → Buf (Elt Ideal) ℓ) (g : Dev Cert.ReferenceGOutIdeal.nD → PrngReg), Pre_ReferenceGOutIdeal m →
    θ_run (Cert.ReferenceGOutIdeal.defs (F := Ideal)) (onTc (τ := Cert.ReferenceGOutIdeal.τ) (Cert.ReferenceGOutIdeal.main (F := Ideal))) ⟨m, fun _ => 0, g⟩ (fun r => (∀ c : Dev Cert.ReferenceGOutIdeal.nD,
      r.2.mem ((c.tc : Thread Cert.ReferenceGOutIdeal.nD Cert.ReferenceGOutIdeal.τ).loc Cert.ReferenceGOutIdeal.main_arg0) = m ((c.tc : Thread Cert.ReferenceGOutIdeal.nD Cert.ReferenceGOutIdeal.τ).loc Cert.ReferenceGOutIdeal.main_arg0)
      ∧ r.2.mem ((c.tc : Thread Cert.ReferenceGOutIdeal.nD Cert.ReferenceGOutIdeal.τ).loc Cert.ReferenceGOutIdeal.main_arg1) = m ((c.tc : Thread Cert.ReferenceGOutIdeal.nD Cert.ReferenceGOutIdeal.τ).loc Cert.ReferenceGOutIdeal.main_arg1))
      ∧ r.2.sem = fun _ => 0)

def quiescent_DOc [hDOc : Cert.DOc.Facts] : Prop :=
  ∀ (m : (ℓ : Loc Cert.DOc.nD Cert.DOc.τ Cert.DOc.sig) → Buf (Elt Bits) ℓ) (g : Dev Cert.DOc.nD → PrngReg), Pre_DOc m →
    θ_run (Cert.DOc.defs (F := Bits)) (onTc (τ := Cert.DOc.τ) (Cert.DOc.main (F := Bits))) ⟨m, fun _ => 0, g⟩ (fun r => (∀ c : Dev Cert.DOc.nD,
      r.2.mem ((c.tc : Thread Cert.DOc.nD Cert.DOc.τ).loc Cert.DOc.main_arg0) = m ((c.tc : Thread Cert.DOc.nD Cert.DOc.τ).loc Cert.DOc.main_arg0)
      ∧ r.2.mem ((c.tc : Thread Cert.DOc.nD Cert.DOc.τ).loc Cert.DOc.main_arg1) = m ((c.tc : Thread Cert.DOc.nD Cert.DOc.τ).loc Cert.DOc.main_arg1))
      ∧ r.2.sem = fun _ => 0)

def quiescent_DOcIdeal [hDOcIdeal : Cert.DOcIdeal.Facts] : Prop :=
  ∀ (m : (ℓ : Loc Cert.DOcIdeal.nD Cert.DOcIdeal.τ Cert.DOcIdeal.sig) → Buf (Elt Ideal) ℓ) (g : Dev Cert.DOcIdeal.nD → PrngReg), Pre_DOcIdeal m →
    θ_run (Cert.DOcIdeal.defs (F := Ideal)) (onTc (τ := Cert.DOcIdeal.τ) (Cert.DOcIdeal.main (F := Ideal))) ⟨m, fun _ => 0, g⟩ (fun r => (∀ c : Dev Cert.DOcIdeal.nD,
      r.2.mem ((c.tc : Thread Cert.DOcIdeal.nD Cert.DOcIdeal.τ).loc Cert.DOcIdeal.main_arg0) = m ((c.tc : Thread Cert.DOcIdeal.nD Cert.DOcIdeal.τ).loc Cert.DOcIdeal.main_arg0)
      ∧ r.2.mem ((c.tc : Thread Cert.DOcIdeal.nD Cert.DOcIdeal.τ).loc Cert.DOcIdeal.main_arg1) = m ((c.tc : Thread Cert.DOcIdeal.nD Cert.DOcIdeal.τ).loc Cert.DOcIdeal.main_arg1))
      ∧ r.2.sem = fun _ => 0)

def quiescent_ReferenceDOcIdeal [hReferenceDOcIdeal : Cert.ReferenceDOcIdeal.Facts] : Prop :=
  ∀ (m : (ℓ : Loc Cert.ReferenceDOcIdeal.nD Cert.ReferenceDOcIdeal.τ Cert.ReferenceDOcIdeal.sig) → Buf (Elt Ideal) ℓ) (g : Dev Cert.ReferenceDOcIdeal.nD → PrngReg), Pre_ReferenceDOcIdeal m →
    θ_run (Cert.ReferenceDOcIdeal.defs (F := Ideal)) (onTc (τ := Cert.ReferenceDOcIdeal.τ) (Cert.ReferenceDOcIdeal.main (F := Ideal))) ⟨m, fun _ => 0, g⟩ (fun r => (∀ c : Dev Cert.ReferenceDOcIdeal.nD,
      r.2.mem ((c.tc : Thread Cert.ReferenceDOcIdeal.nD Cert.ReferenceDOcIdeal.τ).loc Cert.ReferenceDOcIdeal.main_arg0) = m ((c.tc : Thread Cert.ReferenceDOcIdeal.nD Cert.ReferenceDOcIdeal.τ).loc Cert.ReferenceDOcIdeal.main_arg0)
      ∧ r.2.mem ((c.tc : Thread Cert.ReferenceDOcIdeal.nD Cert.ReferenceDOcIdeal.τ).loc Cert.ReferenceDOcIdeal.main_arg1) = m ((c.tc : Thread Cert.ReferenceDOcIdeal.nD Cert.ReferenceDOcIdeal.τ).loc Cert.ReferenceDOcIdeal.main_arg1))
      ∧ r.2.sem = fun _ => 0)

def quiescent_GCo [hGCo : Cert.GCo.Facts] : Prop :=
  ∀ (m : (ℓ : Loc Cert.GCo.nD Cert.GCo.τ Cert.GCo.sig) → Buf (Elt Bits) ℓ) (g : Dev Cert.GCo.nD → PrngReg), Pre_GCo m →
    θ_run (Cert.GCo.defs (F := Bits)) (onTc (τ := Cert.GCo.τ) (Cert.GCo.main (F := Bits))) ⟨m, fun _ => 0, g⟩ (fun r => (∀ c : Dev Cert.GCo.nD,
      r.2.mem ((c.tc : Thread Cert.GCo.nD Cert.GCo.τ).loc Cert.GCo.main_arg0) = m ((c.tc : Thread Cert.GCo.nD Cert.GCo.τ).loc Cert.GCo.main_arg0)
      ∧ r.2.mem ((c.tc : Thread Cert.GCo.nD Cert.GCo.τ).loc Cert.GCo.main_arg1) = m ((c.tc : Thread Cert.GCo.nD Cert.GCo.τ).loc Cert.GCo.main_arg1))
      ∧ r.2.sem = fun _ => 0)

def quiescent_GCoIdeal [hGCoIdeal : Cert.GCoIdeal.Facts] : Prop :=
  ∀ (m : (ℓ : Loc Cert.GCoIdeal.nD Cert.GCoIdeal.τ Cert.GCoIdeal.sig) → Buf (Elt Ideal) ℓ) (g : Dev Cert.GCoIdeal.nD → PrngReg), Pre_GCoIdeal m →
    θ_run (Cert.GCoIdeal.defs (F := Ideal)) (onTc (τ := Cert.GCoIdeal.τ) (Cert.GCoIdeal.main (F := Ideal))) ⟨m, fun _ => 0, g⟩ (fun r => (∀ c : Dev Cert.GCoIdeal.nD,
      r.2.mem ((c.tc : Thread Cert.GCoIdeal.nD Cert.GCoIdeal.τ).loc Cert.GCoIdeal.main_arg0) = m ((c.tc : Thread Cert.GCoIdeal.nD Cert.GCoIdeal.τ).loc Cert.GCoIdeal.main_arg0)
      ∧ r.2.mem ((c.tc : Thread Cert.GCoIdeal.nD Cert.GCoIdeal.τ).loc Cert.GCoIdeal.main_arg1) = m ((c.tc : Thread Cert.GCoIdeal.nD Cert.GCoIdeal.τ).loc Cert.GCoIdeal.main_arg1))
      ∧ r.2.sem = fun _ => 0)

def quiescent_ReferenceGCoIdeal [hReferenceGCoIdeal : Cert.ReferenceGCoIdeal.Facts] : Prop :=
  ∀ (m : (ℓ : Loc Cert.ReferenceGCoIdeal.nD Cert.ReferenceGCoIdeal.τ Cert.ReferenceGCoIdeal.sig) → Buf (Elt Ideal) ℓ) (g : Dev Cert.ReferenceGCoIdeal.nD → PrngReg), Pre_ReferenceGCoIdeal m →
    θ_run (Cert.ReferenceGCoIdeal.defs (F := Ideal)) (onTc (τ := Cert.ReferenceGCoIdeal.τ) (Cert.ReferenceGCoIdeal.main (F := Ideal))) ⟨m, fun _ => 0, g⟩ (fun r => (∀ c : Dev Cert.ReferenceGCoIdeal.nD,
      r.2.mem ((c.tc : Thread Cert.ReferenceGCoIdeal.nD Cert.ReferenceGCoIdeal.τ).loc Cert.ReferenceGCoIdeal.main_arg0) = m ((c.tc : Thread Cert.ReferenceGCoIdeal.nD Cert.ReferenceGCoIdeal.τ).loc Cert.ReferenceGCoIdeal.main_arg0)
      ∧ r.2.mem ((c.tc : Thread Cert.ReferenceGCoIdeal.nD Cert.ReferenceGCoIdeal.τ).loc Cert.ReferenceGCoIdeal.main_arg1) = m ((c.tc : Thread Cert.ReferenceGCoIdeal.nD Cert.ReferenceGCoIdeal.τ).loc Cert.ReferenceGCoIdeal.main_arg1))
      ∧ r.2.sem = fun _ => 0)

def quiescent_DHq [hDHq : Cert.DHq.Facts] : Prop :=
  ∀ (m : (ℓ : Loc Cert.DHq.nD Cert.DHq.τ Cert.DHq.sig) → Buf (Elt Bits) ℓ) (g : Dev Cert.DHq.nD → PrngReg), Pre_DHq m →
    θ_run (Cert.DHq.defs (F := Bits)) (onTc (τ := Cert.DHq.τ) (Cert.DHq.main (F := Bits))) ⟨m, fun _ => 0, g⟩ (fun r => (∀ c : Dev Cert.DHq.nD,
      r.2.mem ((c.tc : Thread Cert.DHq.nD Cert.DHq.τ).loc Cert.DHq.main_arg0) = m ((c.tc : Thread Cert.DHq.nD Cert.DHq.τ).loc Cert.DHq.main_arg0)
      ∧ r.2.mem ((c.tc : Thread Cert.DHq.nD Cert.DHq.τ).loc Cert.DHq.main_arg1) = m ((c.tc : Thread Cert.DHq.nD Cert.DHq.τ).loc Cert.DHq.main_arg1))
      ∧ r.2.sem = fun _ => 0)

def quiescent_DHqIdeal [hDHqIdeal : Cert.DHqIdeal.Facts] : Prop :=
  ∀ (m : (ℓ : Loc Cert.DHqIdeal.nD Cert.DHqIdeal.τ Cert.DHqIdeal.sig) → Buf (Elt Ideal) ℓ) (g : Dev Cert.DHqIdeal.nD → PrngReg), Pre_DHqIdeal m →
    θ_run (Cert.DHqIdeal.defs (F := Ideal)) (onTc (τ := Cert.DHqIdeal.τ) (Cert.DHqIdeal.main (F := Ideal))) ⟨m, fun _ => 0, g⟩ (fun r => (∀ c : Dev Cert.DHqIdeal.nD,
      r.2.mem ((c.tc : Thread Cert.DHqIdeal.nD Cert.DHqIdeal.τ).loc Cert.DHqIdeal.main_arg0) = m ((c.tc : Thread Cert.DHqIdeal.nD Cert.DHqIdeal.τ).loc Cert.DHqIdeal.main_arg0)
      ∧ r.2.mem ((c.tc : Thread Cert.DHqIdeal.nD Cert.DHqIdeal.τ).loc Cert.DHqIdeal.main_arg1) = m ((c.tc : Thread Cert.DHqIdeal.nD Cert.DHqIdeal.τ).loc Cert.DHqIdeal.main_arg1))
      ∧ r.2.sem = fun _ => 0)

def quiescent_ReferenceDHqIdeal [hReferenceDHqIdeal : Cert.ReferenceDHqIdeal.Facts] : Prop :=
  ∀ (m : (ℓ : Loc Cert.ReferenceDHqIdeal.nD Cert.ReferenceDHqIdeal.τ Cert.ReferenceDHqIdeal.sig) → Buf (Elt Ideal) ℓ) (g : Dev Cert.ReferenceDHqIdeal.nD → PrngReg), Pre_ReferenceDHqIdeal m →
    θ_run (Cert.ReferenceDHqIdeal.defs (F := Ideal)) (onTc (τ := Cert.ReferenceDHqIdeal.τ) (Cert.ReferenceDHqIdeal.main (F := Ideal))) ⟨m, fun _ => 0, g⟩ (fun r => (∀ c : Dev Cert.ReferenceDHqIdeal.nD,
      r.2.mem ((c.tc : Thread Cert.ReferenceDHqIdeal.nD Cert.ReferenceDHqIdeal.τ).loc Cert.ReferenceDHqIdeal.main_arg0) = m ((c.tc : Thread Cert.ReferenceDHqIdeal.nD Cert.ReferenceDHqIdeal.τ).loc Cert.ReferenceDHqIdeal.main_arg0)
      ∧ r.2.mem ((c.tc : Thread Cert.ReferenceDHqIdeal.nD Cert.ReferenceDHqIdeal.τ).loc Cert.ReferenceDHqIdeal.main_arg1) = m ((c.tc : Thread Cert.ReferenceDHqIdeal.nD Cert.ReferenceDHqIdeal.τ).loc Cert.ReferenceDHqIdeal.main_arg1))
      ∧ r.2.sem = fun _ => 0)

def quiescent_GCq [hGCq : Cert.GCq.Facts] : Prop :=
  ∀ (m : (ℓ : Loc Cert.GCq.nD Cert.GCq.τ Cert.GCq.sig) → Buf (Elt Bits) ℓ) (g : Dev Cert.GCq.nD → PrngReg), Pre_GCq m →
    θ_run (Cert.GCq.defs (F := Bits)) (onTc (τ := Cert.GCq.τ) (Cert.GCq.main (F := Bits))) ⟨m, fun _ => 0, g⟩ (fun r => (∀ c : Dev Cert.GCq.nD,
      r.2.mem ((c.tc : Thread Cert.GCq.nD Cert.GCq.τ).loc Cert.GCq.main_arg0) = m ((c.tc : Thread Cert.GCq.nD Cert.GCq.τ).loc Cert.GCq.main_arg0)
      ∧ r.2.mem ((c.tc : Thread Cert.GCq.nD Cert.GCq.τ).loc Cert.GCq.main_arg1) = m ((c.tc : Thread Cert.GCq.nD Cert.GCq.τ).loc Cert.GCq.main_arg1))
      ∧ r.2.sem = fun _ => 0)

def quiescent_GCqIdeal [hGCqIdeal : Cert.GCqIdeal.Facts] : Prop :=
  ∀ (m : (ℓ : Loc Cert.GCqIdeal.nD Cert.GCqIdeal.τ Cert.GCqIdeal.sig) → Buf (Elt Ideal) ℓ) (g : Dev Cert.GCqIdeal.nD → PrngReg), Pre_GCqIdeal m →
    θ_run (Cert.GCqIdeal.defs (F := Ideal)) (onTc (τ := Cert.GCqIdeal.τ) (Cert.GCqIdeal.main (F := Ideal))) ⟨m, fun _ => 0, g⟩ (fun r => (∀ c : Dev Cert.GCqIdeal.nD,
      r.2.mem ((c.tc : Thread Cert.GCqIdeal.nD Cert.GCqIdeal.τ).loc Cert.GCqIdeal.main_arg0) = m ((c.tc : Thread Cert.GCqIdeal.nD Cert.GCqIdeal.τ).loc Cert.GCqIdeal.main_arg0)
      ∧ r.2.mem ((c.tc : Thread Cert.GCqIdeal.nD Cert.GCqIdeal.τ).loc Cert.GCqIdeal.main_arg1) = m ((c.tc : Thread Cert.GCqIdeal.nD Cert.GCqIdeal.τ).loc Cert.GCqIdeal.main_arg1))
      ∧ r.2.sem = fun _ => 0)

def quiescent_ReferenceGCqIdeal [hReferenceGCqIdeal : Cert.ReferenceGCqIdeal.Facts] : Prop :=
  ∀ (m : (ℓ : Loc Cert.ReferenceGCqIdeal.nD Cert.ReferenceGCqIdeal.τ Cert.ReferenceGCqIdeal.sig) → Buf (Elt Ideal) ℓ) (g : Dev Cert.ReferenceGCqIdeal.nD → PrngReg), Pre_ReferenceGCqIdeal m →
    θ_run (Cert.ReferenceGCqIdeal.defs (F := Ideal)) (onTc (τ := Cert.ReferenceGCqIdeal.τ) (Cert.ReferenceGCqIdeal.main (F := Ideal))) ⟨m, fun _ => 0, g⟩ (fun r => (∀ c : Dev Cert.ReferenceGCqIdeal.nD,
      r.2.mem ((c.tc : Thread Cert.ReferenceGCqIdeal.nD Cert.ReferenceGCqIdeal.τ).loc Cert.ReferenceGCqIdeal.main_arg0) = m ((c.tc : Thread Cert.ReferenceGCqIdeal.nD Cert.ReferenceGCqIdeal.τ).loc Cert.ReferenceGCqIdeal.main_arg0)
      ∧ r.2.mem ((c.tc : Thread Cert.ReferenceGCqIdeal.nD Cert.ReferenceGCqIdeal.τ).loc Cert.ReferenceGCqIdeal.main_arg1) = m ((c.tc : Thread Cert.ReferenceGCqIdeal.nD Cert.ReferenceGCqIdeal.τ).loc Cert.ReferenceGCqIdeal.main_arg1))
      ∧ r.2.sem = fun _ => 0)

def quiescent_DMemn [hDMemn : Cert.DMemn.Facts] : Prop :=
  ∀ (m : (ℓ : Loc Cert.DMemn.nD Cert.DMemn.τ Cert.DMemn.sig) → Buf (Elt Bits) ℓ) (g : Dev Cert.DMemn.nD → PrngReg), Pre_DMemn m →
    θ_run (Cert.DMemn.defs (F := Bits)) (onTc (τ := Cert.DMemn.τ) (Cert.DMemn.main (F := Bits))) ⟨m, fun _ => 0, g⟩ (fun r => (∀ c : Dev Cert.DMemn.nD,
      r.2.mem ((c.tc : Thread Cert.DMemn.nD Cert.DMemn.τ).loc Cert.DMemn.main_arg0) = m ((c.tc : Thread Cert.DMemn.nD Cert.DMemn.τ).loc Cert.DMemn.main_arg0)
      ∧ r.2.mem ((c.tc : Thread Cert.DMemn.nD Cert.DMemn.τ).loc Cert.DMemn.main_arg1) = m ((c.tc : Thread Cert.DMemn.nD Cert.DMemn.τ).loc Cert.DMemn.main_arg1))
      ∧ r.2.sem = fun _ => 0)

def quiescent_DMemnIdeal [hDMemnIdeal : Cert.DMemnIdeal.Facts] : Prop :=
  ∀ (m : (ℓ : Loc Cert.DMemnIdeal.nD Cert.DMemnIdeal.τ Cert.DMemnIdeal.sig) → Buf (Elt Ideal) ℓ) (g : Dev Cert.DMemnIdeal.nD → PrngReg), Pre_DMemnIdeal m →
    θ_run (Cert.DMemnIdeal.defs (F := Ideal)) (onTc (τ := Cert.DMemnIdeal.τ) (Cert.DMemnIdeal.main (F := Ideal))) ⟨m, fun _ => 0, g⟩ (fun r => (∀ c : Dev Cert.DMemnIdeal.nD,
      r.2.mem ((c.tc : Thread Cert.DMemnIdeal.nD Cert.DMemnIdeal.τ).loc Cert.DMemnIdeal.main_arg0) = m ((c.tc : Thread Cert.DMemnIdeal.nD Cert.DMemnIdeal.τ).loc Cert.DMemnIdeal.main_arg0)
      ∧ r.2.mem ((c.tc : Thread Cert.DMemnIdeal.nD Cert.DMemnIdeal.τ).loc Cert.DMemnIdeal.main_arg1) = m ((c.tc : Thread Cert.DMemnIdeal.nD Cert.DMemnIdeal.τ).loc Cert.DMemnIdeal.main_arg1))
      ∧ r.2.sem = fun _ => 0)

def quiescent_ReferenceDMemnIdeal [hReferenceDMemnIdeal : Cert.ReferenceDMemnIdeal.Facts] : Prop :=
  ∀ (m : (ℓ : Loc Cert.ReferenceDMemnIdeal.nD Cert.ReferenceDMemnIdeal.τ Cert.ReferenceDMemnIdeal.sig) → Buf (Elt Ideal) ℓ) (g : Dev Cert.ReferenceDMemnIdeal.nD → PrngReg), Pre_ReferenceDMemnIdeal m →
    θ_run (Cert.ReferenceDMemnIdeal.defs (F := Ideal)) (onTc (τ := Cert.ReferenceDMemnIdeal.τ) (Cert.ReferenceDMemnIdeal.main (F := Ideal))) ⟨m, fun _ => 0, g⟩ (fun r => (∀ c : Dev Cert.ReferenceDMemnIdeal.nD,
      r.2.mem ((c.tc : Thread Cert.ReferenceDMemnIdeal.nD Cert.ReferenceDMemnIdeal.τ).loc Cert.ReferenceDMemnIdeal.main_arg0) = m ((c.tc : Thread Cert.ReferenceDMemnIdeal.nD Cert.ReferenceDMemnIdeal.τ).loc Cert.ReferenceDMemnIdeal.main_arg0)
      ∧ r.2.mem ((c.tc : Thread Cert.ReferenceDMemnIdeal.nD Cert.ReferenceDMemnIdeal.τ).loc Cert.ReferenceDMemnIdeal.main_arg1) = m ((c.tc : Thread Cert.ReferenceDMemnIdeal.nD Cert.ReferenceDMemnIdeal.τ).loc Cert.ReferenceDMemnIdeal.main_arg1))
      ∧ r.2.sem = fun _ => 0)

def quiescent_GCkv [hGCkv : Cert.GCkv.Facts] : Prop :=
  ∀ (m : (ℓ : Loc Cert.GCkv.nD Cert.GCkv.τ Cert.GCkv.sig) → Buf (Elt Bits) ℓ) (g : Dev Cert.GCkv.nD → PrngReg), Pre_GCkv m →
    θ_run (Cert.GCkv.defs (F := Bits)) (onTc (τ := Cert.GCkv.τ) (Cert.GCkv.main (F := Bits))) ⟨m, fun _ => 0, g⟩ (fun r => (∀ c : Dev Cert.GCkv.nD,
      r.2.mem ((c.tc : Thread Cert.GCkv.nD Cert.GCkv.τ).loc Cert.GCkv.main_arg0) = m ((c.tc : Thread Cert.GCkv.nD Cert.GCkv.τ).loc Cert.GCkv.main_arg0)
      ∧ r.2.mem ((c.tc : Thread Cert.GCkv.nD Cert.GCkv.τ).loc Cert.GCkv.main_arg1) = m ((c.tc : Thread Cert.GCkv.nD Cert.GCkv.τ).loc Cert.GCkv.main_arg1))
      ∧ r.2.sem = fun _ => 0)

def quiescent_GCkvIdeal [hGCkvIdeal : Cert.GCkvIdeal.Facts] : Prop :=
  ∀ (m : (ℓ : Loc Cert.GCkvIdeal.nD Cert.GCkvIdeal.τ Cert.GCkvIdeal.sig) → Buf (Elt Ideal) ℓ) (g : Dev Cert.GCkvIdeal.nD → PrngReg), Pre_GCkvIdeal m →
    θ_run (Cert.GCkvIdeal.defs (F := Ideal)) (onTc (τ := Cert.GCkvIdeal.τ) (Cert.GCkvIdeal.main (F := Ideal))) ⟨m, fun _ => 0, g⟩ (fun r => (∀ c : Dev Cert.GCkvIdeal.nD,
      r.2.mem ((c.tc : Thread Cert.GCkvIdeal.nD Cert.GCkvIdeal.τ).loc Cert.GCkvIdeal.main_arg0) = m ((c.tc : Thread Cert.GCkvIdeal.nD Cert.GCkvIdeal.τ).loc Cert.GCkvIdeal.main_arg0)
      ∧ r.2.mem ((c.tc : Thread Cert.GCkvIdeal.nD Cert.GCkvIdeal.τ).loc Cert.GCkvIdeal.main_arg1) = m ((c.tc : Thread Cert.GCkvIdeal.nD Cert.GCkvIdeal.τ).loc Cert.GCkvIdeal.main_arg1))
      ∧ r.2.sem = fun _ => 0)

def quiescent_ReferenceGCkvIdeal [hReferenceGCkvIdeal : Cert.ReferenceGCkvIdeal.Facts] : Prop :=
  ∀ (m : (ℓ : Loc Cert.ReferenceGCkvIdeal.nD Cert.ReferenceGCkvIdeal.τ Cert.ReferenceGCkvIdeal.sig) → Buf (Elt Ideal) ℓ) (g : Dev Cert.ReferenceGCkvIdeal.nD → PrngReg), Pre_ReferenceGCkvIdeal m →
    θ_run (Cert.ReferenceGCkvIdeal.defs (F := Ideal)) (onTc (τ := Cert.ReferenceGCkvIdeal.τ) (Cert.ReferenceGCkvIdeal.main (F := Ideal))) ⟨m, fun _ => 0, g⟩ (fun r => (∀ c : Dev Cert.ReferenceGCkvIdeal.nD,
      r.2.mem ((c.tc : Thread Cert.ReferenceGCkvIdeal.nD Cert.ReferenceGCkvIdeal.τ).loc Cert.ReferenceGCkvIdeal.main_arg0) = m ((c.tc : Thread Cert.ReferenceGCkvIdeal.nD Cert.ReferenceGCkvIdeal.τ).loc Cert.ReferenceGCkvIdeal.main_arg0)
      ∧ r.2.mem ((c.tc : Thread Cert.ReferenceGCkvIdeal.nD Cert.ReferenceGCkvIdeal.τ).loc Cert.ReferenceGCkvIdeal.main_arg1) = m ((c.tc : Thread Cert.ReferenceGCkvIdeal.nD Cert.ReferenceGCkvIdeal.τ).loc Cert.ReferenceGCkvIdeal.main_arg1))
      ∧ r.2.sem = fun _ => 0)

def quiescent_FUp [hFUp : Cert.FUp.Facts] : Prop :=
  ∀ (m : (ℓ : Loc Cert.FUp.nD Cert.FUp.τ Cert.FUp.sig) → Buf (Elt Bits) ℓ) (g : Dev Cert.FUp.nD → PrngReg), Pre_FUp m →
    θ_run (Cert.FUp.defs (F := Bits)) (onTc (τ := Cert.FUp.τ) (Cert.FUp.main (F := Bits))) ⟨m, fun _ => 0, g⟩ (fun r => (∀ c : Dev Cert.FUp.nD,
      r.2.mem ((c.tc : Thread Cert.FUp.nD Cert.FUp.τ).loc Cert.FUp.main_arg0) = m ((c.tc : Thread Cert.FUp.nD Cert.FUp.τ).loc Cert.FUp.main_arg0)
      ∧ r.2.mem ((c.tc : Thread Cert.FUp.nD Cert.FUp.τ).loc Cert.FUp.main_arg1) = m ((c.tc : Thread Cert.FUp.nD Cert.FUp.τ).loc Cert.FUp.main_arg1))
      ∧ r.2.sem = fun _ => 0)

def quiescent_FUpIdeal [hFUpIdeal : Cert.FUpIdeal.Facts] : Prop :=
  ∀ (m : (ℓ : Loc Cert.FUpIdeal.nD Cert.FUpIdeal.τ Cert.FUpIdeal.sig) → Buf (Elt Ideal) ℓ) (g : Dev Cert.FUpIdeal.nD → PrngReg), Pre_FUpIdeal m →
    θ_run (Cert.FUpIdeal.defs (F := Ideal)) (onTc (τ := Cert.FUpIdeal.τ) (Cert.FUpIdeal.main (F := Ideal))) ⟨m, fun _ => 0, g⟩ (fun r => (∀ c : Dev Cert.FUpIdeal.nD,
      r.2.mem ((c.tc : Thread Cert.FUpIdeal.nD Cert.FUpIdeal.τ).loc Cert.FUpIdeal.main_arg0) = m ((c.tc : Thread Cert.FUpIdeal.nD Cert.FUpIdeal.τ).loc Cert.FUpIdeal.main_arg0)
      ∧ r.2.mem ((c.tc : Thread Cert.FUpIdeal.nD Cert.FUpIdeal.τ).loc Cert.FUpIdeal.main_arg1) = m ((c.tc : Thread Cert.FUpIdeal.nD Cert.FUpIdeal.τ).loc Cert.FUpIdeal.main_arg1))
      ∧ r.2.sem = fun _ => 0)

def quiescent_ReferenceFUpIdeal [hReferenceFUpIdeal : Cert.ReferenceFUpIdeal.Facts] : Prop :=
  ∀ (m : (ℓ : Loc Cert.ReferenceFUpIdeal.nD Cert.ReferenceFUpIdeal.τ Cert.ReferenceFUpIdeal.sig) → Buf (Elt Ideal) ℓ) (g : Dev Cert.ReferenceFUpIdeal.nD → PrngReg), Pre_ReferenceFUpIdeal m →
    θ_run (Cert.ReferenceFUpIdeal.defs (F := Ideal)) (onTc (τ := Cert.ReferenceFUpIdeal.τ) (Cert.ReferenceFUpIdeal.main (F := Ideal))) ⟨m, fun _ => 0, g⟩ (fun r => (∀ c : Dev Cert.ReferenceFUpIdeal.nD,
      r.2.mem ((c.tc : Thread Cert.ReferenceFUpIdeal.nD Cert.ReferenceFUpIdeal.τ).loc Cert.ReferenceFUpIdeal.main_arg0) = m ((c.tc : Thread Cert.ReferenceFUpIdeal.nD Cert.ReferenceFUpIdeal.τ).loc Cert.ReferenceFUpIdeal.main_arg0)
      ∧ r.2.mem ((c.tc : Thread Cert.ReferenceFUpIdeal.nD Cert.ReferenceFUpIdeal.τ).loc Cert.ReferenceFUpIdeal.main_arg1) = m ((c.tc : Thread Cert.ReferenceFUpIdeal.nD Cert.ReferenceFUpIdeal.τ).loc Cert.ReferenceFUpIdeal.main_arg1))
      ∧ r.2.sem = fun _ => 0)

def quiescent_FDown [hFDown : Cert.FDown.Facts] : Prop :=
  ∀ (m : (ℓ : Loc Cert.FDown.nD Cert.FDown.τ Cert.FDown.sig) → Buf (Elt Bits) ℓ) (g : Dev Cert.FDown.nD → PrngReg), Pre_FDown m →
    θ_run (Cert.FDown.defs (F := Bits)) (onTc (τ := Cert.FDown.τ) (Cert.FDown.main (F := Bits))) ⟨m, fun _ => 0, g⟩ (fun r => (∀ c : Dev Cert.FDown.nD,
      r.2.mem ((c.tc : Thread Cert.FDown.nD Cert.FDown.τ).loc Cert.FDown.main_arg0) = m ((c.tc : Thread Cert.FDown.nD Cert.FDown.τ).loc Cert.FDown.main_arg0)
      ∧ r.2.mem ((c.tc : Thread Cert.FDown.nD Cert.FDown.τ).loc Cert.FDown.main_arg1) = m ((c.tc : Thread Cert.FDown.nD Cert.FDown.τ).loc Cert.FDown.main_arg1)
      ∧ r.2.mem ((c.tc : Thread Cert.FDown.nD Cert.FDown.τ).loc Cert.FDown.main_arg2) = m ((c.tc : Thread Cert.FDown.nD Cert.FDown.τ).loc Cert.FDown.main_arg2))
      ∧ r.2.sem = fun _ => 0)

def quiescent_FDownIdeal [hFDownIdeal : Cert.FDownIdeal.Facts] : Prop :=
  ∀ (m : (ℓ : Loc Cert.FDownIdeal.nD Cert.FDownIdeal.τ Cert.FDownIdeal.sig) → Buf (Elt Ideal) ℓ) (g : Dev Cert.FDownIdeal.nD → PrngReg), Pre_FDownIdeal m →
    θ_run (Cert.FDownIdeal.defs (F := Ideal)) (onTc (τ := Cert.FDownIdeal.τ) (Cert.FDownIdeal.main (F := Ideal))) ⟨m, fun _ => 0, g⟩ (fun r => (∀ c : Dev Cert.FDownIdeal.nD,
      r.2.mem ((c.tc : Thread Cert.FDownIdeal.nD Cert.FDownIdeal.τ).loc Cert.FDownIdeal.main_arg0) = m ((c.tc : Thread Cert.FDownIdeal.nD Cert.FDownIdeal.τ).loc Cert.FDownIdeal.main_arg0)
      ∧ r.2.mem ((c.tc : Thread Cert.FDownIdeal.nD Cert.FDownIdeal.τ).loc Cert.FDownIdeal.main_arg1) = m ((c.tc : Thread Cert.FDownIdeal.nD Cert.FDownIdeal.τ).loc Cert.FDownIdeal.main_arg1)
      ∧ r.2.mem ((c.tc : Thread Cert.FDownIdeal.nD Cert.FDownIdeal.τ).loc Cert.FDownIdeal.main_arg2) = m ((c.tc : Thread Cert.FDownIdeal.nD Cert.FDownIdeal.τ).loc Cert.FDownIdeal.main_arg2))
      ∧ r.2.sem = fun _ => 0)

def quiescent_ReferenceFDownIdeal [hReferenceFDownIdeal : Cert.ReferenceFDownIdeal.Facts] : Prop :=
  ∀ (m : (ℓ : Loc Cert.ReferenceFDownIdeal.nD Cert.ReferenceFDownIdeal.τ Cert.ReferenceFDownIdeal.sig) → Buf (Elt Ideal) ℓ) (g : Dev Cert.ReferenceFDownIdeal.nD → PrngReg), Pre_ReferenceFDownIdeal m →
    θ_run (Cert.ReferenceFDownIdeal.defs (F := Ideal)) (onTc (τ := Cert.ReferenceFDownIdeal.τ) (Cert.ReferenceFDownIdeal.main (F := Ideal))) ⟨m, fun _ => 0, g⟩ (fun r => (∀ c : Dev Cert.ReferenceFDownIdeal.nD,
      r.2.mem ((c.tc : Thread Cert.ReferenceFDownIdeal.nD Cert.ReferenceFDownIdeal.τ).loc Cert.ReferenceFDownIdeal.main_arg0) = m ((c.tc : Thread Cert.ReferenceFDownIdeal.nD Cert.ReferenceFDownIdeal.τ).loc Cert.ReferenceFDownIdeal.main_arg0)
      ∧ r.2.mem ((c.tc : Thread Cert.ReferenceFDownIdeal.nD Cert.ReferenceFDownIdeal.τ).loc Cert.ReferenceFDownIdeal.main_arg1) = m ((c.tc : Thread Cert.ReferenceFDownIdeal.nD Cert.ReferenceFDownIdeal.τ).loc Cert.ReferenceFDownIdeal.main_arg1)
      ∧ r.2.mem ((c.tc : Thread Cert.ReferenceFDownIdeal.nD Cert.ReferenceFDownIdeal.τ).loc Cert.ReferenceFDownIdeal.main_arg2) = m ((c.tc : Thread Cert.ReferenceFDownIdeal.nD Cert.ReferenceFDownIdeal.τ).loc Cert.ReferenceFDownIdeal.main_arg2))
      ∧ r.2.sem = fun _ => 0)

def quiescent_FQkv [hFQkv : Cert.FQkv.Facts] : Prop :=
  ∀ (m : (ℓ : Loc Cert.FQkv.nD Cert.FQkv.τ Cert.FQkv.sig) → Buf (Elt Bits) ℓ) (g : Dev Cert.FQkv.nD → PrngReg), Pre_FQkv m →
    θ_run (Cert.FQkv.defs (F := Bits)) (onTc (τ := Cert.FQkv.τ) (Cert.FQkv.main (F := Bits))) ⟨m, fun _ => 0, g⟩ (fun r => (∀ c : Dev Cert.FQkv.nD,
      r.2.mem ((c.tc : Thread Cert.FQkv.nD Cert.FQkv.τ).loc Cert.FQkv.main_arg0) = m ((c.tc : Thread Cert.FQkv.nD Cert.FQkv.τ).loc Cert.FQkv.main_arg0)
      ∧ r.2.mem ((c.tc : Thread Cert.FQkv.nD Cert.FQkv.τ).loc Cert.FQkv.main_arg1) = m ((c.tc : Thread Cert.FQkv.nD Cert.FQkv.τ).loc Cert.FQkv.main_arg1))
      ∧ r.2.sem = fun _ => 0)

def quiescent_FQkvIdeal [hFQkvIdeal : Cert.FQkvIdeal.Facts] : Prop :=
  ∀ (m : (ℓ : Loc Cert.FQkvIdeal.nD Cert.FQkvIdeal.τ Cert.FQkvIdeal.sig) → Buf (Elt Ideal) ℓ) (g : Dev Cert.FQkvIdeal.nD → PrngReg), Pre_FQkvIdeal m →
    θ_run (Cert.FQkvIdeal.defs (F := Ideal)) (onTc (τ := Cert.FQkvIdeal.τ) (Cert.FQkvIdeal.main (F := Ideal))) ⟨m, fun _ => 0, g⟩ (fun r => (∀ c : Dev Cert.FQkvIdeal.nD,
      r.2.mem ((c.tc : Thread Cert.FQkvIdeal.nD Cert.FQkvIdeal.τ).loc Cert.FQkvIdeal.main_arg0) = m ((c.tc : Thread Cert.FQkvIdeal.nD Cert.FQkvIdeal.τ).loc Cert.FQkvIdeal.main_arg0)
      ∧ r.2.mem ((c.tc : Thread Cert.FQkvIdeal.nD Cert.FQkvIdeal.τ).loc Cert.FQkvIdeal.main_arg1) = m ((c.tc : Thread Cert.FQkvIdeal.nD Cert.FQkvIdeal.τ).loc Cert.FQkvIdeal.main_arg1))
      ∧ r.2.sem = fun _ => 0)

def quiescent_ReferenceFQkvIdeal [hReferenceFQkvIdeal : Cert.ReferenceFQkvIdeal.Facts] : Prop :=
  ∀ (m : (ℓ : Loc Cert.ReferenceFQkvIdeal.nD Cert.ReferenceFQkvIdeal.τ Cert.ReferenceFQkvIdeal.sig) → Buf (Elt Ideal) ℓ) (g : Dev Cert.ReferenceFQkvIdeal.nD → PrngReg), Pre_ReferenceFQkvIdeal m →
    θ_run (Cert.ReferenceFQkvIdeal.defs (F := Ideal)) (onTc (τ := Cert.ReferenceFQkvIdeal.τ) (Cert.ReferenceFQkvIdeal.main (F := Ideal))) ⟨m, fun _ => 0, g⟩ (fun r => (∀ c : Dev Cert.ReferenceFQkvIdeal.nD,
      r.2.mem ((c.tc : Thread Cert.ReferenceFQkvIdeal.nD Cert.ReferenceFQkvIdeal.τ).loc Cert.ReferenceFQkvIdeal.main_arg0) = m ((c.tc : Thread Cert.ReferenceFQkvIdeal.nD Cert.ReferenceFQkvIdeal.τ).loc Cert.ReferenceFQkvIdeal.main_arg0)
      ∧ r.2.mem ((c.tc : Thread Cert.ReferenceFQkvIdeal.nD Cert.ReferenceFQkvIdeal.τ).loc Cert.ReferenceFQkvIdeal.main_arg1) = m ((c.tc : Thread Cert.ReferenceFQkvIdeal.nD Cert.ReferenceFQkvIdeal.τ).loc Cert.ReferenceFQkvIdeal.main_arg1))
      ∧ r.2.sem = fun _ => 0)

def quiescent_FAux [hFAux : Cert.FAux.Facts] : Prop :=
  ∀ (m : (ℓ : Loc Cert.FAux.nD Cert.FAux.τ Cert.FAux.sig) → Buf (Elt Bits) ℓ) (g : Dev Cert.FAux.nD → PrngReg), Pre_FAux m →
    θ_run (Cert.FAux.defs (F := Bits)) (onTc (τ := Cert.FAux.τ) (Cert.FAux.main (F := Bits))) ⟨m, fun _ => 0, g⟩ (fun r => (∀ c : Dev Cert.FAux.nD,
      r.2.mem ((c.tc : Thread Cert.FAux.nD Cert.FAux.τ).loc Cert.FAux.main_arg0) = m ((c.tc : Thread Cert.FAux.nD Cert.FAux.τ).loc Cert.FAux.main_arg0)
      ∧ r.2.mem ((c.tc : Thread Cert.FAux.nD Cert.FAux.τ).loc Cert.FAux.main_arg1) = m ((c.tc : Thread Cert.FAux.nD Cert.FAux.τ).loc Cert.FAux.main_arg1))
      ∧ r.2.sem = fun _ => 0)

def quiescent_FAuxIdeal [hFAuxIdeal : Cert.FAuxIdeal.Facts] : Prop :=
  ∀ (m : (ℓ : Loc Cert.FAuxIdeal.nD Cert.FAuxIdeal.τ Cert.FAuxIdeal.sig) → Buf (Elt Ideal) ℓ) (g : Dev Cert.FAuxIdeal.nD → PrngReg), Pre_FAuxIdeal m →
    θ_run (Cert.FAuxIdeal.defs (F := Ideal)) (onTc (τ := Cert.FAuxIdeal.τ) (Cert.FAuxIdeal.main (F := Ideal))) ⟨m, fun _ => 0, g⟩ (fun r => (∀ c : Dev Cert.FAuxIdeal.nD,
      r.2.mem ((c.tc : Thread Cert.FAuxIdeal.nD Cert.FAuxIdeal.τ).loc Cert.FAuxIdeal.main_arg0) = m ((c.tc : Thread Cert.FAuxIdeal.nD Cert.FAuxIdeal.τ).loc Cert.FAuxIdeal.main_arg0)
      ∧ r.2.mem ((c.tc : Thread Cert.FAuxIdeal.nD Cert.FAuxIdeal.τ).loc Cert.FAuxIdeal.main_arg1) = m ((c.tc : Thread Cert.FAuxIdeal.nD Cert.FAuxIdeal.τ).loc Cert.FAuxIdeal.main_arg1))
      ∧ r.2.sem = fun _ => 0)

def quiescent_ReferenceFAuxIdeal [hReferenceFAuxIdeal : Cert.ReferenceFAuxIdeal.Facts] : Prop :=
  ∀ (m : (ℓ : Loc Cert.ReferenceFAuxIdeal.nD Cert.ReferenceFAuxIdeal.τ Cert.ReferenceFAuxIdeal.sig) → Buf (Elt Ideal) ℓ) (g : Dev Cert.ReferenceFAuxIdeal.nD → PrngReg), Pre_ReferenceFAuxIdeal m →
    θ_run (Cert.ReferenceFAuxIdeal.defs (F := Ideal)) (onTc (τ := Cert.ReferenceFAuxIdeal.τ) (Cert.ReferenceFAuxIdeal.main (F := Ideal))) ⟨m, fun _ => 0, g⟩ (fun r => (∀ c : Dev Cert.ReferenceFAuxIdeal.nD,
      r.2.mem ((c.tc : Thread Cert.ReferenceFAuxIdeal.nD Cert.ReferenceFAuxIdeal.τ).loc Cert.ReferenceFAuxIdeal.main_arg0) = m ((c.tc : Thread Cert.ReferenceFAuxIdeal.nD Cert.ReferenceFAuxIdeal.τ).loc Cert.ReferenceFAuxIdeal.main_arg0)
      ∧ r.2.mem ((c.tc : Thread Cert.ReferenceFAuxIdeal.nD Cert.ReferenceFAuxIdeal.τ).loc Cert.ReferenceFAuxIdeal.main_arg1) = m ((c.tc : Thread Cert.ReferenceFAuxIdeal.nD Cert.ReferenceFAuxIdeal.τ).loc Cert.ReferenceFAuxIdeal.main_arg1))
      ∧ r.2.sem = fun _ => 0)

def quiescent_FOut [hFOut : Cert.FOut.Facts] : Prop :=
  ∀ (m : (ℓ : Loc Cert.FOut.nD Cert.FOut.τ Cert.FOut.sig) → Buf (Elt Bits) ℓ) (g : Dev Cert.FOut.nD → PrngReg), Pre_FOut m →
    θ_run (Cert.FOut.defs (F := Bits)) (onTc (τ := Cert.FOut.τ) (Cert.FOut.main (F := Bits))) ⟨m, fun _ => 0, g⟩ (fun r => (∀ c : Dev Cert.FOut.nD,
      r.2.mem ((c.tc : Thread Cert.FOut.nD Cert.FOut.τ).loc Cert.FOut.main_arg0) = m ((c.tc : Thread Cert.FOut.nD Cert.FOut.τ).loc Cert.FOut.main_arg0)
      ∧ r.2.mem ((c.tc : Thread Cert.FOut.nD Cert.FOut.τ).loc Cert.FOut.main_arg1) = m ((c.tc : Thread Cert.FOut.nD Cert.FOut.τ).loc Cert.FOut.main_arg1)
      ∧ r.2.mem ((c.tc : Thread Cert.FOut.nD Cert.FOut.τ).loc Cert.FOut.main_arg2) = m ((c.tc : Thread Cert.FOut.nD Cert.FOut.τ).loc Cert.FOut.main_arg2))
      ∧ r.2.sem = fun _ => 0)

def quiescent_FOutIdeal [hFOutIdeal : Cert.FOutIdeal.Facts] : Prop :=
  ∀ (m : (ℓ : Loc Cert.FOutIdeal.nD Cert.FOutIdeal.τ Cert.FOutIdeal.sig) → Buf (Elt Ideal) ℓ) (g : Dev Cert.FOutIdeal.nD → PrngReg), Pre_FOutIdeal m →
    θ_run (Cert.FOutIdeal.defs (F := Ideal)) (onTc (τ := Cert.FOutIdeal.τ) (Cert.FOutIdeal.main (F := Ideal))) ⟨m, fun _ => 0, g⟩ (fun r => (∀ c : Dev Cert.FOutIdeal.nD,
      r.2.mem ((c.tc : Thread Cert.FOutIdeal.nD Cert.FOutIdeal.τ).loc Cert.FOutIdeal.main_arg0) = m ((c.tc : Thread Cert.FOutIdeal.nD Cert.FOutIdeal.τ).loc Cert.FOutIdeal.main_arg0)
      ∧ r.2.mem ((c.tc : Thread Cert.FOutIdeal.nD Cert.FOutIdeal.τ).loc Cert.FOutIdeal.main_arg1) = m ((c.tc : Thread Cert.FOutIdeal.nD Cert.FOutIdeal.τ).loc Cert.FOutIdeal.main_arg1)
      ∧ r.2.mem ((c.tc : Thread Cert.FOutIdeal.nD Cert.FOutIdeal.τ).loc Cert.FOutIdeal.main_arg2) = m ((c.tc : Thread Cert.FOutIdeal.nD Cert.FOutIdeal.τ).loc Cert.FOutIdeal.main_arg2))
      ∧ r.2.sem = fun _ => 0)

def quiescent_ReferenceFOutIdeal [hReferenceFOutIdeal : Cert.ReferenceFOutIdeal.Facts] : Prop :=
  ∀ (m : (ℓ : Loc Cert.ReferenceFOutIdeal.nD Cert.ReferenceFOutIdeal.τ Cert.ReferenceFOutIdeal.sig) → Buf (Elt Ideal) ℓ) (g : Dev Cert.ReferenceFOutIdeal.nD → PrngReg), Pre_ReferenceFOutIdeal m →
    θ_run (Cert.ReferenceFOutIdeal.defs (F := Ideal)) (onTc (τ := Cert.ReferenceFOutIdeal.τ) (Cert.ReferenceFOutIdeal.main (F := Ideal))) ⟨m, fun _ => 0, g⟩ (fun r => (∀ c : Dev Cert.ReferenceFOutIdeal.nD,
      r.2.mem ((c.tc : Thread Cert.ReferenceFOutIdeal.nD Cert.ReferenceFOutIdeal.τ).loc Cert.ReferenceFOutIdeal.main_arg0) = m ((c.tc : Thread Cert.ReferenceFOutIdeal.nD Cert.ReferenceFOutIdeal.τ).loc Cert.ReferenceFOutIdeal.main_arg0)
      ∧ r.2.mem ((c.tc : Thread Cert.ReferenceFOutIdeal.nD Cert.ReferenceFOutIdeal.τ).loc Cert.ReferenceFOutIdeal.main_arg1) = m ((c.tc : Thread Cert.ReferenceFOutIdeal.nD Cert.ReferenceFOutIdeal.τ).loc Cert.ReferenceFOutIdeal.main_arg1)
      ∧ r.2.mem ((c.tc : Thread Cert.ReferenceFOutIdeal.nD Cert.ReferenceFOutIdeal.τ).loc Cert.ReferenceFOutIdeal.main_arg2) = m ((c.tc : Thread Cert.ReferenceFOutIdeal.nD Cert.ReferenceFOutIdeal.τ).loc Cert.ReferenceFOutIdeal.main_arg2))
      ∧ r.2.sem = fun _ => 0)

def quiescent_FCq [hFCq : Cert.FCq.Facts] : Prop :=
  ∀ (m : (ℓ : Loc Cert.FCq.nD Cert.FCq.τ Cert.FCq.sig) → Buf (Elt Bits) ℓ) (g : Dev Cert.FCq.nD → PrngReg), Pre_FCq m →
    θ_run (Cert.FCq.defs (F := Bits)) (onTc (τ := Cert.FCq.τ) (Cert.FCq.main (F := Bits))) ⟨m, fun _ => 0, g⟩ (fun r => (∀ c : Dev Cert.FCq.nD,
      r.2.mem ((c.tc : Thread Cert.FCq.nD Cert.FCq.τ).loc Cert.FCq.main_arg0) = m ((c.tc : Thread Cert.FCq.nD Cert.FCq.τ).loc Cert.FCq.main_arg0)
      ∧ r.2.mem ((c.tc : Thread Cert.FCq.nD Cert.FCq.τ).loc Cert.FCq.main_arg1) = m ((c.tc : Thread Cert.FCq.nD Cert.FCq.τ).loc Cert.FCq.main_arg1))
      ∧ r.2.sem = fun _ => 0)

def quiescent_FCqIdeal [hFCqIdeal : Cert.FCqIdeal.Facts] : Prop :=
  ∀ (m : (ℓ : Loc Cert.FCqIdeal.nD Cert.FCqIdeal.τ Cert.FCqIdeal.sig) → Buf (Elt Ideal) ℓ) (g : Dev Cert.FCqIdeal.nD → PrngReg), Pre_FCqIdeal m →
    θ_run (Cert.FCqIdeal.defs (F := Ideal)) (onTc (τ := Cert.FCqIdeal.τ) (Cert.FCqIdeal.main (F := Ideal))) ⟨m, fun _ => 0, g⟩ (fun r => (∀ c : Dev Cert.FCqIdeal.nD,
      r.2.mem ((c.tc : Thread Cert.FCqIdeal.nD Cert.FCqIdeal.τ).loc Cert.FCqIdeal.main_arg0) = m ((c.tc : Thread Cert.FCqIdeal.nD Cert.FCqIdeal.τ).loc Cert.FCqIdeal.main_arg0)
      ∧ r.2.mem ((c.tc : Thread Cert.FCqIdeal.nD Cert.FCqIdeal.τ).loc Cert.FCqIdeal.main_arg1) = m ((c.tc : Thread Cert.FCqIdeal.nD Cert.FCqIdeal.τ).loc Cert.FCqIdeal.main_arg1))
      ∧ r.2.sem = fun _ => 0)

def quiescent_ReferenceFCqIdeal [hReferenceFCqIdeal : Cert.ReferenceFCqIdeal.Facts] : Prop :=
  ∀ (m : (ℓ : Loc Cert.ReferenceFCqIdeal.nD Cert.ReferenceFCqIdeal.τ Cert.ReferenceFCqIdeal.sig) → Buf (Elt Ideal) ℓ) (g : Dev Cert.ReferenceFCqIdeal.nD → PrngReg), Pre_ReferenceFCqIdeal m →
    θ_run (Cert.ReferenceFCqIdeal.defs (F := Ideal)) (onTc (τ := Cert.ReferenceFCqIdeal.τ) (Cert.ReferenceFCqIdeal.main (F := Ideal))) ⟨m, fun _ => 0, g⟩ (fun r => (∀ c : Dev Cert.ReferenceFCqIdeal.nD,
      r.2.mem ((c.tc : Thread Cert.ReferenceFCqIdeal.nD Cert.ReferenceFCqIdeal.τ).loc Cert.ReferenceFCqIdeal.main_arg0) = m ((c.tc : Thread Cert.ReferenceFCqIdeal.nD Cert.ReferenceFCqIdeal.τ).loc Cert.ReferenceFCqIdeal.main_arg0)
      ∧ r.2.mem ((c.tc : Thread Cert.ReferenceFCqIdeal.nD Cert.ReferenceFCqIdeal.τ).loc Cert.ReferenceFCqIdeal.main_arg1) = m ((c.tc : Thread Cert.ReferenceFCqIdeal.nD Cert.ReferenceFCqIdeal.τ).loc Cert.ReferenceFCqIdeal.main_arg1))
      ∧ r.2.sem = fun _ => 0)

def quiescent_FCkv [hFCkv : Cert.FCkv.Facts] : Prop :=
  ∀ (m : (ℓ : Loc Cert.FCkv.nD Cert.FCkv.τ Cert.FCkv.sig) → Buf (Elt Bits) ℓ) (g : Dev Cert.FCkv.nD → PrngReg), Pre_FCkv m →
    θ_run (Cert.FCkv.defs (F := Bits)) (onTc (τ := Cert.FCkv.τ) (Cert.FCkv.main (F := Bits))) ⟨m, fun _ => 0, g⟩ (fun r => (∀ c : Dev Cert.FCkv.nD,
      r.2.mem ((c.tc : Thread Cert.FCkv.nD Cert.FCkv.τ).loc Cert.FCkv.main_arg0) = m ((c.tc : Thread Cert.FCkv.nD Cert.FCkv.τ).loc Cert.FCkv.main_arg0)
      ∧ r.2.mem ((c.tc : Thread Cert.FCkv.nD Cert.FCkv.τ).loc Cert.FCkv.main_arg1) = m ((c.tc : Thread Cert.FCkv.nD Cert.FCkv.τ).loc Cert.FCkv.main_arg1))
      ∧ r.2.sem = fun _ => 0)

def quiescent_FCkvIdeal [hFCkvIdeal : Cert.FCkvIdeal.Facts] : Prop :=
  ∀ (m : (ℓ : Loc Cert.FCkvIdeal.nD Cert.FCkvIdeal.τ Cert.FCkvIdeal.sig) → Buf (Elt Ideal) ℓ) (g : Dev Cert.FCkvIdeal.nD → PrngReg), Pre_FCkvIdeal m →
    θ_run (Cert.FCkvIdeal.defs (F := Ideal)) (onTc (τ := Cert.FCkvIdeal.τ) (Cert.FCkvIdeal.main (F := Ideal))) ⟨m, fun _ => 0, g⟩ (fun r => (∀ c : Dev Cert.FCkvIdeal.nD,
      r.2.mem ((c.tc : Thread Cert.FCkvIdeal.nD Cert.FCkvIdeal.τ).loc Cert.FCkvIdeal.main_arg0) = m ((c.tc : Thread Cert.FCkvIdeal.nD Cert.FCkvIdeal.τ).loc Cert.FCkvIdeal.main_arg0)
      ∧ r.2.mem ((c.tc : Thread Cert.FCkvIdeal.nD Cert.FCkvIdeal.τ).loc Cert.FCkvIdeal.main_arg1) = m ((c.tc : Thread Cert.FCkvIdeal.nD Cert.FCkvIdeal.τ).loc Cert.FCkvIdeal.main_arg1))
      ∧ r.2.sem = fun _ => 0)

def quiescent_ReferenceFCkvIdeal [hReferenceFCkvIdeal : Cert.ReferenceFCkvIdeal.Facts] : Prop :=
  ∀ (m : (ℓ : Loc Cert.ReferenceFCkvIdeal.nD Cert.ReferenceFCkvIdeal.τ Cert.ReferenceFCkvIdeal.sig) → Buf (Elt Ideal) ℓ) (g : Dev Cert.ReferenceFCkvIdeal.nD → PrngReg), Pre_ReferenceFCkvIdeal m →
    θ_run (Cert.ReferenceFCkvIdeal.defs (F := Ideal)) (onTc (τ := Cert.ReferenceFCkvIdeal.τ) (Cert.ReferenceFCkvIdeal.main (F := Ideal))) ⟨m, fun _ => 0, g⟩ (fun r => (∀ c : Dev Cert.ReferenceFCkvIdeal.nD,
      r.2.mem ((c.tc : Thread Cert.ReferenceFCkvIdeal.nD Cert.ReferenceFCkvIdeal.τ).loc Cert.ReferenceFCkvIdeal.main_arg0) = m ((c.tc : Thread Cert.ReferenceFCkvIdeal.nD Cert.ReferenceFCkvIdeal.τ).loc Cert.ReferenceFCkvIdeal.main_arg0)
      ∧ r.2.mem ((c.tc : Thread Cert.ReferenceFCkvIdeal.nD Cert.ReferenceFCkvIdeal.τ).loc Cert.ReferenceFCkvIdeal.main_arg1) = m ((c.tc : Thread Cert.ReferenceFCkvIdeal.nD Cert.ReferenceFCkvIdeal.τ).loc Cert.ReferenceFCkvIdeal.main_arg1))
      ∧ r.2.sem = fun _ => 0)

def quiescent_FCo [hFCo : Cert.FCo.Facts] : Prop :=
  ∀ (m : (ℓ : Loc Cert.FCo.nD Cert.FCo.τ Cert.FCo.sig) → Buf (Elt Bits) ℓ) (g : Dev Cert.FCo.nD → PrngReg), Pre_FCo m →
    θ_run (Cert.FCo.defs (F := Bits)) (onTc (τ := Cert.FCo.τ) (Cert.FCo.main (F := Bits))) ⟨m, fun _ => 0, g⟩ (fun r => (∀ c : Dev Cert.FCo.nD,
      r.2.mem ((c.tc : Thread Cert.FCo.nD Cert.FCo.τ).loc Cert.FCo.main_arg0) = m ((c.tc : Thread Cert.FCo.nD Cert.FCo.τ).loc Cert.FCo.main_arg0)
      ∧ r.2.mem ((c.tc : Thread Cert.FCo.nD Cert.FCo.τ).loc Cert.FCo.main_arg1) = m ((c.tc : Thread Cert.FCo.nD Cert.FCo.τ).loc Cert.FCo.main_arg1)
      ∧ r.2.mem ((c.tc : Thread Cert.FCo.nD Cert.FCo.τ).loc Cert.FCo.main_arg2) = m ((c.tc : Thread Cert.FCo.nD Cert.FCo.τ).loc Cert.FCo.main_arg2))
      ∧ r.2.sem = fun _ => 0)

def quiescent_FCoIdeal [hFCoIdeal : Cert.FCoIdeal.Facts] : Prop :=
  ∀ (m : (ℓ : Loc Cert.FCoIdeal.nD Cert.FCoIdeal.τ Cert.FCoIdeal.sig) → Buf (Elt Ideal) ℓ) (g : Dev Cert.FCoIdeal.nD → PrngReg), Pre_FCoIdeal m →
    θ_run (Cert.FCoIdeal.defs (F := Ideal)) (onTc (τ := Cert.FCoIdeal.τ) (Cert.FCoIdeal.main (F := Ideal))) ⟨m, fun _ => 0, g⟩ (fun r => (∀ c : Dev Cert.FCoIdeal.nD,
      r.2.mem ((c.tc : Thread Cert.FCoIdeal.nD Cert.FCoIdeal.τ).loc Cert.FCoIdeal.main_arg0) = m ((c.tc : Thread Cert.FCoIdeal.nD Cert.FCoIdeal.τ).loc Cert.FCoIdeal.main_arg0)
      ∧ r.2.mem ((c.tc : Thread Cert.FCoIdeal.nD Cert.FCoIdeal.τ).loc Cert.FCoIdeal.main_arg1) = m ((c.tc : Thread Cert.FCoIdeal.nD Cert.FCoIdeal.τ).loc Cert.FCoIdeal.main_arg1)
      ∧ r.2.mem ((c.tc : Thread Cert.FCoIdeal.nD Cert.FCoIdeal.τ).loc Cert.FCoIdeal.main_arg2) = m ((c.tc : Thread Cert.FCoIdeal.nD Cert.FCoIdeal.τ).loc Cert.FCoIdeal.main_arg2))
      ∧ r.2.sem = fun _ => 0)

def quiescent_ReferenceFCoIdeal [hReferenceFCoIdeal : Cert.ReferenceFCoIdeal.Facts] : Prop :=
  ∀ (m : (ℓ : Loc Cert.ReferenceFCoIdeal.nD Cert.ReferenceFCoIdeal.τ Cert.ReferenceFCoIdeal.sig) → Buf (Elt Ideal) ℓ) (g : Dev Cert.ReferenceFCoIdeal.nD → PrngReg), Pre_ReferenceFCoIdeal m →
    θ_run (Cert.ReferenceFCoIdeal.defs (F := Ideal)) (onTc (τ := Cert.ReferenceFCoIdeal.τ) (Cert.ReferenceFCoIdeal.main (F := Ideal))) ⟨m, fun _ => 0, g⟩ (fun r => (∀ c : Dev Cert.ReferenceFCoIdeal.nD,
      r.2.mem ((c.tc : Thread Cert.ReferenceFCoIdeal.nD Cert.ReferenceFCoIdeal.τ).loc Cert.ReferenceFCoIdeal.main_arg0) = m ((c.tc : Thread Cert.ReferenceFCoIdeal.nD Cert.ReferenceFCoIdeal.τ).loc Cert.ReferenceFCoIdeal.main_arg0)
      ∧ r.2.mem ((c.tc : Thread Cert.ReferenceFCoIdeal.nD Cert.ReferenceFCoIdeal.τ).loc Cert.ReferenceFCoIdeal.main_arg1) = m ((c.tc : Thread Cert.ReferenceFCoIdeal.nD Cert.ReferenceFCoIdeal.τ).loc Cert.ReferenceFCoIdeal.main_arg1)
      ∧ r.2.mem ((c.tc : Thread Cert.ReferenceFCoIdeal.nD Cert.ReferenceFCoIdeal.τ).loc Cert.ReferenceFCoIdeal.main_arg2) = m ((c.tc : Thread Cert.ReferenceFCoIdeal.nD Cert.ReferenceFCoIdeal.τ).loc Cert.ReferenceFCoIdeal.main_arg2))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_ReferenceAdInIdeal [hReferenceAdInIdeal : Cert.ReferenceAdInIdeal.Facts] : Prop :=
  ∀ (m : (ℓ : Loc Cert.ReferenceAdInIdeal.nD Cert.ReferenceAdInIdeal.τ Cert.ReferenceAdInIdeal.sig) → Buf (Elt Ideal) ℓ) (g : Dev Cert.ReferenceAdInIdeal.nD → PrngReg), Pre_ReferenceAdInIdeal m →
    θ_run (Cert.ReferenceAdInIdeal.defs (F := Ideal)) (onTc (τ := Cert.ReferenceAdInIdeal.τ) (Cert.ReferenceAdInIdeal.main (F := Ideal))) ⟨m, fun _ => 0, g⟩ (fun r => (∀ c : Dev Cert.ReferenceAdInIdeal.nD,
      r.2.mem ((c.tc : Thread Cert.ReferenceAdInIdeal.nD Cert.ReferenceAdInIdeal.τ).loc Cert.ReferenceAdInIdeal.main_arg0) = m ((c.tc : Thread Cert.ReferenceAdInIdeal.nD Cert.ReferenceAdInIdeal.τ).loc Cert.ReferenceAdInIdeal.main_arg0)
      ∧ r.2.mem ((c.tc : Thread Cert.ReferenceAdInIdeal.nD Cert.ReferenceAdInIdeal.τ).loc Cert.ReferenceAdInIdeal.main_arg1) = m ((c.tc : Thread Cert.ReferenceAdInIdeal.nD Cert.ReferenceAdInIdeal.τ).loc Cert.ReferenceAdInIdeal.main_arg1)
      ∧ r.2.mem ((c.tc : Thread Cert.ReferenceAdInIdeal.nD Cert.ReferenceAdInIdeal.τ).loc Cert.ReferenceAdInIdeal.main_arg2) = m ((c.tc : Thread Cert.ReferenceAdInIdeal.nD Cert.ReferenceAdInIdeal.τ).loc Cert.ReferenceAdInIdeal.main_arg2)
      ∧ r.2.mem ((c.tc : Thread Cert.ReferenceAdInIdeal.nD Cert.ReferenceAdInIdeal.τ).loc Cert.ReferenceAdInIdeal.main_arg3) = m ((c.tc : Thread Cert.ReferenceAdInIdeal.nD Cert.ReferenceAdInIdeal.τ).loc Cert.ReferenceAdInIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_ReferenceAdOutIdeal [hReferenceAdOutIdeal : Cert.ReferenceAdOutIdeal.Facts] : Prop :=
  ∀ (m : (ℓ : Loc Cert.ReferenceAdOutIdeal.nD Cert.ReferenceAdOutIdeal.τ Cert.ReferenceAdOutIdeal.sig) → Buf (Elt Ideal) ℓ) (g : Dev Cert.ReferenceAdOutIdeal.nD → PrngReg), Pre_ReferenceAdOutIdeal m →
    θ_run (Cert.ReferenceAdOutIdeal.defs (F := Ideal)) (onTc (τ := Cert.ReferenceAdOutIdeal.τ) (Cert.ReferenceAdOutIdeal.main (F := Ideal))) ⟨m, fun _ => 0, g⟩ (fun r => (∀ c : Dev Cert.ReferenceAdOutIdeal.nD,
      r.2.mem ((c.tc : Thread Cert.ReferenceAdOutIdeal.nD Cert.ReferenceAdOutIdeal.τ).loc Cert.ReferenceAdOutIdeal.main_arg0) = m ((c.tc : Thread Cert.ReferenceAdOutIdeal.nD Cert.ReferenceAdOutIdeal.τ).loc Cert.ReferenceAdOutIdeal.main_arg0)
      ∧ r.2.mem ((c.tc : Thread Cert.ReferenceAdOutIdeal.nD Cert.ReferenceAdOutIdeal.τ).loc Cert.ReferenceAdOutIdeal.main_arg1) = m ((c.tc : Thread Cert.ReferenceAdOutIdeal.nD Cert.ReferenceAdOutIdeal.τ).loc Cert.ReferenceAdOutIdeal.main_arg1)
      ∧ r.2.mem ((c.tc : Thread Cert.ReferenceAdOutIdeal.nD Cert.ReferenceAdOutIdeal.τ).loc Cert.ReferenceAdOutIdeal.main_arg2) = m ((c.tc : Thread Cert.ReferenceAdOutIdeal.nD Cert.ReferenceAdOutIdeal.τ).loc Cert.ReferenceAdOutIdeal.main_arg2)
      ∧ r.2.mem ((c.tc : Thread Cert.ReferenceAdOutIdeal.nD Cert.ReferenceAdOutIdeal.τ).loc Cert.ReferenceAdOutIdeal.main_arg3) = m ((c.tc : Thread Cert.ReferenceAdOutIdeal.nD Cert.ReferenceAdOutIdeal.τ).loc Cert.ReferenceAdOutIdeal.main_arg3))
      ∧ r.2.sem = fun _ => 0)

def quiescent_AdCross [hAdCross : Cert.AdCross.Facts] : Prop :=
  ∀ (m : (ℓ : Loc Cert.AdCross.nD Cert.AdCross.τ Cert.AdCross.sig) → Buf (Elt Bits) ℓ) (g : Dev Cert.AdCross.nD → PrngReg), Pre_AdCross m →
    θ_run (Cert.AdCross.defs (F := Bits)) (onTc (τ := Cert.AdCross.τ) (Cert.AdCross.main (F := Bits))) ⟨m, fun _ => 0, g⟩ (fun r => (∀ c : Dev Cert.AdCross.nD,
      r.2.mem ((c.tc : Thread Cert.AdCross.nD Cert.AdCross.τ).loc Cert.AdCross.main_arg0) = m ((c.tc : Thread Cert.AdCross.nD Cert.AdCross.τ).loc Cert.AdCross.main_arg0)
      ∧ r.2.mem ((c.tc : Thread Cert.AdCross.nD Cert.AdCross.τ).loc Cert.AdCross.main_arg1) = m ((c.tc : Thread Cert.AdCross.nD Cert.AdCross.τ).loc Cert.AdCross.main_arg1)
      ∧ r.2.mem ((c.tc : Thread Cert.AdCross.nD Cert.AdCross.τ).loc Cert.AdCross.main_arg2) = m ((c.tc : Thread Cert.AdCross.nD Cert.AdCross.τ).loc Cert.AdCross.main_arg2)
      ∧ r.2.mem ((c.tc : Thread Cert.AdCross.nD Cert.AdCross.τ).loc Cert.AdCross.main_arg3) = m ((c.tc : Thread Cert.AdCross.nD Cert.AdCross.τ).loc Cert.AdCross.main_arg3))
      ∧ r.2.sem = fun _ => 0)

def quiescent_AdCrossIdeal [hAdCrossIdeal : Cert.AdCrossIdeal.Facts] : Prop :=
  ∀ (m : (ℓ : Loc Cert.AdCrossIdeal.nD Cert.AdCrossIdeal.τ Cert.AdCrossIdeal.sig) → Buf (Elt Ideal) ℓ) (g : Dev Cert.AdCrossIdeal.nD → PrngReg), Pre_AdCrossIdeal m →
    θ_run (Cert.AdCrossIdeal.defs (F := Ideal)) (onTc (τ := Cert.AdCrossIdeal.τ) (Cert.AdCrossIdeal.main (F := Ideal))) ⟨m, fun _ => 0, g⟩ (fun r => (∀ c : Dev Cert.AdCrossIdeal.nD,
      r.2.mem ((c.tc : Thread Cert.AdCrossIdeal.nD Cert.AdCrossIdeal.τ).loc Cert.AdCrossIdeal.main_arg0) = m ((c.tc : Thread Cert.AdCrossIdeal.nD Cert.AdCrossIdeal.τ).loc Cert.AdCrossIdeal.main_arg0)
      ∧ r.2.mem ((c.tc : Thread Cert.AdCrossIdeal.nD Cert.AdCrossIdeal.τ).loc Cert.AdCrossIdeal.main_arg1) = m ((c.tc : Thread Cert.AdCrossIdeal.nD Cert.AdCrossIdeal.τ).loc Cert.AdCrossIdeal.main_arg1)
      ∧ r.2.mem ((c.tc : Thread Cert.AdCrossIdeal.nD Cert.AdCrossIdeal.τ).loc Cert.AdCrossIdeal.main_arg2) = m ((c.tc : Thread Cert.AdCrossIdeal.nD Cert.AdCrossIdeal.τ).loc Cert.AdCrossIdeal.main_arg2)
      ∧ r.2.mem ((c.tc : Thread Cert.AdCrossIdeal.nD Cert.AdCrossIdeal.τ).loc Cert.AdCrossIdeal.main_arg3) = m ((c.tc : Thread Cert.AdCrossIdeal.nD Cert.AdCrossIdeal.τ).loc Cert.AdCrossIdeal.main_arg3))
      ∧ r.2.sem = fun _ => 0)

def quiescent_ReferenceAdCrossIdeal [hReferenceAdCrossIdeal : Cert.ReferenceAdCrossIdeal.Facts] : Prop :=
  ∀ (m : (ℓ : Loc Cert.ReferenceAdCrossIdeal.nD Cert.ReferenceAdCrossIdeal.τ Cert.ReferenceAdCrossIdeal.sig) → Buf (Elt Ideal) ℓ) (g : Dev Cert.ReferenceAdCrossIdeal.nD → PrngReg), Pre_ReferenceAdCrossIdeal m →
    θ_run (Cert.ReferenceAdCrossIdeal.defs (F := Ideal)) (onTc (τ := Cert.ReferenceAdCrossIdeal.τ) (Cert.ReferenceAdCrossIdeal.main (F := Ideal))) ⟨m, fun _ => 0, g⟩ (fun r => (∀ c : Dev Cert.ReferenceAdCrossIdeal.nD,
      r.2.mem ((c.tc : Thread Cert.ReferenceAdCrossIdeal.nD Cert.ReferenceAdCrossIdeal.τ).loc Cert.ReferenceAdCrossIdeal.main_arg0) = m ((c.tc : Thread Cert.ReferenceAdCrossIdeal.nD Cert.ReferenceAdCrossIdeal.τ).loc Cert.ReferenceAdCrossIdeal.main_arg0)
      ∧ r.2.mem ((c.tc : Thread Cert.ReferenceAdCrossIdeal.nD Cert.ReferenceAdCrossIdeal.τ).loc Cert.ReferenceAdCrossIdeal.main_arg1) = m ((c.tc : Thread Cert.ReferenceAdCrossIdeal.nD Cert.ReferenceAdCrossIdeal.τ).loc Cert.ReferenceAdCrossIdeal.main_arg1)
      ∧ r.2.mem ((c.tc : Thread Cert.ReferenceAdCrossIdeal.nD Cert.ReferenceAdCrossIdeal.τ).loc Cert.ReferenceAdCrossIdeal.main_arg2) = m ((c.tc : Thread Cert.ReferenceAdCrossIdeal.nD Cert.ReferenceAdCrossIdeal.τ).loc Cert.ReferenceAdCrossIdeal.main_arg2)
      ∧ r.2.mem ((c.tc : Thread Cert.ReferenceAdCrossIdeal.nD Cert.ReferenceAdCrossIdeal.τ).loc Cert.ReferenceAdCrossIdeal.main_arg3) = m ((c.tc : Thread Cert.ReferenceAdCrossIdeal.nD Cert.ReferenceAdCrossIdeal.τ).loc Cert.ReferenceAdCrossIdeal.main_arg3))
      ∧ r.2.sem = fun _ => 0)

def quiescent_AdCo [hAdCo : Cert.AdCo.Facts] : Prop :=
  ∀ (m : (ℓ : Loc Cert.AdCo.nD Cert.AdCo.τ Cert.AdCo.sig) → Buf (Elt Bits) ℓ) (g : Dev Cert.AdCo.nD → PrngReg), Pre_AdCo m →
    θ_run (Cert.AdCo.defs (F := Bits)) (onTc (τ := Cert.AdCo.τ) (Cert.AdCo.main (F := Bits))) ⟨m, fun _ => 0, g⟩ (fun r => (∀ c : Dev Cert.AdCo.nD,
      r.2.mem ((c.tc : Thread Cert.AdCo.nD Cert.AdCo.τ).loc Cert.AdCo.main_arg0) = m ((c.tc : Thread Cert.AdCo.nD Cert.AdCo.τ).loc Cert.AdCo.main_arg0)
      ∧ r.2.mem ((c.tc : Thread Cert.AdCo.nD Cert.AdCo.τ).loc Cert.AdCo.main_arg1) = m ((c.tc : Thread Cert.AdCo.nD Cert.AdCo.τ).loc Cert.AdCo.main_arg1)
      ∧ r.2.mem ((c.tc : Thread Cert.AdCo.nD Cert.AdCo.τ).loc Cert.AdCo.main_arg2) = m ((c.tc : Thread Cert.AdCo.nD Cert.AdCo.τ).loc Cert.AdCo.main_arg2)
      ∧ r.2.mem ((c.tc : Thread Cert.AdCo.nD Cert.AdCo.τ).loc Cert.AdCo.main_arg3) = m ((c.tc : Thread Cert.AdCo.nD Cert.AdCo.τ).loc Cert.AdCo.main_arg3))
      ∧ r.2.sem = fun _ => 0)

def quiescent_AdCoIdeal [hAdCoIdeal : Cert.AdCoIdeal.Facts] : Prop :=
  ∀ (m : (ℓ : Loc Cert.AdCoIdeal.nD Cert.AdCoIdeal.τ Cert.AdCoIdeal.sig) → Buf (Elt Ideal) ℓ) (g : Dev Cert.AdCoIdeal.nD → PrngReg), Pre_AdCoIdeal m →
    θ_run (Cert.AdCoIdeal.defs (F := Ideal)) (onTc (τ := Cert.AdCoIdeal.τ) (Cert.AdCoIdeal.main (F := Ideal))) ⟨m, fun _ => 0, g⟩ (fun r => (∀ c : Dev Cert.AdCoIdeal.nD,
      r.2.mem ((c.tc : Thread Cert.AdCoIdeal.nD Cert.AdCoIdeal.τ).loc Cert.AdCoIdeal.main_arg0) = m ((c.tc : Thread Cert.AdCoIdeal.nD Cert.AdCoIdeal.τ).loc Cert.AdCoIdeal.main_arg0)
      ∧ r.2.mem ((c.tc : Thread Cert.AdCoIdeal.nD Cert.AdCoIdeal.τ).loc Cert.AdCoIdeal.main_arg1) = m ((c.tc : Thread Cert.AdCoIdeal.nD Cert.AdCoIdeal.τ).loc Cert.AdCoIdeal.main_arg1)
      ∧ r.2.mem ((c.tc : Thread Cert.AdCoIdeal.nD Cert.AdCoIdeal.τ).loc Cert.AdCoIdeal.main_arg2) = m ((c.tc : Thread Cert.AdCoIdeal.nD Cert.AdCoIdeal.τ).loc Cert.AdCoIdeal.main_arg2)
      ∧ r.2.mem ((c.tc : Thread Cert.AdCoIdeal.nD Cert.AdCoIdeal.τ).loc Cert.AdCoIdeal.main_arg3) = m ((c.tc : Thread Cert.AdCoIdeal.nD Cert.AdCoIdeal.τ).loc Cert.AdCoIdeal.main_arg3))
      ∧ r.2.sem = fun _ => 0)

def quiescent_ReferenceAdCoIdeal [hReferenceAdCoIdeal : Cert.ReferenceAdCoIdeal.Facts] : Prop :=
  ∀ (m : (ℓ : Loc Cert.ReferenceAdCoIdeal.nD Cert.ReferenceAdCoIdeal.τ Cert.ReferenceAdCoIdeal.sig) → Buf (Elt Ideal) ℓ) (g : Dev Cert.ReferenceAdCoIdeal.nD → PrngReg), Pre_ReferenceAdCoIdeal m →
    θ_run (Cert.ReferenceAdCoIdeal.defs (F := Ideal)) (onTc (τ := Cert.ReferenceAdCoIdeal.τ) (Cert.ReferenceAdCoIdeal.main (F := Ideal))) ⟨m, fun _ => 0, g⟩ (fun r => (∀ c : Dev Cert.ReferenceAdCoIdeal.nD,
      r.2.mem ((c.tc : Thread Cert.ReferenceAdCoIdeal.nD Cert.ReferenceAdCoIdeal.τ).loc Cert.ReferenceAdCoIdeal.main_arg0) = m ((c.tc : Thread Cert.ReferenceAdCoIdeal.nD Cert.ReferenceAdCoIdeal.τ).loc Cert.ReferenceAdCoIdeal.main_arg0)
      ∧ r.2.mem ((c.tc : Thread Cert.ReferenceAdCoIdeal.nD Cert.ReferenceAdCoIdeal.τ).loc Cert.ReferenceAdCoIdeal.main_arg1) = m ((c.tc : Thread Cert.ReferenceAdCoIdeal.nD Cert.ReferenceAdCoIdeal.τ).loc Cert.ReferenceAdCoIdeal.main_arg1)
      ∧ r.2.mem ((c.tc : Thread Cert.ReferenceAdCoIdeal.nD Cert.ReferenceAdCoIdeal.τ).loc Cert.ReferenceAdCoIdeal.main_arg2) = m ((c.tc : Thread Cert.ReferenceAdCoIdeal.nD Cert.ReferenceAdCoIdeal.τ).loc Cert.ReferenceAdCoIdeal.main_arg2)
      ∧ r.2.mem ((c.tc : Thread Cert.ReferenceAdCoIdeal.nD Cert.ReferenceAdCoIdeal.τ).loc Cert.ReferenceAdCoIdeal.main_arg3) = m ((c.tc : Thread Cert.ReferenceAdCoIdeal.nD Cert.ReferenceAdCoIdeal.τ).loc Cert.ReferenceAdCoIdeal.main_arg3))
      ∧ r.2.sem = fun _ => 0)

def quiescent_AdUp [hAdUp : Cert.AdUp.Facts] : Prop :=
  ∀ (m : (ℓ : Loc Cert.AdUp.nD Cert.AdUp.τ Cert.AdUp.sig) → Buf (Elt Bits) ℓ) (g : Dev Cert.AdUp.nD → PrngReg), Pre_AdUp m →
    θ_run (Cert.AdUp.defs (F := Bits)) (onTc (τ := Cert.AdUp.τ) (Cert.AdUp.main (F := Bits))) ⟨m, fun _ => 0, g⟩ (fun r => (∀ c : Dev Cert.AdUp.nD,
      r.2.mem ((c.tc : Thread Cert.AdUp.nD Cert.AdUp.τ).loc Cert.AdUp.main_arg0) = m ((c.tc : Thread Cert.AdUp.nD Cert.AdUp.τ).loc Cert.AdUp.main_arg0)
      ∧ r.2.mem ((c.tc : Thread Cert.AdUp.nD Cert.AdUp.τ).loc Cert.AdUp.main_arg1) = m ((c.tc : Thread Cert.AdUp.nD Cert.AdUp.τ).loc Cert.AdUp.main_arg1)
      ∧ r.2.mem ((c.tc : Thread Cert.AdUp.nD Cert.AdUp.τ).loc Cert.AdUp.main_arg2) = m ((c.tc : Thread Cert.AdUp.nD Cert.AdUp.τ).loc Cert.AdUp.main_arg2)
      ∧ r.2.mem ((c.tc : Thread Cert.AdUp.nD Cert.AdUp.τ).loc Cert.AdUp.main_arg3) = m ((c.tc : Thread Cert.AdUp.nD Cert.AdUp.τ).loc Cert.AdUp.main_arg3))
      ∧ r.2.sem = fun _ => 0)

def quiescent_AdUpIdeal [hAdUpIdeal : Cert.AdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg), Pre_AdUpIdeal m →
    θ_run (Cert.AdUpIdeal.defs (F := Ideal)) (onTc (τ := Cert.AdUpIdeal.τ) (Cert.AdUpIdeal.main (F := Ideal))) ⟨m, fun _ => 0, g⟩ (fun r => (∀ c : Dev Cert.AdUpIdeal.nD,
      r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
      ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
      ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
      ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ r.2.sem = fun _ => 0)

def quiescent_ReferenceAdUpIdeal [hReferenceAdUpIdeal : Cert.ReferenceAdUpIdeal.Facts] : Prop :=
  ∀ (m : (ℓ : Loc Cert.ReferenceAdUpIdeal.nD Cert.ReferenceAdUpIdeal.τ Cert.ReferenceAdUpIdeal.sig) → Buf (Elt Ideal) ℓ) (g : Dev Cert.ReferenceAdUpIdeal.nD → PrngReg), Pre_ReferenceAdUpIdeal m →
    θ_run (Cert.ReferenceAdUpIdeal.defs (F := Ideal)) (onTc (τ := Cert.ReferenceAdUpIdeal.τ) (Cert.ReferenceAdUpIdeal.main (F := Ideal))) ⟨m, fun _ => 0, g⟩ (fun r => (∀ c : Dev Cert.ReferenceAdUpIdeal.nD,
      r.2.mem ((c.tc : Thread Cert.ReferenceAdUpIdeal.nD Cert.ReferenceAdUpIdeal.τ).loc Cert.ReferenceAdUpIdeal.main_arg0) = m ((c.tc : Thread Cert.ReferenceAdUpIdeal.nD Cert.ReferenceAdUpIdeal.τ).loc Cert.ReferenceAdUpIdeal.main_arg0)
      ∧ r.2.mem ((c.tc : Thread Cert.ReferenceAdUpIdeal.nD Cert.ReferenceAdUpIdeal.τ).loc Cert.ReferenceAdUpIdeal.main_arg1) = m ((c.tc : Thread Cert.ReferenceAdUpIdeal.nD Cert.ReferenceAdUpIdeal.τ).loc Cert.ReferenceAdUpIdeal.main_arg1)
      ∧ r.2.mem ((c.tc : Thread Cert.ReferenceAdUpIdeal.nD Cert.ReferenceAdUpIdeal.τ).loc Cert.ReferenceAdUpIdeal.main_arg2) = m ((c.tc : Thread Cert.ReferenceAdUpIdeal.nD Cert.ReferenceAdUpIdeal.τ).loc Cert.ReferenceAdUpIdeal.main_arg2)
      ∧ r.2.mem ((c.tc : Thread Cert.ReferenceAdUpIdeal.nD Cert.ReferenceAdUpIdeal.τ).loc Cert.ReferenceAdUpIdeal.main_arg3) = m ((c.tc : Thread Cert.ReferenceAdUpIdeal.nD Cert.ReferenceAdUpIdeal.τ).loc Cert.ReferenceAdUpIdeal.main_arg3))
      ∧ r.2.sem = fun _ => 0)

def quiescent_AdDown [hAdDown : Cert.AdDown.Facts] : Prop :=
  ∀ (m : (ℓ : Loc Cert.AdDown.nD Cert.AdDown.τ Cert.AdDown.sig) → Buf (Elt Bits) ℓ) (g : Dev Cert.AdDown.nD → PrngReg), Pre_AdDown m →
    θ_run (Cert.AdDown.defs (F := Bits)) (onTc (τ := Cert.AdDown.τ) (Cert.AdDown.main (F := Bits))) ⟨m, fun _ => 0, g⟩ (fun r => (∀ c : Dev Cert.AdDown.nD,
      r.2.mem ((c.tc : Thread Cert.AdDown.nD Cert.AdDown.τ).loc Cert.AdDown.main_arg0) = m ((c.tc : Thread Cert.AdDown.nD Cert.AdDown.τ).loc Cert.AdDown.main_arg0)
      ∧ r.2.mem ((c.tc : Thread Cert.AdDown.nD Cert.AdDown.τ).loc Cert.AdDown.main_arg1) = m ((c.tc : Thread Cert.AdDown.nD Cert.AdDown.τ).loc Cert.AdDown.main_arg1)
      ∧ r.2.mem ((c.tc : Thread Cert.AdDown.nD Cert.AdDown.τ).loc Cert.AdDown.main_arg2) = m ((c.tc : Thread Cert.AdDown.nD Cert.AdDown.τ).loc Cert.AdDown.main_arg2)
      ∧ r.2.mem ((c.tc : Thread Cert.AdDown.nD Cert.AdDown.τ).loc Cert.AdDown.main_arg3) = m ((c.tc : Thread Cert.AdDown.nD Cert.AdDown.τ).loc Cert.AdDown.main_arg3))
      ∧ r.2.sem = fun _ => 0)

def quiescent_AdDownIdeal [hAdDownIdeal : Cert.AdDownIdeal.Facts] : Prop :=
  ∀ (m : (ℓ : Loc Cert.AdDownIdeal.nD Cert.AdDownIdeal.τ Cert.AdDownIdeal.sig) → Buf (Elt Ideal) ℓ) (g : Dev Cert.AdDownIdeal.nD → PrngReg), Pre_AdDownIdeal m →
    θ_run (Cert.AdDownIdeal.defs (F := Ideal)) (onTc (τ := Cert.AdDownIdeal.τ) (Cert.AdDownIdeal.main (F := Ideal))) ⟨m, fun _ => 0, g⟩ (fun r => (∀ c : Dev Cert.AdDownIdeal.nD,
      r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
      ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
      ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
      ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ r.2.sem = fun _ => 0)

def quiescent_ReferenceAdDownIdeal [hReferenceAdDownIdeal : Cert.ReferenceAdDownIdeal.Facts] : Prop :=
  ∀ (m : (ℓ : Loc Cert.ReferenceAdDownIdeal.nD Cert.ReferenceAdDownIdeal.τ Cert.ReferenceAdDownIdeal.sig) → Buf (Elt Ideal) ℓ) (g : Dev Cert.ReferenceAdDownIdeal.nD → PrngReg), Pre_ReferenceAdDownIdeal m →
    θ_run (Cert.ReferenceAdDownIdeal.defs (F := Ideal)) (onTc (τ := Cert.ReferenceAdDownIdeal.τ) (Cert.ReferenceAdDownIdeal.main (F := Ideal))) ⟨m, fun _ => 0, g⟩ (fun r => (∀ c : Dev Cert.ReferenceAdDownIdeal.nD,
      r.2.mem ((c.tc : Thread Cert.ReferenceAdDownIdeal.nD Cert.ReferenceAdDownIdeal.τ).loc Cert.ReferenceAdDownIdeal.main_arg0) = m ((c.tc : Thread Cert.ReferenceAdDownIdeal.nD Cert.ReferenceAdDownIdeal.τ).loc Cert.ReferenceAdDownIdeal.main_arg0)
      ∧ r.2.mem ((c.tc : Thread Cert.ReferenceAdDownIdeal.nD Cert.ReferenceAdDownIdeal.τ).loc Cert.ReferenceAdDownIdeal.main_arg1) = m ((c.tc : Thread Cert.ReferenceAdDownIdeal.nD Cert.ReferenceAdDownIdeal.τ).loc Cert.ReferenceAdDownIdeal.main_arg1)
      ∧ r.2.mem ((c.tc : Thread Cert.ReferenceAdDownIdeal.nD Cert.ReferenceAdDownIdeal.τ).loc Cert.ReferenceAdDownIdeal.main_arg2) = m ((c.tc : Thread Cert.ReferenceAdDownIdeal.nD Cert.ReferenceAdDownIdeal.τ).loc Cert.ReferenceAdDownIdeal.main_arg2)
      ∧ r.2.mem ((c.tc : Thread Cert.ReferenceAdDownIdeal.nD Cert.ReferenceAdDownIdeal.τ).loc Cert.ReferenceAdDownIdeal.main_arg3) = m ((c.tc : Thread Cert.ReferenceAdDownIdeal.nD Cert.ReferenceAdDownIdeal.τ).loc Cert.ReferenceAdDownIdeal.main_arg3))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdIdeal_pre_finite_qk [hSbFwdIdeal : Cert.SbFwdIdeal.Facts] [hPre_finite_qk : Cert.Pre_finite_qk.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_finite_qk m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_ReferenceSbFwdIdeal [hReferenceSbFwdIdeal : Cert.ReferenceSbFwdIdeal.Facts] : Prop :=
  ∀ (m : (ℓ : Loc Cert.ReferenceSbFwdIdeal.nD Cert.ReferenceSbFwdIdeal.τ Cert.ReferenceSbFwdIdeal.sig) → Buf (Elt Ideal) ℓ) (g : Dev Cert.ReferenceSbFwdIdeal.nD → PrngReg), Pre_ReferenceSbFwdIdeal m →
    θ_run (Cert.ReferenceSbFwdIdeal.defs (F := Ideal)) (onTc (τ := Cert.ReferenceSbFwdIdeal.τ) (Cert.ReferenceSbFwdIdeal.main (F := Ideal))) ⟨m, fun _ => 0, g⟩ (fun r => (∀ c : Dev Cert.ReferenceSbFwdIdeal.nD,
      r.2.mem ((c.tc : Thread Cert.ReferenceSbFwdIdeal.nD Cert.ReferenceSbFwdIdeal.τ).loc Cert.ReferenceSbFwdIdeal.main_arg0) = m ((c.tc : Thread Cert.ReferenceSbFwdIdeal.nD Cert.ReferenceSbFwdIdeal.τ).loc Cert.ReferenceSbFwdIdeal.main_arg0))
      ∧ r.2.sem = fun _ => 0)

def quiescent_ReferenceSbFwdIdeal_pre_finite_qk [hReferenceSbFwdIdeal : Cert.ReferenceSbFwdIdeal.Facts] [hPre_finite_qk : Cert.Pre_finite_qk.Facts] : Prop :=
  ∀ (m : (ℓ : Loc Cert.ReferenceSbFwdIdeal.nD Cert.ReferenceSbFwdIdeal.τ Cert.ReferenceSbFwdIdeal.sig) → Buf (Elt Ideal) ℓ) (g : Dev Cert.ReferenceSbFwdIdeal.nD → PrngReg), Pre_ReferenceSbFwdIdeal_finite_qk m →
    θ_run (Cert.ReferenceSbFwdIdeal.defs (F := Ideal)) (onTc (τ := Cert.ReferenceSbFwdIdeal.τ) (Cert.ReferenceSbFwdIdeal.main (F := Ideal))) ⟨m, fun _ => 0, g⟩ (fun r => (∀ c : Dev Cert.ReferenceSbFwdIdeal.nD,
      r.2.mem ((c.tc : Thread Cert.ReferenceSbFwdIdeal.nD Cert.ReferenceSbFwdIdeal.τ).loc Cert.ReferenceSbFwdIdeal.main_arg0) = m ((c.tc : Thread Cert.ReferenceSbFwdIdeal.nD Cert.ReferenceSbFwdIdeal.τ).loc Cert.ReferenceSbFwdIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DAct_DActIdeal : Prop :=
  True

def algebraic_DActIdeal_ReferenceDActIdeal [hDActIdeal : Cert.DActIdeal.Facts] [hReferenceDActIdeal : Cert.ReferenceDActIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.ReferenceDActIdeal.nD Cert.ReferenceDActIdeal.τ Cert.ReferenceDActIdeal.sig) → Buf (Elt Ideal) ℓ) (g' : Dev Cert.ReferenceDActIdeal.nD → PrngReg), Pre_DActIdeal m →
    (∀ c : Dev Cert.DActIdeal.nD,
      m' ((c.tc : Thread Cert.ReferenceDActIdeal.nD Cert.ReferenceDActIdeal.τ).loc Cert.ReferenceDActIdeal.main_arg0) = m ((c.tc : Thread Cert.DActIdeal.nD Cert.DActIdeal.τ).loc Cert.DActIdeal.main_arg0)
      ∧ m' ((c.tc : Thread Cert.ReferenceDActIdeal.nD Cert.ReferenceDActIdeal.τ).loc Cert.ReferenceDActIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.ReferenceDActIdeal.defs (F := Ideal)) (onTc (τ := Cert.ReferenceDActIdeal.τ) (Cert.ReferenceDActIdeal.main (F := Ideal))) ⟨m', fun _ => 0, g'⟩ (fun r => ∀ c : Dev Cert.ReferenceDActIdeal.nD,
          r.2.mem ((c.tc : Thread Cert.ReferenceDActIdeal.nD Cert.ReferenceDActIdeal.τ).loc Cert.ReferenceDActIdeal.main_v3) = v0 c
          ∧ r.2.mem ((c.tc : Thread Cert.ReferenceDActIdeal.nD Cert.ReferenceDActIdeal.τ).loc Cert.ReferenceDActIdeal.main_arg0) = m' ((c.tc : Thread Cert.ReferenceDActIdeal.nD Cert.ReferenceDActIdeal.τ).loc Cert.ReferenceDActIdeal.main_arg0)
          ∧ r.2.mem ((c.tc : Thread Cert.ReferenceDActIdeal.nD Cert.ReferenceDActIdeal.τ).loc Cert.ReferenceDActIdeal.main_arg1) = m' ((c.tc : Thread Cert.ReferenceDActIdeal.nD Cert.ReferenceDActIdeal.τ).loc Cert.ReferenceDActIdeal.main_arg1))

def preserves_GDown_GDownIdeal : Prop :=
  True

def algebraic_GDownIdeal_ReferenceGDownIdeal [hGDownIdeal : Cert.GDownIdeal.Facts] [hReferenceGDownIdeal : Cert.ReferenceGDownIdeal.Facts] : Prop :=
  ∀ (m : (ℓ : Loc Cert.GDownIdeal.nD Cert.GDownIdeal.τ Cert.GDownIdeal.sig) → Buf (Elt Ideal) ℓ) (g : Dev Cert.GDownIdeal.nD → PrngReg)
    (m' : (ℓ : Loc Cert.ReferenceGDownIdeal.nD Cert.ReferenceGDownIdeal.τ Cert.ReferenceGDownIdeal.sig) → Buf (Elt Ideal) ℓ) (g' : Dev Cert.ReferenceGDownIdeal.nD → PrngReg), Pre_GDownIdeal m →
    (∀ c : Dev Cert.GDownIdeal.nD,
      m' ((c.tc : Thread Cert.ReferenceGDownIdeal.nD Cert.ReferenceGDownIdeal.τ).loc Cert.ReferenceGDownIdeal.main_arg0) = m ((c.tc : Thread Cert.GDownIdeal.nD Cert.GDownIdeal.τ).loc Cert.GDownIdeal.main_arg0)
      ∧ m' ((c.tc : Thread Cert.ReferenceGDownIdeal.nD Cert.ReferenceGDownIdeal.τ).loc Cert.ReferenceGDownIdeal.main_arg1) = m ((c.tc : Thread Cert.GDownIdeal.nD Cert.GDownIdeal.τ).loc Cert.GDownIdeal.main_arg1)) →
    ∃ (v0 : (c : Dev Cert.GDownIdeal.nD) → Buf (Elt Ideal) ((c.tc : Thread Cert.GDownIdeal.nD Cert.GDownIdeal.τ).loc Cert.GDownIdeal.main_v0)),
      θ_run (Cert.GDownIdeal.defs (F := Ideal)) (onTc (τ := Cert.GDownIdeal.τ) (Cert.GDownIdeal.main (F := Ideal))) ⟨m, fun _ => 0, g⟩ (fun r => ∀ c : Dev Cert.GDownIdeal.nD,
          r.2.mem ((c.tc : Thread Cert.GDownIdeal.nD Cert.GDownIdeal.τ).loc Cert.GDownIdeal.main_v0) = v0 c
          ∧ r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
          ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ θ_run (Cert.ReferenceGDownIdeal.defs (F := Ideal)) (onTc (τ := Cert.ReferenceGDownIdeal.τ) (Cert.ReferenceGDownIdeal.main (F := Ideal))) ⟨m', fun _ => 0, g'⟩ (fun r => ∀ c : Dev Cert.ReferenceGDownIdeal.nD,
          r.2.mem ((c.tc : Thread Cert.ReferenceGDownIdeal.nD Cert.ReferenceGDownIdeal.τ).loc Cert.ReferenceGDownIdeal.main_v5) = v0 c
          ∧ r.2.mem ((c.tc : Thread Cert.ReferenceGDownIdeal.nD Cert.ReferenceGDownIdeal.τ).loc Cert.ReferenceGDownIdeal.main_arg0) = m' ((c.tc : Thread Cert.ReferenceGDownIdeal.nD Cert.ReferenceGDownIdeal.τ).loc Cert.ReferenceGDownIdeal.main_arg0)
          ∧ r.2.mem ((c.tc : Thread Cert.ReferenceGDownIdeal.nD Cert.ReferenceGDownIdeal.τ).loc Cert.ReferenceGDownIdeal.main_arg1) = m' ((c.tc : Thread Cert.ReferenceGDownIdeal.nD Cert.ReferenceGDownIdeal.τ).loc Cert.ReferenceGDownIdeal.main_arg1))

def preserves_DHidden_DHiddenIdeal : Prop :=
  True

def algebraic_DHiddenIdeal_ReferenceDHiddenIdeal [hDHiddenIdeal : Cert.DHiddenIdeal.Facts] [hReferenceDHiddenIdeal : Cert.ReferenceDHiddenIdeal.Facts] : Prop :=
  ∀ (m : (ℓ : Loc Cert.DHiddenIdeal.nD Cert.DHiddenIdeal.τ Cert.DHiddenIdeal.sig) → Buf (Elt Ideal) ℓ) (g : Dev Cert.DHiddenIdeal.nD → PrngReg)
    (m' : (ℓ : Loc Cert.ReferenceDHiddenIdeal.nD Cert.ReferenceDHiddenIdeal.τ Cert.ReferenceDHiddenIdeal.sig) → Buf (Elt Ideal) ℓ) (g' : Dev Cert.ReferenceDHiddenIdeal.nD → PrngReg), Pre_DHiddenIdeal m →
    (∀ c : Dev Cert.DHiddenIdeal.nD,
      m' ((c.tc : Thread Cert.ReferenceDHiddenIdeal.nD Cert.ReferenceDHiddenIdeal.τ).loc Cert.ReferenceDHiddenIdeal.main_arg0) = m ((c.tc : Thread Cert.DHiddenIdeal.nD Cert.DHiddenIdeal.τ).loc Cert.DHiddenIdeal.main_arg0)
      ∧ m' ((c.tc : Thread Cert.ReferenceDHiddenIdeal.nD Cert.ReferenceDHiddenIdeal.τ).loc Cert.ReferenceDHiddenIdeal.main_arg1) = m ((c.tc : Thread Cert.DHiddenIdeal.nD Cert.DHiddenIdeal.τ).loc Cert.DHiddenIdeal.main_arg1)
      ∧ m' ((c.tc : Thread Cert.ReferenceDHiddenIdeal.nD Cert.ReferenceDHiddenIdeal.τ).loc Cert.ReferenceDHiddenIdeal.main_arg2) = m ((c.tc : Thread Cert.DHiddenIdeal.nD Cert.DHiddenIdeal.τ).loc Cert.DHiddenIdeal.main_arg2)
      ∧ m' ((c.tc : Thread Cert.ReferenceDHiddenIdeal.nD Cert.ReferenceDHiddenIdeal.τ).loc Cert.ReferenceDHiddenIdeal.main_arg3) = m ((c.tc : Thread Cert.DHiddenIdeal.nD Cert.DHiddenIdeal.τ).loc Cert.DHiddenIdeal.main_arg3)) →
    ∃ (v0 : (c : Dev Cert.DHiddenIdeal.nD) → Buf (Elt Ideal) ((c.tc : Thread Cert.DHiddenIdeal.nD Cert.DHiddenIdeal.τ).loc Cert.DHiddenIdeal.main_v1)),
      θ_run (Cert.DHiddenIdeal.defs (F := Ideal)) (onTc (τ := Cert.DHiddenIdeal.τ) (Cert.DHiddenIdeal.main (F := Ideal))) ⟨m, fun _ => 0, g⟩ (fun r => ∀ c : Dev Cert.DHiddenIdeal.nD,
          r.2.mem ((c.tc : Thread Cert.DHiddenIdeal.nD Cert.DHiddenIdeal.τ).loc Cert.DHiddenIdeal.main_v1) = v0 c
          ∧ r.2.mem ((c.tc : Thread Cert.DHiddenIdeal.nD Cert.DHiddenIdeal.τ).loc Cert.DHiddenIdeal.main_arg0) = m ((c.tc : Thread Cert.DHiddenIdeal.nD Cert.DHiddenIdeal.τ).loc Cert.DHiddenIdeal.main_arg0)
          ∧ r.2.mem ((c.tc : Thread Cert.DHiddenIdeal.nD Cert.DHiddenIdeal.τ).loc Cert.DHiddenIdeal.main_arg1) = m ((c.tc : Thread Cert.DHiddenIdeal.nD Cert.DHiddenIdeal.τ).loc Cert.DHiddenIdeal.main_arg1)
          ∧ r.2.mem ((c.tc : Thread Cert.DHiddenIdeal.nD Cert.DHiddenIdeal.τ).loc Cert.DHiddenIdeal.main_arg2) = m ((c.tc : Thread Cert.DHiddenIdeal.nD Cert.DHiddenIdeal.τ).loc Cert.DHiddenIdeal.main_arg2)
          ∧ r.2.mem ((c.tc : Thread Cert.DHiddenIdeal.nD Cert.DHiddenIdeal.τ).loc Cert.DHiddenIdeal.main_arg3) = m ((c.tc : Thread Cert.DHiddenIdeal.nD Cert.DHiddenIdeal.τ).loc Cert.DHiddenIdeal.main_arg3))
      ∧ θ_run (Cert.ReferenceDHiddenIdeal.defs (F := Ideal)) (onTc (τ := Cert.ReferenceDHiddenIdeal.τ) (Cert.ReferenceDHiddenIdeal.main (F := Ideal))) ⟨m', fun _ => 0, g'⟩ (fun r => ∀ c : Dev Cert.ReferenceDHiddenIdeal.nD,
          r.2.mem ((c.tc : Thread Cert.ReferenceDHiddenIdeal.nD Cert.ReferenceDHiddenIdeal.τ).loc Cert.ReferenceDHiddenIdeal.main_v12) = v0 c
          ∧ r.2.mem ((c.tc : Thread Cert.ReferenceDHiddenIdeal.nD Cert.ReferenceDHiddenIdeal.τ).loc Cert.ReferenceDHiddenIdeal.main_arg0) = m' ((c.tc : Thread Cert.ReferenceDHiddenIdeal.nD Cert.ReferenceDHiddenIdeal.τ).loc Cert.ReferenceDHiddenIdeal.main_arg0)
          ∧ r.2.mem ((c.tc : Thread Cert.ReferenceDHiddenIdeal.nD Cert.ReferenceDHiddenIdeal.τ).loc Cert.ReferenceDHiddenIdeal.main_arg1) = m' ((c.tc : Thread Cert.ReferenceDHiddenIdeal.nD Cert.ReferenceDHiddenIdeal.τ).loc Cert.ReferenceDHiddenIdeal.main_arg1)
          ∧ r.2.mem ((c.tc : Thread Cert.ReferenceDHiddenIdeal.nD Cert.ReferenceDHiddenIdeal.τ).loc Cert.ReferenceDHiddenIdeal.main_arg2) = m' ((c.tc : Thread Cert.ReferenceDHiddenIdeal.nD Cert.ReferenceDHiddenIdeal.τ).loc Cert.ReferenceDHiddenIdeal.main_arg2)
          ∧ r.2.mem ((c.tc : Thread Cert.ReferenceDHiddenIdeal.nD Cert.ReferenceDHiddenIdeal.τ).loc Cert.ReferenceDHiddenIdeal.main_arg3) = m' ((c.tc : Thread Cert.ReferenceDHiddenIdeal.nD Cert.ReferenceDHiddenIdeal.τ).loc Cert.ReferenceDHiddenIdeal.main_arg3))

def preserves_GUp_GUpIdeal : Prop :=
  True

def algebraic_GUpIdeal_ReferenceGUpIdeal [hGUpIdeal : Cert.GUpIdeal.Facts] [hReferenceGUpIdeal : Cert.ReferenceGUpIdeal.Facts] : Prop :=
  ∀ (m : (ℓ : Loc Cert.GUpIdeal.nD Cert.GUpIdeal.τ Cert.GUpIdeal.sig) → Buf (Elt Ideal) ℓ) (g : Dev Cert.GUpIdeal.nD → PrngReg)
    (m' : (ℓ : Loc Cert.ReferenceGUpIdeal.nD Cert.ReferenceGUpIdeal.τ Cert.ReferenceGUpIdeal.sig) → Buf (Elt Ideal) ℓ) (g' : Dev Cert.ReferenceGUpIdeal.nD → PrngReg), Pre_GUpIdeal m →
    (∀ c : Dev Cert.GUpIdeal.nD,
      m' ((c.tc : Thread Cert.ReferenceGUpIdeal.nD Cert.ReferenceGUpIdeal.τ).loc Cert.ReferenceGUpIdeal.main_arg0) = m ((c.tc : Thread Cert.GUpIdeal.nD Cert.GUpIdeal.τ).loc Cert.GUpIdeal.main_arg0)
      ∧ m' ((c.tc : Thread Cert.ReferenceGUpIdeal.nD Cert.ReferenceGUpIdeal.τ).loc Cert.ReferenceGUpIdeal.main_arg1) = m ((c.tc : Thread Cert.GUpIdeal.nD Cert.GUpIdeal.τ).loc Cert.GUpIdeal.main_arg1)) →
    ∃ (v0 : (c : Dev Cert.GUpIdeal.nD) → Buf (Elt Ideal) ((c.tc : Thread Cert.GUpIdeal.nD Cert.GUpIdeal.τ).loc Cert.GUpIdeal.main_v0)),
      θ_run (Cert.GUpIdeal.defs (F := Ideal)) (onTc (τ := Cert.GUpIdeal.τ) (Cert.GUpIdeal.main (F := Ideal))) ⟨m, fun _ => 0, g⟩ (fun r => ∀ c : Dev Cert.GUpIdeal.nD,
          r.2.mem ((c.tc : Thread Cert.GUpIdeal.nD Cert.GUpIdeal.τ).loc Cert.GUpIdeal.main_v0) = v0 c
          ∧ r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
          ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1))
      ∧ θ_run (Cert.ReferenceGUpIdeal.defs (F := Ideal)) (onTc (τ := Cert.ReferenceGUpIdeal.τ) (Cert.ReferenceGUpIdeal.main (F := Ideal))) ⟨m', fun _ => 0, g'⟩ (fun r => ∀ c : Dev Cert.ReferenceGUpIdeal.nD,
          r.2.mem ((c.tc : Thread Cert.ReferenceGUpIdeal.nD Cert.ReferenceGUpIdeal.τ).loc Cert.ReferenceGUpIdeal.main_v8) = v0 c
          ∧ r.2.mem ((c.tc : Thread Cert.ReferenceGUpIdeal.nD Cert.ReferenceGUpIdeal.τ).loc Cert.ReferenceGUpIdeal.main_arg0) = m' ((c.tc : Thread Cert.ReferenceGUpIdeal.nD Cert.ReferenceGUpIdeal.τ).loc Cert.ReferenceGUpIdeal.main_arg0)
          ∧ r.2.mem ((c.tc : Thread Cert.ReferenceGUpIdeal.nD Cert.ReferenceGUpIdeal.τ).loc Cert.ReferenceGUpIdeal.main_arg1) = m' ((c.tc : Thread Cert.ReferenceGUpIdeal.nD Cert.ReferenceGUpIdeal.τ).loc Cert.ReferenceGUpIdeal.main_arg1))

def preserves_DIn_DInIdeal : Prop :=
  True

def algebraic_DInIdeal_ReferenceDInIdeal [hDInIdeal : Cert.DInIdeal.Facts] [hReferenceDInIdeal : Cert.ReferenceDInIdeal.Facts] : Prop :=
  ∀ (m : (ℓ : Loc Cert.DInIdeal.nD Cert.DInIdeal.τ Cert.DInIdeal.sig) → Buf (Elt Ideal) ℓ) (g : Dev Cert.DInIdeal.nD → PrngReg)
    (m' : (ℓ : Loc Cert.ReferenceDInIdeal.nD Cert.ReferenceDInIdeal.τ Cert.ReferenceDInIdeal.sig) → Buf (Elt Ideal) ℓ) (g' : Dev Cert.ReferenceDInIdeal.nD → PrngReg), Pre_DInIdeal m →
    (∀ c : Dev Cert.DInIdeal.nD,
      m' ((c.tc : Thread Cert.ReferenceDInIdeal.nD Cert.ReferenceDInIdeal.τ).loc Cert.ReferenceDInIdeal.main_arg0) = m ((c.tc : Thread Cert.DInIdeal.nD Cert.DInIdeal.τ).loc Cert.DInIdeal.main_arg0)
      ∧ m' ((c.tc : Thread Cert.ReferenceDInIdeal.nD Cert.ReferenceDInIdeal.τ).loc Cert.ReferenceDInIdeal.main_arg1) = m ((c.tc : Thread Cert.DInIdeal.nD Cert.DInIdeal.τ).loc Cert.DInIdeal.main_arg1)
      ∧ m' ((c.tc : Thread Cert.ReferenceDInIdeal.nD Cert.ReferenceDInIdeal.τ).loc Cert.ReferenceDInIdeal.main_arg2) = m ((c.tc : Thread Cert.DInIdeal.nD Cert.DInIdeal.τ).loc Cert.DInIdeal.main_arg2)
      ∧ m' ((c.tc : Thread Cert.ReferenceDInIdeal.nD Cert.ReferenceDInIdeal.τ).loc Cert.ReferenceDInIdeal.main_arg3) = m ((c.tc : Thread Cert.DInIdeal.nD Cert.DInIdeal.τ).loc Cert.DInIdeal.main_arg3)) →
    ∃ (v0 : (c : Dev Cert.DInIdeal.nD) → Buf (Elt Ideal) ((c.tc : Thread Cert.DInIdeal.nD Cert.DInIdeal.τ).loc Cert.DInIdeal.main_v1)),
      θ_run (Cert.DInIdeal.defs (F := Ideal)) (onTc (τ := Cert.DInIdeal.τ) (Cert.DInIdeal.main (F := Ideal))) ⟨m, fun _ => 0, g⟩ (fun r => ∀ c : Dev Cert.DInIdeal.nD,
          r.2.mem ((c.tc : Thread Cert.DInIdeal.nD Cert.DInIdeal.τ).loc Cert.DInIdeal.main_v1) = v0 c
          ∧ r.2.mem ((c.tc : Thread Cert.DInIdeal.nD Cert.DInIdeal.τ).loc Cert.DInIdeal.main_arg0) = m ((c.tc : Thread Cert.DInIdeal.nD Cert.DInIdeal.τ).loc Cert.DInIdeal.main_arg0)
          ∧ r.2.mem ((c.tc : Thread Cert.DInIdeal.nD Cert.DInIdeal.τ).loc Cert.DInIdeal.main_arg1) = m ((c.tc : Thread Cert.DInIdeal.nD Cert.DInIdeal.τ).loc Cert.DInIdeal.main_arg1)
          ∧ r.2.mem ((c.tc : Thread Cert.DInIdeal.nD Cert.DInIdeal.τ).loc Cert.DInIdeal.main_arg2) = m ((c.tc : Thread Cert.DInIdeal.nD Cert.DInIdeal.τ).loc Cert.DInIdeal.main_arg2)
          ∧ r.2.mem ((c.tc : Thread Cert.DInIdeal.nD Cert.DInIdeal.τ).loc Cert.DInIdeal.main_arg3) = m ((c.tc : Thread Cert.DInIdeal.nD Cert.DInIdeal.τ).loc Cert.DInIdeal.main_arg3))
      ∧ θ_run (Cert.ReferenceDInIdeal.defs (F := Ideal)) (onTc (τ := Cert.ReferenceDInIdeal.τ) (Cert.ReferenceDInIdeal.main (F := Ideal))) ⟨m', fun _ => 0, g'⟩ (fun r => ∀ c : Dev Cert.ReferenceDInIdeal.nD,
          r.2.mem ((c.tc : Thread Cert.ReferenceDInIdeal.nD Cert.ReferenceDInIdeal.τ).loc Cert.ReferenceDInIdeal.main_v9) = v0 c
          ∧ r.2.mem ((c.tc : Thread Cert.ReferenceDInIdeal.nD Cert.ReferenceDInIdeal.τ).loc Cert.ReferenceDInIdeal.main_arg0) = m' ((c.tc : Thread Cert.ReferenceDInIdeal.nD Cert.ReferenceDInIdeal.τ).loc Cert.ReferenceDInIdeal.main_arg0)
          ∧ r.2.mem ((c.tc : Thread Cert.ReferenceDInIdeal.nD Cert.ReferenceDInIdeal.τ).loc Cert.ReferenceDInIdeal.main_arg1) = m' ((c.tc : Thread Cert.ReferenceDInIdeal.nD Cert.ReferenceDInIdeal.τ).loc Cert.ReferenceDInIdeal.main_arg1)
          ∧ r.2.mem ((c.tc : Thread Cert.ReferenceDInIdeal.nD Cert.ReferenceDInIdeal.τ).loc Cert.ReferenceDInIdeal.main_arg2) = m' ((c.tc : Thread Cert.ReferenceDInIdeal.nD Cert.ReferenceDInIdeal.τ).loc Cert.ReferenceDInIdeal.main_arg2)
          ∧ r.2.mem ((c.tc : Thread Cert.ReferenceDInIdeal.nD Cert.ReferenceDInIdeal.τ).loc Cert.ReferenceDInIdeal.main_arg3) = m' ((c.tc : Thread Cert.ReferenceDInIdeal.nD Cert.ReferenceDInIdeal.τ).loc Cert.ReferenceDInIdeal.main_arg3))

def preserves_GQkv_GQkvIdeal : Prop :=
  True

def algebraic_GQkvIdeal_ReferenceGQkvIdeal [hGQkvIdeal : Cert.GQkvIdeal.Facts] [hReferenceGQkvIdeal : Cert.ReferenceGQkvIdeal.Facts] : Prop :=
  ∀ (m : (ℓ : Loc Cert.GQkvIdeal.nD Cert.GQkvIdeal.τ Cert.GQkvIdeal.sig) → Buf (Elt Ideal) ℓ) (g : Dev Cert.GQkvIdeal.nD → PrngReg)
    (m' : (ℓ : Loc Cert.ReferenceGQkvIdeal.nD Cert.ReferenceGQkvIdeal.τ Cert.ReferenceGQkvIdeal.sig) → Buf (Elt Ideal) ℓ) (g' : Dev Cert.ReferenceGQkvIdeal.nD → PrngReg), Pre_GQkvIdeal m →
    (∀ c : Dev Cert.GQkvIdeal.nD,
      m' ((c.tc : Thread Cert.ReferenceGQkvIdeal.nD Cert.ReferenceGQkvIdeal.τ).loc Cert.ReferenceGQkvIdeal.main_arg0) = m ((c.tc : Thread Cert.GQkvIdeal.nD Cert.GQkvIdeal.τ).loc Cert.GQkvIdeal.main_arg0)
      ∧ m' ((c.tc : Thread Cert.ReferenceGQkvIdeal.nD Cert.ReferenceGQkvIdeal.τ).loc Cert.ReferenceGQkvIdeal.main_arg1) = m ((c.tc : Thread Cert.GQkvIdeal.nD Cert.GQkvIdeal.τ).loc Cert.GQkvIdeal.main_arg1)) →
    ∃ (v0 : (c : Dev Cert.GQkvIdeal.nD) → Buf (Elt Ideal) ((c.tc : Thread Cert.GQkvIdeal.nD Cert.GQkvIdeal.τ).loc Cert.GQkvIdeal.main_v0)),
      θ_run (Cert.GQkvIdeal.defs (F := Ideal)) (onTc (τ := Cert.GQkvIdeal.τ) (Cert.GQkvIdeal.main (F := Ideal))) ⟨m, fun _ => 0, g⟩ (fun r => ∀ c : Dev Cert.GQkvIdeal.nD,
          r.2.mem ((c.tc : Thread Cert.GQkvIdeal.nD Cert.GQkvIdeal.τ).loc Cert.GQkvIdeal.main_v0) = v0 c
          ∧ r.2.mem ((c.tc : Thread Cert.GQkvIdeal.nD Cert.GQkvIdeal.τ).loc Cert.GQkvIdeal.main_arg0) = m ((c.tc : Thread Cert.GQkvIdeal.nD Cert.GQkvIdeal.τ).loc Cert.GQkvIdeal.main_arg0)
          ∧ r.2.mem ((c.tc : Thread Cert.GQkvIdeal.nD Cert.GQkvIdeal.τ).loc Cert.GQkvIdeal.main_arg1) = m ((c.tc : Thread Cert.GQkvIdeal.nD Cert.GQkvIdeal.τ).loc Cert.GQkvIdeal.main_arg1))
      ∧ θ_run (Cert.ReferenceGQkvIdeal.defs (F := Ideal)) (onTc (τ := Cert.ReferenceGQkvIdeal.τ) (Cert.ReferenceGQkvIdeal.main (F := Ideal))) ⟨m', fun _ => 0, g'⟩ (fun r => ∀ c : Dev Cert.ReferenceGQkvIdeal.nD,
          r.2.mem ((c.tc : Thread Cert.ReferenceGQkvIdeal.nD Cert.ReferenceGQkvIdeal.τ).loc Cert.ReferenceGQkvIdeal.main_v6) = v0 c
          ∧ r.2.mem ((c.tc : Thread Cert.ReferenceGQkvIdeal.nD Cert.ReferenceGQkvIdeal.τ).loc Cert.ReferenceGQkvIdeal.main_arg0) = m' ((c.tc : Thread Cert.ReferenceGQkvIdeal.nD Cert.ReferenceGQkvIdeal.τ).loc Cert.ReferenceGQkvIdeal.main_arg0)
          ∧ r.2.mem ((c.tc : Thread Cert.ReferenceGQkvIdeal.nD Cert.ReferenceGQkvIdeal.τ).loc Cert.ReferenceGQkvIdeal.main_arg1) = m' ((c.tc : Thread Cert.ReferenceGQkvIdeal.nD Cert.ReferenceGQkvIdeal.τ).loc Cert.ReferenceGQkvIdeal.main_arg1))

def preserves_GAux_GAuxIdeal : Prop :=
  True

def algebraic_GAuxIdeal_ReferenceGAuxIdeal [hGAuxIdeal : Cert.GAuxIdeal.Facts] [hReferenceGAuxIdeal : Cert.ReferenceGAuxIdeal.Facts] : Prop :=
  ∀ (m : (ℓ : Loc Cert.GAuxIdeal.nD Cert.GAuxIdeal.τ Cert.GAuxIdeal.sig) → Buf (Elt Ideal) ℓ) (g : Dev Cert.GAuxIdeal.nD → PrngReg)
    (m' : (ℓ : Loc Cert.ReferenceGAuxIdeal.nD Cert.ReferenceGAuxIdeal.τ Cert.ReferenceGAuxIdeal.sig) → Buf (Elt Ideal) ℓ) (g' : Dev Cert.ReferenceGAuxIdeal.nD → PrngReg), Pre_GAuxIdeal m →
    (∀ c : Dev Cert.GAuxIdeal.nD,
      m' ((c.tc : Thread Cert.ReferenceGAuxIdeal.nD Cert.ReferenceGAuxIdeal.τ).loc Cert.ReferenceGAuxIdeal.main_arg0) = m ((c.tc : Thread Cert.GAuxIdeal.nD Cert.GAuxIdeal.τ).loc Cert.GAuxIdeal.main_arg0)
      ∧ m' ((c.tc : Thread Cert.ReferenceGAuxIdeal.nD Cert.ReferenceGAuxIdeal.τ).loc Cert.ReferenceGAuxIdeal.main_arg1) = m ((c.tc : Thread Cert.GAuxIdeal.nD Cert.GAuxIdeal.τ).loc Cert.GAuxIdeal.main_arg1)) →
    ∃ (v0 : (c : Dev Cert.GAuxIdeal.nD) → Buf (Elt Ideal) ((c.tc : Thread Cert.GAuxIdeal.nD Cert.GAuxIdeal.τ).loc Cert.GAuxIdeal.main_v0)),
      θ_run (Cert.GAuxIdeal.defs (F := Ideal)) (onTc (τ := Cert.GAuxIdeal.τ) (Cert.GAuxIdeal.main (F := Ideal))) ⟨m, fun _ => 0, g⟩ (fun r => ∀ c : Dev Cert.GAuxIdeal.nD,
          r.2.mem ((c.tc : Thread Cert.GAuxIdeal.nD Cert.GAuxIdeal.τ).loc Cert.GAuxIdeal.main_v0) = v0 c
          ∧ r.2.mem ((c.tc : Thread Cert.GAuxIdeal.nD Cert.GAuxIdeal.τ).loc Cert.GAuxIdeal.main_arg0) = m ((c.tc : Thread Cert.GAuxIdeal.nD Cert.GAuxIdeal.τ).loc Cert.GAuxIdeal.main_arg0)
          ∧ r.2.mem ((c.tc : Thread Cert.GAuxIdeal.nD Cert.GAuxIdeal.τ).loc Cert.GAuxIdeal.main_arg1) = m ((c.tc : Thread Cert.GAuxIdeal.nD Cert.GAuxIdeal.τ).loc Cert.GAuxIdeal.main_arg1))
      ∧ θ_run (Cert.ReferenceGAuxIdeal.defs (F := Ideal)) (onTc (τ := Cert.ReferenceGAuxIdeal.τ) (Cert.ReferenceGAuxIdeal.main (F := Ideal))) ⟨m', fun _ => 0, g'⟩ (fun r => ∀ c : Dev Cert.ReferenceGAuxIdeal.nD,
          r.2.mem ((c.tc : Thread Cert.ReferenceGAuxIdeal.nD Cert.ReferenceGAuxIdeal.τ).loc Cert.ReferenceGAuxIdeal.main_v5) = v0 c
          ∧ r.2.mem ((c.tc : Thread Cert.ReferenceGAuxIdeal.nD Cert.ReferenceGAuxIdeal.τ).loc Cert.ReferenceGAuxIdeal.main_arg0) = m' ((c.tc : Thread Cert.ReferenceGAuxIdeal.nD Cert.ReferenceGAuxIdeal.τ).loc Cert.ReferenceGAuxIdeal.main_arg0)
          ∧ r.2.mem ((c.tc : Thread Cert.ReferenceGAuxIdeal.nD Cert.ReferenceGAuxIdeal.τ).loc Cert.ReferenceGAuxIdeal.main_arg1) = m' ((c.tc : Thread Cert.ReferenceGAuxIdeal.nD Cert.ReferenceGAuxIdeal.τ).loc Cert.ReferenceGAuxIdeal.main_arg1))

def preserves_DMixed_DMixedIdeal : Prop :=
  True

def algebraic_DMixedIdeal_ReferenceDMixedIdeal [hDMixedIdeal : Cert.DMixedIdeal.Facts] [hReferenceDMixedIdeal : Cert.ReferenceDMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.ReferenceDMixedIdeal.nD Cert.ReferenceDMixedIdeal.τ Cert.ReferenceDMixedIdeal.sig) → Buf (Elt Ideal) ℓ) (g' : Dev Cert.ReferenceDMixedIdeal.nD → PrngReg), Pre_DMixedIdeal m →
    (∀ c : Dev Cert.DMixedIdeal.nD,
      m' ((c.tc : Thread Cert.ReferenceDMixedIdeal.nD Cert.ReferenceDMixedIdeal.τ).loc Cert.ReferenceDMixedIdeal.main_arg0) = m ((c.tc : Thread Cert.DMixedIdeal.nD Cert.DMixedIdeal.τ).loc Cert.DMixedIdeal.main_arg0)
      ∧ m' ((c.tc : Thread Cert.ReferenceDMixedIdeal.nD Cert.ReferenceDMixedIdeal.τ).loc Cert.ReferenceDMixedIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.ReferenceDMixedIdeal.defs (F := Ideal)) (onTc (τ := Cert.ReferenceDMixedIdeal.τ) (Cert.ReferenceDMixedIdeal.main (F := Ideal))) ⟨m', fun _ => 0, g'⟩ (fun r => ∀ c : Dev Cert.ReferenceDMixedIdeal.nD,
          r.2.mem ((c.tc : Thread Cert.ReferenceDMixedIdeal.nD Cert.ReferenceDMixedIdeal.τ).loc Cert.ReferenceDMixedIdeal.main_v3) = v0 c
          ∧ r.2.mem ((c.tc : Thread Cert.ReferenceDMixedIdeal.nD Cert.ReferenceDMixedIdeal.τ).loc Cert.ReferenceDMixedIdeal.main_arg0) = m' ((c.tc : Thread Cert.ReferenceDMixedIdeal.nD Cert.ReferenceDMixedIdeal.τ).loc Cert.ReferenceDMixedIdeal.main_arg0)
          ∧ r.2.mem ((c.tc : Thread Cert.ReferenceDMixedIdeal.nD Cert.ReferenceDMixedIdeal.τ).loc Cert.ReferenceDMixedIdeal.main_arg1) = m' ((c.tc : Thread Cert.ReferenceDMixedIdeal.nD Cert.ReferenceDMixedIdeal.τ).loc Cert.ReferenceDMixedIdeal.main_arg1))

def preserves_GOut_GOutIdeal : Prop :=
  True

def algebraic_GOutIdeal_ReferenceGOutIdeal [hGOutIdeal : Cert.GOutIdeal.Facts] [hReferenceGOutIdeal : Cert.ReferenceGOutIdeal.Facts] : Prop :=
  ∀ (m : (ℓ : Loc Cert.GOutIdeal.nD Cert.GOutIdeal.τ Cert.GOutIdeal.sig) → Buf (Elt Ideal) ℓ) (g : Dev Cert.GOutIdeal.nD → PrngReg)
    (m' : (ℓ : Loc Cert.ReferenceGOutIdeal.nD Cert.ReferenceGOutIdeal.τ Cert.ReferenceGOutIdeal.sig) → Buf (Elt Ideal) ℓ) (g' : Dev Cert.ReferenceGOutIdeal.nD → PrngReg), Pre_GOutIdeal m →
    (∀ c : Dev Cert.GOutIdeal.nD,
      m' ((c.tc : Thread Cert.ReferenceGOutIdeal.nD Cert.ReferenceGOutIdeal.τ).loc Cert.ReferenceGOutIdeal.main_arg0) = m ((c.tc : Thread Cert.GOutIdeal.nD Cert.GOutIdeal.τ).loc Cert.GOutIdeal.main_arg0)
      ∧ m' ((c.tc : Thread Cert.ReferenceGOutIdeal.nD Cert.ReferenceGOutIdeal.τ).loc Cert.ReferenceGOutIdeal.main_arg1) = m ((c.tc : Thread Cert.GOutIdeal.nD Cert.GOutIdeal.τ).loc Cert.GOutIdeal.main_arg1)) →
    ∃ (v0 : (c : Dev Cert.GOutIdeal.nD) → Buf (Elt Ideal) ((c.tc : Thread Cert.GOutIdeal.nD Cert.GOutIdeal.τ).loc Cert.GOutIdeal.main_v0)),
      θ_run (Cert.GOutIdeal.defs (F := Ideal)) (onTc (τ := Cert.GOutIdeal.τ) (Cert.GOutIdeal.main (F := Ideal))) ⟨m, fun _ => 0, g⟩ (fun r => ∀ c : Dev Cert.GOutIdeal.nD,
          r.2.mem ((c.tc : Thread Cert.GOutIdeal.nD Cert.GOutIdeal.τ).loc Cert.GOutIdeal.main_v0) = v0 c
          ∧ r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
          ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ θ_run (Cert.ReferenceGOutIdeal.defs (F := Ideal)) (onTc (τ := Cert.ReferenceGOutIdeal.τ) (Cert.ReferenceGOutIdeal.main (F := Ideal))) ⟨m', fun _ => 0, g'⟩ (fun r => ∀ c : Dev Cert.ReferenceGOutIdeal.nD,
          r.2.mem ((c.tc : Thread Cert.ReferenceGOutIdeal.nD Cert.ReferenceGOutIdeal.τ).loc Cert.ReferenceGOutIdeal.main_v5) = v0 c
          ∧ r.2.mem ((c.tc : Thread Cert.ReferenceGOutIdeal.nD Cert.ReferenceGOutIdeal.τ).loc Cert.ReferenceGOutIdeal.main_arg0) = m' ((c.tc : Thread Cert.ReferenceGOutIdeal.nD Cert.ReferenceGOutIdeal.τ).loc Cert.ReferenceGOutIdeal.main_arg0)
          ∧ r.2.mem ((c.tc : Thread Cert.ReferenceGOutIdeal.nD Cert.ReferenceGOutIdeal.τ).loc Cert.ReferenceGOutIdeal.main_arg1) = m' ((c.tc : Thread Cert.ReferenceGOutIdeal.nD Cert.ReferenceGOutIdeal.τ).loc Cert.ReferenceGOutIdeal.main_arg1))

def preserves_DOc_DOcIdeal : Prop :=
  True

def algebraic_DOcIdeal_ReferenceDOcIdeal [hDOcIdeal : Cert.DOcIdeal.Facts] [hReferenceDOcIdeal : Cert.ReferenceDOcIdeal.Facts] : Prop :=
  ∀ (m : (ℓ : Loc Cert.DOcIdeal.nD Cert.DOcIdeal.τ Cert.DOcIdeal.sig) → Buf (Elt Ideal) ℓ) (g : Dev Cert.DOcIdeal.nD → PrngReg)
    (m' : (ℓ : Loc Cert.ReferenceDOcIdeal.nD Cert.ReferenceDOcIdeal.τ Cert.ReferenceDOcIdeal.sig) → Buf (Elt Ideal) ℓ) (g' : Dev Cert.ReferenceDOcIdeal.nD → PrngReg), Pre_DOcIdeal m →
    (∀ c : Dev Cert.DOcIdeal.nD,
      m' ((c.tc : Thread Cert.ReferenceDOcIdeal.nD Cert.ReferenceDOcIdeal.τ).loc Cert.ReferenceDOcIdeal.main_arg0) = m ((c.tc : Thread Cert.DOcIdeal.nD Cert.DOcIdeal.τ).loc Cert.DOcIdeal.main_arg0)
      ∧ m' ((c.tc : Thread Cert.ReferenceDOcIdeal.nD Cert.ReferenceDOcIdeal.τ).loc Cert.ReferenceDOcIdeal.main_arg1) = m ((c.tc : Thread Cert.DOcIdeal.nD Cert.DOcIdeal.τ).loc Cert.DOcIdeal.main_arg1)) →
    ∃ (v0 : (c : Dev Cert.DOcIdeal.nD) → Buf (Elt Ideal) ((c.tc : Thread Cert.DOcIdeal.nD Cert.DOcIdeal.τ).loc Cert.DOcIdeal.main_v0)),
      θ_run (Cert.DOcIdeal.defs (F := Ideal)) (onTc (τ := Cert.DOcIdeal.τ) (Cert.DOcIdeal.main (F := Ideal))) ⟨m, fun _ => 0, g⟩ (fun r => ∀ c : Dev Cert.DOcIdeal.nD,
          r.2.mem ((c.tc : Thread Cert.DOcIdeal.nD Cert.DOcIdeal.τ).loc Cert.DOcIdeal.main_v0) = v0 c
          ∧ r.2.mem ((c.tc : Thread Cert.DOcIdeal.nD Cert.DOcIdeal.τ).loc Cert.DOcIdeal.main_arg0) = m ((c.tc : Thread Cert.DOcIdeal.nD Cert.DOcIdeal.τ).loc Cert.DOcIdeal.main_arg0)
          ∧ r.2.mem ((c.tc : Thread Cert.DOcIdeal.nD Cert.DOcIdeal.τ).loc Cert.DOcIdeal.main_arg1) = m ((c.tc : Thread Cert.DOcIdeal.nD Cert.DOcIdeal.τ).loc Cert.DOcIdeal.main_arg1))
      ∧ θ_run (Cert.ReferenceDOcIdeal.defs (F := Ideal)) (onTc (τ := Cert.ReferenceDOcIdeal.τ) (Cert.ReferenceDOcIdeal.main (F := Ideal))) ⟨m', fun _ => 0, g'⟩ (fun r => ∀ c : Dev Cert.ReferenceDOcIdeal.nD,
          r.2.mem ((c.tc : Thread Cert.ReferenceDOcIdeal.nD Cert.ReferenceDOcIdeal.τ).loc Cert.ReferenceDOcIdeal.main_v4) = v0 c
          ∧ r.2.mem ((c.tc : Thread Cert.ReferenceDOcIdeal.nD Cert.ReferenceDOcIdeal.τ).loc Cert.ReferenceDOcIdeal.main_arg0) = m' ((c.tc : Thread Cert.ReferenceDOcIdeal.nD Cert.ReferenceDOcIdeal.τ).loc Cert.ReferenceDOcIdeal.main_arg0)
          ∧ r.2.mem ((c.tc : Thread Cert.ReferenceDOcIdeal.nD Cert.ReferenceDOcIdeal.τ).loc Cert.ReferenceDOcIdeal.main_arg1) = m' ((c.tc : Thread Cert.ReferenceDOcIdeal.nD Cert.ReferenceDOcIdeal.τ).loc Cert.ReferenceDOcIdeal.main_arg1))

def preserves_GCo_GCoIdeal : Prop :=
  True

def algebraic_GCoIdeal_ReferenceGCoIdeal [hGCoIdeal : Cert.GCoIdeal.Facts] [hReferenceGCoIdeal : Cert.ReferenceGCoIdeal.Facts] : Prop :=
  ∀ (m : (ℓ : Loc Cert.GCoIdeal.nD Cert.GCoIdeal.τ Cert.GCoIdeal.sig) → Buf (Elt Ideal) ℓ) (g : Dev Cert.GCoIdeal.nD → PrngReg)
    (m' : (ℓ : Loc Cert.ReferenceGCoIdeal.nD Cert.ReferenceGCoIdeal.τ Cert.ReferenceGCoIdeal.sig) → Buf (Elt Ideal) ℓ) (g' : Dev Cert.ReferenceGCoIdeal.nD → PrngReg), Pre_GCoIdeal m →
    (∀ c : Dev Cert.GCoIdeal.nD,
      m' ((c.tc : Thread Cert.ReferenceGCoIdeal.nD Cert.ReferenceGCoIdeal.τ).loc Cert.ReferenceGCoIdeal.main_arg0) = m ((c.tc : Thread Cert.GCoIdeal.nD Cert.GCoIdeal.τ).loc Cert.GCoIdeal.main_arg0)
      ∧ m' ((c.tc : Thread Cert.ReferenceGCoIdeal.nD Cert.ReferenceGCoIdeal.τ).loc Cert.ReferenceGCoIdeal.main_arg1) = m ((c.tc : Thread Cert.GCoIdeal.nD Cert.GCoIdeal.τ).loc Cert.GCoIdeal.main_arg1)) →
    ∃ (v0 : (c : Dev Cert.GCoIdeal.nD) → Buf (Elt Ideal) ((c.tc : Thread Cert.GCoIdeal.nD Cert.GCoIdeal.τ).loc Cert.GCoIdeal.main_v0)),
      θ_run (Cert.GCoIdeal.defs (F := Ideal)) (onTc (τ := Cert.GCoIdeal.τ) (Cert.GCoIdeal.main (F := Ideal))) ⟨m, fun _ => 0, g⟩ (fun r => ∀ c : Dev Cert.GCoIdeal.nD,
          r.2.mem ((c.tc : Thread Cert.GCoIdeal.nD Cert.GCoIdeal.τ).loc Cert.GCoIdeal.main_v0) = v0 c
          ∧ r.2.mem ((c.tc : Thread Cert.GCoIdeal.nD Cert.GCoIdeal.τ).loc Cert.GCoIdeal.main_arg0) = m ((c.tc : Thread Cert.GCoIdeal.nD Cert.GCoIdeal.τ).loc Cert.GCoIdeal.main_arg0)
          ∧ r.2.mem ((c.tc : Thread Cert.GCoIdeal.nD Cert.GCoIdeal.τ).loc Cert.GCoIdeal.main_arg1) = m ((c.tc : Thread Cert.GCoIdeal.nD Cert.GCoIdeal.τ).loc Cert.GCoIdeal.main_arg1))
      ∧ θ_run (Cert.ReferenceGCoIdeal.defs (F := Ideal)) (onTc (τ := Cert.ReferenceGCoIdeal.τ) (Cert.ReferenceGCoIdeal.main (F := Ideal))) ⟨m', fun _ => 0, g'⟩ (fun r => ∀ c : Dev Cert.ReferenceGCoIdeal.nD,
          r.2.mem ((c.tc : Thread Cert.ReferenceGCoIdeal.nD Cert.ReferenceGCoIdeal.τ).loc Cert.ReferenceGCoIdeal.main_v7) = v0 c
          ∧ r.2.mem ((c.tc : Thread Cert.ReferenceGCoIdeal.nD Cert.ReferenceGCoIdeal.τ).loc Cert.ReferenceGCoIdeal.main_arg0) = m' ((c.tc : Thread Cert.ReferenceGCoIdeal.nD Cert.ReferenceGCoIdeal.τ).loc Cert.ReferenceGCoIdeal.main_arg0)
          ∧ r.2.mem ((c.tc : Thread Cert.ReferenceGCoIdeal.nD Cert.ReferenceGCoIdeal.τ).loc Cert.ReferenceGCoIdeal.main_arg1) = m' ((c.tc : Thread Cert.ReferenceGCoIdeal.nD Cert.ReferenceGCoIdeal.τ).loc Cert.ReferenceGCoIdeal.main_arg1))

def preserves_DHq_DHqIdeal : Prop :=
  True

def algebraic_DHqIdeal_ReferenceDHqIdeal [hDHqIdeal : Cert.DHqIdeal.Facts] [hReferenceDHqIdeal : Cert.ReferenceDHqIdeal.Facts] : Prop :=
  ∀ (m : (ℓ : Loc Cert.DHqIdeal.nD Cert.DHqIdeal.τ Cert.DHqIdeal.sig) → Buf (Elt Ideal) ℓ) (g : Dev Cert.DHqIdeal.nD → PrngReg)
    (m' : (ℓ : Loc Cert.ReferenceDHqIdeal.nD Cert.ReferenceDHqIdeal.τ Cert.ReferenceDHqIdeal.sig) → Buf (Elt Ideal) ℓ) (g' : Dev Cert.ReferenceDHqIdeal.nD → PrngReg), Pre_DHqIdeal m →
    (∀ c : Dev Cert.DHqIdeal.nD,
      m' ((c.tc : Thread Cert.ReferenceDHqIdeal.nD Cert.ReferenceDHqIdeal.τ).loc Cert.ReferenceDHqIdeal.main_arg0) = m ((c.tc : Thread Cert.DHqIdeal.nD Cert.DHqIdeal.τ).loc Cert.DHqIdeal.main_arg0)
      ∧ m' ((c.tc : Thread Cert.ReferenceDHqIdeal.nD Cert.ReferenceDHqIdeal.τ).loc Cert.ReferenceDHqIdeal.main_arg1) = m ((c.tc : Thread Cert.DHqIdeal.nD Cert.DHqIdeal.τ).loc Cert.DHqIdeal.main_arg1)) →
    ∃ (v0 : (c : Dev Cert.DHqIdeal.nD) → Buf (Elt Ideal) ((c.tc : Thread Cert.DHqIdeal.nD Cert.DHqIdeal.τ).loc Cert.DHqIdeal.main_v0)),
      θ_run (Cert.DHqIdeal.defs (F := Ideal)) (onTc (τ := Cert.DHqIdeal.τ) (Cert.DHqIdeal.main (F := Ideal))) ⟨m, fun _ => 0, g⟩ (fun r => ∀ c : Dev Cert.DHqIdeal.nD,
          r.2.mem ((c.tc : Thread Cert.DHqIdeal.nD Cert.DHqIdeal.τ).loc Cert.DHqIdeal.main_v0) = v0 c
          ∧ r.2.mem ((c.tc : Thread Cert.DHqIdeal.nD Cert.DHqIdeal.τ).loc Cert.DHqIdeal.main_arg0) = m ((c.tc : Thread Cert.DHqIdeal.nD Cert.DHqIdeal.τ).loc Cert.DHqIdeal.main_arg0)
          ∧ r.2.mem ((c.tc : Thread Cert.DHqIdeal.nD Cert.DHqIdeal.τ).loc Cert.DHqIdeal.main_arg1) = m ((c.tc : Thread Cert.DHqIdeal.nD Cert.DHqIdeal.τ).loc Cert.DHqIdeal.main_arg1))
      ∧ θ_run (Cert.ReferenceDHqIdeal.defs (F := Ideal)) (onTc (τ := Cert.ReferenceDHqIdeal.τ) (Cert.ReferenceDHqIdeal.main (F := Ideal))) ⟨m', fun _ => 0, g'⟩ (fun r => ∀ c : Dev Cert.ReferenceDHqIdeal.nD,
          r.2.mem ((c.tc : Thread Cert.ReferenceDHqIdeal.nD Cert.ReferenceDHqIdeal.τ).loc Cert.ReferenceDHqIdeal.main_v4) = v0 c
          ∧ r.2.mem ((c.tc : Thread Cert.ReferenceDHqIdeal.nD Cert.ReferenceDHqIdeal.τ).loc Cert.ReferenceDHqIdeal.main_arg0) = m' ((c.tc : Thread Cert.ReferenceDHqIdeal.nD Cert.ReferenceDHqIdeal.τ).loc Cert.ReferenceDHqIdeal.main_arg0)
          ∧ r.2.mem ((c.tc : Thread Cert.ReferenceDHqIdeal.nD Cert.ReferenceDHqIdeal.τ).loc Cert.ReferenceDHqIdeal.main_arg1) = m' ((c.tc : Thread Cert.ReferenceDHqIdeal.nD Cert.ReferenceDHqIdeal.τ).loc Cert.ReferenceDHqIdeal.main_arg1))

def preserves_GCq_GCqIdeal : Prop :=
  True

def algebraic_GCqIdeal_ReferenceGCqIdeal [hGCqIdeal : Cert.GCqIdeal.Facts] [hReferenceGCqIdeal : Cert.ReferenceGCqIdeal.Facts] : Prop :=
  ∀ (m : (ℓ : Loc Cert.GCqIdeal.nD Cert.GCqIdeal.τ Cert.GCqIdeal.sig) → Buf (Elt Ideal) ℓ) (g : Dev Cert.GCqIdeal.nD → PrngReg)
    (m' : (ℓ : Loc Cert.ReferenceGCqIdeal.nD Cert.ReferenceGCqIdeal.τ Cert.ReferenceGCqIdeal.sig) → Buf (Elt Ideal) ℓ) (g' : Dev Cert.ReferenceGCqIdeal.nD → PrngReg), Pre_GCqIdeal m →
    (∀ c : Dev Cert.GCqIdeal.nD,
      m' ((c.tc : Thread Cert.ReferenceGCqIdeal.nD Cert.ReferenceGCqIdeal.τ).loc Cert.ReferenceGCqIdeal.main_arg0) = m ((c.tc : Thread Cert.GCqIdeal.nD Cert.GCqIdeal.τ).loc Cert.GCqIdeal.main_arg0)
      ∧ m' ((c.tc : Thread Cert.ReferenceGCqIdeal.nD Cert.ReferenceGCqIdeal.τ).loc Cert.ReferenceGCqIdeal.main_arg1) = m ((c.tc : Thread Cert.GCqIdeal.nD Cert.GCqIdeal.τ).loc Cert.GCqIdeal.main_arg1)) →
    ∃ (v0 : (c : Dev Cert.GCqIdeal.nD) → Buf (Elt Ideal) ((c.tc : Thread Cert.GCqIdeal.nD Cert.GCqIdeal.τ).loc Cert.GCqIdeal.main_v0)),
      θ_run (Cert.GCqIdeal.defs (F := Ideal)) (onTc (τ := Cert.GCqIdeal.τ) (Cert.GCqIdeal.main (F := Ideal))) ⟨m, fun _ => 0, g⟩ (fun r => ∀ c : Dev Cert.GCqIdeal.nD,
          r.2.mem ((c.tc : Thread Cert.GCqIdeal.nD Cert.GCqIdeal.τ).loc Cert.GCqIdeal.main_v0) = v0 c
          ∧ r.2.mem ((c.tc : Thread Cert.GCqIdeal.nD Cert.GCqIdeal.τ).loc Cert.GCqIdeal.main_arg0) = m ((c.tc : Thread Cert.GCqIdeal.nD Cert.GCqIdeal.τ).loc Cert.GCqIdeal.main_arg0)
          ∧ r.2.mem ((c.tc : Thread Cert.GCqIdeal.nD Cert.GCqIdeal.τ).loc Cert.GCqIdeal.main_arg1) = m ((c.tc : Thread Cert.GCqIdeal.nD Cert.GCqIdeal.τ).loc Cert.GCqIdeal.main_arg1))
      ∧ θ_run (Cert.ReferenceGCqIdeal.defs (F := Ideal)) (onTc (τ := Cert.ReferenceGCqIdeal.τ) (Cert.ReferenceGCqIdeal.main (F := Ideal))) ⟨m', fun _ => 0, g'⟩ (fun r => ∀ c : Dev Cert.ReferenceGCqIdeal.nD,
          r.2.mem ((c.tc : Thread Cert.ReferenceGCqIdeal.nD Cert.ReferenceGCqIdeal.τ).loc Cert.ReferenceGCqIdeal.main_v6) = v0 c
          ∧ r.2.mem ((c.tc : Thread Cert.ReferenceGCqIdeal.nD Cert.ReferenceGCqIdeal.τ).loc Cert.ReferenceGCqIdeal.main_arg0) = m' ((c.tc : Thread Cert.ReferenceGCqIdeal.nD Cert.ReferenceGCqIdeal.τ).loc Cert.ReferenceGCqIdeal.main_arg0)
          ∧ r.2.mem ((c.tc : Thread Cert.ReferenceGCqIdeal.nD Cert.ReferenceGCqIdeal.τ).loc Cert.ReferenceGCqIdeal.main_arg1) = m' ((c.tc : Thread Cert.ReferenceGCqIdeal.nD Cert.ReferenceGCqIdeal.τ).loc Cert.ReferenceGCqIdeal.main_arg1))

def preserves_DMemn_DMemnIdeal : Prop :=
  True

def algebraic_DMemnIdeal_ReferenceDMemnIdeal [hDMemnIdeal : Cert.DMemnIdeal.Facts] [hReferenceDMemnIdeal : Cert.ReferenceDMemnIdeal.Facts] : Prop :=
  ∀ (m : (ℓ : Loc Cert.DMemnIdeal.nD Cert.DMemnIdeal.τ Cert.DMemnIdeal.sig) → Buf (Elt Ideal) ℓ) (g : Dev Cert.DMemnIdeal.nD → PrngReg)
    (m' : (ℓ : Loc Cert.ReferenceDMemnIdeal.nD Cert.ReferenceDMemnIdeal.τ Cert.ReferenceDMemnIdeal.sig) → Buf (Elt Ideal) ℓ) (g' : Dev Cert.ReferenceDMemnIdeal.nD → PrngReg), Pre_DMemnIdeal m →
    (∀ c : Dev Cert.DMemnIdeal.nD,
      m' ((c.tc : Thread Cert.ReferenceDMemnIdeal.nD Cert.ReferenceDMemnIdeal.τ).loc Cert.ReferenceDMemnIdeal.main_arg0) = m ((c.tc : Thread Cert.DMemnIdeal.nD Cert.DMemnIdeal.τ).loc Cert.DMemnIdeal.main_arg0)
      ∧ m' ((c.tc : Thread Cert.ReferenceDMemnIdeal.nD Cert.ReferenceDMemnIdeal.τ).loc Cert.ReferenceDMemnIdeal.main_arg1) = m ((c.tc : Thread Cert.DMemnIdeal.nD Cert.DMemnIdeal.τ).loc Cert.DMemnIdeal.main_arg1)) →
    ∃ (v0 : (c : Dev Cert.DMemnIdeal.nD) → Buf (Elt Ideal) ((c.tc : Thread Cert.DMemnIdeal.nD Cert.DMemnIdeal.τ).loc Cert.DMemnIdeal.main_v0)),
      θ_run (Cert.DMemnIdeal.defs (F := Ideal)) (onTc (τ := Cert.DMemnIdeal.τ) (Cert.DMemnIdeal.main (F := Ideal))) ⟨m, fun _ => 0, g⟩ (fun r => ∀ c : Dev Cert.DMemnIdeal.nD,
          r.2.mem ((c.tc : Thread Cert.DMemnIdeal.nD Cert.DMemnIdeal.τ).loc Cert.DMemnIdeal.main_v0) = v0 c
          ∧ r.2.mem ((c.tc : Thread Cert.DMemnIdeal.nD Cert.DMemnIdeal.τ).loc Cert.DMemnIdeal.main_arg0) = m ((c.tc : Thread Cert.DMemnIdeal.nD Cert.DMemnIdeal.τ).loc Cert.DMemnIdeal.main_arg0)
          ∧ r.2.mem ((c.tc : Thread Cert.DMemnIdeal.nD Cert.DMemnIdeal.τ).loc Cert.DMemnIdeal.main_arg1) = m ((c.tc : Thread Cert.DMemnIdeal.nD Cert.DMemnIdeal.τ).loc Cert.DMemnIdeal.main_arg1))
      ∧ θ_run (Cert.ReferenceDMemnIdeal.defs (F := Ideal)) (onTc (τ := Cert.ReferenceDMemnIdeal.τ) (Cert.ReferenceDMemnIdeal.main (F := Ideal))) ⟨m', fun _ => 0, g'⟩ (fun r => ∀ c : Dev Cert.ReferenceDMemnIdeal.nD,
          r.2.mem ((c.tc : Thread Cert.ReferenceDMemnIdeal.nD Cert.ReferenceDMemnIdeal.τ).loc Cert.ReferenceDMemnIdeal.main_v3) = v0 c
          ∧ r.2.mem ((c.tc : Thread Cert.ReferenceDMemnIdeal.nD Cert.ReferenceDMemnIdeal.τ).loc Cert.ReferenceDMemnIdeal.main_arg0) = m' ((c.tc : Thread Cert.ReferenceDMemnIdeal.nD Cert.ReferenceDMemnIdeal.τ).loc Cert.ReferenceDMemnIdeal.main_arg0)
          ∧ r.2.mem ((c.tc : Thread Cert.ReferenceDMemnIdeal.nD Cert.ReferenceDMemnIdeal.τ).loc Cert.ReferenceDMemnIdeal.main_arg1) = m' ((c.tc : Thread Cert.ReferenceDMemnIdeal.nD Cert.ReferenceDMemnIdeal.τ).loc Cert.ReferenceDMemnIdeal.main_arg1))

def preserves_GCkv_GCkvIdeal : Prop :=
  True

def algebraic_GCkvIdeal_ReferenceGCkvIdeal [hGCkvIdeal : Cert.GCkvIdeal.Facts] [hReferenceGCkvIdeal : Cert.ReferenceGCkvIdeal.Facts] : Prop :=
  ∀ (m : (ℓ : Loc Cert.GCkvIdeal.nD Cert.GCkvIdeal.τ Cert.GCkvIdeal.sig) → Buf (Elt Ideal) ℓ) (g : Dev Cert.GCkvIdeal.nD → PrngReg)
    (m' : (ℓ : Loc Cert.ReferenceGCkvIdeal.nD Cert.ReferenceGCkvIdeal.τ Cert.ReferenceGCkvIdeal.sig) → Buf (Elt Ideal) ℓ) (g' : Dev Cert.ReferenceGCkvIdeal.nD → PrngReg), Pre_GCkvIdeal m →
    (∀ c : Dev Cert.GCkvIdeal.nD,
      m' ((c.tc : Thread Cert.ReferenceGCkvIdeal.nD Cert.ReferenceGCkvIdeal.τ).loc Cert.ReferenceGCkvIdeal.main_arg0) = m ((c.tc : Thread Cert.GCkvIdeal.nD Cert.GCkvIdeal.τ).loc Cert.GCkvIdeal.main_arg0)
      ∧ m' ((c.tc : Thread Cert.ReferenceGCkvIdeal.nD Cert.ReferenceGCkvIdeal.τ).loc Cert.ReferenceGCkvIdeal.main_arg1) = m ((c.tc : Thread Cert.GCkvIdeal.nD Cert.GCkvIdeal.τ).loc Cert.GCkvIdeal.main_arg1)) →
    ∃ (v0 : (c : Dev Cert.GCkvIdeal.nD) → Buf (Elt Ideal) ((c.tc : Thread Cert.GCkvIdeal.nD Cert.GCkvIdeal.τ).loc Cert.GCkvIdeal.main_v0)),
      θ_run (Cert.GCkvIdeal.defs (F := Ideal)) (onTc (τ := Cert.GCkvIdeal.τ) (Cert.GCkvIdeal.main (F := Ideal))) ⟨m, fun _ => 0, g⟩ (fun r => ∀ c : Dev Cert.GCkvIdeal.nD,
          r.2.mem ((c.tc : Thread Cert.GCkvIdeal.nD Cert.GCkvIdeal.τ).loc Cert.GCkvIdeal.main_v0) = v0 c
          ∧ r.2.mem ((c.tc : Thread Cert.GCkvIdeal.nD Cert.GCkvIdeal.τ).loc Cert.GCkvIdeal.main_arg0) = m ((c.tc : Thread Cert.GCkvIdeal.nD Cert.GCkvIdeal.τ).loc Cert.GCkvIdeal.main_arg0)
          ∧ r.2.mem ((c.tc : Thread Cert.GCkvIdeal.nD Cert.GCkvIdeal.τ).loc Cert.GCkvIdeal.main_arg1) = m ((c.tc : Thread Cert.GCkvIdeal.nD Cert.GCkvIdeal.τ).loc Cert.GCkvIdeal.main_arg1))
      ∧ θ_run (Cert.ReferenceGCkvIdeal.defs (F := Ideal)) (onTc (τ := Cert.ReferenceGCkvIdeal.τ) (Cert.ReferenceGCkvIdeal.main (F := Ideal))) ⟨m', fun _ => 0, g'⟩ (fun r => ∀ c : Dev Cert.ReferenceGCkvIdeal.nD,
          r.2.mem ((c.tc : Thread Cert.ReferenceGCkvIdeal.nD Cert.ReferenceGCkvIdeal.τ).loc Cert.ReferenceGCkvIdeal.main_v5) = v0 c
          ∧ r.2.mem ((c.tc : Thread Cert.ReferenceGCkvIdeal.nD Cert.ReferenceGCkvIdeal.τ).loc Cert.ReferenceGCkvIdeal.main_arg0) = m' ((c.tc : Thread Cert.ReferenceGCkvIdeal.nD Cert.ReferenceGCkvIdeal.τ).loc Cert.ReferenceGCkvIdeal.main_arg0)
          ∧ r.2.mem ((c.tc : Thread Cert.ReferenceGCkvIdeal.nD Cert.ReferenceGCkvIdeal.τ).loc Cert.ReferenceGCkvIdeal.main_arg1) = m' ((c.tc : Thread Cert.ReferenceGCkvIdeal.nD Cert.ReferenceGCkvIdeal.τ).loc Cert.ReferenceGCkvIdeal.main_arg1))

def preserves_FUp_FUpIdeal : Prop :=
  True

def algebraic_FUpIdeal_ReferenceFUpIdeal [hFUpIdeal : Cert.FUpIdeal.Facts] [hReferenceFUpIdeal : Cert.ReferenceFUpIdeal.Facts] : Prop :=
  ∀ (m : (ℓ : Loc Cert.FUpIdeal.nD Cert.FUpIdeal.τ Cert.FUpIdeal.sig) → Buf (Elt Ideal) ℓ) (g : Dev Cert.FUpIdeal.nD → PrngReg)
    (m' : (ℓ : Loc Cert.ReferenceFUpIdeal.nD Cert.ReferenceFUpIdeal.τ Cert.ReferenceFUpIdeal.sig) → Buf (Elt Ideal) ℓ) (g' : Dev Cert.ReferenceFUpIdeal.nD → PrngReg), Pre_FUpIdeal m →
    (∀ c : Dev Cert.FUpIdeal.nD,
      m' ((c.tc : Thread Cert.ReferenceFUpIdeal.nD Cert.ReferenceFUpIdeal.τ).loc Cert.ReferenceFUpIdeal.main_arg0) = m ((c.tc : Thread Cert.FUpIdeal.nD Cert.FUpIdeal.τ).loc Cert.FUpIdeal.main_arg0)
      ∧ m' ((c.tc : Thread Cert.ReferenceFUpIdeal.nD Cert.ReferenceFUpIdeal.τ).loc Cert.ReferenceFUpIdeal.main_arg1) = m ((c.tc : Thread Cert.FUpIdeal.nD Cert.FUpIdeal.τ).loc Cert.FUpIdeal.main_arg1)) →
    ∃ (v0 : (c : Dev Cert.FUpIdeal.nD) → Buf (Elt Ideal) ((c.tc : Thread Cert.FUpIdeal.nD Cert.FUpIdeal.τ).loc Cert.FUpIdeal.main_v0)),
      θ_run (Cert.FUpIdeal.defs (F := Ideal)) (onTc (τ := Cert.FUpIdeal.τ) (Cert.FUpIdeal.main (F := Ideal))) ⟨m, fun _ => 0, g⟩ (fun r => ∀ c : Dev Cert.FUpIdeal.nD,
          r.2.mem ((c.tc : Thread Cert.FUpIdeal.nD Cert.FUpIdeal.τ).loc Cert.FUpIdeal.main_v0) = v0 c
          ∧ r.2.mem ((c.tc : Thread Cert.FUpIdeal.nD Cert.FUpIdeal.τ).loc Cert.FUpIdeal.main_arg0) = m ((c.tc : Thread Cert.FUpIdeal.nD Cert.FUpIdeal.τ).loc Cert.FUpIdeal.main_arg0)
          ∧ r.2.mem ((c.tc : Thread Cert.FUpIdeal.nD Cert.FUpIdeal.τ).loc Cert.FUpIdeal.main_arg1) = m ((c.tc : Thread Cert.FUpIdeal.nD Cert.FUpIdeal.τ).loc Cert.FUpIdeal.main_arg1))
      ∧ θ_run (Cert.ReferenceFUpIdeal.defs (F := Ideal)) (onTc (τ := Cert.ReferenceFUpIdeal.τ) (Cert.ReferenceFUpIdeal.main (F := Ideal))) ⟨m', fun _ => 0, g'⟩ (fun r => ∀ c : Dev Cert.ReferenceFUpIdeal.nD,
          r.2.mem ((c.tc : Thread Cert.ReferenceFUpIdeal.nD Cert.ReferenceFUpIdeal.τ).loc Cert.ReferenceFUpIdeal.main_v3) = v0 c
          ∧ r.2.mem ((c.tc : Thread Cert.ReferenceFUpIdeal.nD Cert.ReferenceFUpIdeal.τ).loc Cert.ReferenceFUpIdeal.main_arg0) = m' ((c.tc : Thread Cert.ReferenceFUpIdeal.nD Cert.ReferenceFUpIdeal.τ).loc Cert.ReferenceFUpIdeal.main_arg0)
          ∧ r.2.mem ((c.tc : Thread Cert.ReferenceFUpIdeal.nD Cert.ReferenceFUpIdeal.τ).loc Cert.ReferenceFUpIdeal.main_arg1) = m' ((c.tc : Thread Cert.ReferenceFUpIdeal.nD Cert.ReferenceFUpIdeal.τ).loc Cert.ReferenceFUpIdeal.main_arg1))

def preserves_FDown_FDownIdeal : Prop :=
  True

def algebraic_FDownIdeal_ReferenceFDownIdeal [hFDownIdeal : Cert.FDownIdeal.Facts] [hReferenceFDownIdeal : Cert.ReferenceFDownIdeal.Facts] : Prop :=
  ∀ (m : (ℓ : Loc Cert.FDownIdeal.nD Cert.FDownIdeal.τ Cert.FDownIdeal.sig) → Buf (Elt Ideal) ℓ) (g : Dev Cert.FDownIdeal.nD → PrngReg)
    (m' : (ℓ : Loc Cert.ReferenceFDownIdeal.nD Cert.ReferenceFDownIdeal.τ Cert.ReferenceFDownIdeal.sig) → Buf (Elt Ideal) ℓ) (g' : Dev Cert.ReferenceFDownIdeal.nD → PrngReg), Pre_FDownIdeal m →
    (∀ c : Dev Cert.FDownIdeal.nD,
      m' ((c.tc : Thread Cert.ReferenceFDownIdeal.nD Cert.ReferenceFDownIdeal.τ).loc Cert.ReferenceFDownIdeal.main_arg0) = m ((c.tc : Thread Cert.FDownIdeal.nD Cert.FDownIdeal.τ).loc Cert.FDownIdeal.main_arg0)
      ∧ m' ((c.tc : Thread Cert.ReferenceFDownIdeal.nD Cert.ReferenceFDownIdeal.τ).loc Cert.ReferenceFDownIdeal.main_arg1) = m ((c.tc : Thread Cert.FDownIdeal.nD Cert.FDownIdeal.τ).loc Cert.FDownIdeal.main_arg1)
      ∧ m' ((c.tc : Thread Cert.ReferenceFDownIdeal.nD Cert.ReferenceFDownIdeal.τ).loc Cert.ReferenceFDownIdeal.main_arg2) = m ((c.tc : Thread Cert.FDownIdeal.nD Cert.FDownIdeal.τ).loc Cert.FDownIdeal.main_arg2)) →
    ∃ (v0 : (c : Dev Cert.FDownIdeal.nD) → Buf (Elt Ideal) ((c.tc : Thread Cert.FDownIdeal.nD Cert.FDownIdeal.τ).loc Cert.FDownIdeal.main_v0)),
      θ_run (Cert.FDownIdeal.defs (F := Ideal)) (onTc (τ := Cert.FDownIdeal.τ) (Cert.FDownIdeal.main (F := Ideal))) ⟨m, fun _ => 0, g⟩ (fun r => ∀ c : Dev Cert.FDownIdeal.nD,
          r.2.mem ((c.tc : Thread Cert.FDownIdeal.nD Cert.FDownIdeal.τ).loc Cert.FDownIdeal.main_v0) = v0 c
          ∧ r.2.mem ((c.tc : Thread Cert.FDownIdeal.nD Cert.FDownIdeal.τ).loc Cert.FDownIdeal.main_arg0) = m ((c.tc : Thread Cert.FDownIdeal.nD Cert.FDownIdeal.τ).loc Cert.FDownIdeal.main_arg0)
          ∧ r.2.mem ((c.tc : Thread Cert.FDownIdeal.nD Cert.FDownIdeal.τ).loc Cert.FDownIdeal.main_arg1) = m ((c.tc : Thread Cert.FDownIdeal.nD Cert.FDownIdeal.τ).loc Cert.FDownIdeal.main_arg1)
          ∧ r.2.mem ((c.tc : Thread Cert.FDownIdeal.nD Cert.FDownIdeal.τ).loc Cert.FDownIdeal.main_arg2) = m ((c.tc : Thread Cert.FDownIdeal.nD Cert.FDownIdeal.τ).loc Cert.FDownIdeal.main_arg2))
      ∧ θ_run (Cert.ReferenceFDownIdeal.defs (F := Ideal)) (onTc (τ := Cert.ReferenceFDownIdeal.τ) (Cert.ReferenceFDownIdeal.main (F := Ideal))) ⟨m', fun _ => 0, g'⟩ (fun r => ∀ c : Dev Cert.ReferenceFDownIdeal.nD,
          r.2.mem ((c.tc : Thread Cert.ReferenceFDownIdeal.nD Cert.ReferenceFDownIdeal.τ).loc Cert.ReferenceFDownIdeal.main_v3) = v0 c
          ∧ r.2.mem ((c.tc : Thread Cert.ReferenceFDownIdeal.nD Cert.ReferenceFDownIdeal.τ).loc Cert.ReferenceFDownIdeal.main_arg0) = m' ((c.tc : Thread Cert.ReferenceFDownIdeal.nD Cert.ReferenceFDownIdeal.τ).loc Cert.ReferenceFDownIdeal.main_arg0)
          ∧ r.2.mem ((c.tc : Thread Cert.ReferenceFDownIdeal.nD Cert.ReferenceFDownIdeal.τ).loc Cert.ReferenceFDownIdeal.main_arg1) = m' ((c.tc : Thread Cert.ReferenceFDownIdeal.nD Cert.ReferenceFDownIdeal.τ).loc Cert.ReferenceFDownIdeal.main_arg1)
          ∧ r.2.mem ((c.tc : Thread Cert.ReferenceFDownIdeal.nD Cert.ReferenceFDownIdeal.τ).loc Cert.ReferenceFDownIdeal.main_arg2) = m' ((c.tc : Thread Cert.ReferenceFDownIdeal.nD Cert.ReferenceFDownIdeal.τ).loc Cert.ReferenceFDownIdeal.main_arg2))

def preserves_FQkv_FQkvIdeal : Prop :=
  True

def algebraic_FQkvIdeal_ReferenceFQkvIdeal [hFQkvIdeal : Cert.FQkvIdeal.Facts] [hReferenceFQkvIdeal : Cert.ReferenceFQkvIdeal.Facts] : Prop :=
  ∀ (m : (ℓ : Loc Cert.FQkvIdeal.nD Cert.FQkvIdeal.τ Cert.FQkvIdeal.sig) → Buf (Elt Ideal) ℓ) (g : Dev Cert.FQkvIdeal.nD → PrngReg)
    (m' : (ℓ : Loc Cert.ReferenceFQkvIdeal.nD Cert.ReferenceFQkvIdeal.τ Cert.ReferenceFQkvIdeal.sig) → Buf (Elt Ideal) ℓ) (g' : Dev Cert.ReferenceFQkvIdeal.nD → PrngReg), Pre_FQkvIdeal m →
    (∀ c : Dev Cert.FQkvIdeal.nD,
      m' ((c.tc : Thread Cert.ReferenceFQkvIdeal.nD Cert.ReferenceFQkvIdeal.τ).loc Cert.ReferenceFQkvIdeal.main_arg0) = m ((c.tc : Thread Cert.FQkvIdeal.nD Cert.FQkvIdeal.τ).loc Cert.FQkvIdeal.main_arg0)
      ∧ m' ((c.tc : Thread Cert.ReferenceFQkvIdeal.nD Cert.ReferenceFQkvIdeal.τ).loc Cert.ReferenceFQkvIdeal.main_arg1) = m ((c.tc : Thread Cert.FQkvIdeal.nD Cert.FQkvIdeal.τ).loc Cert.FQkvIdeal.main_arg1)) →
    ∃ (v0 : (c : Dev Cert.FQkvIdeal.nD) → Buf (Elt Ideal) ((c.tc : Thread Cert.FQkvIdeal.nD Cert.FQkvIdeal.τ).loc Cert.FQkvIdeal.main_v0)),
      θ_run (Cert.FQkvIdeal.defs (F := Ideal)) (onTc (τ := Cert.FQkvIdeal.τ) (Cert.FQkvIdeal.main (F := Ideal))) ⟨m, fun _ => 0, g⟩ (fun r => ∀ c : Dev Cert.FQkvIdeal.nD,
          r.2.mem ((c.tc : Thread Cert.FQkvIdeal.nD Cert.FQkvIdeal.τ).loc Cert.FQkvIdeal.main_v0) = v0 c
          ∧ r.2.mem ((c.tc : Thread Cert.FQkvIdeal.nD Cert.FQkvIdeal.τ).loc Cert.FQkvIdeal.main_arg0) = m ((c.tc : Thread Cert.FQkvIdeal.nD Cert.FQkvIdeal.τ).loc Cert.FQkvIdeal.main_arg0)
          ∧ r.2.mem ((c.tc : Thread Cert.FQkvIdeal.nD Cert.FQkvIdeal.τ).loc Cert.FQkvIdeal.main_arg1) = m ((c.tc : Thread Cert.FQkvIdeal.nD Cert.FQkvIdeal.τ).loc Cert.FQkvIdeal.main_arg1))
      ∧ θ_run (Cert.ReferenceFQkvIdeal.defs (F := Ideal)) (onTc (τ := Cert.ReferenceFQkvIdeal.τ) (Cert.ReferenceFQkvIdeal.main (F := Ideal))) ⟨m', fun _ => 0, g'⟩ (fun r => ∀ c : Dev Cert.ReferenceFQkvIdeal.nD,
          r.2.mem ((c.tc : Thread Cert.ReferenceFQkvIdeal.nD Cert.ReferenceFQkvIdeal.τ).loc Cert.ReferenceFQkvIdeal.main_v3) = v0 c
          ∧ r.2.mem ((c.tc : Thread Cert.ReferenceFQkvIdeal.nD Cert.ReferenceFQkvIdeal.τ).loc Cert.ReferenceFQkvIdeal.main_arg0) = m' ((c.tc : Thread Cert.ReferenceFQkvIdeal.nD Cert.ReferenceFQkvIdeal.τ).loc Cert.ReferenceFQkvIdeal.main_arg0)
          ∧ r.2.mem ((c.tc : Thread Cert.ReferenceFQkvIdeal.nD Cert.ReferenceFQkvIdeal.τ).loc Cert.ReferenceFQkvIdeal.main_arg1) = m' ((c.tc : Thread Cert.ReferenceFQkvIdeal.nD Cert.ReferenceFQkvIdeal.τ).loc Cert.ReferenceFQkvIdeal.main_arg1))

def preserves_FAux_FAuxIdeal : Prop :=
  True

def algebraic_FAuxIdeal_ReferenceFAuxIdeal [hFAuxIdeal : Cert.FAuxIdeal.Facts] [hReferenceFAuxIdeal : Cert.ReferenceFAuxIdeal.Facts] : Prop :=
  ∀ (m : (ℓ : Loc Cert.FAuxIdeal.nD Cert.FAuxIdeal.τ Cert.FAuxIdeal.sig) → Buf (Elt Ideal) ℓ) (g : Dev Cert.FAuxIdeal.nD → PrngReg)
    (m' : (ℓ : Loc Cert.ReferenceFAuxIdeal.nD Cert.ReferenceFAuxIdeal.τ Cert.ReferenceFAuxIdeal.sig) → Buf (Elt Ideal) ℓ) (g' : Dev Cert.ReferenceFAuxIdeal.nD → PrngReg), Pre_FAuxIdeal m →
    (∀ c : Dev Cert.FAuxIdeal.nD,
      m' ((c.tc : Thread Cert.ReferenceFAuxIdeal.nD Cert.ReferenceFAuxIdeal.τ).loc Cert.ReferenceFAuxIdeal.main_arg0) = m ((c.tc : Thread Cert.FAuxIdeal.nD Cert.FAuxIdeal.τ).loc Cert.FAuxIdeal.main_arg0)
      ∧ m' ((c.tc : Thread Cert.ReferenceFAuxIdeal.nD Cert.ReferenceFAuxIdeal.τ).loc Cert.ReferenceFAuxIdeal.main_arg1) = m ((c.tc : Thread Cert.FAuxIdeal.nD Cert.FAuxIdeal.τ).loc Cert.FAuxIdeal.main_arg1)) →
    ∃ (v0 : (c : Dev Cert.FAuxIdeal.nD) → Buf (Elt Ideal) ((c.tc : Thread Cert.FAuxIdeal.nD Cert.FAuxIdeal.τ).loc Cert.FAuxIdeal.main_v0)),
      θ_run (Cert.FAuxIdeal.defs (F := Ideal)) (onTc (τ := Cert.FAuxIdeal.τ) (Cert.FAuxIdeal.main (F := Ideal))) ⟨m, fun _ => 0, g⟩ (fun r => ∀ c : Dev Cert.FAuxIdeal.nD,
          r.2.mem ((c.tc : Thread Cert.FAuxIdeal.nD Cert.FAuxIdeal.τ).loc Cert.FAuxIdeal.main_v0) = v0 c
          ∧ r.2.mem ((c.tc : Thread Cert.FAuxIdeal.nD Cert.FAuxIdeal.τ).loc Cert.FAuxIdeal.main_arg0) = m ((c.tc : Thread Cert.FAuxIdeal.nD Cert.FAuxIdeal.τ).loc Cert.FAuxIdeal.main_arg0)
          ∧ r.2.mem ((c.tc : Thread Cert.FAuxIdeal.nD Cert.FAuxIdeal.τ).loc Cert.FAuxIdeal.main_arg1) = m ((c.tc : Thread Cert.FAuxIdeal.nD Cert.FAuxIdeal.τ).loc Cert.FAuxIdeal.main_arg1))
      ∧ θ_run (Cert.ReferenceFAuxIdeal.defs (F := Ideal)) (onTc (τ := Cert.ReferenceFAuxIdeal.τ) (Cert.ReferenceFAuxIdeal.main (F := Ideal))) ⟨m', fun _ => 0, g'⟩ (fun r => ∀ c : Dev Cert.ReferenceFAuxIdeal.nD,
          r.2.mem ((c.tc : Thread Cert.ReferenceFAuxIdeal.nD Cert.ReferenceFAuxIdeal.τ).loc Cert.ReferenceFAuxIdeal.main_v2) = v0 c
          ∧ r.2.mem ((c.tc : Thread Cert.ReferenceFAuxIdeal.nD Cert.ReferenceFAuxIdeal.τ).loc Cert.ReferenceFAuxIdeal.main_arg0) = m' ((c.tc : Thread Cert.ReferenceFAuxIdeal.nD Cert.ReferenceFAuxIdeal.τ).loc Cert.ReferenceFAuxIdeal.main_arg0)
          ∧ r.2.mem ((c.tc : Thread Cert.ReferenceFAuxIdeal.nD Cert.ReferenceFAuxIdeal.τ).loc Cert.ReferenceFAuxIdeal.main_arg1) = m' ((c.tc : Thread Cert.ReferenceFAuxIdeal.nD Cert.ReferenceFAuxIdeal.τ).loc Cert.ReferenceFAuxIdeal.main_arg1))

def preserves_FOut_FOutIdeal : Prop :=
  True

def algebraic_FOutIdeal_ReferenceFOutIdeal [hFOutIdeal : Cert.FOutIdeal.Facts] [hReferenceFOutIdeal : Cert.ReferenceFOutIdeal.Facts] : Prop :=
  ∀ (m : (ℓ : Loc Cert.FOutIdeal.nD Cert.FOutIdeal.τ Cert.FOutIdeal.sig) → Buf (Elt Ideal) ℓ) (g : Dev Cert.FOutIdeal.nD → PrngReg)
    (m' : (ℓ : Loc Cert.ReferenceFOutIdeal.nD Cert.ReferenceFOutIdeal.τ Cert.ReferenceFOutIdeal.sig) → Buf (Elt Ideal) ℓ) (g' : Dev Cert.ReferenceFOutIdeal.nD → PrngReg), Pre_FOutIdeal m →
    (∀ c : Dev Cert.FOutIdeal.nD,
      m' ((c.tc : Thread Cert.ReferenceFOutIdeal.nD Cert.ReferenceFOutIdeal.τ).loc Cert.ReferenceFOutIdeal.main_arg0) = m ((c.tc : Thread Cert.FOutIdeal.nD Cert.FOutIdeal.τ).loc Cert.FOutIdeal.main_arg0)
      ∧ m' ((c.tc : Thread Cert.ReferenceFOutIdeal.nD Cert.ReferenceFOutIdeal.τ).loc Cert.ReferenceFOutIdeal.main_arg1) = m ((c.tc : Thread Cert.FOutIdeal.nD Cert.FOutIdeal.τ).loc Cert.FOutIdeal.main_arg1)
      ∧ m' ((c.tc : Thread Cert.ReferenceFOutIdeal.nD Cert.ReferenceFOutIdeal.τ).loc Cert.ReferenceFOutIdeal.main_arg2) = m ((c.tc : Thread Cert.FOutIdeal.nD Cert.FOutIdeal.τ).loc Cert.FOutIdeal.main_arg2)) →
    ∃ (v0 : (c : Dev Cert.FOutIdeal.nD) → Buf (Elt Ideal) ((c.tc : Thread Cert.FOutIdeal.nD Cert.FOutIdeal.τ).loc Cert.FOutIdeal.main_v0)),
      θ_run (Cert.FOutIdeal.defs (F := Ideal)) (onTc (τ := Cert.FOutIdeal.τ) (Cert.FOutIdeal.main (F := Ideal))) ⟨m, fun _ => 0, g⟩ (fun r => ∀ c : Dev Cert.FOutIdeal.nD,
          r.2.mem ((c.tc : Thread Cert.FOutIdeal.nD Cert.FOutIdeal.τ).loc Cert.FOutIdeal.main_v0) = v0 c
          ∧ r.2.mem ((c.tc : Thread Cert.FOutIdeal.nD Cert.FOutIdeal.τ).loc Cert.FOutIdeal.main_arg0) = m ((c.tc : Thread Cert.FOutIdeal.nD Cert.FOutIdeal.τ).loc Cert.FOutIdeal.main_arg0)
          ∧ r.2.mem ((c.tc : Thread Cert.FOutIdeal.nD Cert.FOutIdeal.τ).loc Cert.FOutIdeal.main_arg1) = m ((c.tc : Thread Cert.FOutIdeal.nD Cert.FOutIdeal.τ).loc Cert.FOutIdeal.main_arg1)
          ∧ r.2.mem ((c.tc : Thread Cert.FOutIdeal.nD Cert.FOutIdeal.τ).loc Cert.FOutIdeal.main_arg2) = m ((c.tc : Thread Cert.FOutIdeal.nD Cert.FOutIdeal.τ).loc Cert.FOutIdeal.main_arg2))
      ∧ θ_run (Cert.ReferenceFOutIdeal.defs (F := Ideal)) (onTc (τ := Cert.ReferenceFOutIdeal.τ) (Cert.ReferenceFOutIdeal.main (F := Ideal))) ⟨m', fun _ => 0, g'⟩ (fun r => ∀ c : Dev Cert.ReferenceFOutIdeal.nD,
          r.2.mem ((c.tc : Thread Cert.ReferenceFOutIdeal.nD Cert.ReferenceFOutIdeal.τ).loc Cert.ReferenceFOutIdeal.main_v3) = v0 c
          ∧ r.2.mem ((c.tc : Thread Cert.ReferenceFOutIdeal.nD Cert.ReferenceFOutIdeal.τ).loc Cert.ReferenceFOutIdeal.main_arg0) = m' ((c.tc : Thread Cert.ReferenceFOutIdeal.nD Cert.ReferenceFOutIdeal.τ).loc Cert.ReferenceFOutIdeal.main_arg0)
          ∧ r.2.mem ((c.tc : Thread Cert.ReferenceFOutIdeal.nD Cert.ReferenceFOutIdeal.τ).loc Cert.ReferenceFOutIdeal.main_arg1) = m' ((c.tc : Thread Cert.ReferenceFOutIdeal.nD Cert.ReferenceFOutIdeal.τ).loc Cert.ReferenceFOutIdeal.main_arg1)
          ∧ r.2.mem ((c.tc : Thread Cert.ReferenceFOutIdeal.nD Cert.ReferenceFOutIdeal.τ).loc Cert.ReferenceFOutIdeal.main_arg2) = m' ((c.tc : Thread Cert.ReferenceFOutIdeal.nD Cert.ReferenceFOutIdeal.τ).loc Cert.ReferenceFOutIdeal.main_arg2))

def preserves_FCq_FCqIdeal : Prop :=
  True

def algebraic_FCqIdeal_ReferenceFCqIdeal [hFCqIdeal : Cert.FCqIdeal.Facts] [hReferenceFCqIdeal : Cert.ReferenceFCqIdeal.Facts] : Prop :=
  ∀ (m : (ℓ : Loc Cert.FCqIdeal.nD Cert.FCqIdeal.τ Cert.FCqIdeal.sig) → Buf (Elt Ideal) ℓ) (g : Dev Cert.FCqIdeal.nD → PrngReg)
    (m' : (ℓ : Loc Cert.ReferenceFCqIdeal.nD Cert.ReferenceFCqIdeal.τ Cert.ReferenceFCqIdeal.sig) → Buf (Elt Ideal) ℓ) (g' : Dev Cert.ReferenceFCqIdeal.nD → PrngReg), Pre_FCqIdeal m →
    (∀ c : Dev Cert.FCqIdeal.nD,
      m' ((c.tc : Thread Cert.ReferenceFCqIdeal.nD Cert.ReferenceFCqIdeal.τ).loc Cert.ReferenceFCqIdeal.main_arg0) = m ((c.tc : Thread Cert.FCqIdeal.nD Cert.FCqIdeal.τ).loc Cert.FCqIdeal.main_arg0)
      ∧ m' ((c.tc : Thread Cert.ReferenceFCqIdeal.nD Cert.ReferenceFCqIdeal.τ).loc Cert.ReferenceFCqIdeal.main_arg1) = m ((c.tc : Thread Cert.FCqIdeal.nD Cert.FCqIdeal.τ).loc Cert.FCqIdeal.main_arg1)) →
    ∃ (v0 : (c : Dev Cert.FCqIdeal.nD) → Buf (Elt Ideal) ((c.tc : Thread Cert.FCqIdeal.nD Cert.FCqIdeal.τ).loc Cert.FCqIdeal.main_v0)),
      θ_run (Cert.FCqIdeal.defs (F := Ideal)) (onTc (τ := Cert.FCqIdeal.τ) (Cert.FCqIdeal.main (F := Ideal))) ⟨m, fun _ => 0, g⟩ (fun r => ∀ c : Dev Cert.FCqIdeal.nD,
          r.2.mem ((c.tc : Thread Cert.FCqIdeal.nD Cert.FCqIdeal.τ).loc Cert.FCqIdeal.main_v0) = v0 c
          ∧ r.2.mem ((c.tc : Thread Cert.FCqIdeal.nD Cert.FCqIdeal.τ).loc Cert.FCqIdeal.main_arg0) = m ((c.tc : Thread Cert.FCqIdeal.nD Cert.FCqIdeal.τ).loc Cert.FCqIdeal.main_arg0)
          ∧ r.2.mem ((c.tc : Thread Cert.FCqIdeal.nD Cert.FCqIdeal.τ).loc Cert.FCqIdeal.main_arg1) = m ((c.tc : Thread Cert.FCqIdeal.nD Cert.FCqIdeal.τ).loc Cert.FCqIdeal.main_arg1))
      ∧ θ_run (Cert.ReferenceFCqIdeal.defs (F := Ideal)) (onTc (τ := Cert.ReferenceFCqIdeal.τ) (Cert.ReferenceFCqIdeal.main (F := Ideal))) ⟨m', fun _ => 0, g'⟩ (fun r => ∀ c : Dev Cert.ReferenceFCqIdeal.nD,
          r.2.mem ((c.tc : Thread Cert.ReferenceFCqIdeal.nD Cert.ReferenceFCqIdeal.τ).loc Cert.ReferenceFCqIdeal.main_v3) = v0 c
          ∧ r.2.mem ((c.tc : Thread Cert.ReferenceFCqIdeal.nD Cert.ReferenceFCqIdeal.τ).loc Cert.ReferenceFCqIdeal.main_arg0) = m' ((c.tc : Thread Cert.ReferenceFCqIdeal.nD Cert.ReferenceFCqIdeal.τ).loc Cert.ReferenceFCqIdeal.main_arg0)
          ∧ r.2.mem ((c.tc : Thread Cert.ReferenceFCqIdeal.nD Cert.ReferenceFCqIdeal.τ).loc Cert.ReferenceFCqIdeal.main_arg1) = m' ((c.tc : Thread Cert.ReferenceFCqIdeal.nD Cert.ReferenceFCqIdeal.τ).loc Cert.ReferenceFCqIdeal.main_arg1))

def preserves_FCkv_FCkvIdeal : Prop :=
  True

def algebraic_FCkvIdeal_ReferenceFCkvIdeal [hFCkvIdeal : Cert.FCkvIdeal.Facts] [hReferenceFCkvIdeal : Cert.ReferenceFCkvIdeal.Facts] : Prop :=
  ∀ (m : (ℓ : Loc Cert.FCkvIdeal.nD Cert.FCkvIdeal.τ Cert.FCkvIdeal.sig) → Buf (Elt Ideal) ℓ) (g : Dev Cert.FCkvIdeal.nD → PrngReg)
    (m' : (ℓ : Loc Cert.ReferenceFCkvIdeal.nD Cert.ReferenceFCkvIdeal.τ Cert.ReferenceFCkvIdeal.sig) → Buf (Elt Ideal) ℓ) (g' : Dev Cert.ReferenceFCkvIdeal.nD → PrngReg), Pre_FCkvIdeal m →
    (∀ c : Dev Cert.FCkvIdeal.nD,
      m' ((c.tc : Thread Cert.ReferenceFCkvIdeal.nD Cert.ReferenceFCkvIdeal.τ).loc Cert.ReferenceFCkvIdeal.main_arg0) = m ((c.tc : Thread Cert.FCkvIdeal.nD Cert.FCkvIdeal.τ).loc Cert.FCkvIdeal.main_arg0)
      ∧ m' ((c.tc : Thread Cert.ReferenceFCkvIdeal.nD Cert.ReferenceFCkvIdeal.τ).loc Cert.ReferenceFCkvIdeal.main_arg1) = m ((c.tc : Thread Cert.FCkvIdeal.nD Cert.FCkvIdeal.τ).loc Cert.FCkvIdeal.main_arg1)) →
    ∃ (v0 : (c : Dev Cert.FCkvIdeal.nD) → Buf (Elt Ideal) ((c.tc : Thread Cert.FCkvIdeal.nD Cert.FCkvIdeal.τ).loc Cert.FCkvIdeal.main_v0)),
      θ_run (Cert.FCkvIdeal.defs (F := Ideal)) (onTc (τ := Cert.FCkvIdeal.τ) (Cert.FCkvIdeal.main (F := Ideal))) ⟨m, fun _ => 0, g⟩ (fun r => ∀ c : Dev Cert.FCkvIdeal.nD,
          r.2.mem ((c.tc : Thread Cert.FCkvIdeal.nD Cert.FCkvIdeal.τ).loc Cert.FCkvIdeal.main_v0) = v0 c
          ∧ r.2.mem ((c.tc : Thread Cert.FCkvIdeal.nD Cert.FCkvIdeal.τ).loc Cert.FCkvIdeal.main_arg0) = m ((c.tc : Thread Cert.FCkvIdeal.nD Cert.FCkvIdeal.τ).loc Cert.FCkvIdeal.main_arg0)
          ∧ r.2.mem ((c.tc : Thread Cert.FCkvIdeal.nD Cert.FCkvIdeal.τ).loc Cert.FCkvIdeal.main_arg1) = m ((c.tc : Thread Cert.FCkvIdeal.nD Cert.FCkvIdeal.τ).loc Cert.FCkvIdeal.main_arg1))
      ∧ θ_run (Cert.ReferenceFCkvIdeal.defs (F := Ideal)) (onTc (τ := Cert.ReferenceFCkvIdeal.τ) (Cert.ReferenceFCkvIdeal.main (F := Ideal))) ⟨m', fun _ => 0, g'⟩ (fun r => ∀ c : Dev Cert.ReferenceFCkvIdeal.nD,
          r.2.mem ((c.tc : Thread Cert.ReferenceFCkvIdeal.nD Cert.ReferenceFCkvIdeal.τ).loc Cert.ReferenceFCkvIdeal.main_v3) = v0 c
          ∧ r.2.mem ((c.tc : Thread Cert.ReferenceFCkvIdeal.nD Cert.ReferenceFCkvIdeal.τ).loc Cert.ReferenceFCkvIdeal.main_arg0) = m' ((c.tc : Thread Cert.ReferenceFCkvIdeal.nD Cert.ReferenceFCkvIdeal.τ).loc Cert.ReferenceFCkvIdeal.main_arg0)
          ∧ r.2.mem ((c.tc : Thread Cert.ReferenceFCkvIdeal.nD Cert.ReferenceFCkvIdeal.τ).loc Cert.ReferenceFCkvIdeal.main_arg1) = m' ((c.tc : Thread Cert.ReferenceFCkvIdeal.nD Cert.ReferenceFCkvIdeal.τ).loc Cert.ReferenceFCkvIdeal.main_arg1))

def preserves_FCo_FCoIdeal : Prop :=
  True

def algebraic_FCoIdeal_ReferenceFCoIdeal [hFCoIdeal : Cert.FCoIdeal.Facts] [hReferenceFCoIdeal : Cert.ReferenceFCoIdeal.Facts] : Prop :=
  ∀ (m : (ℓ : Loc Cert.FCoIdeal.nD Cert.FCoIdeal.τ Cert.FCoIdeal.sig) → Buf (Elt Ideal) ℓ) (g : Dev Cert.FCoIdeal.nD → PrngReg)
    (m' : (ℓ : Loc Cert.ReferenceFCoIdeal.nD Cert.ReferenceFCoIdeal.τ Cert.ReferenceFCoIdeal.sig) → Buf (Elt Ideal) ℓ) (g' : Dev Cert.ReferenceFCoIdeal.nD → PrngReg), Pre_FCoIdeal m →
    (∀ c : Dev Cert.FCoIdeal.nD,
      m' ((c.tc : Thread Cert.ReferenceFCoIdeal.nD Cert.ReferenceFCoIdeal.τ).loc Cert.ReferenceFCoIdeal.main_arg0) = m ((c.tc : Thread Cert.FCoIdeal.nD Cert.FCoIdeal.τ).loc Cert.FCoIdeal.main_arg0)
      ∧ m' ((c.tc : Thread Cert.ReferenceFCoIdeal.nD Cert.ReferenceFCoIdeal.τ).loc Cert.ReferenceFCoIdeal.main_arg1) = m ((c.tc : Thread Cert.FCoIdeal.nD Cert.FCoIdeal.τ).loc Cert.FCoIdeal.main_arg1)
      ∧ m' ((c.tc : Thread Cert.ReferenceFCoIdeal.nD Cert.ReferenceFCoIdeal.τ).loc Cert.ReferenceFCoIdeal.main_arg2) = m ((c.tc : Thread Cert.FCoIdeal.nD Cert.FCoIdeal.τ).loc Cert.FCoIdeal.main_arg2)) →
    ∃ (v0 : (c : Dev Cert.FCoIdeal.nD) → Buf (Elt Ideal) ((c.tc : Thread Cert.FCoIdeal.nD Cert.FCoIdeal.τ).loc Cert.FCoIdeal.main_v0)),
      θ_run (Cert.FCoIdeal.defs (F := Ideal)) (onTc (τ := Cert.FCoIdeal.τ) (Cert.FCoIdeal.main (F := Ideal))) ⟨m, fun _ => 0, g⟩ (fun r => ∀ c : Dev Cert.FCoIdeal.nD,
          r.2.mem ((c.tc : Thread Cert.FCoIdeal.nD Cert.FCoIdeal.τ).loc Cert.FCoIdeal.main_v0) = v0 c
          ∧ r.2.mem ((c.tc : Thread Cert.FCoIdeal.nD Cert.FCoIdeal.τ).loc Cert.FCoIdeal.main_arg0) = m ((c.tc : Thread Cert.FCoIdeal.nD Cert.FCoIdeal.τ).loc Cert.FCoIdeal.main_arg0)
          ∧ r.2.mem ((c.tc : Thread Cert.FCoIdeal.nD Cert.FCoIdeal.τ).loc Cert.FCoIdeal.main_arg1) = m ((c.tc : Thread Cert.FCoIdeal.nD Cert.FCoIdeal.τ).loc Cert.FCoIdeal.main_arg1)
          ∧ r.2.mem ((c.tc : Thread Cert.FCoIdeal.nD Cert.FCoIdeal.τ).loc Cert.FCoIdeal.main_arg2) = m ((c.tc : Thread Cert.FCoIdeal.nD Cert.FCoIdeal.τ).loc Cert.FCoIdeal.main_arg2))
      ∧ θ_run (Cert.ReferenceFCoIdeal.defs (F := Ideal)) (onTc (τ := Cert.ReferenceFCoIdeal.τ) (Cert.ReferenceFCoIdeal.main (F := Ideal))) ⟨m', fun _ => 0, g'⟩ (fun r => ∀ c : Dev Cert.ReferenceFCoIdeal.nD,
          r.2.mem ((c.tc : Thread Cert.ReferenceFCoIdeal.nD Cert.ReferenceFCoIdeal.τ).loc Cert.ReferenceFCoIdeal.main_v4) = v0 c
          ∧ r.2.mem ((c.tc : Thread Cert.ReferenceFCoIdeal.nD Cert.ReferenceFCoIdeal.τ).loc Cert.ReferenceFCoIdeal.main_arg0) = m' ((c.tc : Thread Cert.ReferenceFCoIdeal.nD Cert.ReferenceFCoIdeal.τ).loc Cert.ReferenceFCoIdeal.main_arg0)
          ∧ r.2.mem ((c.tc : Thread Cert.ReferenceFCoIdeal.nD Cert.ReferenceFCoIdeal.τ).loc Cert.ReferenceFCoIdeal.main_arg1) = m' ((c.tc : Thread Cert.ReferenceFCoIdeal.nD Cert.ReferenceFCoIdeal.τ).loc Cert.ReferenceFCoIdeal.main_arg1)
          ∧ r.2.mem ((c.tc : Thread Cert.ReferenceFCoIdeal.nD Cert.ReferenceFCoIdeal.τ).loc Cert.ReferenceFCoIdeal.main_arg2) = m' ((c.tc : Thread Cert.ReferenceFCoIdeal.nD Cert.ReferenceFCoIdeal.τ).loc Cert.ReferenceFCoIdeal.main_arg2))

def preserves_AdIn_AdInIdeal : Prop :=
  True

def algebraic_AdInIdeal_ReferenceAdInIdeal [hAdInIdeal : Cert.AdInIdeal.Facts] [hReferenceAdInIdeal : Cert.ReferenceAdInIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.ReferenceAdInIdeal.nD Cert.ReferenceAdInIdeal.τ Cert.ReferenceAdInIdeal.sig) → Buf (Elt Ideal) ℓ) (g' : Dev Cert.ReferenceAdInIdeal.nD → PrngReg), Pre_AdInIdeal m →
    (∀ c : Dev Cert.AdInIdeal.nD,
      m' ((c.tc : Thread Cert.ReferenceAdInIdeal.nD Cert.ReferenceAdInIdeal.τ).loc Cert.ReferenceAdInIdeal.main_arg0) = m ((c.tc : Thread Cert.AdInIdeal.nD Cert.AdInIdeal.τ).loc Cert.AdInIdeal.main_arg0)
      ∧ m' ((c.tc : Thread Cert.ReferenceAdInIdeal.nD Cert.ReferenceAdInIdeal.τ).loc Cert.ReferenceAdInIdeal.main_arg1) = m ((c.tc : Thread Cert.AdInIdeal.nD Cert.AdInIdeal.τ).loc Cert.AdInIdeal.main_arg1)
      ∧ m' ((c.tc : Thread Cert.ReferenceAdInIdeal.nD Cert.ReferenceAdInIdeal.τ).loc Cert.ReferenceAdInIdeal.main_arg2) = m ((c.tc : Thread Cert.AdInIdeal.nD Cert.AdInIdeal.τ).loc Cert.AdInIdeal.main_arg2)
      ∧ m' ((c.tc : Thread Cert.ReferenceAdInIdeal.nD Cert.ReferenceAdInIdeal.τ).loc Cert.ReferenceAdInIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.ReferenceAdInIdeal.defs (F := Ideal)) (onTc (τ := Cert.ReferenceAdInIdeal.τ) (Cert.ReferenceAdInIdeal.main (F := Ideal))) ⟨m', fun _ => 0, g'⟩ (fun r => ∀ c : Dev Cert.ReferenceAdInIdeal.nD,
          r.2.mem ((c.tc : Thread Cert.ReferenceAdInIdeal.nD Cert.ReferenceAdInIdeal.τ).loc Cert.ReferenceAdInIdeal.main_v23) = v0 c
          ∧ r.2.mem ((c.tc : Thread Cert.ReferenceAdInIdeal.nD Cert.ReferenceAdInIdeal.τ).loc Cert.ReferenceAdInIdeal.main_v4) = v1 c
          ∧ r.2.mem ((c.tc : Thread Cert.ReferenceAdInIdeal.nD Cert.ReferenceAdInIdeal.τ).loc Cert.ReferenceAdInIdeal.main_v10) = v2 c
          ∧ r.2.mem ((c.tc : Thread Cert.ReferenceAdInIdeal.nD Cert.ReferenceAdInIdeal.τ).loc Cert.ReferenceAdInIdeal.main_arg0) = m' ((c.tc : Thread Cert.ReferenceAdInIdeal.nD Cert.ReferenceAdInIdeal.τ).loc Cert.ReferenceAdInIdeal.main_arg0)
          ∧ r.2.mem ((c.tc : Thread Cert.ReferenceAdInIdeal.nD Cert.ReferenceAdInIdeal.τ).loc Cert.ReferenceAdInIdeal.main_arg1) = m' ((c.tc : Thread Cert.ReferenceAdInIdeal.nD Cert.ReferenceAdInIdeal.τ).loc Cert.ReferenceAdInIdeal.main_arg1)
          ∧ r.2.mem ((c.tc : Thread Cert.ReferenceAdInIdeal.nD Cert.ReferenceAdInIdeal.τ).loc Cert.ReferenceAdInIdeal.main_arg2) = m' ((c.tc : Thread Cert.ReferenceAdInIdeal.nD Cert.ReferenceAdInIdeal.τ).loc Cert.ReferenceAdInIdeal.main_arg2)
          ∧ r.2.mem ((c.tc : Thread Cert.ReferenceAdInIdeal.nD Cert.ReferenceAdInIdeal.τ).loc Cert.ReferenceAdInIdeal.main_arg3) = m' ((c.tc : Thread Cert.ReferenceAdInIdeal.nD Cert.ReferenceAdInIdeal.τ).loc Cert.ReferenceAdInIdeal.main_arg3))

def preserves_AdOut_AdOutIdeal : Prop :=
  True

def algebraic_AdOutIdeal_ReferenceAdOutIdeal [hAdOutIdeal : Cert.AdOutIdeal.Facts] [hReferenceAdOutIdeal : Cert.ReferenceAdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.ReferenceAdOutIdeal.nD Cert.ReferenceAdOutIdeal.τ Cert.ReferenceAdOutIdeal.sig) → Buf (Elt Ideal) ℓ) (g' : Dev Cert.ReferenceAdOutIdeal.nD → PrngReg), Pre_AdOutIdeal m →
    (∀ c : Dev Cert.AdOutIdeal.nD,
      m' ((c.tc : Thread Cert.ReferenceAdOutIdeal.nD Cert.ReferenceAdOutIdeal.τ).loc Cert.ReferenceAdOutIdeal.main_arg0) = m ((c.tc : Thread Cert.AdOutIdeal.nD Cert.AdOutIdeal.τ).loc Cert.AdOutIdeal.main_arg0)
      ∧ m' ((c.tc : Thread Cert.ReferenceAdOutIdeal.nD Cert.ReferenceAdOutIdeal.τ).loc Cert.ReferenceAdOutIdeal.main_arg1) = m ((c.tc : Thread Cert.AdOutIdeal.nD Cert.AdOutIdeal.τ).loc Cert.AdOutIdeal.main_arg1)
      ∧ m' ((c.tc : Thread Cert.ReferenceAdOutIdeal.nD Cert.ReferenceAdOutIdeal.τ).loc Cert.ReferenceAdOutIdeal.main_arg2) = m ((c.tc : Thread Cert.AdOutIdeal.nD Cert.AdOutIdeal.τ).loc Cert.AdOutIdeal.main_arg2)
      ∧ m' ((c.tc : Thread Cert.ReferenceAdOutIdeal.nD Cert.ReferenceAdOutIdeal.τ).loc Cert.ReferenceAdOutIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.ReferenceAdOutIdeal.defs (F := Ideal)) (onTc (τ := Cert.ReferenceAdOutIdeal.τ) (Cert.ReferenceAdOutIdeal.main (F := Ideal))) ⟨m', fun _ => 0, g'⟩ (fun r => ∀ c : Dev Cert.ReferenceAdOutIdeal.nD,
          r.2.mem ((c.tc : Thread Cert.ReferenceAdOutIdeal.nD Cert.ReferenceAdOutIdeal.τ).loc Cert.ReferenceAdOutIdeal.main_v23) = v0 c
          ∧ r.2.mem ((c.tc : Thread Cert.ReferenceAdOutIdeal.nD Cert.ReferenceAdOutIdeal.τ).loc Cert.ReferenceAdOutIdeal.main_v4) = v1 c
          ∧ r.2.mem ((c.tc : Thread Cert.ReferenceAdOutIdeal.nD Cert.ReferenceAdOutIdeal.τ).loc Cert.ReferenceAdOutIdeal.main_v10) = v2 c
          ∧ r.2.mem ((c.tc : Thread Cert.ReferenceAdOutIdeal.nD Cert.ReferenceAdOutIdeal.τ).loc Cert.ReferenceAdOutIdeal.main_arg0) = m' ((c.tc : Thread Cert.ReferenceAdOutIdeal.nD Cert.ReferenceAdOutIdeal.τ).loc Cert.ReferenceAdOutIdeal.main_arg0)
          ∧ r.2.mem ((c.tc : Thread Cert.ReferenceAdOutIdeal.nD Cert.ReferenceAdOutIdeal.τ).loc Cert.ReferenceAdOutIdeal.main_arg1) = m' ((c.tc : Thread Cert.ReferenceAdOutIdeal.nD Cert.ReferenceAdOutIdeal.τ).loc Cert.ReferenceAdOutIdeal.main_arg1)
          ∧ r.2.mem ((c.tc : Thread Cert.ReferenceAdOutIdeal.nD Cert.ReferenceAdOutIdeal.τ).loc Cert.ReferenceAdOutIdeal.main_arg2) = m' ((c.tc : Thread Cert.ReferenceAdOutIdeal.nD Cert.ReferenceAdOutIdeal.τ).loc Cert.ReferenceAdOutIdeal.main_arg2)
          ∧ r.2.mem ((c.tc : Thread Cert.ReferenceAdOutIdeal.nD Cert.ReferenceAdOutIdeal.τ).loc Cert.ReferenceAdOutIdeal.main_arg3) = m' ((c.tc : Thread Cert.ReferenceAdOutIdeal.nD Cert.ReferenceAdOutIdeal.τ).loc Cert.ReferenceAdOutIdeal.main_arg3))

def preserves_AdCross_AdCrossIdeal : Prop :=
  True

def algebraic_AdCrossIdeal_ReferenceAdCrossIdeal [hAdCrossIdeal : Cert.AdCrossIdeal.Facts] [hReferenceAdCrossIdeal : Cert.ReferenceAdCrossIdeal.Facts] : Prop :=
  ∀ (m : (ℓ : Loc Cert.AdCrossIdeal.nD Cert.AdCrossIdeal.τ Cert.AdCrossIdeal.sig) → Buf (Elt Ideal) ℓ) (g : Dev Cert.AdCrossIdeal.nD → PrngReg)
    (m' : (ℓ : Loc Cert.ReferenceAdCrossIdeal.nD Cert.ReferenceAdCrossIdeal.τ Cert.ReferenceAdCrossIdeal.sig) → Buf (Elt Ideal) ℓ) (g' : Dev Cert.ReferenceAdCrossIdeal.nD → PrngReg), Pre_AdCrossIdeal m →
    (∀ c : Dev Cert.AdCrossIdeal.nD,
      m' ((c.tc : Thread Cert.ReferenceAdCrossIdeal.nD Cert.ReferenceAdCrossIdeal.τ).loc Cert.ReferenceAdCrossIdeal.main_arg0) = m ((c.tc : Thread Cert.AdCrossIdeal.nD Cert.AdCrossIdeal.τ).loc Cert.AdCrossIdeal.main_arg0)
      ∧ m' ((c.tc : Thread Cert.ReferenceAdCrossIdeal.nD Cert.ReferenceAdCrossIdeal.τ).loc Cert.ReferenceAdCrossIdeal.main_arg1) = m ((c.tc : Thread Cert.AdCrossIdeal.nD Cert.AdCrossIdeal.τ).loc Cert.AdCrossIdeal.main_arg1)
      ∧ m' ((c.tc : Thread Cert.ReferenceAdCrossIdeal.nD Cert.ReferenceAdCrossIdeal.τ).loc Cert.ReferenceAdCrossIdeal.main_arg2) = m ((c.tc : Thread Cert.AdCrossIdeal.nD Cert.AdCrossIdeal.τ).loc Cert.AdCrossIdeal.main_arg2)
      ∧ m' ((c.tc : Thread Cert.ReferenceAdCrossIdeal.nD Cert.ReferenceAdCrossIdeal.τ).loc Cert.ReferenceAdCrossIdeal.main_arg3) = m ((c.tc : Thread Cert.AdCrossIdeal.nD Cert.AdCrossIdeal.τ).loc Cert.AdCrossIdeal.main_arg3)) →
    ∃ (v0 : (c : Dev Cert.AdCrossIdeal.nD) → Buf (Elt Ideal) ((c.tc : Thread Cert.AdCrossIdeal.nD Cert.AdCrossIdeal.τ).loc Cert.AdCrossIdeal.main_v0_0)) (v1 : (c : Dev Cert.AdCrossIdeal.nD) → Buf (Elt Ideal) ((c.tc : Thread Cert.AdCrossIdeal.nD Cert.AdCrossIdeal.τ).loc Cert.AdCrossIdeal.main_v0_1)) (v2 : (c : Dev Cert.AdCrossIdeal.nD) → Buf (Elt Ideal) ((c.tc : Thread Cert.AdCrossIdeal.nD Cert.AdCrossIdeal.τ).loc Cert.AdCrossIdeal.main_v0_2)),
      θ_run (Cert.AdCrossIdeal.defs (F := Ideal)) (onTc (τ := Cert.AdCrossIdeal.τ) (Cert.AdCrossIdeal.main (F := Ideal))) ⟨m, fun _ => 0, g⟩ (fun r => ∀ c : Dev Cert.AdCrossIdeal.nD,
          r.2.mem ((c.tc : Thread Cert.AdCrossIdeal.nD Cert.AdCrossIdeal.τ).loc Cert.AdCrossIdeal.main_v0_0) = v0 c
          ∧ r.2.mem ((c.tc : Thread Cert.AdCrossIdeal.nD Cert.AdCrossIdeal.τ).loc Cert.AdCrossIdeal.main_v0_1) = v1 c
          ∧ r.2.mem ((c.tc : Thread Cert.AdCrossIdeal.nD Cert.AdCrossIdeal.τ).loc Cert.AdCrossIdeal.main_v0_2) = v2 c
          ∧ r.2.mem ((c.tc : Thread Cert.AdCrossIdeal.nD Cert.AdCrossIdeal.τ).loc Cert.AdCrossIdeal.main_arg0) = m ((c.tc : Thread Cert.AdCrossIdeal.nD Cert.AdCrossIdeal.τ).loc Cert.AdCrossIdeal.main_arg0)
          ∧ r.2.mem ((c.tc : Thread Cert.AdCrossIdeal.nD Cert.AdCrossIdeal.τ).loc Cert.AdCrossIdeal.main_arg1) = m ((c.tc : Thread Cert.AdCrossIdeal.nD Cert.AdCrossIdeal.τ).loc Cert.AdCrossIdeal.main_arg1)
          ∧ r.2.mem ((c.tc : Thread Cert.AdCrossIdeal.nD Cert.AdCrossIdeal.τ).loc Cert.AdCrossIdeal.main_arg2) = m ((c.tc : Thread Cert.AdCrossIdeal.nD Cert.AdCrossIdeal.τ).loc Cert.AdCrossIdeal.main_arg2)
          ∧ r.2.mem ((c.tc : Thread Cert.AdCrossIdeal.nD Cert.AdCrossIdeal.τ).loc Cert.AdCrossIdeal.main_arg3) = m ((c.tc : Thread Cert.AdCrossIdeal.nD Cert.AdCrossIdeal.τ).loc Cert.AdCrossIdeal.main_arg3))
      ∧ θ_run (Cert.ReferenceAdCrossIdeal.defs (F := Ideal)) (onTc (τ := Cert.ReferenceAdCrossIdeal.τ) (Cert.ReferenceAdCrossIdeal.main (F := Ideal))) ⟨m', fun _ => 0, g'⟩ (fun r => ∀ c : Dev Cert.ReferenceAdCrossIdeal.nD,
          r.2.mem ((c.tc : Thread Cert.ReferenceAdCrossIdeal.nD Cert.ReferenceAdCrossIdeal.τ).loc Cert.ReferenceAdCrossIdeal.main_v23) = v0 c
          ∧ r.2.mem ((c.tc : Thread Cert.ReferenceAdCrossIdeal.nD Cert.ReferenceAdCrossIdeal.τ).loc Cert.ReferenceAdCrossIdeal.main_v4) = v1 c
          ∧ r.2.mem ((c.tc : Thread Cert.ReferenceAdCrossIdeal.nD Cert.ReferenceAdCrossIdeal.τ).loc Cert.ReferenceAdCrossIdeal.main_v10) = v2 c
          ∧ r.2.mem ((c.tc : Thread Cert.ReferenceAdCrossIdeal.nD Cert.ReferenceAdCrossIdeal.τ).loc Cert.ReferenceAdCrossIdeal.main_arg0) = m' ((c.tc : Thread Cert.ReferenceAdCrossIdeal.nD Cert.ReferenceAdCrossIdeal.τ).loc Cert.ReferenceAdCrossIdeal.main_arg0)
          ∧ r.2.mem ((c.tc : Thread Cert.ReferenceAdCrossIdeal.nD Cert.ReferenceAdCrossIdeal.τ).loc Cert.ReferenceAdCrossIdeal.main_arg1) = m' ((c.tc : Thread Cert.ReferenceAdCrossIdeal.nD Cert.ReferenceAdCrossIdeal.τ).loc Cert.ReferenceAdCrossIdeal.main_arg1)
          ∧ r.2.mem ((c.tc : Thread Cert.ReferenceAdCrossIdeal.nD Cert.ReferenceAdCrossIdeal.τ).loc Cert.ReferenceAdCrossIdeal.main_arg2) = m' ((c.tc : Thread Cert.ReferenceAdCrossIdeal.nD Cert.ReferenceAdCrossIdeal.τ).loc Cert.ReferenceAdCrossIdeal.main_arg2)
          ∧ r.2.mem ((c.tc : Thread Cert.ReferenceAdCrossIdeal.nD Cert.ReferenceAdCrossIdeal.τ).loc Cert.ReferenceAdCrossIdeal.main_arg3) = m' ((c.tc : Thread Cert.ReferenceAdCrossIdeal.nD Cert.ReferenceAdCrossIdeal.τ).loc Cert.ReferenceAdCrossIdeal.main_arg3))

def preserves_AdCo_AdCoIdeal : Prop :=
  True

def algebraic_AdCoIdeal_ReferenceAdCoIdeal [hAdCoIdeal : Cert.AdCoIdeal.Facts] [hReferenceAdCoIdeal : Cert.ReferenceAdCoIdeal.Facts] : Prop :=
  ∀ (m : (ℓ : Loc Cert.AdCoIdeal.nD Cert.AdCoIdeal.τ Cert.AdCoIdeal.sig) → Buf (Elt Ideal) ℓ) (g : Dev Cert.AdCoIdeal.nD → PrngReg)
    (m' : (ℓ : Loc Cert.ReferenceAdCoIdeal.nD Cert.ReferenceAdCoIdeal.τ Cert.ReferenceAdCoIdeal.sig) → Buf (Elt Ideal) ℓ) (g' : Dev Cert.ReferenceAdCoIdeal.nD → PrngReg), Pre_AdCoIdeal m →
    (∀ c : Dev Cert.AdCoIdeal.nD,
      m' ((c.tc : Thread Cert.ReferenceAdCoIdeal.nD Cert.ReferenceAdCoIdeal.τ).loc Cert.ReferenceAdCoIdeal.main_arg0) = m ((c.tc : Thread Cert.AdCoIdeal.nD Cert.AdCoIdeal.τ).loc Cert.AdCoIdeal.main_arg0)
      ∧ m' ((c.tc : Thread Cert.ReferenceAdCoIdeal.nD Cert.ReferenceAdCoIdeal.τ).loc Cert.ReferenceAdCoIdeal.main_arg1) = m ((c.tc : Thread Cert.AdCoIdeal.nD Cert.AdCoIdeal.τ).loc Cert.AdCoIdeal.main_arg1)
      ∧ m' ((c.tc : Thread Cert.ReferenceAdCoIdeal.nD Cert.ReferenceAdCoIdeal.τ).loc Cert.ReferenceAdCoIdeal.main_arg2) = m ((c.tc : Thread Cert.AdCoIdeal.nD Cert.AdCoIdeal.τ).loc Cert.AdCoIdeal.main_arg2)
      ∧ m' ((c.tc : Thread Cert.ReferenceAdCoIdeal.nD Cert.ReferenceAdCoIdeal.τ).loc Cert.ReferenceAdCoIdeal.main_arg3) = m ((c.tc : Thread Cert.AdCoIdeal.nD Cert.AdCoIdeal.τ).loc Cert.AdCoIdeal.main_arg3)) →
    ∃ (v0 : (c : Dev Cert.AdCoIdeal.nD) → Buf (Elt Ideal) ((c.tc : Thread Cert.AdCoIdeal.nD Cert.AdCoIdeal.τ).loc Cert.AdCoIdeal.main_v0_0)) (v1 : (c : Dev Cert.AdCoIdeal.nD) → Buf (Elt Ideal) ((c.tc : Thread Cert.AdCoIdeal.nD Cert.AdCoIdeal.τ).loc Cert.AdCoIdeal.main_v0_1)) (v2 : (c : Dev Cert.AdCoIdeal.nD) → Buf (Elt Ideal) ((c.tc : Thread Cert.AdCoIdeal.nD Cert.AdCoIdeal.τ).loc Cert.AdCoIdeal.main_v0_2)),
      θ_run (Cert.AdCoIdeal.defs (F := Ideal)) (onTc (τ := Cert.AdCoIdeal.τ) (Cert.AdCoIdeal.main (F := Ideal))) ⟨m, fun _ => 0, g⟩ (fun r => ∀ c : Dev Cert.AdCoIdeal.nD,
          r.2.mem ((c.tc : Thread Cert.AdCoIdeal.nD Cert.AdCoIdeal.τ).loc Cert.AdCoIdeal.main_v0_0) = v0 c
          ∧ r.2.mem ((c.tc : Thread Cert.AdCoIdeal.nD Cert.AdCoIdeal.τ).loc Cert.AdCoIdeal.main_v0_1) = v1 c
          ∧ r.2.mem ((c.tc : Thread Cert.AdCoIdeal.nD Cert.AdCoIdeal.τ).loc Cert.AdCoIdeal.main_v0_2) = v2 c
          ∧ r.2.mem ((c.tc : Thread Cert.AdCoIdeal.nD Cert.AdCoIdeal.τ).loc Cert.AdCoIdeal.main_arg0) = m ((c.tc : Thread Cert.AdCoIdeal.nD Cert.AdCoIdeal.τ).loc Cert.AdCoIdeal.main_arg0)
          ∧ r.2.mem ((c.tc : Thread Cert.AdCoIdeal.nD Cert.AdCoIdeal.τ).loc Cert.AdCoIdeal.main_arg1) = m ((c.tc : Thread Cert.AdCoIdeal.nD Cert.AdCoIdeal.τ).loc Cert.AdCoIdeal.main_arg1)
          ∧ r.2.mem ((c.tc : Thread Cert.AdCoIdeal.nD Cert.AdCoIdeal.τ).loc Cert.AdCoIdeal.main_arg2) = m ((c.tc : Thread Cert.AdCoIdeal.nD Cert.AdCoIdeal.τ).loc Cert.AdCoIdeal.main_arg2)
          ∧ r.2.mem ((c.tc : Thread Cert.AdCoIdeal.nD Cert.AdCoIdeal.τ).loc Cert.AdCoIdeal.main_arg3) = m ((c.tc : Thread Cert.AdCoIdeal.nD Cert.AdCoIdeal.τ).loc Cert.AdCoIdeal.main_arg3))
      ∧ θ_run (Cert.ReferenceAdCoIdeal.defs (F := Ideal)) (onTc (τ := Cert.ReferenceAdCoIdeal.τ) (Cert.ReferenceAdCoIdeal.main (F := Ideal))) ⟨m', fun _ => 0, g'⟩ (fun r => ∀ c : Dev Cert.ReferenceAdCoIdeal.nD,
          r.2.mem ((c.tc : Thread Cert.ReferenceAdCoIdeal.nD Cert.ReferenceAdCoIdeal.τ).loc Cert.ReferenceAdCoIdeal.main_v23) = v0 c
          ∧ r.2.mem ((c.tc : Thread Cert.ReferenceAdCoIdeal.nD Cert.ReferenceAdCoIdeal.τ).loc Cert.ReferenceAdCoIdeal.main_v4) = v1 c
          ∧ r.2.mem ((c.tc : Thread Cert.ReferenceAdCoIdeal.nD Cert.ReferenceAdCoIdeal.τ).loc Cert.ReferenceAdCoIdeal.main_v10) = v2 c
          ∧ r.2.mem ((c.tc : Thread Cert.ReferenceAdCoIdeal.nD Cert.ReferenceAdCoIdeal.τ).loc Cert.ReferenceAdCoIdeal.main_arg0) = m' ((c.tc : Thread Cert.ReferenceAdCoIdeal.nD Cert.ReferenceAdCoIdeal.τ).loc Cert.ReferenceAdCoIdeal.main_arg0)
          ∧ r.2.mem ((c.tc : Thread Cert.ReferenceAdCoIdeal.nD Cert.ReferenceAdCoIdeal.τ).loc Cert.ReferenceAdCoIdeal.main_arg1) = m' ((c.tc : Thread Cert.ReferenceAdCoIdeal.nD Cert.ReferenceAdCoIdeal.τ).loc Cert.ReferenceAdCoIdeal.main_arg1)
          ∧ r.2.mem ((c.tc : Thread Cert.ReferenceAdCoIdeal.nD Cert.ReferenceAdCoIdeal.τ).loc Cert.ReferenceAdCoIdeal.main_arg2) = m' ((c.tc : Thread Cert.ReferenceAdCoIdeal.nD Cert.ReferenceAdCoIdeal.τ).loc Cert.ReferenceAdCoIdeal.main_arg2)
          ∧ r.2.mem ((c.tc : Thread Cert.ReferenceAdCoIdeal.nD Cert.ReferenceAdCoIdeal.τ).loc Cert.ReferenceAdCoIdeal.main_arg3) = m' ((c.tc : Thread Cert.ReferenceAdCoIdeal.nD Cert.ReferenceAdCoIdeal.τ).loc Cert.ReferenceAdCoIdeal.main_arg3))

def preserves_AdUp_AdUpIdeal : Prop :=
  True

def algebraic_AdUpIdeal_ReferenceAdUpIdeal [hAdUpIdeal : Cert.AdUpIdeal.Facts] [hReferenceAdUpIdeal : Cert.ReferenceAdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg)
    (m' : (ℓ : Loc Cert.ReferenceAdUpIdeal.nD Cert.ReferenceAdUpIdeal.τ Cert.ReferenceAdUpIdeal.sig) → Buf (Elt Ideal) ℓ) (g' : Dev Cert.ReferenceAdUpIdeal.nD → PrngReg), Pre_AdUpIdeal m →
    (∀ c : Dev Cert.AdUpIdeal.nD,
      m' ((c.tc : Thread Cert.ReferenceAdUpIdeal.nD Cert.ReferenceAdUpIdeal.τ).loc Cert.ReferenceAdUpIdeal.main_arg0) = m ((c.tc : Thread Cert.AdUpIdeal.nD Cert.AdUpIdeal.τ).loc Cert.AdUpIdeal.main_arg0)
      ∧ m' ((c.tc : Thread Cert.ReferenceAdUpIdeal.nD Cert.ReferenceAdUpIdeal.τ).loc Cert.ReferenceAdUpIdeal.main_arg1) = m ((c.tc : Thread Cert.AdUpIdeal.nD Cert.AdUpIdeal.τ).loc Cert.AdUpIdeal.main_arg1)
      ∧ m' ((c.tc : Thread Cert.ReferenceAdUpIdeal.nD Cert.ReferenceAdUpIdeal.τ).loc Cert.ReferenceAdUpIdeal.main_arg2) = m ((c.tc : Thread Cert.AdUpIdeal.nD Cert.AdUpIdeal.τ).loc Cert.AdUpIdeal.main_arg2)
      ∧ m' ((c.tc : Thread Cert.ReferenceAdUpIdeal.nD Cert.ReferenceAdUpIdeal.τ).loc Cert.ReferenceAdUpIdeal.main_arg3) = m ((c.tc : Thread Cert.AdUpIdeal.nD Cert.AdUpIdeal.τ).loc Cert.AdUpIdeal.main_arg3)) →
    ∃ (v0 : (c : Dev Cert.AdUpIdeal.nD) → Buf (Elt Ideal) ((c.tc : Thread Cert.AdUpIdeal.nD Cert.AdUpIdeal.τ).loc Cert.AdUpIdeal.main_v0_0)) (v1 : (c : Dev Cert.AdUpIdeal.nD) → Buf (Elt Ideal) ((c.tc : Thread Cert.AdUpIdeal.nD Cert.AdUpIdeal.τ).loc Cert.AdUpIdeal.main_v0_1)) (v2 : (c : Dev Cert.AdUpIdeal.nD) → Buf (Elt Ideal) ((c.tc : Thread Cert.AdUpIdeal.nD Cert.AdUpIdeal.τ).loc Cert.AdUpIdeal.main_v0_2)),
      θ_run (Cert.AdUpIdeal.defs (F := Ideal)) (onTc (τ := Cert.AdUpIdeal.τ) (Cert.AdUpIdeal.main (F := Ideal))) ⟨m, fun _ => 0, g⟩ (fun r => ∀ c : Dev Cert.AdUpIdeal.nD,
          r.2.mem ((c.tc : Thread Cert.AdUpIdeal.nD Cert.AdUpIdeal.τ).loc Cert.AdUpIdeal.main_v0_0) = v0 c
          ∧ r.2.mem ((c.tc : Thread Cert.AdUpIdeal.nD Cert.AdUpIdeal.τ).loc Cert.AdUpIdeal.main_v0_1) = v1 c
          ∧ r.2.mem ((c.tc : Thread Cert.AdUpIdeal.nD Cert.AdUpIdeal.τ).loc Cert.AdUpIdeal.main_v0_2) = v2 c
          ∧ r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
          ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
          ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
          ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ θ_run (Cert.ReferenceAdUpIdeal.defs (F := Ideal)) (onTc (τ := Cert.ReferenceAdUpIdeal.τ) (Cert.ReferenceAdUpIdeal.main (F := Ideal))) ⟨m', fun _ => 0, g'⟩ (fun r => ∀ c : Dev Cert.ReferenceAdUpIdeal.nD,
          r.2.mem ((c.tc : Thread Cert.ReferenceAdUpIdeal.nD Cert.ReferenceAdUpIdeal.τ).loc Cert.ReferenceAdUpIdeal.main_v23) = v0 c
          ∧ r.2.mem ((c.tc : Thread Cert.ReferenceAdUpIdeal.nD Cert.ReferenceAdUpIdeal.τ).loc Cert.ReferenceAdUpIdeal.main_v4) = v1 c
          ∧ r.2.mem ((c.tc : Thread Cert.ReferenceAdUpIdeal.nD Cert.ReferenceAdUpIdeal.τ).loc Cert.ReferenceAdUpIdeal.main_v10) = v2 c
          ∧ r.2.mem ((c.tc : Thread Cert.ReferenceAdUpIdeal.nD Cert.ReferenceAdUpIdeal.τ).loc Cert.ReferenceAdUpIdeal.main_arg0) = m' ((c.tc : Thread Cert.ReferenceAdUpIdeal.nD Cert.ReferenceAdUpIdeal.τ).loc Cert.ReferenceAdUpIdeal.main_arg0)
          ∧ r.2.mem ((c.tc : Thread Cert.ReferenceAdUpIdeal.nD Cert.ReferenceAdUpIdeal.τ).loc Cert.ReferenceAdUpIdeal.main_arg1) = m' ((c.tc : Thread Cert.ReferenceAdUpIdeal.nD Cert.ReferenceAdUpIdeal.τ).loc Cert.ReferenceAdUpIdeal.main_arg1)
          ∧ r.2.mem ((c.tc : Thread Cert.ReferenceAdUpIdeal.nD Cert.ReferenceAdUpIdeal.τ).loc Cert.ReferenceAdUpIdeal.main_arg2) = m' ((c.tc : Thread Cert.ReferenceAdUpIdeal.nD Cert.ReferenceAdUpIdeal.τ).loc Cert.ReferenceAdUpIdeal.main_arg2)
          ∧ r.2.mem ((c.tc : Thread Cert.ReferenceAdUpIdeal.nD Cert.ReferenceAdUpIdeal.τ).loc Cert.ReferenceAdUpIdeal.main_arg3) = m' ((c.tc : Thread Cert.ReferenceAdUpIdeal.nD Cert.ReferenceAdUpIdeal.τ).loc Cert.ReferenceAdUpIdeal.main_arg3))

def preserves_AdDown_AdDownIdeal : Prop :=
  True

def algebraic_AdDownIdeal_ReferenceAdDownIdeal [hAdDownIdeal : Cert.AdDownIdeal.Facts] [hReferenceAdDownIdeal : Cert.ReferenceAdDownIdeal.Facts] : Prop :=
  ∀ (m : (ℓ : Loc Cert.AdDownIdeal.nD Cert.AdDownIdeal.τ Cert.AdDownIdeal.sig) → Buf (Elt Ideal) ℓ) (g : Dev Cert.AdDownIdeal.nD → PrngReg)
    (m' : (ℓ : Loc Cert.ReferenceAdDownIdeal.nD Cert.ReferenceAdDownIdeal.τ Cert.ReferenceAdDownIdeal.sig) → Buf (Elt Ideal) ℓ) (g' : Dev Cert.ReferenceAdDownIdeal.nD → PrngReg), Pre_AdDownIdeal m →
    (∀ c : Dev Cert.AdDownIdeal.nD,
      m' ((c.tc : Thread Cert.ReferenceAdDownIdeal.nD Cert.ReferenceAdDownIdeal.τ).loc Cert.ReferenceAdDownIdeal.main_arg0) = m ((c.tc : Thread Cert.AdDownIdeal.nD Cert.AdDownIdeal.τ).loc Cert.AdDownIdeal.main_arg0)
      ∧ m' ((c.tc : Thread Cert.ReferenceAdDownIdeal.nD Cert.ReferenceAdDownIdeal.τ).loc Cert.ReferenceAdDownIdeal.main_arg1) = m ((c.tc : Thread Cert.AdDownIdeal.nD Cert.AdDownIdeal.τ).loc Cert.AdDownIdeal.main_arg1)
      ∧ m' ((c.tc : Thread Cert.ReferenceAdDownIdeal.nD Cert.ReferenceAdDownIdeal.τ).loc Cert.ReferenceAdDownIdeal.main_arg2) = m ((c.tc : Thread Cert.AdDownIdeal.nD Cert.AdDownIdeal.τ).loc Cert.AdDownIdeal.main_arg2)
      ∧ m' ((c.tc : Thread Cert.ReferenceAdDownIdeal.nD Cert.ReferenceAdDownIdeal.τ).loc Cert.ReferenceAdDownIdeal.main_arg3) = m ((c.tc : Thread Cert.AdDownIdeal.nD Cert.AdDownIdeal.τ).loc Cert.AdDownIdeal.main_arg3)) →
    ∃ (v0 : (c : Dev Cert.AdDownIdeal.nD) → Buf (Elt Ideal) ((c.tc : Thread Cert.AdDownIdeal.nD Cert.AdDownIdeal.τ).loc Cert.AdDownIdeal.main_v0_0)) (v1 : (c : Dev Cert.AdDownIdeal.nD) → Buf (Elt Ideal) ((c.tc : Thread Cert.AdDownIdeal.nD Cert.AdDownIdeal.τ).loc Cert.AdDownIdeal.main_v0_1)) (v2 : (c : Dev Cert.AdDownIdeal.nD) → Buf (Elt Ideal) ((c.tc : Thread Cert.AdDownIdeal.nD Cert.AdDownIdeal.τ).loc Cert.AdDownIdeal.main_v0_2)),
      θ_run (Cert.AdDownIdeal.defs (F := Ideal)) (onTc (τ := Cert.AdDownIdeal.τ) (Cert.AdDownIdeal.main (F := Ideal))) ⟨m, fun _ => 0, g⟩ (fun r => ∀ c : Dev Cert.AdDownIdeal.nD,
          r.2.mem ((c.tc : Thread Cert.AdDownIdeal.nD Cert.AdDownIdeal.τ).loc Cert.AdDownIdeal.main_v0_0) = v0 c
          ∧ r.2.mem ((c.tc : Thread Cert.AdDownIdeal.nD Cert.AdDownIdeal.τ).loc Cert.AdDownIdeal.main_v0_1) = v1 c
          ∧ r.2.mem ((c.tc : Thread Cert.AdDownIdeal.nD Cert.AdDownIdeal.τ).loc Cert.AdDownIdeal.main_v0_2) = v2 c
          ∧ r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
          ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
          ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
          ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ θ_run (Cert.ReferenceAdDownIdeal.defs (F := Ideal)) (onTc (τ := Cert.ReferenceAdDownIdeal.τ) (Cert.ReferenceAdDownIdeal.main (F := Ideal))) ⟨m', fun _ => 0, g'⟩ (fun r => ∀ c : Dev Cert.ReferenceAdDownIdeal.nD,
          r.2.mem ((c.tc : Thread Cert.ReferenceAdDownIdeal.nD Cert.ReferenceAdDownIdeal.τ).loc Cert.ReferenceAdDownIdeal.main_v23) = v0 c
          ∧ r.2.mem ((c.tc : Thread Cert.ReferenceAdDownIdeal.nD Cert.ReferenceAdDownIdeal.τ).loc Cert.ReferenceAdDownIdeal.main_v4) = v1 c
          ∧ r.2.mem ((c.tc : Thread Cert.ReferenceAdDownIdeal.nD Cert.ReferenceAdDownIdeal.τ).loc Cert.ReferenceAdDownIdeal.main_v10) = v2 c
          ∧ r.2.mem ((c.tc : Thread Cert.ReferenceAdDownIdeal.nD Cert.ReferenceAdDownIdeal.τ).loc Cert.ReferenceAdDownIdeal.main_arg0) = m' ((c.tc : Thread Cert.ReferenceAdDownIdeal.nD Cert.ReferenceAdDownIdeal.τ).loc Cert.ReferenceAdDownIdeal.main_arg0)
          ∧ r.2.mem ((c.tc : Thread Cert.ReferenceAdDownIdeal.nD Cert.ReferenceAdDownIdeal.τ).loc Cert.ReferenceAdDownIdeal.main_arg1) = m' ((c.tc : Thread Cert.ReferenceAdDownIdeal.nD Cert.ReferenceAdDownIdeal.τ).loc Cert.ReferenceAdDownIdeal.main_arg1)
          ∧ r.2.mem ((c.tc : Thread Cert.ReferenceAdDownIdeal.nD Cert.ReferenceAdDownIdeal.τ).loc Cert.ReferenceAdDownIdeal.main_arg2) = m' ((c.tc : Thread Cert.ReferenceAdDownIdeal.nD Cert.ReferenceAdDownIdeal.τ).loc Cert.ReferenceAdDownIdeal.main_arg2)
          ∧ r.2.mem ((c.tc : Thread Cert.ReferenceAdDownIdeal.nD Cert.ReferenceAdDownIdeal.τ).loc Cert.ReferenceAdDownIdeal.main_arg3) = m' ((c.tc : Thread Cert.ReferenceAdDownIdeal.nD Cert.ReferenceAdDownIdeal.τ).loc Cert.ReferenceAdDownIdeal.main_arg3))

def preserves_SbFwd_SbFwdIdeal : Prop :=
  True

def algebraic_SbFwdIdeal_ReferenceSbFwdIdeal_pre_finite_qk [hSbFwdIdeal : Cert.SbFwdIdeal.Facts] [hReferenceSbFwdIdeal : Cert.ReferenceSbFwdIdeal.Facts] [hPre_finite_qk : Cert.Pre_finite_qk.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.ReferenceSbFwdIdeal.nD Cert.ReferenceSbFwdIdeal.τ Cert.ReferenceSbFwdIdeal.sig) → Buf (Elt Ideal) ℓ) (g' : Dev Cert.ReferenceSbFwdIdeal.nD → PrngReg), Pre_SbFwdIdeal_finite_qk m →
    (∀ c : Dev Cert.SbFwdIdeal.nD,
      m' ((c.tc : Thread Cert.ReferenceSbFwdIdeal.nD Cert.ReferenceSbFwdIdeal.τ).loc Cert.ReferenceSbFwdIdeal.main_arg0) = m ((c.tc : Thread Cert.SbFwdIdeal.nD Cert.SbFwdIdeal.τ).loc Cert.SbFwdIdeal.main_arg0)) →
    ∃ (v0 : (c : Dev Cert.SbFwdIdeal.nD) → Buf (Elt Ideal) ((c.tc : Thread Cert.SbFwdIdeal.nD Cert.SbFwdIdeal.τ).loc Cert.SbFwdIdeal.main_v0)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v0) = v0 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ θ_run (Cert.ReferenceSbFwdIdeal.defs (F := Ideal)) (onTc (τ := Cert.ReferenceSbFwdIdeal.τ) (Cert.ReferenceSbFwdIdeal.main (F := Ideal))) ⟨m', fun _ => 0, g'⟩ (fun r => ∀ c : Dev Cert.ReferenceSbFwdIdeal.nD,
          r.2.mem ((c.tc : Thread Cert.ReferenceSbFwdIdeal.nD Cert.ReferenceSbFwdIdeal.τ).loc Cert.ReferenceSbFwdIdeal.main_v32) = v0 c
          ∧ r.2.mem ((c.tc : Thread Cert.ReferenceSbFwdIdeal.nD Cert.ReferenceSbFwdIdeal.τ).loc Cert.ReferenceSbFwdIdeal.main_arg0) = m' ((c.tc : Thread Cert.ReferenceSbFwdIdeal.nD Cert.ReferenceSbFwdIdeal.τ).loc Cert.ReferenceSbFwdIdeal.main_arg0))

def Claim : Prop :=
  ∃ (hKernel : Cert.Kernel.Facts) (hKernelIdeal : Cert.KernelIdeal.Facts) (hReferenceIdeal : Cert.ReferenceIdeal.Facts) (hDAct : Cert.DAct.Facts) (hDActIdeal : Cert.DActIdeal.Facts) (hReferenceDActIdeal : Cert.ReferenceDActIdeal.Facts) (hGDown : Cert.GDown.Facts) (hGDownIdeal : Cert.GDownIdeal.Facts) (hReferenceGDownIdeal : Cert.ReferenceGDownIdeal.Facts) (hDHidden : Cert.DHidden.Facts) (hDHiddenIdeal : Cert.DHiddenIdeal.Facts) (hReferenceDHiddenIdeal : Cert.ReferenceDHiddenIdeal.Facts) (hGUp : Cert.GUp.Facts) (hGUpIdeal : Cert.GUpIdeal.Facts) (hReferenceGUpIdeal : Cert.ReferenceGUpIdeal.Facts) (hDIn : Cert.DIn.Facts) (hDInIdeal : Cert.DInIdeal.Facts) (hReferenceDInIdeal : Cert.ReferenceDInIdeal.Facts) (hGQkv : Cert.GQkv.Facts) (hGQkvIdeal : Cert.GQkvIdeal.Facts) (hReferenceGQkvIdeal : Cert.ReferenceGQkvIdeal.Facts) (hGAux : Cert.GAux.Facts) (hGAuxIdeal : Cert.GAuxIdeal.Facts) (hReferenceGAuxIdeal : Cert.ReferenceGAuxIdeal.Facts) (hDMixed : Cert.DMixed.Facts) (hDMixedIdeal : Cert.DMixedIdeal.Facts) (hReferenceDMixedIdeal : Cert.ReferenceDMixedIdeal.Facts) (hGOut : Cert.GOut.Facts) (hGOutIdeal : Cert.GOutIdeal.Facts) (hReferenceGOutIdeal : Cert.ReferenceGOutIdeal.Facts) (hDOc : Cert.DOc.Facts) (hDOcIdeal : Cert.DOcIdeal.Facts) (hReferenceDOcIdeal : Cert.ReferenceDOcIdeal.Facts) (hGCo : Cert.GCo.Facts) (hGCoIdeal : Cert.GCoIdeal.Facts) (hReferenceGCoIdeal : Cert.ReferenceGCoIdeal.Facts) (hDHq : Cert.DHq.Facts) (hDHqIdeal : Cert.DHqIdeal.Facts) (hReferenceDHqIdeal : Cert.ReferenceDHqIdeal.Facts) (hGCq : Cert.GCq.Facts) (hGCqIdeal : Cert.GCqIdeal.Facts) (hReferenceGCqIdeal : Cert.ReferenceGCqIdeal.Facts) (hDMemn : Cert.DMemn.Facts) (hDMemnIdeal : Cert.DMemnIdeal.Facts) (hReferenceDMemnIdeal : Cert.ReferenceDMemnIdeal.Facts) (hGCkv : Cert.GCkv.Facts) (hGCkvIdeal : Cert.GCkvIdeal.Facts) (hReferenceGCkvIdeal : Cert.ReferenceGCkvIdeal.Facts) (hFUp : Cert.FUp.Facts) (hFUpIdeal : Cert.FUpIdeal.Facts) (hReferenceFUpIdeal : Cert.ReferenceFUpIdeal.Facts) (hFDown : Cert.FDown.Facts) (hFDownIdeal : Cert.FDownIdeal.Facts) (hReferenceFDownIdeal : Cert.ReferenceFDownIdeal.Facts) (hFQkv : Cert.FQkv.Facts) (hFQkvIdeal : Cert.FQkvIdeal.Facts) (hReferenceFQkvIdeal : Cert.ReferenceFQkvIdeal.Facts) (hFAux : Cert.FAux.Facts) (hFAuxIdeal : Cert.FAuxIdeal.Facts) (hReferenceFAuxIdeal : Cert.ReferenceFAuxIdeal.Facts) (hFOut : Cert.FOut.Facts) (hFOutIdeal : Cert.FOutIdeal.Facts) (hReferenceFOutIdeal : Cert.ReferenceFOutIdeal.Facts) (hFCq : Cert.FCq.Facts) (hFCqIdeal : Cert.FCqIdeal.Facts) (hReferenceFCqIdeal : Cert.ReferenceFCqIdeal.Facts) (hFCkv : Cert.FCkv.Facts) (hFCkvIdeal : Cert.FCkvIdeal.Facts) (hReferenceFCkvIdeal : Cert.ReferenceFCkvIdeal.Facts) (hFCo : Cert.FCo.Facts) (hFCoIdeal : Cert.FCoIdeal.Facts) (hReferenceFCoIdeal : Cert.ReferenceFCoIdeal.Facts) (hAdIn : Cert.AdIn.Facts) (hAdInIdeal : Cert.AdInIdeal.Facts) (hReferenceAdInIdeal : Cert.ReferenceAdInIdeal.Facts) (hAdOut : Cert.AdOut.Facts) (hAdOutIdeal : Cert.AdOutIdeal.Facts) (hReferenceAdOutIdeal : Cert.ReferenceAdOutIdeal.Facts) (hAdCross : Cert.AdCross.Facts) (hAdCrossIdeal : Cert.AdCrossIdeal.Facts) (hReferenceAdCrossIdeal : Cert.ReferenceAdCrossIdeal.Facts) (hAdCo : Cert.AdCo.Facts) (hAdCoIdeal : Cert.AdCoIdeal.Facts) (hReferenceAdCoIdeal : Cert.ReferenceAdCoIdeal.Facts) (hAdUp : Cert.AdUp.Facts) (hAdUpIdeal : Cert.AdUpIdeal.Facts) (hReferenceAdUpIdeal : Cert.ReferenceAdUpIdeal.Facts) (hAdDown : Cert.AdDown.Facts) (hAdDownIdeal : Cert.AdDownIdeal.Facts) (hReferenceAdDownIdeal : Cert.ReferenceAdDownIdeal.Facts) (hSbFwd : Cert.SbFwd.Facts) (hSbFwdIdeal : Cert.SbFwdIdeal.Facts) (hReferenceSbFwdIdeal : Cert.ReferenceSbFwdIdeal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DAct (hDAct := hDAct)
    ∧ quiescent_DActIdeal (hDActIdeal := hDActIdeal)
    ∧ quiescent_ReferenceDActIdeal (hReferenceDActIdeal := hReferenceDActIdeal)
    ∧ quiescent_GDown (hGDown := hGDown)
    ∧ quiescent_GDownIdeal (hGDownIdeal := hGDownIdeal)
    ∧ quiescent_ReferenceGDownIdeal (hReferenceGDownIdeal := hReferenceGDownIdeal)
    ∧ quiescent_DHidden (hDHidden := hDHidden)
    ∧ quiescent_DHiddenIdeal (hDHiddenIdeal := hDHiddenIdeal)
    ∧ quiescent_ReferenceDHiddenIdeal (hReferenceDHiddenIdeal := hReferenceDHiddenIdeal)
    ∧ quiescent_GUp (hGUp := hGUp)
    ∧ quiescent_GUpIdeal (hGUpIdeal := hGUpIdeal)
    ∧ quiescent_ReferenceGUpIdeal (hReferenceGUpIdeal := hReferenceGUpIdeal)
    ∧ quiescent_DIn (hDIn := hDIn)
    ∧ quiescent_DInIdeal (hDInIdeal := hDInIdeal)
    ∧ quiescent_ReferenceDInIdeal (hReferenceDInIdeal := hReferenceDInIdeal)
    ∧ quiescent_GQkv (hGQkv := hGQkv)
    ∧ quiescent_GQkvIdeal (hGQkvIdeal := hGQkvIdeal)
    ∧ quiescent_ReferenceGQkvIdeal (hReferenceGQkvIdeal := hReferenceGQkvIdeal)
    ∧ quiescent_GAux (hGAux := hGAux)
    ∧ quiescent_GAuxIdeal (hGAuxIdeal := hGAuxIdeal)
    ∧ quiescent_ReferenceGAuxIdeal (hReferenceGAuxIdeal := hReferenceGAuxIdeal)
    ∧ quiescent_DMixed (hDMixed := hDMixed)
    ∧ quiescent_DMixedIdeal (hDMixedIdeal := hDMixedIdeal)
    ∧ quiescent_ReferenceDMixedIdeal (hReferenceDMixedIdeal := hReferenceDMixedIdeal)
    ∧ quiescent_GOut (hGOut := hGOut)
    ∧ quiescent_GOutIdeal (hGOutIdeal := hGOutIdeal)
    ∧ quiescent_ReferenceGOutIdeal (hReferenceGOutIdeal := hReferenceGOutIdeal)
    ∧ quiescent_DOc (hDOc := hDOc)
    ∧ quiescent_DOcIdeal (hDOcIdeal := hDOcIdeal)
    ∧ quiescent_ReferenceDOcIdeal (hReferenceDOcIdeal := hReferenceDOcIdeal)
    ∧ quiescent_GCo (hGCo := hGCo)
    ∧ quiescent_GCoIdeal (hGCoIdeal := hGCoIdeal)
    ∧ quiescent_ReferenceGCoIdeal (hReferenceGCoIdeal := hReferenceGCoIdeal)
    ∧ quiescent_DHq (hDHq := hDHq)
    ∧ quiescent_DHqIdeal (hDHqIdeal := hDHqIdeal)
    ∧ quiescent_ReferenceDHqIdeal (hReferenceDHqIdeal := hReferenceDHqIdeal)
    ∧ quiescent_GCq (hGCq := hGCq)
    ∧ quiescent_GCqIdeal (hGCqIdeal := hGCqIdeal)
    ∧ quiescent_ReferenceGCqIdeal (hReferenceGCqIdeal := hReferenceGCqIdeal)
    ∧ quiescent_DMemn (hDMemn := hDMemn)
    ∧ quiescent_DMemnIdeal (hDMemnIdeal := hDMemnIdeal)
    ∧ quiescent_ReferenceDMemnIdeal (hReferenceDMemnIdeal := hReferenceDMemnIdeal)
    ∧ quiescent_GCkv (hGCkv := hGCkv)
    ∧ quiescent_GCkvIdeal (hGCkvIdeal := hGCkvIdeal)
    ∧ quiescent_ReferenceGCkvIdeal (hReferenceGCkvIdeal := hReferenceGCkvIdeal)
    ∧ quiescent_FUp (hFUp := hFUp)
    ∧ quiescent_FUpIdeal (hFUpIdeal := hFUpIdeal)
    ∧ quiescent_ReferenceFUpIdeal (hReferenceFUpIdeal := hReferenceFUpIdeal)
    ∧ quiescent_FDown (hFDown := hFDown)
    ∧ quiescent_FDownIdeal (hFDownIdeal := hFDownIdeal)
    ∧ quiescent_ReferenceFDownIdeal (hReferenceFDownIdeal := hReferenceFDownIdeal)
    ∧ quiescent_FQkv (hFQkv := hFQkv)
    ∧ quiescent_FQkvIdeal (hFQkvIdeal := hFQkvIdeal)
    ∧ quiescent_ReferenceFQkvIdeal (hReferenceFQkvIdeal := hReferenceFQkvIdeal)
    ∧ quiescent_FAux (hFAux := hFAux)
    ∧ quiescent_FAuxIdeal (hFAuxIdeal := hFAuxIdeal)
    ∧ quiescent_ReferenceFAuxIdeal (hReferenceFAuxIdeal := hReferenceFAuxIdeal)
    ∧ quiescent_FOut (hFOut := hFOut)
    ∧ quiescent_FOutIdeal (hFOutIdeal := hFOutIdeal)
    ∧ quiescent_ReferenceFOutIdeal (hReferenceFOutIdeal := hReferenceFOutIdeal)
    ∧ quiescent_FCq (hFCq := hFCq)
    ∧ quiescent_FCqIdeal (hFCqIdeal := hFCqIdeal)
    ∧ quiescent_ReferenceFCqIdeal (hReferenceFCqIdeal := hReferenceFCqIdeal)
    ∧ quiescent_FCkv (hFCkv := hFCkv)
    ∧ quiescent_FCkvIdeal (hFCkvIdeal := hFCkvIdeal)
    ∧ quiescent_ReferenceFCkvIdeal (hReferenceFCkvIdeal := hReferenceFCkvIdeal)
    ∧ quiescent_FCo (hFCo := hFCo)
    ∧ quiescent_FCoIdeal (hFCoIdeal := hFCoIdeal)
    ∧ quiescent_ReferenceFCoIdeal (hReferenceFCoIdeal := hReferenceFCoIdeal)
    ∧ quiescent_AdIn (hAdIn := hAdIn)
    ∧ quiescent_AdInIdeal (hAdInIdeal := hAdInIdeal)
    ∧ quiescent_ReferenceAdInIdeal (hReferenceAdInIdeal := hReferenceAdInIdeal)
    ∧ quiescent_AdOut (hAdOut := hAdOut)
    ∧ quiescent_AdOutIdeal (hAdOutIdeal := hAdOutIdeal)
    ∧ quiescent_ReferenceAdOutIdeal (hReferenceAdOutIdeal := hReferenceAdOutIdeal)
    ∧ quiescent_AdCross (hAdCross := hAdCross)
    ∧ quiescent_AdCrossIdeal (hAdCrossIdeal := hAdCrossIdeal)
    ∧ quiescent_ReferenceAdCrossIdeal (hReferenceAdCrossIdeal := hReferenceAdCrossIdeal)
    ∧ quiescent_AdCo (hAdCo := hAdCo)
    ∧ quiescent_AdCoIdeal (hAdCoIdeal := hAdCoIdeal)
    ∧ quiescent_ReferenceAdCoIdeal (hReferenceAdCoIdeal := hReferenceAdCoIdeal)
    ∧ quiescent_AdUp (hAdUp := hAdUp)
    ∧ quiescent_AdUpIdeal (hAdUpIdeal := hAdUpIdeal)
    ∧ quiescent_ReferenceAdUpIdeal (hReferenceAdUpIdeal := hReferenceAdUpIdeal)
    ∧ quiescent_AdDown (hAdDown := hAdDown)
    ∧ quiescent_AdDownIdeal (hAdDownIdeal := hAdDownIdeal)
    ∧ quiescent_ReferenceAdDownIdeal (hReferenceAdDownIdeal := hReferenceAdDownIdeal)
    ∧ quiescent_SbFwd (hSbFwd := hSbFwd)
    ∧ quiescent_SbFwdIdeal (hSbFwdIdeal := hSbFwdIdeal)
    ∧ quiescent_SbFwdIdeal_pre_finite_qk (hSbFwdIdeal := hSbFwdIdeal) (hPre_finite_qk := hPre_finite_qk)
    ∧ quiescent_ReferenceSbFwdIdeal (hReferenceSbFwdIdeal := hReferenceSbFwdIdeal)
    ∧ quiescent_ReferenceSbFwdIdeal_pre_finite_qk (hReferenceSbFwdIdeal := hReferenceSbFwdIdeal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_DAct_DActIdeal
    ∧ algebraic_DActIdeal_ReferenceDActIdeal (hDActIdeal := hDActIdeal) (hReferenceDActIdeal := hReferenceDActIdeal)
    ∧ preserves_GDown_GDownIdeal
    ∧ algebraic_GDownIdeal_ReferenceGDownIdeal (hGDownIdeal := hGDownIdeal) (hReferenceGDownIdeal := hReferenceGDownIdeal)
    ∧ preserves_DHidden_DHiddenIdeal
    ∧ algebraic_DHiddenIdeal_ReferenceDHiddenIdeal (hDHiddenIdeal := hDHiddenIdeal) (hReferenceDHiddenIdeal := hReferenceDHiddenIdeal)
    ∧ preserves_GUp_GUpIdeal
    ∧ algebraic_GUpIdeal_ReferenceGUpIdeal (hGUpIdeal := hGUpIdeal) (hReferenceGUpIdeal := hReferenceGUpIdeal)
    ∧ preserves_DIn_DInIdeal
    ∧ algebraic_DInIdeal_ReferenceDInIdeal (hDInIdeal := hDInIdeal) (hReferenceDInIdeal := hReferenceDInIdeal)
    ∧ preserves_GQkv_GQkvIdeal
    ∧ algebraic_GQkvIdeal_ReferenceGQkvIdeal (hGQkvIdeal := hGQkvIdeal) (hReferenceGQkvIdeal := hReferenceGQkvIdeal)
    ∧ preserves_GAux_GAuxIdeal
    ∧ algebraic_GAuxIdeal_ReferenceGAuxIdeal (hGAuxIdeal := hGAuxIdeal) (hReferenceGAuxIdeal := hReferenceGAuxIdeal)
    ∧ preserves_DMixed_DMixedIdeal
    ∧ algebraic_DMixedIdeal_ReferenceDMixedIdeal (hDMixedIdeal := hDMixedIdeal) (hReferenceDMixedIdeal := hReferenceDMixedIdeal)
    ∧ preserves_GOut_GOutIdeal
    ∧ algebraic_GOutIdeal_ReferenceGOutIdeal (hGOutIdeal := hGOutIdeal) (hReferenceGOutIdeal := hReferenceGOutIdeal)
    ∧ preserves_DOc_DOcIdeal
    ∧ algebraic_DOcIdeal_ReferenceDOcIdeal (hDOcIdeal := hDOcIdeal) (hReferenceDOcIdeal := hReferenceDOcIdeal)
    ∧ preserves_GCo_GCoIdeal
    ∧ algebraic_GCoIdeal_ReferenceGCoIdeal (hGCoIdeal := hGCoIdeal) (hReferenceGCoIdeal := hReferenceGCoIdeal)
    ∧ preserves_DHq_DHqIdeal
    ∧ algebraic_DHqIdeal_ReferenceDHqIdeal (hDHqIdeal := hDHqIdeal) (hReferenceDHqIdeal := hReferenceDHqIdeal)
    ∧ preserves_GCq_GCqIdeal
    ∧ algebraic_GCqIdeal_ReferenceGCqIdeal (hGCqIdeal := hGCqIdeal) (hReferenceGCqIdeal := hReferenceGCqIdeal)
    ∧ preserves_DMemn_DMemnIdeal
    ∧ algebraic_DMemnIdeal_ReferenceDMemnIdeal (hDMemnIdeal := hDMemnIdeal) (hReferenceDMemnIdeal := hReferenceDMemnIdeal)
    ∧ preserves_GCkv_GCkvIdeal
    ∧ algebraic_GCkvIdeal_ReferenceGCkvIdeal (hGCkvIdeal := hGCkvIdeal) (hReferenceGCkvIdeal := hReferenceGCkvIdeal)
    ∧ preserves_FUp_FUpIdeal
    ∧ algebraic_FUpIdeal_ReferenceFUpIdeal (hFUpIdeal := hFUpIdeal) (hReferenceFUpIdeal := hReferenceFUpIdeal)
    ∧ preserves_FDown_FDownIdeal
    ∧ algebraic_FDownIdeal_ReferenceFDownIdeal (hFDownIdeal := hFDownIdeal) (hReferenceFDownIdeal := hReferenceFDownIdeal)
    ∧ preserves_FQkv_FQkvIdeal
    ∧ algebraic_FQkvIdeal_ReferenceFQkvIdeal (hFQkvIdeal := hFQkvIdeal) (hReferenceFQkvIdeal := hReferenceFQkvIdeal)
    ∧ preserves_FAux_FAuxIdeal
    ∧ algebraic_FAuxIdeal_ReferenceFAuxIdeal (hFAuxIdeal := hFAuxIdeal) (hReferenceFAuxIdeal := hReferenceFAuxIdeal)
    ∧ preserves_FOut_FOutIdeal
    ∧ algebraic_FOutIdeal_ReferenceFOutIdeal (hFOutIdeal := hFOutIdeal) (hReferenceFOutIdeal := hReferenceFOutIdeal)
    ∧ preserves_FCq_FCqIdeal
    ∧ algebraic_FCqIdeal_ReferenceFCqIdeal (hFCqIdeal := hFCqIdeal) (hReferenceFCqIdeal := hReferenceFCqIdeal)
    ∧ preserves_FCkv_FCkvIdeal
    ∧ algebraic_FCkvIdeal_ReferenceFCkvIdeal (hFCkvIdeal := hFCkvIdeal) (hReferenceFCkvIdeal := hReferenceFCkvIdeal)
    ∧ preserves_FCo_FCoIdeal
    ∧ algebraic_FCoIdeal_ReferenceFCoIdeal (hFCoIdeal := hFCoIdeal) (hReferenceFCoIdeal := hReferenceFCoIdeal)
    ∧ preserves_AdIn_AdInIdeal
    ∧ algebraic_AdInIdeal_ReferenceAdInIdeal (hAdInIdeal := hAdInIdeal) (hReferenceAdInIdeal := hReferenceAdInIdeal)
    ∧ preserves_AdOut_AdOutIdeal
    ∧ algebraic_AdOutIdeal_ReferenceAdOutIdeal (hAdOutIdeal := hAdOutIdeal) (hReferenceAdOutIdeal := hReferenceAdOutIdeal)
    ∧ preserves_AdCross_AdCrossIdeal
    ∧ algebraic_AdCrossIdeal_ReferenceAdCrossIdeal (hAdCrossIdeal := hAdCrossIdeal) (hReferenceAdCrossIdeal := hReferenceAdCrossIdeal)
    ∧ preserves_AdCo_AdCoIdeal
    ∧ algebraic_AdCoIdeal_ReferenceAdCoIdeal (hAdCoIdeal := hAdCoIdeal) (hReferenceAdCoIdeal := hReferenceAdCoIdeal)
    ∧ preserves_AdUp_AdUpIdeal
    ∧ algebraic_AdUpIdeal_ReferenceAdUpIdeal (hAdUpIdeal := hAdUpIdeal) (hReferenceAdUpIdeal := hReferenceAdUpIdeal)
    ∧ preserves_AdDown_AdDownIdeal
    ∧ algebraic_AdDownIdeal_ReferenceAdDownIdeal (hAdDownIdeal := hAdDownIdeal) (hReferenceAdDownIdeal := hReferenceAdDownIdeal)
    ∧ preserves_SbFwd_SbFwdIdeal
    ∧ algebraic_SbFwdIdeal_ReferenceSbFwdIdeal_pre_finite_qk (hSbFwdIdeal := hSbFwdIdeal) (hReferenceSbFwdIdeal := hReferenceSbFwdIdeal) (hPre_finite_qk := hPre_finite_qk)
-- ==== Pre_finite.lean ====
abbrev S4096x2304 : Shape := ⟨2, ![4096, 2304]⟩
abbrev S4096x1024 : Shape := ⟨2, ![4096, 1024]⟩
abbrev S4096x768 : Shape := ⟨2, ![4096, 768]⟩
abbrev S4096x256 : Shape := ⟨2, ![4096, 256]⟩
abbrev S_ : Shape := ⟨0, ![]⟩

class Facts : Prop where
  slices_S4096x2304_S4096x768_0_0 : S4096x2304.Slices ![0, 0] S4096x768
  bitsLt_bf16_f32 : FTy.bits .bf16 < FTy.bits .f32
  slices_S4096x1024_S4096x256_0_0 : S4096x1024.Slices ![0, 0] S4096x256
  concatenates_S4096x768_S4096x256_S4096x1024_d1 : Shape.Concatenates [S4096x768, S4096x256] S4096x1024 1
  bcast_S_S4096x1024 : S_.BroadcastsInDim S4096x1024 (![] : Fin 0 → Fin S4096x1024.rank)

variable [Facts]

def fn {F : FTy → Type} [FloatOps F] (main_arg0 : FVec F S4096x2304 .bf16) (main_arg1 : FVec F S4096x1024 .f32) : IVec S4096x1024 1 :=
  let main_v0 : FVec F S4096x768 .bf16 := (extractStridedSlice S4096x768 ![0, 0] · slices_S4096x2304_S4096x768_0_0) main_arg0
  let main_v1 : FVec F S4096x768 .f32 := (extf .f32 · bitsLt_bf16_f32) main_v0
  let main_v2 : FVec F S4096x256 .f32 := (extractStridedSlice S4096x256 ![0, 0] · slices_S4096x1024_S4096x256_0_0) main_arg1
  let main_v3 : FVec F S4096x1024 .f32 := (fun a b => concatenate S4096x1024 1 [⟨S4096x768, a⟩, ⟨S4096x256, b⟩] concatenates_S4096x768_S4096x256_S4096x1024_d1) main_v1 main_v2
  let main_v4 : FVec F S4096x1024 .f32 := Host.absf main_v3
  let main_cst : FVec F S_ .f32 := constant S_ .f32 0x7F800000#32
  let main_v5 : FVec F S4096x1024 .f32 := broadcastInDim S4096x1024 ![] bcast_S_S4096x1024 main_cst
  let main_v6 : IVec S4096x1024 1 := cmpf .olt main_v4 main_v5
  main_v6
-- ==== Pre_finite_qk.lean ====
abbrev S4096x2304 : Shape := ⟨2, ![4096, 2304]⟩
abbrev S4096x512 : Shape := ⟨2, ![4096, 512]⟩
abbrev S_ : Shape := ⟨0, ![]⟩

class Facts : Prop where
  slices_S4096x2304_S4096x512_0_0 : S4096x2304.Slices ![0, 0] S4096x512
  bitsLt_bf16_f32 : FTy.bits .bf16 < FTy.bits .f32
  bcast_S_S4096x512 : S_.BroadcastsInDim S4096x512 (![] : Fin 0 → Fin S4096x512.rank)

variable [Facts]

def fn {F : FTy → Type} [FloatOps F] (main_arg0 : FVec F S4096x2304 .bf16) : IVec S4096x512 1 :=
  let main_v0 : FVec F S4096x512 .bf16 := (extractStridedSlice S4096x512 ![0, 0] · slices_S4096x2304_S4096x512_0_0) main_arg0
  let main_v1 : FVec F S4096x512 .f32 := (extf .f32 · bitsLt_bf16_f32) main_v0
  let main_v2 : FVec F S4096x512 .f32 := Host.absf main_v1
  let main_cst : FVec F S_ .f32 := constant S_ .f32 0x7F800000#32
  let main_v3 : FVec F S4096x512 .f32 := broadcastInDim S4096x512 ![] bcast_S_S4096x512 main_cst
  let main_v4 : IVec S4096x512 1 := cmpf .olt main_v2 main_v3
  main_v4
-- ==== Kernel.lean ====
abbrev S4096x2304 : Shape := ⟨2, ![4096, 2304]⟩
abbrev S4096x1024 : Shape := ⟨2, ![4096, 1024]⟩
abbrev S4096x256 : Shape := ⟨2, ![4096, 256]⟩
abbrev S2048x256 : Shape := ⟨2, ![2048, 256]⟩
abbrev S8x128x1024 : Shape := ⟨3, ![8, 128, 1024]⟩
abbrev S1024x256 : Shape := ⟨2, ![1024, 256]⟩
abbrev S128x1024 : Shape := ⟨2, ![128, 1024]⟩
abbrev S256x256 : Shape := ⟨2, ![256, 256]⟩
abbrev S128x256 : Shape := ⟨2, ![128, 256]⟩
abbrev S1x128x1024 : Shape := ⟨3, ![1, 128, 1024]⟩
abbrev S128 : Shape := ⟨1, ![128]⟩
abbrev S128x1 : Shape := ⟨2, ![128, 1]⟩

abbrev nBuf : Space → Nat
  | .hbm => 5
  | .vmem => 16
  | .smem => 0
  | _ => 0

abbrev bufTy : (tb : Table) → Fin (tcTables nBuf tb) → BufTy
  | .hbm, ⟨0, _⟩ => ⟨S4096x2304, .bf16⟩
  | .hbm, ⟨1, _⟩ => ⟨S4096x1024, .f32⟩
  | .hbm, ⟨2, _⟩ => ⟨S4096x256, .f32⟩
  | .hbm, ⟨3, _⟩ => ⟨S4096x256, .f32⟩
  | .hbm, ⟨4, _⟩ => ⟨S4096x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S8x128x1024, .f32⟩
  | .local _ .vmem, ⟨15, _⟩ => ⟨S8x128x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_20 : BitVec 32 := 0#32
  let c16_i32 : BitVec 32 := 16#32
  let v83 : BitVec 32 := Scalar.addi c0_i32_20 c16_i32
  let c1_i32_21 : BitVec 32 := 1#32
  ⟨c0_i32_20, v83, c1_i32_21⟩
def k0_mult1 (k0_t1 : Fin k0_t1_loop.trips) : BitVec 32 :=
  let c0_i32_20 : BitVec 32 := 0#32
  let c1_i32_21 : BitVec 32 := 1#32
  let arg10 : BitVec 32 := Scf.iv c0_i32_20 c1_i32_21 k0_t1
  let c128_i32 : BitVec 32 := 128#32
  let v84 : BitVec 32 := Scalar.muli arg10 c128_i32
  v84
def k0_off1 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c128_i32 : BitVec 32 := 128#32
  let v84 : BitVec 32 := Scalar.muli arg10 c128_i32
  let v85 : BitVec 32 := v84
  let v86 : Index := Scalar.indexCast v85
  let c0_23 : Index := 0#32
  ![v86.toNat, 0]
def k0_mult2 (k0_t1 : Fin k0_t1_loop.trips) : BitVec 32 :=
  let c0_i32_20 : BitVec 32 := 0#32
  let c1_i32_21 : BitVec 32 := 1#32
  let arg10 : BitVec 32 := Scf.iv c0_i32_20 c1_i32_21 k0_t1
  let c128_i32_25 : BitVec 32 := 128#32
  let v90 : BitVec 32 := Scalar.muli arg10 c128_i32_25
  v90
def k0_mult3 (k0_t1 : Fin k0_t1_loop.trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c256_i32_41 : BitVec 32 := 256#32
  let v127 : BitVec 32 := Scalar.muli v111 c256_i32_41
  v127
def k0_off2 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c256_i32_41 : BitVec 32 := 256#32
  let v127 : BitVec 32 := Scalar.muli v111 c256_i32_41
  let v128 : BitVec 32 := v127
  let v129 : Index := Scalar.indexCast v128
  let c0_42 : Index := 0#32
  ![v129.toNat, 0]
def k0_off3 (k0_t1 : Fin k0_t1_loop.trips) : Fin 3 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let v183 : Index := Scalar.indexCast v111
  let c0_52 : Index := 0#32
  let c0_53 : Index := 0#32
  ![v183.toNat, 0, 0]
@[reducible] def k0_t2_loop (k0_t1 : Fin k0_t1_loop.trips) : Scf.Loop 32 :=
  let c0_i32_67 : BitVec 32 := 0#32
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v225 : BitVec 32 := Scalar.subi v224 c0_i32_67
  let c1_i32_68 : BitVec 32 := 1#32
  let v227 : BitVec 32 := Scalar.divsi v225 c1_i32_68
  let v228 : BitVec 32 := Scalar.muli v227 c1_i32_68
  let v229 : BitVec 32 := Scalar.addi c0_i32_67 v228
  let c1_i32_69 : BitVec 32 := 1#32
  ⟨c0_i32_67, v229, c1_i32_69⟩
def k0_mult4 (k0_t1 : Fin k0_t1_loop.trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c256_i32_110 : BitVec 32 := 256#32
  let v307 : BitVec 32 := Scalar.muli v306 c256_i32_110
  v307
def k0_off4 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c256_i32_110 : BitVec 32 := 256#32
  let v307 : BitVec 32 := Scalar.muli v306 c256_i32_110
  let v308 : BitVec 32 := v307
  let v309 : Index := Scalar.indexCast v308
  let c0_111 : Index := 0#32
  ![v309.toNat, 0]
def k0_off5 (k0_t1 : Fin k0_t1_loop.trips) : Fin 3 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let v359 : Index := Scalar.indexCast v306
  let c0_119 : Index := 0#32
  let c0_120 : Index := 0#32
  ![v359.toNat, 0, 0]
@[reducible] def k0_t3_loop (k0_t1 : Fin k0_t1_loop.trips) : Scf.Loop 32 :=
  let c0_i32_67 : BitVec 32 := 0#32
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v225 : BitVec 32 := Scalar.subi v224 c0_i32_67
  let c1_i32_68 : BitVec 32 := 1#32
  let v227 : BitVec 32 := Scalar.divsi v225 c1_i32_68
  let v228 : BitVec 32 := Scalar.muli v227 c1_i32_68
  let v229 : BitVec 32 := Scalar.addi c0_i32_67 v228
  let v226 : BitVec 32 := Scalar.addi c0_i32_67 v225
  let c1_i32_70 : BitVec 32 := 1#32
  ⟨v229, v226, c1_i32_70⟩
def k0_mult5 (k0_t1 : Fin k0_t1_loop.trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c256_i32_110 : BitVec 32 := 256#32
  let v307 : BitVec 32 := Scalar.muli v306 c256_i32_110
  v307
def k0_off6 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c256_i32_110 : BitVec 32 := 256#32
  let v307 : BitVec 32 := Scalar.muli v306 c256_i32_110
  let v308 : BitVec 32 := v307
  let v309 : Index := Scalar.indexCast v308
  let c0_111 : Index := 0#32
  ![v309.toNat, 0]
def k0_off7 (k0_t1 : Fin k0_t1_loop.trips) : Fin 3 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let v359 : Index := Scalar.indexCast v306
  let c0_119 : Index := 0#32
  let c0_120 : Index := 0#32
  ![v359.toNat, 0, 0]
@[reducible] def k0_t4_loop (k0_t1 : Fin k0_t1_loop.trips) : Scf.Loop 32 :=
  let c0_i32_78 : BitVec 32 := 0#32
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c0_i32_72 : BitVec 32 := 0#32
  let v233 : BitVec 1 := Scalar.cmpi .sgt v111 c0_i32_72
  let v234 : BitVec 32 := Scalar.extui v233
  let c0_i32_73 : BitVec 32 := 0#32
  let v235 : BitVec 1 := Scalar.cmpi .slt v111 c0_i32_73
  let v236 : BitVec 32 := Scalar.extui v235
  let v237 : BitVec 32 := Scalar.subi v234 v236
  let c2_i32_71 : BitVec 32 := 2#32
  let c0_i32_74 : BitVec 32 := 0#32
  let v238 : BitVec 1 := Scalar.cmpi .sgt c2_i32_71 c0_i32_74
  let v239 : BitVec 32 := Scalar.extui v238
  let c0_i32_75 : BitVec 32 := 0#32
  let v240 : BitVec 1 := Scalar.cmpi .slt c2_i32_71 c0_i32_75
  let v241 : BitVec 32 := Scalar.extui v240
  let v242 : BitVec 32 := Scalar.subi v239 v241
  let v243 : BitVec 1 := Scalar.cmpi .ne v237 v242
  let v244 : BitVec 32 := Scalar.remsi v111 c2_i32_71
  let c0_i32_76 : BitVec 32 := 0#32
  let v245 : BitVec 1 := Scalar.cmpi .ne v244 c0_i32_76
  let v246 : BitVec 1 := Scalar.andi v243 v245
  let v232 : BitVec 32 := Scalar.divsi v111 c2_i32_71
  let c1_i32_77 : BitVec 32 := 1#32
  let v247 : BitVec 32 := Scalar.subi v232 c1_i32_77
  let v248 : BitVec 32 := Scalar.select v246 v247 v232
  let v249 : BitVec 32 := Scalar.subi v248 c0_i32_78
  let c1_i32_79 : BitVec 32 := 1#32
  let v251 : BitVec 32 := Scalar.divsi v249 c1_i32_79
  let v252 : BitVec 32 := Scalar.muli v251 c1_i32_79
  let v253 : BitVec 32 := Scalar.addi c0_i32_78 v252
  let c1_i32_80 : BitVec 32 := 1#32
  ⟨c0_i32_78, v253, c1_i32_80⟩
def k0_mult6 (k0_t1 : Fin k0_t1_loop.trips) (k0_t4 : Fin (k0_t4_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c1_i32_80 : BitVec 32 := 1#32
  let arg11 : BitVec 32 := Scf.iv c0_i32_78 c1_i32_80 k0_t4
  let v308 : BitVec 32 := Scalar.muli c2_i32_110 arg11
  let v309 : BitVec 32 := Scalar.subi v307 v308
  let c256_i32_111 : BitVec 32 := 256#32
  let v310 : BitVec 32 := Scalar.muli v309 c256_i32_111
  v310
def k0_off8 (k0_t1 : Fin k0_t1_loop.trips) (k0_t4 : Fin (k0_t4_loop k0_t1).trips) : Fin 2 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c1_i32_80 : BitVec 32 := 1#32
  let arg11 : BitVec 32 := Scf.iv c0_i32_78 c1_i32_80 k0_t4
  let v308 : BitVec 32 := Scalar.muli c2_i32_110 arg11
  let v309 : BitVec 32 := Scalar.subi v307 v308
  let c256_i32_111 : BitVec 32 := 256#32
  let v310 : BitVec 32 := Scalar.muli v309 c256_i32_111
  let v311 : BitVec 32 := v310
  let v312 : Index := Scalar.indexCast v311
  let c0_112 : Index := 0#32
  ![v312.toNat, 0]
def k0_mult7 (k0_t1 : Fin k0_t1_loop.trips) (k0_t4 : Fin (k0_t4_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c1_i32_80 : BitVec 32 := 1#32
  let arg11 : BitVec 32 := Scf.iv c0_i32_78 c1_i32_80 k0_t4
  let v308 : BitVec 32 := Scalar.muli c2_i32_110 arg11
  let v309 : BitVec 32 := Scalar.subi v307 v308
  let c1_i32_120 : BitVec 32 := 1#32
  let v358 : BitVec 32 := Scalar.subi v309 c1_i32_120
  let c256_i32_121 : BitVec 32 := 256#32
  let v359 : BitVec 32 := Scalar.muli v358 c256_i32_121
  v359
def k0_off9 (k0_t1 : Fin k0_t1_loop.trips) (k0_t4 : Fin (k0_t4_loop k0_t1).trips) : Fin 2 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c1_i32_80 : BitVec 32 := 1#32
  let arg11 : BitVec 32 := Scf.iv c0_i32_78 c1_i32_80 k0_t4
  let v308 : BitVec 32 := Scalar.muli c2_i32_110 arg11
  let v309 : BitVec 32 := Scalar.subi v307 v308
  let c1_i32_120 : BitVec 32 := 1#32
  let v358 : BitVec 32 := Scalar.subi v309 c1_i32_120
  let c256_i32_121 : BitVec 32 := 256#32
  let v359 : BitVec 32 := Scalar.muli v358 c256_i32_121
  let v360 : BitVec 32 := v359
  let v361 : Index := Scalar.indexCast v360
  let c0_122 : Index := 0#32
  ![v361.toNat, 0]
def k0_off10 (k0_t1 : Fin k0_t1_loop.trips) (k0_t4 : Fin (k0_t4_loop k0_t1).trips) : Fin 3 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c1_i32_80 : BitVec 32 := 1#32
  let arg11 : BitVec 32 := Scf.iv c0_i32_78 c1_i32_80 k0_t4
  let v308 : BitVec 32 := Scalar.muli c2_i32_110 arg11
  let v309 : BitVec 32 := Scalar.subi v307 v308
  let v408 : Index := Scalar.indexCast v309
  let c0_130 : Index := 0#32
  let c0_131 : Index := 0#32
  ![v408.toNat, 0, 0]
def k0_off11 (k0_t1 : Fin k0_t1_loop.trips) (k0_t4 : Fin (k0_t4_loop k0_t1).trips) : Fin 3 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c1_i32_80 : BitVec 32 := 1#32
  let arg11 : BitVec 32 := Scf.iv c0_i32_78 c1_i32_80 k0_t4
  let v308 : BitVec 32 := Scalar.muli c2_i32_110 arg11
  let v309 : BitVec 32 := Scalar.subi v307 v308
  let c1_i32_132 : BitVec 32 := 1#32
  let v413 : BitVec 32 := Scalar.subi v309 c1_i32_132
  let v414 : Index := Scalar.indexCast v413
  let c0_133 : Index := 0#32
  let c0_134 : Index := 0#32
  ![v414.toNat, 0, 0]
@[reducible] def k0_t5_loop (k0_t1 : Fin k0_t1_loop.trips) : Scf.Loop 32 :=
  let c0_i32_78 : BitVec 32 := 0#32
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c0_i32_72 : BitVec 32 := 0#32
  let v233 : BitVec 1 := Scalar.cmpi .sgt v111 c0_i32_72
  let v234 : BitVec 32 := Scalar.extui v233
  let c0_i32_73 : BitVec 32 := 0#32
  let v235 : BitVec 1 := Scalar.cmpi .slt v111 c0_i32_73
  let v236 : BitVec 32 := Scalar.extui v235
  let v237 : BitVec 32 := Scalar.subi v234 v236
  let c2_i32_71 : BitVec 32 := 2#32
  let c0_i32_74 : BitVec 32 := 0#32
  let v238 : BitVec 1 := Scalar.cmpi .sgt c2_i32_71 c0_i32_74
  let v239 : BitVec 32 := Scalar.extui v238
  let c0_i32_75 : BitVec 32 := 0#32
  let v240 : BitVec 1 := Scalar.cmpi .slt c2_i32_71 c0_i32_75
  let v241 : BitVec 32 := Scalar.extui v240
  let v242 : BitVec 32 := Scalar.subi v239 v241
  let v243 : BitVec 1 := Scalar.cmpi .ne v237 v242
  let v244 : BitVec 32 := Scalar.remsi v111 c2_i32_71
  let c0_i32_76 : BitVec 32 := 0#32
  let v245 : BitVec 1 := Scalar.cmpi .ne v244 c0_i32_76
  let v246 : BitVec 1 := Scalar.andi v243 v245
  let v232 : BitVec 32 := Scalar.divsi v111 c2_i32_71
  let c1_i32_77 : BitVec 32 := 1#32
  let v247 : BitVec 32 := Scalar.subi v232 c1_i32_77
  let v248 : BitVec 32 := Scalar.select v246 v247 v232
  let v249 : BitVec 32 := Scalar.subi v248 c0_i32_78
  let c1_i32_79 : BitVec 32 := 1#32
  let v251 : BitVec 32 := Scalar.divsi v249 c1_i32_79
  let v252 : BitVec 32 := Scalar.muli v251 c1_i32_79
  let v253 : BitVec 32 := Scalar.addi c0_i32_78 v252
  let v250 : BitVec 32 := Scalar.addi c0_i32_78 v249
  let c1_i32_81 : BitVec 32 := 1#32
  ⟨v253, v250, c1_i32_81⟩
def k0_mult8 (k0_t1 : Fin k0_t1_loop.trips) (k0_t5 : Fin (k0_t5_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c0_i32_72 : BitVec 32 := 0#32
  let v233 : BitVec 1 := Scalar.cmpi .sgt v111 c0_i32_72
  let v234 : BitVec 32 := Scalar.extui v233
  let c0_i32_73 : BitVec 32 := 0#32
  let v235 : BitVec 1 := Scalar.cmpi .slt v111 c0_i32_73
  let v236 : BitVec 32 := Scalar.extui v235
  let v237 : BitVec 32 := Scalar.subi v234 v236
  let c2_i32_71 : BitVec 32 := 2#32
  let c0_i32_74 : BitVec 32 := 0#32
  let v238 : BitVec 1 := Scalar.cmpi .sgt c2_i32_71 c0_i32_74
  let v239 : BitVec 32 := Scalar.extui v238
  let c0_i32_75 : BitVec 32 := 0#32
  let v240 : BitVec 1 := Scalar.cmpi .slt c2_i32_71 c0_i32_75
  let v241 : BitVec 32 := Scalar.extui v240
  let v242 : BitVec 32 := Scalar.subi v239 v241
  let v243 : BitVec 1 := Scalar.cmpi .ne v237 v242
  let v244 : BitVec 32 := Scalar.remsi v111 c2_i32_71
  let c0_i32_76 : BitVec 32 := 0#32
  let v245 : BitVec 1 := Scalar.cmpi .ne v244 c0_i32_76
  let v246 : BitVec 1 := Scalar.andi v243 v245
  let v232 : BitVec 32 := Scalar.divsi v111 c2_i32_71
  let c1_i32_77 : BitVec 32 := 1#32
  let v247 : BitVec 32 := Scalar.subi v232 c1_i32_77
  let v248 : BitVec 32 := Scalar.select v246 v247 v232
  let v249 : BitVec 32 := Scalar.subi v248 c0_i32_78
  let c1_i32_79 : BitVec 32 := 1#32
  let v251 : BitVec 32 := Scalar.divsi v249 c1_i32_79
  let v252 : BitVec 32 := Scalar.muli v251 c1_i32_79
  let v253 : BitVec 32 := Scalar.addi c0_i32_78 v252
  let c1_i32_81 : BitVec 32 := 1#32
  let arg11 : BitVec 32 := Scf.iv v253 c1_i32_81 k0_t5
  let v308 : BitVec 32 := Scalar.muli c2_i32_110 arg11
  let v309 : BitVec 32 := Scalar.subi v307 v308
  let c256_i32_111 : BitVec 32 := 256#32
  let v310 : BitVec 32 := Scalar.muli v309 c256_i32_111
  v310
def k0_off12 (k0_t1 : Fin k0_t1_loop.trips) (k0_t5 : Fin (k0_t5_loop k0_t1).trips) : Fin 2 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c0_i32_72 : BitVec 32 := 0#32
  let v233 : BitVec 1 := Scalar.cmpi .sgt v111 c0_i32_72
  let v234 : BitVec 32 := Scalar.extui v233
  let c0_i32_73 : BitVec 32 := 0#32
  let v235 : BitVec 1 := Scalar.cmpi .slt v111 c0_i32_73
  let v236 : BitVec 32 := Scalar.extui v235
  let v237 : BitVec 32 := Scalar.subi v234 v236
  let c2_i32_71 : BitVec 32 := 2#32
  let c0_i32_74 : BitVec 32 := 0#32
  let v238 : BitVec 1 := Scalar.cmpi .sgt c2_i32_71 c0_i32_74
  let v239 : BitVec 32 := Scalar.extui v238
  let c0_i32_75 : BitVec 32 := 0#32
  let v240 : BitVec 1 := Scalar.cmpi .slt c2_i32_71 c0_i32_75
  let v241 : BitVec 32 := Scalar.extui v240
  let v242 : BitVec 32 := Scalar.subi v239 v241
  let v243 : BitVec 1 := Scalar.cmpi .ne v237 v242
  let v244 : BitVec 32 := Scalar.remsi v111 c2_i32_71
  let c0_i32_76 : BitVec 32 := 0#32
  let v245 : BitVec 1 := Scalar.cmpi .ne v244 c0_i32_76
  let v246 : BitVec 1 := Scalar.andi v243 v245
  let v232 : BitVec 32 := Scalar.divsi v111 c2_i32_71
  let c1_i32_77 : BitVec 32 := 1#32
  let v247 : BitVec 32 := Scalar.subi v232 c1_i32_77
  let v248 : BitVec 32 := Scalar.select v246 v247 v232
  let v249 : BitVec 32 := Scalar.subi v248 c0_i32_78
  let c1_i32_79 : BitVec 32 := 1#32
  let v251 : BitVec 32 := Scalar.divsi v249 c1_i32_79
  let v252 : BitVec 32 := Scalar.muli v251 c1_i32_79
  let v253 : BitVec 32 := Scalar.addi c0_i32_78 v252
  let c1_i32_81 : BitVec 32 := 1#32
  let arg11 : BitVec 32 := Scf.iv v253 c1_i32_81 k0_t5
  let v308 : BitVec 32 := Scalar.muli c2_i32_110 arg11
  let v309 : BitVec 32 := Scalar.subi v307 v308
  let c256_i32_111 : BitVec 32 := 256#32
  let v310 : BitVec 32 := Scalar.muli v309 c256_i32_111
  let v311 : BitVec 32 := v310
  let v312 : Index := Scalar.indexCast v311
  let c0_112 : Index := 0#32
  ![v312.toNat, 0]
def k0_mult9 (k0_t1 : Fin k0_t1_loop.trips) (k0_t5 : Fin (k0_t5_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c0_i32_72 : BitVec 32 := 0#32
  let v233 : BitVec 1 := Scalar.cmpi .sgt v111 c0_i32_72
  let v234 : BitVec 32 := Scalar.extui v233
  let c0_i32_73 : BitVec 32 := 0#32
  let v235 : BitVec 1 := Scalar.cmpi .slt v111 c0_i32_73
  let v236 : BitVec 32 := Scalar.extui v235
  let v237 : BitVec 32 := Scalar.subi v234 v236
  let c2_i32_71 : BitVec 32 := 2#32
  let c0_i32_74 : BitVec 32 := 0#32
  let v238 : BitVec 1 := Scalar.cmpi .sgt c2_i32_71 c0_i32_74
  let v239 : BitVec 32 := Scalar.extui v238
  let c0_i32_75 : BitVec 32 := 0#32
  let v240 : BitVec 1 := Scalar.cmpi .slt c2_i32_71 c0_i32_75
  let v241 : BitVec 32 := Scalar.extui v240
  let v242 : BitVec 32 := Scalar.subi v239 v241
  let v243 : BitVec 1 := Scalar.cmpi .ne v237 v242
  let v244 : BitVec 32 := Scalar.remsi v111 c2_i32_71
  let c0_i32_76 : BitVec 32 := 0#32
  let v245 : BitVec 1 := Scalar.cmpi .ne v244 c0_i32_76
  let v246 : BitVec 1 := Scalar.andi v243 v245
  let v232 : BitVec 32 := Scalar.divsi v111 c2_i32_71
  let c1_i32_77 : BitVec 32 := 1#32
  let v247 : BitVec 32 := Scalar.subi v232 c1_i32_77
  let v248 : BitVec 32 := Scalar.select v246 v247 v232
  let v249 : BitVec 32 := Scalar.subi v248 c0_i32_78
  let c1_i32_79 : BitVec 32 := 1#32
  let v251 : BitVec 32 := Scalar.divsi v249 c1_i32_79
  let v252 : BitVec 32 := Scalar.muli v251 c1_i32_79
  let v253 : BitVec 32 := Scalar.addi c0_i32_78 v252
  let c1_i32_81 : BitVec 32 := 1#32
  let arg11 : BitVec 32 := Scf.iv v253 c1_i32_81 k0_t5
  let v308 : BitVec 32 := Scalar.muli c2_i32_110 arg11
  let v309 : BitVec 32 := Scalar.subi v307 v308
  let c1_i32_120 : BitVec 32 := 1#32
  let v358 : BitVec 32 := Scalar.subi v309 c1_i32_120
  let c256_i32_121 : BitVec 32 := 256#32
  let v359 : BitVec 32 := Scalar.muli v358 c256_i32_121
  v359
def k0_off13 (k0_t1 : Fin k0_t1_loop.trips) (k0_t5 : Fin (k0_t5_loop k0_t1).trips) : Fin 2 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c0_i32_72 : BitVec 32 := 0#32
  let v233 : BitVec 1 := Scalar.cmpi .sgt v111 c0_i32_72
  let v234 : BitVec 32 := Scalar.extui v233
  let c0_i32_73 : BitVec 32 := 0#32
  let v235 : BitVec 1 := Scalar.cmpi .slt v111 c0_i32_73
  let v236 : BitVec 32 := Scalar.extui v235
  let v237 : BitVec 32 := Scalar.subi v234 v236
  let c2_i32_71 : BitVec 32 := 2#32
  let c0_i32_74 : BitVec 32 := 0#32
  let v238 : BitVec 1 := Scalar.cmpi .sgt c2_i32_71 c0_i32_74
  let v239 : BitVec 32 := Scalar.extui v238
  let c0_i32_75 : BitVec 32 := 0#32
  let v240 : BitVec 1 := Scalar.cmpi .slt c2_i32_71 c0_i32_75
  let v241 : BitVec 32 := Scalar.extui v240
  let v242 : BitVec 32 := Scalar.subi v239 v241
  let v243 : BitVec 1 := Scalar.cmpi .ne v237 v242
  let v244 : BitVec 32 := Scalar.remsi v111 c2_i32_71
  let c0_i32_76 : BitVec 32 := 0#32
  let v245 : BitVec 1 := Scalar.cmpi .ne v244 c0_i32_76
  let v246 : BitVec 1 := Scalar.andi v243 v245
  let v232 : BitVec 32 := Scalar.divsi v111 c2_i32_71
  let c1_i32_77 : BitVec 32 := 1#32
  let v247 : BitVec 32 := Scalar.subi v232 c1_i32_77
  let v248 : BitVec 32 := Scalar.select v246 v247 v232
  let v249 : BitVec 32 := Scalar.subi v248 c0_i32_78
  let c1_i32_79 : BitVec 32 := 1#32
  let v251 : BitVec 32 := Scalar.divsi v249 c1_i32_79
  let v252 : BitVec 32 := Scalar.muli v251 c1_i32_79
  let v253 : BitVec 32 := Scalar.addi c0_i32_78 v252
  let c1_i32_81 : BitVec 32 := 1#32
  let arg11 : BitVec 32 := Scf.iv v253 c1_i32_81 k0_t5
  let v308 : BitVec 32 := Scalar.muli c2_i32_110 arg11
  let v309 : BitVec 32 := Scalar.subi v307 v308
  let c1_i32_120 : BitVec 32 := 1#32
  let v358 : BitVec 32 := Scalar.subi v309 c1_i32_120
  let c256_i32_121 : BitVec 32 := 256#32
  let v359 : BitVec 32 := Scalar.muli v358 c256_i32_121
  let v360 : BitVec 32 := v359
  let v361 : Index := Scalar.indexCast v360
  let c0_122 : Index := 0#32
  ![v361.toNat, 0]
def k0_off14 (k0_t1 : Fin k0_t1_loop.trips) (k0_t5 : Fin (k0_t5_loop k0_t1).trips) : Fin 3 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c0_i32_72 : BitVec 32 := 0#32
  let v233 : BitVec 1 := Scalar.cmpi .sgt v111 c0_i32_72
  let v234 : BitVec 32 := Scalar.extui v233
  let c0_i32_73 : BitVec 32 := 0#32
  let v235 : BitVec 1 := Scalar.cmpi .slt v111 c0_i32_73
  let v236 : BitVec 32 := Scalar.extui v235
  let v237 : BitVec 32 := Scalar.subi v234 v236
  let c2_i32_71 : BitVec 32 := 2#32
  let c0_i32_74 : BitVec 32 := 0#32
  let v238 : BitVec 1 := Scalar.cmpi .sgt c2_i32_71 c0_i32_74
  let v239 : BitVec 32 := Scalar.extui v238
  let c0_i32_75 : BitVec 32 := 0#32
  let v240 : BitVec 1 := Scalar.cmpi .slt c2_i32_71 c0_i32_75
  let v241 : BitVec 32 := Scalar.extui v240
  let v242 : BitVec 32 := Scalar.subi v239 v241
  let v243 : BitVec 1 := Scalar.cmpi .ne v237 v242
  let v244 : BitVec 32 := Scalar.remsi v111 c2_i32_71
  let c0_i32_76 : BitVec 32 := 0#32
  let v245 : BitVec 1 := Scalar.cmpi .ne v244 c0_i32_76
  let v246 : BitVec 1 := Scalar.andi v243 v245
  let v232 : BitVec 32 := Scalar.divsi v111 c2_i32_71
  let c1_i32_77 : BitVec 32 := 1#32
  let v247 : BitVec 32 := Scalar.subi v232 c1_i32_77
  let v248 : BitVec 32 := Scalar.select v246 v247 v232
  let v249 : BitVec 32 := Scalar.subi v248 c0_i32_78
  let c1_i32_79 : BitVec 32 := 1#32
  let v251 : BitVec 32 := Scalar.divsi v249 c1_i32_79
  let v252 : BitVec 32 := Scalar.muli v251 c1_i32_79
  let v253 : BitVec 32 := Scalar.addi c0_i32_78 v252
  let c1_i32_81 : BitVec 32 := 1#32
  let arg11 : BitVec 32 := Scf.iv v253 c1_i32_81 k0_t5
  let v308 : BitVec 32 := Scalar.muli c2_i32_110 arg11
  let v309 : BitVec 32 := Scalar.subi v307 v308
  let v408 : Index := Scalar.indexCast v309
  let c0_130 : Index := 0#32
  let c0_131 : Index := 0#32
  ![v408.toNat, 0, 0]
def k0_off15 (k0_t1 : Fin k0_t1_loop.trips) (k0_t5 : Fin (k0_t5_loop k0_t1).trips) : Fin 3 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_109 : BitVec 32 := 1#32
  let v306 : BitVec 32 := Scalar.subi v111 c1_i32_109
  let c2_i32_61 : BitVec 32 := 2#32
  let c0_i32_62 : BitVec 32 := 0#32
  let v215 : BitVec 1 := Scalar.cmpi .eq c2_i32_61 c0_i32_62
  let c1_i32_63 : BitVec 32 := 1#32
  let v216 : BitVec 32 := Scalar.select v215 c1_i32_63 c2_i32_61
  let v217 : BitVec 32 := Scalar.remsi v111 v216
  let c0_i32_65 : BitVec 32 := 0#32
  let v219 : BitVec 1 := Scalar.cmpi .slt v217 c0_i32_65
  let c0_i32_66 : BitVec 32 := 0#32
  let v220 : BitVec 1 := Scalar.cmpi .slt v216 c0_i32_66
  let v221 : BitVec 1 := Scalar.xori v219 v220
  let c0_i32_64 : BitVec 32 := 0#32
  let v218 : BitVec 1 := Scalar.cmpi .ne v217 c0_i32_64
  let v222 : BitVec 1 := Scalar.andi v221 v218
  let v223 : BitVec 32 := Scalar.addi v217 v216
  let v224 : BitVec 32 := Scalar.select v222 v223 v217
  let v307 : BitVec 32 := Scalar.subi v306 v224
  let c2_i32_110 : BitVec 32 := 2#32
  let c0_i32_78 : BitVec 32 := 0#32
  let c0_i32_72 : BitVec 32 := 0#32
  let v233 : BitVec 1 := Scalar.cmpi .sgt v111 c0_i32_72
  let v234 : BitVec 32 := Scalar.extui v233
  let c0_i32_73 : BitVec 32 := 0#32
  let v235 : BitVec 1 := Scalar.cmpi .slt v111 c0_i32_73
  let v236 : BitVec 32 := Scalar.extui v235
  let v237 : BitVec 32 := Scalar.subi v234 v236
  let c2_i32_71 : BitVec 32 := 2#32
  let c0_i32_74 : BitVec 32 := 0#32
  let v238 : BitVec 1 := Scalar.cmpi .sgt c2_i32_71 c0_i32_74
  let v239 : BitVec 32 := Scalar.extui v238
  let c0_i32_75 : BitVec 32 := 0#32
  let v240 : BitVec 1 := Scalar.cmpi .slt c2_i32_71 c0_i32_75
  let v241 : BitVec 32 := Scalar.extui v240
  let v242 : BitVec 32 := Scalar.subi v239 v241
  let v243 : BitVec 1 := Scalar.cmpi .ne v237 v242
  let v244 : BitVec 32 := Scalar.remsi v111 c2_i32_71
  let c0_i32_76 : BitVec 32 := 0#32
  let v245 : BitVec 1 := Scalar.cmpi .ne v244 c0_i32_76
  let v246 : BitVec 1 := Scalar.andi v243 v245
  let v232 : BitVec 32 := Scalar.divsi v111 c2_i32_71
  let c1_i32_77 : BitVec 32 := 1#32
  let v247 : BitVec 32 := Scalar.subi v232 c1_i32_77
  let v248 : BitVec 32 := Scalar.select v246 v247 v232
  let v249 : BitVec 32 := Scalar.subi v248 c0_i32_78
  let c1_i32_79 : BitVec 32 := 1#32
  let v251 : BitVec 32 := Scalar.divsi v249 c1_i32_79
  let v252 : BitVec 32 := Scalar.muli v251 c1_i32_79
  let v253 : BitVec 32 := Scalar.addi c0_i32_78 v252
  let c1_i32_81 : BitVec 32 := 1#32
  let arg11 : BitVec 32 := Scf.iv v253 c1_i32_81 k0_t5
  let v308 : BitVec 32 := Scalar.muli c2_i32_110 arg11
  let v309 : BitVec 32 := Scalar.subi v307 v308
  let c1_i32_132 : BitVec 32 := 1#32
  let v413 : BitVec 32 := Scalar.subi v309 c1_i32_132
  let v414 : Index := Scalar.indexCast v413
  let c0_133 : Index := 0#32
  let c0_134 : Index := 0#32
  ![v414.toNat, 0, 0]
@[reducible] def k0_t6_loop (k0_t1 : Fin k0_t1_loop.trips) : Scf.Loop 32 :=
  let c0_i32_91 : BitVec 32 := 0#32
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let v269 : BitVec 32 := Scalar.subi v266 c0_i32_91
  let c1_i32_92 : BitVec 32 := 1#32
  let v271 : BitVec 32 := Scalar.divsi v269 c1_i32_92
  let v272 : BitVec 32 := Scalar.muli v271 c1_i32_92
  let v273 : BitVec 32 := Scalar.addi c0_i32_91 v272
  let c1_i32_93 : BitVec 32 := 1#32
  ⟨c0_i32_91, v273, c1_i32_93⟩
def k0_mult10 : BitVec 32 :=
  let c0_i32_109 : BitVec 32 := 0#32
  c0_i32_109
def k0_mult11 : BitVec 32 :=
  let c0_i32_112 : BitVec 32 := 0#32
  c0_i32_112
def k0_mult12 : BitVec 32 :=
  let c0_i32_123 : BitVec 32 := 0#32
  c0_i32_123
def k0_mult13 : BitVec 32 :=
  let c0_i32_128 : BitVec 32 := 0#32
  c0_i32_128
@[reducible] def k0_t7_loop (k0_t1 : Fin k0_t1_loop.trips) : Scf.Loop 32 :=
  let c0_i32_91 : BitVec 32 := 0#32
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let v269 : BitVec 32 := Scalar.subi v266 c0_i32_91
  let c1_i32_92 : BitVec 32 := 1#32
  let v271 : BitVec 32 := Scalar.divsi v269 c1_i32_92
  let v272 : BitVec 32 := Scalar.muli v271 c1_i32_92
  let v273 : BitVec 32 := Scalar.addi c0_i32_91 v272
  let v270 : BitVec 32 := Scalar.addi c0_i32_91 v269
  let c1_i32_94 : BitVec 32 := 1#32
  ⟨v273, v270, c1_i32_94⟩
def k0_mult14 : BitVec 32 :=
  let c0_i32_109 : BitVec 32 := 0#32
  c0_i32_109
def k0_mult15 : BitVec 32 :=
  let c0_i32_112 : BitVec 32 := 0#32
  c0_i32_112
def k0_mult16 : BitVec 32 :=
  let c0_i32_123 : BitVec 32 := 0#32
  c0_i32_123
def k0_mult17 : BitVec 32 :=
  let c0_i32_128 : BitVec 32 := 0#32
  c0_i32_128
@[reducible] def k0_t8_loop (k0_t1 : Fin k0_t1_loop.trips) : Scf.Loop 32 :=
  let c0_i32_102 : BitVec 32 := 0#32
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_104 : BitVec 32 := 1#32
  ⟨c0_i32_102, v297, c1_i32_104⟩
def k0_mult18 (k0_t1 : Fin k0_t1_loop.trips) (k0_t8 : Fin (k0_t8_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let c256_i32_111 : BitVec 32 := 256#32
  let v309 : BitVec 32 := Scalar.muli v307 c256_i32_111
  v309
def k0_off16 (k0_t1 : Fin k0_t1_loop.trips) (k0_t8 : Fin (k0_t8_loop k0_t1).trips) : Fin 2 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let c256_i32_111 : BitVec 32 := 256#32
  let v309 : BitVec 32 := Scalar.muli v307 c256_i32_111
  let v310 : BitVec 32 := v309
  let v311 : Index := Scalar.indexCast v310
  let c0_112 : Index := 0#32
  ![v311.toNat, 0]
def k0_mult19 (k0_t1 : Fin k0_t1_loop.trips) (k0_t8 : Fin (k0_t8_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let c1_i32_110 : BitVec 32 := 1#32
  let v308 : BitVec 32 := Scalar.addi v307 c1_i32_110
  let c256_i32_114 : BitVec 32 := 256#32
  let v316 : BitVec 32 := Scalar.muli v308 c256_i32_114
  v316
def k0_off17 (k0_t1 : Fin k0_t1_loop.trips) (k0_t8 : Fin (k0_t8_loop k0_t1).trips) : Fin 2 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let c1_i32_110 : BitVec 32 := 1#32
  let v308 : BitVec 32 := Scalar.addi v307 c1_i32_110
  let c256_i32_114 : BitVec 32 := 256#32
  let v316 : BitVec 32 := Scalar.muli v308 c256_i32_114
  let v317 : BitVec 32 := v316
  let v318 : Index := Scalar.indexCast v317
  let c0_115 : Index := 0#32
  ![v318.toNat, 0]
def k0_off18 (k0_t1 : Fin k0_t1_loop.trips) (k0_t8 : Fin (k0_t8_loop k0_t1).trips) : Fin 3 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let v323 : Index := Scalar.indexCast v307
  let c0_117 : Index := 0#32
  let c0_118 : Index := 0#32
  ![v323.toNat, 0, 0]
def k0_off19 (k0_t1 : Fin k0_t1_loop.trips) (k0_t8 : Fin (k0_t8_loop k0_t1).trips) : Fin 3 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let c1_i32_110 : BitVec 32 := 1#32
  let v308 : BitVec 32 := Scalar.addi v307 c1_i32_110
  let v326 : Index := Scalar.indexCast v308
  let c0_119 : Index := 0#32
  let c0_120 : Index := 0#32
  ![v326.toNat, 0, 0]
def k0_mult20 (k0_t1 : Fin k0_t1_loop.trips) (k0_t8 : Fin (k0_t8_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let c256_i32_121 : BitVec 32 := 256#32
  let v329 : BitVec 32 := Scalar.muli v307 c256_i32_121
  v329
def k0_mult21 (k0_t1 : Fin k0_t1_loop.trips) (k0_t8 : Fin (k0_t8_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let c1_i32_110 : BitVec 32 := 1#32
  let v308 : BitVec 32 := Scalar.addi v307 c1_i32_110
  let c256_i32_125 : BitVec 32 := 256#32
  let v338 : BitVec 32 := Scalar.muli v308 c256_i32_125
  v338
def k0_mult22 (k0_t1 : Fin k0_t1_loop.trips) (k0_t8 : Fin (k0_t8_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let c256_i32_131 : BitVec 32 := 256#32
  let v401 : BitVec 32 := Scalar.muli v307 c256_i32_131
  v401
def k0_mult23 (k0_t1 : Fin k0_t1_loop.trips) (k0_t8 : Fin (k0_t8_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let c1_i32_110 : BitVec 32 := 1#32
  let v308 : BitVec 32 := Scalar.addi v307 c1_i32_110
  let c256_i32_136 : BitVec 32 := 256#32
  let v420 : BitVec 32 := Scalar.muli v308 c256_i32_136
  v420
def k0_mult24 (k0_t1 : Fin k0_t1_loop.trips) (k0_t8 : Fin (k0_t8_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let c256_i32_153 : BitVec 32 := 256#32
  let v499 : BitVec 32 := Scalar.muli v307 c256_i32_153
  v499
def k0_mult25 (k0_t1 : Fin k0_t1_loop.trips) (k0_t8 : Fin (k0_t8_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c1_i32_104 : BitVec 32 := 1#32
  let arg11 : BitVec 32 := Scf.iv c0_i32_102 c1_i32_104 k0_t8
  let v306 : BitVec 32 := Scalar.muli c2_i32_109 arg11
  let v307 : BitVec 32 := Scalar.addi v266 v306
  let c1_i32_110 : BitVec 32 := 1#32
  let v308 : BitVec 32 := Scalar.addi v307 c1_i32_110
  let c256_i32_158 : BitVec 32 := 256#32
  let v517 : BitVec 32 := Scalar.muli v308 c256_i32_158
  v517
@[reducible] def k0_t9_loop (k0_t1 : Fin k0_t1_loop.trips) : Scf.Loop 32 :=
  let c0_i32_102 : BitVec 32 := 0#32
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let v294 : BitVec 32 := Scalar.addi c0_i32_102 v293
  let c1_i32_105 : BitVec 32 := 1#32
  ⟨v297, v294, c1_i32_105⟩
def k0_mult26 (k0_t1 : Fin k0_t1_loop.trips) (k0_t9 : Fin (k0_t9_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let c256_i32_111 : BitVec 32 := 256#32
  let v309 : BitVec 32 := Scalar.muli v307 c256_i32_111
  v309
def k0_off20 (k0_t1 : Fin k0_t1_loop.trips) (k0_t9 : Fin (k0_t9_loop k0_t1).trips) : Fin 2 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let c256_i32_111 : BitVec 32 := 256#32
  let v309 : BitVec 32 := Scalar.muli v307 c256_i32_111
  let v310 : BitVec 32 := v309
  let v311 : Index := Scalar.indexCast v310
  let c0_112 : Index := 0#32
  ![v311.toNat, 0]
def k0_mult27 (k0_t1 : Fin k0_t1_loop.trips) (k0_t9 : Fin (k0_t9_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let c1_i32_110 : BitVec 32 := 1#32
  let v308 : BitVec 32 := Scalar.addi v307 c1_i32_110
  let c256_i32_114 : BitVec 32 := 256#32
  let v316 : BitVec 32 := Scalar.muli v308 c256_i32_114
  v316
def k0_off21 (k0_t1 : Fin k0_t1_loop.trips) (k0_t9 : Fin (k0_t9_loop k0_t1).trips) : Fin 2 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let c1_i32_110 : BitVec 32 := 1#32
  let v308 : BitVec 32 := Scalar.addi v307 c1_i32_110
  let c256_i32_114 : BitVec 32 := 256#32
  let v316 : BitVec 32 := Scalar.muli v308 c256_i32_114
  let v317 : BitVec 32 := v316
  let v318 : Index := Scalar.indexCast v317
  let c0_115 : Index := 0#32
  ![v318.toNat, 0]
def k0_off22 (k0_t1 : Fin k0_t1_loop.trips) (k0_t9 : Fin (k0_t9_loop k0_t1).trips) : Fin 3 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let v323 : Index := Scalar.indexCast v307
  let c0_117 : Index := 0#32
  let c0_118 : Index := 0#32
  ![v323.toNat, 0, 0]
def k0_off23 (k0_t1 : Fin k0_t1_loop.trips) (k0_t9 : Fin (k0_t9_loop k0_t1).trips) : Fin 3 → Nat :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let c1_i32_110 : BitVec 32 := 1#32
  let v308 : BitVec 32 := Scalar.addi v307 c1_i32_110
  let v326 : Index := Scalar.indexCast v308
  let c0_119 : Index := 0#32
  let c0_120 : Index := 0#32
  ![v326.toNat, 0, 0]
def k0_mult28 (k0_t1 : Fin k0_t1_loop.trips) (k0_t9 : Fin (k0_t9_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let c256_i32_121 : BitVec 32 := 256#32
  let v329 : BitVec 32 := Scalar.muli v307 c256_i32_121
  v329
def k0_mult29 (k0_t1 : Fin k0_t1_loop.trips) (k0_t9 : Fin (k0_t9_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let c1_i32_110 : BitVec 32 := 1#32
  let v308 : BitVec 32 := Scalar.addi v307 c1_i32_110
  let c256_i32_125 : BitVec 32 := 256#32
  let v338 : BitVec 32 := Scalar.muli v308 c256_i32_125
  v338
def k0_mult30 (k0_t1 : Fin k0_t1_loop.trips) (k0_t9 : Fin (k0_t9_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let c256_i32_131 : BitVec 32 := 256#32
  let v401 : BitVec 32 := Scalar.muli v307 c256_i32_131
  v401
def k0_mult31 (k0_t1 : Fin k0_t1_loop.trips) (k0_t9 : Fin (k0_t9_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let c1_i32_110 : BitVec 32 := 1#32
  let v308 : BitVec 32 := Scalar.addi v307 c1_i32_110
  let c256_i32_136 : BitVec 32 := 256#32
  let v420 : BitVec 32 := Scalar.muli v308 c256_i32_136
  v420
def k0_mult32 (k0_t1 : Fin k0_t1_loop.trips) (k0_t9 : Fin (k0_t9_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let c256_i32_153 : BitVec 32 := 256#32
  let v499 : BitVec 32 := Scalar.muli v307 c256_i32_153
  v499
def k0_mult33 (k0_t1 : Fin k0_t1_loop.trips) (k0_t9 : Fin (k0_t9_loop k0_t1).trips) : BitVec 32 :=
  let c0_i32_20 : BitVec 32 := 0#32
  let c1_i32_21 : BitVec 32 := 1#32
  let arg10 : BitVec 32 := Scf.iv c0_i32_20 c1_i32_21 k0_t1
  let c0_i32_27 : BitVec 32 := 0#32
  let v96 : BitVec 1 := Scalar.cmpi .sgt arg10 c0_i32_27
  let v97 : BitVec 32 := Scalar.extui v96
  let c0_i32_28 : BitVec 32 := 0#32
  let v98 : BitVec 1 := Scalar.cmpi .slt arg10 c0_i32_28
  let v99 : BitVec 32 := Scalar.extui v98
  let v100 : BitVec 32 := Scalar.subi v97 v99
  let c2_i32 : BitVec 32 := 2#32
  let c0_i32_29 : BitVec 32 := 0#32
  let v101 : BitVec 1 := Scalar.cmpi .sgt c2_i32 c0_i32_29
  let v102 : BitVec 32 := Scalar.extui v101
  let c0_i32_30 : BitVec 32 := 0#32
  let v103 : BitVec 1 := Scalar.cmpi .slt c2_i32 c0_i32_30
  let v104 : BitVec 32 := Scalar.extui v103
  let v105 : BitVec 32 := Scalar.subi v102 v104
  let v106 : BitVec 1 := Scalar.cmpi .ne v100 v105
  let v107 : BitVec 32 := Scalar.remsi arg10 c2_i32
  let c0_i32_31 : BitVec 32 := 0#32
  let v108 : BitVec 1 := Scalar.cmpi .ne v107 c0_i32_31
  let v109 : BitVec 1 := Scalar.andi v106 v108
  let v95 : BitVec 32 := Scalar.divsi arg10 c2_i32
  let c1_i32_32 : BitVec 32 := 1#32
  let v110 : BitVec 32 := Scalar.subi v95 c1_i32_32
  let v111 : BitVec 32 := Scalar.select v109 v110 v95
  let c1_i32_82 : BitVec 32 := 1#32
  let v256 : BitVec 32 := Scalar.addi v111 c1_i32_82
  let c2_i32_83 : BitVec 32 := 2#32
  let c0_i32_84 : BitVec 32 := 0#32
  let v257 : BitVec 1 := Scalar.cmpi .eq c2_i32_83 c0_i32_84
  let c1_i32_85 : BitVec 32 := 1#32
  let v258 : BitVec 32 := Scalar.select v257 c1_i32_85 c2_i32_83
  let v259 : BitVec 32 := Scalar.remsi v256 v258
  let c0_i32_87 : BitVec 32 := 0#32
  let v261 : BitVec 1 := Scalar.cmpi .slt v259 c0_i32_87
  let c0_i32_88 : BitVec 32 := 0#32
  let v262 : BitVec 1 := Scalar.cmpi .slt v258 c0_i32_88
  let v263 : BitVec 1 := Scalar.xori v261 v262
  let c0_i32_86 : BitVec 32 := 0#32
  let v260 : BitVec 1 := Scalar.cmpi .ne v259 c0_i32_86
  let v264 : BitVec 1 := Scalar.andi v263 v260
  let v265 : BitVec 32 := Scalar.addi v259 v258
  let v266 : BitVec 32 := Scalar.select v264 v265 v259
  let c2_i32_109 : BitVec 32 := 2#32
  let c0_i32_102 : BitVec 32 := 0#32
  let c0_i32_96 : BitVec 32 := 0#32
  let v277 : BitVec 1 := Scalar.cmpi .sgt v256 c0_i32_96
  let v278 : BitVec 32 := Scalar.extui v277
  let c0_i32_97 : BitVec 32 := 0#32
  let v279 : BitVec 1 := Scalar.cmpi .slt v256 c0_i32_97
  let v280 : BitVec 32 := Scalar.extui v279
  let v281 : BitVec 32 := Scalar.subi v278 v280
  let c2_i32_95 : BitVec 32 := 2#32
  let c0_i32_98 : BitVec 32 := 0#32
  let v282 : BitVec 1 := Scalar.cmpi .sgt c2_i32_95 c0_i32_98
  let v283 : BitVec 32 := Scalar.extui v282
  let c0_i32_99 : BitVec 32 := 0#32
  let v284 : BitVec 1 := Scalar.cmpi .slt c2_i32_95 c0_i32_99
  let v285 : BitVec 32 := Scalar.extui v284
  let v286 : BitVec 32 := Scalar.subi v283 v285
  let v287 : BitVec 1 := Scalar.cmpi .ne v281 v286
  let v288 : BitVec 32 := Scalar.remsi v256 c2_i32_95
  let c0_i32_100 : BitVec 32 := 0#32
  let v289 : BitVec 1 := Scalar.cmpi .ne v288 c0_i32_100
  let v290 : BitVec 1 := Scalar.andi v287 v289
  let v276 : BitVec 32 := Scalar.divsi v256 c2_i32_95
  let c1_i32_101 : BitVec 32 := 1#32
  let v291 : BitVec 32 := Scalar.subi v276 c1_i32_101
  let v292 : BitVec 32 := Scalar.select v290 v291 v276
  let v293 : BitVec 32 := Scalar.subi v292 c0_i32_102
  let c1_i32_103 : BitVec 32 := 1#32
  let v295 : BitVec 32 := Scalar.divsi v293 c1_i32_103
  let v296 : BitVec 32 := Scalar.muli v295 c1_i32_103
  let v297 : BitVec 32 := Scalar.addi c0_i32_102 v296
  let c1_i32_105 : BitVec 32 := 1#32
  let arg11 : BitVec 32 := Scf.iv v297 c1_i32_105 k0_t9
  let v306 : BitVec 32 := Scalar.muli c2_i32_109 arg11
  let v307 : BitVec 32 := Scalar.addi v266 v306
  let c1_i32_110 : BitVec 32 := 1#32
  let v308 : BitVec 32 := Scalar.addi v307 c1_i32_110
  let c256_i32_158 : BitVec 32 := 256#32
  let v517 : BitVec 32 := Scalar.muli v308 c256_i32_158
  v517
def k0_mult34 (k0_t1 : Fin k0_t1_loop.trips) : BitVec 32 :=
  let c0_i32_20 : BitVec 32 := 0#32
  let c1_i32_21 : BitVec 32 := 1#32
  let arg10 : BitVec 32 := Scf.iv c0_i32_20 c1_i32_21 k0_t1
  let c128_i32_107 : BitVec 32 := 128#32
  let v302 : BitVec 32 := Scalar.muli arg10 c128_i32_107
  v302
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x2304 : Shape := ⟨2, ![4096, 2304]⟩
abbrev S4096x1024 : Shape := ⟨2, ![4096, 1024]⟩
abbrev S4096x256 : Shape := ⟨2, ![4096, 256]⟩
abbrev S2x2048x4x64 : Shape := ⟨4, ![2, 2048, 4, 64]⟩
abbrev S2x4x2048x64 : Shape := ⟨4, ![2, 4, 2048, 64]⟩
abbrev S_ : Shape := ⟨0, ![]⟩
abbrev S2x4x2048x2048 : Shape := ⟨4, ![2, 4, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x4x64x2048 : Shape := ⟨4, ![2, 4, 64, 2048]⟩

abbrev nBuf : Space → Nat
  | .hbm => 180
  | .vmem => 0
  | .smem => 0
  | _ => 0

abbrev hbmTy0_0 (i : Nat) : BufTy := match i % 128 with
  | 0 => ⟨S4096x2304, .bf16⟩
  | 1 => ⟨S4096x1024, .f32⟩
  | 2 => ⟨S4096x2304, .f32⟩
  | 3 => ⟨S4096x256, .f32⟩
  | 4 => ⟨S4096x256, .f32⟩
  | 5 => ⟨S4096x256, .f32⟩
  | 6 => ⟨S2x2048x4x64, .f32⟩
  | 7 => ⟨S2x4x2048x64, .f32⟩
  | 8 => ⟨S_, .f32⟩
  | 9 => ⟨S2x4x2048x64, .f32⟩
  | 10 => ⟨S2x4x2048x64, .f32⟩
  | 11 => ⟨S2x2048x4x64, .f32⟩
  | 12 => ⟨S2x4x2048x64, .f32⟩
  | 13 => ⟨S2x2048x4x64, .f32⟩
  | 14 => ⟨S2x4x2048x64, .f32⟩
  | 15 => ⟨S2x4x2048x2048, .f32⟩
  | 16 => ⟨S2048, .i32⟩
  | 17 => ⟨S1x2048, .i32⟩
  | 18 => ⟨S2048, .i32⟩
  | 19 => ⟨S2048x1, .i32⟩
  | 20 => ⟨S2048x2048, .i32⟩
  | 21 => ⟨S2048x2048, .i32⟩
  | 22 => ⟨S2048x2048, .i1⟩
  | 23 => ⟨S2x4x2048x2048, .f32⟩
  | 24 => ⟨S2x4x2048x2048, .f32⟩
  | 25 => ⟨S_, .f32⟩
  | 26 => ⟨S2x4x2048x2048, .f32⟩
  | 27 => ⟨S2x4x2048x2048, .f32⟩
  | 28 => ⟨S2x4x2048x2048, .f32⟩
  | 29 => ⟨S2x4x2048x2048, .f32⟩
  | 30 => ⟨S2x4x2048x2048, .i1⟩
  | 31 => ⟨S2x4x2048x2048, .f32⟩
  | 32 => ⟨S2x4x2048x2048, .f32⟩
  | 33 => ⟨S2x4x2048x2048, .f32⟩
  | 34 => ⟨S2x4x2048x2048, .f32⟩
  | 35 => ⟨S2x4x2048x2048, .f32⟩
  | 36 => ⟨S2x4x2048x2048, .f32⟩
  | 37 => ⟨S2x4x2048x2048, .f32⟩
  | 38 => ⟨S2x4x2048x2048, .f32⟩
  | 39 => ⟨S_, .f32⟩
  | 40 => ⟨S2x4x2048x2048, .f32⟩
  | 41 => ⟨S2x4x2048x2048, .i1⟩
  | 42 => ⟨S_, .f32⟩
  | 43 => ⟨S2x4x2048x2048, .f32⟩
  | 44 => ⟨S2x4x2048x2048, .f32⟩
  | 45 => ⟨S_, .f32⟩
  | 46 => ⟨S2x4x2048x2048, .f32⟩
  | 47 => ⟨S2x4x2048x2048, .i1⟩
  | 48 => ⟨S_, .f32⟩
  | 49 => ⟨S2x4x2048x2048, .f32⟩
  | 50 => ⟨S2x4x2048x2048, .f32⟩
  | 51 => ⟨S2x4x2048x2048, .f32⟩
  | 52 => ⟨S2x4x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S2x4x2048x2048, .f32⟩
  | 61 => ⟨S2x4x2048x2048, .i1⟩
  | 62 => ⟨S_, .f32⟩
  | 63 => ⟨S2x4x2048x2048, .f32⟩
  | 64 => ⟨S2x4x2048x2048, .f32⟩
  | 65 => ⟨S2x4x2048x2048, .f32⟩
  | 66 => ⟨S2x4x2048x2048, .f32⟩
  | 67 => ⟨S2x4x2048x2048, .f32⟩
  | 68 => ⟨S_, .f32⟩
  | 69 => ⟨S2x4x2048x2048, .f32⟩
  | 70 => ⟨S2x4x2048x2048, .f32⟩
  | 71 => ⟨S2x4x2048x2048, .f32⟩
  | 72 => ⟨S_, .f32⟩
  | 73 => ⟨S_, .f32⟩
  | 74 => ⟨S2x4x2048x2048, .i1⟩
  | 75 => ⟨S2x4x2048x2048, .f32⟩
  | 76 => ⟨S2x4x2048x2048, .f32⟩
  | 77 => ⟨S_, .f32⟩
  | 78 => ⟨S2x4x2048x2048, .f32⟩
  | 79 => ⟨S_, .f32⟩
  | 80 => ⟨S_, .f32⟩
  | 81 => ⟨S2x4x2048x2048, .f32⟩
  | 82 => ⟨S2x4x2048x2048, .f32⟩
  | 83 => ⟨S2x4x2048x2048, .f32⟩
  | 84 => ⟨S_, .f32⟩
  | 85 => ⟨S2x4x2048x2048, .f32⟩
  | 86 => ⟨S2x4x2048x2048, .f32⟩
  | 87 => ⟨S2x4x2048x2048, .f32⟩
  | 88 => ⟨S2x4x2048x2048, .f32⟩
  | 89 => ⟨S2x4x2048x2048, .i1⟩
  | 90 => ⟨S2x4x2048x2048, .f32⟩
  | 91 => ⟨S2x4x2048x2048, .f32⟩
  | 92 => ⟨S2x4x2048x2048, .f32⟩
  | 93 => ⟨S2x4x2048x2048, .f32⟩
  | 94 => ⟨S2x4x2048x2048, .f32⟩
  | 95 => ⟨S2x4x2048x2048, .f32⟩
  | 96 => ⟨S2x4x2048x2048, .f32⟩
  | 97 => ⟨S2x4x2048x2048, .f32⟩
  | 98 => ⟨S_, .f32⟩
  | 99 => ⟨S2x4x2048x2048, .f32⟩
  | 100 => ⟨S2x4x2048x2048, .i1⟩
  | 101 => ⟨S_, .f32⟩
  | 102 => ⟨S2x4x2048x2048, .f32⟩
  | 103 => ⟨S2x4x2048x2048, .f32⟩
  | 104 => ⟨S_, .f32⟩
  | 105 => ⟨S2x4x2048x2048, .f32⟩
  | 106 => ⟨S2x4x2048x2048, .i1⟩
  | 107 => ⟨S_, .f32⟩
  | 108 => ⟨S2x4x2048x2048, .f32⟩
  | 109 => ⟨S2x4x2048x2048, .f32⟩
  | 110 => ⟨S2x4x2048x2048, .f32⟩
  | 111 => ⟨S2x4x2048x2048, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S2x4x2048x2048, .f32⟩
  | 120 => ⟨S2x4x2048x2048, .i1⟩
  | 121 => ⟨S_, .f32⟩
  | 122 => ⟨S2x4x2048x2048, .f32⟩
  | 123 => ⟨S2x4x2048x2048, .f32⟩
  | 124 => ⟨S2x4x2048x2048, .f32⟩
  | 125 => ⟨S2x4x2048x2048, .f32⟩
  | 126 => ⟨S2x4x2048x2048, .f32⟩
  | 127 => ⟨S_, .f32⟩
  | _ => ⟨S4096x2304, .bf16⟩

abbrev hbmTy0_1 (i : Nat) : BufTy := match i % 128 with
  | 0 => ⟨S2x4x2048x2048, .f32⟩
  | 1 => ⟨S2x4x2048x2048, .f32⟩
  | 2 => ⟨S2x4x2048x2048, .f32⟩
  | 3 => ⟨S2x4x2048x2048, .f32⟩
  | 4 => ⟨S2x4x2048x2048, .f32⟩
  | 5 => ⟨S_, .f32⟩
  | 6 => ⟨S_, .f32⟩
  | 7 => ⟨S2x4x2048x2048, .i1⟩
  | 8 => ⟨S2x4x2048x2048, .f32⟩
  | 9 => ⟨S2x4x2048x2048, .f32⟩
  | 10 => ⟨S_, .f32⟩
  | 11 => ⟨S2x4x2048x2048, .f32⟩
  | 12 => ⟨S2x4x2048x64, .f32⟩
  | 13 => ⟨S2x2048x4x64, .f32⟩
  | 14 => ⟨S4096x256, .f32⟩
  | 15 => ⟨S4096x256, .f32⟩
  | 16 => ⟨S2x2048x4x64, .f32⟩
  | 17 => ⟨S2x4x2048x64, .f32⟩
  | 18 => ⟨S2x4x64x2048, .f32⟩
  | 19 => ⟨S2x4x2048x64, .f32⟩
  | 20 => ⟨S2x4x2048x2048, .f32⟩
  | 21 => ⟨S_, .f32⟩
  | 22 => ⟨S2x4x2048x2048, .f32⟩
  | 23 => ⟨S2x4x2048x2048, .f32⟩
  | 24 => ⟨S2x4x2048x2048, .f32⟩
  | 25 => ⟨S2x4x2048x2048, .f32⟩
  | 26 => ⟨S2x4x2048x2048, .f32⟩
  | 27 => ⟨S2x4x2048x2048, .f32⟩
  | 28 => ⟨S2x4x2048x2048, .f32⟩
  | 29 => ⟨S_, .f32⟩
  | 30 => ⟨S_, .f32⟩
  | 31 => ⟨S2x4x2048x2048, .f32⟩
  | 32 => ⟨S2x4x2048x2048, .f32⟩
  | 33 => ⟨S_, .f32⟩
  | 34 => ⟨S2x4x2048x2048, .f32⟩
  | 35 => ⟨S2x4x2048x2048, .f32⟩
  | 36 => ⟨S2x4x2048x2048, .f32⟩
  | 37 => ⟨S2x4x2048x2048, .f32⟩
  | 38 => ⟨S2x4x2048x2048, .f32⟩
  | 39 => ⟨S2x4x2048x2048, .f32⟩
  | 40 => ⟨S2x4x2048x2048, .f32⟩
  | 41 => ⟨S2x4x2048x64, .f32⟩
  | 42 => ⟨S2x4x2048x64, .f32⟩
  | 43 => ⟨S2x2048x4x64, .f32⟩
  | 44 => ⟨S4096x256, .f32⟩
  | 45 => ⟨S2x2048x4x64, .f32⟩
  | 46 => ⟨S4096x256, .f32⟩
  | 47 => ⟨S_, .f32⟩
  | 48 => ⟨S2x4x2048x64, .f32⟩
  | 49 => ⟨S2x4x2048x64, .f32⟩
  | 50 => ⟨S2x2048x4x64, .f32⟩
  | 51 => ⟨S4096x256, .f32⟩
  | _ => ⟨S4096x2304, .bf16⟩

abbrev hbmTy (i : Nat) : BufTy := match i / 128 with
  | 0 => hbmTy0_0 i
  | 1 => hbmTy0_1 i
  | _ => ⟨S4096x2304, .bf16⟩

abbrev bufTy : (tb : Table) → Fin (tcTables nBuf tb) → BufTy
  | .hbm, ⟨i, _⟩ => hbmTy i
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_cst_0 : Ref sig .tc := ⟨.hbm, 72, rfl⟩
abbrev main_call1_v0 : Ref sig .tc := ⟨.hbm, 73, rfl⟩
abbrev main_v22_1 : Ref sig .tc := ⟨.hbm, 74, rfl⟩
abbrev main_call1_v2 : Ref sig .tc := ⟨.hbm, 75, rfl⟩
abbrev main_v22_0 : Ref sig .tc := ⟨.hbm, 76, rfl⟩
abbrev main_call1_cst : Ref sig .tc := ⟨.hbm, 77, rfl⟩
abbrev main_v22_2 : Ref sig .tc := ⟨.hbm, 78, rfl⟩
abbrev main_call2_cst : Ref sig .tc := ⟨.hbm, 79, rfl⟩
abbrev main_call2_v0 : Ref sig .tc := ⟨.hbm, 80, rfl⟩
abbrev main_v23 : Ref sig .tc := ⟨.hbm, 81, rfl⟩
abbrev main_v24 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v25_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v25_2 : Ref sig .tc := ⟨.hbm, 129, rfl⟩
abbrev main_v25_0 : Ref sig .tc := ⟨.hbm, 130, rfl⟩
abbrev main_v26 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_call6_v0 : Ref sig .tc := ⟨.hbm, 153, rfl⟩
abbrev main_call6_v1 : Ref sig .tc := ⟨.hbm, 154, rfl⟩
abbrev main_v40 : Ref sig .tc := ⟨.hbm, 155, rfl⟩
abbrev main_v41 : Ref sig .tc := ⟨.hbm, 156, rfl⟩
abbrev main_call7_cst : Ref sig .tc := ⟨.hbm, 157, rfl⟩
abbrev main_call7_v0 : Ref sig .tc := ⟨.hbm, 158, rfl⟩
abbrev main_v42 : Ref sig .tc := ⟨.hbm, 159, rfl⟩
abbrev main_v43 : Ref sig .tc := ⟨.hbm, 160, rfl⟩
abbrev main_call8_cst : Ref sig .tc := ⟨.hbm, 161, rfl⟩
abbrev main_call8_v0 : Ref sig .tc := ⟨.hbm, 162, rfl⟩
abbrev main_v44 : Ref sig .tc := ⟨.hbm, 163, rfl⟩
abbrev main_call9_v0 : Ref sig .tc := ⟨.hbm, 164, rfl⟩
abbrev main_call9_v1 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_cst_2 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩

abbrev nD : Nat := 1
abbrev τ : Topo := Topo.v7x

variable {F : FTy → Type} [FloatOps F]
-- ==== DAct.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDActIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S4096x2816, .f32⟩
  | .hbm, ⟨5, _⟩ => ⟨S4096x1024, .f32⟩
  | .hbm, ⟨6, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGDownIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DHidden.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x2816, .bf16⟩
  | .local _ .vmem, ⟨6, _⟩ => ⟨S512x2816, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== ReferenceDHiddenIdeal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩
abbrev S1024x2816 : Shape := ⟨2, ![1024, 2816]⟩

abbrev nBuf : Space → Nat
  | .hbm => 19
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S2816x1024, .f32⟩
  | .hbm, ⟨5, _⟩ => ⟨S4096x2816, .f32⟩
  | .hbm, ⟨6, _⟩ => ⟨S_, .f32⟩
  | .hbm, ⟨7, _⟩ => ⟨S4096x1024, .f32⟩
  | .hbm, ⟨8, _⟩ => ⟨S1024x2816, .f32⟩
  | .hbm, ⟨9, _⟩ => ⟨S4096x2816, .f32⟩
  | .hbm, ⟨10, _⟩ => ⟨S4096x1024, .f32⟩
  | .hbm, ⟨11, _⟩ => ⟨S2816x1024, .f32⟩
  | .hbm, ⟨12, _⟩ => ⟨S4096x2816, .f32⟩
  | .hbm, ⟨13, _⟩ => ⟨S_, .f32⟩
  | .hbm, ⟨14, _⟩ => ⟨S4096x1024, .f32⟩
  | .hbm, ⟨15, _⟩ => ⟨S1024x2816, .f32⟩
  | .hbm, ⟨16, _⟩ => ⟨S4096x2816, .f32⟩
  | .hbm, ⟨17, _⟩ => ⟨S4096x1024, .f32⟩
  | .hbm, ⟨18, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== GUp.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGUpIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x1024, .f32⟩
  | .hbm, ⟨3, _⟩ => ⟨S4096x2816, .f32⟩
  | .hbm, ⟨4, _⟩ => ⟨S_, .f32⟩
  | .hbm, ⟨5, _⟩ => ⟨S2816x1024, .f32⟩
  | .hbm, ⟨6, _⟩ => ⟨S1024x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DIn.lean ====
abbrev S4096x2304 : Shape := ⟨2, ![4096, 2304]⟩
abbrev S4096x640 : Shape := ⟨2, ![4096, 640]⟩
abbrev S1024x2304 : Shape := ⟨2, ![1024, 2304]⟩
abbrev S1024x640 : Shape := ⟨2, ![1024, 640]⟩
abbrev S4096x1024 : Shape := ⟨2, ![4096, 1024]⟩
abbrev S512x2304 : Shape := ⟨2, ![512, 2304]⟩
abbrev S512x1024 : Shape := ⟨2, ![512, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2304, .bf16⟩
  | .hbm, ⟨1, _⟩ => ⟨S4096x640, .f32⟩
  | .hbm, ⟨2, _⟩ => ⟨S1024x2304, .bf16⟩
  | .hbm, ⟨3, _⟩ => ⟨S1024x640, .bf16⟩
  | .hbm, ⟨4, _⟩ => ⟨S4096x1024, .f32⟩
  | .hbm, ⟨5, _⟩ => ⟨S4096x1024, .f32⟩
  | .local _ .vmem, ⟨0, _⟩ => ⟨S512x2304, .bf16⟩
  | .local _ .vmem, ⟨1, _⟩ => ⟨S512x2304, .bf16⟩
  | .local _ .vmem, ⟨2, _⟩ => ⟨S1024x2304, .bf16⟩
  | .local _ .vmem, ⟨3, _⟩ => ⟨S512x1024, .f32⟩
  | .local _ .vmem, ⟨4, _⟩ => ⟨S512x1024, .f32⟩
  | .local _ .vmem, ⟨5, _⟩ => ⟨S1024x640, .f32⟩
  | .local _ .vmem, ⟨6, _⟩ => ⟨S1024x640, .f32⟩
  | .local _ .vmem, ⟨7, _⟩ => ⟨S1024x640, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x640 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== ReferenceDInIdeal.lean ====
abbrev S4096x2304 : Shape := ⟨2, ![4096, 2304]⟩
abbrev S4096x640 : Shape := ⟨2, ![4096, 640]⟩
abbrev S1024x2304 : Shape := ⟨2, ![1024, 2304]⟩
abbrev S1024x640 : Shape := ⟨2, ![1024, 640]⟩
abbrev S_ : Shape := ⟨0, ![]⟩
abbrev S4096x1024 : Shape := ⟨2, ![4096, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S4096x640, .f32⟩
  | .hbm, ⟨2, _⟩ => ⟨S1024x2304, .bf16⟩
  | .hbm, ⟨3, _⟩ => ⟨S1024x640, .bf16⟩
  | .hbm, ⟨4, _⟩ => ⟨S1024x2304, .f32⟩
  | .hbm, ⟨5, _⟩ => ⟨S4096x2304, .f32⟩
  | .hbm, ⟨6, _⟩ => ⟨S_, .f32⟩
  | .hbm, ⟨7, _⟩ => ⟨S4096x1024, .f32⟩
  | .hbm, ⟨8, _⟩ => ⟨S4096x2304, .f32⟩
  | .hbm, ⟨9, _⟩ => ⟨S4096x1024, .f32⟩
  | .hbm, ⟨10, _⟩ => ⟨S1024x640, .f32⟩
  | .hbm, ⟨11, _⟩ => ⟨S_, .f32⟩
  | .hbm, ⟨12, _⟩ => ⟨S4096x1024, .f32⟩
  | .hbm, ⟨13, _⟩ => ⟨S4096x640, .f32⟩
  | .hbm, ⟨14, _⟩ => ⟨S4096x1024, .f32⟩
  | .hbm, ⟨15, _⟩ => ⟨S4096x1024, .f32⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== GQkv.lean ====
abbrev S4096x1024 : Shape := ⟨2, ![4096, 1024]⟩
abbrev S4096x2304 : Shape := ⟨2, ![4096, 2304]⟩
abbrev S1024x2304 : Shape := ⟨2, ![1024, 2304]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGQkvIdeal.lean ====
abbrev S4096x1024 : Shape := ⟨2, ![4096, 1024]⟩
abbrev S4096x2304 : Shape := ⟨2, ![4096, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S4096x1024, .f32⟩
  | .hbm, ⟨3, _⟩ => ⟨S4096x2304, .f32⟩
  | .hbm, ⟨4, _⟩ => ⟨S_, .f32⟩
  | .hbm, ⟨5, _⟩ => ⟨S1024x2304, .f32⟩
  | .hbm, ⟨6, _⟩ => ⟨S4096x2304, .f32⟩
  | .hbm, ⟨7, _⟩ => ⟨S2304x1024, .f32⟩
  | .hbm, ⟨8, _⟩ => ⟨S1024x2304, .f32⟩
  | .hbm, ⟨9, _⟩ => ⟨S1024x2304, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GAux.lean ====
abbrev S4096x1024 : Shape := ⟨2, ![4096, 1024]⟩
abbrev S4096x640 : Shape := ⟨2, ![4096, 640]⟩
abbrev S1024x640 : Shape := ⟨2, ![1024, 640]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x640, .f32⟩
  | .hbm, ⟨2, _⟩ => ⟨S1024x640, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .f32⟩
  | .local _ .vmem, ⟨3, _⟩ => ⟨S1024x640, .f32⟩
  | .local _ .vmem, ⟨4, _⟩ => ⟨S1024x640, .bf16⟩
  | .local _ .vmem, ⟨5, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGAuxIdeal.lean ====
abbrev S4096x1024 : Shape := ⟨2, ![4096, 1024]⟩
abbrev S4096x640 : Shape := ⟨2, ![4096, 640]⟩
abbrev S_ : Shape := ⟨0, ![]⟩
abbrev S1024x640 : Shape := ⟨2, ![1024, 640]⟩
abbrev S640x1024 : Shape := ⟨2, ![640, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x640, .f32⟩
  | .hbm, ⟨2, _⟩ => ⟨S4096x1024, .f32⟩
  | .hbm, ⟨3, _⟩ => ⟨S_, .f32⟩
  | .hbm, ⟨4, _⟩ => ⟨S1024x640, .f32⟩
  | .hbm, ⟨5, _⟩ => ⟨S4096x640, .f32⟩
  | .hbm, ⟨6, _⟩ => ⟨S640x1024, .f32⟩
  | .hbm, ⟨7, _⟩ => ⟨S1024x640, .f32⟩
  | .hbm, ⟨8, _⟩ => ⟨S1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMixed.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDMixedIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GOut.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGOutIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DOc.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x256, .bf16⟩
  | .hbm, ⟨2, _⟩ => ⟨S4096x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDOcIdeal.lean ====
abbrev S4096x1024 : Shape := ⟨2, ![4096, 1024]⟩
abbrev S1024x256 : Shape := ⟨2, ![1024, 256]⟩
abbrev S_ : Shape := ⟨0, ![]⟩
abbrev S4096x256 : Shape := ⟨2, ![4096, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .bf16⟩
  | .hbm, ⟨2, _⟩ => ⟨S1024x256, .f32⟩
  | .hbm, ⟨3, _⟩ => ⟨S_, .f32⟩
  | .hbm, ⟨4, _⟩ => ⟨S4096x256, .f32⟩
  | .hbm, ⟨5, _⟩ => ⟨S256x1024, .f32⟩
  | .hbm, ⟨6, _⟩ => ⟨S4096x1024, .f32⟩
  | .hbm, ⟨7, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GCo.lean ====
abbrev S4096x1024 : Shape := ⟨2, ![4096, 1024]⟩
abbrev S4096x256 : Shape := ⟨2, ![4096, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S1024x256, .bf16⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGCoIdeal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .f32⟩
  | .hbm, ⟨3, _⟩ => ⟨S_, .f32⟩
  | .hbm, ⟨4, _⟩ => ⟨S1024x256, .f32⟩
  | .hbm, ⟨5, _⟩ => ⟨S256x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S1024x256, .f32⟩
  | .hbm, ⟨10, _⟩ => ⟨S1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DHq.lean ====
abbrev S4096x256 : Shape := ⟨2, ![4096, 256]⟩
abbrev S1024x256 : Shape := ⟨2, ![1024, 256]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDHqIdeal.lean ====
abbrev S4096x256 : Shape := ⟨2, ![4096, 256]⟩
abbrev S1024x256 : Shape := ⟨2, ![1024, 256]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S1024x256, .f32⟩
  | .hbm, ⟨3, _⟩ => ⟨S4096x256, .f32⟩
  | .hbm, ⟨4, _⟩ => ⟨S_, .f32⟩
  | .hbm, ⟨5, _⟩ => ⟨S4096x1024, .f32⟩
  | .hbm, ⟨6, _⟩ => ⟨S4096x256, .f32⟩
  | .hbm, ⟨7, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GCq.lean ====
abbrev S4096x1024 : Shape := ⟨2, ![4096, 1024]⟩
abbrev S4096x256 : Shape := ⟨2, ![4096, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGCqIdeal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x1024, .f32⟩
  | .hbm, ⟨3, _⟩ => ⟨S4096x256, .f32⟩
  | .hbm, ⟨4, _⟩ => ⟨S_, .f32⟩
  | .hbm, ⟨5, _⟩ => ⟨S1024x256, .f32⟩
  | .hbm, ⟨6, _⟩ => ⟨S4096x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DMemn.lean ====
abbrev S512x512 : Shape := ⟨2, ![512, 512]⟩
abbrev S1024x512 : Shape := ⟨2, ![1024, 512]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S1024x512, .bf16⟩
  | .hbm, ⟨2, _⟩ => ⟨S512x1024, .f32⟩
  | .local _ .vmem, ⟨0, _⟩ => ⟨S512x512, .f32⟩
  | .local _ .vmem, ⟨1, _⟩ => ⟨S1024x512, .bf16⟩
  | .local _ .vmem, ⟨2, _⟩ => ⟨S512x1024, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDMemnIdeal.lean ====
abbrev S512x512 : Shape := ⟨2, ![512, 512]⟩
abbrev S1024x512 : Shape := ⟨2, ![1024, 512]⟩
abbrev S_ : Shape := ⟨0, ![]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1024x512, .bf16⟩
  | .hbm, ⟨2, _⟩ => ⟨S1024x512, .f32⟩
  | .hbm, ⟨3, _⟩ => ⟨S_, .f32⟩
  | .hbm, ⟨4, _⟩ => ⟨S512x1024, .f32⟩
  | .hbm, ⟨5, _⟩ => ⟨S512x512, .f32⟩
  | .hbm, ⟨6, _⟩ => ⟨S512x1024, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GCkv.lean ====
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S512x512, .f32⟩
  | .hbm, ⟨2, _⟩ => ⟨S1024x512, .bf16⟩
  | .local _ .vmem, ⟨0, _⟩ => ⟨S512x1024, .bf16⟩
  | .local _ .vmem, ⟨1, _⟩ => ⟨S512x512, .f32⟩
  | .local _ .vmem, ⟨2, _⟩ => ⟨S1024x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGCkvIdeal.lean ====
abbrev S512x1024 : Shape := ⟨2, ![512, 1024]⟩
abbrev S512x512 : Shape := ⟨2, ![512, 512]⟩
abbrev S_ : Shape := ⟨0, ![]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x512, .f32⟩
  | .hbm, ⟨2, _⟩ => ⟨S512x1024, .f32⟩
  | .hbm, ⟨3, _⟩ => ⟨S_, .f32⟩
  | .hbm, ⟨4, _⟩ => ⟨S1024x512, .f32⟩
  | .hbm, ⟨5, _⟩ => ⟨S512x512, .f32⟩
  | .hbm, ⟨6, _⟩ => ⟨S512x1024, .f32⟩
  | .hbm, ⟨7, _⟩ => ⟨S1024x512, .f32⟩
  | .hbm, ⟨8, _⟩ => ⟨S1024x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FUp.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFUpIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FDown.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFDownIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FQkv.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFQkvIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x1024, .f32⟩
  | .hbm, ⟨3, _⟩ => ⟨S1024x2304, .f32⟩
  | .hbm, ⟨4, _⟩ => ⟨S4096x2304, .f32⟩
  | .hbm, ⟨5, _⟩ => ⟨S4096x2304, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FAux.lean ====
abbrev S4096x1024 : Shape := ⟨2, ![4096, 1024]⟩
abbrev S1024x640 : Shape := ⟨2, ![1024, 640]⟩
abbrev S4096x640 : Shape := ⟨2, ![4096, 640]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x640, .bf16⟩
  | .hbm, ⟨2, _⟩ => ⟨S4096x640, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .f32⟩
  | .local _ .vmem, ⟨4, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFAuxIdeal.lean ====
abbrev S4096x1024 : Shape := ⟨2, ![4096, 1024]⟩
abbrev S1024x640 : Shape := ⟨2, ![1024, 640]⟩
abbrev S4096x640 : Shape := ⟨2, ![4096, 640]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x640, .bf16⟩
  | .hbm, ⟨2, _⟩ => ⟨S4096x1024, .f32⟩
  | .hbm, ⟨3, _⟩ => ⟨S1024x640, .f32⟩
  | .hbm, ⟨4, _⟩ => ⟨S4096x640, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FOut.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFOutIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FCq.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S4096x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFCqIdeal.lean ====
abbrev S4096x1024 : Shape := ⟨2, ![4096, 1024]⟩
abbrev S1024x256 : Shape := ⟨2, ![1024, 256]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S4096x1024, .f32⟩
  | .hbm, ⟨3, _⟩ => ⟨S1024x256, .f32⟩
  | .hbm, ⟨4, _⟩ => ⟨S4096x256, .f32⟩
  | .hbm, ⟨5, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FCkv.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x512, .bf16⟩
  | .local _ .vmem, ⟨0, _⟩ => ⟨S512x1024, .bf16⟩
  | .local _ .vmem, ⟨1, _⟩ => ⟨S1024x512, .bf16⟩
  | .local _ .vmem, ⟨2, _⟩ => ⟨S512x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceFCkvIdeal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x1024, .f32⟩
  | .hbm, ⟨3, _⟩ => ⟨S1024x512, .f32⟩
  | .hbm, ⟨4, _⟩ => ⟨S512x512, .f32⟩
  | .hbm, ⟨5, _⟩ => ⟨S512x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FCo.lean ====
abbrev S4096x256 : Shape := ⟨2, ![4096, 256]⟩
abbrev S1024x256 : Shape := ⟨2, ![1024, 256]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x1024, .f32⟩
  | .hbm, ⟨3, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFCoIdeal.lean ====
abbrev S4096x256 : Shape := ⟨2, ![4096, 256]⟩
abbrev S1024x256 : Shape := ⟨2, ![1024, 256]⟩
abbrev S4096x1024 : Shape := ⟨2, ![4096, 1024]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x1024, .f32⟩
  | .hbm, ⟨3, _⟩ => ⟨S4096x256, .f32⟩
  | .hbm, ⟨4, _⟩ => ⟨S1024x256, .f32⟩
  | .hbm, ⟨5, _⟩ => ⟨S256x1024, .f32⟩
  | .hbm, ⟨6, _⟩ => ⟨S4096x1024, .f32⟩
  | .hbm, ⟨7, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdIn.lean ====
abbrev S256x2820 : Shape := ⟨2, ![256, 2820]⟩

abbrev nBuf : Space → Nat
  | .hbm => 7
  | .vmem => 7
  | .smem => 0
  | _ => 0

abbrev bufTy : (tb : Table) → Fin (tcTables nBuf tb) → BufTy
  | .hbm, ⟨0, _⟩ => ⟨S256x2820, .f32⟩
  | .hbm, ⟨1, _⟩ => ⟨S256x2820, .f32⟩
  | .hbm, ⟨2, _⟩ => ⟨S256x2820, .f32⟩
  | .hbm, ⟨3, _⟩ => ⟨S256x2820, .f32⟩
  | .hbm, ⟨4, _⟩ => ⟨S256x2820, .f32⟩
  | .hbm, ⟨5, _⟩ => ⟨S256x2820, .f32⟩
  | .hbm, ⟨6, _⟩ => ⟨S256x2820, .f32⟩
  | .local _ .vmem, ⟨0, _⟩ => ⟨S256x2820, .f32⟩
  | .local _ .vmem, ⟨1, _⟩ => ⟨S256x2820, .f32⟩
  | .local _ .vmem, ⟨2, _⟩ => ⟨S256x2820, .f32⟩
  | .local _ .vmem, ⟨3, _⟩ => ⟨S256x2820, .f32⟩
  | .local _ .vmem, ⟨4, _⟩ => ⟨S256x2820, .f32⟩
  | .local _ .vmem, ⟨5, _⟩ => ⟨S256x2820, .f32⟩
  | .local _ .vmem, ⟨6, _⟩ => ⟨S256x2820, .f32⟩
  | _, _ => ⟨S256x2820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2820 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2820 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2820 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2820 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2820 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2820 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2820 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdInIdeal.lean ====
abbrev S256x2820 : Shape := ⟨2, ![256, 2820]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x2820, .f32⟩
  | .hbm, ⟨1, _⟩ => ⟨S256x2820, .f32⟩
  | .hbm, ⟨2, _⟩ => ⟨S256x2820, .f32⟩
  | .hbm, ⟨3, _⟩ => ⟨S256x2820, .f32⟩
  | .hbm, ⟨4, _⟩ => ⟨S_, .f32⟩
  | .hbm, ⟨5, _⟩ => ⟨S256x2820, .f32⟩
  | .hbm, ⟨6, _⟩ => ⟨S256x2820, .f32⟩
  | .hbm, ⟨7, _⟩ => ⟨S_, .f32⟩
  | .hbm, ⟨8, _⟩ => ⟨S256x2820, .f32⟩
  | .hbm, ⟨9, _⟩ => ⟨S256x2820, .f32⟩
  | .hbm, ⟨10, _⟩ => ⟨S256x2820, .f32⟩
  | .hbm, ⟨11, _⟩ => ⟨S_, .f32⟩
  | .hbm, ⟨12, _⟩ => ⟨S256x2820, .f32⟩
  | .hbm, ⟨13, _⟩ => ⟨S256x2820, .f32⟩
  | .hbm, ⟨14, _⟩ => ⟨S256x2820, .f32⟩
  | .hbm, ⟨15, _⟩ => ⟨S_, .f32⟩
  | .hbm, ⟨16, _⟩ => ⟨S256x2820, .f32⟩
  | .hbm, ⟨17, _⟩ => ⟨S256x2820, .f32⟩
  | .hbm, ⟨18, _⟩ => ⟨S256x2820, .f32⟩
  | .hbm, ⟨19, _⟩ => ⟨S_, .f32⟩
  | .hbm, ⟨20, _⟩ => ⟨S256x2820, .f32⟩
  | .hbm, ⟨21, _⟩ => ⟨S256x2820, .f32⟩
  | .hbm, ⟨22, _⟩ => ⟨S_, .f32⟩
  | .hbm, ⟨23, _⟩ => ⟨S256x2820, .f32⟩
  | .hbm, ⟨24, _⟩ => ⟨S256x2820, .f32⟩
  | .hbm, ⟨25, _⟩ => ⟨S256x2820, .f32⟩
  | .hbm, ⟨26, _⟩ => ⟨S_, .f32⟩
  | .hbm, ⟨27, _⟩ => ⟨S256x2820, .f32⟩
  | .hbm, ⟨28, _⟩ => ⟨S256x2820, .f32⟩
  | .hbm, ⟨29, _⟩ => ⟨S256x2820, .f32⟩
  | .hbm, ⟨30, _⟩ => ⟨S_, .f32⟩
  | .hbm, ⟨31, _⟩ => ⟨S256x2820, .f32⟩
  | .hbm, ⟨32, _⟩ => ⟨S256x2820, .f32⟩
  | .hbm, ⟨33, _⟩ => ⟨S256x2820, .f32⟩
  | .hbm, ⟨34, _⟩ => ⟨S_, .f32⟩
  | .hbm, ⟨35, _⟩ => ⟨S256x2820, .f32⟩
  | .hbm, ⟨36, _⟩ => ⟨S256x2820, .f32⟩
  | _, _ => ⟨S256x2820, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdOutIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdCross.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdCrossIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdCo.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdCoIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdUp.lean ====
abbrev S2048x704 : Shape := ⟨2, ![2048, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdUpIdeal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdDown.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdDownIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SbFwd.lean ====
abbrev S4096x2304 : Shape := ⟨2, ![4096, 2304]⟩
abbrev S4096x256 : Shape := ⟨2, ![4096, 256]⟩
abbrev S2048x256 : Shape := ⟨2, ![2048, 256]⟩
abbrev S1024x256 : Shape := ⟨2, ![1024, 256]⟩
abbrev S128x1024 : Shape := ⟨2, ![128, 1024]⟩
abbrev S256x256 : Shape := ⟨2, ![256, 256]⟩
abbrev S128x256 : Shape := ⟨2, ![128, 256]⟩
abbrev S128 : Shape := ⟨1, ![128]⟩
abbrev S128x1 : Shape := ⟨2, ![128, 1]⟩

abbrev nBuf : Space → Nat
  | .hbm => 2
  | .vmem => 8
  | .smem => 0
  | _ => 0

abbrev bufTy : (tb : Table) → Fin (tcTables nBuf tb) → BufTy
  | .hbm, ⟨0, _⟩ => ⟨S4096x2304, .bf16⟩
  | .hbm, ⟨1, _⟩ => ⟨S4096x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_16 : BitVec 32 := 0#32
  let c16_i32 : BitVec 32 := 16#32
  let v75 : BitVec 32 := Scalar.addi c0_i32_16 c16_i32
  let c1_i32_17 : BitVec 32 := 1#32
  ⟨c0_i32_16, v75, c1_i32_17⟩
def k0_mult1 (k0_t1 : Fin k0_t1_loop.trips) : BitVec 32 :=
  let c0_i32_16 : BitVec 32 := 0#32
  let c1_i32_17 : BitVec 32 := 1#32
  let arg5 : BitVec 32 := Scf.iv c0_i32_16 c1_i32_17 k0_t1
  let c128_i32 : BitVec 32 := 128#32
  let v76 : BitVec 32 := Scalar.muli arg5 c128_i32
  v76
def k0_off1 (k0_t1 : Fin k0_t1_loop.trips) : Fin 2 → Nat :=
  let c0_i32_16 : BitVec 32 := 0#32
  let c1_i32_17 : BitVec 32 := 1#32
  let arg5 : BitVec 32 := Scf.iv c0_i32_16 c1_i32_17 k0_t1
  let c128_i32 : BitVec 32 := 128#32
  let v76 : BitVec 32 := Scalar.muli arg5 c128_i32
  let v77 : BitVec 32 := v76
  let v78 : Index := Scalar.indexCast v77
  let c0 : Index := 0#32
  ![v78.toNat, 0]
def k0_mult2 (k0_t1 : Fin k0_t1_loop.trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c256_i32_34 : BitVec 32 := 256#32
  let v115 : BitVec 32 := Scalar.muli v98 c256_i32_34
  v115
def k0_off2 (k0_t1 : Fin k0_t1_loop.trips) : Fin 2 → Nat :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c256_i32_34 : BitVec 32 := 256#32
  let v115 : BitVec 32 := Scalar.muli v98 c256_i32_34
  let v116 : BitVec 32 := v115
  let v117 : Index := Scalar.indexCast v116
  let c0_35 : Index := 0#32
  ![v117.toNat, 0]
def k0_mult3 (k0_t1 : Fin k0_t1_loop.trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c256_i32_45 : BitVec 32 := 256#32
  let v171 : BitVec 32 := Scalar.muli v98 c256_i32_45
  v171
@[reducible] def k0_t2_loop (k0_t1 : Fin k0_t1_loop.trips) : Scf.Loop 32 :=
  let c0_i32_59 : BitVec 32 := 0#32
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v212 : BitVec 32 := Scalar.subi v211 c0_i32_59
  let c1_i32_60 : BitVec 32 := 1#32
  let v214 : BitVec 32 := Scalar.divsi v212 c1_i32_60
  let v215 : BitVec 32 := Scalar.muli v214 c1_i32_60
  let v216 : BitVec 32 := Scalar.addi c0_i32_59 v215
  let c1_i32_61 : BitVec 32 := 1#32
  ⟨c0_i32_59, v216, c1_i32_61⟩
def k0_mult4 (k0_t1 : Fin k0_t1_loop.trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c256_i32_77 : BitVec 32 := 256#32
  let v249 : BitVec 32 := Scalar.muli v248 c256_i32_77
  v249
def k0_off3 (k0_t1 : Fin k0_t1_loop.trips) : Fin 2 → Nat :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c256_i32_77 : BitVec 32 := 256#32
  let v249 : BitVec 32 := Scalar.muli v248 c256_i32_77
  let v250 : BitVec 32 := v249
  let v251 : Index := Scalar.indexCast v250
  let c0_78 : Index := 0#32
  ![v251.toNat, 0]
def k0_mult5 (k0_t1 : Fin k0_t1_loop.trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c256_i32_86 : BitVec 32 := 256#32
  let v301 : BitVec 32 := Scalar.muli v248 c256_i32_86
  v301
@[reducible] def k0_t3_loop (k0_t1 : Fin k0_t1_loop.trips) : Scf.Loop 32 :=
  let c0_i32_59 : BitVec 32 := 0#32
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v212 : BitVec 32 := Scalar.subi v211 c0_i32_59
  let c1_i32_60 : BitVec 32 := 1#32
  let v214 : BitVec 32 := Scalar.divsi v212 c1_i32_60
  let v215 : BitVec 32 := Scalar.muli v214 c1_i32_60
  let v216 : BitVec 32 := Scalar.addi c0_i32_59 v215
  let v213 : BitVec 32 := Scalar.addi c0_i32_59 v212
  let c1_i32_62 : BitVec 32 := 1#32
  ⟨v216, v213, c1_i32_62⟩
def k0_mult6 (k0_t1 : Fin k0_t1_loop.trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c256_i32_77 : BitVec 32 := 256#32
  let v249 : BitVec 32 := Scalar.muli v248 c256_i32_77
  v249
def k0_off4 (k0_t1 : Fin k0_t1_loop.trips) : Fin 2 → Nat :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c256_i32_77 : BitVec 32 := 256#32
  let v249 : BitVec 32 := Scalar.muli v248 c256_i32_77
  let v250 : BitVec 32 := v249
  let v251 : Index := Scalar.indexCast v250
  let c0_78 : Index := 0#32
  ![v251.toNat, 0]
def k0_mult7 (k0_t1 : Fin k0_t1_loop.trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c256_i32_86 : BitVec 32 := 256#32
  let v301 : BitVec 32 := Scalar.muli v248 c256_i32_86
  v301
@[reducible] def k0_t4_loop (k0_t1 : Fin k0_t1_loop.trips) : Scf.Loop 32 :=
  let c0_i32_70 : BitVec 32 := 0#32
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c0_i32_64 : BitVec 32 := 0#32
  let v220 : BitVec 1 := Scalar.cmpi .sgt v98 c0_i32_64
  let v221 : BitVec 32 := Scalar.extui v220
  let c0_i32_65 : BitVec 32 := 0#32
  let v222 : BitVec 1 := Scalar.cmpi .slt v98 c0_i32_65
  let v223 : BitVec 32 := Scalar.extui v222
  let v224 : BitVec 32 := Scalar.subi v221 v223
  let c2_i32_63 : BitVec 32 := 2#32
  let c0_i32_66 : BitVec 32 := 0#32
  let v225 : BitVec 1 := Scalar.cmpi .sgt c2_i32_63 c0_i32_66
  let v226 : BitVec 32 := Scalar.extui v225
  let c0_i32_67 : BitVec 32 := 0#32
  let v227 : BitVec 1 := Scalar.cmpi .slt c2_i32_63 c0_i32_67
  let v228 : BitVec 32 := Scalar.extui v227
  let v229 : BitVec 32 := Scalar.subi v226 v228
  let v230 : BitVec 1 := Scalar.cmpi .ne v224 v229
  let v231 : BitVec 32 := Scalar.remsi v98 c2_i32_63
  let c0_i32_68 : BitVec 32 := 0#32
  let v232 : BitVec 1 := Scalar.cmpi .ne v231 c0_i32_68
  let v233 : BitVec 1 := Scalar.andi v230 v232
  let v219 : BitVec 32 := Scalar.divsi v98 c2_i32_63
  let c1_i32_69 : BitVec 32 := 1#32
  let v234 : BitVec 32 := Scalar.subi v219 c1_i32_69
  let v235 : BitVec 32 := Scalar.select v233 v234 v219
  let v236 : BitVec 32 := Scalar.subi v235 c0_i32_70
  let c1_i32_71 : BitVec 32 := 1#32
  let v238 : BitVec 32 := Scalar.divsi v236 c1_i32_71
  let v239 : BitVec 32 := Scalar.muli v238 c1_i32_71
  let v240 : BitVec 32 := Scalar.addi c0_i32_70 v239
  let c1_i32_72 : BitVec 32 := 1#32
  ⟨c0_i32_70, v240, c1_i32_72⟩
def k0_mult8 (k0_t1 : Fin k0_t1_loop.trips) (k0_t4 : Fin (k0_t4_loop k0_t1).trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c1_i32_72 : BitVec 32 := 1#32
  let arg6 : BitVec 32 := Scf.iv c0_i32_70 c1_i32_72 k0_t4
  let v250 : BitVec 32 := Scalar.muli c2_i32_77 arg6
  let v251 : BitVec 32 := Scalar.subi v249 v250
  let c256_i32_78 : BitVec 32 := 256#32
  let v252 : BitVec 32 := Scalar.muli v251 c256_i32_78
  v252
def k0_off5 (k0_t1 : Fin k0_t1_loop.trips) (k0_t4 : Fin (k0_t4_loop k0_t1).trips) : Fin 2 → Nat :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c1_i32_72 : BitVec 32 := 1#32
  let arg6 : BitVec 32 := Scf.iv c0_i32_70 c1_i32_72 k0_t4
  let v250 : BitVec 32 := Scalar.muli c2_i32_77 arg6
  let v251 : BitVec 32 := Scalar.subi v249 v250
  let c256_i32_78 : BitVec 32 := 256#32
  let v252 : BitVec 32 := Scalar.muli v251 c256_i32_78
  let v253 : BitVec 32 := v252
  let v254 : Index := Scalar.indexCast v253
  let c0_79 : Index := 0#32
  ![v254.toNat, 0]
def k0_mult9 (k0_t1 : Fin k0_t1_loop.trips) (k0_t4 : Fin (k0_t4_loop k0_t1).trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c1_i32_72 : BitVec 32 := 1#32
  let arg6 : BitVec 32 := Scf.iv c0_i32_70 c1_i32_72 k0_t4
  let v250 : BitVec 32 := Scalar.muli c2_i32_77 arg6
  let v251 : BitVec 32 := Scalar.subi v249 v250
  let c1_i32_87 : BitVec 32 := 1#32
  let v300 : BitVec 32 := Scalar.subi v251 c1_i32_87
  let c256_i32_88 : BitVec 32 := 256#32
  let v301 : BitVec 32 := Scalar.muli v300 c256_i32_88
  v301
def k0_off6 (k0_t1 : Fin k0_t1_loop.trips) (k0_t4 : Fin (k0_t4_loop k0_t1).trips) : Fin 2 → Nat :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c1_i32_72 : BitVec 32 := 1#32
  let arg6 : BitVec 32 := Scf.iv c0_i32_70 c1_i32_72 k0_t4
  let v250 : BitVec 32 := Scalar.muli c2_i32_77 arg6
  let v251 : BitVec 32 := Scalar.subi v249 v250
  let c1_i32_87 : BitVec 32 := 1#32
  let v300 : BitVec 32 := Scalar.subi v251 c1_i32_87
  let c256_i32_88 : BitVec 32 := 256#32
  let v301 : BitVec 32 := Scalar.muli v300 c256_i32_88
  let v302 : BitVec 32 := v301
  let v303 : Index := Scalar.indexCast v302
  let c0_89 : Index := 0#32
  ![v303.toNat, 0]
def k0_mult10 (k0_t1 : Fin k0_t1_loop.trips) (k0_t4 : Fin (k0_t4_loop k0_t1).trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c1_i32_72 : BitVec 32 := 1#32
  let arg6 : BitVec 32 := Scf.iv c0_i32_70 c1_i32_72 k0_t4
  let v250 : BitVec 32 := Scalar.muli c2_i32_77 arg6
  let v251 : BitVec 32 := Scalar.subi v249 v250
  let c256_i32_105 : BitVec 32 := 256#32
  let v400 : BitVec 32 := Scalar.muli v251 c256_i32_105
  v400
def k0_mult11 (k0_t1 : Fin k0_t1_loop.trips) (k0_t4 : Fin (k0_t4_loop k0_t1).trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c1_i32_72 : BitVec 32 := 1#32
  let arg6 : BitVec 32 := Scf.iv c0_i32_70 c1_i32_72 k0_t4
  let v250 : BitVec 32 := Scalar.muli c2_i32_77 arg6
  let v251 : BitVec 32 := Scalar.subi v249 v250
  let c1_i32_109 : BitVec 32 := 1#32
  let v410 : BitVec 32 := Scalar.subi v251 c1_i32_109
  let c256_i32_110 : BitVec 32 := 256#32
  let v411 : BitVec 32 := Scalar.muli v410 c256_i32_110
  v411
@[reducible] def k0_t5_loop (k0_t1 : Fin k0_t1_loop.trips) : Scf.Loop 32 :=
  let c0_i32_70 : BitVec 32 := 0#32
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c0_i32_64 : BitVec 32 := 0#32
  let v220 : BitVec 1 := Scalar.cmpi .sgt v98 c0_i32_64
  let v221 : BitVec 32 := Scalar.extui v220
  let c0_i32_65 : BitVec 32 := 0#32
  let v222 : BitVec 1 := Scalar.cmpi .slt v98 c0_i32_65
  let v223 : BitVec 32 := Scalar.extui v222
  let v224 : BitVec 32 := Scalar.subi v221 v223
  let c2_i32_63 : BitVec 32 := 2#32
  let c0_i32_66 : BitVec 32 := 0#32
  let v225 : BitVec 1 := Scalar.cmpi .sgt c2_i32_63 c0_i32_66
  let v226 : BitVec 32 := Scalar.extui v225
  let c0_i32_67 : BitVec 32 := 0#32
  let v227 : BitVec 1 := Scalar.cmpi .slt c2_i32_63 c0_i32_67
  let v228 : BitVec 32 := Scalar.extui v227
  let v229 : BitVec 32 := Scalar.subi v226 v228
  let v230 : BitVec 1 := Scalar.cmpi .ne v224 v229
  let v231 : BitVec 32 := Scalar.remsi v98 c2_i32_63
  let c0_i32_68 : BitVec 32 := 0#32
  let v232 : BitVec 1 := Scalar.cmpi .ne v231 c0_i32_68
  let v233 : BitVec 1 := Scalar.andi v230 v232
  let v219 : BitVec 32 := Scalar.divsi v98 c2_i32_63
  let c1_i32_69 : BitVec 32 := 1#32
  let v234 : BitVec 32 := Scalar.subi v219 c1_i32_69
  let v235 : BitVec 32 := Scalar.select v233 v234 v219
  let v236 : BitVec 32 := Scalar.subi v235 c0_i32_70
  let c1_i32_71 : BitVec 32 := 1#32
  let v238 : BitVec 32 := Scalar.divsi v236 c1_i32_71
  let v239 : BitVec 32 := Scalar.muli v238 c1_i32_71
  let v240 : BitVec 32 := Scalar.addi c0_i32_70 v239
  let v237 : BitVec 32 := Scalar.addi c0_i32_70 v236
  let c1_i32_73 : BitVec 32 := 1#32
  ⟨v240, v237, c1_i32_73⟩
def k0_mult12 (k0_t1 : Fin k0_t1_loop.trips) (k0_t5 : Fin (k0_t5_loop k0_t1).trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c0_i32_64 : BitVec 32 := 0#32
  let v220 : BitVec 1 := Scalar.cmpi .sgt v98 c0_i32_64
  let v221 : BitVec 32 := Scalar.extui v220
  let c0_i32_65 : BitVec 32 := 0#32
  let v222 : BitVec 1 := Scalar.cmpi .slt v98 c0_i32_65
  let v223 : BitVec 32 := Scalar.extui v222
  let v224 : BitVec 32 := Scalar.subi v221 v223
  let c2_i32_63 : BitVec 32 := 2#32
  let c0_i32_66 : BitVec 32 := 0#32
  let v225 : BitVec 1 := Scalar.cmpi .sgt c2_i32_63 c0_i32_66
  let v226 : BitVec 32 := Scalar.extui v225
  let c0_i32_67 : BitVec 32 := 0#32
  let v227 : BitVec 1 := Scalar.cmpi .slt c2_i32_63 c0_i32_67
  let v228 : BitVec 32 := Scalar.extui v227
  let v229 : BitVec 32 := Scalar.subi v226 v228
  let v230 : BitVec 1 := Scalar.cmpi .ne v224 v229
  let v231 : BitVec 32 := Scalar.remsi v98 c2_i32_63
  let c0_i32_68 : BitVec 32 := 0#32
  let v232 : BitVec 1 := Scalar.cmpi .ne v231 c0_i32_68
  let v233 : BitVec 1 := Scalar.andi v230 v232
  let v219 : BitVec 32 := Scalar.divsi v98 c2_i32_63
  let c1_i32_69 : BitVec 32 := 1#32
  let v234 : BitVec 32 := Scalar.subi v219 c1_i32_69
  let v235 : BitVec 32 := Scalar.select v233 v234 v219
  let v236 : BitVec 32 := Scalar.subi v235 c0_i32_70
  let c1_i32_71 : BitVec 32 := 1#32
  let v238 : BitVec 32 := Scalar.divsi v236 c1_i32_71
  let v239 : BitVec 32 := Scalar.muli v238 c1_i32_71
  let v240 : BitVec 32 := Scalar.addi c0_i32_70 v239
  let c1_i32_73 : BitVec 32 := 1#32
  let arg6 : BitVec 32 := Scf.iv v240 c1_i32_73 k0_t5
  let v250 : BitVec 32 := Scalar.muli c2_i32_77 arg6
  let v251 : BitVec 32 := Scalar.subi v249 v250
  let c256_i32_78 : BitVec 32 := 256#32
  let v252 : BitVec 32 := Scalar.muli v251 c256_i32_78
  v252
def k0_off7 (k0_t1 : Fin k0_t1_loop.trips) (k0_t5 : Fin (k0_t5_loop k0_t1).trips) : Fin 2 → Nat :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c0_i32_64 : BitVec 32 := 0#32
  let v220 : BitVec 1 := Scalar.cmpi .sgt v98 c0_i32_64
  let v221 : BitVec 32 := Scalar.extui v220
  let c0_i32_65 : BitVec 32 := 0#32
  let v222 : BitVec 1 := Scalar.cmpi .slt v98 c0_i32_65
  let v223 : BitVec 32 := Scalar.extui v222
  let v224 : BitVec 32 := Scalar.subi v221 v223
  let c2_i32_63 : BitVec 32 := 2#32
  let c0_i32_66 : BitVec 32 := 0#32
  let v225 : BitVec 1 := Scalar.cmpi .sgt c2_i32_63 c0_i32_66
  let v226 : BitVec 32 := Scalar.extui v225
  let c0_i32_67 : BitVec 32 := 0#32
  let v227 : BitVec 1 := Scalar.cmpi .slt c2_i32_63 c0_i32_67
  let v228 : BitVec 32 := Scalar.extui v227
  let v229 : BitVec 32 := Scalar.subi v226 v228
  let v230 : BitVec 1 := Scalar.cmpi .ne v224 v229
  let v231 : BitVec 32 := Scalar.remsi v98 c2_i32_63
  let c0_i32_68 : BitVec 32 := 0#32
  let v232 : BitVec 1 := Scalar.cmpi .ne v231 c0_i32_68
  let v233 : BitVec 1 := Scalar.andi v230 v232
  let v219 : BitVec 32 := Scalar.divsi v98 c2_i32_63
  let c1_i32_69 : BitVec 32 := 1#32
  let v234 : BitVec 32 := Scalar.subi v219 c1_i32_69
  let v235 : BitVec 32 := Scalar.select v233 v234 v219
  let v236 : BitVec 32 := Scalar.subi v235 c0_i32_70
  let c1_i32_71 : BitVec 32 := 1#32
  let v238 : BitVec 32 := Scalar.divsi v236 c1_i32_71
  let v239 : BitVec 32 := Scalar.muli v238 c1_i32_71
  let v240 : BitVec 32 := Scalar.addi c0_i32_70 v239
  let c1_i32_73 : BitVec 32 := 1#32
  let arg6 : BitVec 32 := Scf.iv v240 c1_i32_73 k0_t5
  let v250 : BitVec 32 := Scalar.muli c2_i32_77 arg6
  let v251 : BitVec 32 := Scalar.subi v249 v250
  let c256_i32_78 : BitVec 32 := 256#32
  let v252 : BitVec 32 := Scalar.muli v251 c256_i32_78
  let v253 : BitVec 32 := v252
  let v254 : Index := Scalar.indexCast v253
  let c0_79 : Index := 0#32
  ![v254.toNat, 0]
def k0_mult13 (k0_t1 : Fin k0_t1_loop.trips) (k0_t5 : Fin (k0_t5_loop k0_t1).trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c0_i32_64 : BitVec 32 := 0#32
  let v220 : BitVec 1 := Scalar.cmpi .sgt v98 c0_i32_64
  let v221 : BitVec 32 := Scalar.extui v220
  let c0_i32_65 : BitVec 32 := 0#32
  let v222 : BitVec 1 := Scalar.cmpi .slt v98 c0_i32_65
  let v223 : BitVec 32 := Scalar.extui v222
  let v224 : BitVec 32 := Scalar.subi v221 v223
  let c2_i32_63 : BitVec 32 := 2#32
  let c0_i32_66 : BitVec 32 := 0#32
  let v225 : BitVec 1 := Scalar.cmpi .sgt c2_i32_63 c0_i32_66
  let v226 : BitVec 32 := Scalar.extui v225
  let c0_i32_67 : BitVec 32 := 0#32
  let v227 : BitVec 1 := Scalar.cmpi .slt c2_i32_63 c0_i32_67
  let v228 : BitVec 32 := Scalar.extui v227
  let v229 : BitVec 32 := Scalar.subi v226 v228
  let v230 : BitVec 1 := Scalar.cmpi .ne v224 v229
  let v231 : BitVec 32 := Scalar.remsi v98 c2_i32_63
  let c0_i32_68 : BitVec 32 := 0#32
  let v232 : BitVec 1 := Scalar.cmpi .ne v231 c0_i32_68
  let v233 : BitVec 1 := Scalar.andi v230 v232
  let v219 : BitVec 32 := Scalar.divsi v98 c2_i32_63
  let c1_i32_69 : BitVec 32 := 1#32
  let v234 : BitVec 32 := Scalar.subi v219 c1_i32_69
  let v235 : BitVec 32 := Scalar.select v233 v234 v219
  let v236 : BitVec 32 := Scalar.subi v235 c0_i32_70
  let c1_i32_71 : BitVec 32 := 1#32
  let v238 : BitVec 32 := Scalar.divsi v236 c1_i32_71
  let v239 : BitVec 32 := Scalar.muli v238 c1_i32_71
  let v240 : BitVec 32 := Scalar.addi c0_i32_70 v239
  let c1_i32_73 : BitVec 32 := 1#32
  let arg6 : BitVec 32 := Scf.iv v240 c1_i32_73 k0_t5
  let v250 : BitVec 32 := Scalar.muli c2_i32_77 arg6
  let v251 : BitVec 32 := Scalar.subi v249 v250
  let c1_i32_87 : BitVec 32 := 1#32
  let v300 : BitVec 32 := Scalar.subi v251 c1_i32_87
  let c256_i32_88 : BitVec 32 := 256#32
  let v301 : BitVec 32 := Scalar.muli v300 c256_i32_88
  v301
def k0_off8 (k0_t1 : Fin k0_t1_loop.trips) (k0_t5 : Fin (k0_t5_loop k0_t1).trips) : Fin 2 → Nat :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c0_i32_64 : BitVec 32 := 0#32
  let v220 : BitVec 1 := Scalar.cmpi .sgt v98 c0_i32_64
  let v221 : BitVec 32 := Scalar.extui v220
  let c0_i32_65 : BitVec 32 := 0#32
  let v222 : BitVec 1 := Scalar.cmpi .slt v98 c0_i32_65
  let v223 : BitVec 32 := Scalar.extui v222
  let v224 : BitVec 32 := Scalar.subi v221 v223
  let c2_i32_63 : BitVec 32 := 2#32
  let c0_i32_66 : BitVec 32 := 0#32
  let v225 : BitVec 1 := Scalar.cmpi .sgt c2_i32_63 c0_i32_66
  let v226 : BitVec 32 := Scalar.extui v225
  let c0_i32_67 : BitVec 32 := 0#32
  let v227 : BitVec 1 := Scalar.cmpi .slt c2_i32_63 c0_i32_67
  let v228 : BitVec 32 := Scalar.extui v227
  let v229 : BitVec 32 := Scalar.subi v226 v228
  let v230 : BitVec 1 := Scalar.cmpi .ne v224 v229
  let v231 : BitVec 32 := Scalar.remsi v98 c2_i32_63
  let c0_i32_68 : BitVec 32 := 0#32
  let v232 : BitVec 1 := Scalar.cmpi .ne v231 c0_i32_68
  let v233 : BitVec 1 := Scalar.andi v230 v232
  let v219 : BitVec 32 := Scalar.divsi v98 c2_i32_63
  let c1_i32_69 : BitVec 32 := 1#32
  let v234 : BitVec 32 := Scalar.subi v219 c1_i32_69
  let v235 : BitVec 32 := Scalar.select v233 v234 v219
  let v236 : BitVec 32 := Scalar.subi v235 c0_i32_70
  let c1_i32_71 : BitVec 32 := 1#32
  let v238 : BitVec 32 := Scalar.divsi v236 c1_i32_71
  let v239 : BitVec 32 := Scalar.muli v238 c1_i32_71
  let v240 : BitVec 32 := Scalar.addi c0_i32_70 v239
  let c1_i32_73 : BitVec 32 := 1#32
  let arg6 : BitVec 32 := Scf.iv v240 c1_i32_73 k0_t5
  let v250 : BitVec 32 := Scalar.muli c2_i32_77 arg6
  let v251 : BitVec 32 := Scalar.subi v249 v250
  let c1_i32_87 : BitVec 32 := 1#32
  let v300 : BitVec 32 := Scalar.subi v251 c1_i32_87
  let c256_i32_88 : BitVec 32 := 256#32
  let v301 : BitVec 32 := Scalar.muli v300 c256_i32_88
  let v302 : BitVec 32 := v301
  let v303 : Index := Scalar.indexCast v302
  let c0_89 : Index := 0#32
  ![v303.toNat, 0]
def k0_mult14 (k0_t1 : Fin k0_t1_loop.trips) (k0_t5 : Fin (k0_t5_loop k0_t1).trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c0_i32_64 : BitVec 32 := 0#32
  let v220 : BitVec 1 := Scalar.cmpi .sgt v98 c0_i32_64
  let v221 : BitVec 32 := Scalar.extui v220
  let c0_i32_65 : BitVec 32 := 0#32
  let v222 : BitVec 1 := Scalar.cmpi .slt v98 c0_i32_65
  let v223 : BitVec 32 := Scalar.extui v222
  let v224 : BitVec 32 := Scalar.subi v221 v223
  let c2_i32_63 : BitVec 32 := 2#32
  let c0_i32_66 : BitVec 32 := 0#32
  let v225 : BitVec 1 := Scalar.cmpi .sgt c2_i32_63 c0_i32_66
  let v226 : BitVec 32 := Scalar.extui v225
  let c0_i32_67 : BitVec 32 := 0#32
  let v227 : BitVec 1 := Scalar.cmpi .slt c2_i32_63 c0_i32_67
  let v228 : BitVec 32 := Scalar.extui v227
  let v229 : BitVec 32 := Scalar.subi v226 v228
  let v230 : BitVec 1 := Scalar.cmpi .ne v224 v229
  let v231 : BitVec 32 := Scalar.remsi v98 c2_i32_63
  let c0_i32_68 : BitVec 32 := 0#32
  let v232 : BitVec 1 := Scalar.cmpi .ne v231 c0_i32_68
  let v233 : BitVec 1 := Scalar.andi v230 v232
  let v219 : BitVec 32 := Scalar.divsi v98 c2_i32_63
  let c1_i32_69 : BitVec 32 := 1#32
  let v234 : BitVec 32 := Scalar.subi v219 c1_i32_69
  let v235 : BitVec 32 := Scalar.select v233 v234 v219
  let v236 : BitVec 32 := Scalar.subi v235 c0_i32_70
  let c1_i32_71 : BitVec 32 := 1#32
  let v238 : BitVec 32 := Scalar.divsi v236 c1_i32_71
  let v239 : BitVec 32 := Scalar.muli v238 c1_i32_71
  let v240 : BitVec 32 := Scalar.addi c0_i32_70 v239
  let c1_i32_73 : BitVec 32 := 1#32
  let arg6 : BitVec 32 := Scf.iv v240 c1_i32_73 k0_t5
  let v250 : BitVec 32 := Scalar.muli c2_i32_77 arg6
  let v251 : BitVec 32 := Scalar.subi v249 v250
  let c256_i32_105 : BitVec 32 := 256#32
  let v400 : BitVec 32 := Scalar.muli v251 c256_i32_105
  v400
def k0_mult15 (k0_t1 : Fin k0_t1_loop.trips) (k0_t5 : Fin (k0_t5_loop k0_t1).trips) : BitVec 32 :=
  let c0_i32_16 : BitVec 32 := 0#32
  let c1_i32_17 : BitVec 32 := 1#32
  let arg5 : BitVec 32 := Scf.iv c0_i32_16 c1_i32_17 k0_t1
  let c0_i32_19 : BitVec 32 := 0#32
  let v83 : BitVec 1 := Scalar.cmpi .sgt arg5 c0_i32_19
  let v84 : BitVec 32 := Scalar.extui v83
  let c0_i32_20 : BitVec 32 := 0#32
  let v85 : BitVec 1 := Scalar.cmpi .slt arg5 c0_i32_20
  let v86 : BitVec 32 := Scalar.extui v85
  let v87 : BitVec 32 := Scalar.subi v84 v86
  let c2_i32 : BitVec 32 := 2#32
  let c0_i32_21 : BitVec 32 := 0#32
  let v88 : BitVec 1 := Scalar.cmpi .sgt c2_i32 c0_i32_21
  let v89 : BitVec 32 := Scalar.extui v88
  let c0_i32_22 : BitVec 32 := 0#32
  let v90 : BitVec 1 := Scalar.cmpi .slt c2_i32 c0_i32_22
  let v91 : BitVec 32 := Scalar.extui v90
  let v92 : BitVec 32 := Scalar.subi v89 v91
  let v93 : BitVec 1 := Scalar.cmpi .ne v87 v92
  let v94 : BitVec 32 := Scalar.remsi arg5 c2_i32
  let c0_i32_23 : BitVec 32 := 0#32
  let v95 : BitVec 1 := Scalar.cmpi .ne v94 c0_i32_23
  let v96 : BitVec 1 := Scalar.andi v93 v95
  let v82 : BitVec 32 := Scalar.divsi arg5 c2_i32
  let c1_i32_24 : BitVec 32 := 1#32
  let v97 : BitVec 32 := Scalar.subi v82 c1_i32_24
  let v98 : BitVec 32 := Scalar.select v96 v97 v82
  let c1_i32_76 : BitVec 32 := 1#32
  let v248 : BitVec 32 := Scalar.subi v98 c1_i32_76
  let c2_i32_53 : BitVec 32 := 2#32
  let c0_i32_54 : BitVec 32 := 0#32
  let v202 : BitVec 1 := Scalar.cmpi .eq c2_i32_53 c0_i32_54
  let c1_i32_55 : BitVec 32 := 1#32
  let v203 : BitVec 32 := Scalar.select v202 c1_i32_55 c2_i32_53
  let v204 : BitVec 32 := Scalar.remsi v98 v203
  let c0_i32_57 : BitVec 32 := 0#32
  let v206 : BitVec 1 := Scalar.cmpi .slt v204 c0_i32_57
  let c0_i32_58 : BitVec 32 := 0#32
  let v207 : BitVec 1 := Scalar.cmpi .slt v203 c0_i32_58
  let v208 : BitVec 1 := Scalar.xori v206 v207
  let c0_i32_56 : BitVec 32 := 0#32
  let v205 : BitVec 1 := Scalar.cmpi .ne v204 c0_i32_56
  let v209 : BitVec 1 := Scalar.andi v208 v205
  let v210 : BitVec 32 := Scalar.addi v204 v203
  let v211 : BitVec 32 := Scalar.select v209 v210 v204
  let v249 : BitVec 32 := Scalar.subi v248 v211
  let c2_i32_77 : BitVec 32 := 2#32
  let c0_i32_70 : BitVec 32 := 0#32
  let c0_i32_64 : BitVec 32 := 0#32
  let v220 : BitVec 1 := Scalar.cmpi .sgt v98 c0_i32_64
  let v221 : BitVec 32 := Scalar.extui v220
  let c0_i32_65 : BitVec 32 := 0#32
  let v222 : BitVec 1 := Scalar.cmpi .slt v98 c0_i32_65
  let v223 : BitVec 32 := Scalar.extui v222
  let v224 : BitVec 32 := Scalar.subi v221 v223
  let c2_i32_63 : BitVec 32 := 2#32
  let c0_i32_66 : BitVec 32 := 0#32
  let v225 : BitVec 1 := Scalar.cmpi .sgt c2_i32_63 c0_i32_66
  let v226 : BitVec 32 := Scalar.extui v225
  let c0_i32_67 : BitVec 32 := 0#32
  let v227 : BitVec 1 := Scalar.cmpi .slt c2_i32_63 c0_i32_67
  let v228 : BitVec 32 := Scalar.extui v227
  let v229 : BitVec 32 := Scalar.subi v226 v228
  let v230 : BitVec 1 := Scalar.cmpi .ne v224 v229
  let v231 : BitVec 32 := Scalar.remsi v98 c2_i32_63
  let c0_i32_68 : BitVec 32 := 0#32
  let v232 : BitVec 1 := Scalar.cmpi .ne v231 c0_i32_68
  let v233 : BitVec 1 := Scalar.andi v230 v232
  let v219 : BitVec 32 := Scalar.divsi v98 c2_i32_63
  let c1_i32_69 : BitVec 32 := 1#32
  let v234 : BitVec 32 := Scalar.subi v219 c1_i32_69
  let v235 : BitVec 32 := Scalar.select v233 v234 v219
  let v236 : BitVec 32 := Scalar.subi v235 c0_i32_70
  let c1_i32_71 : BitVec 32 := 1#32
  let v238 : BitVec 32 := Scalar.divsi v236 c1_i32_71
  let v239 : BitVec 32 := Scalar.muli v238 c1_i32_71
  let v240 : BitVec 32 := Scalar.addi c0_i32_70 v239
  let c1_i32_73 : BitVec 32 := 1#32
  let arg6 : BitVec 32 := Scf.iv v240 c1_i32_73 k0_t5
  let v250 : BitVec 32 := Scalar.muli c2_i32_77 arg6
  let v251 : BitVec 32 := Scalar.subi v249 v250
  let c1_i32_109 : BitVec 32 := 1#32
  let v410 : BitVec 32 := Scalar.subi v251 c1_i32_109
  let c256_i32_110 : BitVec 32 := 256#32
  let v411 : BitVec 32 := Scalar.muli v410 c256_i32_110
  v411
def k0_mult16 (k0_t1 : Fin k0_t1_loop.trips) : BitVec 32 :=
  let c0_i32_16 : BitVec 32 := 0#32
  let c1_i32_17 : BitVec 32 := 1#32
  let arg5 : BitVec 32 := Scf.iv c0_i32_16 c1_i32_17 k0_t1
  let c128_i32_74 : BitVec 32 := 128#32
  let v244 : BitVec 32 := Scalar.muli arg5 c128_i32_74
  v244
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceSbFwdIdeal.lean ====
abbrev S4096x2304 : Shape := ⟨2, ![4096, 2304]⟩
abbrev S4096x256 : Shape := ⟨2, ![4096, 256]⟩
abbrev S2x2048x4x64 : Shape := ⟨4, ![2, 2048, 4, 64]⟩
abbrev S2x4x2048x64 : Shape := ⟨4, ![2, 4, 2048, 64]⟩
abbrev S_ : Shape := ⟨0, ![]⟩
abbrev S2x4x2048x2048 : Shape := ⟨4, ![2, 4, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S4096x2304, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S2x2048x4x64, .f32⟩
  | .hbm, ⟨6, _⟩ => ⟨S2x4x2048x64, .f32⟩
  | .hbm, ⟨7, _⟩ => ⟨S_, .f32⟩
  | .hbm, ⟨8, _⟩ => ⟨S2x4x2048x64, .f32⟩
  | .hbm, ⟨9, _⟩ => ⟨S2x4x2048x64, .f32⟩
  | .hbm, ⟨10, _⟩ => ⟨S2x2048x4x64, .f32⟩
  | .hbm, ⟨11, _⟩ => ⟨S2x4x2048x64, .f32⟩
  | .hbm, ⟨12, _⟩ => ⟨S2x2048x4x64, .f32⟩
  | .hbm, ⟨13, _⟩ => ⟨S2x4x2048x64, .f32⟩
  | .hbm, ⟨14, _⟩ => ⟨S2x4x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2x4x2048x2048, .f32⟩
  | .hbm, ⟨23, _⟩ => ⟨S2x4x2048x2048, .f32⟩
  | .hbm, ⟨24, _⟩ => ⟨S_, .f32⟩
  | .hbm, ⟨25, _⟩ => ⟨S2x4x2048x2048, .f32⟩
  | .hbm, ⟨26, _⟩ => ⟨S2x4x2048x2048, .f32⟩
  | .hbm, ⟨27, _⟩ => ⟨S2x4x2048x2048, .f32⟩
  | .hbm, ⟨28, _⟩ => ⟨S2x4x2048x2048, .f32⟩
  | .hbm, ⟨29, _⟩ => ⟨S2x4x2048x2048, .i1⟩
  | .hbm, ⟨30, _⟩ => ⟨S2x4x2048x2048, .f32⟩
  | .hbm, ⟨31, _⟩ => ⟨S2x4x2048x2048, .f32⟩
  | .hbm, ⟨32, _⟩ => ⟨S2x4x2048x2048, .f32⟩
  | .hbm, ⟨33, _⟩ => ⟨S2x4x2048x2048, .f32⟩
  | .hbm, ⟨34, _⟩ => ⟨S2x4x2048x2048, .f32⟩
  | .hbm, ⟨35, _⟩ => ⟨S2x4x2048x2048, .f32⟩
  | .hbm, ⟨36, _⟩ => ⟨S2x4x2048x2048, .f32⟩
  | .hbm, ⟨37, _⟩ => ⟨S2x4x2048x2048, .f32⟩
  | .hbm, ⟨38, _⟩ => ⟨S2x4x2048x2048, .f32⟩
  | .hbm, ⟨39, _⟩ => ⟨S_, .f32⟩
  | .hbm, ⟨40, _⟩ => ⟨S_, .f32⟩
  | .hbm, ⟨41, _⟩ => ⟨S2x4x2048x2048, .i1⟩
  | .hbm, ⟨42, _⟩ => ⟨S2x4x2048x2048, .f32⟩
  | .hbm, ⟨43, _⟩ => ⟨S2x4x2048x2048, .f32⟩
  | .hbm, ⟨44, _⟩ => ⟨S_, .f32⟩
  | .hbm, ⟨45, _⟩ => ⟨S_, .f32⟩
  | .hbm, ⟨46, _⟩ => ⟨S2x4x2048x2048, .f32⟩
  | .hbm, ⟨47, _⟩ => ⟨S2x4x2048x2048, .f32⟩
  | .hbm, ⟨48, _⟩ => ⟨S2x4x2048x2048, .f32⟩
  | .hbm, ⟨49, _⟩ => ⟨S_, .f32⟩
  | .hbm, ⟨50, _⟩ => ⟨S2x4x2048x2048, .f32⟩
  | .hbm, ⟨51, _⟩ => ⟨S2x4x2048x2048, .f32⟩
  | .hbm, ⟨52, _⟩ => ⟨S2x4x2048x2048, .f32⟩
  | .hbm, ⟨53, _⟩ => ⟨S2x4x2048x2048, .f32⟩
  | .hbm, ⟨54, _⟩ => ⟨S2x4x2048x2048, .i1⟩
  | .hbm, ⟨55, _⟩ => ⟨S2x4x2048x2048, .f32⟩
  | .hbm, ⟨56, _⟩ => ⟨S2x4x2048x2048, .f32⟩
  | .hbm, ⟨57, _⟩ => ⟨S2x4x2048x2048, .f32⟩
  | .hbm, ⟨58, _⟩ => ⟨S2x4x2048x2048, .f32⟩
  | .hbm, ⟨59, _⟩ => ⟨S2x4x2048x2048, .f32⟩
  | .hbm, ⟨60, _⟩ => ⟨S2x4x2048x2048, .f32⟩
  | .hbm, ⟨61, _⟩ => ⟨S2x4x2048x2048, .f32⟩
  | .hbm, ⟨62, _⟩ => ⟨S2x4x2048x2048, .f32⟩
  | .hbm, ⟨63, _⟩ => ⟨S2x4x2048x2048, .f32⟩
  | .hbm, ⟨64, _⟩ => ⟨S2x4x2048x2048, .f32⟩
  | .hbm, ⟨65, _⟩ => ⟨S2x4x2048x2048, .f32⟩
  | .hbm, ⟨66, _⟩ => ⟨S_, .f32⟩
  | .hbm, ⟨67, _⟩ => ⟨S_, .f32⟩
  | .hbm, ⟨68, _⟩ => ⟨S2x4x2048x2048, .i1⟩
  | .hbm, ⟨69, _⟩ => ⟨S2x4x2048x2048, .f32⟩
  | .hbm, ⟨70, _⟩ => ⟨S2x4x2048x2048, .f32⟩
  | .hbm, ⟨71, _⟩ => ⟨S2x4x2048x64, .f32⟩
  | .hbm, ⟨72, _⟩ => ⟨S2x2048x4x64, .f32⟩
  | .hbm, ⟨73, _⟩ => ⟨S4096x256, .f32⟩
  | .hbm, ⟨74, _⟩ => ⟨S4096x256, .bf16⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v21 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v22 : Ref sig .tc := ⟨.hbm, 43, rfl⟩
abbrev main_call2_cst : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Proof.Dense.lean ====
/-
  Arrays of extended reals read as functions of a row and a column, and contractions over one axis as sums over a range.
-/
module

public import Idealize.ShloMosaic.PureOps.Ideal.Laws
public import Idealize.ShloMosaic.Lib.ValueIdx
public import Idealize.ShloMosaic.Lib.ValueIdxCoords

@[expose] public section

noncomputable section

namespace Cert.Dense

open Idealize.ShloMosaic
open Finset

/-- The array holds `f r c` at row `r` and column `c`. -/
def Ent {a b : ℕ} (x : (⟨2, ![a, b]⟩ : Shape).Idx → EReal) (f : ℕ → ℕ → EReal) : Prop :=
  ∀ i : (⟨2, ![a, b]⟩ : Shape).Idx, x i = f (i 0).val (i 1).val

/-- What an array holds at a row and a column (0 outside the array). -/
def entry {a b : ℕ} (x : (⟨2, ![a, b]⟩ : Shape).Idx → EReal) (r c : ℕ) : EReal :=
  if h : r < a ∧ c < b then x (ValueIdx.ix2 ⟨r, h.1⟩ ⟨c, h.2⟩) else 0

theorem entry_ent {a b : ℕ} (x : (⟨2, ![a, b]⟩ : Shape).Idx → EReal) : Ent x (entry x) := fun i => by
  have h0 : (i 0).val < a := (i 0).isLt
  have h1 : (i 1).val < b := (i 1).isLt
  rw [entry, dif_pos ⟨h0, h1⟩]
  refine congrArg x (funext fun k => ?_)
  fin_cases k <;> rfl

/-- A contraction over one axis of length `n`, as a sum over a range. -/
theorem contr {sl sr so : Shape} (D : DotDims sl sr so) (n : ℕ) (hr : D.contr.rank = 1) (hs : D.contr.size ⟨0, by omega⟩ = n)
    (x : sl.Idx → EReal) (y : sr.Idx → EReal) (j : so.Idx) (L R : ℕ → EReal)
    (hl : ∀ k : D.contr.Idx, x (D.lhsIdx j k) = L (k ⟨0, by omega⟩).val)
    (hr' : ∀ k : D.contr.Idx, y (D.rhsIdx j k) = R (k ⟨0, by omega⟩).val) :
    ∑ k : D.contr.Idx, x (D.lhsIdx j k) * y (D.rhsIdx j k) = ∑ i ∈ range n, L i * R i := by
  rw [← Equiv.sum_comp (ValueIdx.contrEquiv1 D n hr hs).symm, Finset.sum_range]
  refine Finset.sum_congr rfl fun k _ => ?_
  have hk := ValueIdx.contrEquiv1_symm_val D n hr hs k
  rw [hl, hr', hk]

/-- A sum over `a * (j + 1)` terms, its last `a` terms apart. -/
theorem sum_step (a j : ℕ) (f : ℕ → EReal) :
    ∑ i ∈ range (a * (j + 1)), f i = ∑ i ∈ range (a * j), f i + ∑ i ∈ range a, f (a * j + i) := by
  rw [Nat.mul_succ, Finset.sum_range_add]

end Cert.Dense

end
-- ==== Proof.ActGrad.lean ====
/-
  The gradient of the feed-forward's hidden activations: the tiled product is the product.
-/
module

public import proofs.«01_k».proof.Defs
public import proofs.«01_k».proof.Proof.Gen.DActIdeal.Value
public import proofs.«01_k».proof.Proof.Gen.ReferenceDActIdeal
public import proofs.«01_k».proof.Proof.Gen.ReferenceDActIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.DActIdeal.Val

open Idealize.ShloMosaic Idealize.ShloMosaic.TcCoe Idealize.SL.Sem Idealize.ShloMosaic.Tactic
open Cert.DActIdeal Cert.DActIdeal.Gen Cert.Dense
open Finset

variable {f g : ℕ → ℕ → EReal}

theorem pay_ent {x : Vec Ideal S1024x1024 .f32} {y : Vec Ideal S1408x1024 .bf16} (hx : Ent (a := 1024) (b := 1024) x f) (hy : Ent (a := 1408) (b := 1024) y g) :
    Ent (a := 1024) (b := 1408) (k0_pay1 (F := Ideal) x y) (fun r c => ∑ i ∈ range 1024, f r i * g c i) := fun j =>
  (Ideal.matmul_constant_zero_apply (φ₁ := .bf16) (φ₂ := .bf16) dot_S1024x1024_S1408x1024_S1024x1408_1_1_0_0_n_n none x y j).trans
    (contr _ 1024 rfl rfl x y j (fun i => f (j 0).val i) (fun i => g (j 1).val i) (fun k => hx _) (fun k => hy _))

theorem out_ent {x : Vec Ideal S1024x1024 .f32} {y : Vec Ideal S1408x1024 .bf16} (hx : Ent (a := 1024) (b := 1024) x f) (hy : Ent (a := 1408) (b := 1024) y g) :
    Ent (a := 1024) (b := 1408) (out0_2 (F := Ideal) x y) (fun r c => ∑ i ∈ range 1024, f r i * g c i) := by
  have e : out0_2 (F := Ideal) x y = k0_pay1 x y := by frame_out
  rw [e]; exact pay_ent hx hy

variable (m : (ℓ : Loc nD τ sig) → Buf (Elt Ideal) ℓ) (c : Dev nD)

theorem ix0 : ∀ t : Fin cfg0.N, win0_0.index t = ![t.val / 2, 0] := (by decide +kernel : ∀ t : Fin grid0.N, _)
theorem ix1 : ∀ t : Fin cfg0.N, win0_1.index t = ![t.val % 2, 0] := (by decide +kernel : ∀ t : Fin grid0.N, _)
theorem ix2 : ∀ t : Fin cfg0.N, win0_2.index t = ![t.val / 2, t.val % 2] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r k => f (t.val / 2 * 1024 + r) k) := fun y => by
  have y0 : (y 0).val < 1024 := (y 0).isLt
  show m ((c.tc : Thread nD τ).loc main_arg0) ((win0_0.blk t).view.emb y) = _
  have e0 : ((win0_0.blk t).view.emb y 0).val = t.val / 2 * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 2816) (b := 1024) (m ((c.tc : Thread nD τ).loc main_arg1)) g) :
    Ent (a := 1408) (b := 1024) (iblk m c 1 t) (fun r k => g (t.val % 2 * 1408 + r) k) := fun y => by
  have y0 : (y 0).val < 1408 := (y 0).isLt
  show m ((c.tc : Thread nD τ).loc main_arg1) ((win0_1.blk t).view.emb y) = _
  have e0 : ((win0_1.blk t).view.emb y 0).val = t.val % 2 * 1408 + (y 0).val := by blk_simp [ix1]
  have e1 : ((win0_1.blk t).view.emb y 1).val = (y 1).val := by blk_simp [ix1]
  refine (h ((win0_1.blk t).view.emb y)).trans ?_
  rw [e0, e1]

variable {m c}

theorem arr (h0 : Ent (a := 4096) (b := 1024) (m ((c.tc : Thread nD τ).loc main_arg0)) f)
    (h1 : Ent (a := 2816) (b := 1024) (m ((c.tc : Thread nD τ).loc main_arg1)) g) :
    (dats m 0 c).arrAt 2 cfg0.N = fun i : S4096x2816.Idx => ∑ k ∈ range 1024, f (i 0).val k * g (i 1).val k := by
  refine (dats m 0 c).arrAt_eq_of_covers 2 _ (by decide +kernel) fun t _ y => ?_
  blk_simp [ix2]
  rw [after0_2, out_ent (in0 m c t h0) (in1 m c t h1) y]

end Cert.DActIdeal.Val

namespace Cert.ReferenceDActIdeal.Val

open Idealize.ShloMosaic
open Cert.ReferenceDActIdeal Cert.ReferenceDActIdeal.Gen Cert.Dense
open Finset

variable {f g : ℕ → ℕ → EReal}

theorem ref {x : Vec Ideal S4096x1024 .f32} {y : Vec Ideal S2816x1024 .bf16} (hx : Ent (a := 4096) (b := 1024) x f) (hy : Ent (a := 2816) (b := 1024) y g) :
    Host.dotGeneral (F := Ideal) dot_S4096x1024_S2816x1024_S4096x2816_1_1_0_0_n_n none (φ₁ := .f32) (φ₂ := .f32) x (extf .f32 y bitsLt_bf16_f32)
      = fun i : S4096x2816.Idx => ∑ k ∈ range 1024, f (i 0).val k * g (i 1).val k := funext fun j =>
  (Ideal.dotGeneral_apply (φ₁ := .f32) (φ₂ := .f32) dot_S4096x1024_S2816x1024_S4096x2816_1_1_0_0_n_n none _ x (extf (F := Ideal) .f32 y bitsLt_bf16_f32) j).trans
    (contr _ 1024 rfl rfl x y j (fun i => f (j 0).val i) (fun i => g (j 1).val i) (fun k => hx _) (fun k => hy _))

end Cert.ReferenceDActIdeal.Val

namespace Cert.Proof

open Idealize.ShloMosaic Idealize.SL.Sem Cert.Dense

theorem frame_RDAct : Cert.quiescent_ReferenceDActIdeal (hReferenceDActIdeal := Cert.ReferenceDActIdeal.Gen.facts) := fun m ρ _ =>
  (θ_run Cert.ReferenceDActIdeal.defs _ _).mono (fun r h => ⟨fun c => (h c).2, Idealize.ShloMosaic.sem_eq_zero_of_no_sems (by decide) r.2⟩)
    (Cert.ReferenceDActIdeal.Value.run (F := Ideal) m ρ)

theorem algebraic_DAct : Cert.algebraic_DActIdeal_ReferenceDActIdeal (hDActIdeal := Cert.DActIdeal.Gen.facts)
    (hReferenceDActIdeal := Cert.ReferenceDActIdeal.Gen.facts) := fun m ρ m' ρ' _ ha =>
  ⟨_, (θ_run Cert.DActIdeal.defs _ _).mono (fun r h c => ⟨(h c).1.trans (Cert.DActIdeal.Val.arr (m := m) (c := c) (entry_ent _) (entry_ent _)), (h c).2⟩)
      (Cert.DActIdeal.Value.run_blocks m ρ),
    (θ_run Cert.ReferenceDActIdeal.defs _ _).mono (fun r h c => ⟨(h c).1.trans (by
        rw [(ha c).1, (ha c).2]
        exact Cert.ReferenceDActIdeal.Val.ref (entry_ent _) (entry_ent _)), (h c).2⟩)
      (Cert.ReferenceDActIdeal.Value.run (F := Ideal) m' ρ')⟩

end Cert.Proof

end
-- ==== Proof.AdCo.lean ====
/-
  The optimiser's step of the cross-attention's output weight, entry by entry.
-/
module

public import proofs.«01_k».proof.Defs
public import proofs.«01_k».proof.Proof.Gen.AdCoIdeal.Value
public import proofs.«01_k».proof.Proof.Gen.ReferenceAdCoIdeal
public import proofs.«01_k».proof.Proof.Gen.ReferenceAdCoIdeal.Run

@[expose] public section

set_option maxRecDepth 16384
set_option maxHeartbeats 1000000

noncomputable section

namespace Cert.Proof

open Idealize.ShloMosaic Idealize.SL.Sem

theorem frame_RAdCo : Cert.quiescent_ReferenceAdCoIdeal (hReferenceAdCoIdeal := Cert.ReferenceAdCoIdeal.Gen.facts) := fun m ρ _ =>
  (θ_run Cert.ReferenceAdCoIdeal.defs _ _).mono (fun r h => ⟨fun c => (h c).2.2.2, Idealize.ShloMosaic.sem_eq_zero_of_no_sems (by decide) r.2⟩)
    (Cert.ReferenceAdCoIdeal.Value.run (F := Ideal) m ρ)

theorem algebraic_AdCo : Cert.algebraic_AdCoIdeal_ReferenceAdCoIdeal (hAdCoIdeal := Cert.AdCoIdeal.Gen.facts)
    (hReferenceAdCoIdeal := Cert.ReferenceAdCoIdeal.Gen.facts) := fun m ρ m' ρ' _ ha =>
  ⟨_, _, _, Cert.AdCoIdeal.Value.run m ρ,
    (θ_run Cert.ReferenceAdCoIdeal.defs _ _).mono (fun r h c =>
      ⟨(h c).1.trans (by rw [(ha c).1, (ha c).2.1, (ha c).2.2.1, (ha c).2.2.2]; exact funext fun _ => rfl),
       (h c).2.1.trans (by rw [(ha c).2.1, (ha c).2.2.1]; exact funext fun _ => rfl),
       (h c).2.2.1.trans (by rw [(ha c).2.1, (ha c).2.2.2]; exact funext fun _ => rfl),
       (h c).2.2.2⟩)
      (Cert.ReferenceAdCoIdeal.Value.run (F := Ideal) m' ρ')⟩

end Cert.Proof

end
-- ==== Proof.AdCross.lean ====
/-
  The optimiser's step of the cross-attention's query, key and value weights, entry by entry.
-/
module

public import proofs.«01_k».proof.Defs
public import proofs.«01_k».proof.Proof.Gen.AdCrossIdeal.Value
public import proofs.«01_k».proof.Proof.Gen.ReferenceAdCrossIdeal
public import proofs.«01_k».proof.Proof.Gen.ReferenceAdCrossIdeal.Run

@[expose] public section

set_option maxRecDepth 16384
set_option maxHeartbeats 1000000

noncomputable section

namespace Cert.Proof

open Idealize.ShloMosaic Idealize.SL.Sem

theorem frame_RAdCross : Cert.quiescent_ReferenceAdCrossIdeal (hReferenceAdCrossIdeal := Cert.ReferenceAdCrossIdeal.Gen.facts) := fun m ρ _ =>
  (θ_run Cert.ReferenceAdCrossIdeal.defs _ _).mono (fun r h => ⟨fun c => (h c).2.2.2, Idealize.ShloMosaic.sem_eq_zero_of_no_sems (by decide) r.2⟩)
    (Cert.ReferenceAdCrossIdeal.Value.run (F := Ideal) m ρ)

theorem algebraic_AdCross : Cert.algebraic_AdCrossIdeal_ReferenceAdCrossIdeal (hAdCrossIdeal := Cert.AdCrossIdeal.Gen.facts)
    (hReferenceAdCrossIdeal := Cert.ReferenceAdCrossIdeal.Gen.facts) := fun m ρ m' ρ' _ ha =>
  ⟨_, _, _, Cert.AdCrossIdeal.Value.run m ρ,
    (θ_run Cert.ReferenceAdCrossIdeal.defs _ _).mono (fun r h c =>
      ⟨(h c).1.trans (by rw [(ha c).1, (ha c).2.1, (ha c).2.2.1, (ha c).2.2.2]; exact funext fun _ => rfl),
       (h c).2.1.trans (by rw [(ha c).2.1, (ha c).2.2.1]; exact funext fun _ => rfl),
       (h c).2.2.1.trans (by rw [(ha c).2.1, (ha c).2.2.2]; exact funext fun _ => rfl),
       (h c).2.2.2⟩)
      (Cert.ReferenceAdCrossIdeal.Value.run (F := Ideal) m' ρ')⟩

end Cert.Proof

end
-- ==== Proof.AdDown.lean ====
/-
  The optimiser's step of the feed-forward's down weight, entry by entry.
-/
module

public import proofs.«01_k».proof.Defs
public import proofs.«01_k».proof.Proof.Gen.AdDownIdeal.Value
public import proofs.«01_k».proof.Proof.Gen.ReferenceAdDownIdeal
public import proofs.«01_k».proof.Proof.Gen.ReferenceAdDownIdeal.Run

@[expose] public section

set_option maxRecDepth 16384
set_option maxHeartbeats 1000000

noncomputable section

namespace Cert.Proof

open Idealize.ShloMosaic Idealize.SL.Sem

theorem frame_RAdDown : Cert.quiescent_ReferenceAdDownIdeal (hReferenceAdDownIdeal := Cert.ReferenceAdDownIdeal.Gen.facts) := fun m ρ _ =>
  (θ_run Cert.ReferenceAdDownIdeal.defs _ _).mono (fun r h => ⟨fun c => (h c).2.2.2, Idealize.ShloMosaic.sem_eq_zero_of_no_sems (by decide) r.2⟩)
    (Cert.ReferenceAdDownIdeal.Value.run (F := Ideal) m ρ)

theorem algebraic_AdDown : Cert.algebraic_AdDownIdeal_ReferenceAdDownIdeal (hAdDownIdeal := Cert.AdDownIdeal.Gen.facts)
    (hReferenceAdDownIdeal := Cert.ReferenceAdDownIdeal.Gen.facts) := fun m ρ m' ρ' _ ha =>
  ⟨_, _, _, Cert.AdDownIdeal.Value.run m ρ,
    (θ_run Cert.ReferenceAdDownIdeal.defs _ _).mono (fun r h c =>
      ⟨(h c).1.trans (by rw [(ha c).1, (ha c).2.1, (ha c).2.2.1, (ha c).2.2.2]; exact funext fun _ => rfl),
       (h c).2.1.trans (by rw [(ha c).2.1, (ha c).2.2.1]; exact funext fun _ => rfl),
       (h c).2.2.1.trans (by rw [(ha c).2.1, (ha c).2.2.2]; exact funext fun _ => rfl),
       (h c).2.2.2⟩)
      (Cert.ReferenceAdDownIdeal.Value.run (F := Ideal) m' ρ')⟩

end Cert.Proof

end
-- ==== Proof.AdIn.lean ====
/-
  The optimiser's step of the mixers' input weight, entry by entry.
-/
module

public import proofs.«01_k».proof.Defs
public import proofs.«01_k».proof.Proof.Gen.AdInIdeal.Value
public import proofs.«01_k».proof.Proof.Gen.ReferenceAdInIdeal
public import proofs.«01_k».proof.Proof.Gen.ReferenceAdInIdeal.Run

@[expose] public section

set_option maxRecDepth 16384
set_option maxHeartbeats 1000000

noncomputable section

namespace Cert.Proof

open Idealize.ShloMosaic Idealize.SL.Sem

theorem frame_RAdIn : Cert.quiescent_ReferenceAdInIdeal (hReferenceAdInIdeal := Cert.ReferenceAdInIdeal.Gen.facts) := fun m ρ _ =>
  (θ_run Cert.ReferenceAdInIdeal.defs _ _).mono (fun r h => ⟨fun c => (h c).2.2.2, Idealize.ShloMosaic.sem_eq_zero_of_no_sems (by decide) r.2⟩)
    (Cert.ReferenceAdInIdeal.Value.run (F := Ideal) m ρ)

theorem algebraic_AdIn : Cert.algebraic_AdInIdeal_ReferenceAdInIdeal (hAdInIdeal := Cert.AdInIdeal.Gen.facts)
    (hReferenceAdInIdeal := Cert.ReferenceAdInIdeal.Gen.facts) := fun m ρ m' ρ' _ ha =>
  ⟨_, _, _, Cert.AdInIdeal.Value.run m ρ,
    (θ_run Cert.ReferenceAdInIdeal.defs _ _).mono (fun r h c =>
      ⟨(h c).1.trans (by rw [(ha c).1, (ha c).2.1, (ha c).2.2.1, (ha c).2.2.2]; exact funext fun _ => rfl),
       (h c).2.1.trans (by rw [(ha c).2.1, (ha c).2.2.1]; exact funext fun _ => rfl),
       (h c).2.2.1.trans (by rw [(ha c).2.1, (ha c).2.2.2]; exact funext fun _ => rfl),
       (h c).2.2.2⟩)
      (Cert.ReferenceAdInIdeal.Value.run (F := Ideal) m' ρ')⟩

end Cert.Proof

end
-- ==== Proof.AdOut.lean ====
/-
  The optimiser's step of the mixers' output weight, entry by entry.
-/
module

public import proofs.«01_k».proof.Defs
public import proofs.«01_k».proof.Proof.Gen.AdOutIdeal.Value
public import proofs.«01_k».proof.Proof.Gen.ReferenceAdOutIdeal
public import proofs.«01_k».proof.Proof.Gen.ReferenceAdOutIdeal.Run

@[expose] public section

set_option maxRecDepth 16384
set_option maxHeartbeats 1000000

noncomputable section

namespace Cert.Proof

open Idealize.ShloMosaic Idealize.SL.Sem

theorem frame_RAdOut : Cert.quiescent_ReferenceAdOutIdeal (hReferenceAdOutIdeal := Cert.ReferenceAdOutIdeal.Gen.facts) := fun m ρ _ =>
  (θ_run Cert.ReferenceAdOutIdeal.defs _ _).mono (fun r h => ⟨fun c => (h c).2.2.2, Idealize.ShloMosaic.sem_eq_zero_of_no_sems (by decide) r.2⟩)
    (Cert.ReferenceAdOutIdeal.Value.run (F := Ideal) m ρ)

theorem algebraic_AdOut : Cert.algebraic_AdOutIdeal_ReferenceAdOutIdeal (hAdOutIdeal := Cert.AdOutIdeal.Gen.facts)
    (hReferenceAdOutIdeal := Cert.ReferenceAdOutIdeal.Gen.facts) := fun m ρ m' ρ' _ ha =>
  ⟨_, _, _, Cert.AdOutIdeal.Value.run m ρ,
    (θ_run Cert.ReferenceAdOutIdeal.defs _ _).mono (fun r h c =>
      ⟨(h c).1.trans (by rw [(ha c).1, (ha c).2.1, (ha c).2.2.1, (ha c).2.2.2]; exact funext fun _ => rfl),
       (h c).2.1.trans (by rw [(ha c).2.1, (ha c).2.2.1]; exact funext fun _ => rfl),
       (h c).2.2.1.trans (by rw [(ha c).2.1, (ha c).2.2.2]; exact funext fun _ => rfl),
       (h c).2.2.2⟩)
      (Cert.ReferenceAdOutIdeal.Value.run (F := Ideal) m' ρ')⟩

end Cert.Proof

end
-- ==== Proof.AdUp.lean ====
/-
  The optimiser's step of the feed-forward's up weight, entry by entry.
-/
module

public import proofs.«01_k».proof.Defs
public import proofs.«01_k».proof.Proof.Gen.AdUpIdeal.Value
public import proofs.«01_k».proof.Proof.Gen.ReferenceAdUpIdeal
public import proofs.«01_k».proof.Proof.Gen.ReferenceAdUpIdeal.Run

@[expose] public section

set_option maxRecDepth 16384
set_option maxHeartbeats 1000000

noncomputable section

namespace Cert.Proof

open Idealize.ShloMosaic Idealize.SL.Sem

theorem frame_RAdUp : Cert.quiescent_ReferenceAdUpIdeal (hReferenceAdUpIdeal := Cert.ReferenceAdUpIdeal.Gen.facts) := fun m ρ _ =>
  (θ_run Cert.ReferenceAdUpIdeal.defs _ _).mono (fun r h => ⟨fun c => (h c).2.2.2, Idealize.ShloMosaic.sem_eq_zero_of_no_sems (by decide) r.2⟩)
    (Cert.ReferenceAdUpIdeal.Value.run (F := Ideal) m ρ)

theorem algebraic_AdUp : Cert.algebraic_AdUpIdeal_ReferenceAdUpIdeal (hAdUpIdeal := Cert.AdUpIdeal.Gen.facts)
    (hReferenceAdUpIdeal := Cert.ReferenceAdUpIdeal.Gen.facts) := fun m ρ m' ρ' _ ha =>
  ⟨_, _, _, Cert.AdUpIdeal.Value.run m ρ,
    (θ_run Cert.ReferenceAdUpIdeal.defs _ _).mono (fun r h c =>
      ⟨(h c).1.trans (by rw [(ha c).1, (ha c).2.1, (ha c).2.2.1, (ha c).2.2.2]; exact funext fun _ => rfl),
       (h c).2.1.trans (by rw [(ha c).2.1, (ha c).2.2.1]; exact funext fun _ => rfl),
       (h c).2.2.1.trans (by rw [(ha c).2.1, (ha c).2.2.2]; exact funext fun _ => rfl),
       (h c).2.2.2⟩)
      (Cert.ReferenceAdUpIdeal.Value.run (F := Ideal) m' ρ')⟩

end Cert.Proof

end
-- ==== Proof.DHq.lean ====
/-
  The gradient of the cross-attention's input: the tiled product is the product.
-/
module

public import proofs.«01_k».proof.Defs
public import proofs.«01_k».proof.Proof.Gen.DHqIdeal.Value
public import proofs.«01_k».proof.Proof.Gen.ReferenceDHqIdeal
public import proofs.«01_k».proof.Proof.Gen.ReferenceDHqIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.DHqIdeal.Val

open Idealize.ShloMosaic Idealize.ShloMosaic.TcCoe Idealize.SL.Sem Idealize.ShloMosaic.Tactic
open Cert.DHqIdeal Cert.DHqIdeal.Gen Cert.Dense
open Finset

variable {f g p : ℕ → ℕ → EReal}

theorem pay_ent {x : Vec Ideal S1024x256 .bf16} {y : Vec Ideal S1024x256 .bf16} (hx : Ent (a := 1024) (b := 256) x f) (hy : Ent (a := 1024) (b := 256) y g) :
    Ent (a := 1024) (b := 1024) (k0_pay1 (F := Ideal) x y) (fun r c => ∑ i ∈ range 256, f r i * g c i) := fun j =>
  (Ideal.matmul_constant_zero_apply (φ₁ := .bf16) (φ₂ := .bf16) dot_S1024x256_S1024x256_S1024x1024_1_1_0_0_n_n none x y j).trans
    (contr _ 256 rfl rfl x y j (fun i => f (j 0).val i) (fun i => g (j 1).val i) (fun k => hx _) (fun k => hy _))

theorem out_ent {x : Vec Ideal S1024x256 .bf16} {y : Vec Ideal S1024x256 .bf16}
    (hx : Ent (a := 1024) (b := 256) x f) (hy : Ent (a := 1024) (b := 256) y g) :
    Ent (a := 1024) (b := 1024) (out0_2 (F := Ideal) x y) (fun r c => ∑ i ∈ range 256, f r i * g c i) := by
  have e : out0_2 (F := Ideal) x y = k0_pay1 x y := by frame_out
  rw [e]; exact pay_ent hx hy

variable (m : (ℓ : Loc nD τ sig) → Buf (Elt Ideal) ℓ) (c : Dev nD)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

theorem in0 (t : Fin cfg0.N) (h : Ent (a := 4096) (b := 256) (m ((c.tc : Thread nD τ).loc main_arg0)) f) :
    Ent (a := 1024) (b := 256) (iblk m c 0 t) (fun r s => f (t.val * 1024 + r) (s)) := fun y => by
  show m ((c.tc : Thread nD τ).loc main_arg0) ((win0_0.blk t).view.emb y) = _
  have e0 : ((win0_0.blk t).view.emb y 0).val = t.val * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 1024) (b := 256) (m ((c.tc : Thread nD τ).loc main_arg1)) g) :
    Ent (a := 1024) (b := 256) (iblk m c 1 t) (fun r s => g (r) (s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = (y 1).val := by blk_simp [ix1]
  refine (h ((win0_1.blk t).view.emb y)).trans ?_
  rw [e0, e1]

variable {m c}

theorem arr (h0 : Ent (a := 4096) (b := 256) (m ((c.tc : Thread nD τ).loc main_arg0)) f)
    (h1 : Ent (a := 1024) (b := 256) (m ((c.tc : Thread nD τ).loc main_arg1)) g) :
    (dats m 0 c).arrAt 2 cfg0.N = fun i : S4096x1024.Idx => ∑ k ∈ range 256, f (i 0).val k * g (i 1).val k := by
  refine (dats m 0 c).arrAt_eq_of_covers 2 _ (by decide +kernel) fun t _ y => ?_
  blk_simp [ix2]
  rw [after0_2, out_ent (in0 m c t h0) (in1 m c t h1) y]

end Cert.DHqIdeal.Val

namespace Cert.ReferenceDHqIdeal.Val

open Idealize.ShloMosaic
open Cert.ReferenceDHqIdeal Cert.ReferenceDHqIdeal.Gen Cert.Dense
open Finset

variable {f g p : ℕ → ℕ → EReal}

theorem ref {x : Vec Ideal S4096x256 .bf16} {y : Vec Ideal S1024x256 .bf16} (hx : Ent (a := 4096) (b := 256) x f) (hy : Ent (a := 1024) (b := 256) y g) :
    Host.dotGeneral (F := Ideal) (φ₁ := .f32) (φ₂ := .f32) dot_S4096x256_S1024x256_S4096x1024_1_1_0_0_n_n none (extf (F := Ideal) .f32 x bitsLt_bf16_f32) (extf (F := Ideal) .f32 y bitsLt_bf16_f32)
      = fun i : S4096x1024.Idx => ∑ k ∈ range 256, f (i 0).val k * g (i 1).val k := funext fun j =>
  (Ideal.dotGeneral_apply (φ₁ := .f32) (φ₂ := .f32) dot_S4096x256_S1024x256_S4096x1024_1_1_0_0_n_n none _ (extf (F := Ideal) .f32 x bitsLt_bf16_f32) (extf (F := Ideal) .f32 y bitsLt_bf16_f32) j).trans
    (contr _ 256 rfl rfl (extf (F := Ideal) .f32 x bitsLt_bf16_f32) (extf (F := Ideal) .f32 y bitsLt_bf16_f32) j (fun i => f (j 0).val i) (fun i => g (j 1).val i) (fun k => hx _) (fun k => hy _))

end Cert.ReferenceDHqIdeal.Val

namespace Cert.Proof

open Idealize.ShloMosaic Idealize.SL.Sem Cert.Dense

theorem frame_RDHq : Cert.quiescent_ReferenceDHqIdeal (hReferenceDHqIdeal := Cert.ReferenceDHqIdeal.Gen.facts) := fun m ρ _ =>
  (θ_run Cert.ReferenceDHqIdeal.defs _ _).mono (fun r h => ⟨fun c => (h c).2, Idealize.ShloMosaic.sem_eq_zero_of_no_sems (by decide) r.2⟩)
    (Cert.ReferenceDHqIdeal.Value.run (F := Ideal) m ρ)

theorem algebraic_DHq : Cert.algebraic_DHqIdeal_ReferenceDHqIdeal (hDHqIdeal := Cert.DHqIdeal.Gen.facts)
    (hReferenceDHqIdeal := Cert.ReferenceDHqIdeal.Gen.facts) := fun m ρ m' ρ' _ ha =>
  ⟨_, (θ_run Cert.DHqIdeal.defs _ _).mono (fun r h c => ⟨(h c).1.trans (Cert.DHqIdeal.Val.arr (m := m) (c := c) (entry_ent _) (entry_ent _)), (h c).2⟩)
      (Cert.DHqIdeal.Value.run_blocks m ρ),
    (θ_run Cert.ReferenceDHqIdeal.defs _ _).mono (fun r h c => ⟨(h c).1.trans (by
        rw [(ha c).1, (ha c).2]
        exact Cert.ReferenceDHqIdeal.Val.ref (entry_ent _) (entry_ent _)), (h c).2⟩)
      (Cert.ReferenceDHqIdeal.Value.run (F := Ideal) m' ρ')⟩

end Cert.Proof

end
-- ==== Proof.DIn.lean ====
/-
  The gradient of the mixers' input: the second product is added to the first.
-/
module

public import proofs.«01_k».proof.Defs
public import proofs.«01_k».proof.Proof.Gen.DInIdeal.Frame
public import proofs.«01_k».proof.Proof.Gen.ReferenceDInIdeal
public import proofs.«01_k».proof.Proof.Gen.ReferenceDInIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.DInIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DInIdeal Cert.DInIdeal.Gen Cert.Dense
open Finset

/-! ### Every buffer after the two products -/

section
variable {F : FTy → Type} [FloatOps F]
variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := Idealize.ShloMosaic.Rounds.initOf (Pipeline.cells cfgs cellOf_inj) (Pipeline.launchToks cfgs cellOf_inj))
    (hu₀ := by
      iintro Hu; imodintro
      isplitl [Hu]
      · iapply (show (ownU (Idealize.ShloMosaic.Rounds.initOf (Pipeline.cells cfgs cellOf_inj) (Pipeline.launchToks cfgs cellOf_inj)) : sProp (MT nD τ sig Unit (Elt F) ℕ (UR sig nD τ) ℕ))
            ⊢ BI.own (emb₁ (Idealize.ShloMosaic.Rounds.initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

theorem run_arr : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W2_arr m ρ c 3),
      (h c _ (mem_uc main_arg0 (by decide))).trans (W2_main_arg0 m ρ c), (h c _ (mem_uc main_arg1 (by decide))).trans (W2_main_arg1 m ρ c),
      (h c _ (mem_uc main_arg2 (by decide))).trans (W2_main_arg2 m ρ c), (h c _ (mem_uc main_arg3 (by decide))).trans (W2_main_arg3 m ρ c)⟩)
    (run_all m ρ)
end

/-! ### The two products -/

variable {f g p : ℕ → ℕ → EReal}

theorem pay0_ent {x : Vec Ideal S512x2304 .bf16} {y : Vec Ideal S1024x2304 .bf16} (hx : Ent (a := 512) (b := 2304) x f) (hy : Ent (a := 1024) (b := 2304) y g) :
    Ent (a := 512) (b := 1024) (k0_pay1 (F := Ideal) x y) (fun r c => ∑ i ∈ range 2304, f r i * g c i) := fun j =>
  (Ideal.matmul_constant_zero_apply (φ₁ := .bf16) (φ₂ := .bf16) dot_S512x2304_S1024x2304_S512x1024_1_1_0_0_n_n none x y j).trans
    (contr _ 2304 rfl rfl x y j (fun i => f (j 0).val i) (fun i => g (j 1).val i) (fun k => hx _) (fun k => hy _))

theorem pay1_ent {x : Vec Ideal S1024x640 .f32} {y : Vec Ideal S1024x640 .bf16} {z : Vec Ideal S1024x1024 .f32}
    (hx : Ent (a := 1024) (b := 640) x f) (hy : Ent (a := 1024) (b := 640) y g) (hz : Ent (a := 1024) (b := 1024) z p) :
    Ent (a := 1024) (b := 1024) (k1_pay1 (F := Ideal) x y z) (fun r c => ∑ i ∈ range 640, f r i * g c i + p r c) := fun j => by
  have e : matmul (F := Ideal) (φ₁ := .bf16) (φ₂ := .bf16) dot_S1024x640_S1024x640_S1024x1024_1_1_0_0_n_n none (truncf .bf16 x bitsLt_bf16_f32) y (constant S1024x1024 .f32 0x00000000#32) j
      = ∑ i ∈ range 640, f (j 0).val i * g (j 1).val i :=
    (Ideal.matmul_constant_zero_apply (φ₁ := .bf16) (φ₂ := .bf16) dot_S1024x640_S1024x640_S1024x1024_1_1_0_0_n_n none x y j).trans
      (contr _ 640 rfl rfl x y j (fun i => f (j 0).val i) (fun i => g (j 1).val i) (fun k => hx _) (fun k => hy _))
  have e' : k1_pay1 (F := Ideal) x y z = addf (matmul (F := Ideal) (φ₁ := .bf16) (φ₂ := .bf16) dot_S1024x640_S1024x640_S1024x1024_1_1_0_0_n_n none (truncf .bf16 x bitsLt_bf16_f32) y
      (constant S1024x1024 .f32 0x00000000#32)) z := by
    unfold k1_pay1; dsimp only; rw [shapeCast_self]
  rw [e']
  show matmul (F := Ideal) (φ₁ := .bf16) (φ₂ := .bf16) dot_S1024x640_S1024x640_S1024x1024_1_1_0_0_n_n none (truncf .bf16 x bitsLt_bf16_f32) y (constant S1024x1024 .f32 0x00000000#32) j + z j = _
  rw [e, hz j]

theorem out0_ent {x : Vec Ideal S512x2304 .bf16} {y : Vec Ideal S1024x2304 .bf16} (hx : Ent (a := 512) (b := 2304) x f) (hy : Ent (a := 1024) (b := 2304) y g) :
    Ent (a := 512) (b := 1024) (out0_2 (F := Ideal) x y) (fun r c => ∑ i ∈ range 2304, f r i * g c i) := by
  have e : out0_2 (F := Ideal) x y = k0_pay1 x y := by frame_out
  rw [e]; exact pay0_ent hx hy

theorem out1_ent {x : Vec Ideal S1024x640 .f32} {y : Vec Ideal S1024x640 .bf16} {z : Vec Ideal S1024x1024 .f32}
    (hx : Ent (a := 1024) (b := 640) x f) (hy : Ent (a := 1024) (b := 640) y g) (hz : Ent (a := 1024) (b := 1024) z p) :
    Ent (a := 1024) (b := 1024) (out1_3 (F := Ideal) x y z) (fun r c => ∑ i ∈ range 640, f r i * g c i + p r c) := by
  have e : out1_3 (F := Ideal) x y z = k1_pay1 x y z := by frame_out
  rw [e]; exact pay1_ent hx hy hz

variable (V : (c : Dev nD) → (b : Ref sig .tc) → Buf (Elt Ideal) ((c : Thread nD τ).loc b)) (c : Dev nD)

theorem ix00 : ∀ t : Fin cfg0.N, win0_0.index t = ![t.val, 0] := (by decide +kernel : ∀ t : Fin grid0.N, _)
theorem ix01 : ∀ t : Fin cfg0.N, win0_1.index t = ![0, 0] := (by decide +kernel : ∀ t : Fin grid0.N, _)
theorem ix02 : ∀ t : Fin cfg0.N, win0_2.index t = ![t.val, 0] := (by decide +kernel : ∀ t : Fin grid0.N, _)
theorem ix10 : ∀ t : Fin cfg1.N, win1_0.index t = ![t.val, 0] := (by decide +kernel : ∀ t : Fin grid1.N, _)
theorem ix11 : ∀ t : Fin cfg1.N, win1_1.index t = ![0, 0] := (by decide +kernel : ∀ t : Fin grid1.N, _)
theorem ix12 : ∀ t : Fin cfg1.N, win1_2.index t = ![t.val, 0] := (by decide +kernel : ∀ t : Fin grid1.N, _)
theorem ix13 : ∀ t : Fin cfg1.N, win1_3.index t = ![t.val, 0] := (by decide +kernel : ∀ t : Fin grid1.N, _)

theorem in00 (t : Fin cfg0.N) (h : Ent (a := 4096) (b := 2304) (V c (Pipeline.arrRef spec0 0)) f) :
    Ent (a := 512) (b := 2304) (iblk0 V c 0 t) (fun r k => f (t.val * 512 + r) k) := fun y => by
  show V c (Pipeline.arrRef spec0 0) ((win0_0.blk t).view.emb y) = _
  have e0 : ((win0_0.blk t).view.emb y 0).val = t.val * 512 + (y 0).val := by blk_simp [ix00]
  have e1 : ((win0_0.blk t).view.emb y 1).val = (y 1).val := by blk_simp [ix00]
  refine (h ((win0_0.blk t).view.emb y)).trans ?_
  rw [e0, e1]

theorem in01 (t : Fin cfg0.N) (h : Ent (a := 1024) (b := 2304) (V c (Pipeline.arrRef spec0 1)) g) :
    Ent (a := 1024) (b := 2304) (iblk0 V c 1 t) (fun r k => g (r) k) := fun y => by
  show V c (Pipeline.arrRef spec0 1) ((win0_1.blk t).view.emb y) = _
  have e0 : ((win0_1.blk t).view.emb y 0).val = (y 0).val := by blk_simp [ix01]
  have e1 : ((win0_1.blk t).view.emb y 1).val = (y 1).val := by blk_simp [ix01]
  refine (h ((win0_1.blk t).view.emb y)).trans ?_
  rw [e0, e1]

theorem in10 (t : Fin cfg1.N) (h : Ent (a := 4096) (b := 640) (V c (Pipeline.arrRef spec1 0)) f) :
    Ent (a := 1024) (b := 640) (iblk1 V c 0 t) (fun r k => f (t.val * 1024 + r) k) := fun y => by
  show V c (Pipeline.arrRef spec1 0) ((win1_0.blk t).view.emb y) = _
  have e0 : ((win1_0.blk t).view.emb y 0).val = t.val * 1024 + (y 0).val := by blk_simp [ix10]
  have e1 : ((win1_0.blk t).view.emb y 1).val = (y 1).val := by blk_simp [ix10]
  refine (h ((win1_0.blk t).view.emb y)).trans ?_
  rw [e0, e1]

theorem in11 (t : Fin cfg1.N) (h : Ent (a := 1024) (b := 640) (V c (Pipeline.arrRef spec1 1)) g) :
    Ent (a := 1024) (b := 640) (iblk1 V c 1 t) (fun r k => g (r) k) := fun y => by
  show V c (Pipeline.arrRef spec1 1) ((win1_1.blk t).view.emb y) = _
  have e0 : ((win1_1.blk t).view.emb y 0).val = (y 0).val := by blk_simp [ix11]
  have e1 : ((win1_1.blk t).view.emb y 1).val = (y 1).val := by blk_simp [ix11]
  refine (h ((win1_1.blk t).view.emb y)).trans ?_
  rw [e0, e1]

theorem in12 (t : Fin cfg1.N) (h : Ent (a := 4096) (b := 1024) (V c (Pipeline.arrRef spec1 2)) p) :
    Ent (a := 1024) (b := 1024) (iblk1 V c 2 t) (fun r k => p (t.val * 1024 + r) k) := fun y => by
  show V c (Pipeline.arrRef spec1 2) ((win1_2.blk t).view.emb y) = _
  have e0 : ((win1_2.blk t).view.emb y 0).val = t.val * 1024 + (y 0).val := by blk_simp [ix12]
  have e1 : ((win1_2.blk t).view.emb y 1).val = (y 1).val := by blk_simp [ix12]
  refine (h ((win1_2.blk t).view.emb y)).trans ?_
  rw [e0, e1]

theorem arr0 (h0 : Ent (a := 4096) (b := 2304) (V c (Pipeline.arrRef spec0 0)) f) (h1 : Ent (a := 1024) (b := 2304) (V c (Pipeline.arrRef spec0 1)) g) :
    (dat0 V c).arrAt 2 cfg0.N = fun i : S4096x1024.Idx => ∑ k ∈ range 2304, f (i 0).val k * g (i 1).val k := by
  refine (dat0 V c).arrAt_eq_of_covers 2 _ (by decide +kernel) fun t _ y => ?_
  blk_simp [ix02]
  rw [after0_2, out0_ent (in00 V c t h0) (in01 V c t h1) y]

theorem arr1 (h0 : Ent (a := 4096) (b := 640) (V c (Pipeline.arrRef spec1 0)) f) (h1 : Ent (a := 1024) (b := 640) (V c (Pipeline.arrRef spec1 1)) g)
    (h2 : Ent (a := 4096) (b := 1024) (V c (Pipeline.arrRef spec1 2)) p) :
    (dat1 V c).arrAt 3 cfg1.N = fun i : S4096x1024.Idx => ∑ k ∈ range 640, f (i 0).val k * g (i 1).val k + p (i 0).val (i 1).val := by
  refine (dat1 V c).arrAt_eq_of_covers 3 _ (by decide +kernel) fun t _ y => ?_
  blk_simp [ix13]
  rw [after1_3, out1_ent (in10 V c t h0) (in11 V c t h1) (in12 V c t h2) y]

theorem res (m : (ℓ : Loc nD τ sig) → Buf (Elt Ideal) ℓ) (ρ : Dev nD → PrngReg) {f' g' : ℕ → ℕ → EReal}
    (h0 : Ent (a := 4096) (b := 2304) (m ((c.tc : Thread nD τ).loc main_arg0)) f) (h1 : Ent (a := 4096) (b := 640) (m ((c.tc : Thread nD τ).loc main_arg1)) f')
    (h2 : Ent (a := 1024) (b := 2304) (m ((c.tc : Thread nD τ).loc main_arg2)) g) (h3 : Ent (a := 1024) (b := 640) (m ((c.tc : Thread nD τ).loc main_arg3)) g') :
    (dat1 (V1 m ρ) c).arrAt 3 cfg1.N = fun i : S4096x1024.Idx =>
      ∑ k ∈ range 640, f' (i 0).val k * g' (i 1).val k + ∑ k ∈ range 2304, f (i 0).val k * g (i 1).val k := by
  have e : V1 m ρ c (Pipeline.arrRef spec1 2) = fun i : S4096x1024.Idx => ∑ k ∈ range 2304, f (i 0).val k * g (i 1).val k :=
    (W1_arr m ρ c 2).trans (arr0 (V0 m ρ) c h0 h2)
  refine arr1 (p := fun r s => ∑ i ∈ range 2304, f r i * g s i) (V1 m ρ) c ?_ ?_ ?_
  · have e := W1_args m ρ c main_arg1 (by decide)
    exact fun j => (congrFun e j).trans (h1 j)
  · have e := W1_args m ρ c main_arg3 (by decide)
    exact fun j => (congrFun e j).trans (h3 j)
  · exact fun j => congrFun e j

end Cert.DInIdeal.Val

namespace Cert.ReferenceDInIdeal.Val

open Idealize.ShloMosaic
open Cert.ReferenceDInIdeal Cert.ReferenceDInIdeal.Gen Cert.Dense
open Finset

variable {f g f' g' : ℕ → ℕ → EReal}

theorem dot {x : Vec Ideal S4096x2304 .bf16} {y : Vec Ideal S1024x2304 .bf16} (hx : Ent (a := 4096) (b := 2304) x f) (hy : Ent (a := 1024) (b := 2304) y g) (j) :
    Host.dotGeneral (F := Ideal) (φ₁ := .f32) (φ₂ := .f32) dot_S4096x2304_S1024x2304_S4096x1024_1_1_0_0_n_n none (extf .f32 x bitsLt_bf16_f32) (extf .f32 y bitsLt_bf16_f32) j
      = ∑ k ∈ range 2304, f (j 0).val k * g (j 1).val k :=
  (Ideal.dotGeneral_apply (φ₁ := .f32) (φ₂ := .f32) dot_S4096x2304_S1024x2304_S4096x1024_1_1_0_0_n_n none _ (extf (F := Ideal) .f32 x bitsLt_bf16_f32) (extf (F := Ideal) .f32 y bitsLt_bf16_f32) j).trans
    (contr _ 2304 rfl rfl x y j (fun i => f (j 0).val i) (fun i => g (j 1).val i) (fun k => hx _) (fun k => hy _))

theorem dot' {x : Vec Ideal S4096x640 .f32} {y : Vec Ideal S1024x640 .bf16} (hx : Ent (a := 4096) (b := 640) x f) (hy : Ent (a := 1024) (b := 640) y g) (j) :
    Host.dotGeneral (F := Ideal) (φ₁ := .f32) (φ₂ := .f32) dot_S4096x640_S1024x640_S4096x1024_1_1_0_0_n_n none x (extf .f32 y bitsLt_bf16_f32) j
      = ∑ k ∈ range 640, f (j 0).val k * g (j 1).val k :=
  (Ideal.dotGeneral_apply (φ₁ := .f32) (φ₂ := .f32) dot_S4096x640_S1024x640_S4096x1024_1_1_0_0_n_n none _ x (extf (F := Ideal) .f32 y bitsLt_bf16_f32) j).trans
    (contr _ 640 rfl rfl x y j (fun i => f (j 0).val i) (fun i => g (j 1).val i) (fun k => hx _) (fun k => hy _))

theorem ref {x : Vec Ideal S4096x2304 .bf16} {x' : Vec Ideal S4096x640 .f32} {y : Vec Ideal S1024x2304 .bf16} {y' : Vec Ideal S1024x640 .bf16}
    (hx : Ent (a := 4096) (b := 2304) x f) (hy : Ent (a := 1024) (b := 2304) y g)
    (hx' : Ent (a := 4096) (b := 640) x' f') (hy' : Ent (a := 1024) (b := 640) y' g') :
    addf (F := Ideal) (Host.dotGeneral (F := Ideal) (φ₁ := .f32) (φ₂ := .f32) dot_S4096x2304_S1024x2304_S4096x1024_1_1_0_0_n_n none (extf .f32 x bitsLt_bf16_f32) (extf .f32 y bitsLt_bf16_f32))
      (Host.dotGeneral (F := Ideal) (φ₁ := .f32) (φ₂ := .f32) dot_S4096x640_S1024x640_S4096x1024_1_1_0_0_n_n none x' (extf .f32 y' bitsLt_bf16_f32))
      = fun i : S4096x1024.Idx => ∑ k ∈ range 640, f' (i 0).val k * g' (i 1).val k + ∑ k ∈ range 2304, f (i 0).val k * g (i 1).val k := funext fun j =>
  (congrArg₂ (fun u v : EReal => u + v) (dot hx hy j) (dot' hx' hy' j)).trans (add_comm _ _)

end Cert.ReferenceDInIdeal.Val

namespace Cert.Proof

open Idealize.ShloMosaic Idealize.SL.Sem Cert.Dense

theorem frame_RDIn : Cert.quiescent_ReferenceDInIdeal (hReferenceDInIdeal := Cert.ReferenceDInIdeal.Gen.facts) := fun m ρ _ =>
  (θ_run Cert.ReferenceDInIdeal.defs _ _).mono (fun r h => ⟨fun c => (h c).2, Idealize.ShloMosaic.sem_eq_zero_of_no_sems (by decide) r.2⟩)
    (Cert.ReferenceDInIdeal.Value.run (F := Ideal) m ρ)

theorem algebraic_DIn : Cert.algebraic_DInIdeal_ReferenceDInIdeal (hDInIdeal := Cert.DInIdeal.Gen.facts)
    (hReferenceDInIdeal := Cert.ReferenceDInIdeal.Gen.facts) := fun m ρ m' ρ' _ ha =>
  ⟨_, (θ_run Cert.DInIdeal.defs _ _).mono (fun r h c => ⟨(h c).1.trans
        (Cert.DInIdeal.Val.res (m := m) (c := c) (ρ := ρ) (entry_ent _) (entry_ent _) (entry_ent _) (entry_ent _)), (h c).2⟩)
      (Cert.DInIdeal.Val.run_arr m ρ),
    (θ_run Cert.ReferenceDInIdeal.defs _ _).mono (fun r h c => ⟨(h c).1.trans (by
        rw [(ha c).1, (ha c).2.1, (ha c).2.2.1, (ha c).2.2.2]
        exact Cert.ReferenceDInIdeal.Val.ref (entry_ent _) (entry_ent _) (entry_ent _) (entry_ent _)), (h c).2⟩)
      (Cert.ReferenceDInIdeal.Value.run (F := Ideal) m' ρ')⟩

end Cert.Proof

end
-- ==== Proof.DMemn.lean ====
/-
  The gradient of the normed memory: the tiled product is the product.
-/
module

public import proofs.«01_k».proof.Defs
public import proofs.«01_k».proof.Proof.Gen.DMemnIdeal.Value
public import proofs.«01_k».proof.Proof.Gen.ReferenceDMemnIdeal
public import proofs.«01_k».proof.Proof.Gen.ReferenceDMemnIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.DMemnIdeal.Val

open Idealize.ShloMosaic Idealize.ShloMosaic.TcCoe Idealize.SL.Sem Idealize.ShloMosaic.Tactic
open Cert.DMemnIdeal Cert.DMemnIdeal.Gen Cert.Dense
open Finset

variable {f g p : ℕ → ℕ → EReal}

theorem pay_ent {x : Vec Ideal S512x512 .f32} {y : Vec Ideal S1024x512 .bf16} (hx : Ent (a := 512) (b := 512) x f) (hy : Ent (a := 1024) (b := 512) y g) :
    Ent (a := 512) (b := 1024) (k0_pay1 (F := Ideal) x y) (fun r c => ∑ i ∈ range 512, f r i * g c i) := fun j =>
  (Ideal.matmul_constant_zero_apply (φ₁ := .bf16) (φ₂ := .bf16) dot_S512x512_S1024x512_S512x1024_1_1_0_0_n_n none x y j).trans
    (contr _ 512 rfl rfl x y j (fun i => f (j 0).val i) (fun i => g (j 1).val i) (fun k => hx _) (fun k => hy _))

theorem out_ent {x : Vec Ideal S512x512 .f32} {y : Vec Ideal S1024x512 .bf16}
    (hx : Ent (a := 512) (b := 512) x f) (hy : Ent (a := 1024) (b := 512) y g) :
    Ent (a := 512) (b := 1024) (out0_2 (F := Ideal) x y) (fun r c => ∑ i ∈ range 512, f r i * g c i) := by
  have e : out0_2 (F := Ideal) x y = k0_pay1 x y := by frame_out
  rw [e]; exact pay_ent hx hy

variable (m : (ℓ : Loc nD τ sig) → Buf (Elt Ideal) ℓ) (c : Dev nD)

theorem ix0 : ∀ t : Fin cfg0.N, win0_0.index t = ![0, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![0, 0] := (by decide +kernel : ∀ t : Fin grid0.N, _)

theorem in0 (t : Fin cfg0.N) (h : Ent (a := 512) (b := 512) (m ((c.tc : Thread nD τ).loc main_arg0)) f) :
    Ent (a := 512) (b := 512) (iblk m c 0 t) (fun r s => f (r) (s)) := fun y => by
  show m ((c.tc : Thread nD τ).loc main_arg0) ((win0_0.blk t).view.emb y) = _
  have e0 : ((win0_0.blk t).view.emb y 0).val = (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 1024) (b := 512) (m ((c.tc : Thread nD τ).loc main_arg1)) g) :
    Ent (a := 1024) (b := 512) (iblk m c 1 t) (fun r s => g (r) (s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = (y 1).val := by blk_simp [ix1]
  refine (h ((win0_1.blk t).view.emb y)).trans ?_
  rw [e0, e1]

variable {m c}

theorem arr (h0 : Ent (a := 512) (b := 512) (m ((c.tc : Thread nD τ).loc main_arg0)) f)
    (h1 : Ent (a := 1024) (b := 512) (m ((c.tc : Thread nD τ).loc main_arg1)) g) :
    (dats m 0 c).arrAt 2 cfg0.N = fun i : S512x1024.Idx => ∑ k ∈ range 512, f (i 0).val k * g (i 1).val k := by
  refine (dats m 0 c).arrAt_eq_of_covers 2 _ (by decide +kernel) fun t _ y => ?_
  blk_simp [ix2]
  rw [after0_2, out_ent (in0 m c t h0) (in1 m c t h1) y]

end Cert.DMemnIdeal.Val

namespace Cert.ReferenceDMemnIdeal.Val

open Idealize.ShloMosaic
open Cert.ReferenceDMemnIdeal Cert.ReferenceDMemnIdeal.Gen Cert.Dense
open Finset

variable {f g p : ℕ → ℕ → EReal}

theorem ref {x : Vec Ideal S512x512 .f32} {y : Vec Ideal S1024x512 .bf16} (hx : Ent (a := 512) (b := 512) x f) (hy : Ent (a := 1024) (b := 512) y g) :
    Host.dotGeneral (F := Ideal) (φ₁ := .f32) (φ₂ := .f32) dot_S512x512_S1024x512_S512x1024_1_1_0_0_n_n none x (extf (F := Ideal) .f32 y bitsLt_bf16_f32)
      = fun i : S512x1024.Idx => ∑ k ∈ range 512, f (i 0).val k * g (i 1).val k := funext fun j =>
  (Ideal.dotGeneral_apply (φ₁ := .f32) (φ₂ := .f32) dot_S512x512_S1024x512_S512x1024_1_1_0_0_n_n none _ x (extf (F := Ideal) .f32 y bitsLt_bf16_f32) j).trans
    (contr _ 512 rfl rfl x (extf (F := Ideal) .f32 y bitsLt_bf16_f32) j (fun i => f (j 0).val i) (fun i => g (j 1).val i) (fun k => hx _) (fun k => hy _))

end Cert.ReferenceDMemnIdeal.Val

namespace Cert.Proof

open Idealize.ShloMosaic Idealize.SL.Sem Cert.Dense

theorem frame_RDMemn : Cert.quiescent_ReferenceDMemnIdeal (hReferenceDMemnIdeal := Cert.ReferenceDMemnIdeal.Gen.facts) := fun m ρ _ =>
  (θ_run Cert.ReferenceDMemnIdeal.defs _ _).mono (fun r h => ⟨fun c => (h c).2, Idealize.ShloMosaic.sem_eq_zero_of_no_sems (by decide) r.2⟩)
    (Cert.ReferenceDMemnIdeal.Value.run (F := Ideal) m ρ)

theorem algebraic_DMemn : Cert.algebraic_DMemnIdeal_ReferenceDMemnIdeal (hDMemnIdeal := Cert.DMemnIdeal.Gen.facts)
    (hReferenceDMemnIdeal := Cert.ReferenceDMemnIdeal.Gen.facts) := fun m ρ m' ρ' _ ha =>
  ⟨_, (θ_run Cert.DMemnIdeal.defs _ _).mono (fun r h c => ⟨(h c).1.trans (Cert.DMemnIdeal.Val.arr (m := m) (c := c) (entry_ent _) (entry_ent _)), (h c).2⟩)
      (Cert.DMemnIdeal.Value.run_blocks m ρ),
    (θ_run Cert.ReferenceDMemnIdeal.defs _ _).mono (fun r h c => ⟨(h c).1.trans (by
        rw [(ha c).1, (ha c).2]
        exact Cert.ReferenceDMemnIdeal.Val.ref (entry_ent _) (entry_ent _)), (h c).2⟩)
      (Cert.ReferenceDMemnIdeal.Value.run (F := Ideal) m' ρ')⟩

end Cert.Proof

end
-- ==== Proof.DMixed.lean ====
/-
  The gradient of the mixers' outputs: the tiled product is the product.
-/
module

public import proofs.«01_k».proof.Defs
public import proofs.«01_k».proof.Proof.Gen.DMixedIdeal.Value
public import proofs.«01_k».proof.Proof.Gen.ReferenceDMixedIdeal
public import proofs.«01_k».proof.Proof.Gen.ReferenceDMixedIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.DMixedIdeal.Val

open Idealize.ShloMosaic Idealize.ShloMosaic.TcCoe Idealize.SL.Sem Idealize.ShloMosaic.Tactic
open Cert.DMixedIdeal Cert.DMixedIdeal.Gen Cert.Dense
open Finset

variable {f g p : ℕ → ℕ → EReal}

theorem pay_ent {x : Vec Ideal S1024x1024 .f32} {y : Vec Ideal S1024x1024 .bf16} (hx : Ent (a := 1024) (b := 1024) x f) (hy : Ent (a := 1024) (b := 1024) y g) :
    Ent (a := 1024) (b := 1024) (k0_pay1 (F := Ideal) x y) (fun r c => ∑ i ∈ range 1024, f r i * g c i) := fun j =>
  (Ideal.matmul_constant_zero_apply (φ₁ := .bf16) (φ₂ := .bf16) dot_S1024x1024_S1024x1024_S1024x1024_1_1_0_0_n_n none x y j).trans
    (contr _ 1024 rfl rfl x y j (fun i => f (j 0).val i) (fun i => g (j 1).val i) (fun k => hx _) (fun k => hy _))

theorem out_ent {x : Vec Ideal S1024x1024 .f32} {y : Vec Ideal S1024x1024 .bf16}
    (hx : Ent (a := 1024) (b := 1024) x f) (hy : Ent (a := 1024) (b := 1024) y g) :
    Ent (a := 1024) (b := 1024) (out0_2 (F := Ideal) x y) (fun r c => ∑ i ∈ range 1024, f r i * g c i) := by
  have e : out0_2 (F := Ideal) x y = k0_pay1 x y := by frame_out
  rw [e]; exact pay_ent hx hy

variable (m : (ℓ : Loc nD τ sig) → Buf (Elt Ideal) ℓ) (c : Dev nD)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val * 1024 + r) (s)) := fun y => by
  show m ((c.tc : Thread nD τ).loc main_arg0) ((win0_0.blk t).view.emb y) = _
  have e0 : ((win0_0.blk t).view.emb y 0).val = t.val * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 1024) (b := 1024) (m ((c.tc : Thread nD τ).loc main_arg1)) g) :
    Ent (a := 1024) (b := 1024) (iblk m c 1 t) (fun r s => g (r) (s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = (y 1).val := by blk_simp [ix1]
  refine (h ((win0_1.blk t).view.emb y)).trans ?_
  rw [e0, e1]

variable {m c}

theorem arr (h0 : Ent (a := 4096) (b := 1024) (m ((c.tc : Thread nD τ).loc main_arg0)) f)
    (h1 : Ent (a := 1024) (b := 1024) (m ((c.tc : Thread nD τ).loc main_arg1)) g) :
    (dats m 0 c).arrAt 2 cfg0.N = fun i : S4096x1024.Idx => ∑ k ∈ range 1024, f (i 0).val k * g (i 1).val k := by
  refine (dats m 0 c).arrAt_eq_of_covers 2 _ (by decide +kernel) fun t _ y => ?_
  blk_simp [ix2]
  rw [after0_2, out_ent (in0 m c t h0) (in1 m c t h1) y]

end Cert.DMixedIdeal.Val

namespace Cert.ReferenceDMixedIdeal.Val

open Idealize.ShloMosaic
open Cert.ReferenceDMixedIdeal Cert.ReferenceDMixedIdeal.Gen Cert.Dense
open Finset

variable {f g p : ℕ → ℕ → EReal}

theorem ref {x : Vec Ideal S4096x1024 .f32} {y : Vec Ideal S1024x1024 .bf16} (hx : Ent (a := 4096) (b := 1024) x f) (hy : Ent (a := 1024) (b := 1024) y g) :
    Host.dotGeneral (F := Ideal) (φ₁ := .f32) (φ₂ := .f32) dot_S4096x1024_S1024x1024_S4096x1024_1_1_0_0_n_n none x (extf (F := Ideal) .f32 y bitsLt_bf16_f32)
      = fun i : S4096x1024.Idx => ∑ k ∈ range 1024, f (i 0).val k * g (i 1).val k := funext fun j =>
  (Ideal.dotGeneral_apply (φ₁ := .f32) (φ₂ := .f32) dot_S4096x1024_S1024x1024_S4096x1024_1_1_0_0_n_n none _ x (extf (F := Ideal) .f32 y bitsLt_bf16_f32) j).trans
    (contr _ 1024 rfl rfl x (extf (F := Ideal) .f32 y bitsLt_bf16_f32) j (fun i => f (j 0).val i) (fun i => g (j 1).val i) (fun k => hx _) (fun k => hy _))

end Cert.ReferenceDMixedIdeal.Val

namespace Cert.Proof

open Idealize.ShloMosaic Idealize.SL.Sem Cert.Dense

theorem frame_RDMixed : Cert.quiescent_ReferenceDMixedIdeal (hReferenceDMixedIdeal := Cert.ReferenceDMixedIdeal.Gen.facts) := fun m ρ _ =>
  (θ_run Cert.ReferenceDMixedIdeal.defs _ _).mono (fun r h => ⟨fun c => (h c).2, Idealize.ShloMosaic.sem_eq_zero_of_no_sems (by decide) r.2⟩)
    (Cert.ReferenceDMixedIdeal.Value.run (F := Ideal) m ρ)

theorem algebraic_DMixed : Cert.algebraic_DMixedIdeal_ReferenceDMixedIdeal (hDMixedIdeal := Cert.DMixedIdeal.Gen.facts)
    (hReferenceDMixedIdeal := Cert.ReferenceDMixedIdeal.Gen.facts) := fun m ρ m' ρ' _ ha =>
  ⟨_, (θ_run Cert.DMixedIdeal.defs _ _).mono (fun r h c => ⟨(h c).1.trans (Cert.DMixedIdeal.Val.arr (m := m) (c := c) (entry_ent _) (entry_ent _)), (h c).2⟩)
      (Cert.DMixedIdeal.Value.run_blocks m ρ),
    (θ_run Cert.ReferenceDMixedIdeal.defs _ _).mono (fun r h c => ⟨(h c).1.trans (by
        rw [(ha c).1, (ha c).2]
        exact Cert.ReferenceDMixedIdeal.Val.ref (entry_ent _) (entry_ent _)), (h c).2⟩)
      (Cert.ReferenceDMixedIdeal.Value.run (F := Ideal) m' ρ')⟩

end Cert.Proof

end
-- ==== Proof.DOc.lean ====
/-
  The gradient of the cross-attention's outputs: the tiled product is the product.
-/
module

public import proofs.«01_k».proof.Defs
public import proofs.«01_k».proof.Proof.Gen.DOcIdeal.Value
public import proofs.«01_k».proof.Proof.Gen.ReferenceDOcIdeal
public import proofs.«01_k».proof.Proof.Gen.ReferenceDOcIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.DOcIdeal.Val

open Idealize.ShloMosaic Idealize.ShloMosaic.TcCoe Idealize.SL.Sem Idealize.ShloMosaic.Tactic
open Cert.DOcIdeal Cert.DOcIdeal.Gen Cert.Dense
open Finset

variable {f g p : ℕ → ℕ → EReal}

theorem pay_ent {x : Vec Ideal S1024x1024 .f32} {y : Vec Ideal S1024x256 .bf16} (hx : Ent (a := 1024) (b := 1024) x f) (hy : Ent (a := 1024) (b := 256) y g) :
    Ent (a := 1024) (b := 256) (k0_pay1 (F := Ideal) x y) (fun r c => ∑ i ∈ range 1024, f r i * g i c) := fun j =>
  (Ideal.matmul_constant_zero_apply (φ₁ := .bf16) (φ₂ := .bf16) dot_S1024x1024_S1024x256_S1024x256_1_0_0_1_n_n none x y j).trans
    (contr _ 1024 rfl rfl x y j (fun i => f (j 0).val i) (fun i => g i (j 1).val) (fun k => hx _) (fun k => hy _))

theorem out_ent {x : Vec Ideal S1024x1024 .f32} {y : Vec Ideal S1024x256 .bf16}
    (hx : Ent (a := 1024) (b := 1024) x f) (hy : Ent (a := 1024) (b := 256) y g) :
    Ent (a := 1024) (b := 256) (out0_2 (F := Ideal) x y) (fun r c => ∑ i ∈ range 1024, f r i * g i c) := by
  have e : out0_2 (F := Ideal) x y = k0_pay1 x y := by frame_out
  rw [e]; exact pay_ent hx hy

variable (m : (ℓ : Loc nD τ sig) → Buf (Elt Ideal) ℓ) (c : Dev nD)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val * 1024 + r) (s)) := fun y => by
  show m ((c.tc : Thread nD τ).loc main_arg0) ((win0_0.blk t).view.emb y) = _
  have e0 : ((win0_0.blk t).view.emb y 0).val = t.val * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 1024) (b := 256) (m ((c.tc : Thread nD τ).loc main_arg1)) g) :
    Ent (a := 1024) (b := 256) (iblk m c 1 t) (fun r s => g (r) (s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = (y 1).val := by blk_simp [ix1]
  refine (h ((win0_1.blk t).view.emb y)).trans ?_
  rw [e0, e1]

variable {m c}

theorem arr (h0 : Ent (a := 4096) (b := 1024) (m ((c.tc : Thread nD τ).loc main_arg0)) f)
    (h1 : Ent (a := 1024) (b := 256) (m ((c.tc : Thread nD τ).loc main_arg1)) g) :
    (dats m 0 c).arrAt 2 cfg0.N = fun i : S4096x256.Idx => ∑ k ∈ range 1024, f (i 0).val k * g k (i 1).val := by
  refine (dats m 0 c).arrAt_eq_of_covers 2 _ (by decide +kernel) fun t _ y => ?_
  blk_simp [ix2]
  rw [after0_2, out_ent (in0 m c t h0) (in1 m c t h1) y]

end Cert.DOcIdeal.Val

namespace Cert.ReferenceDOcIdeal.Val

open Idealize.ShloMosaic
open Cert.ReferenceDOcIdeal Cert.ReferenceDOcIdeal.Gen Cert.Dense
open Finset

variable {f g p : ℕ → ℕ → EReal}

theorem ref {x : Vec Ideal S4096x1024 .f32} {y : Vec Ideal S1024x256 .bf16} (hx : Ent (a := 4096) (b := 1024) x f) (hy : Ent (a := 1024) (b := 256) y g) :
    Host.dotGeneral (F := Ideal) (φ₁ := .f32) (φ₂ := .f32) dot_S4096x1024_S256x1024_S4096x256_1_1_0_0_n_n none x (transpose S256x1024 [1, 0] (extf (F := Ideal) .f32 y bitsLt_bf16_f32) transposes_S1024x256_S256x1024_1_0)
      = fun i : S4096x256.Idx => ∑ k ∈ range 1024, f (i 0).val k * g k (i 1).val := funext fun j =>
  (Ideal.dotGeneral_apply (φ₁ := .f32) (φ₂ := .f32) dot_S4096x1024_S256x1024_S4096x256_1_1_0_0_n_n none _ x (transpose S256x1024 [1, 0] (extf (F := Ideal) .f32 y bitsLt_bf16_f32) transposes_S1024x256_S256x1024_1_0) j).trans
    (contr _ 1024 rfl rfl x (transpose S256x1024 [1, 0] (extf (F := Ideal) .f32 y bitsLt_bf16_f32) transposes_S1024x256_S256x1024_1_0) j (fun i => f (j 0).val i) (fun i => g i (j 1).val) (fun k => hx _)
      (fun k => (transpose_apply [1, 0] _ transposes_S1024x256_S256x1024_1_0 _ (ValueIdx.ix2 (show Fin 1024 from k ⟨0, Nat.zero_lt_one⟩) (j 1)) (fun b => match b with
    | ⟨0, _⟩ => rfl
    | ⟨1, _⟩ => rfl)).trans (hy _)))

end Cert.ReferenceDOcIdeal.Val

namespace Cert.Proof

open Idealize.ShloMosaic Idealize.SL.Sem Cert.Dense

theorem frame_RDOc : Cert.quiescent_ReferenceDOcIdeal (hReferenceDOcIdeal := Cert.ReferenceDOcIdeal.Gen.facts) := fun m ρ _ =>
  (θ_run Cert.ReferenceDOcIdeal.defs _ _).mono (fun r h => ⟨fun c => (h c).2, Idealize.ShloMosaic.sem_eq_zero_of_no_sems (by decide) r.2⟩)
    (Cert.ReferenceDOcIdeal.Value.run (F := Ideal) m ρ)

theorem algebraic_DOc : Cert.algebraic_DOcIdeal_ReferenceDOcIdeal (hDOcIdeal := Cert.DOcIdeal.Gen.facts)
    (hReferenceDOcIdeal := Cert.ReferenceDOcIdeal.Gen.facts) := fun m ρ m' ρ' _ ha =>
  ⟨_, (θ_run Cert.DOcIdeal.defs _ _).mono (fun r h c => ⟨(h c).1.trans (Cert.DOcIdeal.Val.arr (m := m) (c := c) (entry_ent _) (entry_ent _)), (h c).2⟩)
      (Cert.DOcIdeal.Value.run_blocks m ρ),
    (θ_run Cert.ReferenceDOcIdeal.defs _ _).mono (fun r h c => ⟨(h c).1.trans (by
        rw [(ha c).1, (ha c).2]
        exact Cert.ReferenceDOcIdeal.Val.ref (entry_ent _) (entry_ent _)), (h c).2⟩)
      (Cert.ReferenceDOcIdeal.Value.run (F := Ideal) m' ρ')⟩

end Cert.Proof

end
-- ==== Proof.DownGrad.lean ====
/-
  The gradient of the feed-forward's second weight: the four partial products the grid adds up are the product.
-/
module

public import proofs.«01_k».proof.Defs
public import proofs.«01_k».proof.Proof.Gen.GDownIdeal.Value
public import proofs.«01_k».proof.Proof.Gen.ReferenceGDownIdeal
public import proofs.«01_k».proof.Proof.Gen.ReferenceGDownIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.GDownIdeal.Val

open Idealize.ShloMosaic Idealize.ShloMosaic.TcCoe Idealize.SL.Sem Idealize.ShloMosaic.Tactic
open Cert.GDownIdeal Cert.GDownIdeal.Gen Cert.Dense
open Finset

variable {f g p : ℕ → ℕ → EReal}

theorem pay1_ent {x : Vec Ideal S1024x1408 .bf16} {y : Vec Ideal S1024x1024 .f32} (hx : Ent (a := 1024) (b := 1408) x f) (hy : Ent (a := 1024) (b := 1024) y g) :
    Ent (a := 1408) (b := 1024) (k0_pay1 (F := Ideal) x y) (fun r c => ∑ i ∈ range 1024, f i r * g i c) := fun j =>
  (Ideal.matmul_constant_zero_apply (φ₁ := .bf16) (φ₂ := .bf16) dot_S1024x1408_S1024x1024_S1408x1024_0_0_1_1_n_n none x y j).trans
    (contr _ 1024 rfl rfl x y j (fun i => f i (j 0).val) (fun i => g i (j 1).val) (fun k => hx _) (fun k => hy _))

theorem pay2_ent {x : Vec Ideal S1024x1408 .bf16} {y : Vec Ideal S1024x1024 .f32} (hx : Ent (a := 1024) (b := 1408) x f) (hy : Ent (a := 1024) (b := 1024) y g) :
    Ent (a := 1408) (b := 1024) (k0_pay2 (F := Ideal) x y) (fun r c => ∑ i ∈ range 1024, f i r * g i c) := by
  have e : k0_pay2 (F := Ideal) x y = k0_pay1 x y := shapeCast_self _ _
  rw [e]; exact pay1_ent hx hy

theorem pay3_ent {x : Vec Ideal S1024x1408 .bf16} {y : Vec Ideal S1024x1024 .f32} {z : Vec Ideal S1408x1024 .f32}
    (hx : Ent (a := 1024) (b := 1408) x f) (hy : Ent (a := 1024) (b := 1024) y g) (hz : Ent (a := 1408) (b := 1024) z p) :
    Ent (a := 1408) (b := 1024) (k0_pay3 (F := Ideal) x y z) (fun r c => p r c + ∑ i ∈ range 1024, f i r * g i c) := by
  have e : k0_pay3 (F := Ideal) x y z = addf z (k0_pay1 x y) := shapeCast_self _ _
  rw [e]
  intro j
  show z j + k0_pay1 (F := Ideal) x y j = _
  rw [hz j, pay1_ent hx hy j]

section
variable (c : Dev nD) (i : grid0.Coords) (a3 : Memref sig .tc .vmem S1024x1408 .bf16) (h3 : a3.IsWhole) (a4 : Memref sig .tc .vmem S1024x1024 .f32) (h4 : a4.IsWhole)
  (a5 : Memref sig .tc .vmem S1408x1024 .bf16) (h5 : a5.IsWhole) (a6 : Memref sig .tc .vmem S1408x1024 .f32) (h6 : a6.IsWhole)
  (x : Vec Ideal S1024x1408 .bf16) (y : Vec Ideal S1024x1024 .f32) (z : Vec Ideal S1408x1024 .f32)

theorem soutA (hc0 : cond0_0 i) (hc1 : ¬cond0_1 i) (hc2 : ¬cond0_2 i) :
    sout0_A_0 (F := Ideal) c i a3 h3 a4 h4 a5 h5 a6 h6 hc0 hc1 hc2 x y = k0_pay2 x y := by frame_out

theorem soutB (hc0 : ¬cond0_0 i) (hc1 : cond0_1 i) (hc2 : ¬cond0_2 i) :
    sout0_B_0 (F := Ideal) c i a3 h3 a4 h4 a5 h5 a6 h6 hc0 hc1 hc2 x y z = k0_pay3 x y z := by frame_out

theorem outC (hc0 : ¬cond0_0 i) (hc1 : cond0_1 i) (hc2 : cond0_2 i) :
    out0_C_2 (F := Ideal) c i a3 h3 a4 h4 a5 h5 a6 h6 hc0 hc1 hc2 x y z = k0_pay4 (k0_pay3 x y z) := by frame_out
end

variable (m : (ℓ : Loc nD τ sig) → Buf (Elt Ideal) ℓ) (c : Dev nD)

theorem ix0 : ∀ t : Fin cfg0.N, win0_0.index t = ![t.val % 4, t.val / 4] := (by decide +kernel : ∀ t : Fin grid0.N, _)
theorem ix1 : ∀ t : Fin cfg0.N, win0_1.index t = ![t.val % 4, 0] := (by decide +kernel : ∀ t : Fin grid0.N, _)
theorem ix2 : ∀ t : Fin cfg0.N, win0_2.index t = ![t.val / 4, 0] := (by decide +kernel : ∀ t : Fin grid0.N, _)

theorem in0 (t : Fin cfg0.N) (h : Ent (a := 4096) (b := 2816) (m ((c.tc : Thread nD τ).loc main_arg0)) f) :
    Ent (a := 1024) (b := 1408) (iblk m c 0 t) (fun k r => f (t.val % 4 * 1024 + k) (t.val / 4 * 1408 + r)) := fun y => by
  show m ((c.tc : Thread nD τ).loc main_arg0) ((win0_0.blk t).view.emb y) = _
  have e0 : ((win0_0.blk t).view.emb y 0).val = t.val % 4 * 1024 + (y 0).val := by blk_simp [ix0]
  have e1 : ((win0_0.blk t).view.emb y 1).val = t.val / 4 * 1408 + (y 1).val := by blk_simp [ix0]
  refine (h ((win0_0.blk t).view.emb y)).trans ?_
  rw [e0, e1]

theorem in1 (t : Fin cfg0.N) (h : Ent (a := 4096) (b := 1024) (m ((c.tc : Thread nD τ).loc main_arg1)) g) :
    Ent (a := 1024) (b := 1024) (iblk m c 1 t) (fun k s => g (t.val % 4 * 1024 + k) s) := fun y => by
  show m ((c.tc : Thread nD τ).loc main_arg1) ((win0_1.blk t).view.emb y) = _
  have e0 : ((win0_1.blk t).view.emb y 0).val = t.val % 4 * 1024 + (y 0).val := by blk_simp [ix1]
  have e1 : ((win0_1.blk t).view.emb y 1).val = (y 1).val := by blk_simp [ix1]
  refine (h ((win0_1.blk t).view.emb y)).trans ?_
  rw [e0, e1]

variable {m c}
variable (h0 : Ent (a := 4096) (b := 2816) (m ((c.tc : Thread nD τ).loc main_arg0)) f) (h1 : Ent (a := 4096) (b := 1024) (m ((c.tc : Thread nD τ).loc main_arg1)) g)

include h0 h1 in
/-- What the accumulator holds before the last of a block's four grid points. -/
theorem acc (q : ℕ) : ∀ j : ℕ, j < 3 → ∀ h : 4 * q + j < cfg0.N,
    Ent (a := 1408) (b := 1024) (outsAt0 m c (4 * q + j) h).2 (fun r s => ∑ k ∈ range (1024 * (j + 1)), f k (q * 1408 + r) * g k s)
  | 0, _, h => fun y => by
    have e := congrArg Prod.snd (outsAt0_A m c ⟨4 * q, h⟩ (by dsimp only; omega) (by dsimp only; omega) (by dsimp only; omega))
    refine (congrFun e y).trans ?_
    dsimp only
    rw [soutA, pay2_ent (in0 m c ⟨4 * q, h⟩ h0) (in1 m c ⟨4 * q, h⟩ h1) y]
    simp only [show 4 * q % 4 = 0 by omega, show 4 * q / 4 = q by omega, Nat.zero_mul, Nat.zero_add, Nat.mul_one]
  | j + 1, hj, h => fun y => by
    have e := congrArg Prod.snd (outsAt0_B m c ⟨4 * q + (j + 1), h⟩ (by dsimp only; omega) (by dsimp only; omega) (by dsimp only; omega))
    refine (congrFun e y).trans ?_
    dsimp only
    have hs : Ent (a := 1408) (b := 1024) (outsAt0 m c (4 * q + (j + 1) - 1) (Nat.lt_of_le_of_lt (Nat.sub_le _ _) h)).2 _ := acc q j (by omega) (by omega)
    rw [soutB, pay3_ent (in0 m c ⟨4 * q + (j + 1), h⟩ h0) (in1 m c ⟨4 * q + (j + 1), h⟩ h1) hs y, sum_step 1024 (j + 1)]
    simp only [show (4 * q + (j + 1)) % 4 = j + 1 by omega, show (4 * q + (j + 1)) / 4 = q by omega, Nat.mul_comm (j + 1) 1024]

include h0 h1 in
theorem arr : (dats m 0 c).arrAt 2 cfg0.N = fun i : S2816x1024.Idx => ∑ k ∈ range 4096, f k (i 0).val * g k (i 1).val := by
  refine (dats m 0 c).arrAt_eq_of_covers 2 _ (by decide +kernel) fun t hf y => ?_
  have hm : t.val % 4 = 3 := (flush0_2 t).mp hf
  have hp : 4 * (t.val / 4) + 2 < cfg0.N := by have := lt_of_lt_of_eq t.isLt (show cfg0.N = 8 from N_0); rw [show cfg0.N = 8 from N_0]; omega
  have ht : t.val - 1 = 4 * (t.val / 4) + 2 := by omega
  have hs : Ent (a := 1408) (b := 1024) (outsAt0 m c (t.val - 1) (Nat.lt_of_le_of_lt (Nat.sub_le _ _) t.isLt)).2
      (fun r s => ∑ k ∈ range (1024 * 3), f k (t.val / 4 * 1408 + r) * g k s) := by
    have := acc h0 h1 (t.val / 4) 2 (by omega) hp
    simp only [← ht] at this
    exact this
  blk_simp [ix2]
  rw [after0_2, outsAt0_C m c t (by omega) (by omega) hm]
  dsimp only
  rw [outC]
  show k0_pay3 (F := Ideal) _ _ _ y = _
  rw [pay3_ent (in0 m c t h0) (in1 m c t h1) hs y, hm]
  exact (sum_step 1024 3 _).symm

end Cert.GDownIdeal.Val

namespace Cert.ReferenceGDownIdeal.Val

open Idealize.ShloMosaic
open Cert.ReferenceGDownIdeal Cert.ReferenceGDownIdeal.Gen Cert.Dense
open Finset

variable {f g : ℕ → ℕ → EReal}

theorem ref {x : Vec Ideal S4096x2816 .bf16} {y : Vec Ideal S4096x1024 .f32} (hx : Ent (a := 4096) (b := 2816) x f) (hy : Ent (a := 4096) (b := 1024) y g) :
    truncf (F := Ideal) .bf16 (transpose S2816x1024 [1, 0] (Host.dotGeneral (F := Ideal) (φ₁ := .f32) (φ₂ := .f32) dot_S4096x1024_S4096x2816_S1024x2816_0_0_1_1_n_n none y (extf .f32 x bitsLt_bf16_f32))
        transposes_S1024x2816_S2816x1024_1_0) bitsLt_bf16_f32
      = fun i : S2816x1024.Idx => ∑ k ∈ range 4096, f k (i 0).val * g k (i 1).val := funext fun j => by
  have e : ∀ z : FVec Ideal S2816x1024 .f32, truncf (F := Ideal) .bf16 z bitsLt_bf16_f32 j = z j := fun _ => rfl
  refine (e _).trans ?_
  refine (transpose_apply [1, 0] _ transposes_S1024x2816_S2816x1024_1_0 j (ValueIdx.ix2 (j 1) (j 0)) (fun b => match b with
    | ⟨0, _⟩ => rfl
    | ⟨1, _⟩ => rfl)).trans ?_
  refine (Ideal.dotGeneral_apply (φ₁ := .f32) (φ₂ := .f32) dot_S4096x1024_S4096x2816_S1024x2816_0_0_1_1_n_n none _ y (extf (F := Ideal) .f32 x bitsLt_bf16_f32) _).trans ?_
  refine (contr _ 4096 rfl rfl y x _ (fun i => g i (j 1).val) (fun i => f i (j 0).val) (fun k => hy _) (fun k => hx _)).trans ?_
  exact Finset.sum_congr rfl fun k _ => mul_comm _ _

end Cert.ReferenceGDownIdeal.Val

namespace Cert.Proof

open Idealize.ShloMosaic Idealize.SL.Sem Cert.Dense

theorem frame_RGDown : Cert.quiescent_ReferenceGDownIdeal (hReferenceGDownIdeal := Cert.ReferenceGDownIdeal.Gen.facts) := fun m ρ _ =>
  (θ_run Cert.ReferenceGDownIdeal.defs _ _).mono (fun r h => ⟨fun c => (h c).2, Idealize.ShloMosaic.sem_eq_zero_of_no_sems (by decide) r.2⟩)
    (Cert.ReferenceGDownIdeal.Value.run (F := Ideal) m ρ)

theorem algebraic_GDown : Cert.algebraic_GDownIdeal_ReferenceGDownIdeal (hGDownIdeal := Cert.GDownIdeal.Gen.facts)
    (hReferenceGDownIdeal := Cert.ReferenceGDownIdeal.Gen.facts) := fun m ρ m' ρ' _ ha =>
  ⟨_, (θ_run Cert.GDownIdeal.defs _ _).mono (fun r h c => ⟨(h c).1.trans (Cert.GDownIdeal.Val.arr (m := m) (c := c) (entry_ent _) (entry_ent _)), (h c).2⟩)
      (Cert.GDownIdeal.Value.run_blocks m ρ),
    (θ_run Cert.ReferenceGDownIdeal.defs _ _).mono (fun r h c => ⟨(h c).1.trans (by
        rw [(ha c).1, (ha c).2]
        exact Cert.ReferenceGDownIdeal.Val.ref (entry_ent _) (entry_ent _)), (h c).2⟩)
      (Cert.ReferenceGDownIdeal.Value.run (F := Ideal) m' ρ')⟩

end Cert.Proof

end
-- ==== Proof.FAux.lean ====
/-
  The recurrence's input projection: the tiled product is the product.
-/
module

public import proofs.«01_k».proof.Defs
public import proofs.«01_k».proof.Proof.Gen.FAuxIdeal.Value
public import proofs.«01_k».proof.Proof.Gen.ReferenceFAuxIdeal
public import proofs.«01_k».proof.Proof.Gen.ReferenceFAuxIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.FAuxIdeal.Val

open Idealize.ShloMosaic Idealize.ShloMosaic.TcCoe Idealize.SL.Sem Idealize.ShloMosaic.Tactic
open Cert.FAuxIdeal Cert.FAuxIdeal.Gen Cert.Dense
open Finset

variable {f g p : ℕ → ℕ → EReal}

theorem pay_ent {x : Vec Ideal S1024x1024 .bf16} {y : Vec Ideal S1024x640 .bf16} (hx : Ent (a := 1024) (b := 1024) x f) (hy : Ent (a := 1024) (b := 640) y g) :
    Ent (a := 1024) (b := 640) (k0_pay1 (F := Ideal) x y) (fun r c => ∑ i ∈ range 1024, f r i * g i c) := fun j =>
  (Ideal.matmul_constant_zero_apply (φ₁ := .bf16) (φ₂ := .bf16) dot_S1024x1024_S1024x640_S1024x640_1_0_0_1_n_n none x y j).trans
    (contr _ 1024 rfl rfl x y j (fun i => f (j 0).val i) (fun i => g i (j 1).val) (fun k => hx _) (fun k => hy _))

theorem out_ent {x : Vec Ideal S1024x1024 .bf16} {y : Vec Ideal S1024x640 .bf16}
    (hx : Ent (a := 1024) (b := 1024) x f) (hy : Ent (a := 1024) (b := 640) y g) :
    Ent (a := 1024) (b := 640) (out0_2 (F := Ideal) x y) (fun r c => ∑ i ∈ range 1024, f r i * g i c) := by
  have e : out0_2 (F := Ideal) x y = k0_pay1 x y := by frame_out
  rw [e]; exact pay_ent hx hy

variable (m : (ℓ : Loc nD τ sig) → Buf (Elt Ideal) ℓ) (c : Dev nD)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val * 1024 + r) (s)) := fun y => by
  show m ((c.tc : Thread nD τ).loc main_arg0) ((win0_0.blk t).view.emb y) = _
  have e0 : ((win0_0.blk t).view.emb y 0).val = t.val * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 1024) (b := 640) (m ((c.tc : Thread nD τ).loc main_arg1)) g) :
    Ent (a := 1024) (b := 640) (iblk m c 1 t) (fun r s => g (r) (s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = (y 1).val := by blk_simp [ix1]
  refine (h ((win0_1.blk t).view.emb y)).trans ?_
  rw [e0, e1]

variable {m c}

theorem arr (h0 : Ent (a := 4096) (b := 1024) (m ((c.tc : Thread nD τ).loc main_arg0)) f)
    (h1 : Ent (a := 1024) (b := 640) (m ((c.tc : Thread nD τ).loc main_arg1)) g) :
    (dats m 0 c).arrAt 2 cfg0.N = fun i : S4096x640.Idx => ∑ k ∈ range 1024, f (i 0).val k * g k (i 1).val := by
  refine (dats m 0 c).arrAt_eq_of_covers 2 _ (by decide +kernel) fun t _ y => ?_
  blk_simp [ix2]
  rw [after0_2, out_ent (in0 m c t h0) (in1 m c t h1) y]

end Cert.FAuxIdeal.Val

namespace Cert.ReferenceFAuxIdeal.Val

open Idealize.ShloMosaic
open Cert.ReferenceFAuxIdeal Cert.ReferenceFAuxIdeal.Gen Cert.Dense
open Finset

variable {f g p : ℕ → ℕ → EReal}

theorem ref {x : Vec Ideal S4096x1024 .bf16} {y : Vec Ideal S1024x640 .bf16} (hx : Ent (a := 4096) (b := 1024) x f) (hy : Ent (a := 1024) (b := 640) y g) :
    Host.dotGeneral (F := Ideal) (φ₁ := .f32) (φ₂ := .f32) dot_S4096x1024_S1024x640_S4096x640_1_0_0_1_n_n none (extf (F := Ideal) .f32 x bitsLt_bf16_f32) (extf (F := Ideal) .f32 y bitsLt_bf16_f32)
      = fun i : S4096x640.Idx => ∑ k ∈ range 1024, f (i 0).val k * g k (i 1).val := funext fun j =>
  (Ideal.dotGeneral_apply (φ₁ := .f32) (φ₂ := .f32) dot_S4096x1024_S1024x640_S4096x640_1_0_0_1_n_n none _ (extf (F := Ideal) .f32 x bitsLt_bf16_f32) (extf (F := Ideal) .f32 y bitsLt_bf16_f32) j).trans
    (contr _ 1024 rfl rfl (extf (F := Ideal) .f32 x bitsLt_bf16_f32) (extf (F := Ideal) .f32 y bitsLt_bf16_f32) j (fun i => f (j 0).val i) (fun i => g i (j 1).val) (fun k => hx _) (fun k => hy _))

end Cert.ReferenceFAuxIdeal.Val

namespace Cert.Proof

open Idealize.ShloMosaic Idealize.SL.Sem Cert.Dense

theorem frame_RFAux : Cert.quiescent_ReferenceFAuxIdeal (hReferenceFAuxIdeal := Cert.ReferenceFAuxIdeal.Gen.facts) := fun m ρ _ =>
  (θ_run Cert.ReferenceFAuxIdeal.defs _ _).mono (fun r h => ⟨fun c => (h c).2, Idealize.ShloMosaic.sem_eq_zero_of_no_sems (by decide) r.2⟩)
    (Cert.ReferenceFAuxIdeal.Value.run (F := Ideal) m ρ)

theorem algebraic_FAux : Cert.algebraic_FAuxIdeal_ReferenceFAuxIdeal (hFAuxIdeal := Cert.FAuxIdeal.Gen.facts)
    (hReferenceFAuxIdeal := Cert.ReferenceFAuxIdeal.Gen.facts) := fun m ρ m' ρ' _ ha =>
  ⟨_, (θ_run Cert.FAuxIdeal.defs _ _).mono (fun r h c => ⟨(h c).1.trans (Cert.FAuxIdeal.Val.arr (m := m) (c := c) (entry_ent _) (entry_ent _)), (h c).2⟩)
      (Cert.FAuxIdeal.Value.run_blocks m ρ),
    (θ_run Cert.ReferenceFAuxIdeal.defs _ _).mono (fun r h c => ⟨(h c).1.trans (by
        rw [(ha c).1, (ha c).2]
        exact Cert.ReferenceFAuxIdeal.Val.ref (entry_ent _) (entry_ent _)), (h c).2⟩)
      (Cert.ReferenceFAuxIdeal.Value.run (F := Ideal) m' ρ')⟩

end Cert.Proof

end
-- ==== Proof.FCkv.lean ====
/-
  The cross-attention's key and value projections: the tiled product is the product.
-/
module

public import proofs.«01_k».proof.Defs
public import proofs.«01_k».proof.Proof.Gen.FCkvIdeal.Value
public import proofs.«01_k».proof.Proof.Gen.ReferenceFCkvIdeal
public import proofs.«01_k».proof.Proof.Gen.ReferenceFCkvIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.FCkvIdeal.Val

open Idealize.ShloMosaic Idealize.ShloMosaic.TcCoe Idealize.SL.Sem Idealize.ShloMosaic.Tactic
open Cert.FCkvIdeal Cert.FCkvIdeal.Gen Cert.Dense
open Finset

variable {f g p : ℕ → ℕ → EReal}

theorem pay_ent {x : Vec Ideal S512x1024 .bf16} {y : Vec Ideal S1024x512 .bf16} (hx : Ent (a := 512) (b := 1024) x f) (hy : Ent (a := 1024) (b := 512) y g) :
    Ent (a := 512) (b := 512) (k0_pay1 (F := Ideal) x y) (fun r c => ∑ i ∈ range 1024, f r i * g i c) := fun j =>
  (Ideal.matmul_constant_zero_apply (φ₁ := .bf16) (φ₂ := .bf16) dot_S512x1024_S1024x512_S512x512_1_0_0_1_n_n none x y j).trans
    (contr _ 1024 rfl rfl x y j (fun i => f (j 0).val i) (fun i => g i (j 1).val) (fun k => hx _) (fun k => hy _))

theorem out_ent {x : Vec Ideal S512x1024 .bf16} {y : Vec Ideal S1024x512 .bf16}
    (hx : Ent (a := 512) (b := 1024) x f) (hy : Ent (a := 1024) (b := 512) y g) :
    Ent (a := 512) (b := 512) (out0_2 (F := Ideal) x y) (fun r c => ∑ i ∈ range 1024, f r i * g i c) := by
  have e : out0_2 (F := Ideal) x y = k0_pay1 x y := by frame_out
  rw [e]; exact pay_ent hx hy

variable (m : (ℓ : Loc nD τ sig) → Buf (Elt Ideal) ℓ) (c : Dev nD)

theorem ix0 : ∀ t : Fin cfg0.N, win0_0.index t = ![0, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![0, 0] := (by decide +kernel : ∀ t : Fin grid0.N, _)

theorem in0 (t : Fin cfg0.N) (h : Ent (a := 512) (b := 1024) (m ((c.tc : Thread nD τ).loc main_arg0)) f) :
    Ent (a := 512) (b := 1024) (iblk m c 0 t) (fun r s => f (r) (s)) := fun y => by
  show m ((c.tc : Thread nD τ).loc main_arg0) ((win0_0.blk t).view.emb y) = _
  have e0 : ((win0_0.blk t).view.emb y 0).val = (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 1024) (b := 512) (m ((c.tc : Thread nD τ).loc main_arg1)) g) :
    Ent (a := 1024) (b := 512) (iblk m c 1 t) (fun r s => g (r) (s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = (y 1).val := by blk_simp [ix1]
  refine (h ((win0_1.blk t).view.emb y)).trans ?_
  rw [e0, e1]

variable {m c}

theorem arr (h0 : Ent (a := 512) (b := 1024) (m ((c.tc : Thread nD τ).loc main_arg0)) f)
    (h1 : Ent (a := 1024) (b := 512) (m ((c.tc : Thread nD τ).loc main_arg1)) g) :
    (dats m 0 c).arrAt 2 cfg0.N = fun i : S512x512.Idx => ∑ k ∈ range 1024, f (i 0).val k * g k (i 1).val := by
  refine (dats m 0 c).arrAt_eq_of_covers 2 _ (by decide +kernel) fun t _ y => ?_
  blk_simp [ix2]
  rw [after0_2, out_ent (in0 m c t h0) (in1 m c t h1) y]

end Cert.FCkvIdeal.Val

namespace Cert.ReferenceFCkvIdeal.Val

open Idealize.ShloMosaic
open Cert.ReferenceFCkvIdeal Cert.ReferenceFCkvIdeal.Gen Cert.Dense
open Finset

variable {f g p : ℕ → ℕ → EReal}

theorem ref {x : Vec Ideal S512x1024 .bf16} {y : Vec Ideal S1024x512 .bf16} (hx : Ent (a := 512) (b := 1024) x f) (hy : Ent (a := 1024) (b := 512) y g) :
    truncf (F := Ideal) .bf16 (Host.dotGeneral (F := Ideal) (φ₁ := .f32) (φ₂ := .f32) dot_S512x1024_S1024x512_S512x512_1_0_0_1_n_n none (extf (F := Ideal) .f32 x bitsLt_bf16_f32) (extf (F := Ideal) .f32 y bitsLt_bf16_f32)) bitsLt_bf16_f32
      = fun i : S512x512.Idx => ∑ k ∈ range 1024, f (i 0).val k * g k (i 1).val := funext fun j => by
  have e : ∀ z : FVec Ideal S512x512 .f32, truncf (F := Ideal) .bf16 z bitsLt_bf16_f32 j = z j := fun _ => rfl
  refine (e _).trans ?_
  exact (Ideal.dotGeneral_apply (φ₁ := .f32) (φ₂ := .f32) dot_S512x1024_S1024x512_S512x512_1_0_0_1_n_n none _ (extf (F := Ideal) .f32 x bitsLt_bf16_f32) (extf (F := Ideal) .f32 y bitsLt_bf16_f32) j).trans
    (contr _ 1024 rfl rfl (extf (F := Ideal) .f32 x bitsLt_bf16_f32) (extf (F := Ideal) .f32 y bitsLt_bf16_f32) j (fun i => f (j 0).val i) (fun i => g i (j 1).val) (fun k => hx _) (fun k => hy _))

end Cert.ReferenceFCkvIdeal.Val

namespace Cert.Proof

open Idealize.ShloMosaic Idealize.SL.Sem Cert.Dense

theorem frame_RFCkv : Cert.quiescent_ReferenceFCkvIdeal (hReferenceFCkvIdeal := Cert.ReferenceFCkvIdeal.Gen.facts) := fun m ρ _ =>
  (θ_run Cert.ReferenceFCkvIdeal.defs _ _).mono (fun r h => ⟨fun c => (h c).2, Idealize.ShloMosaic.sem_eq_zero_of_no_sems (by decide) r.2⟩)
    (Cert.ReferenceFCkvIdeal.Value.run (F := Ideal) m ρ)

theorem algebraic_FCkv : Cert.algebraic_FCkvIdeal_ReferenceFCkvIdeal (hFCkvIdeal := Cert.FCkvIdeal.Gen.facts)
    (hReferenceFCkvIdeal := Cert.ReferenceFCkvIdeal.Gen.facts) := fun m ρ m' ρ' _ ha =>
  ⟨_, (θ_run Cert.FCkvIdeal.defs _ _).mono (fun r h c => ⟨(h c).1.trans (Cert.FCkvIdeal.Val.arr (m := m) (c := c) (entry_ent _) (entry_ent _)), (h c).2⟩)
      (Cert.FCkvIdeal.Value.run_blocks m ρ),
    (θ_run Cert.ReferenceFCkvIdeal.defs _ _).mono (fun r h c => ⟨(h c).1.trans (by
        rw [(ha c).1, (ha c).2]
        exact Cert.ReferenceFCkvIdeal.Val.ref (entry_ent _) (entry_ent _)), (h c).2⟩)
      (Cert.ReferenceFCkvIdeal.Value.run (F := Ideal) m' ρ')⟩

end Cert.Proof

end
-- ==== Proof.FCo.lean ====
/-
  The cross-attention's output projection, added to the stream: the tiled product is the product.
-/
module

public import proofs.«01_k».proof.Defs
public import proofs.«01_k».proof.Proof.Gen.FCoIdeal.Value
public import proofs.«01_k».proof.Proof.Gen.ReferenceFCoIdeal
public import proofs.«01_k».proof.Proof.Gen.ReferenceFCoIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.FCoIdeal.Val

open Idealize.ShloMosaic Idealize.ShloMosaic.TcCoe Idealize.SL.Sem Idealize.ShloMosaic.Tactic
open Cert.FCoIdeal Cert.FCoIdeal.Gen Cert.Dense
open Finset

variable {f g p : ℕ → ℕ → EReal}

theorem pay_ent {x : Vec Ideal S1024x256 .bf16} {y : Vec Ideal S1024x256 .bf16} {z : Vec Ideal S1024x1024 .f32}
    (hx : Ent (a := 1024) (b := 256) x f) (hy : Ent (a := 1024) (b := 256) y g) (hz : Ent (a := 1024) (b := 1024) z p) :
    Ent (a := 1024) (b := 1024) (k0_pay1 (F := Ideal) x y z) (fun r c => ∑ i ∈ range 256, f r i * g c i + p r c) := fun j => by
  have e : matmul (F := Ideal) (φ₁ := .bf16) (φ₂ := .bf16) dot_S1024x256_S1024x256_S1024x1024_1_1_0_0_n_n none x y (constant S1024x1024 .f32 0x00000000#32) j
      = ∑ i ∈ range 256, f (j 0).val i * g (j 1).val i :=
    (Ideal.matmul_constant_zero_apply (φ₁ := .bf16) (φ₂ := .bf16) dot_S1024x256_S1024x256_S1024x1024_1_1_0_0_n_n none x y j).trans
      (contr _ 256 rfl rfl x y j (fun i => f (j 0).val i) (fun i => g (j 1).val i) (fun k => hx _) (fun k => hy _))
  have e' : k0_pay1 (F := Ideal) x y z = addf (matmul (F := Ideal) (φ₁ := .bf16) (φ₂ := .bf16) dot_S1024x256_S1024x256_S1024x1024_1_1_0_0_n_n none x y (constant S1024x1024 .f32 0x00000000#32)) z := by
    unfold k0_pay1; dsimp only; try rw [shapeCast_self]
  rw [e']
  show matmul (F := Ideal) (φ₁ := .bf16) (φ₂ := .bf16) dot_S1024x256_S1024x256_S1024x1024_1_1_0_0_n_n none x y (constant S1024x1024 .f32 0x00000000#32) j + z j = _
  rw [e, hz j]

theorem out_ent {x : Vec Ideal S1024x256 .bf16} {y : Vec Ideal S1024x256 .bf16} {z : Vec Ideal S1024x1024 .f32}
    (hx : Ent (a := 1024) (b := 256) x f) (hy : Ent (a := 1024) (b := 256) y g) (hz : Ent (a := 1024) (b := 1024) z p) :
    Ent (a := 1024) (b := 1024) (out0_3 (F := Ideal) x y z) (fun r c => ∑ i ∈ range 256, f r i * g c i + p r c) := by
  have e : out0_3 (F := Ideal) x y z = k0_pay1 x y z := by frame_out
  rw [e]; exact pay_ent hx hy hz

variable (m : (ℓ : Loc nD τ sig) → Buf (Elt Ideal) ℓ) (c : Dev nD)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)
theorem ix3 : ∀ t : Fin cfg0.N, win0_3.index t = ![t.val, 0] := (by decide +kernel : ∀ t : Fin grid0.N, _)

theorem in0 (t : Fin cfg0.N) (h : Ent (a := 4096) (b := 256) (m ((c.tc : Thread nD τ).loc main_arg0)) f) :
    Ent (a := 1024) (b := 256) (iblk m c 0 t) (fun r s => f (t.val * 1024 + r) (s)) := fun y => by
  show m ((c.tc : Thread nD τ).loc main_arg0) ((win0_0.blk t).view.emb y) = _
  have e0 : ((win0_0.blk t).view.emb y 0).val = t.val * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 1024) (b := 256) (m ((c.tc : Thread nD τ).loc main_arg1)) g) :
    Ent (a := 1024) (b := 256) (iblk m c 1 t) (fun r s => g (r) (s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = (y 1).val := by blk_simp [ix1]
  refine (h ((win0_1.blk t).view.emb y)).trans ?_
  rw [e0, e1]

theorem in2 (t : Fin cfg0.N) (h : Ent (a := 4096) (b := 1024) (m ((c.tc : Thread nD τ).loc main_arg2)) p) :
    Ent (a := 1024) (b := 1024) (iblk m c 2 t) (fun r s => p (t.val * 1024 + r) (s)) := fun y => by
  show m ((c.tc : Thread nD τ).loc main_arg2) ((win0_2.blk t).view.emb y) = _
  have e0 : ((win0_2.blk t).view.emb y 0).val = t.val * 1024 + (y 0).val := by blk_simp [ix2]
  have e1 : ((win0_2.blk t).view.emb y 1).val = (y 1).val := by blk_simp [ix2]
  refine (h ((win0_2.blk t).view.emb y)).trans ?_
  rw [e0, e1]

variable {m c}

theorem arr (h0 : Ent (a := 4096) (b := 256) (m ((c.tc : Thread nD τ).loc main_arg0)) f)
    (h1 : Ent (a := 1024) (b := 256) (m ((c.tc : Thread nD τ).loc main_arg1)) g) (h2 : Ent (a := 4096) (b := 1024) (m ((c.tc : Thread nD τ).loc main_arg2)) p) :
    (dats m 0 c).arrAt 3 cfg0.N = fun i : S4096x1024.Idx => ∑ k ∈ range 256, f (i 0).val k * g (i 1).val k + p (i 0).val (i 1).val := by
  refine (dats m 0 c).arrAt_eq_of_covers 3 _ (by decide +kernel) fun t _ y => ?_
  blk_simp [ix3]
  rw [after0_3, out_ent (in0 m c t h0) (in1 m c t h1) (in2 m c t h2) y]

end Cert.FCoIdeal.Val

namespace Cert.ReferenceFCoIdeal.Val

open Idealize.ShloMosaic
open Cert.ReferenceFCoIdeal Cert.ReferenceFCoIdeal.Gen Cert.Dense
open Finset

variable {f g p : ℕ → ℕ → EReal}

theorem dot {x : Vec Ideal S4096x256 .bf16} {y : Vec Ideal S1024x256 .bf16} (hx : Ent (a := 4096) (b := 256) x f) (hy : Ent (a := 1024) (b := 256) y g) (j) :
    Host.dotGeneral (F := Ideal) (φ₁ := .f32) (φ₂ := .f32) dot_S4096x256_S256x1024_S4096x1024_1_0_0_1_n_n none (extf (F := Ideal) .f32 x bitsLt_bf16_f32) (transpose S256x1024 [1, 0] (extf (F := Ideal) .f32 y bitsLt_bf16_f32) transposes_S1024x256_S256x1024_1_0) j
      = ∑ k ∈ range 256, f (j 0).val k * g (j 1).val k :=
  (Ideal.dotGeneral_apply (φ₁ := .f32) (φ₂ := .f32) dot_S4096x256_S256x1024_S4096x1024_1_0_0_1_n_n none _ (extf (F := Ideal) .f32 x bitsLt_bf16_f32) (transpose S256x1024 [1, 0] (extf (F := Ideal) .f32 y bitsLt_bf16_f32) transposes_S1024x256_S256x1024_1_0) j).trans
    (contr _ 256 rfl rfl (extf (F := Ideal) .f32 x bitsLt_bf16_f32) (transpose S256x1024 [1, 0] (extf (F := Ideal) .f32 y bitsLt_bf16_f32) transposes_S1024x256_S256x1024_1_0) j (fun i => f (j 0).val i) (fun i => g (j 1).val i) (fun k => hx _)
      (fun k => (transpose_apply [1, 0] _ transposes_S1024x256_S256x1024_1_0 _ (ValueIdx.ix2 (j 1) (show Fin 256 from k ⟨0, Nat.zero_lt_one⟩)) (fun b => match b with
    | ⟨0, _⟩ => rfl
    | ⟨1, _⟩ => rfl)).trans (hy _)))

theorem ref {x : Vec Ideal S4096x256 .bf16} {y : Vec Ideal S1024x256 .bf16} {z : Vec Ideal S4096x1024 .f32} (hx : Ent (a := 4096) (b := 256) x f) (hy : Ent (a := 1024) (b := 256) y g) (hz : Ent (a := 4096) (b := 1024) z p) :
    addf (F := Ideal) z (Host.dotGeneral (F := Ideal) (φ₁ := .f32) (φ₂ := .f32) dot_S4096x256_S256x1024_S4096x1024_1_0_0_1_n_n none (extf (F := Ideal) .f32 x bitsLt_bf16_f32) (transpose S256x1024 [1, 0] (extf (F := Ideal) .f32 y bitsLt_bf16_f32) transposes_S1024x256_S256x1024_1_0))
      = fun i : S4096x1024.Idx => ∑ k ∈ range 256, f (i 0).val k * g (i 1).val k + p (i 0).val (i 1).val := funext fun j =>
  (congrArg₂ (fun u v : EReal => u + v) (hz j) (dot hx hy j)).trans (add_comm _ _)

end Cert.ReferenceFCoIdeal.Val

namespace Cert.Proof

open Idealize.ShloMosaic Idealize.SL.Sem Cert.Dense

theorem frame_RFCo : Cert.quiescent_ReferenceFCoIdeal (hReferenceFCoIdeal := Cert.ReferenceFCoIdeal.Gen.facts) := fun m ρ _ =>
  (θ_run Cert.ReferenceFCoIdeal.defs _ _).mono (fun r h => ⟨fun c => (h c).2, Idealize.ShloMosaic.sem_eq_zero_of_no_sems (by decide) r.2⟩)
    (Cert.ReferenceFCoIdeal.Value.run (F := Ideal) m ρ)

theorem algebraic_FCo : Cert.algebraic_FCoIdeal_ReferenceFCoIdeal (hFCoIdeal := Cert.FCoIdeal.Gen.facts)
    (hReferenceFCoIdeal := Cert.ReferenceFCoIdeal.Gen.facts) := fun m ρ m' ρ' _ ha =>
  ⟨_, (θ_run Cert.FCoIdeal.defs _ _).mono (fun r h c => ⟨(h c).1.trans (Cert.FCoIdeal.Val.arr (m := m) (c := c) (entry_ent _) (entry_ent _) (entry_ent _)), (h c).2⟩)
      (Cert.FCoIdeal.Value.run_blocks m ρ),
    (θ_run Cert.ReferenceFCoIdeal.defs _ _).mono (fun r h c => ⟨(h c).1.trans (by
        rw [(ha c).1, (ha c).2.1, (ha c).2.2]
        exact Cert.ReferenceFCoIdeal.Val.ref (entry_ent _) (entry_ent _) (entry_ent _)), (h c).2⟩)
      (Cert.ReferenceFCoIdeal.Value.run (F := Ideal) m' ρ')⟩

end Cert.Proof

end
-- ==== Proof.FCq.lean ====
/-
  The cross-attention's query projection: the tiled product is the product.
-/
module

public import proofs.«01_k».proof.Defs
public import proofs.«01_k».proof.Proof.Gen.FCqIdeal.Value
public import proofs.«01_k».proof.Proof.Gen.ReferenceFCqIdeal
public import proofs.«01_k».proof.Proof.Gen.ReferenceFCqIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.FCqIdeal.Val

open Idealize.ShloMosaic Idealize.ShloMosaic.TcCoe Idealize.SL.Sem Idealize.ShloMosaic.Tactic
open Cert.FCqIdeal Cert.FCqIdeal.Gen Cert.Dense
open Finset

variable {f g p : ℕ → ℕ → EReal}

theorem pay_ent {x : Vec Ideal S1024x1024 .bf16} {y : Vec Ideal S1024x256 .bf16} (hx : Ent (a := 1024) (b := 1024) x f) (hy : Ent (a := 1024) (b := 256) y g) :
    Ent (a := 1024) (b := 256) (k0_pay1 (F := Ideal) x y) (fun r c => ∑ i ∈ range 1024, f r i * g i c) := fun j =>
  (Ideal.matmul_constant_zero_apply (φ₁ := .bf16) (φ₂ := .bf16) dot_S1024x1024_S1024x256_S1024x256_1_0_0_1_n_n none x y j).trans
    (contr _ 1024 rfl rfl x y j (fun i => f (j 0).val i) (fun i => g i (j 1).val) (fun k => hx _) (fun k => hy _))

theorem out_ent {x : Vec Ideal S1024x1024 .bf16} {y : Vec Ideal S1024x256 .bf16}
    (hx : Ent (a := 1024) (b := 1024) x f) (hy : Ent (a := 1024) (b := 256) y g) :
    Ent (a := 1024) (b := 256) (out0_2 (F := Ideal) x y) (fun r c => ∑ i ∈ range 1024, f r i * g i c) := by
  have e : out0_2 (F := Ideal) x y = k0_pay1 x y := by frame_out
  rw [e]; exact pay_ent hx hy

variable (m : (ℓ : Loc nD τ sig) → Buf (Elt Ideal) ℓ) (c : Dev nD)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val * 1024 + r) (s)) := fun y => by
  show m ((c.tc : Thread nD τ).loc main_arg0) ((win0_0.blk t).view.emb y) = _
  have e0 : ((win0_0.blk t).view.emb y 0).val = t.val * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 1024) (b := 256) (m ((c.tc : Thread nD τ).loc main_arg1)) g) :
    Ent (a := 1024) (b := 256) (iblk m c 1 t) (fun r s => g (r) (s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = (y 1).val := by blk_simp [ix1]
  refine (h ((win0_1.blk t).view.emb y)).trans ?_
  rw [e0, e1]

variable {m c}

theorem arr (h0 : Ent (a := 4096) (b := 1024) (m ((c.tc : Thread nD τ).loc main_arg0)) f)
    (h1 : Ent (a := 1024) (b := 256) (m ((c.tc : Thread nD τ).loc main_arg1)) g) :
    (dats m 0 c).arrAt 2 cfg0.N = fun i : S4096x256.Idx => ∑ k ∈ range 1024, f (i 0).val k * g k (i 1).val := by
  refine (dats m 0 c).arrAt_eq_of_covers 2 _ (by decide +kernel) fun t _ y => ?_
  blk_simp [ix2]
  rw [after0_2, out_ent (in0 m c t h0) (in1 m c t h1) y]

end Cert.FCqIdeal.Val

namespace Cert.ReferenceFCqIdeal.Val

open Idealize.ShloMosaic
open Cert.ReferenceFCqIdeal Cert.ReferenceFCqIdeal.Gen Cert.Dense
open Finset

variable {f g p : ℕ → ℕ → EReal}

theorem ref {x : Vec Ideal S4096x1024 .bf16} {y : Vec Ideal S1024x256 .bf16} (hx : Ent (a := 4096) (b := 1024) x f) (hy : Ent (a := 1024) (b := 256) y g) :
    truncf (F := Ideal) .bf16 (Host.dotGeneral (F := Ideal) (φ₁ := .f32) (φ₂ := .f32) dot_S4096x1024_S1024x256_S4096x256_1_0_0_1_n_n none (extf (F := Ideal) .f32 x bitsLt_bf16_f32) (extf (F := Ideal) .f32 y bitsLt_bf16_f32)) bitsLt_bf16_f32
      = fun i : S4096x256.Idx => ∑ k ∈ range 1024, f (i 0).val k * g k (i 1).val := funext fun j => by
  have e : ∀ z : FVec Ideal S4096x256 .f32, truncf (F := Ideal) .bf16 z bitsLt_bf16_f32 j = z j := fun _ => rfl
  refine (e _).trans ?_
  exact (Ideal.dotGeneral_apply (φ₁ := .f32) (φ₂ := .f32) dot_S4096x1024_S1024x256_S4096x256_1_0_0_1_n_n none _ (extf (F := Ideal) .f32 x bitsLt_bf16_f32) (extf (F := Ideal) .f32 y bitsLt_bf16_f32) j).trans
    (contr _ 1024 rfl rfl (extf (F := Ideal) .f32 x bitsLt_bf16_f32) (extf (F := Ideal) .f32 y bitsLt_bf16_f32) j (fun i => f (j 0).val i) (fun i => g i (j 1).val) (fun k => hx _) (fun k => hy _))

end Cert.ReferenceFCqIdeal.Val

namespace Cert.Proof

open Idealize.ShloMosaic Idealize.SL.Sem Cert.Dense

theorem frame_RFCq : Cert.quiescent_ReferenceFCqIdeal (hReferenceFCqIdeal := Cert.ReferenceFCqIdeal.Gen.facts) := fun m ρ _ =>
  (θ_run Cert.ReferenceFCqIdeal.defs _ _).mono (fun r h => ⟨fun c => (h c).2, Idealize.ShloMosaic.sem_eq_zero_of_no_sems (by decide) r.2⟩)
    (Cert.ReferenceFCqIdeal.Value.run (F := Ideal) m ρ)

theorem algebraic_FCq : Cert.algebraic_FCqIdeal_ReferenceFCqIdeal (hFCqIdeal := Cert.FCqIdeal.Gen.facts)
    (hReferenceFCqIdeal := Cert.ReferenceFCqIdeal.Gen.facts) := fun m ρ m' ρ' _ ha =>
  ⟨_, (θ_run Cert.FCqIdeal.defs _ _).mono (fun r h c => ⟨(h c).1.trans (Cert.FCqIdeal.Val.arr (m := m) (c := c) (entry_ent _) (entry_ent _)), (h c).2⟩)
      (Cert.FCqIdeal.Value.run_blocks m ρ),
    (θ_run Cert.ReferenceFCqIdeal.defs _ _).mono (fun r h c => ⟨(h c).1.trans (by
        rw [(ha c).1, (ha c).2]
        exact Cert.ReferenceFCqIdeal.Val.ref (entry_ent _) (entry_ent _)), (h c).2⟩)
      (Cert.ReferenceFCqIdeal.Value.run (F := Ideal) m' ρ')⟩

end Cert.Proof

end
-- ==== Proof.FDown.lean ====
/-
  The down projection, added to the stream: the tiled product is the product.
-/
module

public import proofs.«01_k».proof.Defs
public import proofs.«01_k».proof.Proof.Gen.FDownIdeal.Value
public import proofs.«01_k».proof.Proof.Gen.ReferenceFDownIdeal
public import proofs.«01_k».proof.Proof.Gen.ReferenceFDownIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.FDownIdeal.Val

open Idealize.ShloMosaic Idealize.ShloMosaic.TcCoe Idealize.SL.Sem Idealize.ShloMosaic.Tactic
open Cert.FDownIdeal Cert.FDownIdeal.Gen Cert.Dense
open Finset

variable {f g p : ℕ → ℕ → EReal}

theorem pay_ent {x : Vec Ideal S512x2816 .bf16} {y : Vec Ideal S2816x1024 .bf16} {z : Vec Ideal S512x1024 .f32}
    (hx : Ent (a := 512) (b := 2816) x f) (hy : Ent (a := 2816) (b := 1024) y g) (hz : Ent (a := 512) (b := 1024) z p) :
    Ent (a := 512) (b := 1024) (k0_pay1 (F := Ideal) x y z) (fun r c => ∑ i ∈ range 2816, f r i * g i c + p r c) := fun j => by
  have e : matmul (F := Ideal) (φ₁ := .bf16) (φ₂ := .bf16) dot_S512x2816_S2816x1024_S512x1024_1_0_0_1_n_n none x y (constant S512x1024 .f32 0x00000000#32) j
      = ∑ i ∈ range 2816, f (j 0).val i * g i (j 1).val :=
    (Ideal.matmul_constant_zero_apply (φ₁ := .bf16) (φ₂ := .bf16) dot_S512x2816_S2816x1024_S512x1024_1_0_0_1_n_n none x y j).trans
      (contr _ 2816 rfl rfl x y j (fun i => f (j 0).val i) (fun i => g i (j 1).val) (fun k => hx _) (fun k => hy _))
  have e' : k0_pay1 (F := Ideal) x y z = addf (matmul (F := Ideal) (φ₁ := .bf16) (φ₂ := .bf16) dot_S512x2816_S2816x1024_S512x1024_1_0_0_1_n_n none x y (constant S512x1024 .f32 0x00000000#32)) z := by
    unfold k0_pay1; dsimp only; try rw [shapeCast_self]
  rw [e']
  show matmul (F := Ideal) (φ₁ := .bf16) (φ₂ := .bf16) dot_S512x2816_S2816x1024_S512x1024_1_0_0_1_n_n none x y (constant S512x1024 .f32 0x00000000#32) j + z j = _
  rw [e, hz j]

theorem out_ent {x : Vec Ideal S512x2816 .bf16} {y : Vec Ideal S2816x1024 .bf16} {z : Vec Ideal S512x1024 .f32}
    (hx : Ent (a := 512) (b := 2816) x f) (hy : Ent (a := 2816) (b := 1024) y g) (hz : Ent (a := 512) (b := 1024) z p) :
    Ent (a := 512) (b := 1024) (out0_3 (F := Ideal) x y z) (fun r c => ∑ i ∈ range 2816, f r i * g i c + p r c) := by
  have e : out0_3 (F := Ideal) x y z = k0_pay1 x y z := by frame_out
  rw [e]; exact pay_ent hx hy hz

variable (m : (ℓ : Loc nD τ sig) → Buf (Elt Ideal) ℓ) (c : Dev nD)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)
theorem ix3 : ∀ t : Fin cfg0.N, win0_3.index t = ![t.val, 0] := (by decide +kernel : ∀ t : Fin grid0.N, _)

theorem in0 (t : Fin cfg0.N) (h : Ent (a := 4096) (b := 2816) (m ((c.tc : Thread nD τ).loc main_arg0)) f) :
    Ent (a := 512) (b := 2816) (iblk m c 0 t) (fun r s => f (t.val * 512 + r) (s)) := fun y => by
  show m ((c.tc : Thread nD τ).loc main_arg0) ((win0_0.blk t).view.emb y) = _
  have e0 : ((win0_0.blk t).view.emb y 0).val = t.val * 512 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 2816) (b := 1024) (m ((c.tc : Thread nD τ).loc main_arg1)) g) :
    Ent (a := 2816) (b := 1024) (iblk m c 1 t) (fun r s => g (r) (s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = (y 1).val := by blk_simp [ix1]
  refine (h ((win0_1.blk t).view.emb y)).trans ?_
  rw [e0, e1]

theorem in2 (t : Fin cfg0.N) (h : Ent (a := 4096) (b := 1024) (m ((c.tc : Thread nD τ).loc main_arg2)) p) :
    Ent (a := 512) (b := 1024) (iblk m c 2 t) (fun r s => p (t.val * 512 + r) (s)) := fun y => by
  show m ((c.tc : Thread nD τ).loc main_arg2) ((win0_2.blk t).view.emb y) = _
  have e0 : ((win0_2.blk t).view.emb y 0).val = t.val * 512 + (y 0).val := by blk_simp [ix2]
  have e1 : ((win0_2.blk t).view.emb y 1).val = (y 1).val := by blk_simp [ix2]
  refine (h ((win0_2.blk t).view.emb y)).trans ?_
  rw [e0, e1]

variable {m c}

theorem arr (h0 : Ent (a := 4096) (b := 2816) (m ((c.tc : Thread nD τ).loc main_arg0)) f)
    (h1 : Ent (a := 2816) (b := 1024) (m ((c.tc : Thread nD τ).loc main_arg1)) g) (h2 : Ent (a := 4096) (b := 1024) (m ((c.tc : Thread nD τ).loc main_arg2)) p) :
    (dats m 0 c).arrAt 3 cfg0.N = fun i : S4096x1024.Idx => ∑ k ∈ range 2816, f (i 0).val k * g k (i 1).val + p (i 0).val (i 1).val := by
  refine (dats m 0 c).arrAt_eq_of_covers 3 _ (by decide +kernel) fun t _ y => ?_
  blk_simp [ix3]
  rw [after0_3, out_ent (in0 m c t h0) (in1 m c t h1) (in2 m c t h2) y]

end Cert.FDownIdeal.Val

namespace Cert.ReferenceFDownIdeal.Val

open Idealize.ShloMosaic
open Cert.ReferenceFDownIdeal Cert.ReferenceFDownIdeal.Gen Cert.Dense
open Finset

variable {f g p : ℕ → ℕ → EReal}

theorem dot {x : Vec Ideal S4096x2816 .bf16} {y : Vec Ideal S2816x1024 .bf16} (hx : Ent (a := 4096) (b := 2816) x f) (hy : Ent (a := 2816) (b := 1024) y g) (j) :
    Host.dotGeneral (F := Ideal) (φ₁ := .f32) (φ₂ := .f32) dot_S4096x2816_S2816x1024_S4096x1024_1_0_0_1_n_n none (extf (F := Ideal) .f32 x bitsLt_bf16_f32) (extf (F := Ideal) .f32 y bitsLt_bf16_f32) j
      = ∑ k ∈ range 2816, f (j 0).val k * g k (j 1).val :=
  (Ideal.dotGeneral_apply (φ₁ := .f32) (φ₂ := .f32) dot_S4096x2816_S2816x1024_S4096x1024_1_0_0_1_n_n none _ (extf (F := Ideal) .f32 x bitsLt_bf16_f32) (extf (F := Ideal) .f32 y bitsLt_bf16_f32) j).trans
    (contr _ 2816 rfl rfl (extf (F := Ideal) .f32 x bitsLt_bf16_f32) (extf (F := Ideal) .f32 y bitsLt_bf16_f32) j (fun i => f (j 0).val i) (fun i => g i (j 1).val) (fun k => hx _) (fun k => hy _))

theorem ref {x : Vec Ideal S4096x2816 .bf16} {y : Vec Ideal S2816x1024 .bf16} {z : Vec Ideal S4096x1024 .f32} (hx : Ent (a := 4096) (b := 2816) x f) (hy : Ent (a := 2816) (b := 1024) y g) (hz : Ent (a := 4096) (b := 1024) z p) :
    addf (F := Ideal) z (Host.dotGeneral (F := Ideal) (φ₁ := .f32) (φ₂ := .f32) dot_S4096x2816_S2816x1024_S4096x1024_1_0_0_1_n_n none (extf (F := Ideal) .f32 x bitsLt_bf16_f32) (extf (F := Ideal) .f32 y bitsLt_bf16_f32))
      = fun i : S4096x1024.Idx => ∑ k ∈ range 2816, f (i 0).val k * g k (i 1).val + p (i 0).val (i 1).val := funext fun j =>
  (congrArg₂ (fun u v : EReal => u + v) (hz j) (dot hx hy j)).trans (add_comm _ _)

end Cert.ReferenceFDownIdeal.Val

namespace Cert.Proof

open Idealize.ShloMosaic Idealize.SL.Sem Cert.Dense

theorem frame_RFDown : Cert.quiescent_ReferenceFDownIdeal (hReferenceFDownIdeal := Cert.ReferenceFDownIdeal.Gen.facts) := fun m ρ _ =>
  (θ_run Cert.ReferenceFDownIdeal.defs _ _).mono (fun r h => ⟨fun c => (h c).2, Idealize.ShloMosaic.sem_eq_zero_of_no_sems (by decide) r.2⟩)
    (Cert.ReferenceFDownIdeal.Value.run (F := Ideal) m ρ)

theorem algebraic_FDown : Cert.algebraic_FDownIdeal_ReferenceFDownIdeal (hFDownIdeal := Cert.FDownIdeal.Gen.facts)
    (hReferenceFDownIdeal := Cert.ReferenceFDownIdeal.Gen.facts) := fun m ρ m' ρ' _ ha =>
  ⟨_, (θ_run Cert.FDownIdeal.defs _ _).mono (fun r h c => ⟨(h c).1.trans (Cert.FDownIdeal.Val.arr (m := m) (c := c) (entry_ent _) (entry_ent _) (entry_ent _)), (h c).2⟩)
      (Cert.FDownIdeal.Value.run_blocks m ρ),
    (θ_run Cert.ReferenceFDownIdeal.defs _ _).mono (fun r h c => ⟨(h c).1.trans (by
        rw [(ha c).1, (ha c).2.1, (ha c).2.2]
        exact Cert.ReferenceFDownIdeal.Val.ref (entry_ent _) (entry_ent _) (entry_ent _)), (h c).2⟩)
      (Cert.ReferenceFDownIdeal.Value.run (F := Ideal) m' ρ')⟩

end Cert.Proof

end
-- ==== Proof.FOut.lean ====
/-
  The mixers' output projection, added to the stream: the tiled product is the product.
-/
module

public import proofs.«01_k».proof.Defs
public import proofs.«01_k».proof.Proof.Gen.FOutIdeal.Value
public import proofs.«01_k».proof.Proof.Gen.ReferenceFOutIdeal
public import proofs.«01_k».proof.Proof.Gen.ReferenceFOutIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.FOutIdeal.Val

open Idealize.ShloMosaic Idealize.ShloMosaic.TcCoe Idealize.SL.Sem Idealize.ShloMosaic.Tactic
open Cert.FOutIdeal Cert.FOutIdeal.Gen Cert.Dense
open Finset

variable {f g p : ℕ → ℕ → EReal}

theorem pay_ent {x : Vec Ideal S1024x1024 .bf16} {y : Vec Ideal S1024x1024 .bf16} {z : Vec Ideal S1024x1024 .f32}
    (hx : Ent (a := 1024) (b := 1024) x f) (hy : Ent (a := 1024) (b := 1024) y g) (hz : Ent (a := 1024) (b := 1024) z p) :
    Ent (a := 1024) (b := 1024) (k0_pay1 (F := Ideal) x y z) (fun r c => ∑ i ∈ range 1024, f r i * g i c + p r c) := fun j => by
  have e : matmul (F := Ideal) (φ₁ := .bf16) (φ₂ := .bf16) dot_S1024x1024_S1024x1024_S1024x1024_1_0_0_1_n_n none x y (constant S1024x1024 .f32 0x00000000#32) j
      = ∑ i ∈ range 1024, f (j 0).val i * g i (j 1).val :=
    (Ideal.matmul_constant_zero_apply (φ₁ := .bf16) (φ₂ := .bf16) dot_S1024x1024_S1024x1024_S1024x1024_1_0_0_1_n_n none x y j).trans
      (contr _ 1024 rfl rfl x y j (fun i => f (j 0).val i) (fun i => g i (j 1).val) (fun k => hx _) (fun k => hy _))
  have e' : k0_pay1 (F := Ideal) x y z = addf (matmul (F := Ideal) (φ₁ := .bf16) (φ₂ := .bf16) dot_S1024x1024_S1024x1024_S1024x1024_1_0_0_1_n_n none x y (constant S1024x1024 .f32 0x00000000#32)) z := by
    unfold k0_pay1; dsimp only; try rw [shapeCast_self]
  rw [e']
  show matmul (F := Ideal) (φ₁ := .bf16) (φ₂ := .bf16) dot_S1024x1024_S1024x1024_S1024x1024_1_0_0_1_n_n none x y (constant S1024x1024 .f32 0x00000000#32) j + z j = _
  rw [e, hz j]

theorem out_ent {x : Vec Ideal S1024x1024 .bf16} {y : Vec Ideal S1024x1024 .bf16} {z : Vec Ideal S1024x1024 .f32}
    (hx : Ent (a := 1024) (b := 1024) x f) (hy : Ent (a := 1024) (b := 1024) y g) (hz : Ent (a := 1024) (b := 1024) z p) :
    Ent (a := 1024) (b := 1024) (out0_3 (F := Ideal) x y z) (fun r c => ∑ i ∈ range 1024, f r i * g i c + p r c) := by
  have e : out0_3 (F := Ideal) x y z = k0_pay1 x y z := by frame_out
  rw [e]; exact pay_ent hx hy hz

variable (m : (ℓ : Loc nD τ sig) → Buf (Elt Ideal) ℓ) (c : Dev nD)

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)
theorem ix3 : ∀ t : Fin cfg0.N, win0_3.index t = ![t.val, 0] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val * 1024 + r) (s)) := fun y => by
  show m ((c.tc : Thread nD τ).loc main_arg0) ((win0_0.blk t).view.emb y) = _
  have e0 : ((win0_0.blk t).view.emb y 0).val = t.val * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 1024) (b := 1024) (m ((c.tc : Thread nD τ).loc main_arg1)) g) :
    Ent (a := 1024) (b := 1024) (iblk m c 1 t) (fun r s => g (r) (s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = (y 1).val := by blk_simp [ix1]
  refine (h ((win0_1.blk t).view.emb y)).trans ?_
  rw [e0, e1]

theorem in2 (t : Fin cfg0.N) (h : Ent (a := 4096) (b := 1024) (m ((c.tc : Thread nD τ).loc main_arg2)) p) :
    Ent (a := 1024) (b := 1024) (iblk m c 2 t) (fun r s => p (t.val * 1024 + r) (s)) := fun y => by
  show m ((c.tc : Thread nD τ).loc main_arg2) ((win0_2.blk t).view.emb y) = _
  have e0 : ((win0_2.blk t).view.emb y 0).val = t.val * 1024 + (y 0).val := by blk_simp [ix2]
  have e1 : ((win0_2.blk t).view.emb y 1).val = (y 1).val := by blk_simp [ix2]
  refine (h ((win0_2.blk t).view.emb y)).trans ?_
  rw [e0, e1]

variable {m c}

theorem arr (h0 : Ent (a := 4096) (b := 1024) (m ((c.tc : Thread nD τ).loc main_arg0)) f)
    (h1 : Ent (a := 1024) (b := 1024) (m ((c.tc : Thread nD τ).loc main_arg1)) g) (h2 : Ent (a := 4096) (b := 1024) (m ((c.tc : Thread nD τ).loc main_arg2)) p) :
    (dats m 0 c).arrAt 3 cfg0.N = fun i : S4096x1024.Idx => ∑ k ∈ range 1024, f (i 0).val k * g k (i 1).val + p (i 0).val (i 1).val := by
  refine (dats m 0 c).arrAt_eq_of_covers 3 _ (by decide +kernel) fun t _ y => ?_
  blk_simp [ix3]
  rw [after0_3, out_ent (in0 m c t h0) (in1 m c t h1) (in2 m c t h2) y]

end Cert.FOutIdeal.Val

namespace Cert.ReferenceFOutIdeal.Val

open Idealize.ShloMosaic
open Cert.ReferenceFOutIdeal Cert.ReferenceFOutIdeal.Gen Cert.Dense
open Finset

variable {f g p : ℕ → ℕ → EReal}

theorem dot {x : Vec Ideal S4096x1024 .bf16} {y : Vec Ideal S1024x1024 .bf16} (hx : Ent (a := 4096) (b := 1024) x f) (hy : Ent (a := 1024) (b := 1024) y g) (j) :
    Host.dotGeneral (F := Ideal) (φ₁ := .f32) (φ₂ := .f32) dot_S4096x1024_S1024x1024_S4096x1024_1_0_0_1_n_n none (extf (F := Ideal) .f32 x bitsLt_bf16_f32) (extf (F := Ideal) .f32 y bitsLt_bf16_f32) j
      = ∑ k ∈ range 1024, f (j 0).val k * g k (j 1).val :=
  (Ideal.dotGeneral_apply (φ₁ := .f32) (φ₂ := .f32) dot_S4096x1024_S1024x1024_S4096x1024_1_0_0_1_n_n none _ (extf (F := Ideal) .f32 x bitsLt_bf16_f32) (extf (F := Ideal) .f32 y bitsLt_bf16_f32) j).trans
    (contr _ 1024 rfl rfl (extf (F := Ideal) .f32 x bitsLt_bf16_f32) (extf (F := Ideal) .f32 y bitsLt_bf16_f32) j (fun i => f (j 0).val i) (fun i => g i (j 1).val) (fun k => hx _) (fun k => hy _))

theorem ref {x : Vec Ideal S4096x1024 .bf16} {y : Vec Ideal S1024x1024 .bf16} {z : Vec Ideal S4096x1024 .f32} (hx : Ent (a := 4096) (b := 1024) x f) (hy : Ent (a := 1024) (b := 1024) y g) (hz : Ent (a := 4096) (b := 1024) z p) :
    addf (F := Ideal) z (Host.dotGeneral (F := Ideal) (φ₁ := .f32) (φ₂ := .f32) dot_S4096x1024_S1024x1024_S4096x1024_1_0_0_1_n_n none (extf (F := Ideal) .f32 x bitsLt_bf16_f32) (extf (F := Ideal) .f32 y bitsLt_bf16_f32))
      = fun i : S4096x1024.Idx => ∑ k ∈ range 1024, f (i 0).val k * g k (i 1).val + p (i 0).val (i 1).val := funext fun j =>
  (congrArg₂ (fun u v : EReal => u + v) (hz j) (dot hx hy j)).trans (add_comm _ _)

end Cert.ReferenceFOutIdeal.Val

namespace Cert.Proof

open Idealize.ShloMosaic Idealize.SL.Sem Cert.Dense

theorem frame_RFOut : Cert.quiescent_ReferenceFOutIdeal (hReferenceFOutIdeal := Cert.ReferenceFOutIdeal.Gen.facts) := fun m ρ _ =>
  (θ_run Cert.ReferenceFOutIdeal.defs _ _).mono (fun r h => ⟨fun c => (h c).2, Idealize.ShloMosaic.sem_eq_zero_of_no_sems (by decide) r.2⟩)
    (Cert.ReferenceFOutIdeal.Value.run (F := Ideal) m ρ)

theorem algebraic_FOut : Cert.algebraic_FOutIdeal_ReferenceFOutIdeal (hFOutIdeal := Cert.FOutIdeal.Gen.facts)
    (hReferenceFOutIdeal := Cert.ReferenceFOutIdeal.Gen.facts) := fun m ρ m' ρ' _ ha =>
  ⟨_, (θ_run Cert.FOutIdeal.defs _ _).mono (fun r h c => ⟨(h c).1.trans (Cert.FOutIdeal.Val.arr (m := m) (c := c) (entry_ent _) (entry_ent _) (entry_ent _)), (h c).2⟩)
      (Cert.FOutIdeal.Value.run_blocks m ρ),
    (θ_run Cert.ReferenceFOutIdeal.defs _ _).mono (fun r h c => ⟨(h c).1.trans (by
        rw [(ha c).1, (ha c).2.1, (ha c).2.2]
        exact Cert.ReferenceFOutIdeal.Val.ref (entry_ent _) (entry_ent _) (entry_ent _)), (h c).2⟩)
      (Cert.ReferenceFOutIdeal.Value.run (F := Ideal) m' ρ')⟩

end Cert.Proof

end
-- ==== Proof.FQkv.lean ====
/-
  The attentions' input projection: the tiled product is the product.
-/
module

public import proofs.«01_k».proof.Defs
public import proofs.«01_k».proof.Proof.Gen.FQkvIdeal.Value
public import proofs.«01_k».proof.Proof.Gen.ReferenceFQkvIdeal
public import proofs.«01_k».proof.Proof.Gen.ReferenceFQkvIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.FQkvIdeal.Val

open Idealize.ShloMosaic Idealize.ShloMosaic.TcCoe Idealize.SL.Sem Idealize.ShloMosaic.Tactic
open Cert.FQkvIdeal Cert.FQkvIdeal.Gen Cert.Dense
open Finset

variable {f g p : ℕ → ℕ → EReal}

theorem pay_ent {x : Vec Ideal S1024x1024 .bf16} {y : Vec Ideal S1024x1152 .bf16} (hx : Ent (a := 1024) (b := 1024) x f) (hy : Ent (a := 1024) (b := 1152) y g) :
    Ent (a := 1024) (b := 1152) (k0_pay1 (F := Ideal) x y) (fun r c => ∑ i ∈ range 1024, f r i * g i c) := fun j =>
  (Ideal.matmul_constant_zero_apply (φ₁ := .bf16) (φ₂ := .bf16) dot_S1024x1024_S1024x1152_S1024x1152_1_0_0_1_n_n none x y j).trans
    (contr _ 1024 rfl rfl x y j (fun i => f (j 0).val i) (fun i => g i (j 1).val) (fun k => hx _) (fun k => hy _))

theorem out_ent {x : Vec Ideal S1024x1024 .bf16} {y : Vec Ideal S1024x1152 .bf16}
    (hx : Ent (a := 1024) (b := 1024) x f) (hy : Ent (a := 1024) (b := 1152) y g) :
    Ent (a := 1024) (b := 1152) (out0_2 (F := Ideal) x y) (fun r c => ∑ i ∈ range 1024, f r i * g i c) := by
  have e : out0_2 (F := Ideal) x y = k0_pay1 x y := by frame_out
  rw [e]; exact pay_ent hx hy

variable (m : (ℓ : Loc nD τ sig) → Buf (Elt Ideal) ℓ) (c : Dev nD)

theorem ix0 : ∀ t : Fin cfg0.N, win0_0.index t = ![t.val / 2, 0] := (by decide +kernel : ∀ t : Fin grid0.N, _)
theorem ix1 : ∀ t : Fin cfg0.N, win0_1.index t = ![0, t.val % 2] := (by decide +kernel : ∀ t : Fin grid0.N, _)
theorem ix2 : ∀ t : Fin cfg0.N, win0_2.index t = ![t.val / 2, t.val % 2] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val / 2 * 1024 + r) (s)) := fun y => by
  show m ((c.tc : Thread nD τ).loc main_arg0) ((win0_0.blk t).view.emb y) = _
  have e0 : ((win0_0.blk t).view.emb y 0).val = t.val / 2 * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 1024) (b := 2304) (m ((c.tc : Thread nD τ).loc main_arg1)) g) :
    Ent (a := 1024) (b := 1152) (iblk m c 1 t) (fun r s => g (r) (t.val % 2 * 1152 + s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = t.val % 2 * 1152 + (y 1).val := by blk_simp [ix1]
  refine (h ((win0_1.blk t).view.emb y)).trans ?_
  rw [e0, e1]

variable {m c}

theorem arr (h0 : Ent (a := 4096) (b := 1024) (m ((c.tc : Thread nD τ).loc main_arg0)) f)
    (h1 : Ent (a := 1024) (b := 2304) (m ((c.tc : Thread nD τ).loc main_arg1)) g) :
    (dats m 0 c).arrAt 2 cfg0.N = fun i : S4096x2304.Idx => ∑ k ∈ range 1024, f (i 0).val k * g k (i 1).val := by
  refine (dats m 0 c).arrAt_eq_of_covers 2 _ (by decide +kernel) fun t _ y => ?_
  blk_simp [ix2]
  rw [after0_2, out_ent (in0 m c t h0) (in1 m c t h1) y]

end Cert.FQkvIdeal.Val

namespace Cert.ReferenceFQkvIdeal.Val

open Idealize.ShloMosaic
open Cert.ReferenceFQkvIdeal Cert.ReferenceFQkvIdeal.Gen Cert.Dense
open Finset

variable {f g p : ℕ → ℕ → EReal}

theorem ref {x : Vec Ideal S4096x1024 .bf16} {y : Vec Ideal S1024x2304 .bf16} (hx : Ent (a := 4096) (b := 1024) x f) (hy : Ent (a := 1024) (b := 2304) y g) :
    truncf (F := Ideal) .bf16 (Host.dotGeneral (F := Ideal) (φ₁ := .f32) (φ₂ := .f32) dot_S4096x1024_S1024x2304_S4096x2304_1_0_0_1_n_n none (extf (F := Ideal) .f32 x bitsLt_bf16_f32) (extf (F := Ideal) .f32 y bitsLt_bf16_f32)) bitsLt_bf16_f32
      = fun i : S4096x2304.Idx => ∑ k ∈ range 1024, f (i 0).val k * g k (i 1).val := funext fun j => by
  have e : ∀ z : FVec Ideal S4096x2304 .f32, truncf (F := Ideal) .bf16 z bitsLt_bf16_f32 j = z j := fun _ => rfl
  refine (e _).trans ?_
  exact (Ideal.dotGeneral_apply (φ₁ := .f32) (φ₂ := .f32) dot_S4096x1024_S1024x2304_S4096x2304_1_0_0_1_n_n none _ (extf (F := Ideal) .f32 x bitsLt_bf16_f32) (extf (F := Ideal) .f32 y bitsLt_bf16_f32) j).trans
    (contr _ 1024 rfl rfl (extf (F := Ideal) .f32 x bitsLt_bf16_f32) (extf (F := Ideal) .f32 y bitsLt_bf16_f32) j (fun i => f (j 0).val i) (fun i => g i (j 1).val) (fun k => hx _) (fun k => hy _))

end Cert.ReferenceFQkvIdeal.Val

namespace Cert.Proof

open Idealize.ShloMosaic Idealize.SL.Sem Cert.Dense

theorem frame_RFQkv : Cert.quiescent_ReferenceFQkvIdeal (hReferenceFQkvIdeal := Cert.ReferenceFQkvIdeal.Gen.facts) := fun m ρ _ =>
  (θ_run Cert.ReferenceFQkvIdeal.defs _ _).mono (fun r h => ⟨fun c => (h c).2, Idealize.ShloMosaic.sem_eq_zero_of_no_sems (by decide) r.2⟩)
    (Cert.ReferenceFQkvIdeal.Value.run (F := Ideal) m ρ)

theorem algebraic_FQkv : Cert.algebraic_FQkvIdeal_ReferenceFQkvIdeal (hFQkvIdeal := Cert.FQkvIdeal.Gen.facts)
    (hReferenceFQkvIdeal := Cert.ReferenceFQkvIdeal.Gen.facts) := fun m ρ m' ρ' _ ha =>
  ⟨_, (θ_run Cert.FQkvIdeal.defs _ _).mono (fun r h c => ⟨(h c).1.trans (Cert.FQkvIdeal.Val.arr (m := m) (c := c) (entry_ent _) (entry_ent _)), (h c).2⟩)
      (Cert.FQkvIdeal.Value.run_blocks m ρ),
    (θ_run Cert.ReferenceFQkvIdeal.defs _ _).mono (fun r h c => ⟨(h c).1.trans (by
        rw [(ha c).1, (ha c).2]
        exact Cert.ReferenceFQkvIdeal.Val.ref (entry_ent _) (entry_ent _)), (h c).2⟩)
      (Cert.ReferenceFQkvIdeal.Value.run (F := Ideal) m' ρ')⟩

end Cert.Proof

end
-- ==== Proof.FUp.lean ====
/-
  Half of the up projection: the tiled product is the product.
-/
module

public import proofs.«01_k».proof.Defs
public import proofs.«01_k».proof.Proof.Gen.FUpIdeal.Value
public import proofs.«01_k».proof.Proof.Gen.ReferenceFUpIdeal
public import proofs.«01_k».proof.Proof.Gen.ReferenceFUpIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.FUpIdeal.Val

open Idealize.ShloMosaic Idealize.ShloMosaic.TcCoe Idealize.SL.Sem Idealize.ShloMosaic.Tactic
open Cert.FUpIdeal Cert.FUpIdeal.Gen Cert.Dense
open Finset

variable {f g p : ℕ → ℕ → EReal}

theorem pay_ent {x : Vec Ideal S1024x1024 .bf16} {y : Vec Ideal S1408x1024 .bf16} (hx : Ent (a := 1024) (b := 1024) x f) (hy : Ent (a := 1408) (b := 1024) y g) :
    Ent (a := 1024) (b := 1408) (k0_pay1 (F := Ideal) x y) (fun r c => ∑ i ∈ range 1024, f r i * g c i) := fun j =>
  (Ideal.matmul_constant_zero_apply (φ₁ := .bf16) (φ₂ := .bf16) dot_S1024x1024_S1408x1024_S1024x1408_1_1_0_0_n_n none x y j).trans
    (contr _ 1024 rfl rfl x y j (fun i => f (j 0).val i) (fun i => g (j 1).val i) (fun k => hx _) (fun k => hy _))

theorem out_ent {x : Vec Ideal S1024x1024 .bf16} {y : Vec Ideal S1408x1024 .bf16}
    (hx : Ent (a := 1024) (b := 1024) x f) (hy : Ent (a := 1408) (b := 1024) y g) :
    Ent (a := 1024) (b := 1408) (out0_2 (F := Ideal) x y) (fun r c => ∑ i ∈ range 1024, f r i * g c i) := by
  have e : out0_2 (F := Ideal) x y = k0_pay1 x y := by frame_out
  rw [e]; exact pay_ent hx hy

variable (m : (ℓ : Loc nD τ sig) → Buf (Elt Ideal) ℓ) (c : Dev nD)

theorem ix0 : ∀ t : Fin cfg0.N, win0_0.index t = ![t.val / 2, 0] := (by decide +kernel : ∀ t : Fin grid0.N, _)
theorem ix1 : ∀ t : Fin cfg0.N, win0_1.index t = ![t.val % 2, 0] := (by decide +kernel : ∀ t : Fin grid0.N, _)
theorem ix2 : ∀ t : Fin cfg0.N, win0_2.index t = ![t.val / 2, t.val % 2] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val / 2 * 1024 + r) (s)) := fun y => by
  show m ((c.tc : Thread nD τ).loc main_arg0) ((win0_0.blk t).view.emb y) = _
  have e0 : ((win0_0.blk t).view.emb y 0).val = t.val / 2 * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 2816) (b := 1024) (m ((c.tc : Thread nD τ).loc main_arg1)) g) :
    Ent (a := 1408) (b := 1024) (iblk m c 1 t) (fun r s => g (t.val % 2 * 1408 + r) (s)) := fun y => by
  show m ((c.tc : Thread nD τ).loc main_arg1) ((win0_1.blk t).view.emb y) = _
  have e0 : ((win0_1.blk t).view.emb y 0).val = t.val % 2 * 1408 + (y 0).val := by blk_simp [ix1]
  have e1 : ((win0_1.blk t).view.emb y 1).val = (y 1).val := by blk_simp [ix1]
  refine (h ((win0_1.blk t).view.emb y)).trans ?_
  rw [e0, e1]

variable {m c}

theorem arr (h0 : Ent (a := 4096) (b := 1024) (m ((c.tc : Thread nD τ).loc main_arg0)) f)
    (h1 : Ent (a := 2816) (b := 1024) (m ((c.tc : Thread nD τ).loc main_arg1)) g) :
    (dats m 0 c).arrAt 2 cfg0.N = fun i : S4096x2816.Idx => ∑ k ∈ range 1024, f (i 0).val k * g (i 1).val k := by
  refine (dats m 0 c).arrAt_eq_of_covers 2 _ (by decide +kernel) fun t _ y => ?_
  blk_simp [ix2]
  rw [after0_2, out_ent (in0 m c t h0) (in1 m c t h1) y]

end Cert.FUpIdeal.Val

namespace Cert.ReferenceFUpIdeal.Val

open Idealize.ShloMosaic
open Cert.ReferenceFUpIdeal Cert.ReferenceFUpIdeal.Gen Cert.Dense
open Finset

variable {f g p : ℕ → ℕ → EReal}

theorem ref {x : Vec Ideal S4096x1024 .bf16} {y : Vec Ideal S2816x1024 .bf16} (hx : Ent (a := 4096) (b := 1024) x f) (hy : Ent (a := 2816) (b := 1024) y g) :
    Host.dotGeneral (F := Ideal) (φ₁ := .f32) (φ₂ := .f32) dot_S4096x1024_S1024x2816_S4096x2816_1_0_0_1_n_n none (extf (F := Ideal) .f32 x bitsLt_bf16_f32) (transpose S1024x2816 [1, 0] (extf (F := Ideal) .f32 y bitsLt_bf16_f32) transposes_S2816x1024_S1024x2816_1_0)
      = fun i : S4096x2816.Idx => ∑ k ∈ range 1024, f (i 0).val k * g (i 1).val k := funext fun j =>
  (Ideal.dotGeneral_apply (φ₁ := .f32) (φ₂ := .f32) dot_S4096x1024_S1024x2816_S4096x2816_1_0_0_1_n_n none _ (extf (F := Ideal) .f32 x bitsLt_bf16_f32) (transpose S1024x2816 [1, 0] (extf (F := Ideal) .f32 y bitsLt_bf16_f32) transposes_S2816x1024_S1024x2816_1_0) j).trans
    (contr _ 1024 rfl rfl (extf (F := Ideal) .f32 x bitsLt_bf16_f32) (transpose S1024x2816 [1, 0] (extf (F := Ideal) .f32 y bitsLt_bf16_f32) transposes_S2816x1024_S1024x2816_1_0) j (fun i => f (j 0).val i) (fun i => g (j 1).val i) (fun k => hx _)
      (fun k => (transpose_apply [1, 0] _ transposes_S2816x1024_S1024x2816_1_0 _ (ValueIdx.ix2 (j 1) (show Fin 1024 from k ⟨0, Nat.zero_lt_one⟩)) (fun b => match b with
    | ⟨0, _⟩ => rfl
    | ⟨1, _⟩ => rfl)).trans (hy _)))

end Cert.ReferenceFUpIdeal.Val

namespace Cert.Proof

open Idealize.ShloMosaic Idealize.SL.Sem Cert.Dense

theorem frame_RFUp : Cert.quiescent_ReferenceFUpIdeal (hReferenceFUpIdeal := Cert.ReferenceFUpIdeal.Gen.facts) := fun m ρ _ =>
  (θ_run Cert.ReferenceFUpIdeal.defs _ _).mono (fun r h => ⟨fun c => (h c).2, Idealize.ShloMosaic.sem_eq_zero_of_no_sems (by decide) r.2⟩)
    (Cert.ReferenceFUpIdeal.Value.run (F := Ideal) m ρ)

theorem algebraic_FUp : Cert.algebraic_FUpIdeal_ReferenceFUpIdeal (hFUpIdeal := Cert.FUpIdeal.Gen.facts)
    (hReferenceFUpIdeal := Cert.ReferenceFUpIdeal.Gen.facts) := fun m ρ m' ρ' _ ha =>
  ⟨_, (θ_run Cert.FUpIdeal.defs _ _).mono (fun r h c => ⟨(h c).1.trans (Cert.FUpIdeal.Val.arr (m := m) (c := c) (entry_ent _) (entry_ent _)), (h c).2⟩)
      (Cert.FUpIdeal.Value.run_blocks m ρ),
    (θ_run Cert.ReferenceFUpIdeal.defs _ _).mono (fun r h c => ⟨(h c).1.trans (by
        rw [(ha c).1, (ha c).2]
        exact Cert.ReferenceFUpIdeal.Val.ref (entry_ent _) (entry_ent _)), (h c).2⟩)
      (Cert.ReferenceFUpIdeal.Value.run (F := Ideal) m' ρ')⟩

end Cert.Proof

end
-- ==== Proof.GAux.lean ====
/-
  The gradient of the recurrence's input projection: the tiled product is the product.
-/
module

public import proofs.«01_k».proof.Defs
public import proofs.«01_k».proof.Proof.Gen.GAuxIdeal.Value
public import proofs.«01_k».proof.Proof.Gen.ReferenceGAuxIdeal
public import proofs.«01_k».proof.Proof.Gen.ReferenceGAuxIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.GAuxIdeal.Val

open Idealize.ShloMosaic Idealize.ShloMosaic.TcCoe Idealize.SL.Sem Idealize.ShloMosaic.Tactic
open Cert.GAuxIdeal Cert.GAuxIdeal.Gen Cert.Dense
open Finset

variable {f g p : ℕ → ℕ → EReal}

theorem pay1_ent {x : Vec Ideal S1024x1024 .bf16} {y : Vec Ideal S1024x640 .f32} (hx : Ent (a := 1024) (b := 1024) x f) (hy : Ent (a := 1024) (b := 640) y g) :
    Ent (a := 1024) (b := 640) (k0_pay1 (F := Ideal) x y) (fun r c => ∑ i ∈ range 1024, f i r * g i c) := fun j =>
  (Ideal.matmul_constant_zero_apply (φ₁ := .bf16) (φ₂ := .bf16) dot_S1024x1024_S1024x640_S1024x640_0_0_1_1_n_n none x y j).trans
    (contr _ 1024 rfl rfl x y j (fun i => f i (j 0).val) (fun i => g i (j 1).val) (fun k => hx _) (fun k => hy _))

theorem pay2_ent {x : Vec Ideal S1024x1024 .bf16} {y : Vec Ideal S1024x640 .f32} (hx : Ent (a := 1024) (b := 1024) x f) (hy : Ent (a := 1024) (b := 640) y g) :
    Ent (a := 1024) (b := 640) (k0_pay2 (F := Ideal) x y) (fun r c => ∑ i ∈ range 1024, f i r * g i c) := by
  have e : k0_pay2 (F := Ideal) x y = k0_pay1 x y := shapeCast_self _ _
  rw [e]; exact pay1_ent hx hy

theorem pay3_ent {x : Vec Ideal S1024x1024 .bf16} {y : Vec Ideal S1024x640 .f32} {z : Vec Ideal S1024x640 .f32}
    (hx : Ent (a := 1024) (b := 1024) x f) (hy : Ent (a := 1024) (b := 640) y g) (hz : Ent (a := 1024) (b := 640) z p) :
    Ent (a := 1024) (b := 640) (k0_pay3 (F := Ideal) x y z) (fun r c => p r c + ∑ i ∈ range 1024, f i r * g i c) := by
  have e : k0_pay3 (F := Ideal) x y z = addf z (k0_pay1 x y) := shapeCast_self _ _
  rw [e]
  intro j
  show z j + k0_pay1 (F := Ideal) x y j = _
  rw [hz j, pay1_ent hx hy j]

section
variable (c : Dev nD) (i : grid0.Coords) (a3 : Memref sig .tc .vmem S1024x1024 .bf16) (h3 : a3.IsWhole) (a4 : Memref sig .tc .vmem S1024x640 .f32) (h4 : a4.IsWhole)
  (a5 : Memref sig .tc .vmem S1024x640 .bf16) (h5 : a5.IsWhole) (a6 : Memref sig .tc .vmem S1024x640 .f32) (h6 : a6.IsWhole)
  (x : Vec Ideal S1024x1024 .bf16) (y : Vec Ideal S1024x640 .f32) (z : Vec Ideal S1024x640 .f32)

theorem soutA (hc0 : cond0_0 i) (hc1 : ¬cond0_1 i) (hc2 : ¬cond0_2 i) :
    sout0_A_0 (F := Ideal) c i a3 h3 a4 h4 a5 h5 a6 h6 hc0 hc1 hc2 x y = k0_pay2 x y := by frame_out

theorem soutB (hc0 : ¬cond0_0 i) (hc1 : cond0_1 i) (hc2 : ¬cond0_2 i) :
    sout0_B_0 (F := Ideal) c i a3 h3 a4 h4 a5 h5 a6 h6 hc0 hc1 hc2 x y z = k0_pay3 x y z := by frame_out

theorem outC (hc0 : ¬cond0_0 i) (hc1 : cond0_1 i) (hc2 : cond0_2 i) :
    out0_C_2 (F := Ideal) c i a3 h3 a4 h4 a5 h5 a6 h6 hc0 hc1 hc2 x y z = k0_pay4 (k0_pay3 x y z) := by frame_out
end

variable (m : (ℓ : Loc nD τ sig) → Buf (Elt Ideal) ℓ) (c : Dev nD)

theorem ix0 : ∀ t : Fin cfg0.N, win0_0.index t = ![t.val % 4, 0] := (by decide +kernel : ∀ t : Fin grid0.N, _)
theorem ix1 : ∀ t : Fin cfg0.N, win0_1.index t = ![t.val % 4, 0] := (by decide +kernel : ∀ t : Fin grid0.N, _)
theorem ix2 : ∀ t : Fin cfg0.N, win0_2.index t = ![0, 0] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val % 4 * 1024 + r) (s)) := fun y => by
  show m ((c.tc : Thread nD τ).loc main_arg0) ((win0_0.blk t).view.emb y) = _
  have e0 : ((win0_0.blk t).view.emb y 0).val = t.val % 4 * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 4096) (b := 640) (m ((c.tc : Thread nD τ).loc main_arg1)) g) :
    Ent (a := 1024) (b := 640) (iblk m c 1 t) (fun r s => g (t.val % 4 * 1024 + r) (s)) := fun y => by
  show m ((c.tc : Thread nD τ).loc main_arg1) ((win0_1.blk t).view.emb y) = _
  have e0 : ((win0_1.blk t).view.emb y 0).val = t.val % 4 * 1024 + (y 0).val := by blk_simp [ix1]
  have e1 : ((win0_1.blk t).view.emb y 1).val = (y 1).val := by blk_simp [ix1]
  refine (h ((win0_1.blk t).view.emb y)).trans ?_
  rw [e0, e1]

variable {m c}
variable (h0 : Ent (a := 4096) (b := 1024) (m ((c.tc : Thread nD τ).loc main_arg0)) f) (h1 : Ent (a := 4096) (b := 640) (m ((c.tc : Thread nD τ).loc main_arg1)) g)

include h0 h1 in
/-- What the accumulator holds before the last of a block's four grid points. -/
theorem acc (q : ℕ) : ∀ j : ℕ, j < 3 → ∀ h : 4 * q + j < cfg0.N,
    Ent (a := 1024) (b := 640) (outsAt0 m c (4 * q + j) h).2 (fun r s => ∑ k ∈ range (1024 * (j + 1)), f k (r) * g k (s))
  | 0, _, h => fun y => by
    have hN := lt_of_lt_of_eq h (show cfg0.N = 4 from N_0)
    have e := congrArg Prod.snd (outsAt0_A m c ⟨4 * q, h⟩ (by dsimp only; omega) (by dsimp only; omega) (by dsimp only; omega))
    refine (congrFun e y).trans ?_
    dsimp only
    rw [soutA, pay2_ent (in0 m c ⟨4 * q, h⟩ h0) (in1 m c ⟨4 * q, h⟩ h1) y]
    simp only [show 4 * q % 4 = 0 by omega, show 4 * q / 4 = q by omega, Nat.zero_mul, Nat.zero_add, Nat.mul_one]
  | j + 1, hj, h => fun y => by
    have e := congrArg Prod.snd (outsAt0_B m c ⟨4 * q + (j + 1), h⟩ (by dsimp only; omega) (by dsimp only; omega) (by dsimp only; omega))
    refine (congrFun e y).trans ?_
    dsimp only
    have hs : Ent (a := 1024) (b := 640) (outsAt0 m c (4 * q + (j + 1) - 1) (Nat.lt_of_le_of_lt (Nat.sub_le _ _) h)).2 _ := acc q j (by omega) (by omega)
    rw [soutB, pay3_ent (in0 m c ⟨4 * q + (j + 1), h⟩ h0) (in1 m c ⟨4 * q + (j + 1), h⟩ h1) hs y, sum_step 1024 (j + 1)]
    simp only [show (4 * q + (j + 1)) % 4 = j + 1 by omega, show (4 * q + (j + 1)) / 4 = q by omega, Nat.mul_comm (j + 1) 1024]

include h0 h1 in
theorem arr : (dats m 0 c).arrAt 2 cfg0.N = fun i : S1024x640.Idx => ∑ k ∈ range 4096, f k (i 0).val * g k (i 1).val := by
  refine (dats m 0 c).arrAt_eq_of_covers 2 _ (by decide +kernel) fun t hf y => ?_
  have hm : t.val % 4 = 3 := (flush0_2 t).mp hf
  have hp : 4 * (t.val / 4) + 2 < cfg0.N := by have := lt_of_lt_of_eq t.isLt (show cfg0.N = 4 from N_0); rw [show cfg0.N = 4 from N_0]; omega
  have ht : t.val - 1 = 4 * (t.val / 4) + 2 := by omega
  have hs : Ent (a := 1024) (b := 640) (outsAt0 m c (t.val - 1) (Nat.lt_of_le_of_lt (Nat.sub_le _ _) t.isLt)).2
      (fun r s => ∑ k ∈ range (1024 * 3), f k (r) * g k (s)) := by
    have := acc h0 h1 (t.val / 4) 2 (by omega) hp
    simp only [← ht] at this
    exact this
  blk_simp [ix2]
  rw [after0_2, outsAt0_C m c t (by omega) (by omega) hm]
  dsimp only
  rw [outC]
  show k0_pay3 (F := Ideal) _ _ _ y = _
  rw [pay3_ent (in0 m c t h0) (in1 m c t h1) hs y, hm]
  exact (sum_step 1024 3 _).symm

end Cert.GAuxIdeal.Val

namespace Cert.ReferenceGAuxIdeal.Val

open Idealize.ShloMosaic
open Cert.ReferenceGAuxIdeal Cert.ReferenceGAuxIdeal.Gen Cert.Dense
open Finset

variable {f g p : ℕ → ℕ → EReal}

theorem ref {x : Vec Ideal S4096x1024 .bf16} {y : Vec Ideal S4096x640 .f32} (hx : Ent (a := 4096) (b := 1024) x f) (hy : Ent (a := 4096) (b := 640) y g) :
    truncf (F := Ideal) .bf16 (transpose S1024x640 [1, 0] (Host.dotGeneral (F := Ideal) (φ₁ := .f32) (φ₂ := .f32) dot_S4096x640_S4096x1024_S640x1024_0_0_1_1_n_n none y (extf (F := Ideal) .f32 x bitsLt_bf16_f32)) transposes_S640x1024_S1024x640_1_0) bitsLt_bf16_f32
      = fun i : S1024x640.Idx => ∑ k ∈ range 4096, f k (i 0).val * g k (i 1).val := funext fun j => by
  have e : ∀ z : FVec Ideal S1024x640 .f32, truncf (F := Ideal) .bf16 z bitsLt_bf16_f32 j = z j := fun _ => rfl
  refine (e _).trans ?_
  refine (transpose_apply [1, 0] _ transposes_S640x1024_S1024x640_1_0 j (ValueIdx.ix2 (j 1) (j 0)) (fun b => match b with
    | ⟨0, _⟩ => rfl
    | ⟨1, _⟩ => rfl)).trans ?_
  refine (Ideal.dotGeneral_apply (φ₁ := .f32) (φ₂ := .f32) dot_S4096x640_S4096x1024_S640x1024_0_0_1_1_n_n none _ y (extf (F := Ideal) .f32 x bitsLt_bf16_f32) _).trans ?_
  refine (contr dot_S4096x640_S4096x1024_S640x1024_0_0_1_1_n_n 4096 rfl rfl y x (ValueIdx.ix2 (j 1) (j 0)) (fun i => g i (j 1).val) (fun i => f i (j 0).val) (fun k => hy _) (fun k => hx _)).trans ?_
  exact Finset.sum_congr rfl fun k _ => mul_comm _ _

end Cert.ReferenceGAuxIdeal.Val

namespace Cert.Proof

open Idealize.ShloMosaic Idealize.SL.Sem Cert.Dense

theorem frame_RGAux : Cert.quiescent_ReferenceGAuxIdeal (hReferenceGAuxIdeal := Cert.ReferenceGAuxIdeal.Gen.facts) := fun m ρ _ =>
  (θ_run Cert.ReferenceGAuxIdeal.defs _ _).mono (fun r h => ⟨fun c => (h c).2, Idealize.ShloMosaic.sem_eq_zero_of_no_sems (by decide) r.2⟩)
    (Cert.ReferenceGAuxIdeal.Value.run (F := Ideal) m ρ)

theorem algebraic_GAux : Cert.algebraic_GAuxIdeal_ReferenceGAuxIdeal (hGAuxIdeal := Cert.GAuxIdeal.Gen.facts)
    (hReferenceGAuxIdeal := Cert.ReferenceGAuxIdeal.Gen.facts) := fun m ρ m' ρ' _ ha =>
  ⟨_, (θ_run Cert.GAuxIdeal.defs _ _).mono (fun r h c => ⟨(h c).1.trans (Cert.GAuxIdeal.Val.arr (m := m) (c := c) (entry_ent _) (entry_ent _)), (h c).2⟩)
      (Cert.GAuxIdeal.Value.run_blocks m ρ),
    (θ_run Cert.ReferenceGAuxIdeal.defs _ _).mono (fun r h c => ⟨(h c).1.trans (by
        rw [(ha c).1, (ha c).2]
        exact Cert.ReferenceGAuxIdeal.Val.ref (entry_ent _) (entry_ent _)), (h c).2⟩)
      (Cert.ReferenceGAuxIdeal.Value.run (F := Ideal) m' ρ')⟩

end Cert.Proof

end
-- ==== Proof.GCkv.lean ====
/-
  The gradient of the cross-attention's key and value projections: the tiled product is the product.
-/
module

public import proofs.«01_k».proof.Defs
public import proofs.«01_k».proof.Proof.Gen.GCkvIdeal.Value
public import proofs.«01_k».proof.Proof.Gen.ReferenceGCkvIdeal
public import proofs.«01_k».proof.Proof.Gen.ReferenceGCkvIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.GCkvIdeal.Val

open Idealize.ShloMosaic Idealize.ShloMosaic.TcCoe Idealize.SL.Sem Idealize.ShloMosaic.Tactic
open Cert.GCkvIdeal Cert.GCkvIdeal.Gen Cert.Dense
open Finset

variable {f g p : ℕ → ℕ → EReal}

theorem pay_ent {x : Vec Ideal S512x1024 .bf16} {y : Vec Ideal S512x512 .f32} (hx : Ent (a := 512) (b := 1024) x f) (hy : Ent (a := 512) (b := 512) y g) :
    Ent (a := 1024) (b := 512) (k0_pay1 (F := Ideal) x y) (fun r c => ∑ i ∈ range 512, f i r * g i c) := fun j =>
  (Ideal.matmul_constant_zero_apply (φ₁ := .bf16) (φ₂ := .bf16) dot_S512x1024_S512x512_S1024x512_0_0_1_1_n_n none x y j).trans
    (contr _ 512 rfl rfl x y j (fun i => f i (j 0).val) (fun i => g i (j 1).val) (fun k => hx _) (fun k => hy _))

theorem out_ent {x : Vec Ideal S512x1024 .bf16} {y : Vec Ideal S512x512 .f32}
    (hx : Ent (a := 512) (b := 1024) x f) (hy : Ent (a := 512) (b := 512) y g) :
    Ent (a := 1024) (b := 512) (out0_2 (F := Ideal) x y) (fun r c => ∑ i ∈ range 512, f i r * g i c) := by
  have e : out0_2 (F := Ideal) x y = k0_pay1 x y := by frame_out
  rw [e]; exact pay_ent hx hy

variable (m : (ℓ : Loc nD τ sig) → Buf (Elt Ideal) ℓ) (c : Dev nD)

theorem ix0 : ∀ t : Fin cfg0.N, win0_0.index t = ![0, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![0, 0] := (by decide +kernel : ∀ t : Fin grid0.N, _)

theorem in0 (t : Fin cfg0.N) (h : Ent (a := 512) (b := 1024) (m ((c.tc : Thread nD τ).loc main_arg0)) f) :
    Ent (a := 512) (b := 1024) (iblk m c 0 t) (fun r s => f (r) (s)) := fun y => by
  show m ((c.tc : Thread nD τ).loc main_arg0) ((win0_0.blk t).view.emb y) = _
  have e0 : ((win0_0.blk t).view.emb y 0).val = (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 512) (b := 512) (m ((c.tc : Thread nD τ).loc main_arg1)) g) :
    Ent (a := 512) (b := 512) (iblk m c 1 t) (fun r s => g (r) (s)) := fun y => by
  show m ((c.tc : Thread nD τ).loc main_arg1) ((win0_1.blk t).view.emb y) = _
  have e0 : ((win0_1.blk t).view.emb y 0).val = (y 0).val := by blk_simp [ix1]
  have e1 : ((win0_1.blk t).view.emb y 1).val = (y 1).val := by blk_simp [ix1]
  refine (h ((win0_1.blk t).view.emb y)).trans ?_
  rw [e0, e1]

variable {m c}

theorem arr (h0 : Ent (a := 512) (b := 1024) (m ((c.tc : Thread nD τ).loc main_arg0)) f)
    (h1 : Ent (a := 512) (b := 512) (m ((c.tc : Thread nD τ).loc main_arg1)) g) :
    (dats m 0 c).arrAt 2 cfg0.N = fun i : S1024x512.Idx => ∑ k ∈ range 512, f k (i 0).val * g k (i 1).val := by
  refine (dats m 0 c).arrAt_eq_of_covers 2 _ (by decide +kernel) fun t _ y => ?_
  blk_simp [ix2]
  rw [after0_2, out_ent (in0 m c t h0) (in1 m c t h1) y]

end Cert.GCkvIdeal.Val

namespace Cert.ReferenceGCkvIdeal.Val

open Idealize.ShloMosaic
open Cert.ReferenceGCkvIdeal Cert.ReferenceGCkvIdeal.Gen Cert.Dense
open Finset

variable {f g p : ℕ → ℕ → EReal}

theorem ref {x : Vec Ideal S512x1024 .bf16} {y : Vec Ideal S512x512 .f32} (hx : Ent (a := 512) (b := 1024) x f) (hy : Ent (a := 512) (b := 512) y g) :
    truncf (F := Ideal) .bf16 (transpose S1024x512 [1, 0] (Host.dotGeneral (F := Ideal) (φ₁ := .f32) (φ₂ := .f32) dot_S512x512_S512x1024_S512x1024_0_0_1_1_n_n none y (extf (F := Ideal) .f32 x bitsLt_bf16_f32)) transposes_S512x1024_S1024x512_1_0) bitsLt_bf16_f32
      = fun i : S1024x512.Idx => ∑ k ∈ range 512, f k (i 0).val * g k (i 1).val := funext fun j => by
  have e : ∀ z : FVec Ideal S1024x512 .f32, truncf (F := Ideal) .bf16 z bitsLt_bf16_f32 j = z j := fun _ => rfl
  refine (e _).trans ?_
  refine (transpose_apply [1, 0] _ transposes_S512x1024_S1024x512_1_0 j (ValueIdx.ix2 (j 1) (j 0)) (fun b => match b with
    | ⟨0, _⟩ => rfl
    | ⟨1, _⟩ => rfl)).trans ?_
  refine (Ideal.dotGeneral_apply (φ₁ := .f32) (φ₂ := .f32) dot_S512x512_S512x1024_S512x1024_0_0_1_1_n_n none _ y (extf (F := Ideal) .f32 x bitsLt_bf16_f32) _).trans ?_
  refine (contr dot_S512x512_S512x1024_S512x1024_0_0_1_1_n_n 512 rfl rfl y x (ValueIdx.ix2 (j 1) (j 0)) (fun i => g i (j 1).val) (fun i => f i (j 0).val) (fun k => hy _) (fun k => hx _)).trans ?_
  exact Finset.sum_congr rfl fun k _ => mul_comm _ _

end Cert.ReferenceGCkvIdeal.Val

namespace Cert.Proof

open Idealize.ShloMosaic Idealize.SL.Sem Cert.Dense

theorem frame_RGCkv : Cert.quiescent_ReferenceGCkvIdeal (hReferenceGCkvIdeal := Cert.ReferenceGCkvIdeal.Gen.facts) := fun m ρ _ =>
  (θ_run Cert.ReferenceGCkvIdeal.defs _ _).mono (fun r h => ⟨fun c => (h c).2, Idealize.ShloMosaic.sem_eq_zero_of_no_sems (by decide) r.2⟩)
    (Cert.ReferenceGCkvIdeal.Value.run (F := Ideal) m ρ)

theorem algebraic_GCkv : Cert.algebraic_GCkvIdeal_ReferenceGCkvIdeal (hGCkvIdeal := Cert.GCkvIdeal.Gen.facts)
    (hReferenceGCkvIdeal := Cert.ReferenceGCkvIdeal.Gen.facts) := fun m ρ m' ρ' _ ha =>
  ⟨_, (θ_run Cert.GCkvIdeal.defs _ _).mono (fun r h c => ⟨(h c).1.trans (Cert.GCkvIdeal.Val.arr (m := m) (c := c) (entry_ent _) (entry_ent _)), (h c).2⟩)
      (Cert.GCkvIdeal.Value.run_blocks m ρ),
    (θ_run Cert.ReferenceGCkvIdeal.defs _ _).mono (fun r h c => ⟨(h c).1.trans (by
        rw [(ha c).1, (ha c).2]
        exact Cert.ReferenceGCkvIdeal.Val.ref (entry_ent _) (entry_ent _)), (h c).2⟩)
      (Cert.ReferenceGCkvIdeal.Value.run (F := Ideal) m' ρ')⟩

end Cert.Proof

end
-- ==== Proof.GCo.lean ====
/-
  The gradient of the cross-attention's output projection: the tiled product is the product.
-/
module

public import proofs.«01_k».proof.Defs
public import proofs.«01_k».proof.Proof.Gen.GCoIdeal.Value
public import proofs.«01_k».proof.Proof.Gen.ReferenceGCoIdeal
public import proofs.«01_k».proof.Proof.Gen.ReferenceGCoIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.GCoIdeal.Val

open Idealize.ShloMosaic Idealize.ShloMosaic.TcCoe Idealize.SL.Sem Idealize.ShloMosaic.Tactic
open Cert.GCoIdeal Cert.GCoIdeal.Gen Cert.Dense
open Finset

variable {f g p : ℕ → ℕ → EReal}

theorem pay1_ent {x : Vec Ideal S1024x1024 .f32} {y : Vec Ideal S1024x256 .bf16} (hx : Ent (a := 1024) (b := 1024) x f) (hy : Ent (a := 1024) (b := 256) y g) :
    Ent (a := 1024) (b := 256) (k0_pay1 (F := Ideal) x y) (fun r c => ∑ i ∈ range 1024, f i r * g i c) := fun j =>
  (Ideal.matmul_constant_zero_apply (φ₁ := .bf16) (φ₂ := .bf16) dot_S1024x1024_S1024x256_S1024x256_0_0_1_1_n_n none x y j).trans
    (contr _ 1024 rfl rfl x y j (fun i => f i (j 0).val) (fun i => g i (j 1).val) (fun k => hx _) (fun k => hy _))

theorem pay2_ent {x : Vec Ideal S1024x1024 .f32} {y : Vec Ideal S1024x256 .bf16} (hx : Ent (a := 1024) (b := 1024) x f) (hy : Ent (a := 1024) (b := 256) y g) :
    Ent (a := 1024) (b := 256) (k0_pay2 (F := Ideal) x y) (fun r c => ∑ i ∈ range 1024, f i r * g i c) := by
  have e : k0_pay2 (F := Ideal) x y = k0_pay1 x y := shapeCast_self _ _
  rw [e]; exact pay1_ent hx hy

theorem pay3_ent {x : Vec Ideal S1024x1024 .f32} {y : Vec Ideal S1024x256 .bf16} {z : Vec Ideal S1024x256 .f32}
    (hx : Ent (a := 1024) (b := 1024) x f) (hy : Ent (a := 1024) (b := 256) y g) (hz : Ent (a := 1024) (b := 256) z p) :
    Ent (a := 1024) (b := 256) (k0_pay3 (F := Ideal) x y z) (fun r c => p r c + ∑ i ∈ range 1024, f i r * g i c) := by
  have e : k0_pay3 (F := Ideal) x y z = addf z (k0_pay1 x y) := shapeCast_self _ _
  rw [e]
  intro j
  show z j + k0_pay1 (F := Ideal) x y j = _
  rw [hz j, pay1_ent hx hy j]

section
variable (c : Dev nD) (i : grid0.Coords) (a3 : Memref sig .tc .vmem S1024x1024 .f32) (h3 : a3.IsWhole) (a4 : Memref sig .tc .vmem S1024x256 .bf16) (h4 : a4.IsWhole)
  (a5 : Memref sig .tc .vmem S1024x256 .bf16) (h5 : a5.IsWhole) (a6 : Memref sig .tc .vmem S1024x256 .f32) (h6 : a6.IsWhole)
  (x : Vec Ideal S1024x1024 .f32) (y : Vec Ideal S1024x256 .bf16) (z : Vec Ideal S1024x256 .f32)

theorem soutA (hc0 : cond0_0 i) (hc1 : ¬cond0_1 i) (hc2 : ¬cond0_2 i) :
    sout0_A_0 (F := Ideal) c i a3 h3 a4 h4 a5 h5 a6 h6 hc0 hc1 hc2 x y = k0_pay2 x y := by frame_out

theorem soutB (hc0 : ¬cond0_0 i) (hc1 : cond0_1 i) (hc2 : ¬cond0_2 i) :
    sout0_B_0 (F := Ideal) c i a3 h3 a4 h4 a5 h5 a6 h6 hc0 hc1 hc2 x y z = k0_pay3 x y z := by frame_out

theorem outC (hc0 : ¬cond0_0 i) (hc1 : cond0_1 i) (hc2 : cond0_2 i) :
    out0_C_2 (F := Ideal) c i a3 h3 a4 h4 a5 h5 a6 h6 hc0 hc1 hc2 x y z = k0_pay4 (k0_pay3 x y z) := by frame_out
end

variable (m : (ℓ : Loc nD τ sig) → Buf (Elt Ideal) ℓ) (c : Dev nD)

theorem ix0 : ∀ t : Fin cfg0.N, win0_0.index t = ![t.val % 4, 0] := (by decide +kernel : ∀ t : Fin grid0.N, _)
theorem ix1 : ∀ t : Fin cfg0.N, win0_1.index t = ![t.val % 4, 0] := (by decide +kernel : ∀ t : Fin grid0.N, _)
theorem ix2 : ∀ t : Fin cfg0.N, win0_2.index t = ![0, 0] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val % 4 * 1024 + r) (s)) := fun y => by
  show m ((c.tc : Thread nD τ).loc main_arg0) ((win0_0.blk t).view.emb y) = _
  have e0 : ((win0_0.blk t).view.emb y 0).val = t.val % 4 * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 4096) (b := 256) (m ((c.tc : Thread nD τ).loc main_arg1)) g) :
    Ent (a := 1024) (b := 256) (iblk m c 1 t) (fun r s => g (t.val % 4 * 1024 + r) (s)) := fun y => by
  show m ((c.tc : Thread nD τ).loc main_arg1) ((win0_1.blk t).view.emb y) = _
  have e0 : ((win0_1.blk t).view.emb y 0).val = t.val % 4 * 1024 + (y 0).val := by blk_simp [ix1]
  have e1 : ((win0_1.blk t).view.emb y 1).val = (y 1).val := by blk_simp [ix1]
  refine (h ((win0_1.blk t).view.emb y)).trans ?_
  rw [e0, e1]

variable {m c}
variable (h0 : Ent (a := 4096) (b := 1024) (m ((c.tc : Thread nD τ).loc main_arg0)) f) (h1 : Ent (a := 4096) (b := 256) (m ((c.tc : Thread nD τ).loc main_arg1)) g)

include h0 h1 in
/-- What the accumulator holds before the last of a block's four grid points. -/
theorem acc (q : ℕ) : ∀ j : ℕ, j < 3 → ∀ h : 4 * q + j < cfg0.N,
    Ent (a := 1024) (b := 256) (outsAt0 m c (4 * q + j) h).2 (fun r s => ∑ k ∈ range (1024 * (j + 1)), f k (r) * g k (s))
  | 0, _, h => fun y => by
    have hN := lt_of_lt_of_eq h (show cfg0.N = 4 from N_0)
    have e := congrArg Prod.snd (outsAt0_A m c ⟨4 * q, h⟩ (by dsimp only; omega) (by dsimp only; omega) (by dsimp only; omega))
    refine (congrFun e y).trans ?_
    dsimp only
    rw [soutA, pay2_ent (in0 m c ⟨4 * q, h⟩ h0) (in1 m c ⟨4 * q, h⟩ h1) y]
    simp only [show 4 * q % 4 = 0 by omega, show 4 * q / 4 = q by omega, Nat.zero_mul, Nat.zero_add, Nat.mul_one]
  | j + 1, hj, h => fun y => by
    have e := congrArg Prod.snd (outsAt0_B m c ⟨4 * q + (j + 1), h⟩ (by dsimp only; omega) (by dsimp only; omega) (by dsimp only; omega))
    refine (congrFun e y).trans ?_
    dsimp only
    have hs : Ent (a := 1024) (b := 256) (outsAt0 m c (4 * q + (j + 1) - 1) (Nat.lt_of_le_of_lt (Nat.sub_le _ _) h)).2 _ := acc q j (by omega) (by omega)
    rw [soutB, pay3_ent (in0 m c ⟨4 * q + (j + 1), h⟩ h0) (in1 m c ⟨4 * q + (j + 1), h⟩ h1) hs y, sum_step 1024 (j + 1)]
    simp only [show (4 * q + (j + 1)) % 4 = j + 1 by omega, show (4 * q + (j + 1)) / 4 = q by omega, Nat.mul_comm (j + 1) 1024]

include h0 h1 in
theorem arr : (dats m 0 c).arrAt 2 cfg0.N = fun i : S1024x256.Idx => ∑ k ∈ range 4096, f k (i 0).val * g k (i 1).val := by
  refine (dats m 0 c).arrAt_eq_of_covers 2 _ (by decide +kernel) fun t hf y => ?_
  have hm : t.val % 4 = 3 := (flush0_2 t).mp hf
  have hp : 4 * (t.val / 4) + 2 < cfg0.N := by have := lt_of_lt_of_eq t.isLt (show cfg0.N = 4 from N_0); rw [show cfg0.N = 4 from N_0]; omega
  have ht : t.val - 1 = 4 * (t.val / 4) + 2 := by omega
  have hs : Ent (a := 1024) (b := 256) (outsAt0 m c (t.val - 1) (Nat.lt_of_le_of_lt (Nat.sub_le _ _) t.isLt)).2
      (fun r s => ∑ k ∈ range (1024 * 3), f k (r) * g k (s)) := by
    have := acc h0 h1 (t.val / 4) 2 (by omega) hp
    simp only [← ht] at this
    exact this
  blk_simp [ix2]
  rw [after0_2, outsAt0_C m c t (by omega) (by omega) hm]
  dsimp only
  rw [outC]
  show k0_pay3 (F := Ideal) _ _ _ y = _
  rw [pay3_ent (in0 m c t h0) (in1 m c t h1) hs y, hm]
  exact (sum_step 1024 3 _).symm

end Cert.GCoIdeal.Val

namespace Cert.ReferenceGCoIdeal.Val

open Idealize.ShloMosaic
open Cert.ReferenceGCoIdeal Cert.ReferenceGCoIdeal.Gen Cert.Dense
open Finset

variable {f g p : ℕ → ℕ → EReal}

theorem ref {x : Vec Ideal S4096x1024 .f32} {y : Vec Ideal S4096x256 .bf16} (hx : Ent (a := 4096) (b := 1024) x f) (hy : Ent (a := 4096) (b := 256) y g) :
    truncf (F := Ideal) .bf16 (transpose S1024x256 [1, 0] (transpose S256x1024 [1, 0] (Host.dotGeneral (F := Ideal) (φ₁ := .f32) (φ₂ := .f32) dot_S4096x1024_S4096x256_S1024x256_0_0_1_1_n_n none x (extf (F := Ideal) .f32 y bitsLt_bf16_f32)) transposes_S1024x256_S256x1024_1_0) transposes_S256x1024_S1024x256_1_0) bitsLt_bf16_f32
      = fun i : S1024x256.Idx => ∑ k ∈ range 4096, f k (i 0).val * g k (i 1).val := funext fun j => by
  have e : ∀ z : FVec Ideal S1024x256 .f32, truncf (F := Ideal) .bf16 z bitsLt_bf16_f32 j = z j := fun _ => rfl
  refine (e _).trans ?_
  refine (transpose_apply [1, 0] _ transposes_S256x1024_S1024x256_1_0 j (ValueIdx.ix2 (j 1) (j 0)) (fun b => match b with
    | ⟨0, _⟩ => rfl
    | ⟨1, _⟩ => rfl)).trans ?_
  refine (transpose_apply [1, 0] _ transposes_S1024x256_S256x1024_1_0 (ValueIdx.ix2 (j 1) (j 0)) j (fun b => match b with
    | ⟨0, _⟩ => rfl
    | ⟨1, _⟩ => rfl)).trans ?_
  exact (Ideal.dotGeneral_apply (φ₁ := .f32) (φ₂ := .f32) dot_S4096x1024_S4096x256_S1024x256_0_0_1_1_n_n none _ x (extf (F := Ideal) .f32 y bitsLt_bf16_f32) j).trans
    (contr _ 4096 rfl rfl x (extf (F := Ideal) .f32 y bitsLt_bf16_f32) j (fun i => f i (j 0).val) (fun i => g i (j 1).val) (fun k => hx _) (fun k => hy _))

end Cert.ReferenceGCoIdeal.Val

namespace Cert.Proof

open Idealize.ShloMosaic Idealize.SL.Sem Cert.Dense

theorem frame_RGCo : Cert.quiescent_ReferenceGCoIdeal (hReferenceGCoIdeal := Cert.ReferenceGCoIdeal.Gen.facts) := fun m ρ _ =>
  (θ_run Cert.ReferenceGCoIdeal.defs _ _).mono (fun r h => ⟨fun c => (h c).2, Idealize.ShloMosaic.sem_eq_zero_of_no_sems (by decide) r.2⟩)
    (Cert.ReferenceGCoIdeal.Value.run (F := Ideal) m ρ)

theorem algebraic_GCo : Cert.algebraic_GCoIdeal_ReferenceGCoIdeal (hGCoIdeal := Cert.GCoIdeal.Gen.facts)
    (hReferenceGCoIdeal := Cert.ReferenceGCoIdeal.Gen.facts) := fun m ρ m' ρ' _ ha =>
  ⟨_, (θ_run Cert.GCoIdeal.defs _ _).mono (fun r h c => ⟨(h c).1.trans (Cert.GCoIdeal.Val.arr (m := m) (c := c) (entry_ent _) (entry_ent _)), (h c).2⟩)
      (Cert.GCoIdeal.Value.run_blocks m ρ),
    (θ_run Cert.ReferenceGCoIdeal.defs _ _).mono (fun r h c => ⟨(h c).1.trans (by
        rw [(ha c).1, (ha c).2]
        exact Cert.ReferenceGCoIdeal.Val.ref (entry_ent _) (entry_ent _)), (h c).2⟩)
      (Cert.ReferenceGCoIdeal.Value.run (F := Ideal) m' ρ')⟩

end Cert.Proof

end
-- ==== Proof.GCq.lean ====
/-
  The gradient of the cross-attention's query projection: the tiled product is the product.
-/
module

public import proofs.«01_k».proof.Defs
public import proofs.«01_k».proof.Proof.Gen.GCqIdeal.Value
public import proofs.«01_k».proof.Proof.Gen.ReferenceGCqIdeal
public import proofs.«01_k».proof.Proof.Gen.ReferenceGCqIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.GCqIdeal.Val

open Idealize.ShloMosaic Idealize.ShloMosaic.TcCoe Idealize.SL.Sem Idealize.ShloMosaic.Tactic
open Cert.GCqIdeal Cert.GCqIdeal.Gen Cert.Dense
open Finset

variable {f g p : ℕ → ℕ → EReal}

theorem pay1_ent {x : Vec Ideal S1024x1024 .bf16} {y : Vec Ideal S1024x256 .bf16} (hx : Ent (a := 1024) (b := 1024) x f) (hy : Ent (a := 1024) (b := 256) y g) :
    Ent (a := 1024) (b := 256) (k0_pay1 (F := Ideal) x y) (fun r c => ∑ i ∈ range 1024, f i r * g i c) := fun j =>
  (Ideal.matmul_constant_zero_apply (φ₁ := .bf16) (φ₂ := .bf16) dot_S1024x1024_S1024x256_S1024x256_0_0_1_1_n_n none x y j).trans
    (contr _ 1024 rfl rfl x y j (fun i => f i (j 0).val) (fun i => g i (j 1).val) (fun k => hx _) (fun k => hy _))

theorem pay2_ent {x : Vec Ideal S1024x1024 .bf16} {y : Vec Ideal S1024x256 .bf16} (hx : Ent (a := 1024) (b := 1024) x f) (hy : Ent (a := 1024) (b := 256) y g) :
    Ent (a := 1024) (b := 256) (k0_pay2 (F := Ideal) x y) (fun r c => ∑ i ∈ range 1024, f i r * g i c) := by
  have e : k0_pay2 (F := Ideal) x y = k0_pay1 x y := shapeCast_self _ _
  rw [e]; exact pay1_ent hx hy

theorem pay3_ent {x : Vec Ideal S1024x1024 .bf16} {y : Vec Ideal S1024x256 .bf16} {z : Vec Ideal S1024x256 .f32}
    (hx : Ent (a := 1024) (b := 1024) x f) (hy : Ent (a := 1024) (b := 256) y g) (hz : Ent (a := 1024) (b := 256) z p) :
    Ent (a := 1024) (b := 256) (k0_pay3 (F := Ideal) x y z) (fun r c => p r c + ∑ i ∈ range 1024, f i r * g i c) := by
  have e : k0_pay3 (F := Ideal) x y z = addf z (k0_pay1 x y) := shapeCast_self _ _
  rw [e]
  intro j
  show z j + k0_pay1 (F := Ideal) x y j = _
  rw [hz j, pay1_ent hx hy j]

section
variable (c : Dev nD) (i : grid0.Coords) (a3 : Memref sig .tc .vmem S1024x1024 .bf16) (h3 : a3.IsWhole) (a4 : Memref sig .tc .vmem S1024x256 .bf16) (h4 : a4.IsWhole)
  (a5 : Memref sig .tc .vmem S1024x256 .bf16) (h5 : a5.IsWhole) (a6 : Memref sig .tc .vmem S1024x256 .f32) (h6 : a6.IsWhole)
  (x : Vec Ideal S1024x1024 .bf16) (y : Vec Ideal S1024x256 .bf16) (z : Vec Ideal S1024x256 .f32)

theorem soutA (hc0 : cond0_0 i) (hc1 : ¬cond0_1 i) (hc2 : ¬cond0_2 i) :
    sout0_A_0 (F := Ideal) c i a3 h3 a4 h4 a5 h5 a6 h6 hc0 hc1 hc2 x y = k0_pay2 x y := by frame_out

theorem soutB (hc0 : ¬cond0_0 i) (hc1 : cond0_1 i) (hc2 : ¬cond0_2 i) :
    sout0_B_0 (F := Ideal) c i a3 h3 a4 h4 a5 h5 a6 h6 hc0 hc1 hc2 x y z = k0_pay3 x y z := by frame_out

theorem outC (hc0 : ¬cond0_0 i) (hc1 : cond0_1 i) (hc2 : cond0_2 i) :
    out0_C_2 (F := Ideal) c i a3 h3 a4 h4 a5 h5 a6 h6 hc0 hc1 hc2 x y z = k0_pay4 (k0_pay3 x y z) := by frame_out
end

variable (m : (ℓ : Loc nD τ sig) → Buf (Elt Ideal) ℓ) (c : Dev nD)

theorem ix0 : ∀ t : Fin cfg0.N, win0_0.index t = ![t.val % 4, 0] := (by decide +kernel : ∀ t : Fin grid0.N, _)
theorem ix1 : ∀ t : Fin cfg0.N, win0_1.index t = ![t.val % 4, 0] := (by decide +kernel : ∀ t : Fin grid0.N, _)
theorem ix2 : ∀ t : Fin cfg0.N, win0_2.index t = ![0, 0] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val % 4 * 1024 + r) (s)) := fun y => by
  show m ((c.tc : Thread nD τ).loc main_arg0) ((win0_0.blk t).view.emb y) = _
  have e0 : ((win0_0.blk t).view.emb y 0).val = t.val % 4 * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 4096) (b := 256) (m ((c.tc : Thread nD τ).loc main_arg1)) g) :
    Ent (a := 1024) (b := 256) (iblk m c 1 t) (fun r s => g (t.val % 4 * 1024 + r) (s)) := fun y => by
  show m ((c.tc : Thread nD τ).loc main_arg1) ((win0_1.blk t).view.emb y) = _
  have e0 : ((win0_1.blk t).view.emb y 0).val = t.val % 4 * 1024 + (y 0).val := by blk_simp [ix1]
  have e1 : ((win0_1.blk t).view.emb y 1).val = (y 1).val := by blk_simp [ix1]
  refine (h ((win0_1.blk t).view.emb y)).trans ?_
  rw [e0, e1]

variable {m c}
variable (h0 : Ent (a := 4096) (b := 1024) (m ((c.tc : Thread nD τ).loc main_arg0)) f) (h1 : Ent (a := 4096) (b := 256) (m ((c.tc : Thread nD τ).loc main_arg1)) g)

include h0 h1 in
/-- What the accumulator holds before the last of a block's four grid points. -/
theorem acc (q : ℕ) : ∀ j : ℕ, j < 3 → ∀ h : 4 * q + j < cfg0.N,
    Ent (a := 1024) (b := 256) (outsAt0 m c (4 * q + j) h).2 (fun r s => ∑ k ∈ range (1024 * (j + 1)), f k (r) * g k (s))
  | 0, _, h => fun y => by
    have hN := lt_of_lt_of_eq h (show cfg0.N = 4 from N_0)
    have e := congrArg Prod.snd (outsAt0_A m c ⟨4 * q, h⟩ (by dsimp only; omega) (by dsimp only; omega) (by dsimp only; omega))
    refine (congrFun e y).trans ?_
    dsimp only
    rw [soutA, pay2_ent (in0 m c ⟨4 * q, h⟩ h0) (in1 m c ⟨4 * q, h⟩ h1) y]
    simp only [show 4 * q % 4 = 0 by omega, show 4 * q / 4 = q by omega, Nat.zero_mul, Nat.zero_add, Nat.mul_one]
  | j + 1, hj, h => fun y => by
    have e := congrArg Prod.snd (outsAt0_B m c ⟨4 * q + (j + 1), h⟩ (by dsimp only; omega) (by dsimp only; omega) (by dsimp only; omega))
    refine (congrFun e y).trans ?_
    dsimp only
    have hs : Ent (a := 1024) (b := 256) (outsAt0 m c (4 * q + (j + 1) - 1) (Nat.lt_of_le_of_lt (Nat.sub_le _ _) h)).2 _ := acc q j (by omega) (by omega)
    rw [soutB, pay3_ent (in0 m c ⟨4 * q + (j + 1), h⟩ h0) (in1 m c ⟨4 * q + (j + 1), h⟩ h1) hs y, sum_step 1024 (j + 1)]
    simp only [show (4 * q + (j + 1)) % 4 = j + 1 by omega, show (4 * q + (j + 1)) / 4 = q by omega, Nat.mul_comm (j + 1) 1024]

include h0 h1 in
theorem arr : (dats m 0 c).arrAt 2 cfg0.N = fun i : S1024x256.Idx => ∑ k ∈ range 4096, f k (i 0).val * g k (i 1).val := by
  refine (dats m 0 c).arrAt_eq_of_covers 2 _ (by decide +kernel) fun t hf y => ?_
  have hm : t.val % 4 = 3 := (flush0_2 t).mp hf
  have hp : 4 * (t.val / 4) + 2 < cfg0.N := by have := lt_of_lt_of_eq t.isLt (show cfg0.N = 4 from N_0); rw [show cfg0.N = 4 from N_0]; omega
  have ht : t.val - 1 = 4 * (t.val / 4) + 2 := by omega
  have hs : Ent (a := 1024) (b := 256) (outsAt0 m c (t.val - 1) (Nat.lt_of_le_of_lt (Nat.sub_le _ _) t.isLt)).2
      (fun r s => ∑ k ∈ range (1024 * 3), f k (r) * g k (s)) := by
    have := acc h0 h1 (t.val / 4) 2 (by omega) hp
    simp only [← ht] at this
    exact this
  blk_simp [ix2]
  rw [after0_2, outsAt0_C m c t (by omega) (by omega) hm]
  dsimp only
  rw [outC]
  show k0_pay3 (F := Ideal) _ _ _ y = _
  rw [pay3_ent (in0 m c t h0) (in1 m c t h1) hs y, hm]
  exact (sum_step 1024 3 _).symm

end Cert.GCqIdeal.Val

namespace Cert.ReferenceGCqIdeal.Val

open Idealize.ShloMosaic
open Cert.ReferenceGCqIdeal Cert.ReferenceGCqIdeal.Gen Cert.Dense
open Finset

variable {f g p : ℕ → ℕ → EReal}

theorem ref {x : Vec Ideal S4096x1024 .bf16} {y : Vec Ideal S4096x256 .bf16} (hx : Ent (a := 4096) (b := 1024) x f) (hy : Ent (a := 4096) (b := 256) y g) :
    truncf (F := Ideal) .bf16 (transpose S1024x256 [1, 0] (Host.dotGeneral (F := Ideal) (φ₁ := .f32) (φ₂ := .f32) dot_S4096x256_S4096x1024_S256x1024_0_0_1_1_n_n none (extf (F := Ideal) .f32 y bitsLt_bf16_f32) (extf (F := Ideal) .f32 x bitsLt_bf16_f32)) transposes_S256x1024_S1024x256_1_0) bitsLt_bf16_f32
      = fun i : S1024x256.Idx => ∑ k ∈ range 4096, f k (i 0).val * g k (i 1).val := funext fun j => by
  have e : ∀ z : FVec Ideal S1024x256 .f32, truncf (F := Ideal) .bf16 z bitsLt_bf16_f32 j = z j := fun _ => rfl
  refine (e _).trans ?_
  refine (transpose_apply [1, 0] _ transposes_S256x1024_S1024x256_1_0 j (ValueIdx.ix2 (j 1) (j 0)) (fun b => match b with
    | ⟨0, _⟩ => rfl
    | ⟨1, _⟩ => rfl)).trans ?_
  refine (Ideal.dotGeneral_apply (φ₁ := .f32) (φ₂ := .f32) dot_S4096x256_S4096x1024_S256x1024_0_0_1_1_n_n none _ (extf (F := Ideal) .f32 y bitsLt_bf16_f32) (extf (F := Ideal) .f32 x bitsLt_bf16_f32) _).trans ?_
  refine (contr dot_S4096x256_S4096x1024_S256x1024_0_0_1_1_n_n 4096 rfl rfl y x (ValueIdx.ix2 (j 1) (j 0)) (fun i => g i (j 1).val) (fun i => f i (j 0).val) (fun k => hy _) (fun k => hx _)).trans ?_
  exact Finset.sum_congr rfl fun k _ => mul_comm _ _

end Cert.ReferenceGCqIdeal.Val

namespace Cert.Proof

open Idealize.ShloMosaic Idealize.SL.Sem Cert.Dense

theorem frame_RGCq : Cert.quiescent_ReferenceGCqIdeal (hReferenceGCqIdeal := Cert.ReferenceGCqIdeal.Gen.facts) := fun m ρ _ =>
  (θ_run Cert.ReferenceGCqIdeal.defs _ _).mono (fun r h => ⟨fun c => (h c).2, Idealize.ShloMosaic.sem_eq_zero_of_no_sems (by decide) r.2⟩)
    (Cert.ReferenceGCqIdeal.Value.run (F := Ideal) m ρ)

theorem algebraic_GCq : Cert.algebraic_GCqIdeal_ReferenceGCqIdeal (hGCqIdeal := Cert.GCqIdeal.Gen.facts)
    (hReferenceGCqIdeal := Cert.ReferenceGCqIdeal.Gen.facts) := fun m ρ m' ρ' _ ha =>
  ⟨_, (θ_run Cert.GCqIdeal.defs _ _).mono (fun r h c => ⟨(h c).1.trans (Cert.GCqIdeal.Val.arr (m := m) (c := c) (entry_ent _) (entry_ent _)), (h c).2⟩)
      (Cert.GCqIdeal.Value.run_blocks m ρ),
    (θ_run Cert.ReferenceGCqIdeal.defs _ _).mono (fun r h c => ⟨(h c).1.trans (by
        rw [(ha c).1, (ha c).2]
        exact Cert.ReferenceGCqIdeal.Val.ref (entry_ent _) (entry_ent _)), (h c).2⟩)
      (Cert.ReferenceGCqIdeal.Value.run (F := Ideal) m' ρ')⟩

end Cert.Proof

end
-- ==== Proof.GOut.lean ====
/-
  The gradient of the mixers' output projection: the tiled product is the product.
-/
module

public import proofs.«01_k».proof.Defs
public import proofs.«01_k».proof.Proof.Gen.GOutIdeal.Value
public import proofs.«01_k».proof.Proof.Gen.ReferenceGOutIdeal
public import proofs.«01_k».proof.Proof.Gen.ReferenceGOutIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.GOutIdeal.Val

open Idealize.ShloMosaic Idealize.ShloMosaic.TcCoe Idealize.SL.Sem Idealize.ShloMosaic.Tactic
open Cert.GOutIdeal Cert.GOutIdeal.Gen Cert.Dense
open Finset

variable {f g p : ℕ → ℕ → EReal}

theorem pay1_ent {x : Vec Ideal S1024x1024 .bf16} {y : Vec Ideal S1024x1024 .f32} (hx : Ent (a := 1024) (b := 1024) x f) (hy : Ent (a := 1024) (b := 1024) y g) :
    Ent (a := 1024) (b := 1024) (k0_pay1 (F := Ideal) x y) (fun r c => ∑ i ∈ range 1024, f i r * g i c) := fun j =>
  (Ideal.matmul_constant_zero_apply (φ₁ := .bf16) (φ₂ := .bf16) dot_S1024x1024_S1024x1024_S1024x1024_0_0_1_1_n_n none x y j).trans
    (contr _ 1024 rfl rfl x y j (fun i => f i (j 0).val) (fun i => g i (j 1).val) (fun k => hx _) (fun k => hy _))

theorem pay2_ent {x : Vec Ideal S1024x1024 .bf16} {y : Vec Ideal S1024x1024 .f32} (hx : Ent (a := 1024) (b := 1024) x f) (hy : Ent (a := 1024) (b := 1024) y g) :
    Ent (a := 1024) (b := 1024) (k0_pay2 (F := Ideal) x y) (fun r c => ∑ i ∈ range 1024, f i r * g i c) := by
  have e : k0_pay2 (F := Ideal) x y = k0_pay1 x y := shapeCast_self _ _
  rw [e]; exact pay1_ent hx hy

theorem pay3_ent {x : Vec Ideal S1024x1024 .bf16} {y : Vec Ideal S1024x1024 .f32} {z : Vec Ideal S1024x1024 .f32}
    (hx : Ent (a := 1024) (b := 1024) x f) (hy : Ent (a := 1024) (b := 1024) y g) (hz : Ent (a := 1024) (b := 1024) z p) :
    Ent (a := 1024) (b := 1024) (k0_pay3 (F := Ideal) x y z) (fun r c => p r c + ∑ i ∈ range 1024, f i r * g i c) := by
  have e : k0_pay3 (F := Ideal) x y z = addf z (k0_pay1 x y) := shapeCast_self _ _
  rw [e]
  intro j
  show z j + k0_pay1 (F := Ideal) x y j = _
  rw [hz j, pay1_ent hx hy j]

section
variable (c : Dev nD) (i : grid0.Coords) (a3 : Memref sig .tc .vmem S1024x1024 .bf16) (h3 : a3.IsWhole) (a4 : Memref sig .tc .vmem S1024x1024 .f32) (h4 : a4.IsWhole)
  (a5 : Memref sig .tc .vmem S1024x1024 .bf16) (h5 : a5.IsWhole) (a6 : Memref sig .tc .vmem S1024x1024 .f32) (h6 : a6.IsWhole)
  (x : Vec Ideal S1024x1024 .bf16) (y : Vec Ideal S1024x1024 .f32) (z : Vec Ideal S1024x1024 .f32)

theorem soutA (hc0 : cond0_0 i) (hc1 : ¬cond0_1 i) (hc2 : ¬cond0_2 i) :
    sout0_A_0 (F := Ideal) c i a3 h3 a4 h4 a5 h5 a6 h6 hc0 hc1 hc2 x y = k0_pay2 x y := by frame_out

theorem soutB (hc0 : ¬cond0_0 i) (hc1 : cond0_1 i) (hc2 : ¬cond0_2 i) :
    sout0_B_0 (F := Ideal) c i a3 h3 a4 h4 a5 h5 a6 h6 hc0 hc1 hc2 x y z = k0_pay3 x y z := by frame_out

theorem outC (hc0 : ¬cond0_0 i) (hc1 : cond0_1 i) (hc2 : cond0_2 i) :
    out0_C_2 (F := Ideal) c i a3 h3 a4 h4 a5 h5 a6 h6 hc0 hc1 hc2 x y z = k0_pay4 (k0_pay3 x y z) := by frame_out
end

variable (m : (ℓ : Loc nD τ sig) → Buf (Elt Ideal) ℓ) (c : Dev nD)

theorem ix0 : ∀ t : Fin cfg0.N, win0_0.index t = ![t.val % 4, 0] := (by decide +kernel : ∀ t : Fin grid0.N, _)
theorem ix1 : ∀ t : Fin cfg0.N, win0_1.index t = ![t.val % 4, 0] := (by decide +kernel : ∀ t : Fin grid0.N, _)
theorem ix2 : ∀ t : Fin cfg0.N, win0_2.index t = ![0, 0] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val % 4 * 1024 + r) (s)) := fun y => by
  show m ((c.tc : Thread nD τ).loc main_arg0) ((win0_0.blk t).view.emb y) = _
  have e0 : ((win0_0.blk t).view.emb y 0).val = t.val % 4 * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 4096) (b := 1024) (m ((c.tc : Thread nD τ).loc main_arg1)) g) :
    Ent (a := 1024) (b := 1024) (iblk m c 1 t) (fun r s => g (t.val % 4 * 1024 + r) (s)) := fun y => by
  show m ((c.tc : Thread nD τ).loc main_arg1) ((win0_1.blk t).view.emb y) = _
  have e0 : ((win0_1.blk t).view.emb y 0).val = t.val % 4 * 1024 + (y 0).val := by blk_simp [ix1]
  have e1 : ((win0_1.blk t).view.emb y 1).val = (y 1).val := by blk_simp [ix1]
  refine (h ((win0_1.blk t).view.emb y)).trans ?_
  rw [e0, e1]

variable {m c}
variable (h0 : Ent (a := 4096) (b := 1024) (m ((c.tc : Thread nD τ).loc main_arg0)) f) (h1 : Ent (a := 4096) (b := 1024) (m ((c.tc : Thread nD τ).loc main_arg1)) g)

include h0 h1 in
/-- What the accumulator holds before the last of a block's four grid points. -/
theorem acc (q : ℕ) : ∀ j : ℕ, j < 3 → ∀ h : 4 * q + j < cfg0.N,
    Ent (a := 1024) (b := 1024) (outsAt0 m c (4 * q + j) h).2 (fun r s => ∑ k ∈ range (1024 * (j + 1)), f k (r) * g k (s))
  | 0, _, h => fun y => by
    have hN := lt_of_lt_of_eq h (show cfg0.N = 4 from N_0)
    have e := congrArg Prod.snd (outsAt0_A m c ⟨4 * q, h⟩ (by dsimp only; omega) (by dsimp only; omega) (by dsimp only; omega))
    refine (congrFun e y).trans ?_
    dsimp only
    rw [soutA, pay2_ent (in0 m c ⟨4 * q, h⟩ h0) (in1 m c ⟨4 * q, h⟩ h1) y]
    simp only [show 4 * q % 4 = 0 by omega, show 4 * q / 4 = q by omega, Nat.zero_mul, Nat.zero_add, Nat.mul_one]
  | j + 1, hj, h => fun y => by
    have e := congrArg Prod.snd (outsAt0_B m c ⟨4 * q + (j + 1), h⟩ (by dsimp only; omega) (by dsimp only; omega) (by dsimp only; omega))
    refine (congrFun e y).trans ?_
    dsimp only
    have hs : Ent (a := 1024) (b := 1024) (outsAt0 m c (4 * q + (j + 1) - 1) (Nat.lt_of_le_of_lt (Nat.sub_le _ _) h)).2 _ := acc q j (by omega) (by omega)
    rw [soutB, pay3_ent (in0 m c ⟨4 * q + (j + 1), h⟩ h0) (in1 m c ⟨4 * q + (j + 1), h⟩ h1) hs y, sum_step 1024 (j + 1)]
    simp only [show (4 * q + (j + 1)) % 4 = j + 1 by omega, show (4 * q + (j + 1)) / 4 = q by omega, Nat.mul_comm (j + 1) 1024]

include h0 h1 in
theorem arr : (dats m 0 c).arrAt 2 cfg0.N = fun i : S1024x1024.Idx => ∑ k ∈ range 4096, f k (i 0).val * g k (i 1).val := by
  refine (dats m 0 c).arrAt_eq_of_covers 2 _ (by decide +kernel) fun t hf y => ?_
  have hm : t.val % 4 = 3 := (flush0_2 t).mp hf
  have hp : 4 * (t.val / 4) + 2 < cfg0.N := by have := lt_of_lt_of_eq t.isLt (show cfg0.N = 4 from N_0); rw [show cfg0.N = 4 from N_0]; omega
  have ht : t.val - 1 = 4 * (t.val / 4) + 2 := by omega
  have hs : Ent (a := 1024) (b := 1024) (outsAt0 m c (t.val - 1) (Nat.lt_of_le_of_lt (Nat.sub_le _ _) t.isLt)).2
      (fun r s => ∑ k ∈ range (1024 * 3), f k (r) * g k (s)) := by
    have := acc h0 h1 (t.val / 4) 2 (by omega) hp
    simp only [← ht] at this
    exact this
  blk_simp [ix2]
  rw [after0_2, outsAt0_C m c t (by omega) (by omega) hm]
  dsimp only
  rw [outC]
  show k0_pay3 (F := Ideal) _ _ _ y = _
  rw [pay3_ent (in0 m c t h0) (in1 m c t h1) hs y, hm]
  exact (sum_step 1024 3 _).symm

end Cert.GOutIdeal.Val

namespace Cert.ReferenceGOutIdeal.Val

open Idealize.ShloMosaic
open Cert.ReferenceGOutIdeal Cert.ReferenceGOutIdeal.Gen Cert.Dense
open Finset

variable {f g p : ℕ → ℕ → EReal}

theorem ref {x : Vec Ideal S4096x1024 .bf16} {y : Vec Ideal S4096x1024 .f32} (hx : Ent (a := 4096) (b := 1024) x f) (hy : Ent (a := 4096) (b := 1024) y g) :
    truncf (F := Ideal) .bf16 (transpose S1024x1024 [1, 0] (Host.dotGeneral (F := Ideal) (φ₁ := .f32) (φ₂ := .f32) dot_S4096x1024_S4096x1024_S1024x1024_0_0_1_1_n_n none y (extf (F := Ideal) .f32 x bitsLt_bf16_f32)) transposes_S1024x1024_S1024x1024_1_0) bitsLt_bf16_f32
      = fun i : S1024x1024.Idx => ∑ k ∈ range 4096, f k (i 0).val * g k (i 1).val := funext fun j => by
  have e : ∀ z : FVec Ideal S1024x1024 .f32, truncf (F := Ideal) .bf16 z bitsLt_bf16_f32 j = z j := fun _ => rfl
  refine (e _).trans ?_
  refine (transpose_apply [1, 0] _ transposes_S1024x1024_S1024x1024_1_0 j (ValueIdx.ix2 (j 1) (j 0)) (fun b => match b with
    | ⟨0, _⟩ => rfl
    | ⟨1, _⟩ => rfl)).trans ?_
  refine (Ideal.dotGeneral_apply (φ₁ := .f32) (φ₂ := .f32) dot_S4096x1024_S4096x1024_S1024x1024_0_0_1_1_n_n none _ y (extf (F := Ideal) .f32 x bitsLt_bf16_f32) _).trans ?_
  refine (contr dot_S4096x1024_S4096x1024_S1024x1024_0_0_1_1_n_n 4096 rfl rfl y x (ValueIdx.ix2 (j 1) (j 0)) (fun i => g i (j 1).val) (fun i => f i (j 0).val) (fun k => hy _) (fun k => hx _)).trans ?_
  exact Finset.sum_congr rfl fun k _ => mul_comm _ _

end Cert.ReferenceGOutIdeal.Val

namespace Cert.Proof

open Idealize.ShloMosaic Idealize.SL.Sem Cert.Dense

theorem frame_RGOut : Cert.quiescent_ReferenceGOutIdeal (hReferenceGOutIdeal := Cert.ReferenceGOutIdeal.Gen.facts) := fun m ρ _ =>
  (θ_run Cert.ReferenceGOutIdeal.defs _ _).mono (fun r h => ⟨fun c => (h c).2, Idealize.ShloMosaic.sem_eq_zero_of_no_sems (by decide) r.2⟩)
    (Cert.ReferenceGOutIdeal.Value.run (F := Ideal) m ρ)

theorem algebraic_GOut : Cert.algebraic_GOutIdeal_ReferenceGOutIdeal (hGOutIdeal := Cert.GOutIdeal.Gen.facts)
    (hReferenceGOutIdeal := Cert.ReferenceGOutIdeal.Gen.facts) := fun m ρ m' ρ' _ ha =>
  ⟨_, (θ_run Cert.GOutIdeal.defs _ _).mono (fun r h c => ⟨(h c).1.trans (Cert.GOutIdeal.Val.arr (m := m) (c := c) (entry_ent _) (entry_ent _)), (h c).2⟩)
      (Cert.GOutIdeal.Value.run_blocks m ρ),
    (θ_run Cert.ReferenceGOutIdeal.defs _ _).mono (fun r h c => ⟨(h c).1.trans (by
        rw [(ha c).1, (ha c).2]
        exact Cert.ReferenceGOutIdeal.Val.ref (entry_ent _) (entry_ent _)), (h c).2⟩)
      (Cert.ReferenceGOutIdeal.Value.run (F := Ideal) m' ρ')⟩

end Cert.Proof

end
-- ==== Proof.GQkv.lean ====
/-
  The gradient of the attentions' input projection: the tiled product is the product.
-/
module

public import proofs.«01_k».proof.Defs
public import proofs.«01_k».proof.Proof.Gen.GQkvIdeal.Value
public import proofs.«01_k».proof.Proof.Gen.ReferenceGQkvIdeal
public import proofs.«01_k».proof.Proof.Gen.ReferenceGQkvIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.GQkvIdeal.Val

open Idealize.ShloMosaic Idealize.ShloMosaic.TcCoe Idealize.SL.Sem Idealize.ShloMosaic.Tactic
open Cert.GQkvIdeal Cert.GQkvIdeal.Gen Cert.Dense
open Finset

variable {f g p : ℕ → ℕ → EReal}

theorem pay1_ent {x : Vec Ideal S1024x1024 .bf16} {y : Vec Ideal S1024x1152 .bf16} (hx : Ent (a := 1024) (b := 1024) x f) (hy : Ent (a := 1024) (b := 1152) y g) :
    Ent (a := 1024) (b := 1152) (k0_pay1 (F := Ideal) x y) (fun r c => ∑ i ∈ range 1024, f i r * g i c) := fun j =>
  (Ideal.matmul_constant_zero_apply (φ₁ := .bf16) (φ₂ := .bf16) dot_S1024x1024_S1024x1152_S1024x1152_0_0_1_1_n_n none x y j).trans
    (contr _ 1024 rfl rfl x y j (fun i => f i (j 0).val) (fun i => g i (j 1).val) (fun k => hx _) (fun k => hy _))

theorem pay2_ent {x : Vec Ideal S1024x1024 .bf16} {y : Vec Ideal S1024x1152 .bf16} (hx : Ent (a := 1024) (b := 1024) x f) (hy : Ent (a := 1024) (b := 1152) y g) :
    Ent (a := 1024) (b := 1152) (k0_pay2 (F := Ideal) x y) (fun r c => ∑ i ∈ range 1024, f i r * g i c) := by
  have e : k0_pay2 (F := Ideal) x y = k0_pay1 x y := shapeCast_self _ _
  rw [e]; exact pay1_ent hx hy

theorem pay3_ent {x : Vec Ideal S1024x1024 .bf16} {y : Vec Ideal S1024x1152 .bf16} {z : Vec Ideal S1024x1152 .f32}
    (hx : Ent (a := 1024) (b := 1024) x f) (hy : Ent (a := 1024) (b := 1152) y g) (hz : Ent (a := 1024) (b := 1152) z p) :
    Ent (a := 1024) (b := 1152) (k0_pay3 (F := Ideal) x y z) (fun r c => p r c + ∑ i ∈ range 1024, f i r * g i c) := by
  have e : k0_pay3 (F := Ideal) x y z = addf z (k0_pay1 x y) := shapeCast_self _ _
  rw [e]
  intro j
  show z j + k0_pay1 (F := Ideal) x y j = _
  rw [hz j, pay1_ent hx hy j]

section
variable (c : Dev nD) (i : grid0.Coords) (a3 : Memref sig .tc .vmem S1024x1024 .bf16) (h3 : a3.IsWhole) (a4 : Memref sig .tc .vmem S1024x1152 .bf16) (h4 : a4.IsWhole)
  (a5 : Memref sig .tc .vmem S1024x1152 .bf16) (h5 : a5.IsWhole) (a6 : Memref sig .tc .vmem S1024x1152 .f32) (h6 : a6.IsWhole)
  (x : Vec Ideal S1024x1024 .bf16) (y : Vec Ideal S1024x1152 .bf16) (z : Vec Ideal S1024x1152 .f32)

theorem soutA (hc0 : cond0_0 i) (hc1 : ¬cond0_1 i) (hc2 : ¬cond0_2 i) :
    sout0_A_0 (F := Ideal) c i a3 h3 a4 h4 a5 h5 a6 h6 hc0 hc1 hc2 x y = k0_pay2 x y := by frame_out

theorem soutB (hc0 : ¬cond0_0 i) (hc1 : cond0_1 i) (hc2 : ¬cond0_2 i) :
    sout0_B_0 (F := Ideal) c i a3 h3 a4 h4 a5 h5 a6 h6 hc0 hc1 hc2 x y z = k0_pay3 x y z := by frame_out

theorem outC (hc0 : ¬cond0_0 i) (hc1 : cond0_1 i) (hc2 : cond0_2 i) :
    out0_C_2 (F := Ideal) c i a3 h3 a4 h4 a5 h5 a6 h6 hc0 hc1 hc2 x y z = k0_pay4 (k0_pay3 x y z) := by frame_out
end

variable (m : (ℓ : Loc nD τ sig) → Buf (Elt Ideal) ℓ) (c : Dev nD)

theorem ix0 : ∀ t : Fin cfg0.N, win0_0.index t = ![t.val % 4, 0] := (by decide +kernel : ∀ t : Fin grid0.N, _)
theorem ix1 : ∀ t : Fin cfg0.N, win0_1.index t = ![t.val % 4, t.val / 4] := (by decide +kernel : ∀ t : Fin grid0.N, _)
theorem ix2 : ∀ t : Fin cfg0.N, win0_2.index t = ![0, t.val / 4] := (by decide +kernel : ∀ t : Fin grid0.N, _)

theorem in0 (t : Fin cfg0.N) (h : Ent (a := 4096) (b := 1024) (m ((c.tc : Thread nD τ).loc main_arg0)) f) :
    Ent (a := 1024) (b := 1024) (iblk m c 0 t) (fun r s => f (t.val % 4 * 1024 + r) (s)) := fun y => by
  show m ((c.tc : Thread nD τ).loc main_arg0) ((win0_0.blk t).view.emb y) = _
  have e0 : ((win0_0.blk t).view.emb y 0).val = t.val % 4 * 1024 + (y 0).val := by blk_simp [ix0]
  have e1 : ((win0_0.blk t).view.emb y 1).val = (y 1).val := by blk_simp [ix0]
  refine (h ((win0_0.blk t).view.emb y)).trans ?_
  rw [e0, e1]

theorem in1 (t : Fin cfg0.N) (h : Ent (a := 4096) (b := 2304) (m ((c.tc : Thread nD τ).loc main_arg1)) g) :
    Ent (a := 1024) (b := 1152) (iblk m c 1 t) (fun r s => g (t.val % 4 * 1024 + r) (t.val / 4 * 1152 + s)) := fun y => by
  show m ((c.tc : Thread nD τ).loc main_arg1) ((win0_1.blk t).view.emb y) = _
  have e0 : ((win0_1.blk t).view.emb y 0).val = t.val % 4 * 1024 + (y 0).val := by blk_simp [ix1]
  have e1 : ((win0_1.blk t).view.emb y 1).val = t.val / 4 * 1152 + (y 1).val := by blk_simp [ix1]
  refine (h ((win0_1.blk t).view.emb y)).trans ?_
  rw [e0, e1]

variable {m c}
variable (h0 : Ent (a := 4096) (b := 1024) (m ((c.tc : Thread nD τ).loc main_arg0)) f) (h1 : Ent (a := 4096) (b := 2304) (m ((c.tc : Thread nD τ).loc main_arg1)) g)

include h0 h1 in
/-- What the accumulator holds before the last of a block's four grid points. -/
theorem acc (q : ℕ) : ∀ j : ℕ, j < 3 → ∀ h : 4 * q + j < cfg0.N,
    Ent (a := 1024) (b := 1152) (outsAt0 m c (4 * q + j) h).2 (fun r s => ∑ k ∈ range (1024 * (j + 1)), f k (r) * g k (q * 1152 + s))
  | 0, _, h => fun y => by
    have hN := lt_of_lt_of_eq h (show cfg0.N = 8 from N_0)
    have e := congrArg Prod.snd (outsAt0_A m c ⟨4 * q, h⟩ (by dsimp only; omega) (by dsimp only; omega) (by dsimp only; omega))
    refine (congrFun e y).trans ?_
    dsimp only
    rw [soutA, pay2_ent (in0 m c ⟨4 * q, h⟩ h0) (in1 m c ⟨4 * q, h⟩ h1) y]
    simp only [show 4 * q % 4 = 0 by omega, show 4 * q / 4 = q by omega, Nat.zero_mul, Nat.zero_add, Nat.mul_one]
  | j + 1, hj, h => fun y => by
    have e := congrArg Prod.snd (outsAt0_B m c ⟨4 * q + (j + 1), h⟩ (by dsimp only; omega) (by dsimp only; omega) (by dsimp only; omega))
    refine (congrFun e y).trans ?_
    dsimp only
    have hs : Ent (a := 1024) (b := 1152) (outsAt0 m c (4 * q + (j + 1) - 1) (Nat.lt_of_le_of_lt (Nat.sub_le _ _) h)).2 _ := acc q j (by omega) (by omega)
    rw [soutB, pay3_ent (in0 m c ⟨4 * q + (j + 1), h⟩ h0) (in1 m c ⟨4 * q + (j + 1), h⟩ h1) hs y, sum_step 1024 (j + 1)]
    simp only [show (4 * q + (j + 1)) % 4 = j + 1 by omega, show (4 * q + (j + 1)) / 4 = q by omega, Nat.mul_comm (j + 1) 1024]

include h0 h1 in
theorem arr : (dats m 0 c).arrAt 2 cfg0.N = fun i : S1024x2304.Idx => ∑ k ∈ range 4096, f k (i 0).val * g k (i 1).val := by
  refine (dats m 0 c).arrAt_eq_of_covers 2 _ (by decide +kernel) fun t hf y => ?_
  have hm : t.val % 4 = 3 := (flush0_2 t).mp hf
  have hp : 4 * (t.val / 4) + 2 < cfg0.N := by have := lt_of_lt_of_eq t.isLt (show cfg0.N = 8 from N_0); rw [show cfg0.N = 8 from N_0]; omega
  have ht : t.val - 1 = 4 * (t.val / 4) + 2 := by omega
  have hs : Ent (a := 1024) (b := 1152) (outsAt0 m c (t.val - 1) (Nat.lt_of_le_of_lt (Nat.sub_le _ _) t.isLt)).2
      (fun r s => ∑ k ∈ range (1024 * 3), f k (r) * g k (t.val / 4 * 1152 + s)) := by
    have := acc h0 h1 (t.val / 4) 2 (by omega) hp
    simp only [← ht] at this
    exact this
  blk_simp [ix2]
  rw [after0_2, outsAt0_C m c t (by omega) (by omega) hm]
  dsimp only
  rw [outC]
  show k0_pay3 (F := Ideal) _ _ _ y = _
  rw [pay3_ent (in0 m c t h0) (in1 m c t h1) hs y, hm]
  exact (sum_step 1024 3 _).symm

end Cert.GQkvIdeal.Val

namespace Cert.ReferenceGQkvIdeal.Val

open Idealize.ShloMosaic
open Cert.ReferenceGQkvIdeal Cert.ReferenceGQkvIdeal.Gen Cert.Dense
open Finset

variable {f g p : ℕ → ℕ → EReal}

theorem ref {x : Vec Ideal S4096x1024 .bf16} {y : Vec Ideal S4096x2304 .bf16} (hx : Ent (a := 4096) (b := 1024) x f) (hy : Ent (a := 4096) (b := 2304) y g) :
    truncf (F := Ideal) .bf16 (transpose S1024x2304 [1, 0] (Host.dotGeneral (F := Ideal) (φ₁ := .f32) (φ₂ := .f32) dot_S4096x2304_S4096x1024_S2304x1024_0_0_1_1_n_n none (extf (F := Ideal) .f32 y bitsLt_bf16_f32) (extf (F := Ideal) .f32 x bitsLt_bf16_f32)) transposes_S2304x1024_S1024x2304_1_0) bitsLt_bf16_f32
      = fun i : S1024x2304.Idx => ∑ k ∈ range 4096, f k (i 0).val * g k (i 1).val := funext fun j => by
  have e : ∀ z : FVec Ideal S1024x2304 .f32, truncf (F := Ideal) .bf16 z bitsLt_bf16_f32 j = z j := fun _ => rfl
  refine (e _).trans ?_
  refine (transpose_apply [1, 0] _ transposes_S2304x1024_S1024x2304_1_0 j (ValueIdx.ix2 (j 1) (j 0)) (fun b => match b with
    | ⟨0, _⟩ => rfl
    | ⟨1, _⟩ => rfl)).trans ?_
  refine (Ideal.dotGeneral_apply (φ₁ := .f32) (φ₂ := .f32) dot_S4096x2304_S4096x1024_S2304x1024_0_0_1_1_n_n none _ (extf (F := Ideal) .f32 y bitsLt_bf16_f32) (extf (F := Ideal) .f32 x bitsLt_bf16_f32) _).trans ?_
  refine (contr dot_S4096x2304_S4096x1024_S2304x1024_0_0_1_1_n_n 4096 rfl rfl y x (ValueIdx.ix2 (j 1) (j 0)) (fun i => g i (j 1).val) (fun i => f i (j 0).val) (fun k => hy _) (fun k => hx _)).trans ?_
  exact Finset.sum_congr rfl fun k _ => mul_comm _ _

end Cert.ReferenceGQkvIdeal.Val

namespace Cert.Proof

open Idealize.ShloMosaic Idealize.SL.Sem Cert.Dense

theorem frame_RGQkv : Cert.quiescent_ReferenceGQkvIdeal (hReferenceGQkvIdeal := Cert.ReferenceGQkvIdeal.Gen.facts) := fun m ρ _ =>
  (θ_run Cert.ReferenceGQkvIdeal.defs _ _).mono (fun r h => ⟨fun c => (h c).2, Idealize.ShloMosaic.sem_eq_zero_of_no_sems (by decide) r.2⟩)
    (Cert.ReferenceGQkvIdeal.Value.run (F := Ideal) m ρ)

theorem algebraic_GQkv : Cert.algebraic_GQkvIdeal_ReferenceGQkvIdeal (hGQkvIdeal := Cert.GQkvIdeal.Gen.facts)
    (hReferenceGQkvIdeal := Cert.ReferenceGQkvIdeal.Gen.facts) := fun m ρ m' ρ' _ ha =>
  ⟨_, (θ_run Cert.GQkvIdeal.defs _ _).mono (fun r h c => ⟨(h c).1.trans (Cert.GQkvIdeal.Val.arr (m := m) (c := c) (entry_ent _) (entry_ent _)), (h c).2⟩)
      (Cert.GQkvIdeal.Value.run_blocks m ρ),
    (θ_run Cert.ReferenceGQkvIdeal.defs _ _).mono (fun r h c => ⟨(h c).1.trans (by
        rw [(ha c).1, (ha c).2]
        exact Cert.ReferenceGQkvIdeal.Val.ref (entry_ent _) (entry_ent _)), (h c).2⟩)
      (Cert.ReferenceGQkvIdeal.Value.run (F := Ideal) m' ρ')⟩

end Cert.Proof

end
-- ==== Proof.HiddenGrad.lean ====
/-
  The gradient of the feed-forward's input: the second product is added to the first.
-/
module

public import proofs.«01_k».proof.Defs
public import proofs.«01_k».proof.Proof.Gen.DHiddenIdeal.Frame
public import proofs.«01_k».proof.Proof.Gen.ReferenceDHiddenIdeal
public import proofs.«01_k».proof.Proof.Gen.ReferenceDHiddenIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.DHiddenIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DHiddenIdeal Cert.DHiddenIdeal.Gen Cert.Dense
open Finset

/-! ### Every buffer after the two products -/

section
variable {F : FTy → Type} [FloatOps F]
variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := Idealize.ShloMosaic.Rounds.initOf (Pipeline.cells cfgs cellOf_inj) (Pipeline.launchToks cfgs cellOf_inj))
    (hu₀ := by
      iintro Hu; imodintro
      isplitl [Hu]
      · iapply (show (ownU (Idealize.ShloMosaic.Rounds.initOf (Pipeline.cells cfgs cellOf_inj) (Pipeline.launchToks cfgs cellOf_inj)) : sProp (MT nD τ sig Unit (Elt F) ℕ (UR sig nD τ) ℕ))
            ⊢ BI.own (emb₁ (Idealize.ShloMosaic.Rounds.initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

theorem run_arr : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W2_arr m ρ c 3),
      (h c _ (mem_uc main_arg0 (by decide))).trans (W2_main_arg0 m ρ c), (h c _ (mem_uc main_arg1 (by decide))).trans (W2_main_arg1 m ρ c),
      (h c _ (mem_uc main_arg2 (by decide))).trans (W2_main_arg2 m ρ c), (h c _ (mem_uc main_arg3 (by decide))).trans (W2_main_arg3 m ρ c)⟩)
    (run_all m ρ)
end

/-! ### The two products -/

variable {f g p : ℕ → ℕ → EReal}

theorem pay0_ent {x : Vec Ideal S512x2816 .bf16} {y : Vec Ideal S2816x1024 .bf16} (hx : Ent (a := 512) (b := 2816) x f) (hy : Ent (a := 2816) (b := 1024) y g) :
    Ent (a := 512) (b := 1024) (k0_pay1 (F := Ideal) x y) (fun r c => ∑ i ∈ range 2816, f r i * g i c) := fun j =>
  (Ideal.matmul_constant_zero_apply (φ₁ := .bf16) (φ₂ := .bf16) dot_S512x2816_S2816x1024_S512x1024_1_0_0_1_n_n none x y j).trans
    (contr _ 2816 rfl rfl x y j (fun i => f (j 0).val i) (fun i => g i (j 1).val) (fun k => hx _) (fun k => hy _))

theorem pay1_ent {x : Vec Ideal S512x2816 .bf16} {y : Vec Ideal S2816x1024 .bf16} {z : Vec Ideal S512x1024 .f32}
    (hx : Ent (a := 512) (b := 2816) x f) (hy : Ent (a := 2816) (b := 1024) y g) (hz : Ent (a := 512) (b := 1024) z p) :
    Ent (a := 512) (b := 1024) (k1_pay1 (F := Ideal) x y z) (fun r c => ∑ i ∈ range 2816, f r i * g i c + p r c) := fun j => by
  have e : k1_pay1 (F := Ideal) x y z = addf (k0_pay1 x y) z := by
    unfold k1_pay1; dsimp only; rw [shapeCast_self]; rfl
  rw [e]
  show k0_pay1 (F := Ideal) x y j + z j = _
  rw [hz j, pay0_ent hx hy j]

theorem out0_ent {x : Vec Ideal S512x2816 .bf16} {y : Vec Ideal S2816x1024 .bf16} (hx : Ent (a := 512) (b := 2816) x f) (hy : Ent (a := 2816) (b := 1024) y g) :
    Ent (a := 512) (b := 1024) (out0_2 (F := Ideal) x y) (fun r c => ∑ i ∈ range 2816, f r i * g i c) := by
  have e : out0_2 (F := Ideal) x y = k0_pay1 x y := by frame_out
  rw [e]; exact pay0_ent hx hy

theorem out1_ent {x : Vec Ideal S512x2816 .bf16} {y : Vec Ideal S2816x1024 .bf16} {z : Vec Ideal S512x1024 .f32}
    (hx : Ent (a := 512) (b := 2816) x f) (hy : Ent (a := 2816) (b := 1024) y g) (hz : Ent (a := 512) (b := 1024) z p) :
    Ent (a := 512) (b := 1024) (out1_3 (F := Ideal) x y z) (fun r c => ∑ i ∈ range 2816, f r i * g i c + p r c) := by
  have e : out1_3 (F := Ideal) x y z = k1_pay1 x y z := by frame_out
  rw [e]; exact pay1_ent hx hy hz

variable (V : (c : Dev nD) → (b : Ref sig .tc) → Buf (Elt Ideal) ((c : Thread nD τ).loc b)) (c : Dev nD)

theorem ix00 : ∀ t : Fin cfg0.N, win0_0.index t = ![t.val, 0] := (by decide +kernel : ∀ t : Fin grid0.N, _)
theorem ix01 : ∀ t : Fin cfg0.N, win0_1.index t = ![0, 0] := (by decide +kernel : ∀ t : Fin grid0.N, _)
theorem ix02 : ∀ t : Fin cfg0.N, win0_2.index t = ![t.val, 0] := (by decide +kernel : ∀ t : Fin grid0.N, _)
theorem ix10 : ∀ t : Fin cfg1.N, win1_0.index t = ![t.val, 0] := (by decide +kernel : ∀ t : Fin grid1.N, _)
theorem ix11 : ∀ t : Fin cfg1.N, win1_1.index t = ![0, 0] := (by decide +kernel : ∀ t : Fin grid1.N, _)
theorem ix12 : ∀ t : Fin cfg1.N, win1_2.index t = ![t.val, 0] := (by decide +kernel : ∀ t : Fin grid1.N, _)
theorem ix13 : ∀ t : Fin cfg1.N, win1_3.index t = ![t.val, 0] := (by decide +kernel : ∀ t : Fin grid1.N, _)

theorem in00 (t : Fin cfg0.N) (h : Ent (a := 4096) (b := 2816) (V c (Pipeline.arrRef spec0 0)) f) :
    Ent (a := 512) (b := 2816) (iblk0 V c 0 t) (fun r k => f (t.val * 512 + r) k) := fun y => by
  show V c (Pipeline.arrRef spec0 0) ((win0_0.blk t).view.emb y) = _
  have e0 : ((win0_0.blk t).view.emb y 0).val = t.val * 512 + (y 0).val := by blk_simp [ix00]
  have e1 : ((win0_0.blk t).view.emb y 1).val = (y 1).val := by blk_simp [ix00]
  refine (h ((win0_0.blk t).view.emb y)).trans ?_
  rw [e0, e1]

theorem in01 (t : Fin cfg0.N) (h : Ent (a := 2816) (b := 1024) (V c (Pipeline.arrRef spec0 1)) g) :
    Ent (a := 2816) (b := 1024) (iblk0 V c 1 t) g := fun y => by
  show V c (Pipeline.arrRef spec0 1) ((win0_1.blk t).view.emb y) = _
  have e0 : ((win0_1.blk t).view.emb y 0).val = (y 0).val := by blk_simp [ix01]
  have e1 : ((win0_1.blk t).view.emb y 1).val = (y 1).val := by blk_simp [ix01]
  refine (h ((win0_1.blk t).view.emb y)).trans ?_
  rw [e0, e1]

theorem in10 (t : Fin cfg1.N) (h : Ent (a := 4096) (b := 2816) (V c (Pipeline.arrRef spec1 0)) f) :
    Ent (a := 512) (b := 2816) (iblk1 V c 0 t) (fun r k => f (t.val * 512 + r) k) := fun y => by
  show V c (Pipeline.arrRef spec1 0) ((win1_0.blk t).view.emb y) = _
  have e0 : ((win1_0.blk t).view.emb y 0).val = t.val * 512 + (y 0).val := by blk_simp [ix10]
  have e1 : ((win1_0.blk t).view.emb y 1).val = (y 1).val := by blk_simp [ix10]
  refine (h ((win1_0.blk t).view.emb y)).trans ?_
  rw [e0, e1]

theorem in11 (t : Fin cfg1.N) (h : Ent (a := 2816) (b := 1024) (V c (Pipeline.arrRef spec1 1)) g) :
    Ent (a := 2816) (b := 1024) (iblk1 V c 1 t) g := fun y => by
  show V c (Pipeline.arrRef spec1 1) ((win1_1.blk t).view.emb y) = _
  have e0 : ((win1_1.blk t).view.emb y 0).val = (y 0).val := by blk_simp [ix11]
  have e1 : ((win1_1.blk t).view.emb y 1).val = (y 1).val := by blk_simp [ix11]
  refine (h ((win1_1.blk t).view.emb y)).trans ?_
  rw [e0, e1]

theorem in12 (t : Fin cfg1.N) (h : Ent (a := 4096) (b := 1024) (V c (Pipeline.arrRef spec1 2)) p) :
    Ent (a := 512) (b := 1024) (iblk1 V c 2 t) (fun r k => p (t.val * 512 + r) k) := fun y => by
  show V c (Pipeline.arrRef spec1 2) ((win1_2.blk t).view.emb y) = _
  have e0 : ((win1_2.blk t).view.emb y 0).val = t.val * 512 + (y 0).val := by blk_simp [ix12]
  have e1 : ((win1_2.blk t).view.emb y 1).val = (y 1).val := by blk_simp [ix12]
  refine (h ((win1_2.blk t).view.emb y)).trans ?_
  rw [e0, e1]

theorem arr0 (h0 : Ent (a := 4096) (b := 2816) (V c (Pipeline.arrRef spec0 0)) f) (h1 : Ent (a := 2816) (b := 1024) (V c (Pipeline.arrRef spec0 1)) g) :
    (dat0 V c).arrAt 2 cfg0.N = fun i : S4096x1024.Idx => ∑ k ∈ range 2816, f (i 0).val k * g k (i 1).val := by
  refine (dat0 V c).arrAt_eq_of_covers 2 _ (by decide +kernel) fun t _ y => ?_
  blk_simp [ix02]
  rw [after0_2, out0_ent (in00 V c t h0) (in01 V c t h1) y]

theorem arr1 (h0 : Ent (a := 4096) (b := 2816) (V c (Pipeline.arrRef spec1 0)) f) (h1 : Ent (a := 2816) (b := 1024) (V c (Pipeline.arrRef spec1 1)) g)
    (h2 : Ent (a := 4096) (b := 1024) (V c (Pipeline.arrRef spec1 2)) p) :
    (dat1 V c).arrAt 3 cfg1.N = fun i : S4096x1024.Idx => ∑ k ∈ range 2816, f (i 0).val k * g k (i 1).val + p (i 0).val (i 1).val := by
  refine (dat1 V c).arrAt_eq_of_covers 3 _ (by decide +kernel) fun t _ y => ?_
  blk_simp [ix13]
  rw [after1_3, out1_ent (in10 V c t h0) (in11 V c t h1) (in12 V c t h2) y]

theorem res (m : (ℓ : Loc nD τ sig) → Buf (Elt Ideal) ℓ) (ρ : Dev nD → PrngReg) {f' g' : ℕ → ℕ → EReal}
    (h0 : Ent (a := 4096) (b := 2816) (m ((c.tc : Thread nD τ).loc main_arg0)) f) (h1 : Ent (a := 4096) (b := 2816) (m ((c.tc : Thread nD τ).loc main_arg1)) f')
    (h2 : Ent (a := 2816) (b := 1024) (m ((c.tc : Thread nD τ).loc main_arg2)) g) (h3 : Ent (a := 2816) (b := 1024) (m ((c.tc : Thread nD τ).loc main_arg3)) g') :
    (dat1 (V1 m ρ) c).arrAt 3 cfg1.N = fun i : S4096x1024.Idx =>
      ∑ k ∈ range 2816, f' (i 0).val k * g' k (i 1).val + ∑ k ∈ range 2816, f (i 0).val k * g k (i 1).val := by
  have e : V1 m ρ c (Pipeline.arrRef spec1 2) = fun i : S4096x1024.Idx => ∑ k ∈ range 2816, f (i 0).val k * g k (i 1).val :=
    (W1_arr m ρ c 2).trans (arr0 (V0 m ρ) c h0 h2)
  refine arr1 (p := fun r k => ∑ i ∈ range 2816, f r i * g i k) (V1 m ρ) c ?_ ?_ ?_
  · have e := W1_args m ρ c main_arg1 (by decide)
    exact fun j => (congrFun e j).trans (h1 j)
  · have e := W1_args m ρ c main_arg3 (by decide)
    exact fun j => (congrFun e j).trans (h3 j)
  · exact fun j => congrFun e j

end Cert.DHiddenIdeal.Val

namespace Cert.ReferenceDHiddenIdeal.Val

open Idealize.ShloMosaic
open Cert.ReferenceDHiddenIdeal Cert.ReferenceDHiddenIdeal.Gen Cert.Dense
open Finset

variable {f g f' g' : ℕ → ℕ → EReal}

theorem dot {x : Vec Ideal S4096x2816 .bf16} {y : Vec Ideal S2816x1024 .bf16} (hx : Ent (a := 4096) (b := 2816) x f) (hy : Ent (a := 2816) (b := 1024) y g) (j) :
    Host.dotGeneral (F := Ideal) (φ₁ := .f32) (φ₂ := .f32) dot_S4096x2816_S1024x2816_S4096x1024_1_1_0_0_n_n none
        (extf .f32 x bitsLt_bf16_f32) (transpose S1024x2816 [1, 0] (extf .f32 y bitsLt_bf16_f32) transposes_S2816x1024_S1024x2816_1_0) j
      = ∑ k ∈ range 2816, f (j 0).val k * g k (j 1).val := by
  refine (Ideal.dotGeneral_apply (φ₁ := .f32) (φ₂ := .f32) dot_S4096x2816_S1024x2816_S4096x1024_1_1_0_0_n_n none _ (extf (F := Ideal) .f32 x bitsLt_bf16_f32)
      (transpose S1024x2816 [1, 0] (extf (F := Ideal) .f32 y bitsLt_bf16_f32) transposes_S2816x1024_S1024x2816_1_0) j).trans
    (contr _ 2816 rfl rfl (extf (F := Ideal) .f32 x bitsLt_bf16_f32) (transpose S1024x2816 [1, 0] (extf (F := Ideal) .f32 y bitsLt_bf16_f32) transposes_S2816x1024_S1024x2816_1_0)
      j (fun i => f (j 0).val i) (fun i => g i (j 1).val) (fun k => hx _) (fun k => ?_))
  refine (transpose_apply [1, 0] _ transposes_S2816x1024_S1024x2816_1_0 _ (ValueIdx.ix2 (show Fin 2816 from k ⟨0, Nat.zero_lt_one⟩) (j 1)) (fun b => match b with
    | ⟨0, _⟩ => rfl
    | ⟨1, _⟩ => rfl)).trans ?_
  exact hy _

theorem ref {x x' : Vec Ideal S4096x2816 .bf16} {y y' : Vec Ideal S2816x1024 .bf16} (hx : Ent (a := 4096) (b := 2816) x f) (hy : Ent (a := 2816) (b := 1024) y g)
    (hx' : Ent (a := 4096) (b := 2816) x' f') (hy' : Ent (a := 2816) (b := 1024) y' g') :
    addf (F := Ideal) (Host.dotGeneral (F := Ideal) (φ₁ := .f32) (φ₂ := .f32) dot_S4096x2816_S1024x2816_S4096x1024_1_1_0_0_n_n none
        (extf .f32 x bitsLt_bf16_f32) (transpose S1024x2816 [1, 0] (extf .f32 y bitsLt_bf16_f32) transposes_S2816x1024_S1024x2816_1_0))
      (Host.dotGeneral (F := Ideal) (φ₁ := .f32) (φ₂ := .f32) dot_S4096x2816_S1024x2816_S4096x1024_1_1_0_0_n_n none
        (extf .f32 x' bitsLt_bf16_f32) (transpose S1024x2816 [1, 0] (extf .f32 y' bitsLt_bf16_f32) transposes_S2816x1024_S1024x2816_1_0))
      = fun i : S4096x1024.Idx => ∑ k ∈ range 2816, f' (i 0).val k * g' k (i 1).val + ∑ k ∈ range 2816, f (i 0).val k * g k (i 1).val := funext fun j =>
  (congrArg₂ (fun u v : EReal => u + v) (dot hx hy j) (dot hx' hy' j)).trans (add_comm _ _)

end Cert.ReferenceDHiddenIdeal.Val

namespace Cert.Proof

open Idealize.ShloMosaic Idealize.SL.Sem Cert.Dense

theorem frame_RDHidden : Cert.quiescent_ReferenceDHiddenIdeal (hReferenceDHiddenIdeal := Cert.ReferenceDHiddenIdeal.Gen.facts) := fun m ρ _ =>
  (θ_run Cert.ReferenceDHiddenIdeal.defs _ _).mono (fun r h => ⟨fun c => (h c).2, Idealize.ShloMosaic.sem_eq_zero_of_no_sems (by decide) r.2⟩)
    (Cert.ReferenceDHiddenIdeal.Value.run (F := Ideal) m ρ)

theorem algebraic_DHidden : Cert.algebraic_DHiddenIdeal_ReferenceDHiddenIdeal (hDHiddenIdeal := Cert.DHiddenIdeal.Gen.facts)
    (hReferenceDHiddenIdeal := Cert.ReferenceDHiddenIdeal.Gen.facts) := fun m ρ m' ρ' _ ha =>
  ⟨_, (θ_run Cert.DHiddenIdeal.defs _ _).mono (fun r h c => ⟨(h c).1.trans
        (Cert.DHiddenIdeal.Val.res (m := m) (c := c) (ρ := ρ) (entry_ent _) (entry_ent _) (entry_ent _) (entry_ent _)), (h c).2⟩)
      (Cert.DHiddenIdeal.Val.run_arr m ρ),
    (θ_run Cert.ReferenceDHiddenIdeal.defs _ _).mono (fun r h c => ⟨(h c).1.trans (by
        rw [(ha c).1, (ha c).2.1, (ha c).2.2.1, (ha c).2.2.2]
        exact Cert.ReferenceDHiddenIdeal.Val.ref (entry_ent _) (entry_ent _) (entry_ent _) (entry_ent _)), (h c).2⟩)
      (Cert.ReferenceDHiddenIdeal.Value.run (F := Ideal) m' ρ')⟩

end Cert.Proof

end
-- ==== Proof.UpGrad.lean ====
/-
  The gradient of the feed-forward's first two weights: the four partial products the grid adds up are the product.
-/
module

public import proofs.«01_k».proof.Defs
public import proofs.«01_k».proof.Proof.Gen.GUpIdeal.Value
public import proofs.«01_k».proof.Proof.Gen.ReferenceGUpIdeal
public import proofs.«01_k».proof.Proof.Gen.ReferenceGUpIdeal.Run
public import proofs.«01_k».proof.Proof.Dense
public import Idealize.ShloMosaic.Lib.Pipeline.ValueKit.Geometry
public import Idealize.ShloMosaic.Lib.Pipeline.ValueKit.Acc

@[expose] public section

set_option maxRecDepth 16384
set_option maxHeartbeats 1000000

noncomputable section

namespace Cert.GUpIdeal.Val

open Idealize.ShloMosaic Idealize.ShloMosaic.TcCoe Idealize.SL.Sem Idealize.ShloMosaic.Tactic
open Cert.GUpIdeal Cert.GUpIdeal.Gen Cert.Dense
open Finset

variable {f g p : ℕ → ℕ → EReal}

theorem pay1_ent {x : Vec Ideal S1024x1408 .bf16} {y : Vec Ideal S1024x1024 .bf16} (hx : Ent (a := 1024) (b := 1408) x f) (hy : Ent (a := 1024) (b := 1024) y g) :
    Ent (a := 1408) (b := 1024) (k0_pay1 (F := Ideal) x y) (fun r c => ∑ i ∈ range 1024, f i r * g i c) := fun j =>
  (Ideal.matmul_constant_zero_apply (φ₁ := .bf16) (φ₂ := .bf16) dot_S1024x1408_S1024x1024_S1408x1024_0_0_1_1_n_n none x y j).trans
    (contr _ 1024 rfl rfl x y j (fun i => f i (j 0).val) (fun i => g i (j 1).val) (fun k => hx _) (fun k => hy _))

theorem pay2_ent {x : Vec Ideal S1024x1408 .bf16} {y : Vec Ideal S1024x1024 .bf16} (hx : Ent (a := 1024) (b := 1408) x f) (hy : Ent (a := 1024) (b := 1024) y g) :
    Ent (a := 1408) (b := 1024) (k0_pay2 (F := Ideal) x y) (fun r c => ∑ i ∈ range 1024, f i r * g i c) := by
  have e : k0_pay2 (F := Ideal) x y = k0_pay1 x y := shapeCast_self _ _
  rw [e]; exact pay1_ent hx hy

theorem pay3_ent {x : Vec Ideal S1024x1408 .bf16} {y : Vec Ideal S1024x1024 .bf16} {z : Vec Ideal S1408x1024 .f32}
    (hx : Ent (a := 1024) (b := 1408) x f) (hy : Ent (a := 1024) (b := 1024) y g) (hz : Ent (a := 1408) (b := 1024) z p) :
    Ent (a := 1408) (b := 1024) (k0_pay3 (F := Ideal) x y z) (fun r c => p r c + ∑ i ∈ range 1024, f i r * g i c) := by
  have e : k0_pay3 (F := Ideal) x y z = addf z (k0_pay1 x y) := shapeCast_self _ _
  rw [e]
  intro j
  show z j + k0_pay1 (F := Ideal) x y j = _
  rw [hz j, pay1_ent hx hy j]

section
variable (c : Dev nD) (i : grid0.Coords) (a3 : Memref sig .tc .vmem S1024x1408 .bf16) (h3 : a3.IsWhole) (a4 : Memref sig .tc .vmem S1024x1024 .bf16) (h4 : a4.IsWhole)
  (a5 : Memref sig .tc .vmem S1408x1024 .bf16) (h5 : a5.IsWhole) (a6 : Memref sig .tc .vmem S1408x1024 .f32) (h6 : a6.IsWhole)
  (x : Vec Ideal S1024x1408 .bf16) (y : Vec Ideal S1024x1024 .bf16) (z : Vec Ideal S1408x1024 .f32)

theorem soutA (hc0 : cond0_0 i) (hc1 : ¬cond0_1 i) (hc2 : ¬cond0_2 i) :
    sout0_A_0 (F := Ideal) c i a3 h3 a4 h4 a5 h5 a6 h6 hc0 hc1 hc2 x y = k0_pay2 x y := by frame_out

theorem soutB (hc0 : ¬cond0_0 i) (hc1 : cond0_1 i) (hc2 : ¬cond0_2 i) :
    sout0_B_0 (F := Ideal) c i a3 h3 a4 h4 a5 h5 a6 h6 hc0 hc1 hc2 x y z = k0_pay3 x y z := by frame_out

theorem outC (hc0 : ¬cond0_0 i) (hc1 : cond0_1 i) (hc2 : cond0_2 i) :
    out0_C_2 (F := Ideal) c i a3 h3 a4 h4 a5 h5 a6 h6 hc0 hc1 hc2 x y z = k0_pay4 (k0_pay3 x y z) := by frame_out
end

variable (m : (ℓ : Loc nD τ sig) → Buf (Elt Ideal) ℓ) (c : Dev nD)

theorem ix0 : ∀ t : Fin cfg0.N, win0_0.index t = ![t.val % 4, t.val / 4] := (by decide +kernel : ∀ t : Fin grid0.N, _)
theorem ix1 : ∀ t : Fin cfg0.N, win0_1.index t = ![t.val % 4, 0] := (by decide +kernel : ∀ t : Fin grid0.N, _)
theorem ix2 : ∀ t : Fin cfg0.N, win0_2.index t = ![t.val / 4, 0] := (by decide +kernel : ∀ t : Fin grid0.N, _)

theorem in0 (t : Fin cfg0.N) (h : Ent (a := 4096) (b := 2816) (m ((c.tc : Thread nD τ).loc main_arg0)) f) :
    Ent (a := 1024) (b := 1408) (iblk m c 0 t) (fun k r => f (t.val % 4 * 1024 + k) (t.val / 4 * 1408 + r)) := fun y => by
  show m ((c.tc : Thread nD τ).loc main_arg0) ((win0_0.blk t).view.emb y) = _
  have e0 : ((win0_0.blk t).view.emb y 0).val = t.val % 4 * 1024 + (y 0).val := by blk_simp [ix0]
  have e1 : ((win0_0.blk t).view.emb y 1).val = t.val / 4 * 1408 + (y 1).val := by blk_simp [ix0]
  refine (h ((win0_0.blk t).view.emb y)).trans ?_
  rw [e0, e1]

theorem in1 (t : Fin cfg0.N) (h : Ent (a := 4096) (b := 1024) (m ((c.tc : Thread nD τ).loc main_arg1)) g) :
    Ent (a := 1024) (b := 1024) (iblk m c 1 t) (fun k s => g (t.val % 4 * 1024 + k) s) := fun y => by
  show m ((c.tc : Thread nD τ).loc main_arg1) ((win0_1.blk t).view.emb y) = _
  have e0 : ((win0_1.blk t).view.emb y 0).val = t.val % 4 * 1024 + (y 0).val := by blk_simp [ix1]
  have e1 : ((win0_1.blk t).view.emb y 1).val = (y 1).val := by blk_simp [ix1]
  refine (h ((win0_1.blk t).view.emb y)).trans ?_
  rw [e0, e1]

variable {m c}
variable (h0 : Ent (a := 4096) (b := 2816) (m ((c.tc : Thread nD τ).loc main_arg0)) f) (h1 : Ent (a := 4096) (b := 1024) (m ((c.tc : Thread nD τ).loc main_arg1)) g)

include h0 h1 in
/-- What the accumulator holds before the last of a block's four grid points. -/
theorem acc (q : ℕ) : ∀ j : ℕ, j < 3 → ∀ h : 4 * q + j < cfg0.N,
    Ent (a := 1408) (b := 1024) (outsAt0 m c (4 * q + j) h).2 (fun r s => ∑ k ∈ range (1024 * (j + 1)), f k (q * 1408 + r) * g k s)
  | 0, _, h => fun y => by
    have e := congrArg Prod.snd (outsAt0_A m c ⟨4 * q, h⟩ (by dsimp only; omega) (by dsimp only; omega) (by dsimp only; omega))
    refine (congrFun e y).trans ?_
    dsimp only
    rw [soutA, pay2_ent (in0 m c ⟨4 * q, h⟩ h0) (in1 m c ⟨4 * q, h⟩ h1) y]
    simp only [show 4 * q % 4 = 0 by omega, show 4 * q / 4 = q by omega, Nat.zero_mul, Nat.zero_add, Nat.mul_one]
  | j + 1, hj, h => fun y => by
    have e := congrArg Prod.snd (outsAt0_B m c ⟨4 * q + (j + 1), h⟩ (by dsimp only; omega) (by dsimp only; omega) (by dsimp only; omega))
    refine (congrFun e y).trans ?_
    dsimp only
    have hs : Ent (a := 1408) (b := 1024) (outsAt0 m c (4 * q + (j + 1) - 1) (Nat.lt_of_le_of_lt (Nat.sub_le _ _) h)).2 _ := acc q j (by omega) (by omega)
    rw [soutB, pay3_ent (in0 m c ⟨4 * q + (j + 1), h⟩ h0) (in1 m c ⟨4 * q + (j + 1), h⟩ h1) hs y, sum_step 1024 (j + 1)]
    simp only [show (4 * q + (j + 1)) % 4 = j + 1 by omega, show (4 * q + (j + 1)) / 4 = q by omega, Nat.mul_comm (j + 1) 1024]

include h0 h1 in
theorem arr : (dats m 0 c).arrAt 2 cfg0.N = fun i : S2816x1024.Idx => ∑ k ∈ range 4096, f k (i 0).val * g k (i 1).val := by
  refine (dats m 0 c).arrAt_eq_of_covers 2 _ (by decide +kernel) fun t hf y => ?_
  have hm : t.val % 4 = 3 := (flush0_2 t).mp hf
  have hp : 4 * (t.val / 4) + 2 < cfg0.N := by have := lt_of_lt_of_eq t.isLt (show cfg0.N = 8 from N_0); rw [show cfg0.N = 8 from N_0]; omega
  have ht : t.val - 1 = 4 * (t.val / 4) + 2 := by omega
  have hs : Ent (a := 1408) (b := 1024) (outsAt0 m c (t.val - 1) (Nat.lt_of_le_of_lt (Nat.sub_le _ _) t.isLt)).2
      (fun r s => ∑ k ∈ range (1024 * 3), f k (t.val / 4 * 1408 + r) * g k s) := by
    have := acc h0 h1 (t.val / 4) 2 (by omega) hp
    simp only [← ht] at this
    exact this
  blk_simp [ix2]
  rw [after0_2, outsAt0_C m c t (by omega) (by omega) hm]
  dsimp only
  rw [outC]
  show k0_pay3 (F := Ideal) _ _ _ y = _
  rw [pay3_ent (in0 m c t h0) (in1 m c t h1) hs y, hm]
  exact (sum_step 1024 3 _).symm

end Cert.GUpIdeal.Val

namespace Cert.ReferenceGUpIdeal.Val

open Idealize.ShloMosaic
open Cert.ReferenceGUpIdeal Cert.ReferenceGUpIdeal.Gen Cert.Dense
open Finset

variable {f g : ℕ → ℕ → EReal}

theorem ref {x : Vec Ideal S4096x2816 .bf16} {y : Vec Ideal S4096x1024 .bf16} (hx : Ent (a := 4096) (b := 2816) x f) (hy : Ent (a := 4096) (b := 1024) y g) :
    truncf (F := Ideal) .bf16 (transpose S2816x1024 [1, 0] (transpose S1024x2816 [1, 0] (Host.dotGeneral (F := Ideal) (φ₁ := .f32) (φ₂ := .f32) dot_S4096x2816_S4096x1024_S2816x1024_0_0_1_1_n_n none
        (extf .f32 x bitsLt_bf16_f32) (extf .f32 y bitsLt_bf16_f32)) transposes_S2816x1024_S1024x2816_1_0) transposes_S1024x2816_S2816x1024_1_0) bitsLt_bf16_f32
      = fun i : S2816x1024.Idx => ∑ k ∈ range 4096, f k (i 0).val * g k (i 1).val := funext fun j => by
  have e : ∀ z : FVec Ideal S2816x1024 .f32, truncf (F := Ideal) .bf16 z bitsLt_bf16_f32 j = z j := fun _ => rfl
  refine (e _).trans ?_
  refine (transpose_apply [1, 0] _ transposes_S1024x2816_S2816x1024_1_0 j (ValueIdx.ix2 (j 1) (j 0)) (fun b => match b with
    | ⟨0, _⟩ => rfl
    | ⟨1, _⟩ => rfl)).trans ?_
  refine (transpose_apply [1, 0] _ transposes_S2816x1024_S1024x2816_1_0 (ValueIdx.ix2 (j 1) (j 0)) j (fun b => match b with
    | ⟨0, _⟩ => rfl
    | ⟨1, _⟩ => rfl)).trans ?_
  exact (Ideal.dotGeneral_apply (φ₁ := .f32) (φ₂ := .f32) dot_S4096x2816_S4096x1024_S2816x1024_0_0_1_1_n_n none _ (extf (F := Ideal) .f32 x bitsLt_bf16_f32)
      (extf (F := Ideal) .f32 y bitsLt_bf16_f32) j).trans
    (contr _ 4096 rfl rfl x y j (fun i => f i (j 0).val) (fun i => g i (j 1).val) (fun k => hx _) (fun k => hy _))

end Cert.ReferenceGUpIdeal.Val

namespace Cert.Proof

open Idealize.ShloMosaic Idealize.SL.Sem Cert.Dense

theorem frame_RGUp : Cert.quiescent_ReferenceGUpIdeal (hReferenceGUpIdeal := Cert.ReferenceGUpIdeal.Gen.facts) := fun m ρ _ =>
  (θ_run Cert.ReferenceGUpIdeal.defs _ _).mono (fun r h => ⟨fun c => (h c).2, Idealize.ShloMosaic.sem_eq_zero_of_no_sems (by decide) r.2⟩)
    (Cert.ReferenceGUpIdeal.Value.run (F := Ideal) m ρ)

theorem algebraic_GUp : Cert.algebraic_GUpIdeal_ReferenceGUpIdeal (hGUpIdeal := Cert.GUpIdeal.Gen.facts)
    (hReferenceGUpIdeal := Cert.ReferenceGUpIdeal.Gen.facts) := fun m ρ m' ρ' _ ha =>
  ⟨_, (θ_run Cert.GUpIdeal.defs _ _).mono (fun r h c => ⟨(h c).1.trans (Cert.GUpIdeal.Val.arr (m := m) (c := c) (entry_ent _) (entry_ent _)), (h c).2⟩)
      (Cert.GUpIdeal.Value.run_blocks m ρ),
    (θ_run Cert.ReferenceGUpIdeal.defs _ _).mono (fun r h c => ⟨(h c).1.trans (by
        rw [(ha c).1, (ha c).2]
        exact Cert.ReferenceGUpIdeal.Val.ref (entry_ent _) (entry_ent _)), (h c).2⟩)
      (Cert.ReferenceGUpIdeal.Value.run (F := Ideal) m' ρ')⟩

end Cert.Proof

end
-- ==== Proof.FwdSame.lean ====
/-
  The two printed programs of the forward attention have one text: their tables of bodies agree, so a run of one is a run of the other.
-/
module
public import proofs.«01_k».proof.Defs
public import proofs.«01_k».proof.Proof.Gen.SbFwd
public import proofs.«01_k».proof.Proof.Gen.SbFwdIdeal
@[expose] public section
set_option maxRecDepth 8192
noncomputable section
namespace Cert.Proof.FwdSame
open Idealize.ShloMosaic Idealize.SL.Sem
variable {F : FTy → Type} [FloatOps F]
theorem body_eq : Cert.SbFwd.cc0_sb_fwd (F := F) = Cert.SbFwdIdeal.cc0_sb_fwd (F := F) := rfl
theorem defs₀_eq : Cert.SbFwd.defs₀ (F := F) = Cert.SbFwdIdeal.defs₀ (F := F) := by
  unfold Cert.SbFwd.defs₀ Cert.SbFwdIdeal.defs₀
  refine congrArg Defs.onTc (funext fun l => funext fun a => ?_)
  match l, a with
  | 0, (t, s) =>
    rw [body_eq]
    rfl
  | ⟨n + 1, h⟩, _ => exact absurd h (by omega)
theorem defs_eq : Cert.SbFwd.defs (F := F) = Cert.SbFwdIdeal.defs (F := F) := congrArg (Pipeline.defs Cert.SbFwd.pcfgs) defs₀_eq
end Cert.Proof.FwdSame
end
-- ==== Proof.Offs.lean ====
/-
  Closed forms of the offsets and the trip counts of the backward pass: the query block `t` uses the key chunks
  `0 … t / 2`, the recomputation visits them from the last to the first and the accumulation from the first to the last.
-/
module

public import proofs.«01_k».proof.Proof.Gen.KernelIdeal.Skeleton
public import Idealize.ShloMosaic.Lib.Exec
public import Idealize.ShloMosaic.Lib.Tactic

@[expose] public section

set_option maxRecDepth 16384

namespace Cert.KernelIdeal.Sbw

open Idealize.ShloMosaic Idealize.ShloMosaic.Tactic
open Cert.KernelIdeal Cert.KernelIdeal.Gen

theorem trips1 : k0_t1_loop.trips = 16 := by decide +kernel
theorem trips2 : ∀ t : Fin k0_t1_loop.trips, (k0_t2_loop t).trips = t.val / 2 % 2 := by decide +kernel
theorem trips4 : ∀ t : Fin k0_t1_loop.trips, (k0_t4_loop t).trips = t.val / 2 / 2 := by decide +kernel
theorem trips6 : ∀ t : Fin k0_t1_loop.trips, (k0_t6_loop t).trips = (t.val / 2 + 1) % 2 := by decide +kernel
theorem trips8 : ∀ t : Fin k0_t1_loop.trips, (k0_t8_loop t).trips = (t.val / 2 + 1) / 2 := by decide +kernel

theorem k0_off1_eq : ∀ t : Fin k0_t1_loop.trips, k0_off1 t = ![128 * t.val, 0] := by decide +kernel
theorem k0_off2_eq : ∀ t : Fin k0_t1_loop.trips, k0_off2 t = ![256 * (t.val / 2), 0] := by decide +kernel
theorem k0_off3_eq : ∀ t : Fin k0_t1_loop.trips, k0_off3 t = ![t.val / 2, 0, 0] := by decide +kernel
theorem k0_off4_eq : ∀ (t : Fin k0_t1_loop.trips) (_ : Fin (k0_t2_loop t).trips),
    k0_off4 t = ![256 * (t.val / 2 - 1), 0] := by decide +kernel
theorem k0_off5_eq : ∀ (t : Fin k0_t1_loop.trips) (_ : Fin (k0_t2_loop t).trips),
    k0_off5 t = ![t.val / 2 - 1, 0, 0] := by decide +kernel
theorem k0_off8_eq : ∀ (t : Fin k0_t1_loop.trips) (n : Fin (k0_t4_loop t).trips),
    k0_off8 t n = ![256 * (t.val / 2 - 1 - t.val / 2 % 2 - 2 * n.val), 0] := by decide +kernel
theorem k0_off9_eq : ∀ (t : Fin k0_t1_loop.trips) (n : Fin (k0_t4_loop t).trips),
    k0_off9 t n = ![256 * (t.val / 2 - 1 - t.val / 2 % 2 - 2 * n.val - 1), 0] := by decide +kernel
theorem k0_off10_eq : ∀ (t : Fin k0_t1_loop.trips) (n : Fin (k0_t4_loop t).trips),
    k0_off10 t n = ![t.val / 2 - 1 - t.val / 2 % 2 - 2 * n.val, 0, 0] := by decide +kernel
theorem k0_off11_eq : ∀ (t : Fin k0_t1_loop.trips) (n : Fin (k0_t4_loop t).trips),
    k0_off11 t n = ![t.val / 2 - 1 - t.val / 2 % 2 - 2 * n.val - 1, 0, 0] := by decide +kernel
theorem k0_off16_eq : ∀ (t : Fin k0_t1_loop.trips) (n : Fin (k0_t8_loop t).trips),
    k0_off16 t n = ![256 * ((t.val / 2 + 1) % 2 + 2 * n.val), 0] := by decide +kernel
theorem k0_off17_eq : ∀ (t : Fin k0_t1_loop.trips) (n : Fin (k0_t8_loop t).trips),
    k0_off17 t n = ![256 * ((t.val / 2 + 1) % 2 + 2 * n.val + 1), 0] := by decide +kernel
theorem k0_off18_eq : ∀ (t : Fin k0_t1_loop.trips) (n : Fin (k0_t8_loop t).trips),
    k0_off18 t n = ![(t.val / 2 + 1) % 2 + 2 * n.val, 0, 0] := by decide +kernel
theorem k0_off19_eq : ∀ (t : Fin k0_t1_loop.trips) (n : Fin (k0_t8_loop t).trips),
    k0_off19 t n = ![(t.val / 2 + 1) % 2 + 2 * n.val + 1, 0, 0] := by decide +kernel

instance (t : Fin k0_t1_loop.trips) : ClosedOff (k0_off1 t) := ⟨_, k0_off1_eq t⟩
instance (t : Fin k0_t1_loop.trips) : ClosedOff (k0_off2 t) := ⟨_, k0_off2_eq t⟩
instance (t : Fin k0_t1_loop.trips) : ClosedOff (k0_off3 t) := ⟨_, k0_off3_eq t⟩
instance (t : Fin k0_t1_loop.trips) (n : Fin (k0_t4_loop t).trips) : ClosedOff (k0_off8 t n) := ⟨_, k0_off8_eq t n⟩
instance (t : Fin k0_t1_loop.trips) (n : Fin (k0_t4_loop t).trips) : ClosedOff (k0_off9 t n) := ⟨_, k0_off9_eq t n⟩
instance (t : Fin k0_t1_loop.trips) (n : Fin (k0_t4_loop t).trips) : ClosedOff (k0_off10 t n) := ⟨_, k0_off10_eq t n⟩
instance (t : Fin k0_t1_loop.trips) (n : Fin (k0_t4_loop t).trips) : ClosedOff (k0_off11 t n) := ⟨_, k0_off11_eq t n⟩
instance (t : Fin k0_t1_loop.trips) (n : Fin (k0_t8_loop t).trips) : ClosedOff (k0_off16 t n) := ⟨_, k0_off16_eq t n⟩
instance (t : Fin k0_t1_loop.trips) (n : Fin (k0_t8_loop t).trips) : ClosedOff (k0_off17 t n) := ⟨_, k0_off17_eq t n⟩
instance (t : Fin k0_t1_loop.trips) (n : Fin (k0_t8_loop t).trips) : ClosedOff (k0_off18 t n) := ⟨_, k0_off18_eq t n⟩
instance (t : Fin k0_t1_loop.trips) (n : Fin (k0_t8_loop t).trips) : ClosedOff (k0_off19 t n) := ⟨_, k0_off19_eq t n⟩

end Cert.KernelIdeal.Sbw

end
-- ==== Proof.Spec.lean ====
/-
  The values of the backward pass, stated over whole vectors: what one key chunk of one query block computes, the
  recursions over the chunks, and the equations between these and the values the printed loops carry.
-/
module

public import proofs.«01_k».proof.Proof.Offs

@[expose] public section

set_option maxRecDepth 16384
set_option maxHeartbeats 4000000

noncomputable section

namespace Cert.KernelIdeal.Sbw

open Idealize.ShloMosaic Idealize.ShloMosaic.Tactic
open Cert.KernelIdeal Cert.KernelIdeal.Gen

variable {F : FTy → Type} [FloatOps F]

/-- Four copies of a chunk's rows, each kept only where the column belongs to the copy's head. -/
def kdV (bd : IVec S1024x256 1) (x : Vec F S256x256 .bf16) : FVec F S1024x256 .bf16 :=
  select bd (concatenate S1024x256 0 [⟨S256x256, x⟩, ⟨S256x256, x⟩, ⟨S256x256, x⟩, ⟨S256x256, x⟩] concatenates_S256x256_S256x256_S256x256_S256x256_S1024x256_d0)
    (broadcast S1024x256 (Scalar.ofBits .bf16 0x0000#16))

/-- The rows' products with the chunk, head by head. -/
def zV (bd : IVec S1024x256 1) (q : FVec F S128x256 .bf16) (x : Vec F S256x256 .bf16) : FVec F S128x1024 .f32 :=
  matmul dot_S128x256_S1024x256_S128x1024_1_1_0_0_n_n none q (kdV bd x) (constant S128x1024 .f32 0x00000000#32)

/-- The logarithm of one minus the logistic of `z`. -/
def lkV (z : FVec F S128x1024 .f32) : FVec F S128x1024 .f32 :=
  subf (broadcast S128x1024 (Scalar.ofBits .f32 0x00000000#32))
    (addf (maximumf z (broadcast S128x1024 (Scalar.ofBits .f32 0x00000000#32)))
      (log (addf (broadcast S128x1024 (Scalar.ofBits .f32 0x3F800000#32))
        (exp (subf (broadcast S128x1024 (Scalar.ofBits .f32 0x00000000#32)) (absf z))))))

/-- A vector kept where the mask holds, zero elsewhere. -/
def maskV (m : IVec S128x1024 1) (x : FVec F S128x1024 .f32) : FVec F S128x1024 .f32 := select m x (broadcast S128x1024 (Scalar.ofBits .f32 0x00000000#32))

/-- The stacked rounded and remaining parts of `x`, times a triangle of ones. -/
def triM (x : FVec F S128x1024 .f32) (tri : FVec F S256x256 .bf16) : FVec F S1024x256 .f32 :=
  have hi : FVec F S128x1024 .bf16 := truncf .bf16 x bitsLt_bf16_f32
  have lo : FVec F S128x1024 .bf16 := truncf .bf16 (subf x (extf .f32 hi bitsLt_bf16_f32)) bitsLt_bf16_f32
  matmul dot_S1024x256_S256x256_S1024x256_1_0_0_1_n_n none
    (concatenate S1024x256 0
      [⟨S128x256, extractStridedSlice S128x256 ![0, 0] hi slices_S128x1024_o0_0_S128x256⟩,
       ⟨S128x256, extractStridedSlice S128x256 ![0, 256] hi slices_S128x1024_o0_256_S128x256⟩,
       ⟨S128x256, extractStridedSlice S128x256 ![0, 512] hi slices_S128x1024_o0_512_S128x256⟩,
       ⟨S128x256, extractStridedSlice S128x256 ![0, 768] hi slices_S128x1024_o0_768_S128x256⟩,
       ⟨S128x256, extractStridedSlice S128x256 ![0, 0] lo slices_S128x1024_o0_0_S128x256⟩,
       ⟨S128x256, extractStridedSlice S128x256 ![0, 256] lo slices_S128x1024_o0_256_S128x256⟩,
       ⟨S128x256, extractStridedSlice S128x256 ![0, 512] lo slices_S128x1024_o0_512_S128x256⟩,
       ⟨S128x256, extractStridedSlice S128x256 ![0, 768] lo slices_S128x1024_o0_768_S128x256⟩]
      concatenates_S128x256_S128x256_S128x256_S128x256_S128x256_S128x256_S128x256_S128x256_S1024x256_d0)
    tri (constant S1024x256 .f32 0x00000000#32)

/-- Within each head, the sum of `x` over the columns the triangle names. -/
def triV (x : FVec F S128x1024 .f32) (tri : FVec F S256x256 .bf16) : FVec F S128x1024 .f32 :=
  have y := triM x tri
  concatenate S128x1024 1
    [⟨S128x256, addf (extractStridedSlice S128x256 ![0, 0] y slices_S1024x256_o0_0_S128x256) (extractStridedSlice S128x256 ![512, 0] y slices_S1024x256_o512_0_S128x256)⟩,
     ⟨S128x256, addf (extractStridedSlice S128x256 ![128, 0] y slices_S1024x256_o128_0_S128x256) (extractStridedSlice S128x256 ![640, 0] y slices_S1024x256_o640_0_S128x256)⟩,
     ⟨S128x256, addf (extractStridedSlice S128x256 ![256, 0] y slices_S1024x256_o256_0_S128x256) (extractStridedSlice S128x256 ![768, 0] y slices_S1024x256_o768_0_S128x256)⟩,
     ⟨S128x256, addf (extractStridedSlice S128x256 ![384, 0] y slices_S1024x256_o384_0_S128x256) (extractStridedSlice S128x256 ![896, 0] y slices_S1024x256_o896_0_S128x256)⟩]
    concatenates_S128x256_S128x256_S128x256_S128x256_S128x1024_d1

/-- The sum of one head's columns in every row. -/
def rsV (x : FVec F S128x256 .f32) : FVec F S128x256 .f32 :=
  broadcastTo S128x256 (shapeCast S128x1 (shapeCast S128x1 (multiReduction .add [1] S128 x 0x00000000#32 reduces_S128x256_S128 (.inl rfl) rfl) shapeCasts_S128_S128x1) shapeCasts_S128x1_S128x1) broadcasts_S128x1_S128x256

/-- `c` plus, in every column, the sum of `x` over the columns of its head. -/
def nxV (c x : FVec F S128x1024 .f32) : FVec F S128x1024 .f32 :=
  addf c (concatenate S128x1024 1
    [⟨S128x256, rsV (extractStridedSlice S128x256 ![0, 0] x slices_S128x1024_o0_0_S128x256)⟩,
     ⟨S128x256, rsV (extractStridedSlice S128x256 ![0, 256] x slices_S128x1024_o0_256_S128x256)⟩,
     ⟨S128x256, rsV (extractStridedSlice S128x256 ![0, 512] x slices_S128x1024_o0_512_S128x256)⟩,
     ⟨S128x256, rsV (extractStridedSlice S128x256 ![0, 768] x slices_S128x1024_o0_768_S128x256)⟩]
    concatenates_S128x256_S128x256_S128x256_S128x256_S128x1024_d1)

/-- The attention weights of one chunk from `z`, the (masked) `lk` and the sum `cs` of the later chunks. -/
def attV (later : FVec F S256x256 .bf16) (z lk cs : FVec F S128x1024 .f32) : FVec F S128x1024 .f32 := exp (addf (addf (addf z lk) (triV lk later)) cs)

/-- The logistic of `z` where `lk` is unmasked. -/
def sgV (z lk : FVec F S128x1024 .f32) : FVec F S128x1024 .f32 := exp (addf z lk)

/-- A block as a plane of the scratch buffer. -/
def upV (x : FVec F S128x1024 .f32) : FVec F S1x128x1024 .f32 := shapeCast S1x128x1024 x shapeCasts_S128x1024_S1x128x1024
/-- A plane of the scratch buffer as a block. -/
def downV (x : Vec F S1x128x1024 .f32) : FVec F S128x1024 .f32 := shapeCast S128x1024 x shapeCasts_S1x128x1024_S128x1024

/-- The gradient of the exponents. -/
def dsV (bd : IVec S1024x256 1) (g : FVec F S128x256 .bf16) (v : Vec F S256x256 .bf16) (a : Vec F S1x128x1024 .f32) : FVec F S128x1024 .f32 :=
  mulf (zV bd g v) (downV a)

/-- The gradient of the scores. -/
def dzV (earlier : FVec F S256x256 .bf16) (ds pre : FVec F S128x1024 .f32) (s : Vec F S1x128x1024 .f32) : FVec F S128x1024 .bf16 :=
  truncf .bf16 (subf ds (mulf (addf (addf ds (triV ds earlier)) pre) (downV s))) bitsLt_bf16_f32

/-- The four heads' blocks of the transposed product `wᵀ q`, each at its own columns, added to `old`. -/
def accV (bd : IVec S1024x256 1) (w : FVec F S128x1024 .bf16) (q : FVec F S128x256 .bf16) (old : Vec F S256x256 .f32) : FVec F S256x256 .f32 :=
  have y : FVec F S1024x256 .f32 := select bd
    (matmul dot_S128x1024_S128x256_S1024x256_0_0_1_1_n_n none w q (constant S1024x256 .f32 0x00000000#32))
    (broadcast S1024x256 (Scalar.ofBits .f32 0x00000000#32))
  addf (shapeCast S256x256 old shapeCasts_S256x256_S256x256)
    (addf (addf (extractStridedSlice S256x256 ![0, 0] y slices_S1024x256_o0_0_S256x256) (extractStridedSlice S256x256 ![256, 0] y slices_S1024x256_o256_0_S256x256))
      (addf (extractStridedSlice S256x256 ![512, 0] y slices_S1024x256_o512_0_S256x256) (extractStridedSlice S256x256 ![768, 0] y slices_S1024x256_o768_0_S256x256)))

/-- The attention weights rounded, as the factor of the product with the incoming gradient. -/
def rdV (a : Vec F S1x128x1024 .f32) : FVec F S128x1024 .bf16 := truncf .bf16 (downV a) bitsLt_bf16_f32

/-- `dq` plus the product of the scores' gradient with the chunk's keys. -/
def dqV (bd : IVec S1024x256 1) (dq : FVec F S128x256 .f32) (dz : FVec F S128x1024 .bf16) (k : Vec F S256x256 .bf16) : FVec F S128x256 .f32 :=
  addf dq (matmul dot_S128x1024_S1024x256_S128x256_1_0_0_1_n_n none dz (kdV bd k) (constant S128x256 .f32 0x00000000#32))

/-! ### The printed values are these -/

variable (bd : IVec S1024x256 1) (q g : FVec F S128x256 .bf16) (k v : Vec F S256x256 .bf16) (tri : FVec F S256x256 .bf16)

theorem pay15_eq : k0_pay15 bd q k = lkV (zV bd q k) := rfl
theorem pay16_eq : k0_pay16 bd q k = addf (zV bd q k) (lkV (zV bd q k)) := rfl
theorem pay17_eq : k0_pay17 bd tri q k = triV (lkV (zV bd q k)) tri := rfl
theorem pay131_eq (cs : FVec F S128x1024 .f32) : k0_pay131 cs (k0_pay16 bd q k) (k0_pay17 bd tri q k) = upV (attV tri (zV bd q k) (lkV (zV bd q k)) cs) := rfl
theorem pay132_eq : k0_pay132 (k0_pay16 bd q k) = upV (sgV (zV bd q k) (lkV (zV bd q k))) := rfl
theorem pay133_eq (cs lk : FVec F S128x1024 .f32) : k0_pay133 cs lk = nxV cs lk := rfl

theorem pay23_eq : k0_pay23 bd q k = lkV (zV bd q k) := rfl
theorem pay38_eq : k0_pay38 (k0_pay24 bd q k) = upV (sgV (zV bd q k) (lkV (zV bd q k))) := rfl
theorem pay39_eq : k0_pay39 (k0_pay32 bd q k) = upV (sgV (zV bd q k) (lkV (zV bd q k))) := rfl
theorem pay40_eq (cs : FVec F S128x1024 .f32) : k0_pay40 cs (k0_pay24 bd q k)
    (k0_pay29 (k0_pay25 bd tri q k) (k0_pay26 bd tri q k) (k0_pay27 bd tri q k) (k0_pay28 bd tri q k))
      = upV (attV tri (zV bd q k) (lkV (zV bd q k)) cs) := rfl
theorem pay41_eq (cs lk : FVec F S128x1024 .f32) : k0_pay41 cs lk = nxV cs lk := rfl
theorem pay42_eq (cs lk : FVec F S128x1024 .f32) : k0_pay137 (k0_pay42 cs lk (k0_pay32 bd q k) (k0_pay33 bd tri q k) (k0_pay34 bd tri q k)
    (k0_pay35 bd tri q k) (k0_pay36 bd tri q k) (k0_pay37 bd tri q k))
      = upV (attV tri (zV bd q k) (lkV (zV bd q k)) (nxV cs lk)) := rfl
theorem pay138_eq (cs : FVec F S128x1024 .f32) : k0_pay138 (k0_pay31 bd q k) cs = nxV cs (lkV (zV bd q k)) := rfl

theorem pay122_eq (a b d : IVec S128x1024 32) : k0_pay122 bd a b q d k = maskV (k0_pay119 a b d) (lkV (zV bd q k)) := rfl
theorem pay129_eq (a b d : IVec S128x1024 32) : k0_pay129 (k0_pay119 a b d) (k0_pay123 bd a b q d k)
    = upV (maskV (k0_pay119 a b d) (sgV (zV bd q k) (maskV (k0_pay119 a b d) (lkV (zV bd q k))))) := rfl
theorem pay128_eq (a b d : IVec S128x1024 32) (cs : FVec F S128x1024 .f32) : k0_pay128 (k0_pay119 a b d) cs (k0_pay123 bd a b q d k)
    (k0_pay124 bd a b tri q d k) (k0_pay125 bd a b tri q d k) (k0_pay126 bd a b tri q d k) (k0_pay127 bd a b tri q d k)
      = upV (maskV (k0_pay119 a b d) (attV tri (zV bd q k) (maskV (k0_pay119 a b d) (lkV (zV bd q k))) cs)) := rfl
theorem pay130_eq (cs lk : FVec F S128x1024 .f32) : k0_pay130 cs lk = nxV cs lk := rfl

theorem pay66_eq (a : Vec F S1x128x1024 .f32) : k0_pay66 bd g v a = dsV bd g v a := rfl
theorem pay69_eq (pre : FVec F S128x1024 .f32) (a s : Vec F S1x128x1024 .f32) (old : Vec F S256x256 .f32) :
    k0_pay69 bd q (k0_pay66 bd g v a) (k0_pay67 bd tri g pre v a) s old
      = accV bd (dzV tri (dsV bd g v a) pre s) q old := rfl
theorem pay70_eq (a : Vec F S1x128x1024 .f32) (old : Vec F S256x256 .f32) :
    k0_pay70 bd g (k0_pay65 a) old = accV bd (rdV a) g old := rfl
theorem pay71_eq (dq : FVec F S128x256 .f32) (pre : FVec F S128x1024 .f32) (a s : Vec F S1x128x1024 .f32) :
    k0_pay71 dq (k0_pay64 bd k) (k0_pay66 bd g v a) (k0_pay67 bd tri g pre v a) s
      = dqV bd dq (dzV tri (dsV bd g v a) pre s) k := rfl
theorem pay143_eq (pre x : FVec F S128x1024 .f32) : k0_pay143 pre x (k0_pay72 x) (k0_pay73 x) = nxV pre x := rfl

theorem pay88_eq (a : Vec F S1x128x1024 .f32) : k0_pay88 bd g a v = dsV bd g v a := rfl
theorem pay90_eq (a : Vec F S1x128x1024 .f32) : k0_pay90 g (k0_pay87 a) (k0_pay89 bd v) (constant S128x1024 .f32 0x00000000#32) = dsV bd g v a := rfl
theorem pay93_eq (a : Vec F S1x128x1024 .f32) (old : Vec F S256x256 .f32) : k0_pay93 bd g (k0_pay86 a) old = accV bd (rdV a) g old := rfl
theorem pay94_eq (a : Vec F S1x128x1024 .f32) (old : Vec F S256x256 .f32) : k0_pay94 bd g (k0_pay87 a) old = accV bd (rdV a) g old := rfl
theorem pay95_eq (pre x : FVec F S128x1024 .f32) (s : Vec F S1x128x1024 .f32) : k0_pay95 pre x (k0_pay91 tri x) s = dzV tri x pre s := rfl
theorem pay92_eq (a : Vec F S1x128x1024 .f32) :
    k0_pay92 tri g (k0_pay87 a) (k0_pay89 bd v) (constant S128x1024 .f32 0x00000000#32) = triV (dsV bd g v a) tri := rfl
theorem pay98_eq (pre x y : FVec F S128x1024 .f32) (s : Vec F S1x128x1024 .f32) :
    k0_pay98 pre x y (triV y tri) (k0_pay96 x) s = dzV tri y (nxV pre x) s := rfl
theorem pay99_eq (pre x y : FVec F S128x1024 .f32) : k0_pay99 pre x y (k0_pay96 x) = nxV (nxV pre x) y := rfl
theorem pay7_eq (a b : IVec S1024x256 32) (c d : IVec S1024x256 1) (dz : FVec F S128x1024 .bf16) (old : Vec F S256x256 .f32) :
    k0_pay7 a b c d q dz old = accV (k0_pay1 a b c d) dz q old := rfl
theorem pay8_eq (a b : IVec S1024x256 32) (c d : IVec S1024x256 1) (dz : FVec F S128x1024 .bf16) (old : Vec F S256x256 .f32) :
    k0_pay8 a b c d q dz old = accV (k0_pay1 a b c d) dz q old := rfl
theorem pay9_eq (dq : FVec F S128x256 .f32) (dz dz' : FVec F S128x1024 .bf16) (k' : Vec F S256x256 .bf16) :
    k0_pay9 dq (k0_pay84 bd k) (k0_pay85 bd k') dz dz' = dqV bd (dqV bd dq dz k) dz' k' := rfl

end Cert.KernelIdeal.Sbw

end
-- ==== Proof.Rows.lean ====
/-
  The parts of the buffers: chunks of 256 rows, blocks of 128 rows, planes of the scratch buffers; what is read of each
  after a list of stores; the recursions over the chunks.
-/
module

public import proofs.«01_k».proof.Proof.Spec
public import Idealize.ShloMosaic.Lib.VecWindow
public import Idealize.ShloMosaic.Lib.WritesUnit
public import Idealize.ShloMosaic.Lib.Pointwise

@[expose] public section

set_option maxRecDepth 16384
set_option maxHeartbeats 4000000

noncomputable section

namespace Cert.KernelIdeal.Sbw

open Idealize.ShloMosaic Idealize.ShloMosaic.Tactic
open Cert.KernelIdeal Cert.KernelIdeal.Gen

/-- Rows `256 c … 256 c + 255`. -/
def rowsC {α : Type} (X : S2048x256.Idx → α) (c : ℕ) : S256x256.Idx → α :=
  fun y => X (ix2 (n0 := 2048) (n1 := 256) ⟨256 * (c % 8) + (y 0).val, by have := (y 0).isLt; change (y 0).val < 256 at this; omega⟩ (y 1))

/-- Rows `128 t … 128 t + 127`. -/
def rowsB {α : Type} (X : S2048x256.Idx → α) (t : ℕ) : S128x256.Idx → α :=
  fun y => X (ix2 (n0 := 2048) (n1 := 256) ⟨128 * (t % 16) + (y 0).val, by have := (y 0).isLt; change (y 0).val < 128 at this; omega⟩ (y 1))

/-- Plane `c` of a scratch buffer. -/
def plane {α : Type} (X : S8x128x1024.Idx → α) (c : ℕ) : S1x128x1024.Idx → α :=
  fun y => X (ix3 (n0 := 8) (n1 := 128) (n2 := 1024) ⟨c % 8, Nat.mod_lt _ (by omega)⟩ (y 1) (y 2))

theorem chI (c : ℕ) : ∀ a : Fin 2, (![256 * (c % 8), 0] : Fin 2 → ℕ) a + S256x256.size a ≤ S2048x256.size a := by
  intro a; fin_cases a
  · show 256 * (c % 8) + 256 ≤ 2048; omega
  · show 0 + 256 ≤ 256; omega
theorem blI (t : ℕ) : ∀ a : Fin 2, (![128 * (t % 16), 0] : Fin 2 → ℕ) a + S128x256.size a ≤ S2048x256.size a := by
  intro a; fin_cases a
  · show 128 * (t % 16) + 128 ≤ 2048; omega
  · show 0 + 256 ≤ 256; omega
theorem plI (c : ℕ) : ∀ a : Fin 3, (![c % 8, 0, 0] : Fin 3 → ℕ) a + S1x128x1024.size a ≤ S8x128x1024.size a := by
  intro a; fin_cases a
  · show c % 8 + 1 ≤ 8; omega
  · show 0 + 128 ≤ 128; omega
  · show 0 + 1024 ≤ 1024; omega

/-- The rectangle of chunk `c`. -/
def ch (c : ℕ) : Rect S2048x256 := Rect.unit ![256 * (c % 8), 0] S256x256.size (chI c)
/-- The rectangle of block `t`. -/
def bl (t : ℕ) : Rect S2048x256 := Rect.unit ![128 * (t % 16), 0] S128x256.size (blI t)
/-- The rectangle of plane `c`. -/
def pl (c : ℕ) : Rect S8x128x1024 := Rect.unit ![c % 8, 0, 0] S1x128x1024.size (plI c)

section
variable {Val : EltTy → Type} {e : EltTy}

theorem piece_eq {s : Shape} {off off' size : Fin s.rank → ℕ} (inb : ∀ a, off a + size a ≤ s.size a)
    (inb' : ∀ a, off' a + size a ≤ s.size a) (h : off = off') (w : ((a : Fin s.rank) → Fin (size a)) → Val e) :
    (⟨Rect.unit off size inb, w⟩ : View.Piece Val s e) = ⟨Rect.unit off' size inb', w⟩ := by
  subst h; rfl

variable {sig : RefSig} {κ : Kind} {sp : Space}

theorem readAt_ch (m : View sig κ sp S2048x256 e) (f : m.ty.Contents Val) (c : ℕ) {off : Fin 2 → ℕ}
    (inb : ∀ a, off a + S256x256.size a ≤ S2048x256.size a) (h : off = ![256 * (c % 8), 0]) :
    m.readAt Val (Rect.unit (s := S2048x256) off S256x256.size inb).toLoadRect f = rowsC (m.read Val f) c := by
  subst h
  funext y
  refine congrArg (m.read Val f) (funext fun a => Fin.ext ?_)
  match a with
  | ⟨0, _⟩ => show 256 * (c % 8) + 1 * (y 0).val = 256 * (c % 8) + (y 0).val; omega
  | ⟨1, _⟩ => show 0 + 1 * (y 1).val = (y 1).val; omega

theorem readAt_bl (m : View sig κ sp S2048x256 e) (f : m.ty.Contents Val) (t : ℕ) {off : Fin 2 → ℕ}
    (inb : ∀ a, off a + S128x256.size a ≤ S2048x256.size a) (h : off = ![128 * (t % 16), 0]) :
    m.readAt Val (Rect.unit (s := S2048x256) off S128x256.size inb).toLoadRect f = rowsB (m.read Val f) t := by
  subst h
  funext y
  refine congrArg (m.read Val f) (funext fun a => Fin.ext ?_)
  match a with
  | ⟨0, _⟩ => show 128 * (t % 16) + 1 * (y 0).val = 128 * (t % 16) + (y 0).val; omega
  | ⟨1, _⟩ => show 0 + 1 * (y 1).val = (y 1).val; omega

theorem readAt_pl (m : View sig κ sp S8x128x1024 e) (f : m.ty.Contents Val) (c : ℕ) {off : Fin 3 → ℕ}
    (inb : ∀ a, off a + S1x128x1024.size a ≤ S8x128x1024.size a) (h : off = ![c % 8, 0, 0]) :
    m.readAt Val (Rect.unit (s := S8x128x1024) off S1x128x1024.size inb).toLoadRect f = plane (m.read Val f) c := by
  subst h
  funext y
  refine congrArg (m.read Val f) (funext fun a => Fin.ext ?_)
  have h0 : (y 0).val = 0 := by have := (y 0).isLt; change (y 0).val < 1 at this; omega
  match a with
  | ⟨0, _⟩ => show c % 8 + 1 * (y 0).val = c % 8; omega
  | ⟨1, _⟩ => show 0 + 1 * (y 1).val = (y 1).val; omega
  | ⟨2, _⟩ => show 0 + 1 * (y 2).val = (y 2).val; omega

theorem rowsC_hit (m : View sig κ sp S2048x256 e) (f : m.ty.Contents Val) (c : ℕ) (w : S256x256.Idx → Val e)
    (L : List (View.Piece Val S2048x256 e)) : rowsC (m.read Val (m.writes Val f (⟨ch c, w⟩ :: L))) c = w := by
  funext y
  refine View.read_writes_cons_unit_of_mem m f (chI c) w L _ y rfl fun a => ?_
  match a with
  | ⟨0, _⟩ => rfl
  | ⟨1, _⟩ => exact (Nat.zero_add _).symm

theorem rowsC_miss (m : View sig κ sp S2048x256 e) (f : m.ty.Contents Val) (c c' : ℕ) (hc : c' % 8 ≠ c % 8) (w : S256x256.Idx → Val e)
    (L : List (View.Piece Val S2048x256 e)) :
    rowsC (m.read Val (m.writes Val f (⟨ch c, w⟩ :: L))) c' = rowsC (m.read Val (m.writes Val f L)) c' := by
  funext y
  refine View.read_writes_cons_unit_of_not_mem m f (chI c) w L _ rfl (0 : Fin 2) ?_
  have := (y 0).isLt; change (y 0).val < 256 at this
  show 256 * (c' % 8) + (y 0).val < 256 * (c % 8) ∨ 256 * (c % 8) + 256 ≤ 256 * (c' % 8) + (y 0).val
  omega

theorem rowsB_hit (m : View sig κ sp S2048x256 e) (f : m.ty.Contents Val) (c : ℕ) (w : S128x256.Idx → Val e)
    (L : List (View.Piece Val S2048x256 e)) : rowsB (m.read Val (m.writes Val f (⟨bl c, w⟩ :: L))) c = w := by
  funext y
  refine View.read_writes_cons_unit_of_mem m f (blI c) w L _ y rfl fun a => ?_
  match a with
  | ⟨0, _⟩ => rfl
  | ⟨1, _⟩ => exact (Nat.zero_add _).symm

theorem rowsB_miss (m : View sig κ sp S2048x256 e) (f : m.ty.Contents Val) (c c' : ℕ) (hc : c' % 16 ≠ c % 16) (w : S128x256.Idx → Val e)
    (L : List (View.Piece Val S2048x256 e)) :
    rowsB (m.read Val (m.writes Val f (⟨bl c, w⟩ :: L))) c' = rowsB (m.read Val (m.writes Val f L)) c' := by
  funext y
  refine View.read_writes_cons_unit_of_not_mem m f (blI c) w L _ rfl (0 : Fin 2) ?_
  have := (y 0).isLt; change (y 0).val < 128 at this
  show 128 * (c' % 16) + (y 0).val < 128 * (c % 16) ∨ 128 * (c % 16) + 128 ≤ 128 * (c' % 16) + (y 0).val
  omega

theorem plane_hit (m : View sig κ sp S8x128x1024 e) (f : m.ty.Contents Val) (c : ℕ) (w : S1x128x1024.Idx → Val e)
    (L : List (View.Piece Val S8x128x1024 e)) : plane (m.read Val (m.writes Val f (⟨pl c, w⟩ :: L))) c = w := by
  funext y
  refine View.read_writes_cons_unit_of_mem m f (plI c) w L _ y rfl fun a => ?_
  have h0 : (y 0).val = 0 := by have := (y 0).isLt; change (y 0).val < 1 at this; omega
  match a with
  | ⟨0, _⟩ => show c % 8 = c % 8 + (y 0).val; omega
  | ⟨1, _⟩ => exact (Nat.zero_add _).symm
  | ⟨2, _⟩ => exact (Nat.zero_add _).symm

theorem plane_miss (m : View sig κ sp S8x128x1024 e) (f : m.ty.Contents Val) (c c' : ℕ) (hc : c' % 8 ≠ c % 8) (w : S1x128x1024.Idx → Val e)
    (L : List (View.Piece Val S8x128x1024 e)) :
    plane (m.read Val (m.writes Val f (⟨pl c, w⟩ :: L))) c' = plane (m.read Val (m.writes Val f L)) c' := by
  funext y
  refine View.read_writes_cons_unit_of_not_mem m f (plI c) w L _ rfl (0 : Fin 3) ?_
  show c' % 8 < c % 8 ∨ c % 8 + 1 ≤ c' % 8
  omega

/-- The stores of the values `w j` at the planes `o j`, the last first. -/
def planes (o : ℕ → ℕ) (w : ℕ → S1x128x1024.Idx → Val e) : ℕ → List (View.Piece Val S8x128x1024 e)
  | 0 => []
  | k + 1 => ⟨pl (o k), w k⟩ :: planes o w k

/-- The stores of the values `w j` at the chunks `o j`, the last first. -/
def chunks (o : ℕ → ℕ) (w : ℕ → S256x256.Idx → Val e) : ℕ → List (View.Piece Val S2048x256 e)
  | 0 => []
  | k + 1 => ⟨ch (o k), w k⟩ :: chunks o w k

theorem planes_miss (m : View sig κ sp S8x128x1024 e) (f : m.ty.Contents Val) (o : ℕ → ℕ) (w : ℕ → S1x128x1024.Idx → Val e) (c : ℕ) :
    ∀ k, (∀ j, j < k → c % 8 ≠ o j % 8) → plane (m.read Val (m.writes Val f (planes o w k))) c = plane (m.read Val f) c
  | 0, _ => rfl
  | k + 1, h => by
    rw [planes, plane_miss m f (o k) c (h k (by omega)), planes_miss m f o w c k fun j hj => h j (by omega)]

theorem planes_hit (m : View sig κ sp S8x128x1024 e) (f : m.ty.Contents Val) (o : ℕ → ℕ) (w : ℕ → S1x128x1024.Idx → Val e) (j : ℕ) :
    ∀ k, j < k → (∀ i, i < k → i ≠ j → o j % 8 ≠ o i % 8) → plane (m.read Val (m.writes Val f (planes o w k))) (o j) = w j
  | 0, h, _ => absurd h (by omega)
  | k + 1, h, hi => by
    by_cases e : k = j
    · subst e; rw [planes, plane_hit]
    · rw [planes, plane_miss m f (o k) (o j) (hi k (by omega) e), planes_hit m f o w j k (by omega) fun i hik => hi i (by omega)]

theorem chunks_miss (m : View sig κ sp S2048x256 e) (f : m.ty.Contents Val) (o : ℕ → ℕ) (w : ℕ → S256x256.Idx → Val e) (c : ℕ) :
    ∀ k, (∀ j, j < k → c % 8 ≠ o j % 8) → rowsC (m.read Val (m.writes Val f (chunks o w k))) c = rowsC (m.read Val f) c
  | 0, _ => rfl
  | k + 1, h => by
    rw [chunks, rowsC_miss m f (o k) c (h k (by omega)), chunks_miss m f o w c k fun j hj => h j (by omega)]

theorem chunks_hit (m : View sig κ sp S2048x256 e) (f : m.ty.Contents Val) (o : ℕ → ℕ) (w : ℕ → S256x256.Idx → Val e) (j : ℕ) :
    ∀ k, j < k → (∀ i, i < k → i ≠ j → o j % 8 ≠ o i % 8) → rowsC (m.read Val (m.writes Val f (chunks o w k))) (o j) = w j
  | 0, h, _ => absurd h (by omega)
  | k + 1, h, hi => by
    by_cases e : k = j
    · subst e; rw [chunks, rowsC_hit]
    · rw [chunks, rowsC_miss m f (o k) (o j) (hi k (by omega) e), chunks_hit m f o w j k (by omega) fun i hik => hi i (by omega)]

end

variable {F : FTy → Type} [FloatOps F]

/-- The running sum of the chunks' row sums: `init`, then the chunks' `a 0`, `a 1`, …. -/
def csR (init : FVec F S128x1024 .f32) (a : ℕ → FVec F S128x1024 .f32) : ℕ → FVec F S128x1024 .f32
  | 0 => init
  | k + 1 => nxV (csR init a k) (a k)

@[simp] theorem csR_zero (init : FVec F S128x1024 .f32) (a : ℕ → FVec F S128x1024 .f32) : csR init a 0 = init := rfl
theorem csR_succ (init : FVec F S128x1024 .f32) (a : ℕ → FVec F S128x1024 .f32) (k : ℕ) : csR init a (k + 1) = nxV (csR init a k) (a k) := rfl

attribute [irreducible] csR

theorem csR_add (init : FVec F S128x1024 .f32) (a : ℕ → FVec F S128x1024 .f32) (m : ℕ) :
    ∀ n, csR (csR init a m) (fun j => a (m + j)) n = csR init a (m + n)
  | 0 => by simp
  | n + 1 => by rw [csR_succ, csR_add init a m n, ← Nat.add_assoc, csR_succ]

/-- The accumulated `dq`: `init`, then the chunks' products. -/
def dqR (bd : IVec S1024x256 1) (K : ℕ → Vec F S256x256 .bf16) (init : FVec F S128x256 .f32) (dz : ℕ → FVec F S128x1024 .bf16) : ℕ → FVec F S128x256 .f32
  | 0 => init
  | k + 1 => dqV bd (dqR bd K init dz k) (dz k) (K k)

@[simp] theorem dqR_zero (bd : IVec S1024x256 1) (K : ℕ → Vec F S256x256 .bf16) (init : FVec F S128x256 .f32) (dz : ℕ → FVec F S128x1024 .bf16) :
    dqR bd K init dz 0 = init := rfl
theorem dqR_succ (bd : IVec S1024x256 1) (K : ℕ → Vec F S256x256 .bf16) (init : FVec F S128x256 .f32) (dz : ℕ → FVec F S128x1024 .bf16) (k : ℕ) :
    dqR bd K init dz (k + 1) = dqV bd (dqR bd K init dz k) (dz k) (K k) := rfl

attribute [irreducible] dqR

theorem dqR_add (bd : IVec S1024x256 1) (K : ℕ → Vec F S256x256 .bf16) (init : FVec F S128x256 .f32) (dz : ℕ → FVec F S128x1024 .bf16) (m : ℕ) :
    ∀ n, dqR bd (fun j => K (m + j)) (dqR bd K init dz m) (fun j => dz (m + j)) n = dqR bd K init dz (m + n)
  | 0 => by simp
  | n + 1 => by rw [dqR_succ, dqR_add bd K init dz m n, ← Nat.add_assoc, dqR_succ]

end Cert.KernelIdeal.Sbw

end
-- ==== Proof.Trips.lean ====
/-
  One trip of each inner loop of the backward pass, and the loops' invariants: what the scratch planes, the chunks of the
  two accumulated gradients and the carried vectors hold after `k` trips.
-/
module

public import proofs.«01_k».proof.Proof.Rows
public import Idealize.ShloMosaic.Lib.Pipeline.Kit
public import Idealize.ShloMosaic.Lib.LoopRemainder

@[expose] public section

set_option maxRecDepth 8192
set_option maxHeartbeats 4000000

noncomputable section

namespace Cert.KernelIdeal.Sbw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄G" => MT nD τ sig Unit (Elt F) ℕ (UR sig nD τ) ℕ

/-- The masked logarithms of chunk `c`, unmasked. -/
def lkC (bd : IVec S1024x256 1) (q : FVec F S128x256 .bf16) (K : ℕ → Vec F S256x256 .bf16) (c : ℕ) : FVec F S128x1024 .f32 := lkV (zV bd q (K c))
/-- The attention plane of chunk `c`, the later chunks' sum being `cs`. -/
def attC (bd : IVec S1024x256 1) (tri : FVec F S256x256 .bf16) (q : FVec F S128x256 .bf16) (K : ℕ → Vec F S256x256 .bf16) (c : ℕ) (cs : FVec F S128x1024 .f32) : FVec F S1x128x1024 .f32 :=
  upV (attV tri (zV bd q (K c)) (lkV (zV bd q (K c))) cs)
/-- The logistic plane of chunk `c`. -/
def sgC (bd : IVec S1024x256 1) (q : FVec F S128x256 .bf16) (K : ℕ → Vec F S256x256 .bf16) (c : ℕ) : FVec F S1x128x1024 .f32 :=
  upV (sgV (zV bd q (K c)) (lkV (zV bd q (K c))))
/-- The gradient of the exponents of chunk `c`. -/
def dsC (bd : IVec S1024x256 1) (g : FVec F S128x256 .bf16) (V : ℕ → Vec F S256x256 .bf16) (A : ℕ → Vec F S1x128x1024 .f32) (c : ℕ) : FVec F S128x1024 .f32 :=
  dsV bd g (V c) (A c)
/-- The gradient of the scores of chunk `c`, the earlier chunks' sum being `pre`. -/
def dzC (bd : IVec S1024x256 1) (tri : FVec F S256x256 .bf16) (g : FVec F S128x256 .bf16) (V : ℕ → Vec F S256x256 .bf16) (A S : ℕ → Vec F S1x128x1024 .f32) (c : ℕ) (pre : FVec F S128x1024 .f32) : FVec F S128x1024 .bf16 :=
  dzV tri (dsV bd g (V c) (A c)) pre (S c)

theorem lt16 (t : Fin k0_t1_loop.trips) : t.val < 16 := trips1 ▸ t.isLt

theorem off_pl (c : ℕ) (h : c < 8) {off : Fin 3 → ℕ} (e : off = ![c, 0, 0]) : off = ![c % 8, 0, 0] := by rw [Nat.mod_eq_of_lt h, e]
theorem off_ch (c : ℕ) (h : c < 8) {off : Fin 2 → ℕ} (e : off = ![256 * c, 0]) : off = ![256 * (c % 8), 0] := by rw [Nat.mod_eq_of_lt h, e]

theorem pts_eq {sp : Space} {s : Shape} {e : EltTy} (m : Memref sig .tc sp s e) (c : Dev nD) {f g : BufTy.Contents (Elt F) m.view.ty} (h : f = g) :
    (m.view.loc (c : Thread nD τ) ↦[m.view.set]{fullShare} f : sProp 𝕄G) ⊢ (m.view.loc (c : Thread nD τ) ↦[m.view.set]{fullShare} g) := by rw [h]

theorem trip2 (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S8x128x1024 .f32) (harg8 : arg8.IsWhole) (arg9 : Memref sig .tc .vmem S8x128x1024 .f32) (harg9 : arg9.IsWhole) (v50 : IVec S1024x256 1) (v74 : FVec F S256x256 .bf16) (k0_t1 : Fin k0_t1_loop.trips) (v89 : FVec F S128x256 .bf16) (v111 : BitVec 32) (v214 : FVec F S128x1024 .f32) (v216 : BitVec 32) (v217 : BitVec 32) (k : Fin (k0_t2_loop k0_t1).trips) (E : Set ℕ) (acc : FVec F S128x1024 .f32) (X2 : BufTy.Contents (Elt F) arg2.view.ty) (f8 : BufTy.Contents (Elt F) arg8.view.ty) (f9 : BufTy.Contents (Elt F) arg9.view.ty) :
      iprop((arg2.view.loc (c : Thread nD τ) ↦[arg2.view.set]{fullShare} X2) ∗ (arg8.view.loc (c : Thread nD τ) ↦[arg8.view.set]{fullShare} f8) ∗ (arg9.view.loc (c : Thread nD τ) ↦[arg9.view.set]{fullShare} f9) : sProp 𝕄G)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 v50 v74 k0_t1 v89 v111 v214 v216 v217 k acc)
          (fun yld => iprop(⌜yld = nxV acc (lkC v50 v89 (rowsC (arg2.view.read (Elt F) X2)) (k0_t1.val / 2 - 1))⌝ ∗ (arg2.view.loc (c : Thread nD τ) ↦[arg2.view.set]{fullShare} X2) ∗ (arg8.view.loc (c : Thread nD τ) ↦[arg8.view.set]{fullShare} (arg8.view.writes (Elt F) f8 [⟨pl (k0_t1.val / 2 - 1), attC v50 v74 v89 (rowsC (arg2.view.read (Elt F) X2)) (k0_t1.val / 2 - 1) acc⟩])) ∗ (arg9.view.loc (c : Thread nD τ) ↦[arg9.view.set]{fullShare} (arg9.view.writes (Elt F) f9 [⟨pl (k0_t1.val / 2 - 1), sgC v50 v89 (rowsC (arg2.view.read (Elt F) X2)) (k0_t1.val / 2 - 1)⟩])))) := by
  have ht := lt16 k0_t1
  have hK : rowsC (arg2.view.read (Elt F) X2) (k0_t1.val / 2 - 1) = arg2.view.readAt (Elt F) (Rect.unit (s := S2048x256) (k0_off4 k0_t1) S256x256.size (k0_off4_inb k0_t1 k)).toLoadRect X2 :=
    (readAt_ch arg2.view X2 (k0_t1.val / 2 - 1) _ (off_ch _ (by omega) (k0_off4_eq k0_t1 k))).symm
  unfold lkC attC sgC
  rw [hK]
  unfold k0_t2_body
  iintro ⟨H2, H8, H9⟩
  sl_exec
  sl_step
  isplitr
  · ipureintro
    rfl
  isplitl [H2]; · iexact H2
  isplitl [H8]
  · iapply (pts_eq arg8 c (congrArg (fun p => arg8.view.writes (Elt F) f8 [p]) (piece_eq (Val := Elt F) (s := S8x128x1024) (k0_off5_inb k0_t1 k) (plI _) (off_pl _ (by omega) (k0_off5_eq k0_t1 k)) _))); iexact H8
  · iapply (pts_eq arg9 c (congrArg (fun p => arg9.view.writes (Elt F) f9 [p]) (piece_eq (Val := Elt F) (s := S8x128x1024) (k0_off5_inb k0_t1 k) (plI _) (off_pl _ (by omega) (k0_off5_eq k0_t1 k)) _))); iexact H9

theorem trip4 (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S8x128x1024 .f32) (harg8 : arg8.IsWhole) (arg9 : Memref sig .tc .vmem S8x128x1024 .f32) (harg9 : arg9.IsWhole) (v50 : IVec S1024x256 1) (v74 : FVec F S256x256 .bf16) (k0_t1 : Fin k0_t1_loop.trips) (v89 : FVec F S128x256 .bf16) (v111 : BitVec 32) (v214 : FVec F S128x1024 .f32) (v216 : BitVec 32) (v217 : BitVec 32) (v224 : BitVec 32) (k : Fin (k0_t4_loop k0_t1).trips) (E : Set ℕ) (acc : FVec F S128x1024 .f32) (X2 : BufTy.Contents (Elt F) arg2.view.ty) (f8 : BufTy.Contents (Elt F) arg8.view.ty) (f9 : BufTy.Contents (Elt F) arg9.view.ty) :
      iprop((arg2.view.loc (c : Thread nD τ) ↦[arg2.view.set]{fullShare} X2) ∗ (arg8.view.loc (c : Thread nD τ) ↦[arg8.view.set]{fullShare} f8) ∗ (arg9.view.loc (c : Thread nD τ) ↦[arg9.view.set]{fullShare} f9) : sProp 𝕄G)
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 v50 v74 k0_t1 v89 v111 v214 v216 v217 v224 k acc)
          (fun yld => iprop(⌜yld = nxV (nxV acc (lkC v50 v89 (rowsC (arg2.view.read (Elt F) X2)) (k0_t1.val / 2 - 1 - k0_t1.val / 2 % 2 - 2 * k.val))) (lkC v50 v89 (rowsC (arg2.view.read (Elt F) X2)) (k0_t1.val / 2 - 1 - k0_t1.val / 2 % 2 - 2 * k.val - 1))⌝ ∗ (arg2.view.loc (c : Thread nD τ) ↦[arg2.view.set]{fullShare} X2) ∗ (arg8.view.loc (c : Thread nD τ) ↦[arg8.view.set]{fullShare} (arg8.view.writes (Elt F) f8 [⟨pl (k0_t1.val / 2 - 1 - k0_t1.val / 2 % 2 - 2 * k.val - 1), attC v50 v74 v89 (rowsC (arg2.view.read (Elt F) X2)) (k0_t1.val / 2 - 1 - k0_t1.val / 2 % 2 - 2 * k.val - 1) (nxV acc (lkC v50 v89 (rowsC (arg2.view.read (Elt F) X2)) (k0_t1.val / 2 - 1 - k0_t1.val / 2 % 2 - 2 * k.val)))⟩, ⟨pl (k0_t1.val / 2 - 1 - k0_t1.val / 2 % 2 - 2 * k.val), attC v50 v74 v89 (rowsC (arg2.view.read (Elt F) X2)) (k0_t1.val / 2 - 1 - k0_t1.val / 2 % 2 - 2 * k.val) acc⟩])) ∗ (arg9.view.loc (c : Thread nD τ) ↦[arg9.view.set]{fullShare} (arg9.view.writes (Elt F) f9 [⟨pl (k0_t1.val / 2 - 1 - k0_t1.val / 2 % 2 - 2 * k.val - 1), sgC v50 v89 (rowsC (arg2.view.read (Elt F) X2)) (k0_t1.val / 2 - 1 - k0_t1.val / 2 % 2 - 2 * k.val - 1)⟩, ⟨pl (k0_t1.val / 2 - 1 - k0_t1.val / 2 % 2 - 2 * k.val), sgC v50 v89 (rowsC (arg2.view.read (Elt F) X2)) (k0_t1.val / 2 - 1 - k0_t1.val / 2 % 2 - 2 * k.val)⟩])))) := by
  have ht := lt16 k0_t1
  have hK1 : rowsC (arg2.view.read (Elt F) X2) (k0_t1.val / 2 - 1 - k0_t1.val / 2 % 2 - 2 * k.val) = arg2.view.readAt (Elt F) (Rect.unit (s := S2048x256) (k0_off8 k0_t1 k) S256x256.size (k0_off8_inb k0_t1 k)).toLoadRect X2 :=
    (readAt_ch arg2.view X2 (k0_t1.val / 2 - 1 - k0_t1.val / 2 % 2 - 2 * k.val) _ (off_ch _ (by omega) (k0_off8_eq k0_t1 k))).symm
  have hK2 : rowsC (arg2.view.read (Elt F) X2) (k0_t1.val / 2 - 1 - k0_t1.val / 2 % 2 - 2 * k.val - 1) = arg2.view.readAt (Elt F) (Rect.unit (s := S2048x256) (k0_off9 k0_t1 k) S256x256.size (k0_off9_inb k0_t1 k)).toLoadRect X2 :=
    (readAt_ch arg2.view X2 (k0_t1.val / 2 - 1 - k0_t1.val / 2 % 2 - 2 * k.val - 1) _ (off_ch _ (by omega) (k0_off9_eq k0_t1 k))).symm
  unfold lkC attC sgC
  rw [hK1, hK2]
  unfold k0_t4_body
  iintro ⟨H2, H8, H9⟩
  sl_exec
  sl_step
  isplitr
  · ipureintro
    rfl
  isplitl [H2]; · iexact H2
  isplitl [H8]
  · iapply (pts_eq arg8 c (congrArg₂ (fun p p' => arg8.view.writes (Elt F) f8 [p, p']) (piece_eq (Val := Elt F) (s := S8x128x1024) (k0_off11_inb k0_t1 k) (plI _) (off_pl _ (by omega) (k0_off11_eq k0_t1 k)) _) (piece_eq (Val := Elt F) (s := S8x128x1024) (k0_off10_inb k0_t1 k) (plI _) (off_pl _ (by omega) (k0_off10_eq k0_t1 k)) _))); iexact H8
  · iapply (pts_eq arg9 c (congrArg₂ (fun p p' => arg9.view.writes (Elt F) f9 [p, p']) (piece_eq (Val := Elt F) (s := S8x128x1024) (k0_off11_inb k0_t1 k) (plI _) (off_pl _ (by omega) (k0_off11_eq k0_t1 k)) _) (piece_eq (Val := Elt F) (s := S8x128x1024) (k0_off10_inb k0_t1 k) (plI _) (off_pl _ (by omega) (k0_off10_eq k0_t1 k)) _))); iexact H9

theorem trip6 (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S8x128x1024 .f32) (harg8 : arg8.IsWhole) (arg9 : Memref sig .tc .vmem S8x128x1024 .f32) (harg9 : arg9.IsWhole) (v50 : IVec S1024x256 1) (v78 : FVec F S256x256 .bf16) (k0_t1 : Fin k0_t1_loop.trips) (v89 : FVec F S128x256 .bf16) (v94 : FVec F S128x256 .bf16) (v256 : BitVec 32) (c2_i32_83 : BitVec 32) (c0_i32_84 : BitVec 32) (k : Fin (k0_t6_loop k0_t1).trips) (E : Set ℕ) (acc : FVec F S128x256 .f32 × FVec F S128x1024 .f32) (X2 : BufTy.Contents (Elt F) arg2.view.ty) (X3 : BufTy.Contents (Elt F) arg3.view.ty) (X8 : BufTy.Contents (Elt F) arg8.view.ty) (X9 : BufTy.Contents (Elt F) arg9.view.ty) (f6 : BufTy.Contents (Elt F) arg6.view.ty) (f7 : BufTy.Contents (Elt F) arg7.view.ty) :
      iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8) ∗ (arg9.view.loc (c : Thread nD τ) ↦[arg9.view.set]{fullShare} X9) ∗ (arg6.view.loc (c : Thread nD τ) ↦[arg6.view.set]{fullShare} f6) ∗ (arg7.view.loc (c : Thread nD τ) ↦[arg7.view.set]{fullShare} f7) : sProp 𝕄G)
      ⊢ wp frame (wpE (defs₀ (F := F)) 𝒱 (c : Thread nD τ) bd) E (k0_t6_body (F := F) i arg1 harg1 arg2 harg2 arg3 harg3 arg4 harg4 arg5 harg5 arg6 harg6 arg7 harg7 arg8 harg8 arg9 harg9 v50 v78 k0_t1 v89 v94 v256 c2_i32_83 c0_i32_84 k acc)
          (fun yld => iprop(⌜yld = (dqV v50 acc.1 (dzC v50 v78 v94 (rowsC (arg3.view.read (Elt F) X3)) (plane (arg8.view.read (Elt F) X8)) (plane (arg9.view.read (Elt F) X9)) 0 acc.2) ((rowsC (arg2.view.read (Elt F) X2)) 0), nxV acc.2 (dsC v50 v94 (rowsC (arg3.view.read (Elt F) X3)) (plane (arg8.view.read (Elt F) X8)) 0))⌝ ∗ (arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8) ∗ (arg9.view.loc (c : Thread nD τ) ↦[arg9.view.set]{fullShare} X9) ∗ (arg6.view.loc (c : Thread nD τ) ↦[arg6.view.set]{fullShare} (arg6.view.writes (Elt F) f6 [⟨ch 0, accV v50 (dzC v50 v78 v94 (rowsC (arg3.view.read (Elt F) X3)) (plane (arg8.view.read (Elt F) X8)) (plane (arg9.view.read (Elt F) X9)) 0 acc.2) v89 (rowsC (arg6.view.read (Elt F) f6) 0)⟩])) ∗ (arg7.view.loc (c : Thread nD τ) ↦[arg7.view.set]{fullShare} (arg7.view.writes (Elt F) f7 [⟨ch 0, accV v50 (rdV ((plane (arg8.view.read (Elt F) X8)) 0)) v94 (rowsC (arg7.view.read (Elt F) f7) 0)⟩])))) := by
  have hK : rowsC (arg2.view.read (Elt F) X2) 0 = arg2.view.readAt (Elt F) (Rect.unit (s := S2048x256) ![0, 0] S256x256.size inb_S2048x256_S256x256_0_0).toLoadRect X2 :=
    (readAt_ch arg2.view X2 0 _ rfl).symm
  have hV : rowsC (arg3.view.read (Elt F) X3) 0 = arg3.view.readAt (Elt F) (Rect.unit (s := S2048x256) ![0, 0] S256x256.size inb_S2048x256_S256x256_0_0).toLoadRect X3 :=
    (readAt_ch arg3.view X3 0 _ rfl).symm
  have h6 : rowsC (arg6.view.read (Elt F) f6) 0 = arg6.view.readAt (Elt F) (Rect.unit (s := S2048x256) ![0, 0] S256x256.size inb_S2048x256_S256x256_0_0).toLoadRect f6 :=
    (readAt_ch arg6.view f6 0 _ rfl).symm
  have h7 : rowsC (arg7.view.read (Elt F) f7) 0 = arg7.view.readAt (Elt F) (Rect.unit (s := S2048x256) ![0, 0] S256x256.size inb_S2048x256_S256x256_0_0).toLoadRect f7 :=
    (readAt_ch arg7.view f7 0 _ rfl).symm
  have hA : plane (arg8.view.read (Elt F) X8) 0 = arg8.view.readAt (Elt F) (Rect.unit (s := S8x128x1024) ![0, 0, 0] S1x128x1024.size inb_S8x128x1024_S1x128x1024_0_0_0).toLoadRect X8 :=
    (readAt_pl arg8.view X8 0 _ rfl).symm
  have hS : plane (arg9.view.read (Elt F) X9) 0 = arg9.view.readAt (Elt F) (Rect.unit (s := S8x128x1024) ![0, 0, 0] S1x128x1024.size inb_S8x128x1024_S1x128x1024_0_0_0).toLoadRect X9 :=
    (readAt_pl arg9.view X9 0 _ rfl).symm
  unfold dsC dzC
  rw [hK, hV, h6, h7, hA, hS]
  unfold k0_t6_body
  iintro ⟨H2, H3, H8, H9, H6, H7⟩
  sl_exec
  sl_step
  isplitr
  · ipureintro
    rfl
  isplitl [H2]; · iexact H2
  isplitl [H3]; · iexact H3
  isplitl [H8]; · iexact H8
  isplitl [H9]; · iexact H9
  isplitl [H6]
  · iapply (pts_eq arg6 c (congrArg (fun p => arg6.view.writes (Elt F) f6 [p]) (piece_eq (Val := Elt F) (s := S2048x256) inb_S2048x256_S256x256_0_0 (chI 0) rfl _))); iexact H6
  · iapply (pts_eq arg7 c (congrArg (fun p => arg7.view.writes (Elt F) f7 [p]) (piece_eq (Val := Elt F) (s := S2048x256) inb_S2048x256_S256x256_0_0 (chI 0) rfl _))); iexact H7

theorem trip8 (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S8x128x1024 .f32) (harg8 : arg8.IsWhole) (arg9 : Memref sig .tc .vmem S8x128x1024 .f32) (harg9 : arg9.IsWhole) (v25 : IVec S1024x256 32) (v27 : IVec S1024x256 32) (v41 : IVec S1024x256 1) (v45 : IVec S1024x256 1) (k0_t1 : Fin k0_t1_loop.trips) (v89 : FVec F S128x256 .bf16) (v94 : FVec F S128x256 .bf16) (v266 : BitVec 32) (c0_i32_102 : BitVec 32) (k : Fin (k0_t8_loop k0_t1).trips) (E : Set ℕ) (acc : FVec F S128x256 .f32 × FVec F S128x1024 .f32) (X2 : BufTy.Contents (Elt F) arg2.view.ty) (X3 : BufTy.Contents (Elt F) arg3.view.ty) (X8 : BufTy.Contents (Elt F) arg8.view.ty) (X9 : BufTy.Contents (Elt F) arg9.view.ty) (f6 : BufTy.Contents (Elt F) arg6.view.ty) (f7 : BufTy.Contents (Elt F) arg7.view.ty) :
      iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8) ∗ (arg9.view.loc (c : Thread nD τ) ↦[arg9.view.set]{fullShare} X9) ∗ (arg6.view.loc (c : Thread nD τ) ↦[arg6.view.set]{fullShare} f6) ∗ (arg7.view.loc (c : Thread nD τ) ↦[arg7.view.set]{fullShare} f7) : sProp 𝕄G)
      ⊢ wp frame (wpE (defs₀ (F := F)) 𝒱 (c : Thread nD τ) bd) E (k0_t8_body (F := F) i arg1 harg1 arg2 harg2 arg3 harg3 arg4 harg4 arg5 harg5 arg6 harg6 arg7 harg7 arg8 harg8 arg9 harg9 v25 v27 v41 v45 k0_t1 v89 v94 v266 c0_i32_102 k acc)
          (fun yld => iprop(⌜yld = (dqV (k0_pay1 v25 v27 v41 v45) (dqV (k0_pay1 v25 v27 v41 v45) acc.1 (dzC (k0_pay1 v25 v27 v41 v45) (k0_pay4 (F := F)) v94 (rowsC (arg3.view.read (Elt F) X3)) (plane (arg8.view.read (Elt F) X8)) (plane (arg9.view.read (Elt F) X9)) ((k0_t1.val / 2 + 1) % 2 + 2 * k.val) acc.2) ((rowsC (arg2.view.read (Elt F) X2)) ((k0_t1.val / 2 + 1) % 2 + 2 * k.val))) (dzC (k0_pay1 v25 v27 v41 v45) (k0_pay4 (F := F)) v94 (rowsC (arg3.view.read (Elt F) X3)) (plane (arg8.view.read (Elt F) X8)) (plane (arg9.view.read (Elt F) X9)) ((k0_t1.val / 2 + 1) % 2 + 2 * k.val + 1) (nxV acc.2 (dsC (k0_pay1 v25 v27 v41 v45) v94 (rowsC (arg3.view.read (Elt F) X3)) (plane (arg8.view.read (Elt F) X8)) ((k0_t1.val / 2 + 1) % 2 + 2 * k.val)))) ((rowsC (arg2.view.read (Elt F) X2)) ((k0_t1.val / 2 + 1) % 2 + 2 * k.val + 1)), nxV (nxV acc.2 (dsC (k0_pay1 v25 v27 v41 v45) v94 (rowsC (arg3.view.read (Elt F) X3)) (plane (arg8.view.read (Elt F) X8)) ((k0_t1.val / 2 + 1) % 2 + 2 * k.val))) (dsC (k0_pay1 v25 v27 v41 v45) v94 (rowsC (arg3.view.read (Elt F) X3)) (plane (arg8.view.read (Elt F) X8)) ((k0_t1.val / 2 + 1) % 2 + 2 * k.val + 1)))⌝ ∗ (arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8) ∗ (arg9.view.loc (c : Thread nD τ) ↦[arg9.view.set]{fullShare} X9) ∗ (arg6.view.loc (c : Thread nD τ) ↦[arg6.view.set]{fullShare} (arg6.view.writes (Elt F) f6 [⟨ch ((k0_t1.val / 2 + 1) % 2 + 2 * k.val + 1), accV (k0_pay1 v25 v27 v41 v45) (dzC (k0_pay1 v25 v27 v41 v45) (k0_pay4 (F := F)) v94 (rowsC (arg3.view.read (Elt F) X3)) (plane (arg8.view.read (Elt F) X8)) (plane (arg9.view.read (Elt F) X9)) ((k0_t1.val / 2 + 1) % 2 + 2 * k.val + 1) (nxV acc.2 (dsC (k0_pay1 v25 v27 v41 v45) v94 (rowsC (arg3.view.read (Elt F) X3)) (plane (arg8.view.read (Elt F) X8)) ((k0_t1.val / 2 + 1) % 2 + 2 * k.val)))) v89 (rowsC (arg6.view.read (Elt F) f6) ((k0_t1.val / 2 + 1) % 2 + 2 * k.val + 1))⟩, ⟨ch ((k0_t1.val / 2 + 1) % 2 + 2 * k.val), accV (k0_pay1 v25 v27 v41 v45) (dzC (k0_pay1 v25 v27 v41 v45) (k0_pay4 (F := F)) v94 (rowsC (arg3.view.read (Elt F) X3)) (plane (arg8.view.read (Elt F) X8)) (plane (arg9.view.read (Elt F) X9)) ((k0_t1.val / 2 + 1) % 2 + 2 * k.val) acc.2) v89 (rowsC (arg6.view.read (Elt F) f6) ((k0_t1.val / 2 + 1) % 2 + 2 * k.val))⟩])) ∗ (arg7.view.loc (c : Thread nD τ) ↦[arg7.view.set]{fullShare} (arg7.view.writes (Elt F) f7 [⟨ch ((k0_t1.val / 2 + 1) % 2 + 2 * k.val + 1), accV (k0_pay1 v25 v27 v41 v45) (rdV ((plane (arg8.view.read (Elt F) X8)) ((k0_t1.val / 2 + 1) % 2 + 2 * k.val + 1))) v94 (rowsC (arg7.view.read (Elt F) f7) ((k0_t1.val / 2 + 1) % 2 + 2 * k.val + 1))⟩, ⟨ch ((k0_t1.val / 2 + 1) % 2 + 2 * k.val), accV (k0_pay1 v25 v27 v41 v45) (rdV ((plane (arg8.view.read (Elt F) X8)) ((k0_t1.val / 2 + 1) % 2 + 2 * k.val))) v94 (rowsC (arg7.view.read (Elt F) f7) ((k0_t1.val / 2 + 1) % 2 + 2 * k.val))⟩])))) := by
  have ht := lt16 k0_t1
  have hk := lt_of_lt_of_eq k.isLt (trips8 k0_t1)
  have hK1 : rowsC (arg2.view.read (Elt F) X2) ((k0_t1.val / 2 + 1) % 2 + 2 * k.val) = arg2.view.readAt (Elt F) (Rect.unit (s := S2048x256) (k0_off16 k0_t1 k) S256x256.size (k0_off16_inb k0_t1 k)).toLoadRect X2 :=
    (readAt_ch arg2.view X2 ((k0_t1.val / 2 + 1) % 2 + 2 * k.val) _ (off_ch _ (by omega) (k0_off16_eq k0_t1 k))).symm
  have hK2 : rowsC (arg2.view.read (Elt F) X2) ((k0_t1.val / 2 + 1) % 2 + 2 * k.val + 1) = arg2.view.readAt (Elt F) (Rect.unit (s := S2048x256) (k0_off17 k0_t1 k) S256x256.size (k0_off17_inb k0_t1 k)).toLoadRect X2 :=
    (readAt_ch arg2.view X2 ((k0_t1.val / 2 + 1) % 2 + 2 * k.val + 1) _ (off_ch _ (by omega) (k0_off17_eq k0_t1 k))).symm
  have hV1 : rowsC (arg3.view.read (Elt F) X3) ((k0_t1.val / 2 + 1) % 2 + 2 * k.val) = arg3.view.readAt (Elt F) (Rect.unit (s := S2048x256) (k0_off16 k0_t1 k) S256x256.size (k0_off16_inb k0_t1 k)).toLoadRect X3 :=
    (readAt_ch arg3.view X3 ((k0_t1.val / 2 + 1) % 2 + 2 * k.val) _ (off_ch _ (by omega) (k0_off16_eq k0_t1 k))).symm
  have hV2 : rowsC (arg3.view.read (Elt F) X3) ((k0_t1.val / 2 + 1) % 2 + 2 * k.val + 1) = arg3.view.readAt (Elt F) (Rect.unit (s := S2048x256) (k0_off17 k0_t1 k) S256x256.size (k0_off17_inb k0_t1 k)).toLoadRect X3 :=
    (readAt_ch arg3.view X3 ((k0_t1.val / 2 + 1) % 2 + 2 * k.val + 1) _ (off_ch _ (by omega) (k0_off17_eq k0_t1 k))).symm
  have h61 : rowsC (arg6.view.read (Elt F) f6) ((k0_t1.val / 2 + 1) % 2 + 2 * k.val) = arg6.view.readAt (Elt F) (Rect.unit (s := S2048x256) (k0_off16 k0_t1 k) S256x256.size (k0_off16_inb k0_t1 k)).toLoadRect f6 :=
    (readAt_ch arg6.view f6 ((k0_t1.val / 2 + 1) % 2 + 2 * k.val) _ (off_ch _ (by omega) (k0_off16_eq k0_t1 k))).symm
  have h62 : rowsC (arg6.view.read (Elt F) f6) ((k0_t1.val / 2 + 1) % 2 + 2 * k.val + 1) = arg6.view.readAt (Elt F) (Rect.unit (s := S2048x256) (k0_off17 k0_t1 k) S256x256.size (k0_off17_inb k0_t1 k)).toLoadRect f6 :=
    (readAt_ch arg6.view f6 ((k0_t1.val / 2 + 1) % 2 + 2 * k.val + 1) _ (off_ch _ (by omega) (k0_off17_eq k0_t1 k))).symm
  have h71 : rowsC (arg7.view.read (Elt F) f7) ((k0_t1.val / 2 + 1) % 2 + 2 * k.val) = arg7.view.readAt (Elt F) (Rect.unit (s := S2048x256) (k0_off16 k0_t1 k) S256x256.size (k0_off16_inb k0_t1 k)).toLoadRect f7 :=
    (readAt_ch arg7.view f7 ((k0_t1.val / 2 + 1) % 2 + 2 * k.val) _ (off_ch _ (by omega) (k0_off16_eq k0_t1 k))).symm
  have h72 : rowsC (arg7.view.read (Elt F) f7) ((k0_t1.val / 2 + 1) % 2 + 2 * k.val + 1) = arg7.view.readAt (Elt F) (Rect.unit (s := S2048x256) (k0_off17 k0_t1 k) S256x256.size (k0_off17_inb k0_t1 k)).toLoadRect f7 :=
    (readAt_ch arg7.view f7 ((k0_t1.val / 2 + 1) % 2 + 2 * k.val + 1) _ (off_ch _ (by omega) (k0_off17_eq k0_t1 k))).symm
  have hA1 : plane (arg8.view.read (Elt F) X8) ((k0_t1.val / 2 + 1) % 2 + 2 * k.val) = arg8.view.readAt (Elt F) (Rect.unit (s := S8x128x1024) (k0_off18 k0_t1 k) S1x128x1024.size (k0_off18_inb k0_t1 k)).toLoadRect X8 :=
    (readAt_pl arg8.view X8 ((k0_t1.val / 2 + 1) % 2 + 2 * k.val) _ (off_pl _ (by omega) (k0_off18_eq k0_t1 k))).symm
  have hA2 : plane (arg8.view.read (Elt F) X8) ((k0_t1.val / 2 + 1) % 2 + 2 * k.val + 1) = arg8.view.readAt (Elt F) (Rect.unit (s := S8x128x1024) (k0_off19 k0_t1 k) S1x128x1024.size (k0_off19_inb k0_t1 k)).toLoadRect X8 :=
    (readAt_pl arg8.view X8 ((k0_t1.val / 2 + 1) % 2 + 2 * k.val + 1) _ (off_pl _ (by omega) (k0_off19_eq k0_t1 k))).symm
  have hS1 : plane (arg9.view.read (Elt F) X9) ((k0_t1.val / 2 + 1) % 2 + 2 * k.val) = arg9.view.readAt (Elt F) (Rect.unit (s := S8x128x1024) (k0_off18 k0_t1 k) S1x128x1024.size (k0_off18_inb k0_t1 k)).toLoadRect X9 :=
    (readAt_pl arg9.view X9 ((k0_t1.val / 2 + 1) % 2 + 2 * k.val) _ (off_pl _ (by omega) (k0_off18_eq k0_t1 k))).symm
  have hS2 : plane (arg9.view.read (Elt F) X9) ((k0_t1.val / 2 + 1) % 2 + 2 * k.val + 1) = arg9.view.readAt (Elt F) (Rect.unit (s := S8x128x1024) (k0_off19 k0_t1 k) S1x128x1024.size (k0_off19_inb k0_t1 k)).toLoadRect X9 :=
    (readAt_pl arg9.view X9 ((k0_t1.val / 2 + 1) % 2 + 2 * k.val + 1) _ (off_pl _ (by omega) (k0_off19_eq k0_t1 k))).symm
  unfold dsC dzC
  rw [hK1, hK2, hV1, hV2, h61, h62, h71, h72, hA1, hA2, hS1, hS2]
  unfold k0_t8_body
  iintro ⟨H2, H3, H8, H9, H6, H7⟩
  sl_exec
  sl_step
  isplitr
  · ipureintro
    rfl
  isplitl [H2]; · iexact H2
  isplitl [H3]; · iexact H3
  isplitl [H8]; · iexact H8
  isplitl [H9]; · iexact H9
  isplitl [H6]
  · iapply (pts_eq arg6 c (congrArg₂ (fun p p' => arg6.view.writes (Elt F) f6 [p, p']) (piece_eq (Val := Elt F) (s := S2048x256) (k0_off17_inb k0_t1 k) (chI _) (off_ch _ (by omega) (k0_off17_eq k0_t1 k)) _) (piece_eq (Val := Elt F) (s := S2048x256) (k0_off16_inb k0_t1 k) (chI _) (off_ch _ (by omega) (k0_off16_eq k0_t1 k)) _))); iexact H6
  · iapply (pts_eq arg7 c (congrArg₂ (fun p p' => arg7.view.writes (Elt F) f7 [p, p']) (piece_eq (Val := Elt F) (s := S2048x256) (k0_off17_inb k0_t1 k) (chI _) (off_ch _ (by omega) (k0_off17_eq k0_t1 k)) _) (piece_eq (Val := Elt F) (s := S2048x256) (k0_off16_inb k0_t1 k) (chI _) (off_ch _ (by omega) (k0_off16_eq k0_t1 k)) _))); iexact H7

end Cert.KernelIdeal.Sbw
-- ==== Proof.Inner.lean ====
/-
  The invariants of the inner loops of the backward pass: what the scratch planes, the chunks of the two accumulated
  gradients and the carried vectors hold after `k` trips.
-/
module

public import proofs.«01_k».proof.Proof.Trips
public import Idealize.ShloMosaic.Lib.Pipeline.Kit
public import Idealize.ShloMosaic.Lib.LoopRemainder

@[expose] public section

set_option maxRecDepth 8192
set_option maxHeartbeats 4000000

noncomputable section

namespace Cert.KernelIdeal.Sbw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄G" => MT nD τ sig Unit (Elt F) ℕ (UR sig nD τ) ℕ

/-- The running sums of the logarithms over the chunks `o 0`, `o 1`, …. -/
def lkS (bd : IVec S1024x256 1) (q : FVec F S128x256 .bf16) (K : ℕ → Vec F S256x256 .bf16) (o : ℕ → ℕ) (init : FVec F S128x1024 .f32) (k : ℕ) : FVec F S128x1024 .f32 :=
  csR init (fun j => lkC bd q K (o j)) k
/-- The running sums of the exponents' gradients over the chunks `o 0`, `o 1`, …. -/
def dsS (bd : IVec S1024x256 1) (g : FVec F S128x256 .bf16) (V : ℕ → Vec F S256x256 .bf16) (A : ℕ → Vec F S1x128x1024 .f32) (o : ℕ → ℕ) (init : FVec F S128x1024 .f32) (k : ℕ) : FVec F S128x1024 .f32 :=
  csR init (fun j => dsC bd g V A (o j)) k
/-- The attention plane of the chunk `o j`. -/
def atS (bd : IVec S1024x256 1) (tri : FVec F S256x256 .bf16) (q : FVec F S128x256 .bf16) (K : ℕ → Vec F S256x256 .bf16) (o : ℕ → ℕ) (init : FVec F S128x1024 .f32) (j : ℕ) : FVec F S1x128x1024 .f32 :=
  attC bd tri q K (o j) (lkS bd q K o init j)
/-- The scores' gradient of the chunk `o j`. -/
def dzS (bd : IVec S1024x256 1) (tri : FVec F S256x256 .bf16) (g : FVec F S128x256 .bf16) (V : ℕ → Vec F S256x256 .bf16) (A S : ℕ → Vec F S1x128x1024 .f32) (o : ℕ → ℕ) (init : FVec F S128x1024 .f32) (j : ℕ) : FVec F S128x1024 .bf16 :=
  dzC bd tri g V A S (o j) (dsS bd g V A o init j)

@[simp] theorem lkS_zero (bd : IVec S1024x256 1) (q : FVec F S128x256 .bf16) (K : ℕ → Vec F S256x256 .bf16) (o : ℕ → ℕ) (init : FVec F S128x1024 .f32) :
    lkS bd q K o init 0 = init := csR_zero _ _
@[simp] theorem dsS_zero (bd : IVec S1024x256 1) (g : FVec F S128x256 .bf16) (V : ℕ → Vec F S256x256 .bf16) (A : ℕ → Vec F S1x128x1024 .f32) (o : ℕ → ℕ) (init : FVec F S128x1024 .f32) :
    dsS bd g V A o init 0 = init := csR_zero _ _
theorem lkS_succ (bd : IVec S1024x256 1) (q : FVec F S128x256 .bf16) (K : ℕ → Vec F S256x256 .bf16) (o : ℕ → ℕ) (init : FVec F S128x1024 .f32) (k : ℕ) :
    lkS bd q K o init (k + 1) = nxV (lkS bd q K o init k) (lkC bd q K (o k)) := csR_succ _ _ _
theorem dsS_succ (bd : IVec S1024x256 1) (g : FVec F S128x256 .bf16) (V : ℕ → Vec F S256x256 .bf16) (A : ℕ → Vec F S1x128x1024 .f32) (o : ℕ → ℕ) (init : FVec F S128x1024 .f32) (k : ℕ) :
    dsS bd g V A o init (k + 1) = nxV (dsS bd g V A o init k) (dsC bd g V A (o k)) := csR_succ _ _ _
attribute [irreducible] lkS dsS

section
variable {sig : RefSig} {κ : Kind} {sp : Space} {Val : EltTy → Type} {e : EltTy}
theorem planes_one (m : View sig κ sp S8x128x1024 e) (f : m.ty.Contents Val) (o : ℕ → ℕ) (w : ℕ → S1x128x1024.Idx → Val e) (k : ℕ) :
    m.writes Val (m.writes Val f (planes o w k)) [⟨pl (o k), w k⟩] = m.writes Val f (planes o w (k + 1)) := by
  rw [← View.writes_append]; rfl
theorem planes_two (m : View sig κ sp S8x128x1024 e) (f : m.ty.Contents Val) (o : ℕ → ℕ) (w : ℕ → S1x128x1024.Idx → Val e) (k : ℕ) :
    m.writes Val (m.writes Val f (planes o w (2 * k))) [⟨pl (o (2 * k + 1)), w (2 * k + 1)⟩, ⟨pl (o (2 * k)), w (2 * k)⟩] = m.writes Val f (planes o w (2 * (k + 1))) := by
  rw [← View.writes_append]; rfl
theorem chunks_one (m : View sig κ sp S2048x256 e) (f : m.ty.Contents Val) (o : ℕ → ℕ) (w : ℕ → S256x256.Idx → Val e) (k : ℕ) :
    m.writes Val (m.writes Val f (chunks o w k)) [⟨ch (o k), w k⟩] = m.writes Val f (chunks o w (k + 1)) := by
  rw [← View.writes_append]; rfl
theorem chunks_two (m : View sig κ sp S2048x256 e) (f : m.ty.Contents Val) (o : ℕ → ℕ) (w : ℕ → S256x256.Idx → Val e) (k : ℕ) :
    m.writes Val (m.writes Val f (chunks o w (2 * k))) [⟨ch (o (2 * k + 1)), w (2 * k + 1)⟩, ⟨ch (o (2 * k)), w (2 * k)⟩] = m.writes Val f (chunks o w (2 * (k + 1))) := by
  rw [← View.writes_append]; rfl
end

set_option warn.classDefReducibility false in
@[sl_loop] def loop2 (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S8x128x1024 .f32) (harg8 : arg8.IsWhole) (arg9 : Memref sig .tc .vmem S8x128x1024 .f32) (harg9 : arg9.IsWhole) (v50 : IVec S1024x256 1) (v74 : FVec F S256x256 .bf16) (k0_t1 : Fin k0_t1_loop.trips) (v89 : FVec F S128x256 .bf16) (v111 : BitVec 32) (v214 : FVec F S128x1024 .f32) (v216 : BitVec 32) (v217 : BitVec 32) (X2 : BufTy.Contents (Elt F) arg2.view.ty) (G8 : BufTy.Contents (Elt F) arg8.view.ty) (G9 : BufTy.Contents (Elt F) arg9.view.ty) (init : FVec F S128x1024 .f32) :
    Idealize.ShloMosaic.LoopInv (M := 𝕄G) Idealize.ShloMosaic.frame (wpE (defs₀ (F := F)) 𝒱 (c : Thread nD τ) bd) E
      (k0_t2_loop k0_t1).lb (k0_t2_loop k0_t1).ub (k0_t2_loop k0_t1).st (k0_t2_ok k0_t1) init
      (k0_t2_body (F := F) i arg1 harg1 arg2 harg2 arg3 harg3 arg4 harg4 arg5 harg5 arg6 harg6 arg7 harg7 arg8 harg8 arg9 harg9 v50 v74 k0_t1 v89 v111 v214 v216 v217) where
  inv k acc := iprop((arg2.view.loc (c : Thread nD τ) ↦[arg2.view.set]{fullShare} X2) ∗ (∃ f, (arg8.view.loc (c : Thread nD τ) ↦[arg8.view.set]{fullShare} f) ∗ ⌜f = arg8.view.writes (Elt F) G8 (planes (fun _ => k0_t1.val / 2 - 1) (atS v50 v74 v89 (rowsC (arg2.view.read (Elt F) X2)) (fun _ => k0_t1.val / 2 - 1) init) k)⌝) ∗ (∃ f, (arg9.view.loc (c : Thread nD τ) ↦[arg9.view.set]{fullShare} f) ∗ ⌜f = arg9.view.writes (Elt F) G9 (planes (fun _ => k0_t1.val / 2 - 1) (fun j => sgC v50 v89 (rowsC (arg2.view.read (Elt F) X2)) ((fun _ => k0_t1.val / 2 - 1) j)) k)⌝) ∗ ⌜acc = lkS v50 v89 (rowsC (arg2.view.read (Elt F) X2)) (fun _ => k0_t1.val / 2 - 1) init k⌝)
  step k acc := by
    iintro ⟨H2, ⟨%f8, H8, %h8⟩, ⟨%f9, H9, %h9⟩, %h_acc⟩
    subst h_acc; subst h8; subst h9
    iapply (wp_wand_r Idealize.ShloMosaic.frame (wpE (defs₀ (F := F)) 𝒱 (c : Thread nD τ) bd) E)
    isplitl [H2 H8 H9]
    · iapply (trip2 (F := F) 𝒱 c bd i arg1 harg1 arg2 harg2 arg3 harg3 arg4 harg4 arg5 harg5 arg6 harg6 arg7 harg7 arg8 harg8 arg9 harg9 v50 v74 k0_t1 v89 v111 v214 v216 v217 k E _ X2 _ _)
      isplitl [H2]; · iexact H2
      isplitl [H8]; · iexact H8
      iexact H9
    · iintro %yld ⟨%h_res, H2, H8, H9⟩
      isplitl [H2]; · iexact H2
      isplitl [H8]
      · iexists _; isplitl [H8]; · iexact H8
        ipureintro
        exact planes_one arg8.view G8 (fun _ => k0_t1.val / 2 - 1) (atS v50 v74 v89 (rowsC (arg2.view.read (Elt F) X2)) (fun _ => k0_t1.val / 2 - 1) init) k.val
      isplitl [H9]
      · iexists _; isplitl [H9]; · iexact H9
        ipureintro
        exact planes_one arg9.view G9 (fun _ => k0_t1.val / 2 - 1) (fun j => sgC v50 v89 (rowsC (arg2.view.read (Elt F) X2)) ((fun _ => k0_t1.val / 2 - 1) j)) k.val
      ipureintro
      rw [h_res]; exact (lkS_succ v50 v89 (rowsC (arg2.view.read (Elt F) X2)) (fun _ => k0_t1.val / 2 - 1) init k.val).symm

set_option warn.classDefReducibility false in
@[sl_loop] def loop4 (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S8x128x1024 .f32) (harg8 : arg8.IsWhole) (arg9 : Memref sig .tc .vmem S8x128x1024 .f32) (harg9 : arg9.IsWhole) (v50 : IVec S1024x256 1) (v74 : FVec F S256x256 .bf16) (k0_t1 : Fin k0_t1_loop.trips) (v89 : FVec F S128x256 .bf16) (v111 : BitVec 32) (v214 : FVec F S128x1024 .f32) (v216 : BitVec 32) (v217 : BitVec 32) (v224 : BitVec 32) (X2 : BufTy.Contents (Elt F) arg2.view.ty) (G8 : BufTy.Contents (Elt F) arg8.view.ty) (G9 : BufTy.Contents (Elt F) arg9.view.ty) (init : FVec F S128x1024 .f32) :
    Idealize.ShloMosaic.LoopInv (M := 𝕄G) Idealize.ShloMosaic.frame (wpE (defs₀ (F := F)) 𝒱 (c : Thread nD τ) bd) E
      (k0_t4_loop k0_t1).lb (k0_t4_loop k0_t1).ub (k0_t4_loop k0_t1).st (k0_t4_ok k0_t1) init
      (k0_t4_body (F := F) i arg1 harg1 arg2 harg2 arg3 harg3 arg4 harg4 arg5 harg5 arg6 harg6 arg7 harg7 arg8 harg8 arg9 harg9 v50 v74 k0_t1 v89 v111 v214 v216 v217 v224) where
  inv k acc := iprop((arg2.view.loc (c : Thread nD τ) ↦[arg2.view.set]{fullShare} X2) ∗ (∃ f, (arg8.view.loc (c : Thread nD τ) ↦[arg8.view.set]{fullShare} f) ∗ ⌜f = arg8.view.writes (Elt F) G8 (planes (fun j => k0_t1.val / 2 - 1 - k0_t1.val / 2 % 2 - j) (atS v50 v74 v89 (rowsC (arg2.view.read (Elt F) X2)) (fun j => k0_t1.val / 2 - 1 - k0_t1.val / 2 % 2 - j) init) (2 * k))⌝) ∗ (∃ f, (arg9.view.loc (c : Thread nD τ) ↦[arg9.view.set]{fullShare} f) ∗ ⌜f = arg9.view.writes (Elt F) G9 (planes (fun j => k0_t1.val / 2 - 1 - k0_t1.val / 2 % 2 - j) (fun j => sgC v50 v89 (rowsC (arg2.view.read (Elt F) X2)) ((fun j => k0_t1.val / 2 - 1 - k0_t1.val / 2 % 2 - j) j)) (2 * k))⌝) ∗ ⌜acc = lkS v50 v89 (rowsC (arg2.view.read (Elt F) X2)) (fun j => k0_t1.val / 2 - 1 - k0_t1.val / 2 % 2 - j) init (2 * k)⌝)
  step k acc := by
    iintro ⟨H2, ⟨%f8, H8, %h8⟩, ⟨%f9, H9, %h9⟩, %h_acc⟩
    subst h_acc; subst h8; subst h9
    iapply (wp_wand_r Idealize.ShloMosaic.frame (wpE (defs₀ (F := F)) 𝒱 (c : Thread nD τ) bd) E)
    isplitl [H2 H8 H9]
    · iapply (trip4 (F := F) 𝒱 c bd i arg1 harg1 arg2 harg2 arg3 harg3 arg4 harg4 arg5 harg5 arg6 harg6 arg7 harg7 arg8 harg8 arg9 harg9 v50 v74 k0_t1 v89 v111 v214 v216 v217 v224 k E _ X2 _ _)
      isplitl [H2]; · iexact H2
      isplitl [H8]; · iexact H8
      iexact H9
    · iintro %yld ⟨%h_res, H2, H8, H9⟩
      isplitl [H2]; · iexact H2
      isplitl [H8]
      · iexists _; isplitl [H8]; · iexact H8
        ipureintro
        refine Eq.trans ?_ (planes_two arg8.view G8 (fun j => k0_t1.val / 2 - 1 - k0_t1.val / 2 % 2 - j) (atS v50 v74 v89 (rowsC (arg2.view.read (Elt F) X2)) (fun j => k0_t1.val / 2 - 1 - k0_t1.val / 2 % 2 - j) init) k.val); rw [show (atS v50 v74 v89 (rowsC (arg2.view.read (Elt F) X2)) (fun j => k0_t1.val / 2 - 1 - k0_t1.val / 2 % 2 - j) init) (2 * k.val + 1) = attC v50 v74 v89 (rowsC (arg2.view.read (Elt F) X2)) ((fun j => k0_t1.val / 2 - 1 - k0_t1.val / 2 % 2 - j) (2 * k.val + 1)) (lkS v50 v89 (rowsC (arg2.view.read (Elt F) X2)) (fun j => k0_t1.val / 2 - 1 - k0_t1.val / 2 % 2 - j) init (2 * k.val + 1)) from rfl, (lkS_succ v50 v89 (rowsC (arg2.view.read (Elt F) X2)) (fun j => k0_t1.val / 2 - 1 - k0_t1.val / 2 % 2 - j) init (2 * k.val))]; rfl
      isplitl [H9]
      · iexists _; isplitl [H9]; · iexact H9
        ipureintro
        exact planes_two arg9.view G9 (fun j => k0_t1.val / 2 - 1 - k0_t1.val / 2 % 2 - j) (fun j => sgC v50 v89 (rowsC (arg2.view.read (Elt F) X2)) ((fun j => k0_t1.val / 2 - 1 - k0_t1.val / 2 % 2 - j) j)) k.val
      ipureintro
      rw [h_res]; refine Eq.trans ?_ (lkS_succ v50 v89 (rowsC (arg2.view.read (Elt F) X2)) (fun j => k0_t1.val / 2 - 1 - k0_t1.val / 2 % 2 - j) init (2 * k.val + 1)).symm; rw [(lkS_succ v50 v89 (rowsC (arg2.view.read (Elt F) X2)) (fun j => k0_t1.val / 2 - 1 - k0_t1.val / 2 % 2 - j) init (2 * k.val))]; rfl

set_option warn.classDefReducibility false in
@[sl_loop] def loop6 (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S8x128x1024 .f32) (harg8 : arg8.IsWhole) (arg9 : Memref sig .tc .vmem S8x128x1024 .f32) (harg9 : arg9.IsWhole) (v50 : IVec S1024x256 1) (v78 : FVec F S256x256 .bf16) (k0_t1 : Fin k0_t1_loop.trips) (v89 : FVec F S128x256 .bf16) (v94 : FVec F S128x256 .bf16) (v256 : BitVec 32) (c2_i32_83 : BitVec 32) (c0_i32_84 : BitVec 32) (X2 : BufTy.Contents (Elt F) arg2.view.ty) (X3 : BufTy.Contents (Elt F) arg3.view.ty) (X8 : BufTy.Contents (Elt F) arg8.view.ty) (X9 : BufTy.Contents (Elt F) arg9.view.ty) (G6 : BufTy.Contents (Elt F) arg6.view.ty) (G7 : BufTy.Contents (Elt F) arg7.view.ty) (init : FVec F S128x256 .f32 × FVec F S128x1024 .f32) :
    Idealize.ShloMosaic.LoopInv (M := 𝕄G) Idealize.ShloMosaic.frame (wpE (defs₀ (F := F)) 𝒱 (c : Thread nD τ) bd) E
      (k0_t6_loop k0_t1).lb (k0_t6_loop k0_t1).ub (k0_t6_loop k0_t1).st (k0_t6_ok k0_t1) init
      (k0_t6_body (F := F) i arg1 harg1 arg2 harg2 arg3 harg3 arg4 harg4 arg5 harg5 arg6 harg6 arg7 harg7 arg8 harg8 arg9 harg9 v50 v78 k0_t1 v89 v94 v256 c2_i32_83 c0_i32_84) where
  inv k acc := iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8) ∗ (arg9.view.loc (c : Thread nD τ) ↦[arg9.view.set]{fullShare} X9) ∗ (∃ f, (arg6.view.loc (c : Thread nD τ) ↦[arg6.view.set]{fullShare} f) ∗ ⌜f = arg6.view.writes (Elt F) G6 (chunks (fun _ => 0) (fun j => accV v50 (dzS v50 v78 v94 (rowsC (arg3.view.read (Elt F) X3)) (plane (arg8.view.read (Elt F) X8)) (plane (arg9.view.read (Elt F) X9)) (fun _ => 0) init.2 j) v89 (rowsC (arg6.view.read (Elt F) G6) ((fun _ => 0) j))) k)⌝) ∗ (∃ f, (arg7.view.loc (c : Thread nD τ) ↦[arg7.view.set]{fullShare} f) ∗ ⌜f = arg7.view.writes (Elt F) G7 (chunks (fun _ => 0) (fun j => accV v50 (rdV ((plane (arg8.view.read (Elt F) X8)) ((fun _ => 0) j))) v94 (rowsC (arg7.view.read (Elt F) G7) ((fun _ => 0) j))) k)⌝) ∗ ⌜acc = (dqR v50 (fun _ => rowsC (arg2.view.read (Elt F) X2) 0) init.1 (dzS v50 v78 v94 (rowsC (arg3.view.read (Elt F) X3)) (plane (arg8.view.read (Elt F) X8)) (plane (arg9.view.read (Elt F) X9)) (fun _ => 0) init.2) k, dsS v50 v94 (rowsC (arg3.view.read (Elt F) X3)) (plane (arg8.view.read (Elt F) X8)) (fun _ => 0) init.2 k)⌝)
  step k acc := by
    iintro ⟨H2, H3, H8, H9, ⟨%f6, H6, %h6⟩, ⟨%f7, H7, %h7⟩, %h_acc⟩
    have hk0 : k.val = 0 := by have := lt_of_lt_of_eq k.isLt (trips6 k0_t1); omega
    subst h_acc; subst h6; subst h7
    iapply (wp_wand_r Idealize.ShloMosaic.frame (wpE (defs₀ (F := F)) 𝒱 (c : Thread nD τ) bd) E)
    isplitl [H2 H3 H8 H9 H6 H7]
    · iapply (trip6 (F := F) 𝒱 c bd i arg1 harg1 arg2 harg2 arg3 harg3 arg4 harg4 arg5 harg5 arg6 harg6 arg7 harg7 arg8 harg8 arg9 harg9 v50 v78 k0_t1 v89 v94 v256 c2_i32_83 c0_i32_84 k E _ X2 X3 X8 X9 _ _)
      isplitl [H2]; · iexact H2
      isplitl [H3]; · iexact H3
      isplitl [H8]; · iexact H8
      isplitl [H9]; · iexact H9
      isplitl [H6]; · iexact H6
      iexact H7
    · iintro %yld ⟨%h_res, H2, H3, H8, H9, H6, H7⟩
      isplitl [H2]; · iexact H2
      isplitl [H3]; · iexact H3
      isplitl [H8]; · iexact H8
      isplitl [H9]; · iexact H9
      isplitl [H6]
      · iexists _; isplitl [H6]; · iexact H6
        ipureintro
        rw [show (k.val : ℕ) = 0 from hk0]; exact chunks_one arg6.view G6 (fun _ => 0) (fun j => accV v50 (dzS v50 v78 v94 (rowsC (arg3.view.read (Elt F) X3)) (plane (arg8.view.read (Elt F) X8)) (plane (arg9.view.read (Elt F) X9)) (fun _ => 0) init.2 j) v89 (rowsC (arg6.view.read (Elt F) G6) ((fun _ => 0) j))) 0
      isplitl [H7]
      · iexists _; isplitl [H7]; · iexact H7
        ipureintro
        rw [show (k.val : ℕ) = 0 from hk0]; exact chunks_one arg7.view G7 (fun _ => 0) (fun j => accV v50 (rdV ((plane (arg8.view.read (Elt F) X8)) ((fun _ => 0) j))) v94 (rowsC (arg7.view.read (Elt F) G7) ((fun _ => 0) j))) 0
      ipureintro
      rw [h_res]; exact (congrArg₂ Prod.mk (dqR_succ v50 (fun _ => rowsC (arg2.view.read (Elt F) X2) 0) init.1 (dzS v50 v78 v94 (rowsC (arg3.view.read (Elt F) X3)) (plane (arg8.view.read (Elt F) X8)) (plane (arg9.view.read (Elt F) X9)) (fun _ => 0) init.2) k.val) (dsS_succ v50 v94 (rowsC (arg3.view.read (Elt F) X3)) (plane (arg8.view.read (Elt F) X8)) (fun _ => 0) init.2 k.val)).symm

set_option warn.classDefReducibility false in
@[sl_loop] def loop8 (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S8x128x1024 .f32) (harg8 : arg8.IsWhole) (arg9 : Memref sig .tc .vmem S8x128x1024 .f32) (harg9 : arg9.IsWhole) (v25 : IVec S1024x256 32) (v27 : IVec S1024x256 32) (v41 : IVec S1024x256 1) (v45 : IVec S1024x256 1) (k0_t1 : Fin k0_t1_loop.trips) (v89 : FVec F S128x256 .bf16) (v94 : FVec F S128x256 .bf16) (v266 : BitVec 32) (c0_i32_102 : BitVec 32) (X2 : BufTy.Contents (Elt F) arg2.view.ty) (X3 : BufTy.Contents (Elt F) arg3.view.ty) (X8 : BufTy.Contents (Elt F) arg8.view.ty) (X9 : BufTy.Contents (Elt F) arg9.view.ty) (G6 : BufTy.Contents (Elt F) arg6.view.ty) (G7 : BufTy.Contents (Elt F) arg7.view.ty) (init : FVec F S128x256 .f32 × FVec F S128x1024 .f32) :
    Idealize.ShloMosaic.LoopInv (M := 𝕄G) Idealize.ShloMosaic.frame (wpE (defs₀ (F := F)) 𝒱 (c : Thread nD τ) bd) E
      (k0_t8_loop k0_t1).lb (k0_t8_loop k0_t1).ub (k0_t8_loop k0_t1).st (k0_t8_ok k0_t1) init
      (k0_t8_body (F := F) i arg1 harg1 arg2 harg2 arg3 harg3 arg4 harg4 arg5 harg5 arg6 harg6 arg7 harg7 arg8 harg8 arg9 harg9 v25 v27 v41 v45 k0_t1 v89 v94 v266 c0_i32_102) where
  inv k acc := iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8) ∗ (arg9.view.loc (c : Thread nD τ) ↦[arg9.view.set]{fullShare} X9) ∗ (∃ f, (arg6.view.loc (c : Thread nD τ) ↦[arg6.view.set]{fullShare} f) ∗ ⌜f = arg6.view.writes (Elt F) G6 (chunks (fun j => (k0_t1.val / 2 + 1) % 2 + j) (fun j => accV (k0_pay1 v25 v27 v41 v45) (dzS (k0_pay1 v25 v27 v41 v45) (k0_pay4 (F := F)) v94 (rowsC (arg3.view.read (Elt F) X3)) (plane (arg8.view.read (Elt F) X8)) (plane (arg9.view.read (Elt F) X9)) (fun j => (k0_t1.val / 2 + 1) % 2 + j) init.2 j) v89 (rowsC (arg6.view.read (Elt F) G6) ((fun j => (k0_t1.val / 2 + 1) % 2 + j) j))) (2 * k))⌝) ∗ (∃ f, (arg7.view.loc (c : Thread nD τ) ↦[arg7.view.set]{fullShare} f) ∗ ⌜f = arg7.view.writes (Elt F) G7 (chunks (fun j => (k0_t1.val / 2 + 1) % 2 + j) (fun j => accV (k0_pay1 v25 v27 v41 v45) (rdV ((plane (arg8.view.read (Elt F) X8)) ((fun j => (k0_t1.val / 2 + 1) % 2 + j) j))) v94 (rowsC (arg7.view.read (Elt F) G7) ((fun j => (k0_t1.val / 2 + 1) % 2 + j) j))) (2 * k))⌝) ∗ ⌜acc = (dqR (k0_pay1 v25 v27 v41 v45) (fun j => rowsC (arg2.view.read (Elt F) X2) ((k0_t1.val / 2 + 1) % 2 + j)) init.1 (dzS (k0_pay1 v25 v27 v41 v45) (k0_pay4 (F := F)) v94 (rowsC (arg3.view.read (Elt F) X3)) (plane (arg8.view.read (Elt F) X8)) (plane (arg9.view.read (Elt F) X9)) (fun j => (k0_t1.val / 2 + 1) % 2 + j) init.2) (2 * k), dsS (k0_pay1 v25 v27 v41 v45) v94 (rowsC (arg3.view.read (Elt F) X3)) (plane (arg8.view.read (Elt F) X8)) (fun j => (k0_t1.val / 2 + 1) % 2 + j) init.2 (2 * k))⌝)
  step k acc := by
    iintro ⟨H2, H3, H8, H9, ⟨%f6, H6, %h6⟩, ⟨%f7, H7, %h7⟩, %h_acc⟩
    have ht := lt16 k0_t1
    have hk := lt_of_lt_of_eq k.isLt (trips8 k0_t1)
    subst h_acc; subst h6; subst h7
    iapply (wp_wand_r Idealize.ShloMosaic.frame (wpE (defs₀ (F := F)) 𝒱 (c : Thread nD τ) bd) E)
    isplitl [H2 H3 H8 H9 H6 H7]
    · iapply (trip8 (F := F) 𝒱 c bd i arg1 harg1 arg2 harg2 arg3 harg3 arg4 harg4 arg5 harg5 arg6 harg6 arg7 harg7 arg8 harg8 arg9 harg9 v25 v27 v41 v45 k0_t1 v89 v94 v266 c0_i32_102 k E _ X2 X3 X8 X9 _ _)
      isplitl [H2]; · iexact H2
      isplitl [H3]; · iexact H3
      isplitl [H8]; · iexact H8
      isplitl [H9]; · iexact H9
      isplitl [H6]; · iexact H6
      iexact H7
    · iintro %yld ⟨%h_res, H2, H3, H8, H9, H6, H7⟩
      isplitl [H2]; · iexact H2
      isplitl [H3]; · iexact H3
      isplitl [H8]; · iexact H8
      isplitl [H9]; · iexact H9
      isplitl [H6]
      · iexists _; isplitl [H6]; · iexact H6
        ipureintro
        refine Eq.trans ?_ (chunks_two arg6.view G6 (fun j => (k0_t1.val / 2 + 1) % 2 + j) (fun j => accV (k0_pay1 v25 v27 v41 v45) (dzS (k0_pay1 v25 v27 v41 v45) (k0_pay4 (F := F)) v94 (rowsC (arg3.view.read (Elt F) X3)) (plane (arg8.view.read (Elt F) X8)) (plane (arg9.view.read (Elt F) X9)) (fun j => (k0_t1.val / 2 + 1) % 2 + j) init.2 j) v89 (rowsC (arg6.view.read (Elt F) G6) ((fun j => (k0_t1.val / 2 + 1) % 2 + j) j))) k.val)
        rw [chunks_miss arg6.view G6 _ _ ((k0_t1.val / 2 + 1) % 2 + 2 * k.val) _ (fun j hj => by omega),
          chunks_miss arg6.view G6 _ _ ((k0_t1.val / 2 + 1) % 2 + 2 * k.val + 1) _ (fun j hj => by omega)]
        simp only [dzS]
        rw [dsS_succ (k0_pay1 v25 v27 v41 v45) v94 (rowsC (arg3.view.read (Elt F) X3)) (plane (arg8.view.read (Elt F) X8)) (fun j => (k0_t1.val / 2 + 1) % 2 + j) init.2 (2 * k.val)]
        rfl
      isplitl [H7]
      · iexists _; isplitl [H7]; · iexact H7
        ipureintro
        refine Eq.trans ?_ (chunks_two arg7.view G7 (fun j => (k0_t1.val / 2 + 1) % 2 + j) (fun j => accV (k0_pay1 v25 v27 v41 v45) (rdV ((plane (arg8.view.read (Elt F) X8)) ((fun j => (k0_t1.val / 2 + 1) % 2 + j) j))) v94 (rowsC (arg7.view.read (Elt F) G7) ((fun j => (k0_t1.val / 2 + 1) % 2 + j) j))) k.val)
        rw [chunks_miss arg7.view G7 _ _ ((k0_t1.val / 2 + 1) % 2 + 2 * k.val) _ (fun j hj => by omega),
          chunks_miss arg7.view G7 _ _ ((k0_t1.val / 2 + 1) % 2 + 2 * k.val + 1) _ (fun j hj => by omega)]
        rfl
      ipureintro
      rw [h_res]
      refine Eq.trans ?_ (congrArg₂ Prod.mk ((dqR_succ (k0_pay1 v25 v27 v41 v45) (fun j => rowsC (arg2.view.read (Elt F) X2) ((k0_t1.val / 2 + 1) % 2 + j)) init.1 (dzS (k0_pay1 v25 v27 v41 v45) (k0_pay4 (F := F)) v94 (rowsC (arg3.view.read (Elt F) X3)) (plane (arg8.view.read (Elt F) X8)) (plane (arg9.view.read (Elt F) X9)) (fun j => (k0_t1.val / 2 + 1) % 2 + j) init.2) (2 * k.val + 1)).trans (congrArg (fun x => dqV (k0_pay1 v25 v27 v41 v45) x _ _) (dqR_succ (k0_pay1 v25 v27 v41 v45) (fun j => rowsC (arg2.view.read (Elt F) X2) ((k0_t1.val / 2 + 1) % 2 + j)) init.1 (dzS (k0_pay1 v25 v27 v41 v45) (k0_pay4 (F := F)) v94 (rowsC (arg3.view.read (Elt F) X3)) (plane (arg8.view.read (Elt F) X8)) (plane (arg9.view.read (Elt F) X9)) (fun j => (k0_t1.val / 2 + 1) % 2 + j) init.2) (2 * k.val)))) (dsS_succ (k0_pay1 v25 v27 v41 v45) v94 (rowsC (arg3.view.read (Elt F) X3)) (plane (arg8.view.read (Elt F) X8)) (fun j => (k0_t1.val / 2 + 1) % 2 + j) init.2 (2 * k.val + 1))).symm
      rw [show (dzS (k0_pay1 v25 v27 v41 v45) (k0_pay4 (F := F)) v94 (rowsC (arg3.view.read (Elt F) X3)) (plane (arg8.view.read (Elt F) X8)) (plane (arg9.view.read (Elt F) X9)) (fun j => (k0_t1.val / 2 + 1) % 2 + j) init.2) (2 * k.val + 1) = dzC (k0_pay1 v25 v27 v41 v45) (k0_pay4 (F := F)) v94 (rowsC (arg3.view.read (Elt F) X3)) (plane (arg8.view.read (Elt F) X8)) (plane (arg9.view.read (Elt F) X9)) ((k0_t1.val / 2 + 1) % 2 + 2 * k.val + 1) (dsS (k0_pay1 v25 v27 v41 v45) v94 (rowsC (arg3.view.read (Elt F) X3)) (plane (arg8.view.read (Elt F) X8)) (fun j => (k0_t1.val / 2 + 1) % 2 + j) init.2 (2 * k.val + 1)) from rfl, dsS_succ (k0_pay1 v25 v27 v41 v45) v94 (rowsC (arg3.view.read (Elt F) X3)) (plane (arg8.view.read (Elt F) X8)) (fun j => (k0_t1.val / 2 + 1) % 2 + j) init.2 (2 * k.val)]
      rfl

end Cert.KernelIdeal.Sbw
-- ==== Proof.Query.lean ====
/-
  The values of one query block: the running sums over the key chunks from the diagonal one down, the attention weights,
  the gradients of the exponents and of the scores; and what the loops of one query block leave, in these values.
-/
module

public import proofs.«01_k».proof.Proof.Inner

@[expose] public section

set_option maxRecDepth 8192
set_option maxHeartbeats 1000000

noncomputable section

namespace Cert.KernelIdeal.Sbw

open Idealize.ShloMosaic Idealize.ShloMosaic.Tactic
open Cert.KernelIdeal Cert.KernelIdeal.Gen

variable {F : FTy → Type} [FloatOps F]

/-- What one query block works on: the mask of the heads' columns, the two triangles, the causal mask of the diagonal
chunk, the scaled queries, the incoming gradient, the chunks of the keys and of the values, the diagonal chunk. -/
structure QB (F : FTy → Type) [FloatOps F] where
  bd : IVec S1024x256 1
  later : FVec F S256x256 .bf16
  ear : FVec F S256x256 .bf16
  m : IVec S128x1024 1
  q : FVec F S128x256 .bf16
  g : FVec F S128x256 .bf16
  K : ℕ → Vec F S256x256 .bf16
  V : ℕ → Vec F S256x256 .bf16
  cd : ℕ

namespace QB
variable (b : QB F)

/-- The logarithms of chunk `c`, masked on the diagonal. -/
def lk (c : ℕ) : FVec F S128x1024 .f32 := if c = b.cd then maskV b.m (lkC b.bd b.q b.K c) else lkC b.bd b.q b.K c
/-- The sum of the logarithms of the `j` chunks from the diagonal one down. -/
def cs (j : ℕ) : FVec F S128x1024 .f32 := csR k0_pay120 (fun j => b.lk (b.cd - j)) j
/-- The attention plane of chunk `c`. -/
def att (c : ℕ) : FVec F S1x128x1024 .f32 :=
  if c = b.cd then upV (maskV b.m (attV b.later (zV b.bd b.q (b.K c)) (maskV b.m (lkV (zV b.bd b.q (b.K c)))) k0_pay120))
  else attC b.bd b.later b.q b.K c (b.cs (b.cd - c))
/-- The logistic plane of chunk `c`. -/
def sg (c : ℕ) : FVec F S1x128x1024 .f32 :=
  if c = b.cd then upV (maskV b.m (sgV (zV b.bd b.q (b.K c)) (maskV b.m (lkV (zV b.bd b.q (b.K c)))))) else sgC b.bd b.q b.K c
/-- The exponents' gradient of chunk `c`. -/
def ds (c : ℕ) : FVec F S128x1024 .f32 := dsC b.bd b.g b.V b.att c
/-- The sum of the exponents' gradients of the chunks before `c`. -/
def pre (c : ℕ) : FVec F S128x1024 .f32 := csR k0_pay142 b.ds c
/-- The scores' gradient of chunk `c`. -/
def dz (c : ℕ) : FVec F S128x1024 .bf16 := dzC b.bd b.ear b.g b.V b.att b.sg c (b.pre c)
/-- The block of `dq` before its scale. -/
def dq : FVec F S128x256 .f32 := dqR b.bd b.K k0_pay141 b.dz (b.cd + 1)
/-- The first chunk the two-chunk loop of the accumulation takes. -/
def lo : ℕ := (b.cd + 1) % 2
/-- The chunks of the odd trip and of the two-chunk trips of the recomputation. -/
def o2 : ℕ → ℕ := fun _ => b.cd - 1
def o4 : ℕ → ℕ := fun j => b.cd - 1 - b.cd % 2 - j
def o8 : ℕ → ℕ := fun j => b.lo + j

/-- The sum after the diagonal chunk. -/
def cs1 : FVec F S128x1024 .f32 := nxV k0_pay120 (maskV b.m (lkC b.bd b.q b.K b.cd))

theorem cs_one : b.cs 1 = b.cs1 := by
  rw [cs, csR_succ, csR_zero]; simp only [lk, Nat.sub_zero, if_true, cs1]

theorem cs_odd : lkS b.bd b.q b.K b.o2 b.cs1 (b.cd % 2) = b.cs (1 + b.cd % 2) := by
  rcases Nat.mod_two_eq_zero_or_one b.cd with h | h
  · rw [h, lkS_zero, ← cs_one]
  · rw [h, lkS_succ, lkS_zero, ← cs_one]
    conv_rhs => rw [cs, csR_succ]
    rw [lk, if_neg (by omega)]; rfl

theorem cs_two : ∀ j, 1 + b.cd % 2 + j ≤ b.cd + 1 →
    lkS b.bd b.q b.K b.o4 (lkS b.bd b.q b.K b.o2 b.cs1 (b.cd % 2)) j = b.cs (1 + b.cd % 2 + j)
  | 0, _ => by rw [lkS_zero, cs_odd, Nat.add_zero]
  | j + 1, h => by
    rw [lkS_succ, cs_two j (by omega), ← Nat.add_assoc]
    conv_rhs => rw [cs, csR_succ]
    rw [lk, if_neg (by omega), show b.o4 j = b.cd - (1 + b.cd % 2 + j) by rw [o4]; omega]; rfl

section
variable {sig : RefSig} {κ : Kind} {sp : Space} (M : View sig κ sp S8x128x1024 .f32) (f : M.ty.Contents (Elt F)) (N : View sig κ sp S2048x256 .f32) (f6 : N.ty.Contents (Elt F))

/-- Planes stored chunk by chunk in the loops' order hold `x`. -/
theorem planes_all (hcd : b.cd < 8) (w4 w2 : ℕ → S1x128x1024.Idx → Elt F .f32) (w0 : S1x128x1024.Idx → Elt F .f32)
    (x : ℕ → S1x128x1024.Idx → Elt F .f32) (h0 : w0 = x b.cd) (h2 : b.cd % 2 = 1 → w2 0 = x (b.cd - 1))
    (h4 : ∀ j, j < 2 * (b.cd / 2) → w4 j = x (b.cd - 1 - b.cd % 2 - j)) (c : ℕ) (hc : c ≤ b.cd) :
    plane (M.read (Elt F) (M.writes (Elt F) f (planes b.o4 w4 (2 * (b.cd / 2)) ++ (planes b.o2 w2 (b.cd % 2) ++ [⟨pl b.cd, w0⟩])))) c = x c := by
  rw [View.writes_append, View.writes_append]
  by_cases h : c + 1 + b.cd % 2 ≤ b.cd
  · have e : c = b.o4 (b.cd - 1 - b.cd % 2 - c) := by rw [o4]; omega
    rw [e, planes_hit M _ b.o4 w4 (b.cd - 1 - b.cd % 2 - c) _ (by omega) (fun i hi hne => by simp only [o4]; omega), h4 _ (by omega), o4]
  · rw [planes_miss M _ b.o4 w4 c _ (fun j hj => by simp only [o4]; omega)]
    rcases Nat.mod_two_eq_zero_or_one b.cd with hp | hp
    · have e : c = b.cd := by omega
      rw [hp, e, planes, View.writes_nil, plane_hit, h0]
    · rw [hp, planes, planes]
      by_cases e : c = b.cd
      · rw [e, plane_miss M _ _ _ (by simp only [o2]; omega), View.writes_nil, plane_hit, h0]
      · have e : c = b.o2 0 := by rw [o2]; omega
        rw [e, plane_hit, h2 hp, o2]

theorem att_all (hcd : b.cd < 8) (c : ℕ) (hc : c ≤ b.cd) :
    plane (M.read (Elt F) (M.writes (Elt F) f
      (planes b.o4 (atS b.bd b.later b.q b.K b.o4 (lkS b.bd b.q b.K b.o2 b.cs1 (b.cd % 2))) (2 * (b.cd / 2))
        ++ (planes b.o2 (atS b.bd b.later b.q b.K b.o2 b.cs1) (b.cd % 2)
          ++ [⟨pl b.cd, upV (maskV b.m (attV b.later (zV b.bd b.q (b.K b.cd)) (maskV b.m (lkV (zV b.bd b.q (b.K b.cd)))) k0_pay120))⟩])))) c = b.att c := by
  refine planes_all b M f hcd _ _ _ b.att (by rw [att, if_pos rfl]) (fun h => ?_) (fun j hj => ?_) c hc
  · rw [att, if_neg (by omega), atS, lkS_zero, ← cs_one, show b.cd - (b.cd - 1) = 1 by omega]; rfl
  · rw [att, if_neg (by omega), atS, cs_two b j (by omega), show b.cd - (b.cd - 1 - b.cd % 2 - j) = 1 + b.cd % 2 + j by omega]; rfl

theorem sg_all (hcd : b.cd < 8) (c : ℕ) (hc : c ≤ b.cd) :
    plane (M.read (Elt F) (M.writes (Elt F) f
      (planes b.o4 (fun j => sgC b.bd b.q b.K (b.o4 j)) (2 * (b.cd / 2))
        ++ (planes b.o2 (fun j => sgC b.bd b.q b.K (b.o2 j)) (b.cd % 2)
          ++ [⟨pl b.cd, upV (maskV b.m (sgV (zV b.bd b.q (b.K b.cd)) (maskV b.m (lkV (zV b.bd b.q (b.K b.cd))))))⟩])))) c = b.sg c := by
  refine planes_all b M f hcd _ _ _ b.sg (by rw [sg, if_pos rfl]) (fun h => ?_) (fun j hj => ?_) c hc
  · rw [sg, if_neg (by omega)]; rfl
  · rw [sg, if_neg (by omega)]; rfl

end

section
variable (A S : ℕ → Vec F S1x128x1024 .f32) (hA : ∀ c, c ≤ b.cd → A c = b.att c) (hS : ∀ c, c ≤ b.cd → S c = b.sg c)
include hA

theorem ds_of (c : ℕ) (hc : c ≤ b.cd) : dsC b.bd b.g b.V A c = b.ds c := by rw [ds, dsC, dsC, hA c hc]

theorem pre_lo : dsS b.bd b.g b.V A (fun _ => 0) k0_pay142 b.lo = b.pre b.lo := by
  rcases Nat.mod_two_eq_zero_or_one (b.cd + 1) with h | h
  · rw [lo, h, dsS_zero, pre, csR_zero]
  · rw [lo, h, dsS_succ, dsS_zero, pre, csR_succ, csR_zero, ds_of b A hA 0 (by omega)]

theorem pre_two : ∀ j, b.lo + j ≤ b.cd + 1 →
    dsS b.bd b.g b.V A b.o8 (dsS b.bd b.g b.V A (fun _ => 0) k0_pay142 b.lo) j = b.pre (b.lo + j)
  | 0, _ => by rw [dsS_zero, pre_lo b A hA, Nat.add_zero]
  | j + 1, h => by
    rw [dsS_succ, pre_two j (by omega), ← Nat.add_assoc, ds_of b A hA (b.o8 j) (by rw [o8]; omega), o8]
    conv_rhs => rw [pre, csR_succ]
    rfl

include hS

theorem dz_of (c : ℕ) (hc : c ≤ b.cd) (p : FVec F S128x1024 .f32) (hp : p = b.pre c) : dzC b.bd b.ear b.g b.V A S c p = b.dz c := by
  rw [dz, dzC, dzC, hA c hc, hS c hc, hp]

theorem dz_lo (h : b.lo = 1) : dzS b.bd b.ear b.g b.V A S (fun _ => 0) k0_pay142 0 = b.dz 0 := by
  rw [dzS, dsS_zero, dz_of b A S hA hS 0 (by omega) _ (by rw [pre, csR_zero])]

theorem dz_two (j : ℕ) (h : b.lo + j ≤ b.cd) :
    dzS b.bd b.ear b.g b.V A S b.o8 (dsS b.bd b.g b.V A (fun _ => 0) k0_pay142 b.lo) j = b.dz (b.lo + j) := by
  rw [dzS]; exact dz_of b A S hA hS (b.lo + j) h _ (pre_two b A hA j (by omega))

theorem dq_all :
    dqR b.bd (fun j => b.K (b.lo + j)) (dqR b.bd (fun _ => b.K 0) k0_pay141 (dzS b.bd b.ear b.g b.V A S (fun _ => 0) k0_pay142) b.lo)
      (dzS b.bd b.ear b.g b.V A S b.o8 (dsS b.bd b.g b.V A (fun _ => 0) k0_pay142 b.lo)) (2 * ((b.cd + 1) / 2)) = b.dq := by
  have key : ∀ n, b.lo + n ≤ b.cd + 1 →
      dqR b.bd (fun j => b.K (b.lo + j)) (dqR b.bd (fun _ => b.K 0) k0_pay141 (dzS b.bd b.ear b.g b.V A S (fun _ => 0) k0_pay142) b.lo)
        (dzS b.bd b.ear b.g b.V A S b.o8 (dsS b.bd b.g b.V A (fun _ => 0) k0_pay142 b.lo)) n = dqR b.bd b.K k0_pay141 b.dz (b.lo + n) := by
    intro n
    induction n with
    | zero =>
      intro _
      rw [dqR_zero, Nat.add_zero]
      rcases Nat.mod_two_eq_zero_or_one (b.cd + 1) with h | h
      · rw [show b.lo = 0 from h, dqR_zero, dqR_zero]
      · have h1 : b.lo = 1 := h
        rw [h1, dqR_succ, dqR_succ, dqR_zero, dqR_zero, dz_lo b A S hA hS h1]
    | succ n ih =>
      intro h
      rw [dqR_succ, ih (by omega), dz_two b A S hA hS n (by omega), ← Nat.add_assoc, dqR_succ]
  rw [key _ (by rw [lo]; omega), dq, show b.lo + 2 * ((b.cd + 1) / 2) = b.cd + 1 by rw [lo]; omega]

end

section
variable {sig : RefSig} {κ : Kind} {sp : Space} (N : View sig κ sp S2048x256 .f32) (f : N.ty.Contents (Elt F))

/-- Chunks updated once each in the loops' order. -/
theorem chunks_all (hcd : b.cd < 8) (u : ℕ → Vec F S256x256 .f32 → S256x256.Idx → Elt F .f32) (w0 : ℕ → S256x256.Idx → Elt F .f32)
    (w8 : ℕ → S256x256.Idx → Elt F .f32) (h0 : b.lo = 1 → w0 0 = u 0 (rowsC (N.read (Elt F) f) 0))
    (h8 : ∀ j, b.lo + j ≤ b.cd → w8 j = u (b.lo + j) (rowsC (N.read (Elt F) (N.writes (Elt F) f (chunks (fun _ => 0) w0 b.lo))) (b.lo + j)))
    (c : ℕ) (hc : c < 8) :
    rowsC (N.read (Elt F) (N.writes (Elt F) f (chunks b.o8 w8 (2 * ((b.cd + 1) / 2)) ++ chunks (fun _ => 0) w0 b.lo))) c
      = if c ≤ b.cd then u c (rowsC (N.read (Elt F) f) c) else rowsC (N.read (Elt F) f) c := by
  have hlo : b.lo = (b.cd + 1) % 2 := rfl
  rw [View.writes_append]
  have h0m : ∀ c, c < 8 → b.lo ≤ c → rowsC (N.read (Elt F) (N.writes (Elt F) f (chunks (fun _ => 0) w0 b.lo))) c = rowsC (N.read (Elt F) f) c :=
    fun c h8 hl => chunks_miss N f _ w0 c _ fun j hj => by omega
  split
  · rename_i hle
    by_cases h : b.lo ≤ c
    · have e : c = b.o8 (c - b.lo) := by rw [o8]; omega
      conv_lhs => rw [e]
      rw [chunks_hit N _ b.o8 w8 (c - b.lo) _ (by omega) (fun i hi hne => by simp only [o8]; omega), h8 _ (by omega),
        show b.lo + (c - b.lo) = c by omega, h0m c hc h]
    · have h1 : b.lo = 1 := by omega
      have e : c = 0 := by omega
      subst e
      rw [chunks_miss N _ b.o8 w8 0 _ (fun j hj => by simp only [o8]; omega), h1, chunks, rowsC_hit, h0 h1]
  · rw [chunks_miss N _ b.o8 w8 c _ (fun j hj => by simp only [o8]; omega), h0m c hc (by omega)]

end

/-! ### What the loops of one query block leave -/

section
variable {sig : RefSig} {κ : Kind} {sp : Space} (M8 M9 : View sig κ sp S8x128x1024 .f32) (f8 : M8.ty.Contents (Elt F)) (f9 : M9.ty.Contents (Elt F))
  (N : View sig κ sp S2048x256 .f32) (f : N.ty.Contents (Elt F)) (n2 n4 n6 n8 : ℕ) (p8 p9 : View.Piece (Elt F) S8x128x1024 .f32) (c1 : FVec F S128x1024 .f32)

/-- What the loops of the query block leave in the first scratch buffer. -/
def scrA : ℕ → Vec F S1x128x1024 .f32 :=
  plane (M8.read (Elt F) (M8.writes (Elt F) f8
      (planes b.o4 (atS b.bd b.later b.q b.K b.o4 (lkS b.bd b.q b.K b.o2 c1 n2)) (2 * n4)
        ++ (planes b.o2 (atS b.bd b.later b.q b.K b.o2 c1) n2 ++ [p8]))))

/-- What the loops of the query block leave in the second scratch buffer. -/
def scrS : ℕ → Vec F S1x128x1024 .f32 :=
  plane (M9.read (Elt F) (M9.writes (Elt F) f9
      (planes b.o4 (fun j => sgC b.bd b.q b.K (b.o4 j)) (2 * n4)
        ++ (planes b.o2 (fun j => sgC b.bd b.q b.K (b.o2 j)) n2 ++ [p9]))))

variable (hcd : b.cd < 8) (h2 : n2 = b.cd % 2) (h4 : n4 = b.cd / 2) (h6 : n6 = b.lo) (h8 : n8 = (b.cd + 1) / 2) (hc1 : c1 = b.cs1)
  (hp8 : p8 = ⟨pl b.cd, upV (maskV b.m (attV b.later (zV b.bd b.q (b.K b.cd)) (maskV b.m (lkV (zV b.bd b.q (b.K b.cd)))) k0_pay120))⟩)
  (hp9 : p9 = ⟨pl b.cd, upV (maskV b.m (sgV (zV b.bd b.q (b.K b.cd)) (maskV b.m (lkV (zV b.bd b.q (b.K b.cd))))))⟩)

include hcd h2 h4 hc1 hp8 in
theorem scrA_eq (c : ℕ) (hc : c ≤ b.cd) : scrA b M8 f8 n2 n4 p8 c1 c = b.att c := by
  subst h2; subst h4; subst hc1; subst hp8
  exact att_all b M8 f8 hcd c hc

include hcd h2 h4 hp9 in
theorem scrS_eq (c : ℕ) (hc : c ≤ b.cd) : scrS b M9 f9 n2 n4 p9 c = b.sg c := by
  subst h2; subst h4; subst hp9
  exact sg_all b M9 f9 hcd c hc

include hcd h2 h4 h6 h8 hc1 hp8 hp9

theorem dq_res :
    dqR b.bd (fun j => b.K (b.lo + j)) (dqR b.bd (fun _ => b.K 0) k0_pay141
        (dzS b.bd b.ear b.g b.V (scrA b M8 f8 n2 n4 p8 c1) (scrS b M9 f9 n2 n4 p9) (fun _ => 0) k0_pay142) n6)
      (dzS b.bd b.ear b.g b.V (scrA b M8 f8 n2 n4 p8 c1) (scrS b M9 f9 n2 n4 p9) b.o8
        (dsS b.bd b.g b.V (scrA b M8 f8 n2 n4 p8 c1) (fun _ => 0) k0_pay142 n6)) (2 * n8) = b.dq := by
  subst h6; subst h8
  exact dq_all b _ _ (scrA_eq b M8 f8 n2 n4 p8 c1 hcd h2 h4 hc1 hp8) (scrS_eq b M9 f9 n2 n4 p9 hcd h2 h4 hp9)

theorem dk_res (c : ℕ) (hc : c < 8) :
    rowsC (N.read (Elt F) (N.writes (Elt F) f
      (chunks b.o8 (fun j => accV b.bd
            (dzS b.bd b.ear b.g b.V (scrA b M8 f8 n2 n4 p8 c1) (scrS b M9 f9 n2 n4 p9) b.o8
              (dsS b.bd b.g b.V (scrA b M8 f8 n2 n4 p8 c1) (fun _ => 0) k0_pay142 n6) j) b.q
            (rowsC (N.read (Elt F) (N.writes (Elt F) f (chunks (fun _ => 0)
              (fun j => accV b.bd (dzS b.bd b.ear b.g b.V (scrA b M8 f8 n2 n4 p8 c1) (scrS b M9 f9 n2 n4 p9) (fun _ => 0) k0_pay142 j) b.q (rowsC (N.read (Elt F) f) 0)) n6)))
              (b.o8 j))) (2 * n8)
        ++ chunks (fun _ => 0)
              (fun j => accV b.bd (dzS b.bd b.ear b.g b.V (scrA b M8 f8 n2 n4 p8 c1) (scrS b M9 f9 n2 n4 p9) (fun _ => 0) k0_pay142 j) b.q (rowsC (N.read (Elt F) f) 0)) n6))) c
      = if c ≤ b.cd then accV b.bd (b.dz c) b.q (rowsC (N.read (Elt F) f) c) else rowsC (N.read (Elt F) f) c := by
  subst h6; subst h8
  have hA := scrA_eq b M8 f8 n2 n4 p8 c1 hcd h2 h4 hc1 hp8
  have hS := scrS_eq b M9 f9 n2 n4 p9 hcd h2 h4 hp9
  refine chunks_all b N f hcd (fun c x => accV b.bd (b.dz c) b.q x) _ _ (fun h1 => ?_) (fun j hj => ?_) c hc
  · rw [dz_lo b _ _ hA hS h1]
  · rw [dz_two b _ _ hA hS j hj]; rfl

omit hp9 in
theorem dv_res (c : ℕ) (hc : c < 8) :
    rowsC (N.read (Elt F) (N.writes (Elt F) f
      (chunks b.o8 (fun j => accV b.bd (rdV (scrA b M8 f8 n2 n4 p8 c1 (b.o8 j))) b.g
            (rowsC (N.read (Elt F) (N.writes (Elt F) f (chunks (fun _ => 0)
              (fun _ => accV b.bd (rdV (scrA b M8 f8 n2 n4 p8 c1 0)) b.g (rowsC (N.read (Elt F) f) 0)) n6)))
              (b.o8 j))) (2 * n8)
        ++ chunks (fun _ => 0) (fun _ => accV b.bd (rdV (scrA b M8 f8 n2 n4 p8 c1 0)) b.g (rowsC (N.read (Elt F) f) 0)) n6))) c
      = if c ≤ b.cd then accV b.bd (rdV (b.att c)) b.g (rowsC (N.read (Elt F) f) c) else rowsC (N.read (Elt F) f) c := by
  subst h6; subst h8
  have hA := scrA_eq b M8 f8 n2 n4 p8 c1 hcd h2 h4 hc1 hp8
  refine chunks_all b N f hcd (fun c x => accV b.bd (rdV (b.att c)) b.g x) _ _ (fun h1 => ?_) (fun j hj => ?_) c hc
  · rw [hA 0 (by omega)]
  · simp only [o8]; rw [hA (b.lo + j) hj]

end

end QB

end Cert.KernelIdeal.Sbw

end
-- ==== Proof.Real.lean ====
/-
  Arrays of extended reals that hold real numbers: what each vector operation does to them.
-/
module

public import proofs.«01_k».proof.Proof.Query
public import Idealize.ShloMosaic.PureOps.Ideal.Laws
public import Idealize.ShloMosaic.Lib.ValueIdx
public import Idealize.ShloMosaic.Lib.ValueIdxCoords

@[expose] public section

set_option maxRecDepth 16384
set_option maxHeartbeats 4000000

noncomputable section

namespace Cert.KernelIdeal.Sbw

open Idealize.ShloMosaic Idealize.ShloMosaic.Tactic
open Idealize.ShloMosaic.ValueIdx hiding ix2 ix3 ix4 eq_ix2 eq_ix3 eq_ix4
open Cert.KernelIdeal Cert.KernelIdeal.Gen
open Finset

/-- The array holds the real numbers `f r c`. -/
def Is {a b : ℕ} (x : (⟨2, ![a, b]⟩ : Shape).Idx → EReal) (f : ℕ → ℕ → ℝ) : Prop :=
  ∀ (r : Fin a) (c : Fin b), x (ix2 r c) = ((f r.val c.val : ℝ) : EReal)

theorem Is.congr {a b : ℕ} {x : (⟨2, ![a, b]⟩ : Shape).Idx → EReal} {f g : ℕ → ℕ → ℝ} (h : Is x f)
    (e : ∀ r c, r < a → c < b → f r c = g r c) : Is x g := fun r c => by rw [h r c, e _ _ r.isLt c.isLt]

theorem Is.at {a b : ℕ} {x : (⟨2, ![a, b]⟩ : Shape).Idx → EReal} {f : ℕ → ℕ → ℝ} (h : Is x f) (i : (⟨2, ![a, b]⟩ : Shape).Idx) :
    x i = ((f (i 0).val (i 1).val : ℝ) : EReal) := by rw [eq_ix2 i]; exact h _ _

theorem Is.of {a b : ℕ} {x : (⟨2, ![a, b]⟩ : Shape).Idx → EReal} {f : ℕ → ℕ → ℝ}
    (h : ∀ i : (⟨2, ![a, b]⟩ : Shape).Idx, x i = ((f (i 0).val (i 1).val : ℝ) : EReal)) : Is x f := fun r c => h (ix2 r c)

/-- A finite sum of reals, as an extended real. -/
theorem coe_sum {ι : Type} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

/-! ### Pieces -/

theorem slice_is {a b p q : ℕ} {x : (⟨2, ![a, b]⟩ : Shape).Idx → EReal} {f : ℕ → ℕ → ℝ} (hx : Is x f) (o0 o1 : ℕ)
    (h : (⟨2, ![a, b]⟩ : Shape).Slices ![o0, o1] ⟨2, ![p, q]⟩) :
    Is (extractStridedSlice (⟨2, ![p, q]⟩ : Shape) ![o0, o1] x h) (fun r c => f (o0 + r) (o1 + c)) := by
  intro r c
  have h0 : o0 + p ≤ a := h.2 0
  have h1 : o1 + q ≤ b := h.2 1
  rw [extractStridedSlice_apply ![o0, o1] x h (ix2 r c) (ix2 ⟨o0 + r.val, by omega⟩ ⟨o1 + c.val, by omega⟩)
    (fun d => by fin_cases d <;> rfl)]
  exact hx _ _

/-- One of the pieces of a concatenation along the rows. -/
theorem cat0_piece {n p b : ℕ} (xs : List ((s : Shape) × (s.Idx → EReal))) (h : Shape.Concatenates (xs.map (·.1)) ⟨2, ![n, b]⟩ 0)
    (k : ℕ) (hk : k < xs.length) (x : (⟨2, ![p, b]⟩ : Shape).Idx → EReal) (hx : xs[k] = ⟨⟨2, ![p, b]⟩, x⟩) (pre : ℕ)
    (hpre : (((xs.take k).map (·.1)).map fun s => if h : s.rank = 2 then s.size ((0 : Fin 2).cast h.symm) else 0).sum = pre)
    (r : Fin n) (c : Fin b) (h0 : pre ≤ r.val) (h1 : r.val < pre + p) :
    concatenate (⟨2, ![n, b]⟩ : Shape) 0 xs h (ix2 r c) = x (ix2 ⟨r.val - pre, by omega⟩ c) := by
  refine concatenate_apply_piece (t := ⟨2, ![n, b]⟩) 0 xs h (ix2 r c) k hk ⟨2, ![p, b]⟩ x hx rfl pre hpre _ (fun d hd => ?_) ?_
  · fin_cases d
    · exact absurd rfl hd
    · rfl
  · show pre + (r.val - pre) = r.val
    omega

/-- One of the pieces of a concatenation along the columns. -/
theorem cat1_piece {n p b : ℕ} (xs : List ((s : Shape) × (s.Idx → EReal))) (h : Shape.Concatenates (xs.map (·.1)) ⟨2, ![b, n]⟩ 1)
    (k : ℕ) (hk : k < xs.length) (x : (⟨2, ![b, p]⟩ : Shape).Idx → EReal) (hx : xs[k] = ⟨⟨2, ![b, p]⟩, x⟩) (pre : ℕ)
    (hpre : (((xs.take k).map (·.1)).map fun s => if h : s.rank = 2 then s.size ((1 : Fin 2).cast h.symm) else 0).sum = pre)
    (r : Fin b) (c : Fin n) (h0 : pre ≤ c.val) (h1 : c.val < pre + p) :
    concatenate (⟨2, ![b, n]⟩ : Shape) 1 xs h (ix2 r c) = x (ix2 r ⟨c.val - pre, by omega⟩) := by
  refine concatenate_apply_piece (t := ⟨2, ![b, n]⟩) 1 xs h (ix2 r c) k hk ⟨2, ![b, p]⟩ x hx rfl pre hpre _ (fun d hd => ?_) ?_
  · fin_cases d
    · rfl
    · exact absurd rfl hd
  · show pre + (c.val - pre) = c.val
    omega

/-- Four pieces of 256 rows. -/
theorem cat0_is {f : ℕ → ℕ → ℝ} (x0 x1 x2 x3 : S256x256.Idx → EReal)
    (h : Shape.Concatenates (([⟨S256x256, x0⟩, ⟨S256x256, x1⟩, ⟨S256x256, x2⟩, ⟨S256x256, x3⟩] : List ((s : Shape) × (s.Idx → EReal))).map (·.1)) S1024x256 0)
    (h0 : Is x0 (fun r c => f r c)) (h1 : Is x1 (fun r c => f (256 + r) c)) (h2 : Is x2 (fun r c => f (512 + r) c)) (h3 : Is x3 (fun r c => f (768 + r) c)) :
    Is (concatenate S1024x256 0 [⟨S256x256, x0⟩, ⟨S256x256, x1⟩, ⟨S256x256, x2⟩, ⟨S256x256, x3⟩] h) f := by
  intro r c
  have hr := r.isLt
  by_cases e0 : r.val < 256
  · refine (cat0_piece _ h 0 (by simp) x0 rfl 0 rfl r c (by omega) (by omega)).trans ((h0 _ _).trans ?_)
    simp only [Nat.sub_zero]
  by_cases e1 : r.val < 512
  · refine (cat0_piece _ h 1 (by simp) x1 rfl 256 rfl r c (by omega) (by omega)).trans ((h1 _ _).trans ?_)
    simp only [show 256 + (r.val - 256) = r.val by omega]
  by_cases e2 : r.val < 768
  · refine (cat0_piece _ h 2 (by simp) x2 rfl 512 rfl r c (by omega) (by omega)).trans ((h2 _ _).trans ?_)
    simp only [show 512 + (r.val - 512) = r.val by omega]
  · refine (cat0_piece _ h 3 (by simp) x3 rfl 768 rfl r c (by omega) (by omega)).trans ((h3 _ _).trans ?_)
    simp only [show 768 + (r.val - 768) = r.val by omega]

/-- Four pieces of 256 columns. -/
theorem cat1_is {f : ℕ → ℕ → ℝ} (x0 x1 x2 x3 : S128x256.Idx → EReal)
    (h : Shape.Concatenates (([⟨S128x256, x0⟩, ⟨S128x256, x1⟩, ⟨S128x256, x2⟩, ⟨S128x256, x3⟩] : List ((s : Shape) × (s.Idx → EReal))).map (·.1)) S128x1024 1)
    (h0 : Is x0 (fun r c => f r c)) (h1 : Is x1 (fun r c => f r (256 + c))) (h2 : Is x2 (fun r c => f r (512 + c))) (h3 : Is x3 (fun r c => f r (768 + c))) :
    Is (concatenate S128x1024 1 [⟨S128x256, x0⟩, ⟨S128x256, x1⟩, ⟨S128x256, x2⟩, ⟨S128x256, x3⟩] h) f := by
  intro r c
  have hc := c.isLt
  by_cases e0 : c.val < 256
  · refine (cat1_piece _ h 0 (by simp) x0 rfl 0 rfl r c (by omega) (by omega)).trans ((h0 _ _).trans ?_)
    simp only [Nat.sub_zero]
  by_cases e1 : c.val < 512
  · refine (cat1_piece _ h 1 (by simp) x1 rfl 256 rfl r c (by omega) (by omega)).trans ((h1 _ _).trans ?_)
    simp only [show 256 + (c.val - 256) = c.val by omega]
  by_cases e2 : c.val < 768
  · refine (cat1_piece _ h 2 (by simp) x2 rfl 512 rfl r c (by omega) (by omega)).trans ((h2 _ _).trans ?_)
    simp only [show 512 + (c.val - 512) = c.val by omega]
  · refine (cat1_piece _ h 3 (by simp) x3 rfl 768 rfl r c (by omega) (by omega)).trans ((h3 _ _).trans ?_)
    simp only [show 768 + (c.val - 768) = c.val by omega]

/-- Eight pieces of 128 rows. -/
theorem cat8_is {f : ℕ → ℕ → ℝ} (x0 x1 x2 x3 x4 x5 x6 x7 : S128x256.Idx → EReal)
    (h : Shape.Concatenates (([⟨S128x256, x0⟩, ⟨S128x256, x1⟩, ⟨S128x256, x2⟩, ⟨S128x256, x3⟩, ⟨S128x256, x4⟩, ⟨S128x256, x5⟩, ⟨S128x256, x6⟩, ⟨S128x256, x7⟩] : List ((s : Shape) × (s.Idx → EReal))).map (·.1)) S1024x256 0)
    (h0 : Is x0 (fun r c => f r c)) (h1 : Is x1 (fun r c => f (128 + r) c)) (h2 : Is x2 (fun r c => f (256 + r) c)) (h3 : Is x3 (fun r c => f (384 + r) c))
    (h4 : Is x4 (fun r c => f (512 + r) c)) (h5 : Is x5 (fun r c => f (640 + r) c)) (h6 : Is x6 (fun r c => f (768 + r) c)) (h7 : Is x7 (fun r c => f (896 + r) c)) :
    Is (concatenate S1024x256 0 [⟨S128x256, x0⟩, ⟨S128x256, x1⟩, ⟨S128x256, x2⟩, ⟨S128x256, x3⟩, ⟨S128x256, x4⟩, ⟨S128x256, x5⟩, ⟨S128x256, x6⟩, ⟨S128x256, x7⟩] h) f := by
  intro r c
  have hr := r.isLt
  by_cases e0 : r.val < 128
  · refine (cat0_piece _ h 0 (by simp) x0 rfl 0 rfl r c (by omega) (by omega)).trans ((h0 _ _).trans ?_)
    simp only [Nat.sub_zero]
  by_cases e1 : r.val < 256
  · refine (cat0_piece _ h 1 (by simp) x1 rfl 128 rfl r c (by omega) (by omega)).trans ((h1 _ _).trans ?_)
    simp only [show 128 + (r.val - 128) = r.val by omega]
  by_cases e2 : r.val < 384
  · refine (cat0_piece _ h 2 (by simp) x2 rfl 256 rfl r c (by omega) (by omega)).trans ((h2 _ _).trans ?_)
    simp only [show 256 + (r.val - 256) = r.val by omega]
  by_cases e3 : r.val < 512
  · refine (cat0_piece _ h 3 (by simp) x3 rfl 384 rfl r c (by omega) (by omega)).trans ((h3 _ _).trans ?_)
    simp only [show 384 + (r.val - 384) = r.val by omega]
  by_cases e4 : r.val < 640
  · refine (cat0_piece _ h 4 (by simp) x4 rfl 512 rfl r c (by omega) (by omega)).trans ((h4 _ _).trans ?_)
    simp only [show 512 + (r.val - 512) = r.val by omega]
  by_cases e5 : r.val < 768
  · refine (cat0_piece _ h 5 (by simp) x5 rfl 640 rfl r c (by omega) (by omega)).trans ((h5 _ _).trans ?_)
    simp only [show 640 + (r.val - 640) = r.val by omega]
  by_cases e6 : r.val < 896
  · refine (cat0_piece _ h 6 (by simp) x6 rfl 768 rfl r c (by omega) (by omega)).trans ((h6 _ _).trans ?_)
    simp only [show 768 + (r.val - 768) = r.val by omega]
  · refine (cat0_piece _ h 7 (by simp) x7 rfl 896 rfl r c (by omega) (by omega)).trans ((h7 _ _).trans ?_)
    simp only [show 896 + (r.val - 896) = r.val by omega]

/-! ### Elementwise -/

section
variable {a b : ℕ} {x y : (⟨2, ![a, b]⟩ : Shape).Idx → EReal} {f g : ℕ → ℕ → ℝ}

theorem add_is {φ : FTy} (hx : Is x f) (hy : Is y g) : Is (addf (F := Ideal) (φ := φ) (s := ⟨2, ![a, b]⟩) x y) (fun r c => f r c + g r c) :=
  fun r c => by show x _ + y _ = _; rw [hx r c, hy r c, EReal.coe_add]
theorem sub_is {φ : FTy} (hx : Is x f) (hy : Is y g) : Is (subf (F := Ideal) (φ := φ) (s := ⟨2, ![a, b]⟩) x y) (fun r c => f r c - g r c) :=
  fun r c => by show x _ - y _ = _; rw [hx r c, hy r c, EReal.coe_sub]
theorem mul_is {φ : FTy} (hx : Is x f) (hy : Is y g) : Is (mulf (F := Ideal) (φ := φ) (s := ⟨2, ![a, b]⟩) x y) (fun r c => f r c * g r c) :=
  fun r c => by show x _ * y _ = _; rw [hx r c, hy r c, EReal.coe_mul]
theorem exp_is {φ : FTy} (hx : Is x f) : Is (exp (F := Ideal) (φ := φ) (s := ⟨2, ![a, b]⟩) x) (fun r c => Real.exp (f r c)) :=
  fun r c => by show Ideal.exp (x _) = _; rw [hx r c]; rfl
theorem select_is {m : IVec ⟨2, ![a, b]⟩ 1} {p : ℕ → ℕ → Prop} [∀ r c, Decidable (p r c)]
    (hm : ∀ (r : Fin a) (c : Fin b), m (ix2 r c) = if p r.val c.val then 1#1 else 0#1) (hx : Is x f) (hy : Is y g) :
    Is (select m x y) (fun r c => if p r c then f r c else g r c) :=
  fun r c => by
    rw [select_apply, hm r c]
    split
    · rename_i h
      rw [select_one, hx r c]; simp only [h, if_true]
    · rename_i h
      rw [select_zero, hy r c]; simp only [h, if_false]
theorem splat0_is : Is (broadcast (⟨2, ![a, b]⟩ : Shape) (Scalar.ofBits (F := Ideal) .f32 0x00000000#32)) (fun _ _ => 0) :=
  fun r c => by show Ideal.ofBits .f32 0x00000000#32 = _; rw [Ideal.ofBits_zero_f32]; rfl
theorem splat0h_is : Is (broadcast (⟨2, ![a, b]⟩ : Shape) (Scalar.ofBits (F := Ideal) .bf16 0x0000#16)) (fun _ _ => 0) :=
  fun r c => by show Ideal.ofBits .bf16 0x0000#16 = _; simp [Ideal.ofBits, Ideal.ieee]
theorem splat1_is : Is (broadcast (⟨2, ![a, b]⟩ : Shape) (Scalar.ofBits (F := Ideal) .f32 0x3F800000#32)) (fun _ _ => 1) :=
  fun r c => by show Ideal.ofBits .f32 0x3F800000#32 = _; simp [Ideal.ofBits, Ideal.ieee]; rw [← EReal.coe_mul]; norm_num
end

/-- The logarithm of one minus the logistic of `z`. -/
def lkR (z : ℝ) : ℝ := -(max z 0 + Real.log (1 + Real.exp (-|z|)))

theorem log_pos_coe (x : ℝ) (h : 0 < x) : Ideal.log (x : EReal) = ((Real.log x : ℝ) : EReal) := by
  show (if x ≤ 0 then (⊥ : EReal) else (Real.log x : EReal)) = _
  rw [if_neg (not_le.mpr h)]

/-! ### The matrix products -/

/-- A contraction over one axis, as a sum over a range. -/
theorem contr_is {sl sr so : Shape} (D : DotDims sl sr so) (n : ℕ) (hr : D.contr.rank = 1) (hs : D.contr.size ⟨0, by omega⟩ = n)
    (l : sl.Idx → EReal) (r : sr.Idx → EReal) (j : so.Idx) (L R : ℕ → ℝ)
    (hl : ∀ (k : D.contr.Idx) (i : ℕ), (k ⟨0, by omega⟩).val = i → i < n → l (D.lhsIdx j k) = ((L i : ℝ) : EReal))
    (hr' : ∀ (k : D.contr.Idx) (i : ℕ), (k ⟨0, by omega⟩).val = i → i < n → r (D.rhsIdx j k) = ((R i : ℝ) : EReal)) :
    ∑ k : D.contr.Idx, l (D.lhsIdx j k) * r (D.rhsIdx j k) = ((∑ i ∈ range n, L i * R i : ℝ) : EReal) := by
  rw [← Equiv.sum_comp (contrEquiv1 D n hr hs).symm, coe_sum, Finset.sum_range]
  refine Finset.sum_congr rfl fun k _ => ?_
  have hk := contrEquiv1_symm_val D n hr hs k
  rw [hl _ k.val hk k.isLt, hr' _ k.val hk k.isLt, EReal.coe_mul]

variable {f g : ℕ → ℕ → ℝ}

theorem dotZ_is {x : S128x256.Idx → EReal} {y : S1024x256.Idx → EReal} (hx : Is x f) (hy : Is y g) :
    Is (matmul (F := Ideal) (φ₁ := .bf16) (φ₂ := .bf16) dot_S128x256_S1024x256_S128x1024_1_1_0_0_n_n none x y (constant S128x1024 .f32 0x00000000#32))
      (fun s r => ∑ d ∈ range 256, f s d * g r d) := fun s r => by
  refine (Ideal.matmul_constant_zero_apply (φ₁ := .bf16) (φ₂ := .bf16) dot_S128x256_S1024x256_S128x1024_1_1_0_0_n_n none x y _).trans
    (contr_is dot_S128x256_S1024x256_S128x1024_1_1_0_0_n_n 256 rfl rfl x y _ (fun d => f s d) (fun d => g r d) (fun k i hk _ => ?_) (fun k i hk _ => ?_))
  · rw [hx.at]; subst hk; rfl
  · rw [hy.at]; subst hk; rfl

theorem dotT_is {x : S1024x256.Idx → EReal} {y : S256x256.Idx → EReal} (hx : Is x f) (hy : Is y g) :
    Is (matmul (F := Ideal) (φ₁ := .bf16) (φ₂ := .bf16) dot_S1024x256_S256x256_S1024x256_1_0_0_1_n_n none x y (constant S1024x256 .f32 0x00000000#32))
      (fun s r => ∑ d ∈ range 256, f s d * g d r) := fun s r => by
  refine (Ideal.matmul_constant_zero_apply (φ₁ := .bf16) (φ₂ := .bf16) dot_S1024x256_S256x256_S1024x256_1_0_0_1_n_n none x y _).trans
    (contr_is dot_S1024x256_S256x256_S1024x256_1_0_0_1_n_n 256 rfl rfl x y _ (fun d => f s d) (fun d => g d r) (fun k i hk _ => ?_) (fun k i hk _ => ?_))
  · rw [hx.at]; subst hk; rfl
  · rw [hy.at]; subst hk; rfl

theorem dotA_is {x : S128x1024.Idx → EReal} {y : S128x256.Idx → EReal} (hx : Is x f) (hy : Is y g) :
    Is (matmul (F := Ideal) (φ₁ := .bf16) (φ₂ := .bf16) dot_S128x1024_S128x256_S1024x256_0_0_1_1_n_n none x y (constant S1024x256 .f32 0x00000000#32))
      (fun r d => ∑ s ∈ range 128, f s r * g s d) := fun r d => by
  refine (Ideal.matmul_constant_zero_apply (φ₁ := .bf16) (φ₂ := .bf16) dot_S128x1024_S128x256_S1024x256_0_0_1_1_n_n none x y _).trans
    (contr_is dot_S128x1024_S128x256_S1024x256_0_0_1_1_n_n 128 rfl rfl x y _ (fun s => f s r) (fun s => g s d) (fun k i hk _ => ?_) (fun k i hk _ => ?_))
  · rw [hx.at]; subst hk; rfl
  · rw [hy.at]; subst hk; rfl

theorem dotQ_is {x : S128x1024.Idx → EReal} {y : S1024x256.Idx → EReal} (hx : Is x f) (hy : Is y g) :
    Is (matmul (F := Ideal) (φ₁ := .bf16) (φ₂ := .bf16) dot_S128x1024_S1024x256_S128x256_1_0_0_1_n_n none x y (constant S128x256 .f32 0x00000000#32))
      (fun s d => ∑ r ∈ range 1024, f s r * g r d) := fun s d => by
  refine (Ideal.matmul_constant_zero_apply (φ₁ := .bf16) (φ₂ := .bf16) dot_S128x1024_S1024x256_S128x256_1_0_0_1_n_n none x y _).trans
    (contr_is dot_S128x1024_S1024x256_S128x256_1_0_0_1_n_n 1024 rfl rfl x y _ (fun r => f s r) (fun r => g r d) (fun k i hk _ => ?_) (fun k i hk _ => ?_))
  · rw [hx.at]; subst hk; rfl
  · rw [hy.at]; subst hk; rfl

/-- The sum of every row, in every column. -/
theorem rs_is {x : S128x256.Idx → EReal} (hx : Is x f) : Is (rsV (F := Ideal) x) (fun s _ => ∑ d ∈ range 256, f s d) := fun s c => by
  have e : rsV (F := Ideal) x (ix2 s c) = ∑ d : Fin 256, x (ix2 s d) := by
    unfold rsV
    rw [broadcastTo_apply _ _ _ (ix2 (n0 := 128) (n1 := 1) s 0) (fun a => by fin_cases a <;> rfl),
      shapeCast_id, shapeCast_apply _ _ _ (ix1 (n := 128) s) (by simp [Shape.rowMajor_val_two, Shape.rowMajor_val_one])]
    exact (Ideal.multiReduction_add_single x _ _ _ _ _).trans (Finset.sum_congr rfl fun d _ => congrArg x (funext fun a => by fin_cases a <;> rfl))
  rw [e, coe_sum, Finset.sum_range]
  exact Finset.sum_congr rfl fun d _ => hx s d

end Cert.KernelIdeal.Sbw

end
-- ==== Proof.Vec.lean ====
/-
  What the vector definitions of the backward pass are over real numbers.
-/
module

public import proofs.«01_k».proof.Proof.Real

@[expose] public section

set_option maxRecDepth 16384
set_option maxHeartbeats 4000000

noncomputable section

namespace Cert.KernelIdeal.Sbw

open Idealize.ShloMosaic Idealize.ShloMosaic.Tactic
open Idealize.ShloMosaic.ValueIdx hiding ix2 ix3 ix4 eq_ix2 eq_ix3 eq_ix4
open Cert.KernelIdeal Cert.KernelIdeal.Gen
open Finset

theorem coe_max (x y : ℝ) : ((max x y : ℝ) : EReal) = max (x : EReal) (y : EReal) :=
  Monotone.map_max (fun _ _ h => EReal.coe_le_coe_iff.2 h)

/-- The mask of the heads' columns. -/
def IsBd (bd : IVec S1024x256 1) : Prop := ∀ (r : Fin 1024) (d : Fin 256), bd (ix2 r d) = if d.val / 64 = r.val / 256 then 1#1 else 0#1

/-- A sum kept to a window of the range. -/
theorem sum_win (N lo W : ℕ) (h : lo + W ≤ N) (G : ℕ → ℝ) (p : ℕ → Prop) [DecidablePred p] (hp : ∀ d, d < N → (p d ↔ lo ≤ d ∧ d < lo + W)) :
    ∑ d ∈ range N, (if p d then G d else 0) = ∑ e ∈ range W, G (lo + e) := by
  rw [← Finset.sum_filter]
  symm
  refine Finset.sum_bij (fun e _ => lo + e) (fun e he => ?_) (fun a _ b _ h => by simpa using h) (fun d hd => ?_) (fun _ _ => rfl)
  · rw [mem_range] at he
    rw [mem_filter, mem_range]
    exact ⟨by omega, (hp _ (by omega)).2 ⟨by omega, by omega⟩⟩
  · rw [mem_filter, mem_range] at hd
    obtain ⟨h1, h2⟩ := (hp _ hd.1).1 hd.2
    exact ⟨d - lo, by rw [mem_range]; omega, by omega⟩

theorem sum_head (h : ℕ) (hh : h < 4) (G : ℕ → ℝ) : ∑ d ∈ range 256, (if d / 64 = h then G d else 0) = ∑ e ∈ range 64, G (64 * h + e) :=
  sum_win 256 (64 * h) 64 (by omega) G (fun d => d / 64 = h) (fun d _ => by constructor <;> intro <;> omega)

variable {bd : IVec S1024x256 1} {f g k t p : ℕ → ℕ → ℝ}

theorem kd_is (hb : IsBd bd) {x : Vec Ideal S256x256 .bf16} (hx : Is x k) :
    Is (kdV (F := Ideal) bd x) (fun r d => if d / 64 = r / 256 then k (r % 256) d else 0) := by
  unfold kdV
  refine select_is (p := fun r d => d / 64 = r / 256) hb (cat0_is (f := fun r d => k (r % 256) d) x x x x _ ?_ ?_ ?_ ?_) splat0h_is
  · exact hx.congr fun r c hr hc => by rw [Nat.mod_eq_of_lt hr]
  · exact hx.congr fun r c hr hc => by rw [show (256 + r) % 256 = r by omega]
  · exact hx.congr fun r c hr hc => by rw [show (512 + r) % 256 = r by omega]
  · exact hx.congr fun r c hr hc => by rw [show (768 + r) % 256 = r by omega]

/-- The head's product of two rows. -/
def dotH (q k : ℕ → ℕ → ℝ) (h s j : ℕ) : ℝ := ∑ e ∈ range 64, q s (64 * h + e) * k j (64 * h + e)

theorem z_is (hb : IsBd bd) {q : FVec Ideal S128x256 .bf16} {x : Vec Ideal S256x256 .bf16} (hq : Is q f) (hx : Is x k) :
    Is (zV (F := Ideal) bd q x) (fun s r => dotH f k (r / 256) s (r % 256)) := by
  unfold zV
  refine (dotZ_is hq (kd_is hb hx)).congr fun s r hs hr => ?_
  simp only [mul_ite, mul_zero]
  exact sum_head (r / 256) (by omega) (fun d => f s d * k (r % 256) d)

theorem lk_is {z : FVec Ideal S128x1024 .f32} (hz : Is z f) : Is (lkV (F := Ideal) z) (fun s r => lkR (f s r)) := by
  have h1 : Is (log (F := Ideal) (φ := .f32) (addf (broadcast S128x1024 (Scalar.ofBits .f32 0x3F800000#32))
        (exp (subf (broadcast S128x1024 (Scalar.ofBits .f32 0x00000000#32)) (absf z))))) (fun s r => Real.log (1 + Real.exp (-|f s r|))) := by
    have ha : Is (absf (F := Ideal) (φ := .f32) z) (fun s r => |f s r|) := fun r c => by
      show max (z _) (-(z _)) = _
      rw [hz r c, ← EReal.coe_neg, ← coe_max]; rfl
    intro r c
    show Ideal.log (addf (F := Ideal) (φ := .f32) (broadcast S128x1024 (Scalar.ofBits .f32 0x3F800000#32))
        (exp (subf (broadcast S128x1024 (Scalar.ofBits .f32 0x00000000#32)) (absf z))) (ix2 r c)) = _
    rw [(add_is splat1_is (exp_is (φ := .f32) (sub_is (φ := .f32) splat0_is ha))) r c, log_pos_coe _ (by positivity)]
    simp only [zero_sub]
  have hm : Is (maximumf (F := Ideal) (φ := .f32) z (broadcast S128x1024 (Scalar.ofBits .f32 0x00000000#32))) (fun s r => max (f s r) 0) := fun r c => by
    show max (z _) (broadcast S128x1024 (Scalar.ofBits (F := Ideal) .f32 0x00000000#32) (ix2 r c)) = _
    rw [hz r c, splat0_is r c, ← coe_max]
  unfold lkV
  refine (sub_is (φ := .f32) splat0_is (add_is (φ := .f32) hm h1)).congr fun s r _ _ => ?_
  rw [lkR, zero_sub]

theorem mask_is {m : IVec S128x1024 1} {p : ℕ → ℕ → Prop} [∀ r c, Decidable (p r c)]
    (hm : ∀ (r : Fin 128) (c : Fin 1024), m (ix2 r c) = if p r.val c.val then 1#1 else 0#1) {x : FVec Ideal S128x1024 .f32} (hx : Is x f) :
    Is (maskV (F := Ideal) m x) (fun s r => if p s r then f s r else 0) := by
  unfold maskV; exact select_is hm hx splat0_is

theorem triM_is {x : FVec Ideal S128x1024 .f32} {tri : FVec Ideal S256x256 .bf16} (hx : Is x f) (ht : Is tri t) :
    Is (triM (F := Ideal) x tri) (fun r c => ∑ d ∈ range 256, (if r < 512 then f (r % 128) (256 * (r / 128) + d) else 0) * t d c) := by
  have hlo : Is (subf (F := Ideal) (φ := .f32) x x) (fun _ _ => 0) := (sub_is hx hx).congr fun _ _ _ _ => sub_self _
  unfold triM
  refine dotT_is (f := fun r d => if r < 512 then f (r % 128) (256 * (r / 128) + d) else 0) (cat8_is _ _ _ _ _ _ _ _ _ ?_ ?_ ?_ ?_ ?_ ?_ ?_ ?_) ht
  · exact (slice_is (x := x) hx 0 0 slices_S128x1024_o0_0_S128x256).congr fun r c hr hc => by
      rw [if_pos (by omega), show r % 128 = r by omega, show r / 128 = 0 by omega, Nat.zero_add]
  · exact (slice_is (x := x) hx 0 256 slices_S128x1024_o0_256_S128x256).congr fun r c hr hc => by
      rw [if_pos (by omega), show (128 + r) % 128 = r by omega, show (128 + r) / 128 = 1 by omega, Nat.zero_add]
  · exact (slice_is (x := x) hx 0 512 slices_S128x1024_o0_512_S128x256).congr fun r c hr hc => by
      rw [if_pos (by omega), show (256 + r) % 128 = r by omega, show (256 + r) / 128 = 2 by omega, Nat.zero_add]
  · exact (slice_is (x := x) hx 0 768 slices_S128x1024_o0_768_S128x256).congr fun r c hr hc => by
      rw [if_pos (by omega), show (384 + r) % 128 = r by omega, show (384 + r) / 128 = 3 by omega, Nat.zero_add]
  · exact (slice_is (x := subf (F := Ideal) (φ := .f32) x x) hlo 0 0 slices_S128x1024_o0_0_S128x256).congr fun r c hr hc => by rw [if_neg (by omega)]
  · exact (slice_is (x := subf (F := Ideal) (φ := .f32) x x) hlo 0 256 slices_S128x1024_o0_256_S128x256).congr fun r c hr hc => by rw [if_neg (by omega)]
  · exact (slice_is (x := subf (F := Ideal) (φ := .f32) x x) hlo 0 512 slices_S128x1024_o0_512_S128x256).congr fun r c hr hc => by rw [if_neg (by omega)]
  · exact (slice_is (x := subf (F := Ideal) (φ := .f32) x x) hlo 0 768 slices_S128x1024_o0_768_S128x256).congr fun r c hr hc => by rw [if_neg (by omega)]

theorem triV_is {x : FVec Ideal S128x1024 .f32} {tri : FVec Ideal S256x256 .bf16} (hx : Is x f) (ht : Is tri t) :
    Is (triV (F := Ideal) x tri) (fun s r => ∑ d ∈ range 256, f s (256 * (r / 256) + d) * t d (r % 256)) := by
  have hy := triM_is hx ht
  have zr : ∀ r, 512 ≤ r → ∀ c, (∑ d ∈ range 256, (if r < 512 then f (r % 128) (256 * (r / 128) + d) else 0) * t d c) = 0 := fun r hr c =>
    Finset.sum_eq_zero fun d _ => by rw [if_neg (by omega), zero_mul]
  have pr : ∀ h r c, h < 4 → r < 128 → c < 256 →
      (∑ d ∈ range 256, (if 128 * h + r < 512 then f ((128 * h + r) % 128) (256 * ((128 * h + r) / 128) + d) else 0) * t d (0 + c))
        = ∑ d ∈ range 256, f r (256 * ((256 * h + c) / 256) + d) * t d ((256 * h + c) % 256) := fun h r c hh hr hc => by
    rw [show (128 * h + r) % 128 = r by omega, show (128 * h + r) / 128 = h by omega, show (256 * h + c) / 256 = h by omega,
      show (256 * h + c) % 256 = c by omega, Nat.zero_add]
    exact Finset.sum_congr rfl fun d _ => by rw [if_pos (by omega)]
  unfold triV
  refine cat1_is _ _ _ _ _ ?_ ?_ ?_ ?_
  · refine (add_is (φ := .f32) (slice_is hy 0 0 slices_S1024x256_o0_0_S128x256) (slice_is hy 512 0 slices_S1024x256_o512_0_S128x256)).congr fun r c hr hc => ?_
    rw [zr (512 + r) (by omega), add_zero]
    have := pr 0 r c (by omega) hr hc
    simp only [Nat.mul_zero, Nat.zero_add] at this ⊢
    exact this
  · refine (add_is (φ := .f32) (slice_is hy 128 0 slices_S1024x256_o128_0_S128x256) (slice_is hy 640 0 slices_S1024x256_o640_0_S128x256)).congr fun r c hr hc => ?_
    rw [zr (640 + r) (by omega), add_zero]
    exact pr 1 r c (by omega) hr hc
  · refine (add_is (φ := .f32) (slice_is hy 256 0 slices_S1024x256_o256_0_S128x256) (slice_is hy 768 0 slices_S1024x256_o768_0_S128x256)).congr fun r c hr hc => ?_
    rw [zr (768 + r) (by omega), add_zero]
    exact pr 2 r c (by omega) hr hc
  · refine (add_is (φ := .f32) (slice_is hy 384 0 slices_S1024x256_o384_0_S128x256) (slice_is hy 896 0 slices_S1024x256_o896_0_S128x256)).congr fun r c hr hc => ?_
    rw [zr (896 + r) (by omega), add_zero]
    exact pr 3 r c (by omega) hr hc

theorem nx_is {c x : FVec Ideal S128x1024 .f32} (hc : Is c g) (hx : Is x f) :
    Is (nxV (F := Ideal) c x) (fun s r => g s r + ∑ d ∈ range 256, f s (256 * (r / 256) + d)) := by
  unfold nxV
  refine add_is (φ := .f32) hc (cat1_is (f := fun s r => ∑ d ∈ range 256, f s (256 * (r / 256) + d)) _ _ _ _ _ ?_ ?_ ?_ ?_)
  · exact (rs_is (slice_is hx 0 0 slices_S128x1024_o0_0_S128x256)).congr fun r c hr hc => by rw [show c / 256 = 0 by omega, Nat.zero_add]
  · exact (rs_is (slice_is hx 0 256 slices_S128x1024_o0_256_S128x256)).congr fun r c hr hc => by rw [show (256 + c) / 256 = 1 by omega, Nat.zero_add]
  · exact (rs_is (slice_is hx 0 512 slices_S128x1024_o0_512_S128x256)).congr fun r c hr hc => by rw [show (512 + c) / 256 = 2 by omega, Nat.zero_add]
  · exact (rs_is (slice_is hx 0 768 slices_S128x1024_o0_768_S128x256)).congr fun r c hr hc => by rw [show (768 + c) / 256 = 3 by omega, Nat.zero_add]

theorem sg_is {z lk : FVec Ideal S128x1024 .f32} (hz : Is z f) (hl : Is lk g) : Is (sgV (F := Ideal) z lk) (fun s r => Real.exp (f s r + g s r)) := by
  unfold sgV; exact exp_is (add_is hz hl)

theorem att_is {z lk cs : FVec Ideal S128x1024 .f32} {later : FVec Ideal S256x256 .bf16} (hz : Is z f) (hl : Is lk g) (ht : Is later t) (hc : Is cs p) :
    Is (attV (F := Ideal) later z lk cs)
      (fun s r => Real.exp (f s r + g s r + (∑ d ∈ range 256, g s (256 * (r / 256) + d) * t d (r % 256)) + p s r)) := by
  unfold attV; exact exp_is (add_is (add_is (add_is hz hl) (triV_is hl ht)) hc)

/-- A plane back as a block. -/
theorem down_up (x : FVec Ideal S128x1024 .f32) : downV (F := Ideal) (upV x) = x := by
  unfold downV upV
  exact shapeCast_shapeCast x _ _

theorem ds_is (hb : IsBd bd) {q : FVec Ideal S128x256 .bf16} {v : Vec Ideal S256x256 .bf16} {a : Vec Ideal S1x128x1024 .f32}
    (hq : Is q g) (hv : Is v k) (ha : Is (downV (F := Ideal) a) f) :
    Is (dsV (F := Ideal) bd q v a) (fun s r => dotH g k (r / 256) s (r % 256) * f s r) := by
  unfold dsV; exact mul_is (z_is hb hq hv) ha

theorem dz_is {ear : FVec Ideal S256x256 .bf16} {ds pre : FVec Ideal S128x1024 .f32} {s : Vec Ideal S1x128x1024 .f32}
    (hd : Is ds f) (ht : Is ear t) (hp : Is pre p) (hs : Is (downV (F := Ideal) s) g) :
    Is (dzV (F := Ideal) ear ds pre s)
      (fun s r => f s r - (f s r + (∑ d ∈ range 256, f s (256 * (r / 256) + d) * t d (r % 256)) + p s r) * g s r) := by
  unfold dzV; exact sub_is (φ := .f32) hd (mul_is (add_is (add_is hd (triV_is hd ht)) hp) hs)

theorem acc_is (hb : IsBd bd) {w : FVec Ideal S128x1024 .bf16} {q : FVec Ideal S128x256 .bf16} {old : Vec Ideal S256x256 .f32}
    (hw : Is w f) (hq : Is q g) (ho : Is old p) :
    Is (accV (F := Ideal) bd w q old) (fun j d => p j d + ∑ s ∈ range 128, f s (256 * (d / 64) + j) * g s d) := by
  have hy := select_is (p := fun r d => d / 64 = r / 256) hb (dotA_is hw hq) splat0_is
  unfold accV
  rw [shapeCast_id]
  refine (add_is (φ := .f32) ho (add_is (φ := .f32) (add_is (φ := .f32) (slice_is hy 0 0 slices_S1024x256_o0_0_S256x256) (slice_is hy 256 0 slices_S1024x256_o256_0_S256x256))
    (add_is (φ := .f32) (slice_is hy 512 0 slices_S1024x256_o512_0_S256x256) (slice_is hy 768 0 slices_S1024x256_o768_0_S256x256)))).congr fun j d hj hd => ?_
  have h0 : (0 + j) / 256 = 0 := by omega
  have h1 : (256 + j) / 256 = 1 := by omega
  have h2 : (512 + j) / 256 = 2 := by omega
  have h3 : (768 + j) / 256 = 3 := by omega
  simp only [Nat.zero_add d, h0, h1, h2, h3]
  congr 1
  rcases (show d / 64 = 0 ∨ d / 64 = 1 ∨ d / 64 = 2 ∨ d / 64 = 3 by omega) with h | h | h | h <;> simp [h]

theorem dqV_is (hb : IsBd bd) {dq : FVec Ideal S128x256 .f32} {dz : FVec Ideal S128x1024 .bf16} {x : Vec Ideal S256x256 .bf16}
    (hd : Is dq p) (hz : Is dz f) (hx : Is x k) :
    Is (dqV (F := Ideal) bd dq dz x) (fun s d => p s d + ∑ j ∈ range 256, f s (256 * (d / 64) + j) * k j d) := by
  unfold dqV
  refine (add_is (φ := .f32) hd (dotQ_is hz (kd_is hb hx))).congr fun s d hs hd => ?_
  congr 1
  simp only [mul_ite, mul_zero]
  rw [sum_win 1024 (256 * (d / 64)) 256 (by omega) (fun r => f s r * k (r % 256) d) (fun r => d / 64 = r / 256) (fun r _ => by constructor <;> intro <;> omega)]
  refine Finset.sum_congr rfl fun j hj => ?_
  rw [mem_range] at hj
  rw [show (256 * (d / 64) + j) % 256 = j by omega]

theorem rd_is {a : Vec Ideal S1x128x1024 .f32} (ha : Is (downV (F := Ideal) a) f) : Is (rdV (F := Ideal) a) f := ha

end Cert.KernelIdeal.Sbw

end
-- ==== Proof.Block.lean ====
/-
  One query block of the backward pass: the block of `dq` it stores and the chunks of `dk` and `dv` it updates.
-/
module

public import proofs.«01_k».proof.Proof.Query
public import Idealize.ShloMosaic.Lib.Pipeline.Kit
public import Idealize.ShloMosaic.Lib.LoopRemainder

@[expose] public section

set_option maxRecDepth 8192
set_option maxHeartbeats 4000000

noncomputable section

namespace Cert.KernelIdeal.Sbw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄G" => MT nD τ sig Unit (Elt F) ℕ (UR sig nD τ) ℕ

/-- The data of the query block `t`, from its queries and its gradient. -/
def qbq (bd : IVec S1024x256 1) (v51 : IVec S128x1024 32) (K V : S2048x256.Idx → Elt F .bf16) (q g : FVec F S128x256 .bf16) (t : Fin k0_t1_loop.trips) : QB F where
  bd := bd
  later := k0_pay3
  ear := k0_pay4
  m := k0_pay119 v51 k0_pay2 (k0_pay118 0#32 1#32 t)
  q := q
  g := g
  K := rowsC K
  V := rowsC V
  cd := t.val / 2

/-- The data of the query block `t`. -/
def qb (bd : IVec S1024x256 1) (v51 : IVec S128x1024 32) (Q K V : S2048x256.Idx → Elt F .bf16) (G : S2048x256.Idx → Elt F .f32) (t : Fin k0_t1_loop.trips) : QB F :=
  qbq bd v51 K V (k0_pay116 (rowsB Q t.val)) (k0_pay117 (rowsB G t.val)) t

theorem off_bl (c : ℕ) (h : c < 16) {off : Fin 2 → ℕ} (e : off = ![128 * c, 0]) : off = ![128 * (c % 16), 0] := by rw [Nat.mod_eq_of_lt h, e]

theorem trip1 (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S8x128x1024 .f32) (harg8 : arg8.IsWhole) (arg9 : Memref sig .tc .vmem S8x128x1024 .f32) (harg9 : arg9.IsWhole) (v25 : IVec S1024x256 32) (v27 : IVec S1024x256 32) (v41 : IVec S1024x256 1) (v45 : IVec S1024x256 1) (v51 : IVec S128x1024 32) (t : Fin k0_t1_loop.trips) (E : Set ℕ) (X1 : BufTy.Contents (Elt F) arg1.view.ty) (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 v25 v27 v41 v45 v51 t ())
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} (arg5.view.writes (Elt F) f5 [⟨bl t.val, k0_pay13 (qb (k0_pay1 v25 v27 v41 v45) v51 (arg1.view.read (Elt F) X1) (arg2.view.read (Elt F) X2) (arg3.view.read (Elt F) X3) (arg4.view.read (Elt F) X4) t).dq⟩])) ∗ (∃ f, (arg6.view.loc (c : Thread nD τ) ↦[arg6.view.set]{fullShare} f) ∗ ⌜∀ ch, ch < 8 → rowsC (arg6.view.read (Elt F) f) ch = if ch ≤ t.val / 2 then accV (k0_pay1 v25 v27 v41 v45) ((qb (k0_pay1 v25 v27 v41 v45) v51 (arg1.view.read (Elt F) X1) (arg2.view.read (Elt F) X2) (arg3.view.read (Elt F) X3) (arg4.view.read (Elt F) X4) t).dz ch) (qb (k0_pay1 v25 v27 v41 v45) v51 (arg1.view.read (Elt F) X1) (arg2.view.read (Elt F) X2) (arg3.view.read (Elt F) X3) (arg4.view.read (Elt F) X4) t).q (rowsC (arg6.view.read (Elt F) f6) ch) else rowsC (arg6.view.read (Elt F) f6) ch⌝) ∗ (∃ f, (arg7.view.loc (c : Thread nD τ) ↦[arg7.view.set]{fullShare} f) ∗ ⌜∀ ch, ch < 8 → rowsC (arg7.view.read (Elt F) f) ch = if ch ≤ t.val / 2 then accV (k0_pay1 v25 v27 v41 v45) (rdV ((qb (k0_pay1 v25 v27 v41 v45) v51 (arg1.view.read (Elt F) X1) (arg2.view.read (Elt F) X2) (arg3.view.read (Elt F) X3) (arg4.view.read (Elt F) X4) t).att ch)) (qb (k0_pay1 v25 v27 v41 v45) v51 (arg1.view.read (Elt F) X1) (arg2.view.read (Elt F) X2) (arg3.view.read (Elt F) X3) (arg4.view.read (Elt F) X4) t).g (rowsC (arg7.view.read (Elt F) f7) ch) else rowsC (arg7.view.read (Elt F) f7) ch⌝) ∗ (∃ f, (arg8.view.loc (c : Thread nD τ) ↦[arg8.view.set]{fullShare} f)) ∗ (∃ f, (arg9.view.loc (c : Thread nD τ) ↦[arg9.view.set]{fullShare} f)))) := by
  have ht := lt16 t
  have hq : rowsB (arg1.view.read (Elt F) X1) t.val = arg1.view.readAt (Elt F) (Rect.unit (s := S2048x256) (k0_off1 t) S128x256.size (k0_off1_inb t)).toLoadRect X1 :=
    (readAt_bl arg1.view X1 t.val _ (off_bl _ ht (k0_off1_eq t))).symm
  have hg : rowsB (arg4.view.read (Elt F) X4) t.val = arg4.view.readAt (Elt F) (Rect.unit (s := S2048x256) (k0_off1 t) S128x256.size (k0_off1_inb t)).toLoadRect X4 :=
    (readAt_bl arg4.view X4 t.val _ (off_bl _ ht (k0_off1_eq t))).symm
  have hk : rowsC (arg2.view.read (Elt F) X2) (t.val / 2) = arg2.view.readAt (Elt F) (Rect.unit (s := S2048x256) (k0_off2 t) S256x256.size (k0_off2_inb t)).toLoadRect X2 :=
    (readAt_ch arg2.view X2 (t.val / 2) _ (off_ch _ (by omega) (k0_off2_eq t))).symm
  have n2 : Scf.trips (k0_t2_loop t).lb (k0_t2_loop t).ub (k0_t2_loop t).st = t.val / 2 % 2 := trips2 t
  have n4 : Scf.trips (k0_t4_loop t).lb (k0_t4_loop t).ub (k0_t4_loop t).st = t.val / 2 / 2 := trips4 t
  have n6 : Scf.trips (k0_t6_loop t).lb (k0_t6_loop t).ub (k0_t6_loop t).st = (t.val / 2 + 1) % 2 := trips6 t
  have n8 : Scf.trips (k0_t8_loop t).lb (k0_t8_loop t).ub (k0_t8_loop t).st = (t.val / 2 + 1) / 2 := trips8 t
  have hbq : (qb (k0_pay1 v25 v27 v41 v45) v51 (arg1.view.read (Elt F) X1) (arg2.view.read (Elt F) X2) (arg3.view.read (Elt F) X3) (arg4.view.read (Elt F) X4) t) = (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t) := by rw [qb, hq, hg]
  rw [hbq]
  unfold k0_t1_body
  iintro ⟨H1, H2, H3, H4, H5, H6, H7, H8, H9⟩
  sl_exec
  sl_step
  isplitl [H1]; · iexact H1
  isplitl [H2]; · iexact H2
  isplitl [H3]; · iexact H3
  isplitl [H4]; · iexact H4
  have hcd : (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).cd < 8 := by show t.val / 2 < 8; omega
  have hc1 : trip1.sl.r_10 arg1 arg2 v25 v27 v41 v45 v51 t X1 X2 = (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).cs1 := by
    rw [QB.cs1, lkC, show (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).K (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).cd = (arg2.view.readAt (Elt F) (Rect.unit (s := S2048x256) (k0_off2 t) S256x256.size (k0_off2_inb t)).toLoadRect X2) from hk]; rfl
  have hp8 : (⟨Rect.unit (k0_off3 t) S1x128x1024.size (k0_off3_inb t), k0_pay128 (trip1.sl.r_3 v51 t) k0_pay120
      (trip1.sl.r_5 arg1 arg2 v25 v27 v41 v45 v51 t X1 X2) (trip1.sl.r_6 arg1 arg2 v25 v27 v41 v45 v51 t X1 X2)
      (trip1.sl.r_7 arg1 arg2 v25 v27 v41 v45 v51 t X1 X2) (trip1.sl.r_8 arg1 arg2 v25 v27 v41 v45 v51 t X1 X2)
      (trip1.sl.r_9 arg1 arg2 v25 v27 v41 v45 v51 t X1 X2)⟩ : View.Piece (Elt F) S8x128x1024 .f32)
      = ⟨pl (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).cd, upV (maskV (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).m (attV (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).later (zV (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).bd (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).q ((qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).K (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).cd)) (maskV (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).m (lkV (zV (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).bd (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).q ((qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).K (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).cd)))) k0_pay120))⟩ := by
    rw [show (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).K (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).cd = (arg2.view.readAt (Elt F) (Rect.unit (s := S2048x256) (k0_off2 t) S256x256.size (k0_off2_inb t)).toLoadRect X2) from hk]
    exact piece_eq (Val := Elt F) (e := .f32) (s := S8x128x1024) (size := S1x128x1024.size) (k0_off3_inb t) (plI _) (off_pl _ (by omega) (k0_off3_eq t)) _
  have hp9 : (⟨Rect.unit (k0_off3 t) S1x128x1024.size (k0_off3_inb t), k0_pay129 (trip1.sl.r_3 v51 t)
      (trip1.sl.r_5 arg1 arg2 v25 v27 v41 v45 v51 t X1 X2)⟩ : View.Piece (Elt F) S8x128x1024 .f32)
      = ⟨pl (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).cd, upV (maskV (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).m (sgV (zV (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).bd (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).q ((qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).K (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).cd)) (maskV (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).m (lkV (zV (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).bd (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).q ((qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).K (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).cd))))))⟩ := by
    rw [show (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).K (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t).cd = (arg2.view.readAt (Elt F) (Rect.unit (s := S2048x256) (k0_off2 t) S256x256.size (k0_off2_inb t)).toLoadRect X2) from hk]
    exact piece_eq (Val := Elt F) (e := .f32) (s := S8x128x1024) (size := S1x128x1024.size) (k0_off3_inb t) (plI _) (off_pl _ (by omega) (k0_off3_eq t)) _
  isplitl [H5]
  · iapply (pts_eq arg5 c ?e5)
    rotate_left
    · iexact H5
    · refine Eq.trans (congrArg (fun p => arg5.view.writes (Elt F) f5 [p]) (piece_eq (Val := Elt F) (e := .f32) (s := S2048x256) (size := S128x256.size) (k0_off1_inb t) (blI t.val) (off_bl _ ht (k0_off1_eq t)) _)) ?_
      refine congrArg (fun w => arg5.view.writes (Elt F) f5 [⟨bl t.val, k0_pay13 w⟩]) ?_
      exact QB.dq_res (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t) arg8.view arg9.view f8 f9 _ _ _ _ _ _ _ hcd n2 n4 n6 n8 hc1 hp8 hp9
  isplitl [H6]
  · iexists _
    isplitl [H6]; · iexact H6
    ipureintro
    exact QB.dk_res (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t) arg8.view arg9.view f8 f9 arg6.view f6 _ _ _ _ _ _ _ hcd n2 n4 n6 n8 hc1 hp8 hp9
  isplitl [H7]
  · iexists _
    isplitl [H7]; · iexact H7
    ipureintro
    exact QB.dv_res (qbq (k0_pay1 v25 v27 v41 v45) v51 (arg2.view.read (Elt F) X2) (arg3.view.read (Elt F) X3) (k0_pay116 (arg1.view.readAt (Elt F) (Rect.unit (s := S2048x256) (k0_off1 t) S128x256.size (k0_off1_inb t)).toLoadRect X1)) (k0_pay117 (arg4.view.readAt (Elt F) (Rect.unit (s := S2048x256) (k0_off1 t) S128x256.size (k0_off1_inb t)).toLoadRect X4)) t) arg8.view f8 arg7.view f7 _ _ _ _ _ _ hcd n2 n4 n6 n8 hc1 hp8
  isplitl [H8]
  · iexists _; iexact H8
  · iexists _; iexact H9

end Cert.KernelIdeal.Sbw
-- ==== Proof.Body.lean ====
/-
  The kernel body: the loop over the query blocks, and the three gradients it leaves as vectors of its inputs.
-/
module

public import proofs.«01_k».proof.Proof.Block
public import Idealize.ShloMosaic.Lib.Pipeline.Kit
public import Idealize.ShloMosaic.Lib.LoopRemainder

@[expose] public section

set_option maxRecDepth 8192
set_option maxHeartbeats 4000000

noncomputable section

namespace Cert.KernelIdeal.Sbw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄G" => MT nD τ sig Unit (Elt F) ℕ (UR sig nD τ) ℕ

theorem lt_trips (n : ℕ) : n % 16 < k0_t1_loop.trips := by rw [trips1]; omega

/-- Query block `n`. -/
def tF (n : ℕ) : Fin k0_t1_loop.trips := ⟨n % 16, lt_trips n⟩

theorem tF_val (t : Fin k0_t1_loop.trips) : tF t.val = t := Fin.ext (Nat.mod_eq_of_lt (lt16 t))

section
variable (bd : IVec S1024x256 1) (v51 : IVec S128x1024 32) (Q K V : S2048x256.Idx → Elt F .bf16) (G : S2048x256.Idx → Elt F .f32)

/-- The data of query block `n`. -/
def qbn (n : ℕ) : QB F := qb bd v51 Q K V G (tF n)

/-- The block of `dq` of query block `n`. -/
def dqB (n : ℕ) : S128x256.Idx → Elt F .f32 := k0_pay13 (qbn bd v51 Q K V G n).dq

/-- Chunk `c` of `dk` after `n` query blocks. -/
def dkC : ℕ → ℕ → S256x256.Idx → Elt F .f32
  | 0, c => rowsC k0_pay5 c
  | n + 1, c => if c ≤ n / 2 then accV bd ((qbn bd v51 Q K V G n).dz c) (qbn bd v51 Q K V G n).q (dkC n c) else dkC n c

/-- Chunk `c` of `dv` after `n` query blocks. -/
def dvC : ℕ → ℕ → S256x256.Idx → Elt F .f32
  | 0, c => rowsC k0_pay6 c
  | n + 1, c => if c ≤ n / 2 then accV bd (rdV ((qbn bd v51 Q K V G n).att c)) (qbn bd v51 Q K V G n).g (dvC n c) else dvC n c

theorem dkC_zero (c : ℕ) : dkC bd v51 Q K V G 0 c = rowsC k0_pay5 c := rfl
theorem dvC_zero (c : ℕ) : dvC bd v51 Q K V G 0 c = rowsC k0_pay6 c := rfl
theorem dkC_succ (n c : ℕ) : dkC bd v51 Q K V G (n + 1) c = if c ≤ n / 2 then accV bd ((qbn bd v51 Q K V G n).dz c) (qbn bd v51 Q K V G n).q (dkC bd v51 Q K V G n c) else dkC bd v51 Q K V G n c := rfl
theorem dvC_succ (n c : ℕ) : dvC bd v51 Q K V G (n + 1) c = if c ≤ n / 2 then accV bd (rdV ((qbn bd v51 Q K V G n).att c)) (qbn bd v51 Q K V G n).g (dvC bd v51 Q K V G n c) else dvC bd v51 Q K V G n c := rfl

/-- The whole gradient of the queries. -/
def dqW : S2048x256.Idx → Elt F .f32 := fun x => dqB bd v51 Q K V G ((x 0).val / 128) (ix2 (n0 := 128) (n1 := 256) ⟨(x 0).val % 128, Nat.mod_lt _ (by omega)⟩ (x 1))
/-- The whole gradient of the keys. -/
def dkW : S2048x256.Idx → Elt F .f32 := fun x => dkC bd v51 Q K V G 16 ((x 0).val / 256) (ix2 (n0 := 256) (n1 := 256) ⟨(x 0).val % 256, Nat.mod_lt _ (by omega)⟩ (x 1))
/-- The whole gradient of the values. -/
def dvW : S2048x256.Idx → Elt F .f32 := fun x => dvC bd v51 Q K V G 16 ((x 0).val / 256) (ix2 (n0 := 256) (n1 := 256) ⟨(x 0).val % 256, Nat.mod_lt _ (by omega)⟩ (x 1))
end

attribute [irreducible] dkC dvC dqB

theorem ofB {α : Type} (X : S2048x256.Idx → α) (x : S2048x256.Idx) :
    rowsB X ((x 0).val / 128) (ix2 (n0 := 128) (n1 := 256) ⟨(x 0).val % 128, Nat.mod_lt _ (by omega)⟩ (x 1)) = X x := by
  have h := (x 0).isLt; change (x 0).val < 2048 at h
  unfold rowsB
  refine congrArg X (funext fun a => ?_)
  match a with
  | ⟨0, _⟩ => exact Fin.ext (by show 128 * ((x 0).val / 128 % 16) + (x 0).val % 128 = (x 0).val; omega)
  | ⟨1, _⟩ => rfl
theorem ofC {α : Type} (X : S2048x256.Idx → α) (x : S2048x256.Idx) :
    rowsC X ((x 0).val / 256) (ix2 (n0 := 256) (n1 := 256) ⟨(x 0).val % 256, Nat.mod_lt _ (by omega)⟩ (x 1)) = X x := by
  have h := (x 0).isLt; change (x 0).val < 2048 at h
  unfold rowsC
  refine congrArg X (funext fun a => ?_)
  match a with
  | ⟨0, _⟩ => exact Fin.ext (by show 256 * ((x 0).val / 256 % 8) + (x 0).val % 256 = (x 0).val; omega)
  | ⟨1, _⟩ => rfl

@[simp] theorem whole_read (m : Memref sig .tc .vmem S2048x256 .f32) (f : BufTy.Contents (Elt F) m.view.ty)
    (inb : ∀ a, (![0, 0] : Fin 2 → ℕ) a + S2048x256.size a ≤ S2048x256.size a) (w : S2048x256.Idx → Elt F .f32) (L : List (View.Piece (Elt F) S2048x256 .f32)) :
    m.view.read (Elt F) (m.view.writes (Elt F) f (⟨Rect.unit (s := S2048x256) ![0, 0] S2048x256.size inb, w⟩ :: L)) = w :=
  View.read_writes_full m.view f inb w L

attribute [local simp] dkC_zero dvC_zero

set_option warn.classDefReducibility false in
@[sl_loop] def loop1 (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S8x128x1024 .f32) (harg8 : arg8.IsWhole) (arg9 : Memref sig .tc .vmem S8x128x1024 .f32) (harg9 : arg9.IsWhole) (v25 : IVec S1024x256 32) (v27 : IVec S1024x256 32) (v41 : IVec S1024x256 1) (v45 : IVec S1024x256 1) (v51 : IVec S128x1024 32) (X1 : BufTy.Contents (Elt F) arg1.view.ty) (X2 : BufTy.Contents (Elt F) arg2.view.ty) (X3 : BufTy.Contents (Elt F) arg3.view.ty) (X4 : BufTy.Contents (Elt F) arg4.view.ty) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok ⟨⟩
      (k0_t1_body (F := F) i arg1 harg1 arg2 harg2 arg3 harg3 arg4 harg4 arg5 harg5 arg6 harg6 arg7 harg7 arg8 harg8 arg9 harg9 v25 v27 v41 v45 v51) where
  inv k acc := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f) ∗ ⌜∀ j, j < k → rowsB (arg5.view.read (Elt F) f) j = dqB (k0_pay1 v25 v27 v41 v45) v51 (arg1.view.read (Elt F) X1) (arg2.view.read (Elt F) X2) (arg3.view.read (Elt F) X3) (arg4.view.read (Elt F) X4) j⌝) ∗ (∃ f, (arg6.view.loc (c : Thread nD τ) ↦[arg6.view.set]{fullShare} f) ∗ ⌜∀ ch, ch < 8 → rowsC (arg6.view.read (Elt F) f) ch = dkC (k0_pay1 v25 v27 v41 v45) v51 (arg1.view.read (Elt F) X1) (arg2.view.read (Elt F) X2) (arg3.view.read (Elt F) X3) (arg4.view.read (Elt F) X4) k ch⌝) ∗ (∃ f, (arg7.view.loc (c : Thread nD τ) ↦[arg7.view.set]{fullShare} f) ∗ ⌜∀ ch, ch < 8 → rowsC (arg7.view.read (Elt F) f) ch = dvC (k0_pay1 v25 v27 v41 v45) v51 (arg1.view.read (Elt F) X1) (arg2.view.read (Elt F) X2) (arg3.view.read (Elt F) X3) (arg4.view.read (Elt F) X4) k ch⌝) ∗ (∃ f, (arg8.view.loc (c : Thread nD τ) ↦[arg8.view.set]{fullShare} f)) ∗ (∃ f, (arg9.view.loc (c : Thread nD τ) ↦[arg9.view.set]{fullShare} f)))
  step k acc := by
    iintro ⟨H1, H2, H3, H4, ⟨%f5, H5, %h5⟩, ⟨%f6, H6, %h6⟩, ⟨%f7, H7, %h7⟩, ⟨%f8, H8⟩, ⟨%f9, H9⟩⟩
    have hk : k.val < 16 := lt16 k
    iapply (wp_wand_r Idealize.ShloMosaic.frame (wpE (defs₀ (F := F)) 𝒱 (c : Thread nD τ) bd) E)
    isplitl [H1 H2 H3 H4 H5 H6 H7 H8 H9]
    · iapply (trip1 (F := F) 𝒱 c bd i arg1 harg1 arg2 harg2 arg3 harg3 arg4 harg4 arg5 harg5 arg6 harg6 arg7 harg7 arg8 harg8 arg9 harg9 v25 v27 v41 v45 v51 k E X1 X2 X3 X4 f5 f6 f7 f8 f9)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro %yld ⟨H1, H2, H3, H4, H5, ⟨%g6, H6, %e6⟩, ⟨%g7, H7, %e7⟩, H8, H9⟩
      isplitl [H1]; · iexact H1
      isplitl [H2]; · iexact H2
      isplitl [H3]; · iexact H3
      isplitl [H4]; · iexact H4
      isplitl [H5]
      · iexists _; isplitl [H5]; · iexact H5
        ipureintro
        intro j hj
        by_cases e : j = k.val
        · subst e
          rw [rowsB_hit, dqB, qbn, tF_val]
        · rw [rowsB_miss _ _ _ _ (by omega), View.writes_nil, h5 j (by omega)]
      isplitl [H6]
      · iexists _; isplitl [H6]; · iexact H6
        ipureintro
        intro ch hch
        rw [e6 ch hch, dkC_succ, h6 ch hch, qbn, tF_val]
      isplitl [H7]
      · iexists _; isplitl [H7]; · iexact H7
        ipureintro
        intro ch hch
        rw [e7 ch hch, dvC_succ, h7 ch hch, qbn, tF_val]
      isplitl [H8]; · iexact H8
      iexact H9

/-- The mask of the blocks on the diagonal. -/
def BD : IVec S1024x256 1 := k0_pay1 k0_pay145 k0_pay146 k0_pay147 k0_pay148
/-- The row of an element of a block of scores. -/
def ROW : IVec S128x1024 32 := iota .tc S128x1024 32 [0] iota_S128x1024_d0_w32

/-- The body leaves its inputs as they are and its outputs at the three gradients. -/
theorem run_body (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S8x128x1024 .f32) (harg8 : arg8.IsWhole) (arg9 : Memref sig .tc .vmem S8x128x1024 .f32) (harg9 : arg9.IsWhole) (X1 : BufTy.Contents (Elt F) arg1.view.ty) (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) : sProp 𝕄G)
      ⊢ wp frame (wpE (defs₀ (F := F)) 𝒱 (c : Thread nD τ) bd) E (cc0_sb_bwd_skel (F := F) i arg1 harg1 arg2 harg2 arg3 harg3 arg4 harg4 arg5 harg5 arg6 harg6 arg7 harg7 arg8 harg8 arg9 harg9)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f) ∗ ⌜arg5.view.read (Elt F) f = dqW BD ROW (arg1.view.read (Elt F) X1) (arg2.view.read (Elt F) X2) (arg3.view.read (Elt F) X3) (arg4.view.read (Elt F) X4)⌝) ∗ (∃ f, (arg6.view.loc (c : Thread nD τ) ↦[arg6.view.set]{fullShare} f) ∗ ⌜arg6.view.read (Elt F) f = dkW BD ROW (arg1.view.read (Elt F) X1) (arg2.view.read (Elt F) X2) (arg3.view.read (Elt F) X3) (arg4.view.read (Elt F) X4)⌝) ∗ (∃ f, (arg7.view.loc (c : Thread nD τ) ↦[arg7.view.set]{fullShare} f) ∗ ⌜arg7.view.read (Elt F) f = dvW BD ROW (arg1.view.read (Elt F) X1) (arg2.view.read (Elt F) X2) (arg3.view.read (Elt F) X3) (arg4.view.read (Elt F) X4)⌝) ∗ (∃ f, (arg8.view.loc (c : Thread nD τ) ↦[arg8.view.set]{fullShare} f)) ∗ (∃ f, (arg9.view.loc (c : Thread nD τ) ↦[arg9.view.set]{fullShare} f)))) := by
  have e6 : ∀ ch < 8, rowsC (arg6.view.read (Elt F) (arg6.view.writes (Elt F) arg6.view.junk [⟨Rect.unit (s := S2048x256) ![0, 0] S2048x256.size inb_S2048x256_S2048x256_0_0, (k0_pay5 (F := F))⟩])) ch = dkC BD ROW (arg1.view.read (Elt F) X1) (arg2.view.read (Elt F) X2) (arg3.view.read (Elt F) X3) (arg4.view.read (Elt F) X4) 0 ch := by
    intro ch _; rw [whole_read, dkC_zero]
  have e7 : ∀ ch < 8, rowsC (arg7.view.read (Elt F) (arg7.view.writes (Elt F) arg7.view.junk [⟨Rect.unit (s := S2048x256) ![0, 0] S2048x256.size inb_S2048x256_S2048x256_0_0, (k0_pay6 (F := F))⟩])) ch = dvC BD ROW (arg1.view.read (Elt F) X1) (arg2.view.read (Elt F) X2) (arg3.view.read (Elt F) X3) (arg4.view.read (Elt F) X4) 0 ch := by
    intro ch _; rw [whole_read, dvC_zero]
  unfold cc0_sb_bwd_skel
  iintro ⟨H1, H2, H3, H4, H5, H6, H7, H8, H9⟩
  sl_exec
  have t16 : Scf.trips k0_t1_loop.lb k0_t1_loop.ub k0_t1_loop.st = 16 := trips1
  rw [t16] at hL5 hL7 hL9
  sl_step
  isplitl [H1]; · iexact H1
  isplitl [H2]; · iexact H2
  isplitl [H3]; · iexact H3
  isplitl [H4]; · iexact H4
  isplitl [H5]
  · iexists _; isplitl [H5]; · iexact H5
    ipureintro
    funext x
    have hx := (x 0).isLt; change (x 0).val < 2048 at hx
    exact (ofB _ x).symm.trans (congrFun (hL5 _ (by omega)) _)
  isplitl [H6]
  · iexists _; isplitl [H6]; · iexact H6
    ipureintro
    funext x
    have hx := (x 0).isLt; change (x 0).val < 2048 at hx
    exact (ofC _ x).symm.trans (congrFun (hL7 _ (by omega)) _)
  isplitl [H7]
  · iexists _; isplitl [H7]; · iexact H7
    ipureintro
    funext x
    have hx := (x 0).isLt; change (x 0).val < 2048 at hx
    exact (ofC _ x).symm.trans (congrFun (hL9 _ (by omega)) _)
  isplitl [H8]
  · iexists _; iexact H8
  · iexists _; iexact H9

end Cert.KernelIdeal.Sbw
-- ==== Proof.Mask.lean ====
/-
  The constant vectors of the backward pass: the mask of the heads' columns, the causal mask of a diagonal chunk, the
  two triangles, the scales and the zeros.
-/
module

public import proofs.«01_k».proof.Proof.Vec
public import proofs.«01_k».proof.Proof.Body
public import Idealize.ShloMosaic.Lib.WordCmp

@[expose] public section

set_option maxRecDepth 16384
set_option maxHeartbeats 4000000

noncomputable section

namespace Cert.KernelIdeal.Sbw

open Idealize.ShloMosaic Idealize.ShloMosaic.Tactic Idealize.ShloMosaic.WordCmp
open Idealize.ShloMosaic.ValueIdx hiding ix2 ix3 ix4 eq_ix2 eq_ix3 eq_ix4
open Cert.KernelIdeal Cert.KernelIdeal.Gen
open Finset

/-- The head of a row of the stacked chunk. -/
theorem rowHead : ∀ r : Fin 1024, k0_pay145 (ix2 (n0 := 1024) (n1 := 256) r 0) = BitVec.ofNat 32 (r.val / 256) := by decide +kernel

/-- The head of a column. -/
theorem colHead : ∀ d : Fin 256, select (andi k0_pay147 k0_pay148) (subi k0_pay146 (broadcast S1024x256 1#32)) k0_pay146 (ix2 (n0 := 1024) (n1 := 256) 0 d)
    = BitVec.ofNat 32 (d.val / 64) := by decide +kernel

/-- A column's place in its head's chunk. -/
theorem colIn : ∀ r : Fin 1024, k0_pay2 (ix2 (n0 := 128) (n1 := 1024) 0 r) = BitVec.ofNat 32 (r.val % 256) := by decide +kernel

/-- The first row of the query block within its pair of blocks. -/
theorem rowOff : ∀ t : Fin 16, k0_pay118 0#32 1#32 (tF t.val) (ix2 (n0 := 128) (n1 := 1024) 0 0) = BitVec.ofNat 32 (128 * (t.val % 2)) := by decide +kernel

theorem bd_is : IsBd BD := fun r d => by
  have e : BD (ix2 r d) = IntOp.cmpi .eq (k0_pay145 (ix2 (n0 := 1024) (n1 := 256) r 0))
      (select (andi k0_pay147 k0_pay148) (subi k0_pay146 (broadcast S1024x256 1#32)) k0_pay146 (ix2 (n0 := 1024) (n1 := 256) 0 d)) := rfl
  rw [e, rowHead, colHead, cmpi_eq_ofNat (by omega) (by omega)]
  by_cases h : d.val / 64 = r.val / 256
  · rw [if_pos h, h]; simp
  · rw [if_neg h, decide_eq_false (fun h' => h h'.symm)]; rfl

theorem m_is (n : ℕ) (hn : n < 16) (s : Fin 128) (r : Fin 1024) :
    k0_pay119 ROW k0_pay2 (k0_pay118 0#32 1#32 (tF n)) (ix2 s r) = if r.val % 256 < s.val + 128 * (n % 2) then 1#1 else 0#1 := by
  have e : k0_pay119 ROW k0_pay2 (k0_pay118 0#32 1#32 (tF n)) (ix2 s r)
      = IntOp.cmpi .slt (k0_pay2 (ix2 (n0 := 128) (n1 := 1024) 0 r))
        (ROW (ix2 s r) + k0_pay118 0#32 1#32 (tF n) (ix2 (n0 := 128) (n1 := 1024) 0 0)) := rfl
  have er : ROW (ix2 s r) = BitVec.ofNat 32 s.val := by unfold ROW; exact iota_single_apply _ _ _ _ _ _
  rw [e, colIn, er, rowOff ⟨n, hn⟩, ← BitVec.ofNat_add, cmpi_slt_ofNat (by omega) (by omega)]
  by_cases h : r.val % 256 < s.val + 128 * (n % 2)
  · rw [if_pos h, decide_eq_true h]; rfl
  · rw [if_neg h, decide_eq_false h]; rfl

theorem later_is : Is (k0_pay3 (F := Ideal)) (fun a b => if b < a then 1 else 0) := fun a b => by
  have e : k0_pay3 (F := Ideal) (ix2 a b) = ((((IntOp.cmpi .sgt (BitVec.ofNat 32 a.val) (BitVec.ofNat 32 b.val)).setWidth 32).toInt : ℝ) : EReal) := by
    unfold k0_pay3
    show ((((IntOp.cmpi .sgt (iota .tc S256x256 32 [0] iota_S256x256_d0_w32 (ix2 a b)) (iota .tc S256x256 32 [1] iota_S256x256_d1_w32 (ix2 a b))).setWidth 32).toInt : ℝ) : EReal) = _
    rw [iota_single_apply, iota_single_apply]; rfl
  rw [e, cmpi_sgt_ofNat (by omega) (by omega)]
  show _ = (((if b.val < a.val then 1 else 0 : ℝ)) : EReal)
  by_cases h : b.val < a.val
  · rw [decide_eq_true h, if_pos h]; simp
  · rw [decide_eq_false h, if_neg h]; simp

theorem ear_is : Is (k0_pay4 (F := Ideal)) (fun a b => if a < b then 1 else 0) := fun a b => by
  have e : k0_pay4 (F := Ideal) (ix2 a b) = ((((IntOp.cmpi .slt (BitVec.ofNat 32 a.val) (BitVec.ofNat 32 b.val)).setWidth 32).toInt : ℝ) : EReal) := by
    unfold k0_pay4
    show ((((IntOp.cmpi .slt (iota .tc S256x256 32 [0] iota_S256x256_d0_w32 (ix2 a b)) (iota .tc S256x256 32 [1] iota_S256x256_d1_w32 (ix2 a b))).setWidth 32).toInt : ℝ) : EReal) = _
    rw [iota_single_apply, iota_single_apply]; rfl
  rw [e, cmpi_slt_ofNat (by omega) (by omega)]
  show _ = (((if a.val < b.val then 1 else 0 : ℝ)) : EReal)
  by_cases h : a.val < b.val
  · rw [decide_eq_true h, if_pos h]; simp
  · rw [decide_eq_false h, if_neg h]; simp

variable {f : ℕ → ℕ → ℝ}

theorem eighth32 : Ideal.ofBits .f32 0x3E000000#32 = ((1 / 8 : ℝ) : EReal) := by
  simp [Ideal.ofBits, Ideal.ieee]; rw [← EReal.coe_mul]; norm_num
theorem eighth16 : Ideal.ofBits .bf16 0x3E00#16 = ((1 / 8 : ℝ) : EReal) := by
  simp [Ideal.ofBits, Ideal.ieee]; rw [← EReal.coe_mul]; norm_num

theorem qs_is {x : Vec Ideal S128x256 .bf16} (hx : Is x f) : Is (k0_pay116 (F := Ideal) x) (fun s d => f s d * (1 / 8)) := fun s d => by
  show x (ix2 s d) * Ideal.ofBits .bf16 0x3E00#16 = _
  rw [hx s d, eighth16, ← EReal.coe_mul]
theorem dqs_is {x : FVec Ideal S128x256 .f32} (hx : Is x f) : Is (k0_pay13 (F := Ideal) x) (fun s d => f s d * (1 / 8)) := fun s d => by
  show x (ix2 s d) * Ideal.ofBits .f32 0x3E000000#32 = _
  rw [hx s d, eighth32, ← EReal.coe_mul]
theorem gs_is {x : Vec Ideal S128x256 .f32} (hx : Is x f) : Is (k0_pay117 (F := Ideal) x) f := hx
theorem zero120 : Is (k0_pay120 (F := Ideal)) (fun _ _ => 0) := splat0_is
theorem zero142 : Is (k0_pay142 (F := Ideal)) (fun _ _ => 0) := splat0_is
theorem zero141 : Is (k0_pay141 (F := Ideal)) (fun _ _ => 0) := splat0_is
theorem zero5 (c : ℕ) : Is (rowsC (k0_pay5 (F := Ideal)) c) (fun _ _ => 0) := splat0_is (a := 256) (b := 256)
theorem zero6 (c : ℕ) : Is (rowsC (k0_pay6 (F := Ideal)) c) (fun _ _ => 0) := splat0_is (a := 256) (b := 256)

theorem rowsC_is {x : S2048x256.Idx → EReal} (hx : Is x f) (c : ℕ) (hc : c < 8) : Is (rowsC x c) (fun j d => f (256 * c + j) d) := fun j d => by
  unfold rowsC
  rw [hx.at]
  show ((f (256 * (c % 8) + j.val) d.val : ℝ) : EReal) = _
  rw [Nat.mod_eq_of_lt hc]
theorem rowsB_is {x : S2048x256.Idx → EReal} (hx : Is x f) (t : ℕ) (ht : t < 16) : Is (rowsB x t) (fun s d => f (128 * t + s) d) := fun j d => by
  unfold rowsB
  rw [hx.at]
  show ((f (128 * (t % 16) + j.val) d.val : ℝ) : EReal) = _
  rw [Nat.mod_eq_of_lt ht]

end Cert.KernelIdeal.Sbw

end
-- ==== Proof.Chunk.lean ====
/-
  The stick-breaking attention's gradients over the real numbers, and what the vectors of a query block are of them:
  a chunk's vector holds, at row `s` and column `256 h + j`, the number of head `h`, query row `128 n + s` and key row
  `256 c + j`.
-/
module

public import proofs.«01_k».proof.Proof.Mask

@[expose] public section

set_option maxRecDepth 16384
set_option maxHeartbeats 4000000

noncomputable section

namespace Cert.KernelIdeal.Sbw

open Idealize.ShloMosaic Idealize.ShloMosaic.Tactic
open Idealize.ShloMosaic.ValueIdx hiding ix2 ix3 ix4 eq_ix2 eq_ix3 eq_ix4
open Cert.KernelIdeal Cert.KernelIdeal.Gen
open Finset

/-! ### The model -/

section
variable (q k v g : ℕ → ℕ → ℝ)

/-- The logarithm of one minus the logistic of the score, on the keys before the query. -/
def mL (h s j : ℕ) : ℝ := if j < s then lkR (dotH q k h s j) else 0
/-- The attention's weight. -/
def mA (h s j : ℕ) : ℝ := if j < s then Real.exp (dotH q k h s j + mL q k h s j + ∑ i ∈ Ico (j + 1) 2048, mL q k h s i) else 0
/-- The logistic of the score. -/
def mS (h s j : ℕ) : ℝ := if j < s then Real.exp (dotH q k h s j + mL q k h s j) else 0
/-- The gradient of the weight's exponent. -/
def mD (h s j : ℕ) : ℝ := dotH g v h s j * mA q k h s j
/-- The gradient of the score. -/
def mZ (h s j : ℕ) : ℝ := mD q k v g h s j - (mD q k v g h s j + ∑ i ∈ range j, mD q k v g h s i) * mS q k h s j

theorem mL_ge {h s j : ℕ} (e : s ≤ j) : mL q k h s j = 0 := if_neg (by omega)
theorem mA_ge {h s j : ℕ} (e : s ≤ j) : mA q k h s j = 0 := if_neg (by omega)
theorem mS_ge {h s j : ℕ} (e : s ≤ j) : mS q k h s j = 0 := if_neg (by omega)
theorem mD_ge {h s j : ℕ} (e : s ≤ j) : mD q k v g h s j = 0 := by rw [mD, mA_ge q k e, mul_zero]
theorem mZ_ge {h s j : ℕ} (e : s ≤ j) : mZ q k v g h s j = 0 := by rw [mZ, mD_ge q k v g e, mS_ge q k e]; ring
end

/-! ### Sums over a chunk -/

theorem sum_chunk (F : ℕ → ℝ) (a w : ℕ) : ∑ d ∈ range w, F (a + d) = ∑ i ∈ Ico a (a + w), F i := by
  rw [Finset.sum_Ico_eq_sum_range]; simp

theorem sum_later (F : ℕ → ℝ) (a e : ℕ) (he : e < 256) :
    ∑ d ∈ range 256, F (a + d) * (if e < d then 1 else 0) = ∑ i ∈ Ico (a + e + 1) (a + 256), F i := by
  simp only [mul_ite, mul_one, mul_zero]
  rw [sum_win 256 (e + 1) (255 - e) (by omega) (fun d => F (a + d)) (fun d => e < d) (fun d _ => by constructor <;> intro <;> omega)]
  rw [Finset.sum_Ico_eq_sum_range, show a + 256 - (a + e + 1) = 255 - e by omega]
  exact Finset.sum_congr rfl fun i _ => by rw [show a + (e + 1 + i) = a + e + 1 + i by omega]

theorem sum_before (F : ℕ → ℝ) (a e : ℕ) (he : e < 256) :
    ∑ d ∈ range 256, F (a + d) * (if d < e then 1 else 0) = ∑ i ∈ Ico a (a + e), F i := by
  simp only [mul_ite, mul_one, mul_zero]
  rw [sum_win 256 0 e (by omega) (fun d => F (a + d)) (fun d => d < e) (fun d _ => by constructor <;> intro <;> omega), ← sum_chunk]
  exact Finset.sum_congr rfl fun i _ => by rw [Nat.zero_add]

/-- The vector of query block `n` and chunk `c`. -/
def Ck (x : S128x1024.Idx → EReal) (X : ℕ → ℕ → ℕ → ℝ) (n c : ℕ) : Prop :=
  Is (a := 128) (b := 1024) x (fun s r => X (r / 256) (128 * n + s) (256 * c + r % 256))

theorem hd_eq (r d : ℕ) (h : d < 256) : (256 * (r / 256) + d) / 256 = r / 256 := by omega
theorem hm_eq (r d : ℕ) (h : d < 256) : (256 * (r / 256) + d) % 256 = d := by omega

theorem ck_sum (X : ℕ → ℕ → ℕ → ℝ) (r S c : ℕ) :
    ∑ d ∈ range 256, X ((256 * (r / 256) + d) / 256) S (256 * c + (256 * (r / 256) + d) % 256) = ∑ i ∈ Ico (256 * c) (256 * c + 256), X (r / 256) S i := by
  rw [← sum_chunk]
  exact Finset.sum_congr rfl fun d hd => by rw [mem_range] at hd; rw [hd_eq r d hd, hm_eq r d hd]
theorem ck_later (X : ℕ → ℕ → ℕ → ℝ) (r S c : ℕ) :
    ∑ d ∈ range 256, X ((256 * (r / 256) + d) / 256) S (256 * c + (256 * (r / 256) + d) % 256) * (if r % 256 < d then 1 else 0)
      = ∑ i ∈ Ico (256 * c + r % 256 + 1) (256 * c + 256), X (r / 256) S i := by
  rw [← sum_later _ _ _ (Nat.mod_lt _ (by omega))]
  exact Finset.sum_congr rfl fun d hd => by rw [mem_range] at hd; rw [hd_eq r d hd, hm_eq r d hd]
theorem ck_before (X : ℕ → ℕ → ℕ → ℝ) (r S c : ℕ) :
    ∑ d ∈ range 256, X ((256 * (r / 256) + d) / 256) S (256 * c + (256 * (r / 256) + d) % 256) * (if d < r % 256 then 1 else 0)
      = ∑ i ∈ Ico (256 * c) (256 * c + r % 256), X (r / 256) S i := by
  rw [← sum_before _ _ _ (Nat.mod_lt _ (by omega))]
  exact Finset.sum_congr rfl fun d hd => by rw [mem_range] at hd; rw [hd_eq r d hd, hm_eq r d hd]
theorem ck_dq (X : ℕ → ℕ → ℕ → ℝ) (W : ℕ → ℕ → ℝ) (d S c : ℕ) :
    ∑ j ∈ range 256, X ((256 * (d / 64) + j) / 256) S (256 * c + (256 * (d / 64) + j) % 256) * W (256 * c + j) d
      = ∑ i ∈ Ico (256 * c) (256 * c + 256), X (d / 64) S i * W i d := by
  rw [← sum_chunk (fun i => X (d / 64) S i * W i d)]
  exact Finset.sum_congr rfl fun j hj => by
    rw [mem_range] at hj; rw [show (256 * (d / 64) + j) / 256 = d / 64 by omega, show (256 * (d / 64) + j) % 256 = j by omega]
theorem ck_acc (X : ℕ → ℕ → ℕ → ℝ) (W : ℕ → ℕ → ℝ) (d j c n : ℕ) (hj : j < 256) :
    ∑ s ∈ range 128, X ((256 * (d / 64) + j) / 256) (128 * n + s) (256 * c + (256 * (d / 64) + j) % 256) * W (128 * n + s) d
      = ∑ i ∈ Ico (128 * n) (128 * n + 128), X (d / 64) i (256 * c + j) * W i d := by
  rw [← sum_chunk (fun i => X (d / 64) i (256 * c + j) * W i d)]
  exact Finset.sum_congr rfl fun s _ => by
    rw [show (256 * (d / 64) + j) / 256 = d / 64 by omega, show (256 * (d / 64) + j) % 256 = j by omega]

section
variable {q0 k v g : ℕ → ℕ → ℝ} {Q K V : S2048x256.Idx → EReal} {G : S2048x256.Idx → EReal}

/-- The scaled queries. -/
def sc (q0 : ℕ → ℕ → ℝ) : ℕ → ℕ → ℝ := fun s d => q0 s d * (1 / 8)

variable (hQ : Is (a := 2048) (b := 256) Q q0) (hK : Is (a := 2048) (b := 256) K k) (hV : Is (a := 2048) (b := 256) V v) (hG : Is (a := 2048) (b := 256) G g)

theorem b_cd (n : ℕ) (hn : n < 16) : (qbn (F := Ideal) BD ROW Q K V G n).cd = n / 2 := by
  show n % 16 / 2 = n / 2; rw [Nat.mod_eq_of_lt hn]
theorem b_bd (n : ℕ) : IsBd (qbn (F := Ideal) BD ROW Q K V G n).bd := bd_is
theorem b_later (n : ℕ) : Is (qbn (F := Ideal) BD ROW Q K V G n).later (fun a b => if b < a then 1 else 0) := later_is
theorem b_ear (n : ℕ) : Is (qbn (F := Ideal) BD ROW Q K V G n).ear (fun a b => if a < b then 1 else 0) := ear_is
theorem b_m (n : ℕ) (hn : n < 16) (s : Fin 128) (r : Fin 1024) : (qbn (F := Ideal) BD ROW Q K V G n).m (ix2 s r) = if r.val % 256 < s.val + 128 * (n % 2) then 1#1 else 0#1 := m_is n hn s r
include hQ in
theorem b_q (n : ℕ) (hn : n < 16) : Is (qbn (F := Ideal) BD ROW Q K V G n).q (fun s d => sc q0 (128 * n + s) d) := by
  have h := qs_is (rowsB_is hQ (n % 16) (by omega))
  rw [Nat.mod_eq_of_lt hn] at h
  have e : (qbn (F := Ideal) BD ROW Q K V G n).q = k0_pay116 (F := Ideal) (rowsB Q n) := by
    show k0_pay116 (F := Ideal) (rowsB Q (n % 16)) = _; rw [Nat.mod_eq_of_lt hn]
  rw [e]; exact h
include hG in
theorem b_g (n : ℕ) (hn : n < 16) : Is (qbn (F := Ideal) BD ROW Q K V G n).g (fun s d => g (128 * n + s) d) := by
  have h := gs_is (rowsB_is hG (n % 16) (by omega))
  rw [Nat.mod_eq_of_lt hn] at h
  have e : (qbn (F := Ideal) BD ROW Q K V G n).g = k0_pay117 (F := Ideal) (rowsB G n) := by
    show k0_pay117 (F := Ideal) (rowsB G (n % 16)) = _; rw [Nat.mod_eq_of_lt hn]
  rw [e]; exact h
include hK in
theorem b_K (n c : ℕ) (hc : c < 8) : Is ((qbn (F := Ideal) BD ROW Q K V G n).K c) (fun j d => k (256 * c + j) d) := rowsC_is hK c hc
include hV in
theorem b_V (n c : ℕ) (hc : c < 8) : Is ((qbn (F := Ideal) BD ROW Q K V G n).V c) (fun j d => v (256 * c + j) d) := rowsC_is hV c hc

include hQ hK in
theorem b_z (n c : ℕ) (hn : n < 16) (hc : c < 8) : Ck (zV (qbn (F := Ideal) BD ROW Q K V G n).bd (qbn (F := Ideal) BD ROW Q K V G n).q ((qbn (F := Ideal) BD ROW Q K V G n).K c)) (dotH (sc q0) k) n c :=
  z_is (b_bd n) (b_q hQ n hn) (b_K hK n c hc)

include hQ hK in
/-- The logarithms under the diagonal's mask. -/
theorem b_lkm (n : ℕ) (hn : n < 16) : Ck (maskV (qbn (F := Ideal) BD ROW Q K V G n).m (lkV (zV (qbn (F := Ideal) BD ROW Q K V G n).bd (qbn (F := Ideal) BD ROW Q K V G n).q ((qbn (F := Ideal) BD ROW Q K V G n).K (qbn (F := Ideal) BD ROW Q K V G n).cd)))) (mL (sc q0) k) n (n / 2) := by
  rw [b_cd n hn]
  refine (mask_is (p := fun s r => r % 256 < s + 128 * (n % 2)) (b_m n hn) (lk_is (b_z hQ hK n (n / 2) hn (by omega)))).congr fun s r hs hr => ?_
  rw [mL]
  exact if_congr (by constructor <;> intro <;> omega) rfl rfl

include hQ hK in
/-- The logarithms of a chunk before the diagonal. -/
theorem b_lkn (n c : ℕ) (hn : n < 16) (hc : c < n / 2) : Ck (lkV (zV (qbn (F := Ideal) BD ROW Q K V G n).bd (qbn (F := Ideal) BD ROW Q K V G n).q ((qbn (F := Ideal) BD ROW Q K V G n).K c))) (mL (sc q0) k) n c := by
  refine (lk_is (b_z hQ hK n c hn (by omega))).congr fun s r hs hr => ?_
  rw [mL, if_pos (by omega)]

include hQ hK in
theorem b_lk (n c : ℕ) (hn : n < 16) (hc : c ≤ n / 2) : Ck ((qbn (F := Ideal) BD ROW Q K V G n).lk c) (mL (sc q0) k) n c := by
  unfold QB.lk
  by_cases h : c = (qbn (F := Ideal) BD ROW Q K V G n).cd
  · rw [if_pos h]
    have h' := h
    rw [b_cd n hn] at h'
    subst h'
    have := b_lkm (Q := Q) (K := K) (V := V) (G := G) hQ hK n hn
    rw [← h] at this
    exact this
  · rw [if_neg h]
    rw [b_cd n hn] at h
    exact b_lkn hQ hK n c hn (by omega)

include hQ hK in
theorem b_cs (n : ℕ) (hn : n < 16) : ∀ j, j ≤ n / 2 + 1 →
    Is (a := 128) (b := 1024) ((qbn (F := Ideal) BD ROW Q K V G n).cs j) (fun s r => ∑ i ∈ Ico (256 * (n / 2 + 1 - j)) (256 * (n / 2 + 1)), mL (sc q0) k (r / 256) (128 * n + s) i)
  | 0, _ => by
      unfold QB.cs; rw [csR_zero]
      exact zero120.congr fun s r _ _ => by simp
  | j + 1, hj => by
      have ih := b_cs n hn j (by omega)
      unfold QB.cs at ih ⊢
      rw [csR_succ]
      have hl := b_lk (V := V) (G := G) hQ hK n ((qbn (F := Ideal) BD ROW Q K V G n).cd - j) hn (by rw [b_cd n hn]; omega)
      rw [b_cd n hn] at hl
      refine (nx_is ih (x := (qbn (F := Ideal) BD ROW Q K V G n).lk ((qbn (F := Ideal) BD ROW Q K V G n).cd - j)) (by rw [b_cd n hn]; exact hl)).congr fun s r hs hr => ?_
      rw [ck_sum (mL (sc q0) k), add_comm,
        show 256 * (n / 2 - j) + 256 = 256 * (n / 2 + 1 - j) by omega, show 256 * (n / 2 - j) = 256 * (n / 2 + 1 - (j + 1)) by omega,
        Finset.sum_Ico_consecutive _ (by omega) (by omega)]

/-- The tail past the block's last row is empty. -/
theorem tail_zero (q k : ℕ → ℕ → ℝ) (h s a b : ℕ) (e : s ≤ b) (hab : a ≤ b) (hb : b ≤ 2048) :
    ∑ i ∈ Ico a b, mL q k h s i = ∑ i ∈ Ico a 2048, mL q k h s i := by
  rw [← Finset.sum_Ico_consecutive _ hab hb, Finset.sum_eq_zero (s := Ico b 2048) (fun i hi => ?_), add_zero]
  rw [Finset.mem_Ico] at hi
  exact mL_ge q k (by omega)

include hQ hK in
theorem b_attc (n : ℕ) (hn : n < 16) : Ck (downV (F := Ideal) ((qbn (F := Ideal) BD ROW Q K V G n).att (n / 2))) (mA (sc q0) k) n (n / 2) := by
  unfold QB.att
  rw [if_pos (b_cd n hn).symm, down_up]
  have hl := b_lkm (V := V) (G := G) hQ hK n hn
  have ec : (qbn (F := Ideal) BD ROW Q K V G n).cd = n / 2 := b_cd n hn
  rw [ec] at hl
  refine (mask_is (p := fun s r => r % 256 < s + 128 * (n % 2)) (b_m n hn) (att_is (b_z hQ hK n (n / 2) hn (by omega)) hl (b_later n) zero120)).congr fun s r hs hr => ?_
  rw [mA]
  refine if_congr (by constructor <;> intro <;> omega) ?_ rfl
  rw [add_zero, ck_later (mL (sc q0) k),
      tail_zero _ _ _ _ _ _ (by omega) (by omega) (by omega)]

include hQ hK in
theorem b_attn (n c : ℕ) (hn : n < 16) (hc : c < n / 2) : Ck (downV (F := Ideal) ((qbn (F := Ideal) BD ROW Q K V G n).att c)) (mA (sc q0) k) n c := by
  unfold QB.att
  rw [if_neg (by rw [b_cd n hn]; omega)]
  unfold attC
  rw [down_up]
  have hcs := b_cs (V := V) (G := G) hQ hK n hn (n / 2 - c) (by omega)
  rw [b_cd n hn]
  refine (att_is (b_z hQ hK n c hn (by omega)) (b_lkn hQ hK n c hn hc) (b_later n) hcs).congr fun s r hs hr => ?_
  rw [mA, if_pos (by omega)]
  rw [ck_later (mL (sc q0) k),
      add_assoc (_ + _), show 256 * (n / 2 + 1 - (n / 2 - c)) = 256 * c + 256 by omega,
      Finset.sum_Ico_consecutive _ (by omega) (by omega), tail_zero _ _ _ _ _ _ (by omega) (by omega) (by omega)]

include hQ hK in
theorem b_att (n c : ℕ) (hn : n < 16) (hc : c ≤ n / 2) : Ck (downV (F := Ideal) ((qbn (F := Ideal) BD ROW Q K V G n).att c)) (mA (sc q0) k) n c := by
  rcases Nat.lt_or_eq_of_le hc with h | h
  · exact b_attn hQ hK n c hn h
  · subst h; exact b_attc hQ hK n hn

include hQ hK in
theorem b_sg (n c : ℕ) (hn : n < 16) (hc : c ≤ n / 2) : Ck (downV (F := Ideal) ((qbn (F := Ideal) BD ROW Q K V G n).sg c)) (mS (sc q0) k) n c := by
  have ec : (qbn (F := Ideal) BD ROW Q K V G n).cd = n / 2 := b_cd n hn
  unfold QB.sg
  rcases Nat.lt_or_eq_of_le hc with h | h
  · rw [if_neg (by rw [ec]; omega)]
    unfold sgC
    rw [down_up]
    refine (sg_is (b_z hQ hK n c hn (by omega)) (b_lkn hQ hK n c hn h)).congr fun s r hs hr => ?_
    rw [mS, if_pos (by omega)]
  · subst h
    rw [if_pos ec.symm, down_up]
    have hl := b_lkm (V := V) (G := G) hQ hK n hn
    rw [ec] at hl
    refine (mask_is (p := fun s r => r % 256 < s + 128 * (n % 2)) (b_m n hn) (sg_is (b_z hQ hK n (n / 2) hn (by omega)) hl)).congr fun s r hs hr => ?_
    rw [mS]
    exact if_congr (by constructor <;> intro <;> omega) rfl rfl

include hQ hK hV hG in
theorem b_ds (n c : ℕ) (hn : n < 16) (hc : c ≤ n / 2) : Ck ((qbn (F := Ideal) BD ROW Q K V G n).ds c) (mD (sc q0) k v g) n c := by
  unfold QB.ds dsC
  exact ds_is (b_bd n) (b_g hG n hn) (b_V hV n c (by omega)) (b_att hQ hK n c hn hc)

include hQ hK hV hG in
theorem b_pre (n : ℕ) (hn : n < 16) : ∀ c, c ≤ n / 2 + 1 →
    Is (a := 128) (b := 1024) ((qbn (F := Ideal) BD ROW Q K V G n).pre c) (fun s r => ∑ i ∈ Ico 0 (256 * c), mD (sc q0) k v g (r / 256) (128 * n + s) i)
  | 0, _ => by
      unfold QB.pre; rw [csR_zero]
      exact zero142.congr fun s r _ _ => by simp
  | c + 1, hc => by
      have ih := b_pre n hn c (by omega)
      unfold QB.pre at ih ⊢
      rw [csR_succ]
      refine (nx_is ih (b_ds hQ hK hV hG n c hn (by omega))).congr fun s r hs hr => ?_
      rw [ck_sum (mD (sc q0) k v g), Finset.sum_Ico_consecutive _ (by omega) (by omega),
        show 256 * c + 256 = 256 * (c + 1) by omega]

include hQ hK hV hG in
theorem b_dz (n c : ℕ) (hn : n < 16) (hc : c ≤ n / 2) : Ck ((qbn (F := Ideal) BD ROW Q K V G n).dz c) (mZ (sc q0) k v g) n c := by
  unfold QB.dz dzC
  refine (dz_is (b_ds hQ hK hV hG n c hn hc) (b_ear n) (b_pre hQ hK hV hG n hn c (by omega)) (b_sg hQ hK n c hn hc)).congr fun s r hs hr => ?_
  rw [mZ, ck_before (mD (sc q0) k v g),
      add_assoc (mD _ _ _ _ _ _ _), add_comm (∑ i ∈ Ico (256 * c) _, _), Finset.sum_Ico_consecutive _ (by omega) (by omega), Finset.range_eq_Ico]

/-! ### The block of `dq` -/

include hQ hK hV hG in
theorem b_dqR (n : ℕ) (hn : n < 16) : ∀ c, c ≤ n / 2 + 1 →
    Is (a := 128) (b := 256) (dqR (qbn (F := Ideal) BD ROW Q K V G n).bd (qbn (F := Ideal) BD ROW Q K V G n).K k0_pay141 (qbn (F := Ideal) BD ROW Q K V G n).dz c)
      (fun s d => ∑ j ∈ Ico 0 (256 * c), mZ (sc q0) k v g (d / 64) (128 * n + s) j * k j d)
  | 0, _ => by rw [dqR_zero]; exact zero141.congr fun s r _ _ => by simp
  | c + 1, hc => by
      have ih := b_dqR n hn c (by omega)
      rw [dqR_succ]
      refine (dqV_is (b_bd n) ih (b_dz hQ hK hV hG n c hn (by omega)) (b_K hK n c (by omega))).congr fun s d hs hd => ?_
      rw [ck_dq (mZ (sc q0) k v g) k, Finset.sum_Ico_consecutive _ (by omega) (by omega), show 256 * c + 256 = 256 * (c + 1) by omega]

/-- The gradient of the queries. -/
def mdq (q k v g : ℕ → ℕ → ℝ) (s d : ℕ) : ℝ := (∑ j ∈ range 2048, mZ q k v g (d / 64) s j * k j d) * (1 / 8)
/-- The gradient of the keys. -/
def mdk (q k v g : ℕ → ℕ → ℝ) (j d : ℕ) : ℝ := ∑ s ∈ range 2048, mZ q k v g (d / 64) s j * q s d
/-- The gradient of the values. -/
def mdv (q k g : ℕ → ℕ → ℝ) (j d : ℕ) : ℝ := ∑ s ∈ range 2048, mA q k (d / 64) s j * g s d

include hQ hK hV hG in
theorem dqB_is (n : ℕ) (hn : n < 16) : Is (a := 128) (b := 256) (dqB (F := Ideal) BD ROW Q K V G n) (fun s d => mdq (sc q0) k v g (128 * n + s) d) := by
  unfold dqB
  have h := b_dqR hQ hK hV hG n hn (n / 2 + 1) le_rfl
  unfold QB.dq
  rw [b_cd n hn]
  refine (dqs_is h).congr fun s d hs hd => ?_
  rw [mdq, Finset.range_eq_Ico, ← Finset.sum_Ico_consecutive _ (show 0 ≤ 256 * (n / 2 + 1) by omega) (show 256 * (n / 2 + 1) ≤ 2048 by omega),
    Finset.sum_eq_zero (s := Ico (256 * (n / 2 + 1)) 2048) (fun i hi => ?_), add_zero]
  rw [Finset.mem_Ico] at hi
  rw [mZ_ge _ _ _ _ (by omega), zero_mul]

include hQ hK hV hG in
theorem dkC_is (c : ℕ) (hc : c < 8) : ∀ n, n ≤ 16 → Is (a := 256) (b := 256) (dkC (F := Ideal) BD ROW Q K V G n c)
      (fun j d => ∑ s ∈ Ico 0 (128 * n), mZ (sc q0) k v g (d / 64) s (256 * c + j) * sc q0 s d)
  | 0, _ => by rw [dkC_zero]; exact (zero5 c).congr fun s r _ _ => by simp
  | n + 1, hn => by
      have ih := dkC_is c hc n (by omega)
      rw [dkC_succ]
      split
      · rename_i h
        refine (acc_is bd_is (b_dz hQ hK hV hG n c (by omega) h) (b_q hQ n (by omega)) ih).congr fun j d hj hd => ?_
        rw [ck_acc (mZ (sc q0) k v g) (sc q0) d j c n hj, Finset.sum_Ico_consecutive _ (by omega) (by omega), show 128 * n + 128 = 128 * (n + 1) by omega]
      · rename_i h
        refine ih.congr fun j d hj hd => ?_
        rw [← Finset.sum_Ico_consecutive _ (show 0 ≤ 128 * n by omega) (show 128 * n ≤ 128 * (n + 1) by omega),
          Finset.sum_eq_zero (s := Ico (128 * n) (128 * (n + 1))) (fun i hi => ?_), add_zero]
        rw [Finset.mem_Ico] at hi
        rw [mZ_ge _ _ _ _ (by omega), zero_mul]

include hQ hK hG in
theorem dvC_is (c : ℕ) (hc : c < 8) : ∀ n, n ≤ 16 → Is (a := 256) (b := 256) (dvC (F := Ideal) BD ROW Q K V G n c)
      (fun j d => ∑ s ∈ Ico 0 (128 * n), mA (sc q0) k (d / 64) s (256 * c + j) * g s d)
  | 0, _ => by rw [dvC_zero]; exact (zero6 c).congr fun s r _ _ => by simp
  | n + 1, hn => by
      have ih := dvC_is c hc n (by omega)
      rw [dvC_succ]
      split
      · rename_i h
        refine (acc_is bd_is (rd_is (b_att hQ hK n c (by omega) h)) (b_g hG n (by omega)) ih).congr fun j d hj hd => ?_
        rw [ck_acc (mA (sc q0) k) g d j c n hj, Finset.sum_Ico_consecutive _ (by omega) (by omega), show 128 * n + 128 = 128 * (n + 1) by omega]
      · rename_i h
        refine ih.congr fun j d hj hd => ?_
        rw [← Finset.sum_Ico_consecutive _ (show 0 ≤ 128 * n by omega) (show 128 * n ≤ 128 * (n + 1) by omega),
          Finset.sum_eq_zero (s := Ico (128 * n) (128 * (n + 1))) (fun i hi => ?_), add_zero]
        rw [Finset.mem_Ico] at hi
        rw [mA_ge _ _ (by omega), zero_mul]

/-! ### The whole blocks -/

include hQ hK hV hG in
theorem dqW_is : Is (a := 2048) (b := 256) (dqW (F := Ideal) BD ROW Q K V G) (mdq (sc q0) k v g) := fun s d => by
  have hs := s.isLt
  refine ((dqB_is hQ hK hV hG (s.val / 128) (by omega)) ⟨s.val % 128, by omega⟩ d).trans ?_
  simp only [show 128 * (s.val / 128) + s.val % 128 = s.val by omega]
include hQ hK hV hG in
theorem dkW_is : Is (a := 2048) (b := 256) (dkW (F := Ideal) BD ROW Q K V G) (mdk (sc q0) k v g) := fun s d => by
  have hs := s.isLt
  refine ((dkC_is hQ hK hV hG (s.val / 256) (by omega) 16 le_rfl) ⟨s.val % 256, by omega⟩ d).trans ?_
  simp only [show 256 * (s.val / 256) + s.val % 256 = s.val by omega]
  rw [mdk, Finset.range_eq_Ico]
include hQ hK hG in
theorem dvW_is : Is (a := 2048) (b := 256) (dvW (F := Ideal) BD ROW Q K V G) (mdv (sc q0) k g) := fun s d => by
  have hs := s.isLt
  refine ((dvC_is hQ hK hG (s.val / 256) (by omega) 16 le_rfl) ⟨s.val % 256, by omega⟩ d).trans ?_
  simp only [show 256 * (s.val / 256) + s.val % 256 = s.val by omega]
  rw [mdv, Finset.range_eq_Ico]

end

end Cert.KernelIdeal.Sbw

end
-- ==== Proof.FwdVec.lean ====
/-
  The forward pass of the stick-breaking attention, one query block: the accumulated output over the chunks.
-/
module

public import proofs.«01_k».proof.Proof.Chunk

@[expose] public section

set_option maxRecDepth 16384
set_option maxHeartbeats 4000000

noncomputable section

namespace Cert.KernelIdeal.Sbw

open Idealize.ShloMosaic Idealize.ShloMosaic.Tactic
open Idealize.ShloMosaic.ValueIdx hiding ix2 ix3 ix4 eq_ix2 eq_ix3 eq_ix4
open Cert.KernelIdeal Cert.KernelIdeal.Gen
open Finset

section
variable {F : FTy → Type} [FloatOps F]

/-- A block of weights rounded. -/
def rndV (x : FVec F S128x1024 .f32) : FVec F S128x1024 .bf16 := truncf .bf16 x bitsLt_bf16_f32

/-- The weights of chunk `c`, the later chunks' sum being `cs`. -/
def wtC (bd : IVec S1024x256 1) (tri : FVec F S256x256 .bf16) (q : FVec F S128x256 .bf16) (K : ℕ → Vec F S256x256 .bf16) (c : ℕ) (cs : FVec F S128x1024 .f32) : FVec F S128x1024 .bf16 :=
  rndV (attV tri (zV bd q (K c)) (lkV (zV bd q (K c))) cs)
/-- The weights of the chunk `o j`. -/
def wtS (bd : IVec S1024x256 1) (tri : FVec F S256x256 .bf16) (q : FVec F S128x256 .bf16) (K : ℕ → Vec F S256x256 .bf16) (o : ℕ → ℕ) (init : FVec F S128x1024 .f32) (j : ℕ) : FVec F S128x1024 .bf16 :=
  wtC bd tri q K (o j) (lkS bd q K o init j)

namespace QB
variable (b : QB F)

/-- The weights of the diagonal chunk. -/
def wtd : FVec F S128x1024 .bf16 :=
  rndV (maskV b.m (attV b.later (zV b.bd b.q (b.K b.cd)) (maskV b.m (lkV (zV b.bd b.q (b.K b.cd)))) k0_pay120))
/-- The weights of chunk `c`. -/
def wt (c : ℕ) : FVec F S128x1024 .bf16 := if c = b.cd then b.wtd else wtC b.bd b.later b.q b.K c (b.cs (b.cd - c))
/-- The output accumulated over the `j` chunks from the diagonal one down. -/
def ow (j : ℕ) : FVec F S128x256 .f32 := dqR b.bd (fun i => b.V (b.cd - i)) k0_pay141 (fun i => b.wt (b.cd - i)) j
/-- The output after the diagonal chunk. -/
def ow1 : FVec F S128x256 .f32 := dqV b.bd k0_pay141 b.wtd (b.V b.cd)

theorem ow_one : b.ow 1 = b.ow1 := by
  rw [ow, dqR_succ, dqR_zero, ow1, Nat.sub_zero, wt, if_pos rfl]

theorem wt_odd (h : b.cd % 2 = 1) : wtS b.bd b.later b.q b.K b.o2 b.cs1 0 = b.wt (b.cd - 1) := by
  rw [wt, if_neg (by omega), wtS, lkS_zero, ← cs_one, show b.cd - (b.cd - 1) = 1 by omega]; rfl

theorem wt_two (j : ℕ) (h : 1 + b.cd % 2 + j ≤ b.cd) :
    wtS b.bd b.later b.q b.K b.o4 (lkS b.bd b.q b.K b.o2 b.cs1 (b.cd % 2)) j = b.wt (b.cd - (1 + b.cd % 2 + j)) := by
  rw [wt, if_neg (by omega), wtS, cs_two b j (by omega), show b.cd - (b.cd - (1 + b.cd % 2 + j)) = 1 + b.cd % 2 + j by omega,
    show b.o4 j = b.cd - (1 + b.cd % 2 + j) by rw [o4]; omega]

theorem ow_odd : dqR b.bd (fun j => b.V (b.o2 j)) b.ow1 (wtS b.bd b.later b.q b.K b.o2 b.cs1) (b.cd % 2) = b.ow (1 + b.cd % 2) := by
  rcases Nat.mod_two_eq_zero_or_one b.cd with h | h
  · rw [h, dqR_zero, ← ow_one]
  · rw [h, dqR_succ, dqR_zero, ← ow_one, wt_odd b h]
    conv_rhs => rw [ow, dqR_succ]
    rfl

theorem ow_two : ∀ n, 1 + b.cd % 2 + n ≤ b.cd + 1 →
    dqR b.bd (fun j => b.V (b.o4 j)) (dqR b.bd (fun j => b.V (b.o2 j)) b.ow1 (wtS b.bd b.later b.q b.K b.o2 b.cs1) (b.cd % 2))
      (wtS b.bd b.later b.q b.K b.o4 (lkS b.bd b.q b.K b.o2 b.cs1 (b.cd % 2))) n = b.ow (1 + b.cd % 2 + n)
  | 0, _ => by rw [dqR_zero, ow_odd, Nat.add_zero]
  | n + 1, h => by
    rw [dqR_succ, ow_two n (by omega), wt_two b n (by omega), ← Nat.add_assoc]
    conv_rhs => rw [ow, dqR_succ]
    rw [show b.o4 n = b.cd - (1 + b.cd % 2 + n) by rw [o4]; omega]; rfl

/-- What the loops leave in the accumulator. -/
theorem ow_all : dqR b.bd (fun j => b.V (b.o4 j)) (dqR b.bd (fun j => b.V (b.o2 j)) b.ow1 (wtS b.bd b.later b.q b.K b.o2 b.cs1) (b.cd % 2))
      (wtS b.bd b.later b.q b.K b.o4 (lkS b.bd b.q b.K b.o2 b.cs1 (b.cd % 2))) (2 * (b.cd / 2)) = b.ow (b.cd + 1) := by
  rw [ow_two b _ (by omega), show 1 + b.cd % 2 + 2 * (b.cd / 2) = b.cd + 1 by omega]

end QB

/-- The output's block of query block `n`. -/
def oB (Q K V : S2048x256.Idx → Elt F .bf16) (n : ℕ) : S128x256.Idx → Elt F .bf16 :=
  truncf (F := F) .bf16 ((qbn BD ROW Q K V (fun _ => Scalar.ofBits .f32 0x00000000#32) n).ow ((qbn BD ROW Q K V (fun _ => Scalar.ofBits .f32 0x00000000#32) n).cd + 1)) bitsLt_bf16_f32

/-- The whole output. -/
def oW (Q K V : S2048x256.Idx → Elt F .bf16) : S2048x256.Idx → Elt F .bf16 := fun x => oB Q K V ((x 0).val / 128) (ix2 (n0 := 128) (n1 := 256) ⟨(x 0).val % 128, Nat.mod_lt _ (by omega)⟩ (x 1))

attribute [irreducible] oB
end

theorem wt_att (b : QB Ideal) (c : ℕ) : b.wt c = downV (F := Ideal) (b.att c) := by
  rw [QB.wt, QB.att]
  by_cases h : c = b.cd
  · subst h; rw [if_pos rfl, if_pos rfl, down_up]; rfl
  · rw [if_neg h, if_neg h, attC, down_up]; rfl

end Cert.KernelIdeal.Sbw

end
-- ==== Proof.FwdTrips.lean ====
/-
  The forward pass of the stick-breaking attention: one trip of each loop over the key chunks, and what the accumulated
  output and the running sum hold after `k` trips.
-/
module

public import proofs.«01_k».proof.Proof.FwdVec
public import proofs.«01_k».proof.Proof.Body
public import proofs.«01_k».proof.Proof.Gen.SbFwdIdeal.Skeleton
public import Idealize.ShloMosaic.Lib.Exec
public import Idealize.ShloMosaic.Lib.Tactic
public import Idealize.ShloMosaic.Lib.Pipeline.Kit
public import Idealize.ShloMosaic.Lib.LoopRemainder

@[expose] public section

set_option maxRecDepth 16384
set_option maxHeartbeats 4000000

noncomputable section

namespace Cert.SbFwdIdeal.Sbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbFwdIdeal Cert.SbFwdIdeal.Gen
open Cert.KernelIdeal.Sbw (rowsC rowsB readAt_ch readAt_bl piece_eq blI bl off_ch off_bl zV lkV attV nxV dqV dqR dqR_zero dqR_succ lkC lkS lkS_zero lkS_succ
  wtC wtS QB qb qbq qbn tF oB oW BD ROW ofB rowsB_hit rowsB_miss)

variable {F : FTy → Type} [FloatOps F]
local notation "𝕄G" => MT nD τ sig Unit (Elt F) ℕ (UR sig nD τ) ℕ

theorem trips1 : k0_t1_loop.trips = 16 := by decide +kernel
theorem trips2 : ∀ t : Fin k0_t1_loop.trips, (k0_t2_loop t).trips = t.val / 2 % 2 := by decide +kernel
theorem trips4 : ∀ t : Fin k0_t1_loop.trips, (k0_t4_loop t).trips = t.val / 2 / 2 := by decide +kernel
theorem k0_off2_eq : ∀ t : Fin k0_t1_loop.trips, k0_off2 t = ![256 * (t.val / 2), 0] := by decide +kernel
theorem k0_off3_eq : ∀ (t : Fin k0_t1_loop.trips) (_ : Fin (k0_t2_loop t).trips),
    k0_off3 t = ![256 * (t.val / 2 - 1), 0] := by decide +kernel
theorem k0_off5_eq : ∀ (t : Fin k0_t1_loop.trips) (n : Fin (k0_t4_loop t).trips),
    k0_off5 t n = ![256 * (t.val / 2 - 1 - t.val / 2 % 2 - 2 * n.val), 0] := by decide +kernel
theorem k0_off6_eq : ∀ (t : Fin k0_t1_loop.trips) (n : Fin (k0_t4_loop t).trips),
    k0_off6 t n = ![256 * (t.val / 2 - 1 - t.val / 2 % 2 - 2 * n.val - 1), 0] := by decide +kernel

instance (t : Fin k0_t1_loop.trips) : ClosedOff (k0_off2 t) := ⟨_, k0_off2_eq t⟩
instance (t : Fin k0_t1_loop.trips) (n : Fin (k0_t4_loop t).trips) : ClosedOff (k0_off5 t n) := ⟨_, k0_off5_eq t n⟩
instance (t : Fin k0_t1_loop.trips) (n : Fin (k0_t4_loop t).trips) : ClosedOff (k0_off6 t n) := ⟨_, k0_off6_eq t n⟩

theorem lt16 (t : Fin k0_t1_loop.trips) : t.val < 16 := trips1 ▸ t.isLt

theorem trip2 (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (v25 : IVec S1024x256 32) (v27 : IVec S1024x256 32) (v41 : IVec S1024x256 1) (v45 : IVec S1024x256 1) (k0_t1 : Fin k0_t1_loop.trips) (v81 : FVec F S128x256 .bf16) (v98 : BitVec 32) (k : Fin (k0_t2_loop k0_t1).trips) (E : Set ℕ) (acc : FVec F S128x256 .f32 × FVec F S128x1024 .f32) (X2 : BufTy.Contents (Elt F) arg2.view.ty) (X3 : BufTy.Contents (Elt F) arg3.view.ty) :
      iprop((arg2.view.loc (c : Thread nD τ) ↦[arg2.view.set]{fullShare} X2) ∗ (arg3.view.loc (c : Thread nD τ) ↦[arg3.view.set]{fullShare} X3) : sProp 𝕄G)
      ⊢ wp frame (wpE (defs₀ (F := F)) 𝒱 (c : Thread nD τ) bd) E (k0_t2_body (F := F) i arg1 harg1 arg2 harg2 arg3 harg3 arg4 harg4 v25 v27 v41 v45 k0_t1 v81 v98 k acc)
          (fun yld => iprop(⌜yld = (dqV (k0_pay1 v25 v27 v41 v45) acc.1 (wtC (k0_pay1 v25 v27 v41 v45) (k0_pay3 (F := F)) v81 (rowsC (arg2.view.read (Elt F) X2)) (k0_t1.val / 2 - 1) acc.2) ((rowsC (arg3.view.read (Elt F) X3)) (k0_t1.val / 2 - 1)), nxV acc.2 (lkC (k0_pay1 v25 v27 v41 v45) v81 (rowsC (arg2.view.read (Elt F) X2)) (k0_t1.val / 2 - 1)))⌝ ∗ (arg2.view.loc (c : Thread nD τ) ↦[arg2.view.set]{fullShare} X2) ∗ (arg3.view.loc (c : Thread nD τ) ↦[arg3.view.set]{fullShare} X3))) := by
  have ht := lt16 k0_t1
  have hK : rowsC (arg2.view.read (Elt F) X2) (k0_t1.val / 2 - 1) = arg2.view.readAt (Elt F) (Rect.unit (s := S2048x256) (k0_off3 k0_t1) S256x256.size (k0_off3_inb k0_t1 k)).toLoadRect X2 :=
    (readAt_ch arg2.view X2 (k0_t1.val / 2 - 1) _ (off_ch _ (by omega) (k0_off3_eq k0_t1 k))).symm
  have hV : rowsC (arg3.view.read (Elt F) X3) (k0_t1.val / 2 - 1) = arg3.view.readAt (Elt F) (Rect.unit (s := S2048x256) (k0_off3 k0_t1) S256x256.size (k0_off3_inb k0_t1 k)).toLoadRect X3 :=
    (readAt_ch arg3.view X3 (k0_t1.val / 2 - 1) _ (off_ch _ (by omega) (k0_off3_eq k0_t1 k))).symm
  unfold wtC lkC
  rw [hK, hV]
  unfold k0_t2_body
  iintro ⟨H2, H3⟩
  sl_exec
  sl_step
  isplitr
  · ipureintro
    rfl
  isplitl [H2]; · iexact H2
  iexact H3

theorem trip4 (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (v25 : IVec S1024x256 32) (v27 : IVec S1024x256 32) (v41 : IVec S1024x256 1) (v45 : IVec S1024x256 1) (k0_t1 : Fin k0_t1_loop.trips) (v81 : FVec F S128x256 .bf16) (v98 : BitVec 32) (v211 : BitVec 32) (k : Fin (k0_t4_loop k0_t1).trips) (E : Set ℕ) (acc : FVec F S128x256 .f32 × FVec F S128x1024 .f32) (X2 : BufTy.Contents (Elt F) arg2.view.ty) (X3 : BufTy.Contents (Elt F) arg3.view.ty) :
      iprop((arg2.view.loc (c : Thread nD τ) ↦[arg2.view.set]{fullShare} X2) ∗ (arg3.view.loc (c : Thread nD τ) ↦[arg3.view.set]{fullShare} X3) : sProp 𝕄G)
      ⊢ wp frame (wpE (defs₀ (F := F)) 𝒱 (c : Thread nD τ) bd) E (k0_t4_body (F := F) i arg1 harg1 arg2 harg2 arg3 harg3 arg4 harg4 v25 v27 v41 v45 k0_t1 v81 v98 v211 k acc)
          (fun yld => iprop(⌜yld = (dqV (k0_pay1 v25 v27 v41 v45) (dqV (k0_pay1 v25 v27 v41 v45) acc.1 (wtC (k0_pay1 v25 v27 v41 v45) (k0_pay3 (F := F)) v81 (rowsC (arg2.view.read (Elt F) X2)) (k0_t1.val / 2 - 1 - k0_t1.val / 2 % 2 - 2 * k.val) acc.2) ((rowsC (arg3.view.read (Elt F) X3)) (k0_t1.val / 2 - 1 - k0_t1.val / 2 % 2 - 2 * k.val))) (wtC (k0_pay1 v25 v27 v41 v45) (k0_pay3 (F := F)) v81 (rowsC (arg2.view.read (Elt F) X2)) (k0_t1.val / 2 - 1 - k0_t1.val / 2 % 2 - 2 * k.val - 1) (nxV acc.2 (lkC (k0_pay1 v25 v27 v41 v45) v81 (rowsC (arg2.view.read (Elt F) X2)) (k0_t1.val / 2 - 1 - k0_t1.val / 2 % 2 - 2 * k.val)))) ((rowsC (arg3.view.read (Elt F) X3)) (k0_t1.val / 2 - 1 - k0_t1.val / 2 % 2 - 2 * k.val - 1)), nxV (nxV acc.2 (lkC (k0_pay1 v25 v27 v41 v45) v81 (rowsC (arg2.view.read (Elt F) X2)) (k0_t1.val / 2 - 1 - k0_t1.val / 2 % 2 - 2 * k.val))) (lkC (k0_pay1 v25 v27 v41 v45) v81 (rowsC (arg2.view.read (Elt F) X2)) (k0_t1.val / 2 - 1 - k0_t1.val / 2 % 2 - 2 * k.val - 1)))⌝ ∗ (arg2.view.loc (c : Thread nD τ) ↦[arg2.view.set]{fullShare} X2) ∗ (arg3.view.loc (c : Thread nD τ) ↦[arg3.view.set]{fullShare} X3))) := by
  have ht := lt16 k0_t1
  have hK1 : rowsC (arg2.view.read (Elt F) X2) (k0_t1.val / 2 - 1 - k0_t1.val / 2 % 2 - 2 * k.val) = arg2.view.readAt (Elt F) (Rect.unit (s := S2048x256) (k0_off5 k0_t1 k) S256x256.size (k0_off5_inb k0_t1 k)).toLoadRect X2 :=
    (readAt_ch arg2.view X2 (k0_t1.val / 2 - 1 - k0_t1.val / 2 % 2 - 2 * k.val) _ (off_ch _ (by omega) (k0_off5_eq k0_t1 k))).symm
  have hK2 : rowsC (arg2.view.read (Elt F) X2) (k0_t1.val / 2 - 1 - k0_t1.val / 2 % 2 - 2 * k.val - 1) = arg2.view.readAt (Elt F) (Rect.unit (s := S2048x256) (k0_off6 k0_t1 k) S256x256.size (k0_off6_inb k0_t1 k)).toLoadRect X2 :=
    (readAt_ch arg2.view X2 (k0_t1.val / 2 - 1 - k0_t1.val / 2 % 2 - 2 * k.val - 1) _ (off_ch _ (by omega) (k0_off6_eq k0_t1 k))).symm
  have hV1 : rowsC (arg3.view.read (Elt F) X3) (k0_t1.val / 2 - 1 - k0_t1.val / 2 % 2 - 2 * k.val) = arg3.view.readAt (Elt F) (Rect.unit (s := S2048x256) (k0_off5 k0_t1 k) S256x256.size (k0_off5_inb k0_t1 k)).toLoadRect X3 :=
    (readAt_ch arg3.view X3 (k0_t1.val / 2 - 1 - k0_t1.val / 2 % 2 - 2 * k.val) _ (off_ch _ (by omega) (k0_off5_eq k0_t1 k))).symm
  have hV2 : rowsC (arg3.view.read (Elt F) X3) (k0_t1.val / 2 - 1 - k0_t1.val / 2 % 2 - 2 * k.val - 1) = arg3.view.readAt (Elt F) (Rect.unit (s := S2048x256) (k0_off6 k0_t1 k) S256x256.size (k0_off6_inb k0_t1 k)).toLoadRect X3 :=
    (readAt_ch arg3.view X3 (k0_t1.val / 2 - 1 - k0_t1.val / 2 % 2 - 2 * k.val - 1) _ (off_ch _ (by omega) (k0_off6_eq k0_t1 k))).symm
  unfold wtC lkC
  rw [hK1, hK2, hV1, hV2]
  unfold k0_t4_body
  iintro ⟨H2, H3⟩
  sl_exec
  sl_step
  isplitr
  · ipureintro
    rfl
  isplitl [H2]; · iexact H2
  iexact H3

set_option warn.classDefReducibility false in
@[sl_loop] def loop2 (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (v25 : IVec S1024x256 32) (v27 : IVec S1024x256 32) (v41 : IVec S1024x256 1) (v45 : IVec S1024x256 1) (k0_t1 : Fin k0_t1_loop.trips) (v81 : FVec F S128x256 .bf16) (v98 : BitVec 32) (X2 : BufTy.Contents (Elt F) arg2.view.ty) (X3 : BufTy.Contents (Elt F) arg3.view.ty) (init : FVec F S128x256 .f32 × FVec F S128x1024 .f32) :
    Idealize.ShloMosaic.LoopInv (M := 𝕄G) Idealize.ShloMosaic.frame (wpE (defs₀ (F := F)) 𝒱 (c : Thread nD τ) bd) E
      (k0_t2_loop k0_t1).lb (k0_t2_loop k0_t1).ub (k0_t2_loop k0_t1).st (k0_t2_ok k0_t1) init
      (k0_t2_body (F := F) i arg1 harg1 arg2 harg2 arg3 harg3 arg4 harg4 v25 v27 v41 v45 k0_t1 v81 v98) where
  inv k acc := iprop((arg2.view.loc (c : Thread nD τ) ↦[arg2.view.set]{fullShare} X2) ∗ (arg3.view.loc (c : Thread nD τ) ↦[arg3.view.set]{fullShare} X3) ∗ ⌜acc = (dqR (k0_pay1 v25 v27 v41 v45) (fun j => (rowsC (arg3.view.read (Elt F) X3)) ((fun _ => k0_t1.val / 2 - 1) j)) init.1 (wtS (k0_pay1 v25 v27 v41 v45) (k0_pay3 (F := F)) v81 (rowsC (arg2.view.read (Elt F) X2)) (fun _ => k0_t1.val / 2 - 1) init.2) (k), lkS (k0_pay1 v25 v27 v41 v45) v81 (rowsC (arg2.view.read (Elt F) X2)) (fun _ => k0_t1.val / 2 - 1) init.2 (k))⌝)
  step k acc := by
    iintro ⟨H2, H3, %h_acc⟩
    subst h_acc
    iapply (wp_wand_r Idealize.ShloMosaic.frame (wpE (defs₀ (F := F)) 𝒱 (c : Thread nD τ) bd) E)
    isplitl [H2 H3]
    · iapply (trip2 (F := F) 𝒱 c bd i arg1 harg1 arg2 harg2 arg3 harg3 arg4 harg4 v25 v27 v41 v45 k0_t1 v81 v98 k E _ X2 X3)
      isplitl [H2]; · iexact H2
      iexact H3
    · iintro %yld ⟨%h_res, H2, H3⟩
      isplitl [H2]; · iexact H2
      isplitl [H3]; · iexact H3
      ipureintro
      rw [h_res]
      rw [dqR_succ, lkS_succ]; rfl

set_option warn.classDefReducibility false in
@[sl_loop] def loop4 (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (v25 : IVec S1024x256 32) (v27 : IVec S1024x256 32) (v41 : IVec S1024x256 1) (v45 : IVec S1024x256 1) (k0_t1 : Fin k0_t1_loop.trips) (v81 : FVec F S128x256 .bf16) (v98 : BitVec 32) (v211 : BitVec 32) (X2 : BufTy.Contents (Elt F) arg2.view.ty) (X3 : BufTy.Contents (Elt F) arg3.view.ty) (init : FVec F S128x256 .f32 × FVec F S128x1024 .f32) :
    Idealize.ShloMosaic.LoopInv (M := 𝕄G) Idealize.ShloMosaic.frame (wpE (defs₀ (F := F)) 𝒱 (c : Thread nD τ) bd) E
      (k0_t4_loop k0_t1).lb (k0_t4_loop k0_t1).ub (k0_t4_loop k0_t1).st (k0_t4_ok k0_t1) init
      (k0_t4_body (F := F) i arg1 harg1 arg2 harg2 arg3 harg3 arg4 harg4 v25 v27 v41 v45 k0_t1 v81 v98 v211) where
  inv k acc := iprop((arg2.view.loc (c : Thread nD τ) ↦[arg2.view.set]{fullShare} X2) ∗ (arg3.view.loc (c : Thread nD τ) ↦[arg3.view.set]{fullShare} X3) ∗ ⌜acc = (dqR (k0_pay1 v25 v27 v41 v45) (fun j => (rowsC (arg3.view.read (Elt F) X3)) ((fun j => k0_t1.val / 2 - 1 - k0_t1.val / 2 % 2 - j) j)) init.1 (wtS (k0_pay1 v25 v27 v41 v45) (k0_pay3 (F := F)) v81 (rowsC (arg2.view.read (Elt F) X2)) (fun j => k0_t1.val / 2 - 1 - k0_t1.val / 2 % 2 - j) init.2) (2 * k), lkS (k0_pay1 v25 v27 v41 v45) v81 (rowsC (arg2.view.read (Elt F) X2)) (fun j => k0_t1.val / 2 - 1 - k0_t1.val / 2 % 2 - j) init.2 (2 * k))⌝)
  step k acc := by
    iintro ⟨H2, H3, %h_acc⟩
    subst h_acc
    iapply (wp_wand_r Idealize.ShloMosaic.frame (wpE (defs₀ (F := F)) 𝒱 (c : Thread nD τ) bd) E)
    isplitl [H2 H3]
    · iapply (trip4 (F := F) 𝒱 c bd i arg1 harg1 arg2 harg2 arg3 harg3 arg4 harg4 v25 v27 v41 v45 k0_t1 v81 v98 v211 k E _ X2 X3)
      isplitl [H2]; · iexact H2
      iexact H3
    · iintro %yld ⟨%h_res, H2, H3⟩
      isplitl [H2]; · iexact H2
      isplitl [H3]; · iexact H3
      ipureintro
      rw [h_res]
      rw [show 2 * (k.val + 1) = 2 * k.val + 1 + 1 by omega, dqR_succ, dqR_succ, lkS_succ, lkS_succ]
      unfold wtS
      rw [lkS_succ, show (k0_t1.val / 2 - 1 - k0_t1.val / 2 % 2 - 2 * k.val - 1) = k0_t1.val / 2 - 1 - k0_t1.val / 2 % 2 - (2 * k.val + 1) by omega]

end Cert.SbFwdIdeal.Sbf

end
-- ==== Proof.FwdBlock.lean ====
/-
  The forward pass of the stick-breaking attention: what one query block stores.
-/
module

public import proofs.«01_k».proof.Proof.FwdTrips
public import Idealize.ShloMosaic.Lib.Exec
public import Idealize.ShloMosaic.Lib.Tactic
public import Idealize.ShloMosaic.Lib.Pipeline.Kit
public import Idealize.ShloMosaic.Lib.LoopRemainder

@[expose] public section

set_option maxRecDepth 16384
set_option maxHeartbeats 4000000

noncomputable section

namespace Cert.SbFwdIdeal.Sbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbFwdIdeal Cert.SbFwdIdeal.Gen
open Cert.KernelIdeal.Sbw (rowsC rowsB readAt_ch readAt_bl piece_eq blI bl off_ch off_bl zV lkV attV nxV dqV dqR dqR_zero dqR_succ lkC lkS lkS_zero lkS_succ
  wtC wtS QB qb qbq qbn tF oB oW BD ROW ofB rowsB_hit rowsB_miss)

variable {F : FTy → Type} [FloatOps F]
local notation "𝕄G" => MT nD τ sig Unit (Elt F) ℕ (UR sig nD τ) ℕ

/-- The data of the query block `t`, from its queries. -/
def qbl (bd : IVec S1024x256 1) (v51 : IVec S128x1024 32) (K V : S2048x256.Idx → Elt F .bf16) (q : FVec F S128x256 .bf16) (t : Fin k0_t1_loop.trips) : QB F where
  bd := bd
  later := k0_pay3
  ear := Cert.KernelIdeal.Gen.k0_pay4
  m := k0_pay62 v51 k0_pay2 0#32 1#32 t
  q := q
  g := Cert.KernelIdeal.Gen.k0_pay117 (rowsB (fun _ => Scalar.ofBits .f32 0x00000000#32) t.val)
  K := rowsC K
  V := rowsC V
  cd := t.val / 2

theorem qbl_eq (bd : IVec S1024x256 1) (v51 : IVec S128x1024 32) (Q K V : S2048x256.Idx → Elt F .bf16) (t : Fin k0_t1_loop.trips) :
    qbl bd v51 K V (k0_pay61 (rowsB Q t.val)) t = qbn bd v51 Q K V (fun _ => Scalar.ofBits .f32 0x00000000#32) t.val := by
  have h : tF t.val = ⟨t.val, lt_of_lt_of_eq (lt16 t) Cert.KernelIdeal.Sbw.trips1.symm⟩ := Fin.ext (Nat.mod_eq_of_lt (lt16 t))
  rw [qbn, h]
  rfl

/-- What the loops leave in the accumulator, started from the diagonal chunk's. -/
theorem ow_res (b : QB F) (acc : FVec F S128x256 .f32) (cs : FVec F S128x1024 .f32) (n2 n4 : ℕ) (h1 : acc = b.ow1) (h2 : cs = b.cs1) (e2 : n2 = b.cd % 2) (e4 : n4 = b.cd / 2) :
    dqR b.bd (fun j => b.V (b.o4 j)) (dqR b.bd (fun j => b.V (b.o2 j)) acc (wtS b.bd b.later b.q b.K b.o2 cs) n2)
      (wtS b.bd b.later b.q b.K b.o4 (lkS b.bd b.q b.K b.o2 cs n2)) (2 * n4) = b.ow (b.cd + 1) := by
  subst h1 h2 e2 e4
  exact QB.ow_all b

theorem pts_eq {sp : Space} {s : Shape} {e : EltTy} (m : Memref sig .tc sp s e) (c : Dev nD) {f g : BufTy.Contents (Elt F) m.view.ty} (h : f = g) :
    (m.view.loc (c : Thread nD τ) ↦[m.view.set]{fullShare} f : sProp 𝕄G) ⊢ (m.view.loc (c : Thread nD τ) ↦[m.view.set]{fullShare} g) := by rw [h]

theorem trip1 (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (v25 : IVec S1024x256 32) (v27 : IVec S1024x256 32) (v41 : IVec S1024x256 1) (v45 : IVec S1024x256 1) (v51 : IVec S128x1024 32) (t : Fin k0_t1_loop.trips) (E : Set ℕ) (X1 : BufTy.Contents (Elt F) arg1.view.ty) (X2 : BufTy.Contents (Elt F) arg2.view.ty) (X3 : BufTy.Contents (Elt F) arg3.view.ty) (f4 : BufTy.Contents (Elt F) arg4.view.ty) :
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} f4) : sProp 𝕄G)
      ⊢ wp frame (wpE (defs₀ (F := F)) 𝒱 (c : Thread nD τ) bd) E (k0_t1_body (F := F) i arg1 harg1 arg2 harg2 arg3 harg3 arg4 harg4 v25 v27 v41 v45 v51 t ())
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} (arg4.view.writes (Elt F) f4 [⟨bl t.val, k0_pay12 ((qbl (k0_pay1 v25 v27 v41 v45) v51 (arg2.view.read (Elt F) X2) (arg3.view.read (Elt F) X3) (k0_pay61 (rowsB (arg1.view.read (Elt F) X1) t.val)) t).ow (t.val / 2 + 1))⟩])))) := by
  have ht := lt16 t
  have hq : rowsB (arg1.view.read (Elt F) X1) t.val = arg1.view.readAt (Elt F) (Rect.unit (s := S2048x256) (k0_off1 t) S128x256.size (k0_off1_inb t)).toLoadRect X1 :=
    (readAt_bl arg1.view X1 t.val _ (off_bl _ ht (k0_off1_eq t))).symm
  have hk : rowsC (arg2.view.read (Elt F) X2) (t.val / 2) = arg2.view.readAt (Elt F) (Rect.unit (s := S2048x256) (k0_off2 t) S256x256.size (k0_off2_inb t)).toLoadRect X2 :=
    (readAt_ch arg2.view X2 (t.val / 2) _ (off_ch _ (by omega) (k0_off2_eq t))).symm
  have hv : rowsC (arg3.view.read (Elt F) X3) (t.val / 2) = arg3.view.readAt (Elt F) (Rect.unit (s := S2048x256) (k0_off2 t) S256x256.size (k0_off2_inb t)).toLoadRect X3 :=
    (readAt_ch arg3.view X3 (t.val / 2) _ (off_ch _ (by omega) (k0_off2_eq t))).symm
  have n2 : Scf.trips (k0_t2_loop t).lb (k0_t2_loop t).ub (k0_t2_loop t).st = t.val / 2 % 2 := trips2 t
  have n4 : Scf.trips (k0_t4_loop t).lb (k0_t4_loop t).ub (k0_t4_loop t).st = t.val / 2 / 2 := trips4 t
  rw [hq]
  unfold k0_t1_body
  iintro ⟨H1, H2, H3, H4⟩
  sl_exec
  sl_step
  isplitl [H1]; · iexact H1
  isplitl [H2]; · iexact H2
  isplitl [H3]; · iexact H3
  have hb : (qbl (k0_pay1 v25 v27 v41 v45) v51 (arg2.view.read (Elt F) X2) (arg3.view.read (Elt F) X3) (k0_pay61 (arg1.view.readAt (Elt F) (Rect.unit (s := S2048x256) (k0_off1 t) S128x256.size (k0_off1_inb t)).toLoadRect X1)) t).K (qbl (k0_pay1 v25 v27 v41 v45) v51 (arg2.view.read (Elt F) X2) (arg3.view.read (Elt F) X3) (k0_pay61 (arg1.view.readAt (Elt F) (Rect.unit (s := S2048x256) (k0_off1 t) S128x256.size (k0_off1_inb t)).toLoadRect X1)) t).cd = (arg2.view.readAt (Elt F) (Rect.unit (s := S2048x256) (k0_off2 t) S256x256.size (k0_off2_inb t)).toLoadRect X2) := hk
  have hb' : (qbl (k0_pay1 v25 v27 v41 v45) v51 (arg2.view.read (Elt F) X2) (arg3.view.read (Elt F) X3) (k0_pay61 (arg1.view.readAt (Elt F) (Rect.unit (s := S2048x256) (k0_off1 t) S128x256.size (k0_off1_inb t)).toLoadRect X1)) t).V (qbl (k0_pay1 v25 v27 v41 v45) v51 (arg2.view.read (Elt F) X2) (arg3.view.read (Elt F) X3) (k0_pay61 (arg1.view.readAt (Elt F) (Rect.unit (s := S2048x256) (k0_off1 t) S128x256.size (k0_off1_inb t)).toLoadRect X1)) t).cd = (arg3.view.readAt (Elt F) (Rect.unit (s := S2048x256) (k0_off2 t) S256x256.size (k0_off2_inb t)).toLoadRect X3) := hv
  iapply (pts_eq arg4 c ?e4)
  rotate_left
  · iexact H4
  · refine Eq.trans (congrArg (fun p => arg4.view.writes (Elt F) f4 [p]) (piece_eq (Val := Elt F) (e := .bf16) (s := S2048x256) (size := S128x256.size) (k0_off1_inb t) (blI t.val) (off_bl _ ht (k0_off1_eq t)) _)) ?_
    refine congrArg (fun w => arg4.view.writes (Elt F) f4 [⟨bl t.val, k0_pay12 w⟩]) ?_
    have h1 : trip1.sl.r_4 arg1 arg2 arg3 v25 v27 v41 v45 v51 t X1 X2 X3 = (qbl (k0_pay1 v25 v27 v41 v45) v51 (arg2.view.read (Elt F) X2) (arg3.view.read (Elt F) X3) (k0_pay61 (arg1.view.readAt (Elt F) (Rect.unit (s := S2048x256) (k0_off1 t) S128x256.size (k0_off1_inb t)).toLoadRect X1)) t).ow1 := by
      rw [QB.ow1, QB.wtd, hb, hb']; rfl
    have h2 : trip1.sl.r_5 arg1 arg2 v25 v27 v41 v45 v51 t X1 X2 = (qbl (k0_pay1 v25 v27 v41 v45) v51 (arg2.view.read (Elt F) X2) (arg3.view.read (Elt F) X3) (k0_pay61 (arg1.view.readAt (Elt F) (Rect.unit (s := S2048x256) (k0_off1 t) S128x256.size (k0_off1_inb t)).toLoadRect X1)) t).cs1 := by
      rw [QB.cs1, lkC, hb]; rfl
    exact ow_res (qbl (k0_pay1 v25 v27 v41 v45) v51 (arg2.view.read (Elt F) X2) (arg3.view.read (Elt F) X3) (k0_pay61 (arg1.view.readAt (Elt F) (Rect.unit (s := S2048x256) (k0_off1 t) S128x256.size (k0_off1_inb t)).toLoadRect X1)) t) _ _ _ _ h1 h2 n2 n4

end Cert.SbFwdIdeal.Sbf

end
-- ==== Proof.FwdBody.lean ====
/-
  The forward pass of the stick-breaking attention: the loop over the query blocks, and the output it leaves.
-/
module

public import proofs.«01_k».proof.Proof.FwdBlock
public import Idealize.ShloMosaic.Lib.Exec
public import Idealize.ShloMosaic.Lib.Tactic
public import Idealize.ShloMosaic.Lib.Pipeline.Kit
public import Idealize.ShloMosaic.Lib.LoopRemainder

@[expose] public section

set_option maxRecDepth 16384
set_option maxHeartbeats 4000000

noncomputable section

namespace Cert.SbFwdIdeal.Sbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbFwdIdeal Cert.SbFwdIdeal.Gen
open Cert.KernelIdeal.Sbw (rowsC rowsB readAt_ch readAt_bl piece_eq blI bl off_ch off_bl zV lkV attV nxV dqV dqR dqR_zero dqR_succ lkC lkS lkS_zero lkS_succ
  wtC wtS QB qb qbq qbn oB oW BD ROW ofB rowsB_hit rowsB_miss)

variable {F : FTy → Type} [FloatOps F]
local notation "𝕄G" => MT nD τ sig Unit (Elt F) ℕ (UR sig nD τ) ℕ

theorem BD_eq : k0_pay1 k0_pay70 k0_pay71 k0_pay72 k0_pay73 = BD := rfl
theorem oB_eq (Q K V : S2048x256.Idx → Elt F .bf16) (t : Fin k0_t1_loop.trips) :
    k0_pay12 ((qbl BD ROW K V (k0_pay61 (rowsB Q t.val)) t).ow (t.val / 2 + 1)) = oB Q K V t.val := by
  have h : (qbl BD ROW K V (k0_pay61 (rowsB Q t.val)) t).cd = t.val / 2 := rfl
  rw [← h, qbl_eq, oB]
  rfl

theorem lt_trips (n : ℕ) : n % 16 < k0_t1_loop.trips := by rw [show k0_t1_loop.trips = 16 from trips1]; omega

/-- Query block `n`. -/
def tF (n : ℕ) : Fin k0_t1_loop.trips := ⟨n % 16, lt_trips n⟩

theorem tF_val (t : Fin k0_t1_loop.trips) : tF t.val = t := Fin.ext (Nat.mod_eq_of_lt (lt16 t))

/-- What query block `n` stores. -/
def blkV (bd : IVec S1024x256 1) (v51 : IVec S128x1024 32) (Q K V : S2048x256.Idx → Elt F .bf16) (n : ℕ) : S128x256.Idx → Elt F .bf16 :=
  k0_pay12 ((qbl bd v51 K V (k0_pay61 (rowsB Q (tF n).val)) (tF n)).ow ((tF n).val / 2 + 1))

theorem blkV_eq (Q K V : S2048x256.Idx → Elt F .bf16) (n : ℕ) (hn : n < 16) : blkV BD ROW Q K V n = oB Q K V n := by
  have h : (tF n).val = n := Nat.mod_eq_of_lt hn
  rw [blkV, oB_eq, h]

attribute [irreducible] blkV

set_option warn.classDefReducibility false in
@[sl_loop] def loop1 (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (v25 : IVec S1024x256 32) (v27 : IVec S1024x256 32) (v41 : IVec S1024x256 1) (v45 : IVec S1024x256 1) (v51 : IVec S128x1024 32) (X1 : BufTy.Contents (Elt F) arg1.view.ty) (X2 : BufTy.Contents (Elt F) arg2.view.ty) (X3 : BufTy.Contents (Elt F) arg3.view.ty) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok ⟨⟩
      (k0_t1_body (F := F) i arg1 harg1 arg2 harg2 arg3 harg3 arg4 harg4 v25 v27 v41 v45 v51) where
  inv k acc := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, (arg4.view.loc (c : Thread nD τ) ↦[arg4.view.set]{fullShare} f) ∗ ⌜∀ j, j < k → rowsB (arg4.view.read (Elt F) f) j = blkV (k0_pay1 v25 v27 v41 v45) v51 (arg1.view.read (Elt F) X1) (arg2.view.read (Elt F) X2) (arg3.view.read (Elt F) X3) j⌝))
  step k acc := by
    iintro ⟨H1, H2, H3, ⟨%f4, H4, %h4⟩⟩
    have hk : k.val < 16 := lt16 k
    iapply (wp_wand_r Idealize.ShloMosaic.frame (wpE (defs₀ (F := F)) 𝒱 (c : Thread nD τ) bd) E)
    isplitl [H1 H2 H3 H4]
    · iapply (trip1 (F := F) 𝒱 c bd i arg1 harg1 arg2 harg2 arg3 harg3 arg4 harg4 v25 v27 v41 v45 v51 k E X1 X2 X3 f4)
      isplitl [H1]; · iexact H1
      isplitl [H2]; · iexact H2
      isplitl [H3]; · iexact H3
      iexact H4
    · iintro %yld ⟨H1, H2, H3, H4⟩
      isplitl [H1]; · iexact H1
      isplitl [H2]; · iexact H2
      isplitl [H3]; · iexact H3
      iexists _; isplitl [H4]; · iexact H4
      ipureintro
      intro j hj
      by_cases e : j = k.val
      · subst e
        rw [rowsB_hit, blkV, tF_val]
      · rw [rowsB_miss _ _ _ _ (by omega), View.writes_nil, h4 j (by omega)]

/-- The body leaves its inputs as they are and its output at the attention's. -/
theorem run_body (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (X1 : BufTy.Contents (Elt F) arg1.view.ty) (X2 : BufTy.Contents (Elt F) arg2.view.ty) (X3 : BufTy.Contents (Elt F) arg3.view.ty) (f4 : BufTy.Contents (Elt F) arg4.view.ty) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} f4) : sProp 𝕄G)
      ⊢ wp frame (wpE (defs₀ (F := F)) 𝒱 (c : Thread nD τ) bd) E (cc0_sb_fwd_skel (F := F) i arg1 harg1 arg2 harg2 arg3 harg3 arg4 harg4)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, (arg4.view.loc (c : Thread nD τ) ↦[arg4.view.set]{fullShare} f) ∗ ⌜arg4.view.read (Elt F) f = oW (arg1.view.read (Elt F) X1) (arg2.view.read (Elt F) X2) (arg3.view.read (Elt F) X3)⌝))) := by
  unfold cc0_sb_fwd_skel
  iintro ⟨H1, H2, H3, H4⟩
  sl_exec
  have t16 : Scf.trips k0_t1_loop.lb k0_t1_loop.ub k0_t1_loop.st = 16 := trips1
  rw [t16] at hL4
  sl_step
  isplitl [H1]; · iexact H1
  isplitl [H2]; · iexact H2
  isplitl [H3]; · iexact H3
  iexists _; isplitl [H4]; · iexact H4
  ipureintro
  funext x
  have hx := (x 0).isLt; change (x 0).val < 2048 at hx
  exact (ofB _ x).symm.trans (congrFun ((hL4 _ (by omega)).trans (blkV_eq _ _ _ _ (by omega))) _)

end Cert.SbFwdIdeal.Sbf

end
-- ==== Proof.FwdRun.lean ====
/-
  The forward attention's launch: the blocks the pipeline hands the body, what the body leaves, and the run of the whole program.
-/
module

public import proofs.«01_k».proof.Proof.FwdBody
public import proofs.«01_k».proof.Proof.Gen.SbFwdIdeal.Frame
public import Idealize.ShloMosaic.Lib.Pipeline.Kit
public import Idealize.ShloMosaic.Lib.LoopRemainder

@[expose] public section

set_option maxRecDepth 8192
set_option maxHeartbeats 4000000

noncomputable section

namespace Cert.SbFwdIdeal.Sbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbFwdIdeal Cert.SbFwdIdeal.Gen
open Cert.KernelIdeal.Sbw (oW)
open Idealize.ShloMosaic.Rounds
open Idealize.ShloMosaic.Pipeline (Dat Cfg Window BodyObligation BodyObligationLoose cellOf)

variable {F : FTy → Type} [FloatOps F]
local notation "𝕄G" => MT nD τ sig Unit (Elt F) ℕ (UR sig nD τ) ℕ

variable (m : (ℓ : Loc nD τ sig) → Buf (Elt F) ℓ) (ρ : Dev nD → PrngReg)

/-- The block of the queries, of the keys and of the values at point `t`. -/
def inQ (c : Dev nD) (t : Fin cfg0.N) : S2048x256.Idx → Elt F .bf16 := iblk m c 0 t
def inK (c : Dev nD) (t : Fin cfg0.N) : S2048x256.Idx → Elt F .bf16 := iblk m c 1 t
def inV (c : Dev nD) (t : Fin cfg0.N) : S2048x256.Idx → Elt F .bf16 := iblk m c 2 t

/-- What the body leaves in the staging buffers at point `t`. -/
def aft (c : Dev nD) : (w : Fin cfg0.W) → Fin cfg0.N → (cfg0.win w).block.Idx → Elt F (cfg0.win w).elt :=
  fun | 0 => fun t => inQ m c t | 1 => fun t => inK m c t | 2 => fun t => inV m c t
      | 3 => fun t => oW (inQ m c t) (inK m c t) (inV m c t)
      | ⟨_ + 4, h⟩ => absurd h (Nat.not_lt.2 (Nat.le_add_left _ _))

/-- The proof data of the one pipeline. -/
def dats : (p : Fin 1) → (c : Dev nD) → Dat τ (Elt F) Unit ℕ (UR sig nD τ) ℕ (cfgs p) c :=
  fun | 0 => fun c =>
        { A := fun w => V m c (Pipeline.arrRef spec0 w)
          after := aft m c
          Φ := fun _ => Pipeline.ΦA spec0 c
          q := fun w => Pipeline.shareOf spec0 w
          owed := fun _ => 0 }
      | ⟨_ + 1, h⟩ => absurd h (Nat.not_lt.2 (Nat.le_add_left _ _))

/-- Every point's body meets its obligation. -/
theorem body_ok (c : Dev nD) : BodyObligationLoose (dats (F := F) m 0 c) (defs₀ (F := F)) Variants.none () Set.univ := fun t => by
  rw [bigSep_W0, bigSep_W0]
  show _ ⊢ wp Idealize.ShloMosaic.frame (wpE (defs₀ (F := F)) Variants.none (c : Thread nD τ) none) Set.univ (bodyAt0 (F := F) t) _
  rw [show (dats (F := F) m 0 c).Φ t.castSucc = Pipeline.ΦA spec0 c from rfl, show (dats (F := F) m 0 c).Φ t.succ = Pipeline.ΦA spec0 c from rfl,
    show (dats (F := F) m 0 c).owesAt () t.succ = (dats (F := F) m 0 c).owesAt () t.castSucc from rfl]
  unfold bodyAt0
  rw [cc0_sb_fwd_eq_skeleton]
  unfold Pipeline.ΦA
  rw [scopedRest0_eq]
  simp only [owns]
  iintro ⟨Hg, Ho, ⟨%d0, %X1, %h1, H1⟩, ⟨%d1, %X2, %h2, H2⟩, ⟨%d2, %X3, %h3, H3⟩, ⟨%d3, %f4, -, H4⟩⟩
  rw [before0_0_of m (dats m 0 c) rfl (fun _ => rfl)] at h1
  rw [before0_1_of m (dats m 0 c) rfl (fun _ => rfl)] at h2
  rw [before0_2_of m (dats m 0 c) rfl (fun _ => rfl)] at h3
  iapply (wp_wand_r Idealize.ShloMosaic.frame (wpE (defs₀ (F := F)) Variants.none (c : Thread nD τ) none) Set.univ)
  isplitl [H1 H2 H3 H4]
  · iapply (run_body (F := F) Variants.none c none Set.univ (grid0.coords t) (st0_0 t) _ (st0_1 t) _ (st0_2 t) _ (st0_3 t) _ X1 X2 X3 f4)
    isplitl [H1]; · iexact H1
    isplitl [H2]; · iexact H2
    isplitl [H3]; · iexact H3
    iexact H4
  · iintro %_ ⟨H1, H2, H3, ⟨%g4, H4, %e4⟩⟩
    rw [h1, h2, h3] at e4
    isplitl [Hg]
    · iexact Hg
    isplitl [Ho]; · iexact Ho
    isplitl [H1]
    · iexists _; isplitr; swap; (· iexact H1); ipureintro; exact h1
    isplitl [H2]
    · iexists _; isplitr; swap; (· iexact H2); ipureintro; exact h2
    isplitl [H3]
    · iexists _; isplitr; swap; (· iexact H3); ipureintro; exact h3
    · iexists _; isplitr; swap; (· iexact H4); ipureintro; exact e4

/-- The run: the arrays end at what the proof data computes, every semaphore at zero. -/
theorem run_main : θ_run defs (onTc (τ := τ) (main (F := F))) (s₀ m ρ) (fun r => Pipeline.FramePost cfgs (dats (F := F) m) 0 (V m) r ∧ r.2.sem = fun _ => 0) :=
  Pipeline.θ_run_frame_shared cfgs (dats (F := F) m) 0 launch₀0 defs₀ Variants.none m ρ main (fun c => body_ok m c) (fun _ _ _ => rfl) (fun _ _ => rfl) (V m) (hmain m Variants.none)
    (fun _ _ => rfl) (fun _ _ => rfl) (Q' := _) (hQ' := fun _ h => h)

end Cert.SbFwdIdeal.Sbf
-- ==== Proof.Soft.lean ====
/-
  The reference's softplus, its derivative and its running sums, over real numbers.
-/
module

public import proofs.«01_k».proof.Proof.Chunk
public import proofs.«01_k».proof.Proof.Gen.ReferenceIdeal.Read

@[expose] public section

set_option maxRecDepth 16384
set_option maxHeartbeats 4000000

noncomputable section

namespace Cert.ReferenceIdeal.Sbr

open Idealize.ShloMosaic Idealize.ShloMosaic.StableHlo Idealize.ShloMosaic.ValueIdx
open Cert.KernelIdeal.Sbw (lkR coe_sum coe_max log_pos_coe)
open Finset

/-! ### The logarithm of the logistic -/

theorem lkR_neg (z : ℝ) : lkR (-z) = z + lkR z := by
  unfold lkR
  rw [abs_neg]
  rcases le_total 0 z with h | h
  · rw [max_eq_right (by linarith), max_eq_left h]; ring
  · rw [max_eq_left (by linarith), max_eq_right h]; ring

theorem lkR_eq (z : ℝ) : lkR z = -Real.log (1 + Real.exp z) := by
  rcases le_total 0 z with h | h
  · unfold lkR
    rw [max_eq_left h, abs_of_nonneg h]
    congr 1
    have e : 1 + Real.exp z = Real.exp z * (1 + Real.exp (-z)) := by
      rw [mul_add, mul_one, ← Real.exp_add]; simp [add_comm]
    rw [e, Real.log_mul (Real.exp_ne_zero _) (by positivity), Real.log_exp]
  · unfold lkR
    rw [max_eq_right h, abs_of_nonpos h, neg_neg, zero_add]

/-- The logistic of a number and of its negation sum to one. -/
theorem logistic_sum (z : ℝ) : Real.exp (lkR z) + Real.exp (z + lkR z) = 1 := by
  have hp : 0 < 1 + Real.exp z := by positivity
  rw [Real.exp_add, lkR_eq, Real.exp_neg, Real.exp_log hp]
  field_simp

theorem zero32 : Ideal.ofBits .f32 0x00000000#32 = ((0 : ℝ) : EReal) := by rw [Ideal.ofBits_zero_f32]; rfl
theorem inf32 : Ideal.ofBits .f32 0x7F800000#32 = ⊤ := by simp [Ideal.ofBits, Ideal.ieee]

/-- The softplus as the reference computes it. -/
def spE (x : EReal) : EReal :=
  Scalar.select (Ideal.cmp .une (x - Ideal.ofBits .f32 0x00000000#32) (x - Ideal.ofBits .f32 0x00000000#32)) (x + Ideal.ofBits .f32 0x00000000#32)
    (max x (Ideal.ofBits .f32 0x00000000#32)
      + Ideal.log1p (Ideal.exp (-(max (x - Ideal.ofBits .f32 0x00000000#32) (-(x - Ideal.ofBits .f32 0x00000000#32))))))
/-- Its derivative as the reference computes it. -/
def sgE (x : EReal) : EReal :=
  Ideal.exp (Scalar.select (Ideal.cmp .oeq x (Ideal.ofBits .f32 0x7F800000#32)) (Ideal.ofBits .f32 0x00000000#32) x
    - Scalar.select (Ideal.cmp .oeq (spE x) (Ideal.ofBits .f32 0x7F800000#32)) (Ideal.ofBits .f32 0x00000000#32) (spE x))

theorem spE_coe (z : ℝ) : spE (z : EReal) = ((-lkR z : ℝ) : EReal) := by
  have e : (z : EReal) - Ideal.ofBits .f32 0x00000000#32 = (z : EReal) := by rw [zero32, ← EReal.coe_sub, sub_zero]
  have c : Ideal.cmp .une (z : EReal) (z : EReal) = 0#1 := by simp [Ideal.cmp]
  have a : max (z : EReal) (-(z : EReal)) = ((|z| : ℝ) : EReal) := by rw [← EReal.coe_neg, ← coe_max]; rfl
  unfold spE
  rw [e, c, select_zero, a, zero32, ← coe_max, ← EReal.coe_neg]
  have l : Ideal.log1p (Ideal.exp ((-|z| : ℝ) : EReal)) = ((Real.log (1 + Real.exp (-|z|)) : ℝ) : EReal) := by
    show Ideal.log (1 + ((Real.exp (-|z|) : ℝ) : EReal)) = _
    rw [← EReal.coe_one, ← EReal.coe_add, log_pos_coe _ (by positivity)]
  rw [l, ← EReal.coe_add, lkR, neg_neg]

theorem sgE_coe (z : ℝ) : sgE (z : EReal) = ((Real.exp (z + lkR z) : ℝ) : EReal) := by
  have c : ∀ y : ℝ, Ideal.cmp .oeq (y : EReal) (Ideal.ofBits .f32 0x7F800000#32) = 0#1 := fun y => by
    rw [inf32]; simp [Ideal.cmp]
  unfold sgE
  rw [spE_coe, c, c, select_zero, select_zero, ← EReal.coe_sub, sub_neg_eq_add]
  rfl

/-! ### Running sums along the last axis -/

/-- The array holds the real numbers `f b h s j`. -/
def Is4 {n : Fin 4 → ℕ} (x : (⟨4, n⟩ : Shape).Idx → EReal) (f : ℕ → ℕ → ℕ → ℕ → ℝ) : Prop :=
  ∀ i : (⟨4, n⟩ : Shape).Idx, x i = ((f (i 0).val (i 1).val (i 2).val (i 3).val : ℝ) : EReal)

theorem foldl_sum {α : Type} (l : List α) (G : α → EReal) (v : EReal) : l.foldl (fun r n => r + G n) v = v + (l.map G).sum := by
  induction l generalizing v with
  | nil => simp
  | cons a l ih => rw [List.foldl_cons, ih, List.map_cons, List.sum_cons, add_assoc]

/-- A window along the last axis, as its one moving coordinate. -/
def winEquiv : (⟨4, ![1, 1, 1, 2048]⟩ : Shape).Idx ≃ Fin 2048 where
  toFun w := w 3
  invFun k := fun a => match a with
    | ⟨0, _⟩ => ⟨0, Nat.one_pos⟩
    | ⟨1, _⟩ => ⟨0, Nat.one_pos⟩
    | ⟨2, _⟩ => ⟨0, Nat.one_pos⟩
    | ⟨3, _⟩ => k
  left_inv w := funext fun a => by
    fin_cases a
    · exact Fin.ext (Nat.lt_one_iff.1 (w 0).isLt).symm
    · exact Fin.ext (Nat.lt_one_iff.1 (w 1).isLt).symm
    · exact Fin.ext (Nat.lt_one_iff.1 (w 2).isLt).symm
    · rfl
  right_inv _ := rfl

theorem window_is {x : S2x4x2048x2048.Idx → EReal} {f : ℕ → ℕ → ℕ → ℕ → ℝ} (hx : Is4 (n := ![2, 4, 2048, 2048]) x f) (L H : ℕ)
    (h : S2x4x2048x2048.ReduceWindows ![1, 1, 1, 2048] ![1, 1, 1, 1] ![0, 0, 0, L] ![0, 0, 0, H] S2x4x2048x2048) (i : S2x4x2048x2048.Idx) :
    Ideal.hostReduceWindowAdd ![1, 1, 1, 2048] ![1, 1, 1, 1] ![0, 0, 0, L] ![0, 0, 0, H] h x 0 i
      = ((∑ n ∈ range 2048, if L ≤ (i 3).val + n ∧ (i 3).val + n - L < 2048 then f (i 0).val (i 1).val (i 2).val ((i 3).val + n - L) else 0 : ℝ) : EReal) := by
  unfold Ideal.hostReduceWindowAdd Host.reduceWindow
  refine (foldl_sum _ _ _).trans ?_
  rw [zero_add, ← Fin.sum_univ_def]
  rw [coe_sum, Finset.sum_range]
  refine Fintype.sum_equiv ((⟨4, ![1, 1, 1, 2048]⟩ : Shape).rowMajor.symm.trans winEquiv) _ _ fun n => ?_
  have hk : (((⟨4, ![1, 1, 1, 2048]⟩ : Shape).rowMajor.symm.trans winEquiv) n).val = ((⟨4, ![1, 1, 1, 2048]⟩ : Shape).rowMajor.symm n 3).val := rfl
  rw [hk]
  have w0 : ((⟨4, ![1, 1, 1, 2048]⟩ : Shape).rowMajor.symm n 0).val = 0 := Nat.lt_one_iff.1 ((⟨4, ![1, 1, 1, 2048]⟩ : Shape).rowMajor.symm n 0).isLt
  have w1 : ((⟨4, ![1, 1, 1, 2048]⟩ : Shape).rowMajor.symm n 1).val = 0 := Nat.lt_one_iff.1 ((⟨4, ![1, 1, 1, 2048]⟩ : Shape).rowMajor.symm n 1).isLt
  have w2 : ((⟨4, ![1, 1, 1, 2048]⟩ : Shape).rowMajor.symm n 2).val = 0 := Nat.lt_one_iff.1 ((⟨4, ![1, 1, 1, 2048]⟩ : Shape).rowMajor.symm n 2).isLt
  have i0 : (i 0).val < 2 := (i 0).isLt
  have i1 : (i 1).val < 4 := (i 1).isLt
  have i2 : (i 2).val < 2048 := (i 2).isLt
  by_cases hc : L ≤ (i 3).val + ((⟨4, ![1, 1, 1, 2048]⟩ : Shape).rowMajor.symm n 3).val ∧ (i 3).val + ((⟨4, ![1, 1, 1, 2048]⟩ : Shape).rowMajor.symm n 3).val - L < 2048
  · rw [if_pos hc]
    have hin : ∀ a : Fin 4, (![0, 0, 0, L] : Fin 4 → ℕ) a ≤ (i a).val * (![1, 1, 1, 1] : Fin 4 → ℕ) a + ((⟨4, ![1, 1, 1, 2048]⟩ : Shape).rowMajor.symm n a).val
        ∧ (i a).val * (![1, 1, 1, 1] : Fin 4 → ℕ) a + ((⟨4, ![1, 1, 1, 2048]⟩ : Shape).rowMajor.symm n a).val - (![0, 0, 0, L] : Fin 4 → ℕ) a < S2x4x2048x2048.size a := by
      intro a
      fin_cases a
      · show 0 ≤ (i 0).val * 1 + ((⟨4, ![1, 1, 1, 2048]⟩ : Shape).rowMajor.symm n 0).val ∧ (i 0).val * 1 + ((⟨4, ![1, 1, 1, 2048]⟩ : Shape).rowMajor.symm n 0).val - 0 < 2; omega
      · show 0 ≤ (i 1).val * 1 + ((⟨4, ![1, 1, 1, 2048]⟩ : Shape).rowMajor.symm n 1).val ∧ (i 1).val * 1 + ((⟨4, ![1, 1, 1, 2048]⟩ : Shape).rowMajor.symm n 1).val - 0 < 4; omega
      · show 0 ≤ (i 2).val * 1 + ((⟨4, ![1, 1, 1, 2048]⟩ : Shape).rowMajor.symm n 2).val ∧ (i 2).val * 1 + ((⟨4, ![1, 1, 1, 2048]⟩ : Shape).rowMajor.symm n 2).val - 0 < 2048; omega
      · show L ≤ (i 3).val * 1 + ((⟨4, ![1, 1, 1, 2048]⟩ : Shape).rowMajor.symm n 3).val ∧ (i 3).val * 1 + ((⟨4, ![1, 1, 1, 2048]⟩ : Shape).rowMajor.symm n 3).val - L < 2048; omega
    refine (dif_pos hin).trans ((hx _).trans ?_)
    show ((f ((i 0).val * 1 + ((⟨4, ![1, 1, 1, 2048]⟩ : Shape).rowMajor.symm n 0).val - 0) ((i 1).val * 1 + ((⟨4, ![1, 1, 1, 2048]⟩ : Shape).rowMajor.symm n 1).val - 0) ((i 2).val * 1 + ((⟨4, ![1, 1, 1, 2048]⟩ : Shape).rowMajor.symm n 2).val - 0) ((i 3).val * 1 + ((⟨4, ![1, 1, 1, 2048]⟩ : Shape).rowMajor.symm n 3).val - L) : ℝ) : EReal) = _
    rw [w0, w1, w2]; simp only [Nat.mul_one, Nat.add_zero, Nat.sub_zero]
  · rw [if_neg hc]
    refine (dif_neg fun hin => hc ?_).trans EReal.coe_zero.symm
    have := hin 3
    change L ≤ (i 3).val * 1 + ((⟨4, ![1, 1, 1, 2048]⟩ : Shape).rowMajor.symm n 3).val ∧ (i 3).val * 1 + ((⟨4, ![1, 1, 1, 2048]⟩ : Shape).rowMajor.symm n 3).val - L < 2048 at this
    omega

theorem window_rev {x : S2x4x2048x2048.Idx → EReal} {f : ℕ → ℕ → ℕ → ℕ → ℝ} (hx : Is4 (n := ![2, 4, 2048, 2048]) x f)
    (h : S2x4x2048x2048.ReduceWindows ![1, 1, 1, 2048] ![1, 1, 1, 1] ![0, 0, 0, 0] ![0, 0, 0, 2047] S2x4x2048x2048) :
    Is4 (n := ![2, 4, 2048, 2048]) (Ideal.hostReduceWindowAdd ![1, 1, 1, 2048] ![1, 1, 1, 1] ![0, 0, 0, 0] ![0, 0, 0, 2047] h x 0)
      (fun b h s j => ∑ i ∈ Ico j 2048, f b h s i) := fun i => by
  have i3 : (i 3).val < 2048 := (i 3).isLt
  rw [window_is hx]
  congr 1
  beta_reduce
  rw [Cert.KernelIdeal.Sbw.sum_win 2048 0 (2048 - (i 3).val) (by omega) (fun n => f (i 0).val (i 1).val (i 2).val ((i 3).val + n - 0))
    (fun n => 0 ≤ (i 3).val + n ∧ (i 3).val + n - 0 < 2048) (fun n _ => by constructor <;> intro <;> omega), Finset.sum_Ico_eq_sum_range]
  exact Finset.sum_congr rfl fun n _ => by rw [Nat.zero_add, Nat.sub_zero]

theorem window_fwd {x : S2x4x2048x2048.Idx → EReal} {f : ℕ → ℕ → ℕ → ℕ → ℝ} (hx : Is4 (n := ![2, 4, 2048, 2048]) x f)
    (h : S2x4x2048x2048.ReduceWindows ![1, 1, 1, 2048] ![1, 1, 1, 1] ![0, 0, 0, 2047] ![0, 0, 0, 0] S2x4x2048x2048) :
    Is4 (n := ![2, 4, 2048, 2048]) (Ideal.hostReduceWindowAdd ![1, 1, 1, 2048] ![1, 1, 1, 1] ![0, 0, 0, 2047] ![0, 0, 0, 0] h x 0)
      (fun b h s j => ∑ i ∈ range (j + 1), f b h s i) := fun i => by
  have i3 : (i 3).val < 2048 := (i 3).isLt
  rw [window_is hx]
  congr 1
  beta_reduce
  rw [Cert.KernelIdeal.Sbw.sum_win 2048 (2047 - (i 3).val) ((i 3).val + 1) (by omega) (fun n => f (i 0).val (i 1).val (i 2).val ((i 3).val + n - 2047))
    (fun n => 2047 ≤ (i 3).val + n ∧ (i 3).val + n - 2047 < 2048) (fun n _ => by constructor <;> intro <;> omega)]
  exact Finset.sum_congr rfl fun n _ => by rw [show (i 3).val + (2047 - (i 3).val + n) - 2047 = n by omega]

end Cert.ReferenceIdeal.Sbr

end
-- ==== Proof.RefVal.lean ====
/-
  The reference's three results, element by element, over real numbers.
-/
module

public import proofs.«01_k».proof.Proof.Soft

@[expose] public section

set_option maxRecDepth 16384
set_option maxHeartbeats 4000000

noncomputable section

namespace Cert.ReferenceIdeal.Sbr

open Idealize.ShloMosaic Idealize.ShloMosaic.StableHlo Idealize.ShloMosaic.ValueIdx Idealize.ShloMosaic.WordCmp
open Cert.ReferenceIdeal Cert.ReferenceIdeal.Read
open Cert.KernelIdeal.Sbw (lkR coe_sum coe_max log_pos_coe eighth32 dotH mL mA mS mD mZ mdq mdk mdv sc mS_ge mL_ge mA_ge mD_ge mZ_ge)
open Finset

section
variable (a0 a1 : ℕ → ℕ → ℝ)

/-- The queries, keys, values and gradient of batch `b`. -/
def rq (b s c : ℕ) : ℝ := a0 (2048 * b + s) c
def rk (b s c : ℕ) : ℝ := a0 (2048 * b + s) (256 + c)
def rv (b s c : ℕ) : ℝ := a0 (2048 * b + s) (512 + c)
def rg (b s c : ℕ) : ℝ := a1 (2048 * b + s) c

end

section
variable {a0 a1 : ℕ → ℕ → ℝ} {x0 : (⟨S4096x2304, .bf16⟩ : BufTy).Contents (Elt Ideal)} {x1 : (⟨S4096x1024, .f32⟩ : BufTy).Contents (Elt Ideal)}
variable (H0 : ∀ i : S4096x2304.Idx, (i 1).val < 768 → x0 i = ((a0 (i 0).val (i 1).val : ℝ) : EReal))
variable (H1 : ∀ i : S4096x1024.Idx, (i 1).val < 256 → x1 i = ((a1 (i 0).val (i 1).val : ℝ) : EReal))

include H0 in
theorem v5_is : Is4 (n := ![2, 4, 2048, 64]) (val_main_v5 (F := Ideal) x0) (fun b h s e => rq a0 b s (64 * h + e)) := fun i => by
  have i0 : (i 0).val < 2 := (i 0).isLt
  have i1 : (i 1).val < 4 := (i 1).isLt
  have i2 : (i 2).val < 2048 := (i 2).isLt
  have i3 : (i 3).val < 64 := (i 3).isLt
  rw [val_main_v5_apply, val_main_v4_apply, val_main_v1_apply, val_main_v0_apply]
  have e0 : (idx_main_v1 (idx_main_v4 (idx_main_v5 i)) 0).val = 2048 * (i 0).val + (i 2).val := by
    show ((((i 0).val * 2048 + (i 2).val) * 4 + (i 1).val) * 64 + (i 3).val) / 256 = _; omega
  have e1 : (idx_main_v1 (idx_main_v4 (idx_main_v5 i)) 1).val = 64 * (i 1).val + (i 3).val := by
    show ((((i 0).val * 2048 + (i 2).val) * 4 + (i 1).val) * 64 + (i 3).val) % 256 = _; omega
  refine (H0 (idx_main_v1 (idx_main_v4 (idx_main_v5 i))) (by rw [e1]; omega)).trans ?_
  rw [e0, e1]; rfl
include H0 in
theorem v9_is : Is4 (n := ![2, 4, 2048, 64]) (val_main_v9 (F := Ideal) x0) (fun b h s e => rk a0 b s (64 * h + e)) := fun i => by
  have i0 : (i 0).val < 2 := (i 0).isLt
  have i1 : (i 1).val < 4 := (i 1).isLt
  have i2 : (i 2).val < 2048 := (i 2).isLt
  have i3 : (i 3).val < 64 := (i 3).isLt
  rw [val_main_v9_apply, val_main_v8_apply, val_main_v2_apply, val_main_v0_apply]
  have e0 : (idx_main_v2 (idx_main_v8 (idx_main_v9 i)) 0).val = 2048 * (i 0).val + (i 2).val := by
    show ((((i 0).val * 2048 + (i 2).val) * 4 + (i 1).val) * 64 + (i 3).val) / 256 = _; omega
  have e1 : (idx_main_v2 (idx_main_v8 (idx_main_v9 i)) 1).val = 256 + (64 * (i 1).val + (i 3).val) := by
    show 256 + ((((i 0).val * 2048 + (i 2).val) * 4 + (i 1).val) * 64 + (i 3).val) % 256 = _; omega
  refine (H0 (idx_main_v2 (idx_main_v8 (idx_main_v9 i))) (by rw [e1]; omega)).trans ?_
  rw [e0, e1]; rfl
include H0 in
theorem v11_is : Is4 (n := ![2, 4, 2048, 64]) (val_main_v11 (F := Ideal) x0) (fun b h s e => rv a0 b s (64 * h + e)) := fun i => by
  have i0 : (i 0).val < 2 := (i 0).isLt
  have i1 : (i 1).val < 4 := (i 1).isLt
  have i2 : (i 2).val < 2048 := (i 2).isLt
  have i3 : (i 3).val < 64 := (i 3).isLt
  rw [val_main_v11_apply, val_main_v10_apply, val_main_v3_apply, val_main_v0_apply]
  have e0 : (idx_main_v3 (idx_main_v10 (idx_main_v11 i)) 0).val = 2048 * (i 0).val + (i 2).val := by
    show ((((i 0).val * 2048 + (i 2).val) * 4 + (i 1).val) * 64 + (i 3).val) / 256 = _; omega
  have e1 : (idx_main_v3 (idx_main_v10 (idx_main_v11 i)) 1).val = 512 + (64 * (i 1).val + (i 3).val) := by
    show 512 + ((((i 0).val * 2048 + (i 2).val) * 4 + (i 1).val) * 64 + (i 3).val) % 256 = _; omega
  refine (H0 (idx_main_v3 (idx_main_v10 (idx_main_v11 i))) (by rw [e1]; omega)).trans ?_
  rw [e0, e1]; rfl
include H1 in
theorem v34_is : Is4 (n := ![2, 4, 2048, 64]) (val_main_v34 (F := Ideal) x1) (fun b h s e => rg a1 b s (64 * h + e)) := fun i => by
  have i0 : (i 0).val < 2 := (i 0).isLt
  have i1 : (i 1).val < 4 := (i 1).isLt
  have i2 : (i 2).val < 2048 := (i 2).isLt
  have i3 : (i 3).val < 64 := (i 3).isLt
  rw [val_main_v34_apply, val_main_v33_apply, val_main_v32_apply]
  have e0 : (idx_main_v32 (idx_main_v33 (idx_main_v34 i)) 0).val = 2048 * (i 0).val + (i 2).val := by
    show ((((i 0).val * 2048 + (i 2).val) * 4 + (i 1).val) * 64 + (i 3).val) / 256 = _; omega
  have e1 : (idx_main_v32 (idx_main_v33 (idx_main_v34 i)) 1).val = 64 * (i 1).val + (i 3).val := by
    show ((((i 0).val * 2048 + (i 2).val) * 4 + (i 1).val) * 64 + (i 3).val) % 256 = _; omega
  refine (H1 (idx_main_v32 (idx_main_v33 (idx_main_v34 i))) (by rw [e1]; omega)).trans ?_
  rw [e0, e1]; rfl

include H0 in
theorem v7_is : Is4 (n := ![2, 4, 2048, 64]) (val_main_v7 (F := Ideal) x0) (fun b h s e => sc (rq a0 b) s (64 * h + e)) := fun i => by
  rw [val_main_v7_apply, val_main_v6_apply, val_main_cst_apply]
  show val_main_v5 (F := Ideal) x0 i * Ideal.ofBits .f32 0x3E000000#32 = _
  rw [v5_is H0 i, eighth32, ← EReal.coe_mul]; rfl

/-- The score. -/
def rz (a0 : ℕ → ℕ → ℝ) (b h s j : ℕ) : ℝ := dotH (sc (rq a0 b)) (rk a0 b) h s j

include H0 in
theorem v12_is : Is4 (n := ![2, 4, 2048, 2048]) (val_main_v12 (F := Ideal) x0) (rz a0) := fun i => by
  rw [val_main_v12_apply, rz, dotH, coe_sum, Finset.sum_range]
  refine Finset.sum_congr rfl fun k _ => ?_
  rw [v7_is H0 _, v9_is H0 _, ← EReal.coe_mul]

theorem mask_eq (i : S2x4x2048x2048.Idx) : val_main_v22_1 (F := Ideal) i = if (i 3).val < (i 2).val then 1#1 else 0#1 := by
  have i2 : (i 2).val < 2048 := (i 2).isLt
  have i3 : (i 3).val < 2048 := (i 3).isLt
  rw [val_main_v22_1_apply, val_main_v19_apply, val_main_v17_apply, val_main_v18_apply, val_main_v14_apply, val_main_v16_apply, val_main_v13_apply, val_main_v15_apply]
  show IntOp.cmpi .slt (BitVec.ofNat 32 (i 3).val) (BitVec.ofNat 32 (i 2).val) = _
  rw [cmpi_slt_ofNat (by omega) (by omega)]
  by_cases h : (i 3).val < (i 2).val
  · rw [if_pos h, decide_eq_true h]; rfl
  · rw [if_neg h, decide_eq_false h]; rfl

theorem mask28_eq (i : S2x4x2048x2048.Idx) : val_main_v28_1 (F := Ideal) i = if (i 3).val < (i 2).val then 1#1 else 0#1 := mask_eq i

/-- A selection under the mask. -/
theorem sel_is {x y : EReal} {m : BitVec 1} {p : Prop} [Decidable p] {f g : ℝ} (hm : m = if p then 1#1 else 0#1) (hx : x = ((f : ℝ) : EReal)) (hy : y = ((g : ℝ) : EReal)) :
    Scalar.select m x y = (((if p then f else g : ℝ)) : EReal) := by
  subst hm
  by_cases h : p
  · rw [if_pos h, if_pos h, ValueIdx.select_one, hx]
  · rw [if_neg h, if_neg h, ValueIdx.select_zero, hy]

include H0 in
theorem c0_is (i : S2x4x2048x2048.Idx) : val_main_call0_v0 (F := Ideal) x0 i = ((rz a0 (i 0).val (i 1).val (i 2).val (i 3).val : ℝ) : EReal) := by
  rw [val_main_call0_v0_apply, val_main_v20_apply]
  show -(-(val_main_v12 (F := Ideal) x0 i)) = _
  rw [neg_neg]; exact v12_is H0 i
include H0 in
theorem c3_is (i : S2x4x2048x2048.Idx) : val_main_call3_v0 (F := Ideal) x0 i = ((-rz a0 (i 0).val (i 1).val (i 2).val (i 3).val : ℝ) : EReal) := by
  rw [val_main_call3_v0_apply]
  show -(val_main_v12 (F := Ideal) x0 i) = _
  rw [v12_is H0 i, EReal.coe_neg]

theorem sp0_eq (i : S2x4x2048x2048.Idx) : val_main_call0_v1_0 (F := Ideal) x0 i = spE (val_main_call0_v0 (F := Ideal) x0 i) := rfl
theorem sp3_eq (i : S2x4x2048x2048.Idx) : val_main_call3_v1_0 (F := Ideal) x0 i = spE (val_main_call3_v0 (F := Ideal) x0 i) := rfl
theorem sg0_eq (i : S2x4x2048x2048.Idx) : val_main_v21_1 (F := Ideal) x0 i = sgE (val_main_call0_v0 (F := Ideal) x0 i) := rfl
theorem sg3_eq (i : S2x4x2048x2048.Idx) : val_main_v25_1 (F := Ideal) x0 i = sgE (val_main_call3_v0 (F := Ideal) x0 i) := rfl

include H0 in
theorem v21_0_is : Is4 (n := ![2, 4, 2048, 2048]) (val_main_v21_0 (F := Ideal) x0) (fun b h s j => lkR (rz a0 b h s j)) := fun i => by
  rw [val_main_v21_0_apply]
  show -(val_main_call0_v1_0 (F := Ideal) x0 i) = _
  rw [sp0_eq, c0_is H0 i, spE_coe, ← EReal.coe_neg, neg_neg]
include H0 in
theorem v21_1_is : Is4 (n := ![2, 4, 2048, 2048]) (val_main_v21_1 (F := Ideal) x0) (fun b h s j => Real.exp (rz a0 b h s j + lkR (rz a0 b h s j))) := fun i => by
  rw [sg0_eq, c0_is H0 i, sgE_coe]
include H0 in
theorem v25_0_is : Is4 (n := ![2, 4, 2048, 2048]) (val_main_v25_0 (F := Ideal) x0) (fun b h s j => rz a0 b h s j + lkR (rz a0 b h s j)) := fun i => by
  rw [val_main_v25_0_apply]
  show -(val_main_call3_v1_0 (F := Ideal) x0 i) = _
  rw [sp3_eq, c3_is H0 i, spE_coe, ← EReal.coe_neg, neg_neg, lkR_neg]
include H0 in
theorem v25_1_is : Is4 (n := ![2, 4, 2048, 2048]) (val_main_v25_1 (F := Ideal) x0) (fun b h s j => Real.exp (lkR (rz a0 b h s j))) := fun i => by
  rw [sg3_eq, c3_is H0 i, sgE_coe, lkR_neg, neg_add_cancel_left]

/-- The masked logarithms. -/
def rl (a0 : ℕ → ℕ → ℝ) (b h s j : ℕ) : ℝ := mL (sc (rq a0 b)) (rk a0 b) h s j

include H0 in
theorem v22_0_is : Is4 (n := ![2, 4, 2048, 2048]) (val_main_v22_0 (F := Ideal) x0) (rl a0) := fun i => by
  rw [val_main_v22_0_apply]
  exact sel_is (mask_eq i) (v21_0_is H0 i) zero32

theorem win_eq {s t u : Shape} (w st lo hi : Fin s.rank → ℕ) (x : s.Idx → EReal) (z : u.Idx → EReal) (h : s.ReduceWindows w st lo hi t) (hu : 0 < u.numel)
    (hz : ∀ i, z i = 0) : Host.reduceWindowAdd (F := Ideal) (φ := .f32) w st lo hi x z h hu = Ideal.hostReduceWindowAdd w st lo hi h x 0 := by
  rw [← hz (Shape.Idx.first hu)]; rfl
theorem call2_zero (i : S_.Idx) : val_main_call2_v0 (F := Ideal) i = 0 := by
  rw [val_main_call2_v0_apply, val_main_call2_cst_apply]; exact Ideal.ofBits_zero_f32
theorem call7_zero (i : S_.Idx) : val_main_call7_v0 (F := Ideal) i = 0 := by
  rw [val_main_call7_v0_apply, val_main_call7_cst_apply]; exact Ideal.ofBits_zero_f32
theorem v23_eq : val_main_v23 (F := Ideal) x0 = Ideal.hostReduceWindowAdd ![1, 1, 1, 2048] ![1, 1, 1, 1] ![0, 0, 0, 0] ![0, 0, 0, 2047]
    Gen.reduceWindows_S2x4x2048x2048_S2x4x2048x2048_w1s1p0_0_w1s1p0_0_w1s1p0_0_w2048s1p0_2047 (val_main_v22_0 (F := Ideal) x0) 0 := by
  unfold val_main_v23
  exact win_eq _ _ _ _ _ _ _ _ call2_zero
theorem v42_eq : val_main_v42 (F := Ideal) x0 x1 = Ideal.hostReduceWindowAdd ![1, 1, 1, 2048] ![1, 1, 1, 1] ![0, 0, 0, 2047] ![0, 0, 0, 0]
    Gen.reduceWindows_S2x4x2048x2048_S2x4x2048x2048_w1s1p0_0_w1s1p0_0_w1s1p0_0_w2048s1p2047_0 (val_main_v39 (F := Ideal) x0 x1) 0 := by
  unfold val_main_v42
  exact win_eq _ _ _ _ _ _ _ _ call7_zero

include H0 in
theorem v24_is : Is4 (n := ![2, 4, 2048, 2048]) (val_main_v24 (F := Ideal) x0) (fun b h s j => ∑ i ∈ Ico (j + 1) 2048, rl a0 b h s i) := fun i => by
  have i3 : (i 3).val < 2048 := (i 3).isLt
  rw [val_main_v24_apply]
  show val_main_v23 (F := Ideal) x0 i - val_main_v22_0 (F := Ideal) x0 i = _
  rw [v23_eq, window_rev (v22_0_is H0) _ i, v22_0_is H0 i, ← EReal.coe_sub]
  congr 1
  beta_reduce
  rw [Finset.sum_eq_sum_Ico_succ_bot i3]; ring

include H0 in
theorem v27_is : Is4 (n := ![2, 4, 2048, 2048]) (val_main_v27 (F := Ideal) x0)
    (fun b h s j => Real.exp (rz a0 b h s j + lkR (rz a0 b h s j) + ∑ i ∈ Ico (j + 1) 2048, rl a0 b h s i)) := fun i => by
  rw [val_main_v27_apply, val_main_v26_apply]
  show Ideal.exp (val_main_v25_0 (F := Ideal) x0 i + val_main_v24 (F := Ideal) x0 i) = _
  rw [v25_0_is H0 i, v24_is H0 i, ← EReal.coe_add]; rfl

/-- The attention's weights. -/
def ra (a0 : ℕ → ℕ → ℝ) (b h s j : ℕ) : ℝ := mA (sc (rq a0 b)) (rk a0 b) h s j

include H0 in
theorem v28_0_is : Is4 (n := ![2, 4, 2048, 2048]) (val_main_v28_0 (F := Ideal) x0) (ra a0) := fun i => by
  rw [val_main_v28_0_apply]
  refine (sel_is (mask28_eq i) (v27_is H0 i) zero32).trans ?_
  rw [ra, mA]
  congr 1
  by_cases h : (i 3).val < (i 2).val
  · rw [if_pos h, if_pos h, mL, if_pos h]; rfl
  · rw [if_neg h, if_neg h]

include H0 H1 in
theorem v37_is : Is4 (n := ![2, 4, 2048, 2048]) (val_main_v37 (F := Ideal) x0 x1) (fun b h s j => dotH (rg a1 b) (rv a0 b) h s j) := fun i => by
  beta_reduce
  rw [val_main_v37_apply, dotH, coe_sum, Finset.sum_range]
  refine Finset.sum_congr rfl fun k _ => ?_
  rw [v34_is H1 _, v11_is H0 _, ← EReal.coe_mul]

/-- The gradient of the exponents. -/
def rd (a0 a1 : ℕ → ℕ → ℝ) (b h s j : ℕ) : ℝ := mD (sc (rq a0 b)) (rk a0 b) (rv a0 b) (rg a1 b) h s j

include H0 H1 in
theorem v39_is : Is4 (n := ![2, 4, 2048, 2048]) (val_main_v39 (F := Ideal) x0 x1) (rd a0 a1) := fun i => by
  rw [val_main_v39_apply, val_main_v38_apply]
  show Scalar.select (val_main_v28_1 (F := Ideal) i) (val_main_v37 (F := Ideal) x0 x1 i) (Ideal.ofBits .f32 0x00000000#32) * val_main_v27 (F := Ideal) x0 i = _
  rw [sel_is (mask28_eq i) (v37_is H0 H1 i) zero32, v27_is H0 i, ← EReal.coe_mul]
  congr 1
  rw [rd, mD, mA]
  by_cases h : (i 3).val < (i 2).val
  · rw [if_pos h, if_pos h, mL, if_pos h]; rfl
  · rw [if_neg h, if_neg h, zero_mul, mul_zero]

include H0 H1 in
theorem v43_is : Is4 (n := ![2, 4, 2048, 2048]) (val_main_v43 (F := Ideal) x0 x1) (fun b h s j => ∑ i ∈ range j, rd a0 a1 b h s i) := fun i => by
  rw [val_main_v43_apply, val_main_v41_apply]
  show -(val_main_v39 (F := Ideal) x0 x1 i) + val_main_v42 (F := Ideal) x0 x1 i = _
  rw [v42_eq, window_fwd (v39_is H0 H1) _ i, v39_is H0 H1 i, ← EReal.coe_neg, ← EReal.coe_add]
  congr 1
  beta_reduce
  rw [Finset.sum_range_succ]; ring

/-- The gradient of the scores. -/
def rdz (a0 a1 : ℕ → ℕ → ℝ) (b h s j : ℕ) : ℝ := mZ (sc (rq a0 b)) (rk a0 b) (rv a0 b) (rg a1 b) h s j

include H0 H1 in
theorem v47_is : Is4 (n := ![2, 4, 2048, 2048]) (val_main_v47 (F := Ideal) x0 x1) (rdz a0 a1) := fun i => by
  have e40 : val_main_v40 (F := Ideal) x0 x1 i = -(-(val_main_v39 (F := Ideal) x0 x1 i) * val_main_v25_1 (F := Ideal) x0 i) := rfl
  have e46 : val_main_v46 (F := Ideal) x0 x1 i = - -(-(Scalar.select (val_main_v22_1 (F := Ideal) i) (val_main_v43 (F := Ideal) x0 x1 i) (Ideal.ofBits .f32 0x00000000#32)) * val_main_v21_1 (F := Ideal) x0 i) := rfl
  rw [val_main_v47_apply]
  show val_main_v40 (F := Ideal) x0 x1 i + val_main_v46 (F := Ideal) x0 x1 i = _
  rw [e40, e46, v39_is H0 H1 i, v25_1_is H0 i, sel_is (mask_eq i) (v43_is H0 H1 i) zero32, v21_1_is H0 i]
  simp only [← EReal.coe_neg, ← EReal.coe_mul, ← EReal.coe_add]
  congr 1
  rw [rdz, mZ, mS]
  have hs := logistic_sum (rz a0 (i 0).val (i 1).val (i 2).val (i 3).val)
  by_cases h : (i 3).val < (i 2).val
  · rw [if_pos h, if_pos h, mL, if_pos h]
    unfold rd rz at *
    linear_combination mD (sc (rq a0 (i 0).val)) (rk a0 (i 0).val) (rv a0 (i 0).val) (rg a1 (i 0).val) (i 1).val (i 2).val (i 3).val * hs
  · rw [if_neg h, if_neg h, rd, mD_ge _ _ _ _ (by omega)]; ring

/-! ### The results -/

include H0 H1 in
theorem v55_is : Is4 (n := ![2, 4, 2048, 64]) (val_main_v55 (F := Ideal) x0 x1)
    (fun b h s e => mdq (sc (rq a0 b)) (rk a0 b) (rv a0 b) (rg a1 b) s (64 * h + e)) := fun i => by
  have i3 : (i 3).val < 64 := (i 3).isLt
  rw [val_main_v55_apply, val_main_v54_apply, val_main_cst_2_apply]
  show val_main_v49 (F := Ideal) x0 x1 i * Ideal.ofBits .f32 0x3E000000#32 = _
  have e : val_main_v49 (F := Ideal) x0 x1 i = ((∑ j ∈ range 2048, rdz a0 a1 (i 0).val (i 1).val (i 2).val j * rk a0 (i 0).val j (64 * (i 1).val + (i 3).val) : ℝ) : EReal) := by
    rw [val_main_v49_apply, coe_sum, Finset.sum_range]
    refine Finset.sum_congr rfl fun k _ => ?_
    rw [v47_is H0 H1 _, v9_is H0 _, ← EReal.coe_mul]
  beta_reduce
  rw [e, eighth32, ← EReal.coe_mul, mdq, show (64 * (i 1).val + (i 3).val) / 64 = (i 1).val by omega]; rfl

include H0 H1 in
theorem v48_is : Is4 (n := ![2, 4, 2048, 64]) (val_main_v48 (F := Ideal) x0 x1)
    (fun b h s e => mdk (sc (rq a0 b)) (rk a0 b) (rv a0 b) (rg a1 b) s (64 * h + e)) := fun i => by
  have i3 : (i 3).val < 64 := (i 3).isLt
  beta_reduce
  rw [val_main_v48_apply, mdk, coe_sum, Finset.sum_range, show (64 * (i 1).val + (i 3).val) / 64 = (i 1).val by omega]
  refine Finset.sum_congr rfl fun k _ => ?_
  rw [v47_is H0 H1 _, v7_is H0 _, ← EReal.coe_mul]; rfl

include H0 H1 in
theorem v36_is : Is4 (n := ![2, 4, 2048, 64]) (val_main_v36 (F := Ideal) x0 x1)
    (fun b h s e => mdv (sc (rq a0 b)) (rk a0 b) (rg a1 b) s (64 * h + e)) := fun i => by
  have i3 : (i 3).val < 64 := (i 3).isLt
  beta_reduce
  rw [val_main_v36_apply, val_main_v35_apply, mdv, coe_sum, Finset.sum_range, show (64 * (i 1).val + (i 3).val) / 64 = (i 1).val by omega]
  refine Finset.sum_congr rfl fun k _ => ?_
  rw [v34_is H1 _, v28_0_is H0 _, ← EReal.coe_mul, mul_comm]; rfl

include H0 H1 in
theorem v57_is (i : S4096x256.Idx) : val_main_v57 (F := Ideal) x0 x1 i
    = ((mdq (sc (rq a0 ((i 0).val / 2048))) (rk a0 ((i 0).val / 2048)) (rv a0 ((i 0).val / 2048)) (rg a1 ((i 0).val / 2048)) ((i 0).val % 2048) (i 1).val : ℝ) : EReal) := by
  have i0 : (i 0).val < 4096 := (i 0).isLt
  have i1 : (i 1).val < 256 := (i 1).isLt
  have e0 : ((i 0).val * 256 + (i 1).val) / 524288 = (i 0).val / 2048 := by omega
  have e1 : ((i 0).val * 256 + (i 1).val) / 256 % 2048 = (i 0).val % 2048 := by omega
  have e2 : 64 * (((i 0).val * 256 + (i 1).val) / 64 % 4) + ((i 0).val * 256 + (i 1).val) % 64 = (i 1).val := by omega
  rw [val_main_v57_apply, val_main_v56_apply, v55_is H0 H1 _]
  show ((mdq (sc (rq a0 (((i 0).val * 256 + (i 1).val) / 524288))) (rk a0 (((i 0).val * 256 + (i 1).val) / 524288)) (rv a0 (((i 0).val * 256 + (i 1).val) / 524288)) (rg a1 (((i 0).val * 256 + (i 1).val) / 524288)) (((i 0).val * 256 + (i 1).val) / 256 % 2048) (64 * (((i 0).val * 256 + (i 1).val) / 64 % 4) + ((i 0).val * 256 + (i 1).val) % 64) : ℝ) : EReal) = _
  rw [e0, e1, e2]
include H0 H1 in
theorem v53_is (i : S4096x256.Idx) : val_main_v53 (F := Ideal) x0 x1 i
    = ((mdk (sc (rq a0 ((i 0).val / 2048))) (rk a0 ((i 0).val / 2048)) (rv a0 ((i 0).val / 2048)) (rg a1 ((i 0).val / 2048)) ((i 0).val % 2048) (i 1).val : ℝ) : EReal) := by
  have i0 : (i 0).val < 4096 := (i 0).isLt
  have i1 : (i 1).val < 256 := (i 1).isLt
  have e0 : ((i 0).val * 256 + (i 1).val) / 524288 = (i 0).val / 2048 := by omega
  have e1 : ((i 0).val * 256 + (i 1).val) / 256 % 2048 = (i 0).val % 2048 := by omega
  have e2 : 64 * (((i 0).val * 256 + (i 1).val) / 64 % 4) + ((i 0).val * 256 + (i 1).val) % 64 = (i 1).val := by omega
  rw [val_main_v53_apply, val_main_v52_apply, v48_is H0 H1 _]
  show ((mdk (sc (rq a0 (((i 0).val * 256 + (i 1).val) / 524288))) (rk a0 (((i 0).val * 256 + (i 1).val) / 524288)) (rv a0 (((i 0).val * 256 + (i 1).val) / 524288)) (rg a1 (((i 0).val * 256 + (i 1).val) / 524288)) (((i 0).val * 256 + (i 1).val) / 256 % 2048) (64 * (((i 0).val * 256 + (i 1).val) / 64 % 4) + ((i 0).val * 256 + (i 1).val) % 64) : ℝ) : EReal) = _
  rw [e0, e1, e2]
include H0 H1 in
theorem v51_is (i : S4096x256.Idx) : val_main_v51 (F := Ideal) x0 x1 i
    = ((mdv (sc (rq a0 ((i 0).val / 2048))) (rk a0 ((i 0).val / 2048)) (rg a1 ((i 0).val / 2048)) ((i 0).val % 2048) (i 1).val : ℝ) : EReal) := by
  have i0 : (i 0).val < 4096 := (i 0).isLt
  have i1 : (i 1).val < 256 := (i 1).isLt
  have e0 : ((i 0).val * 256 + (i 1).val) / 524288 = (i 0).val / 2048 := by omega
  have e1 : ((i 0).val * 256 + (i 1).val) / 256 % 2048 = (i 0).val % 2048 := by omega
  have e2 : 64 * (((i 0).val * 256 + (i 1).val) / 64 % 4) + ((i 0).val * 256 + (i 1).val) % 64 = (i 1).val := by omega
  rw [val_main_v51_apply, val_main_v50_apply, v36_is H0 H1 _]
  show ((mdv (sc (rq a0 (((i 0).val * 256 + (i 1).val) / 524288))) (rk a0 (((i 0).val * 256 + (i 1).val) / 524288)) (rg a1 (((i 0).val * 256 + (i 1).val) / 524288)) (((i 0).val * 256 + (i 1).val) / 256 % 2048) (64 * (((i 0).val * 256 + (i 1).val) / 64 % 4) + ((i 0).val * 256 + (i 1).val) % 64) : ℝ) : EReal) = _
  rw [e0, e1, e2]

end

end Cert.ReferenceIdeal.Sbr

end
-- ==== Proof.FwdAny.lean ====
/-
  The forward pass of the stick-breaking attention where the queries and the keys hold real numbers and the values hold
  any extended reals.
-/
module

public import proofs.«01_k».proof.Proof.FwdVec

@[expose] public section

set_option maxRecDepth 16384
set_option maxHeartbeats 4000000

noncomputable section

namespace Cert.KernelIdeal.Sbw

open Idealize.ShloMosaic Idealize.ShloMosaic.Tactic
open Idealize.ShloMosaic.ValueIdx hiding ix2 ix3 ix4 eq_ix2 eq_ix3 eq_ix4
open Cert.KernelIdeal Cert.KernelIdeal.Gen
open Finset

/-- The array holds the extended reals `f r c`. -/
def IsE {a b : ℕ} (x : (⟨2, ![a, b]⟩ : Shape).Idx → EReal) (f : ℕ → ℕ → EReal) : Prop :=
  ∀ (r : Fin a) (c : Fin b), x (ix2 r c) = f r.val c.val

theorem IsE.congr {a b : ℕ} {x : (⟨2, ![a, b]⟩ : Shape).Idx → EReal} {f g : ℕ → ℕ → EReal} (h : IsE x f)
    (e : ∀ r c, r < a → c < b → f r c = g r c) : IsE x g := fun r c => by rw [h r c, e _ _ r.isLt c.isLt]

theorem IsE.at {a b : ℕ} {x : (⟨2, ![a, b]⟩ : Shape).Idx → EReal} {f : ℕ → ℕ → EReal} (h : IsE x f) (i : (⟨2, ![a, b]⟩ : Shape).Idx) :
    x i = f (i 0).val (i 1).val := by rw [eq_ix2 i]; exact h _ _

theorem IsE.of {a b : ℕ} {x : (⟨2, ![a, b]⟩ : Shape).Idx → EReal} {f : ℕ → ℕ → EReal}
    (h : ∀ i : (⟨2, ![a, b]⟩ : Shape).Idx, x i = f (i 0).val (i 1).val) : IsE x f := fun r c => h (ix2 r c)

/-- A sum kept to a window of the range. -/
theorem sum_winE (N lo W : ℕ) (h : lo + W ≤ N) (G : ℕ → EReal) (p : ℕ → Prop) [DecidablePred p] (hp : ∀ d, d < N → (p d ↔ lo ≤ d ∧ d < lo + W)) :
    ∑ d ∈ range N, (if p d then G d else 0) = ∑ e ∈ range W, G (lo + e) := by
  rw [← Finset.sum_filter]
  symm
  refine Finset.sum_bij (fun e _ => lo + e) (fun e he => ?_) (fun a _ b _ h => by simpa using h) (fun d hd => ?_) (fun _ _ => rfl)
  · rw [mem_range] at he
    rw [mem_filter, mem_range]
    exact ⟨by omega, (hp _ (by omega)).2 ⟨by omega, by omega⟩⟩
  · rw [mem_filter, mem_range] at hd
    obtain ⟨h1, h2⟩ := (hp _ hd.1).1 hd.2
    exact ⟨d - lo, by rw [mem_range]; omega, by omega⟩

/-- A contraction over one axis, as a sum over a range. -/
theorem contr_isE {sl sr so : Shape} (D : DotDims sl sr so) (n : ℕ) (hr : D.contr.rank = 1) (hs : D.contr.size ⟨0, by omega⟩ = n)
    (l : sl.Idx → EReal) (r : sr.Idx → EReal) (j : so.Idx) (L R : ℕ → EReal)
    (hl : ∀ (k : D.contr.Idx) (i : ℕ), (k ⟨0, by omega⟩).val = i → i < n → l (D.lhsIdx j k) = L i)
    (hr' : ∀ (k : D.contr.Idx) (i : ℕ), (k ⟨0, by omega⟩).val = i → i < n → r (D.rhsIdx j k) = R i) :
    ∑ k : D.contr.Idx, l (D.lhsIdx j k) * r (D.rhsIdx j k) = ∑ i ∈ range n, L i * R i := by
  rw [← Equiv.sum_comp (contrEquiv1 D n hr hs).symm, Finset.sum_range]
  refine Finset.sum_congr rfl fun k _ => ?_
  have hk := contrEquiv1_symm_val D n hr hs k
  rw [hl _ k.val hk k.isLt, hr' _ k.val hk k.isLt]

theorem kd_isE {bd : IVec S1024x256 1} {k : ℕ → ℕ → EReal} (hb : IsBd bd) {x : Vec Ideal S256x256 .bf16} (hx : IsE x k) :
    IsE (kdV (F := Ideal) bd x) (fun r d => if d / 64 = r / 256 then k (r % 256) d else 0) := fun r d => by
  have hr := r.isLt
  unfold kdV
  rw [select_apply, hb r d]
  beta_reduce
  by_cases h : d.val / 64 = r.val / 256
  · rw [if_pos h, if_pos h, select_one]
    by_cases e0 : r.val < 256
    · refine (cat0_piece _ _ 0 (by simp) x rfl 0 rfl r d (by omega) (by omega)).trans ((hx _ _).trans ?_)
      show k (r.val - 0) d.val = _; rw [show r.val - 0 = r.val % 256 by omega]
    by_cases e1 : r.val < 512
    · refine (cat0_piece _ _ 1 (by simp) x rfl 256 rfl r d (by omega) (by omega)).trans ((hx _ _).trans ?_)
      show k (r.val - 256) d.val = _; rw [show r.val - 256 = r.val % 256 by omega]
    by_cases e2 : r.val < 768
    · refine (cat0_piece _ _ 2 (by simp) x rfl 512 rfl r d (by omega) (by omega)).trans ((hx _ _).trans ?_)
      show k (r.val - 512) d.val = _; rw [show r.val - 512 = r.val % 256 by omega]
    · refine (cat0_piece _ _ 3 (by simp) x rfl 768 rfl r d (by omega) (by omega)).trans ((hx _ _).trans ?_)
      show k (r.val - 768) d.val = _; rw [show r.val - 768 = r.val % 256 by omega]
  · rw [if_neg h, if_neg h, select_zero]
    exact (splat0h_is (a := 1024) (b := 256) r d).trans EReal.coe_zero

theorem dqV_isE {bd : IVec S1024x256 1} (hb : IsBd bd) {dq : FVec Ideal S128x256 .f32} {dz : FVec Ideal S128x1024 .bf16} {x : Vec Ideal S256x256 .bf16}
    {p k : ℕ → ℕ → EReal} {f : ℕ → ℕ → ℝ} (hd : IsE dq p) (hz : Is dz f) (hx : IsE x k) :
    IsE (dqV (F := Ideal) bd dq dz x) (fun s d => p s d + ∑ j ∈ range 256, (f s (256 * (d / 64) + j) : EReal) * k j d) := fun s d => by
  have h0 : d.val < 256 := d.isLt
  have hk := kd_isE hb hx
  unfold dqV
  refine (congrArg₂ (· + ·) (hd s d) ((Ideal.matmul_constant_zero_apply (φ₁ := .bf16) (φ₂ := .bf16) dot_S128x1024_S1024x256_S128x256_1_0_0_1_n_n none dz (kdV (F := Ideal) bd x) _).trans
    (contr_isE dot_S128x1024_S1024x256_S128x256_1_0_0_1_n_n 1024 rfl rfl dz _ _ (fun r => (f s.val r : EReal))
      (fun r => if d.val / 64 = r / 256 then k (r % 256) d.val else 0) (fun k i hk _ => ?_) (fun k i hk' _ => ?_)))).trans ?_
  · rw [hz.at]; subst hk; rfl
  · rw [hk.at]; subst hk'; rfl
  · beta_reduce
    congr 1
    simp only [mul_ite, mul_zero]
    rw [sum_winE 1024 (256 * (d.val / 64)) 256 (by omega) (fun r => (f s.val r : EReal) * k (r % 256) d.val) (fun r => d.val / 64 = r / 256) (fun r _ => by constructor <;> intro <;> omega)]
    refine Finset.sum_congr rfl fun j hj => ?_
    rw [mem_range] at hj
    rw [show (256 * (d.val / 64) + j) % 256 = j by omega]

theorem ck_dqE (X : ℕ → ℕ → ℕ → ℝ) (W : ℕ → ℕ → EReal) (d S c : ℕ) :
    ∑ j ∈ range 256, (X ((256 * (d / 64) + j) / 256) S (256 * c + (256 * (d / 64) + j) % 256) : EReal) * W (256 * c + j) d
      = ∑ i ∈ Ico (256 * c) (256 * c + 256), (X (d / 64) S i : EReal) * W i d := by
  rw [Finset.sum_Ico_eq_sum_range, show 256 * c + 256 - 256 * c = 256 by omega]
  exact Finset.sum_congr rfl fun j hj => by
    rw [mem_range] at hj; rw [show (256 * (d / 64) + j) / 256 = d / 64 by omega, show (256 * (d / 64) + j) % 256 = j by omega]

section
variable {q0 k : ℕ → ℕ → ℝ} {v : ℕ → ℕ → EReal} {Q K V : S2048x256.Idx → EReal} {G : S2048x256.Idx → EReal}
variable (hQ : Is (a := 2048) (b := 256) Q q0) (hK : Is (a := 2048) (b := 256) K k) (hV : IsE (a := 2048) (b := 256) V v)

include hV in
theorem b_VE (n c : ℕ) (hc : c < 8) : IsE ((qbn (F := Ideal) BD ROW Q K V G n).V c) (fun j d => v (256 * c + j) d) := fun j d => by
  show rowsC V c (ix2 j d) = _
  unfold rowsC
  rw [hV.at]
  show v (256 * (c % 8) + j.val) d.val = _
  rw [Nat.mod_eq_of_lt hc]

include hQ hK hV in
theorem b_owE (n : ℕ) (hn : n < 16) : ∀ j, j ≤ n / 2 + 1 →
    IsE (a := 128) (b := 256) ((qbn (F := Ideal) BD ROW Q K V G n).ow j) (fun s d => ∑ i ∈ Ico (256 * (n / 2 + 1 - j)) (256 * (n / 2 + 1)), (mA (sc q0) k (d / 64) (128 * n + s) i : EReal) * v i d)
  | 0, _ => fun s d => by
      unfold QB.ow; rw [dqR_zero]
      refine (zero141 s d).trans ?_
      simp
  | j + 1, hj => by
      have ih := b_owE n hn j (by omega)
      unfold QB.ow at ih ⊢
      rw [dqR_succ]
      have hw : Ck ((qbn (F := Ideal) BD ROW Q K V G n).wt ((qbn (F := Ideal) BD ROW Q K V G n).cd - j)) (mA (sc q0) k) n (n / 2 - j) := by
        rw [wt_att, b_cd n hn]; exact b_att hQ hK n _ hn (by omega)
      have hv : IsE ((qbn (F := Ideal) BD ROW Q K V G n).V ((qbn (F := Ideal) BD ROW Q K V G n).cd - j)) (fun i d => v (256 * (n / 2 - j) + i) d) := by
        rw [b_cd n hn]; exact b_VE hV n _ (by omega)
      refine (dqV_isE (b_bd n) ih hw hv).congr fun s d hs hd => ?_
      rw [ck_dqE (mA (sc q0) k) v, add_comm,
        show 256 * (n / 2 - j) + 256 = 256 * (n / 2 + 1 - j) by omega, show 256 * (n / 2 - j) = 256 * (n / 2 + 1 - (j + 1)) by omega,
        Finset.sum_Ico_consecutive _ (by omega) (by omega)]

/-- The attention's output. -/
def moE (q k : ℕ → ℕ → ℝ) (v : ℕ → ℕ → EReal) (s d : ℕ) : EReal := ∑ j ∈ range 2048, (mA q k (d / 64) s j : EReal) * v j d

include hQ hK hV in
theorem oB_isE (n : ℕ) (hn : n < 16) : IsE (a := 128) (b := 256) (oB (F := Ideal) Q K V n) (fun s d => moE (sc q0) k v (128 * n + s) d) := by
  unfold oB
  have h := b_owE (G := fun _ => Scalar.ofBits (F := Ideal) .f32 0x00000000#32) hQ hK hV n hn (n / 2 + 1) le_rfl
  rw [b_cd n hn]
  refine IsE.congr (show IsE (a := 128) (b := 256) _ _ from h) fun s d hs hd => ?_
  beta_reduce
  rw [moE, Finset.range_eq_Ico, Nat.sub_self, Nat.mul_zero, ← Finset.sum_Ico_consecutive _ (show 0 ≤ 256 * (n / 2 + 1) by omega) (show 256 * (n / 2 + 1) ≤ 2048 by omega),
    Finset.sum_eq_zero (s := Ico (256 * (n / 2 + 1)) 2048) (fun i hi => ?_), add_zero]
  rw [Finset.mem_Ico] at hi
  rw [mA_ge _ _ (by omega), EReal.coe_zero, zero_mul]

include hQ hK hV in
theorem oW_isE : IsE (a := 2048) (b := 256) (oW (F := Ideal) Q K V) (moE (sc q0) k v) := fun s d => by
  have hs := s.isLt
  refine ((oB_isE hQ hK hV (s.val / 128) (by omega)) ⟨s.val % 128, by omega⟩ d).trans ?_
  simp only [show 128 * (s.val / 128) + s.val % 128 = s.val by omega]

end

end Cert.KernelIdeal.Sbw

end
-- ==== Proof.FwdRef.lean ====
/-
  The forward reference's result, element by element: the queries and the keys hold real numbers, the values any
  extended reals.
-/
module

public import proofs.«01_k».proof.Proof.RefVal
public import proofs.«01_k».proof.Proof.FwdAny
public import proofs.«01_k».proof.Proof.Gen.ReferenceSbFwdIdeal.Read

@[expose] public section

set_option maxRecDepth 16384
set_option maxHeartbeats 4000000

noncomputable section

namespace Cert.ReferenceSbFwdIdeal.Sbr

open Idealize.ShloMosaic Idealize.ShloMosaic.StableHlo Idealize.ShloMosaic.ValueIdx Idealize.ShloMosaic.WordCmp
open Cert.ReferenceSbFwdIdeal Cert.ReferenceSbFwdIdeal.Read
open Cert.ReferenceIdeal.Sbr (Is4 rq rk rz rl ra sel_is win_eq spE spE_coe lkR_neg zero32 window_rev)
open Cert.KernelIdeal.Sbw (lkR coe_sum coe_max log_pos_coe eighth32 dotH mL mA moE sc)
open Finset

/-- The values of one batch. -/
def rvE (w : ℕ → ℕ → EReal) (b s d : ℕ) : EReal := w (2048 * b + s) (512 + d)

section
variable {a0 : ℕ → ℕ → ℝ} {x0 : (⟨S4096x2304, .bf16⟩ : BufTy).Contents (Elt Ideal)}
variable {w : ℕ → ℕ → EReal} (HV : ∀ i : S4096x2304.Idx, x0 i = w (i 0).val (i 1).val)
variable (H0 : ∀ i : S4096x2304.Idx, (i 1).val < 512 → x0 i = ((a0 (i 0).val (i 1).val : ℝ) : EReal))

include H0 in
theorem v5_is : Is4 (n := ![2, 4, 2048, 64]) (val_main_v5 (F := Ideal) x0) (fun b h s e => rq a0 b s (64 * h + e)) := fun i => by
  have i0 : (i 0).val < 2 := (i 0).isLt
  have i1 : (i 1).val < 4 := (i 1).isLt
  have i2 : (i 2).val < 2048 := (i 2).isLt
  have i3 : (i 3).val < 64 := (i 3).isLt
  rw [val_main_v5_apply, val_main_v4_apply, val_main_v1_apply, val_main_v0_apply]
  have e0 : (idx_main_v1 (idx_main_v4 (idx_main_v5 i)) 0).val = 2048 * (i 0).val + (i 2).val := by
    show ((((i 0).val * 2048 + (i 2).val) * 4 + (i 1).val) * 64 + (i 3).val) / 256 = _; omega
  have e1 : (idx_main_v1 (idx_main_v4 (idx_main_v5 i)) 1).val = 64 * (i 1).val + (i 3).val := by
    show ((((i 0).val * 2048 + (i 2).val) * 4 + (i 1).val) * 64 + (i 3).val) % 256 = _; omega
  refine (H0 (idx_main_v1 (idx_main_v4 (idx_main_v5 i))) (by rw [e1]; omega)).trans ?_
  rw [e0, e1]; rfl
include H0 in
theorem v9_is : Is4 (n := ![2, 4, 2048, 64]) (val_main_v9 (F := Ideal) x0) (fun b h s e => rk a0 b s (64 * h + e)) := fun i => by
  have i0 : (i 0).val < 2 := (i 0).isLt
  have i1 : (i 1).val < 4 := (i 1).isLt
  have i2 : (i 2).val < 2048 := (i 2).isLt
  have i3 : (i 3).val < 64 := (i 3).isLt
  rw [val_main_v9_apply, val_main_v8_apply, val_main_v2_apply, val_main_v0_apply]
  have e0 : (idx_main_v2 (idx_main_v8 (idx_main_v9 i)) 0).val = 2048 * (i 0).val + (i 2).val := by
    show ((((i 0).val * 2048 + (i 2).val) * 4 + (i 1).val) * 64 + (i 3).val) / 256 = _; omega
  have e1 : (idx_main_v2 (idx_main_v8 (idx_main_v9 i)) 1).val = 256 + (64 * (i 1).val + (i 3).val) := by
    show 256 + ((((i 0).val * 2048 + (i 2).val) * 4 + (i 1).val) * 64 + (i 3).val) % 256 = _; omega
  refine (H0 (idx_main_v2 (idx_main_v8 (idx_main_v9 i))) (by rw [e1]; omega)).trans ?_
  rw [e0, e1]; rfl
include HV in
theorem v11_is (i : S2x4x2048x64.Idx) : val_main_v11 (F := Ideal) x0 i = rvE w (i 0).val (i 2).val (64 * (i 1).val + (i 3).val) := by
  have i0 : (i 0).val < 2 := (i 0).isLt
  have i1 : (i 1).val < 4 := (i 1).isLt
  have i2 : (i 2).val < 2048 := (i 2).isLt
  have i3 : (i 3).val < 64 := (i 3).isLt
  rw [val_main_v11_apply, val_main_v10_apply, val_main_v3_apply, val_main_v0_apply]
  have e0 : (idx_main_v3 (idx_main_v10 (idx_main_v11 i)) 0).val = 2048 * (i 0).val + (i 2).val := by
    show ((((i 0).val * 2048 + (i 2).val) * 4 + (i 1).val) * 64 + (i 3).val) / 256 = _; omega
  have e1 : (idx_main_v3 (idx_main_v10 (idx_main_v11 i)) 1).val = 512 + (64 * (i 1).val + (i 3).val) := by
    show 512 + ((((i 0).val * 2048 + (i 2).val) * 4 + (i 1).val) * 64 + (i 3).val) % 256 = _; omega
  refine (HV (idx_main_v3 (idx_main_v10 (idx_main_v11 i)))).trans ?_
  rw [e0, e1]; rfl
include H0 in
theorem v7_is : Is4 (n := ![2, 4, 2048, 64]) (val_main_v7 (F := Ideal) x0) (fun b h s e => sc (rq a0 b) s (64 * h + e)) := fun i => by
  rw [val_main_v7_apply, val_main_v6_apply, val_main_cst_apply]
  show val_main_v5 (F := Ideal) x0 i * Ideal.ofBits .f32 0x3E000000#32 = _
  rw [v5_is H0 i, eighth32, ← EReal.coe_mul]; rfl

include H0 in
theorem v12_is : Is4 (n := ![2, 4, 2048, 2048]) (val_main_v12 (F := Ideal) x0) (rz a0) := fun i => by
  rw [val_main_v12_apply, rz, dotH, coe_sum, Finset.sum_range]
  refine Finset.sum_congr rfl fun k _ => ?_
  rw [v7_is H0 _, v9_is H0 _, ← EReal.coe_mul]

theorem mask_eq (i : S2x4x2048x2048.Idx) : val_main_call1_v1 (F := Ideal) i = if (i 3).val < (i 2).val then 1#1 else 0#1 := by
  have i2 : (i 2).val < 2048 := (i 2).isLt
  have i3 : (i 3).val < 2048 := (i 3).isLt
  rw [val_main_call1_v1_apply, val_main_v19_apply, val_main_v17_apply, val_main_v18_apply, val_main_v14_apply, val_main_v16_apply, val_main_v13_apply, val_main_v15_apply]
  show IntOp.cmpi .slt (BitVec.ofNat 32 (i 3).val) (BitVec.ofNat 32 (i 2).val) = _
  rw [cmpi_slt_ofNat (by omega) (by omega)]
  by_cases h : (i 3).val < (i 2).val
  · rw [if_pos h, decide_eq_true h]; rfl
  · rw [if_neg h, decide_eq_false h]; rfl

theorem mask28_eq (i : S2x4x2048x2048.Idx) : val_main_call4_v1 (F := Ideal) i = if (i 3).val < (i 2).val then 1#1 else 0#1 := mask_eq i

include H0 in
theorem c0_is (i : S2x4x2048x2048.Idx) : val_main_call0_v0 (F := Ideal) x0 i = ((rz a0 (i 0).val (i 1).val (i 2).val (i 3).val : ℝ) : EReal) := by
  rw [val_main_call0_v0_apply, val_main_v20_apply]
  show -(-(val_main_v12 (F := Ideal) x0 i)) = _
  rw [neg_neg]; exact v12_is H0 i
include H0 in
theorem c3_is (i : S2x4x2048x2048.Idx) : val_main_call3_v0 (F := Ideal) x0 i = ((-rz a0 (i 0).val (i 1).val (i 2).val (i 3).val : ℝ) : EReal) := by
  rw [val_main_call3_v0_apply]
  show -(val_main_v12 (F := Ideal) x0 i) = _
  rw [v12_is H0 i, EReal.coe_neg]

theorem sp0_eq (i : S2x4x2048x2048.Idx) : val_main_call0_v1 (F := Ideal) x0 i = spE (val_main_call0_v0 (F := Ideal) x0 i) := rfl
theorem sp3_eq (i : S2x4x2048x2048.Idx) : val_main_call3_v1 (F := Ideal) x0 i = spE (val_main_call3_v0 (F := Ideal) x0 i) := rfl

include H0 in
theorem v21_is : Is4 (n := ![2, 4, 2048, 2048]) (val_main_v21 (F := Ideal) x0) (fun b h s j => lkR (rz a0 b h s j)) := fun i => by
  rw [val_main_v21_apply]
  show -(val_main_call0_v1 (F := Ideal) x0 i) = _
  rw [sp0_eq, c0_is H0 i, spE_coe, ← EReal.coe_neg, neg_neg]
include H0 in
theorem v25_is : Is4 (n := ![2, 4, 2048, 2048]) (val_main_v25 (F := Ideal) x0) (fun b h s j => rz a0 b h s j + lkR (rz a0 b h s j)) := fun i => by
  rw [val_main_v25_apply]
  show -(val_main_call3_v1 (F := Ideal) x0 i) = _
  rw [sp3_eq, c3_is H0 i, spE_coe, ← EReal.coe_neg, neg_neg, lkR_neg]

include H0 in
theorem v22_is : Is4 (n := ![2, 4, 2048, 2048]) (val_main_v22 (F := Ideal) x0) (rl a0) := fun i => by
  rw [val_main_v22_apply]
  exact sel_is (mask_eq i) (v21_is H0 i) zero32

theorem call2_zero (i : S_.Idx) : val_main_call2_v0 (F := Ideal) i = 0 := by
  rw [val_main_call2_v0_apply, val_main_call2_cst_apply]; exact Ideal.ofBits_zero_f32
theorem v23_eq : val_main_v23 (F := Ideal) x0 = Ideal.hostReduceWindowAdd ![1, 1, 1, 2048] ![1, 1, 1, 1] ![0, 0, 0, 0] ![0, 0, 0, 2047]
    Gen.reduceWindows_S2x4x2048x2048_S2x4x2048x2048_w1s1p0_0_w1s1p0_0_w1s1p0_0_w2048s1p0_2047 (val_main_v22 (F := Ideal) x0) 0 := by
  unfold val_main_v23
  exact win_eq _ _ _ _ _ _ _ _ call2_zero

include H0 in
theorem v24_is : Is4 (n := ![2, 4, 2048, 2048]) (val_main_v24 (F := Ideal) x0) (fun b h s j => ∑ i ∈ Ico (j + 1) 2048, rl a0 b h s i) := fun i => by
  have i3 : (i 3).val < 2048 := (i 3).isLt
  rw [val_main_v24_apply]
  show val_main_v23 (F := Ideal) x0 i - val_main_v22 (F := Ideal) x0 i = _
  rw [v23_eq, window_rev (v22_is H0) _ i, v22_is H0 i, ← EReal.coe_sub]
  congr 1
  beta_reduce
  rw [Finset.sum_eq_sum_Ico_succ_bot i3]; ring

include H0 in
theorem v27_is : Is4 (n := ![2, 4, 2048, 2048]) (val_main_v27 (F := Ideal) x0)
    (fun b h s j => Real.exp (rz a0 b h s j + lkR (rz a0 b h s j) + ∑ i ∈ Ico (j + 1) 2048, rl a0 b h s i)) := fun i => by
  rw [val_main_v27_apply, val_main_v26_apply]
  show Ideal.exp (val_main_v25 (F := Ideal) x0 i + val_main_v24 (F := Ideal) x0 i) = _
  rw [v25_is H0 i, v24_is H0 i, ← EReal.coe_add]; rfl

include H0 in
theorem v28_is : Is4 (n := ![2, 4, 2048, 2048]) (val_main_v28 (F := Ideal) x0) (ra a0) := fun i => by
  rw [val_main_v28_apply]
  refine (sel_is (mask28_eq i) (v27_is H0 i) zero32).trans ?_
  rw [ra, mA]
  congr 1
  by_cases h : (i 3).val < (i 2).val
  · rw [if_pos h, if_pos h, mL, if_pos h]; rfl
  · rw [if_neg h, if_neg h]

/-! ### The result -/

include HV H0 in
theorem v29_is (i : S2x4x2048x64.Idx) : val_main_v29 (F := Ideal) x0 i
    = moE (sc (rq a0 (i 0).val)) (rk a0 (i 0).val) (rvE w (i 0).val) (i 2).val (64 * (i 1).val + (i 3).val) := by
  have i3 : (i 3).val < 64 := (i 3).isLt
  rw [val_main_v29_apply, moE, Finset.sum_range, show (64 * (i 1).val + (i 3).val) / 64 = (i 1).val by omega]
  refine Finset.sum_congr rfl fun k _ => ?_
  rw [v28_is H0 _, v11_is HV _]; rfl

include HV H0 in
theorem v32_is (i : S4096x256.Idx) : val_main_v32 (F := Ideal) x0 i
    = moE (sc (rq a0 ((i 0).val / 2048))) (rk a0 ((i 0).val / 2048)) (rvE w ((i 0).val / 2048)) ((i 0).val % 2048) (i 1).val := by
  have i0 : (i 0).val < 4096 := (i 0).isLt
  have i1 : (i 1).val < 256 := (i 1).isLt
  have e0 : ((i 0).val * 256 + (i 1).val) / 524288 = (i 0).val / 2048 := by omega
  have e1 : ((i 0).val * 256 + (i 1).val) / 256 % 2048 = (i 0).val % 2048 := by omega
  have e2 : 64 * (((i 0).val * 256 + (i 1).val) / 64 % 4) + ((i 0).val * 256 + (i 1).val) % 64 = (i 1).val := by omega
  rw [val_main_v32_apply]
  show val_main_v31 (F := Ideal) x0 i = _
  rw [val_main_v31_apply, val_main_v30_apply, v29_is HV H0 _]
  show moE (sc (rq a0 (((i 0).val * 256 + (i 1).val) / 524288))) (rk a0 (((i 0).val * 256 + (i 1).val) / 524288)) (rvE w (((i 0).val * 256 + (i 1).val) / 524288)) (((i 0).val * 256 + (i 1).val) / 256 % 2048) (64 * (((i 0).val * 256 + (i 1).val) / 64 % 4) + ((i 0).val * 256 + (i 1).val) % 64) = _
  rw [e0, e1, e2]

end

end Cert.ReferenceSbFwdIdeal.Sbr

end
-- ==== Proof.Run.lean ====
/-
  The launch: the blocks the pipeline hands the body, what the body leaves, and the run of the whole program.
-/
module

public import proofs.«01_k».proof.Proof.Body
public import proofs.«01_k».proof.Proof.Gen.KernelIdeal.Frame
public import Idealize.ShloMosaic.Lib.Pipeline.Kit
public import Idealize.ShloMosaic.Lib.LoopRemainder

@[expose] public section

set_option maxRecDepth 8192
set_option maxHeartbeats 4000000

noncomputable section

namespace Cert.KernelIdeal.Sbw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation BodyObligationLoose cellOf)

variable {F : FTy → Type} [FloatOps F]
local notation "𝕄G" => MT nD τ sig Unit (Elt F) ℕ (UR sig nD τ) ℕ

variable (m : (ℓ : Loc nD τ sig) → Buf (Elt F) ℓ) (ρ : Dev nD → PrngReg)

/-- The block of the queries, of the keys, of the values and of the gradient at point `t`. -/
def inQ (c : Dev nD) (t : Fin cfg0.N) : S2048x256.Idx → Elt F .bf16 := iblk m c 0 t
def inK (c : Dev nD) (t : Fin cfg0.N) : S2048x256.Idx → Elt F .bf16 := iblk m c 1 t
def inV (c : Dev nD) (t : Fin cfg0.N) : S2048x256.Idx → Elt F .bf16 := iblk m c 2 t
def inG (c : Dev nD) (t : Fin cfg0.N) : S2048x256.Idx → Elt F .f32 := iblk m c 3 t

/-- What the body leaves in the staging buffers at point `t`. -/
def aft (c : Dev nD) : (w : Fin cfg0.W) → Fin cfg0.N → (cfg0.win w).block.Idx → Elt F (cfg0.win w).elt :=
  fun | 0 => fun t => inQ m c t | 1 => fun t => inK m c t | 2 => fun t => inV m c t | 3 => fun t => inG m c t
      | 4 => fun t => dqW BD ROW (inQ m c t) (inK m c t) (inV m c t) (inG m c t)
      | 5 => fun t => dkW BD ROW (inQ m c t) (inK m c t) (inV m c t) (inG m c t)
      | 6 => fun t => dvW BD ROW (inQ m c t) (inK m c t) (inV m c t) (inG m c t)
      | ⟨_ + 7, h⟩ => absurd h (Nat.not_lt.2 (Nat.le_add_left _ _))

/-- The proof data of the one pipeline. -/
def dats : (p : Fin 1) → (c : Dev nD) → Dat τ (Elt F) Unit ℕ (UR sig nD τ) ℕ (cfgs p) c :=
  fun | 0 => fun c =>
        { A := fun w => V m c (Pipeline.arrRef spec0 w)
          after := aft m c
          Φ := fun _ => Pipeline.ΦA spec0 c
          q := fun w => Pipeline.shareOf spec0 w
          owed := fun _ => 0 }
      | ⟨_ + 1, h⟩ => absurd h (Nat.not_lt.2 (Nat.le_add_left _ _))

theorem scr (c : Dev nD) (b : Ref sig .tc) (f : Buf (Elt F) ((c : Thread nD τ).loc b)) :
    (((c : Thread nD τ).loc b) ↦{fullShare} f : sProp 𝕄G) = ((Memref.whole b).view.loc (c : Thread nD τ) ↦[(Memref.whole b).view.set]{fullShare} f) := by
  simp only [Memref.view_whole, View.set_whole]

/-- Every point's body meets its obligation. -/
theorem body_ok (c : Dev nD) : BodyObligationLoose (dats (F := F) m 0 c) (defs₀ (F := F)) Variants.none () Set.univ := fun t => by
  rw [bigSep_W0, bigSep_W0]
  show _ ⊢ wp Idealize.ShloMosaic.frame (wpE (defs₀ (F := F)) Variants.none (c : Thread nD τ) none) Set.univ (bodyAt0 (F := F) t) _
  rw [show (dats (F := F) m 0 c).Φ t.castSucc = Pipeline.ΦA spec0 c from rfl, show (dats (F := F) m 0 c).Φ t.succ = Pipeline.ΦA spec0 c from rfl,
    show (dats (F := F) m 0 c).owesAt () t.succ = (dats (F := F) m 0 c).owesAt () t.castSucc from rfl]
  unfold bodyAt0
  rw [cc0_sb_bwd_eq_skeleton]
  unfold Pipeline.ΦA
  rw [scopedRest0_eq]
  simp only [scr, owns]
  iintro ⟨⟨⟨⟨%f8, H8⟩, ⟨%f9, H9⟩⟩, Hg⟩, Ho, ⟨%d0, %X1, %h1, H1⟩, ⟨%d1, %X2, %h2, H2⟩, ⟨%d2, %X3, %h3, H3⟩, ⟨%d3, %X4, %h4, H4⟩, ⟨%d4, %f5, -, H5⟩, ⟨%d5, %f6, -, H6⟩, ⟨%d6, %f7, -, H7⟩⟩
  rw [before0_0_of m (dats m 0 c) rfl (fun _ => rfl)] at h1
  rw [before0_1_of m (dats m 0 c) rfl (fun _ => rfl)] at h2
  rw [before0_2_of m (dats m 0 c) rfl (fun _ => rfl)] at h3
  rw [before0_3_of m (dats m 0 c) rfl (fun _ => rfl)] at h4
  iapply (wp_wand_r Idealize.ShloMosaic.frame (wpE (defs₀ (F := F)) Variants.none (c : Thread nD τ) none) Set.univ)
  isplitl [H1 H2 H3 H4 H5 H6 H7 H8 H9]
  · iapply (run_body (F := F) Variants.none c none Set.univ (grid0.coords t) (st0_0 t) _ (st0_1 t) _ (st0_2 t) _ (st0_3 t) _ (st0_4 t) _ (st0_5 t) _ (st0_6 t) _ (Memref.whole cc0_scratch0) _ (Memref.whole cc0_scratch1) _ X1 X2 X3 X4 f5 f6 f7 f8 f9)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %_ ⟨H1, H2, H3, H4, ⟨%g5, H5, %e5⟩, ⟨%g6, H6, %e6⟩, ⟨%g7, H7, %e7⟩, H8, H9⟩
    rw [h1, h2, h3, h4] at e5 e6 e7
    isplitl [H8 H9 Hg]
    · isplitr [Hg]
      · isplitl [H8]; · iexact H8
        iexact H9
      · iexact Hg
    isplitl [Ho]; · iexact Ho
    isplitl [H1]
    · iexists _; isplitr; swap; (· iexact H1); ipureintro; exact h1
    isplitl [H2]
    · iexists _; isplitr; swap; (· iexact H2); ipureintro; exact h2
    isplitl [H3]
    · iexists _; isplitr; swap; (· iexact H3); ipureintro; exact h3
    isplitl [H4]
    · iexists _; isplitr; swap; (· iexact H4); ipureintro; exact h4
    isplitl [H5]
    · iexists _; isplitr; swap; (· iexact H5); ipureintro; exact e5
    isplitl [H6]
    · iexists _; isplitr; swap; (· iexact H6); ipureintro; exact e6
    · iexists _; isplitr; swap; (· iexact H7); ipureintro; exact e7

/-- The run: the arrays end at what the proof data computes, every semaphore at zero. -/
theorem run_main : θ_run defs (onTc (τ := τ) (main (F := F))) (s₀ m ρ) (fun r => Pipeline.FramePost cfgs (dats (F := F) m) 0 (V m) r ∧ r.2.sem = fun _ => 0) :=
  Pipeline.θ_run_frame_shared cfgs (dats (F := F) m) 0 launch₀0 defs₀ Variants.none m ρ main (fun c => body_ok m c) (fun _ _ _ => rfl) (fun _ _ => rfl) (V m) (hmain m Variants.none)
    (fun _ _ => rfl) (fun _ _ => rfl) (Q' := _) (hQ' := fun _ h => h)

end Cert.KernelIdeal.Sbw
-- ==== Proof.Value.lean ====
/-
  The value claim: where the arguments the two programs read are real numbers, the three arrays the pipeline writes and
  the reference's three results hold the same real numbers.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Run
public import proofs.«01_k».proof.Proof.RefVal
public import Idealize.ShloMosaic.Lib.Pipeline.ValueKit.Geometry

@[expose] public section

set_option maxRecDepth 16384
set_option maxHeartbeats 4000000

noncomputable section

/-! ### What the precondition says -/

namespace Cert.Pre_finite

open Idealize.ShloMosaic
open Cert.KernelIdeal.Sbw (cat1_piece)

theorem real_of_lt {x : EReal} (h : max x (-x) < ⊤) : x = ((x.toReal : ℝ) : EReal) := by
  refine (EReal.coe_toReal (fun e => ?_) (fun e => ?_)).symm
  · subst e; simp at h
  · subst e; simp at h

theorem real_of_cmp {x : EReal} (h : Ideal.cmp .olt (max x (-x)) (Ideal.ofBits .f32 0x7F800000#32) = 1#1) : x = ((x.toReal : ℝ) : EReal) := by
  rw [Cert.ReferenceIdeal.Sbr.inf32] at h
  refine real_of_lt ?_
  by_contra hn
  have : Ideal.cmp .olt (max x (-x)) ⊤ = 0#1 := by
    show BitVec.ofBool (decide _) = _
    rw [decide_eq_false hn]; rfl
  rw [this] at h
  exact absurd h (by decide)

section
variable {x0 : FVec Ideal S4096x2304 .bf16} {x1 : FVec Ideal S4096x1024 .f32} (h : fn (F := Ideal) x0 x1 = fun _ => 1#1)

include h in
theorem real0 (i : S4096x2304.Idx) (hi : (i 1).val < 768) : x0 i = (((x0 i).toReal : ℝ) : EReal) := by
  have h0 : (i 0).val < 4096 := (i 0).isLt
  have e := congrFun h (ix2 ⟨(i 0).val, h0⟩ ⟨(i 1).val, by omega⟩)
  have ec : concatenate S4096x1024 1 [⟨S4096x768, (extf .f32 · Facts.bitsLt_bf16_f32) ((extractStridedSlice S4096x768 ![0, 0] · Facts.slices_S4096x2304_S4096x768_0_0) x0)⟩,
      ⟨S4096x256, (extractStridedSlice S4096x256 ![0, 0] · Facts.slices_S4096x1024_S4096x256_0_0) x1⟩] Facts.concatenates_S4096x768_S4096x256_S4096x1024_d1
      (ix2 ⟨(i 0).val, h0⟩ ⟨(i 1).val, by omega⟩) = x0 i := by
    refine (cat1_piece _ _ 0 (by simp) _ rfl 0 rfl _ _ (by omega) (by show (i 1).val < 0 + 768; omega)).trans ?_
    refine congrArg x0 (funext fun a => Fin.ext ?_)
    fin_cases a
    · show 0 + (i 0).val = (i 0).val; omega
    · show 0 + ((i 1).val - 0) = (i 1).val; omega
  refine real_of_cmp ?_
  rw [← ec]; exact e

include h in
theorem real1 (i : S4096x1024.Idx) (hi : (i 1).val < 256) : x1 i = (((x1 i).toReal : ℝ) : EReal) := by
  have h0 : (i 0).val < 4096 := (i 0).isLt
  have e := congrFun h (ix2 ⟨(i 0).val, h0⟩ ⟨768 + (i 1).val, by omega⟩)
  have ec : concatenate S4096x1024 1 [⟨S4096x768, (extf .f32 · Facts.bitsLt_bf16_f32) ((extractStridedSlice S4096x768 ![0, 0] · Facts.slices_S4096x2304_S4096x768_0_0) x0)⟩,
      ⟨S4096x256, (extractStridedSlice S4096x256 ![0, 0] · Facts.slices_S4096x1024_S4096x256_0_0) x1⟩] Facts.concatenates_S4096x768_S4096x256_S4096x1024_d1
      (ix2 ⟨(i 0).val, h0⟩ ⟨768 + (i 1).val, by omega⟩) = x1 i := by
    refine (cat1_piece _ _ 1 (by simp) _ rfl 768 rfl _ _ (by show 768 ≤ 768 + (i 1).val; omega) (by show 768 + (i 1).val < 768 + 256; omega)).trans ?_
    refine congrArg x1 (funext fun a => Fin.ext ?_)
    fin_cases a
    · show 0 + (i 0).val = (i 0).val; omega
    · show 0 + (768 + (i 1).val - 768) = (i 1).val; omega
  refine real_of_cmp ?_
  rw [← ec]; exact e

end

end Cert.Pre_finite

/-! ### The arrays the pipeline leaves -/

namespace Cert.KernelIdeal.Sbw

open Idealize.ShloMosaic Idealize.ShloMosaic.TcCoe Idealize.ShloMosaic.Tactic
open Cert.KernelIdeal Cert.KernelIdeal.Gen
open Cert.ReferenceIdeal.Sbr (rq rk rv rg)
open Idealize.ShloMosaic.Pipeline (Dat Cfg Window)

variable {m : (ℓ : Loc nD τ sig) → Buf (Elt Ideal) ℓ} {c : Dev nD} {a0 a1 : ℕ → ℕ → ℝ}
variable (H0 : ∀ i : S4096x2304.Idx, (i 1).val < 768 → m ((c.tc : Thread nD τ).loc main_arg0) i = ((a0 (i 0).val (i 1).val : ℝ) : EReal))
variable (H1 : ∀ i : S4096x1024.Idx, (i 1).val < 256 → m ((c.tc : Thread nD τ).loc main_arg1) i = ((a1 (i 0).val (i 1).val : ℝ) : EReal))

theorem ixw0 : ∀ t : Fin cfg0.N, win0_0.index t = ![t.val, 0] := (by decide +kernel : ∀ t : Fin grid0.N, _)
theorem ixw1 : ∀ t : Fin cfg0.N, win0_1.index t = ![t.val, 1] := (by decide +kernel : ∀ t : Fin grid0.N, _)
theorem ixw2 : ∀ t : Fin cfg0.N, win0_2.index t = ![t.val, 2] := (by decide +kernel : ∀ t : Fin grid0.N, _)
theorem ixw3 : ∀ t : Fin cfg0.N, win0_3.index t = ![t.val, 0] := (by decide +kernel : ∀ t : Fin grid0.N, _)
theorem ixw4 : ∀ t : Fin cfg0.N, win0_4.index t = ![t.val, 0] := (by decide +kernel : ∀ t : Fin grid0.N, _)
theorem ixw5 : ∀ t : Fin cfg0.N, win0_5.index t = ![t.val, 0] := (by decide +kernel : ∀ t : Fin grid0.N, _)
theorem ixw6 : ∀ t : Fin cfg0.N, win0_6.index t = ![t.val, 0] := (by decide +kernel : ∀ t : Fin grid0.N, _)

include H0 in
theorem inQ_is (t : Fin cfg0.N) : Is (a := 2048) (b := 256) (inQ m c t) (rq a0 t.val) := Is.of fun y => by
  have y0 : (y 0).val < 2048 := (y 0).isLt
  have y1 : (y 1).val < 256 := (y 1).isLt
  show m ((c.tc : Thread nD τ).loc main_arg0) ((win0_0.blk t).view.emb y) = _
  have e0 : ((win0_0.blk t).view.emb y 0).val = 2048 * t.val + (y 0).val := by blk_simp [ixw0]; omega
  have e1 : ((win0_0.blk t).view.emb y 1).val = (y 1).val := by blk_simp [ixw0]
  refine (H0 ((win0_0.blk t).view.emb y) (by rw [e1]; omega)).trans ?_
  rw [e0, e1]; rfl
include H0 in
theorem inK_is (t : Fin cfg0.N) : Is (a := 2048) (b := 256) (inK m c t) (rk a0 t.val) := Is.of fun y => by
  have y0 : (y 0).val < 2048 := (y 0).isLt
  have y1 : (y 1).val < 256 := (y 1).isLt
  show m ((c.tc : Thread nD τ).loc main_arg0) ((win0_1.blk t).view.emb y) = _
  have e0 : ((win0_1.blk t).view.emb y 0).val = 2048 * t.val + (y 0).val := by blk_simp [ixw1]; omega
  have e1 : ((win0_1.blk t).view.emb y 1).val = 256 + (y 1).val := by blk_simp [ixw1]
  refine (H0 ((win0_1.blk t).view.emb y) (by rw [e1]; omega)).trans ?_
  rw [e0, e1]; rfl
include H0 in
theorem inV_is (t : Fin cfg0.N) : Is (a := 2048) (b := 256) (inV m c t) (rv a0 t.val) := Is.of fun y => by
  have y0 : (y 0).val < 2048 := (y 0).isLt
  have y1 : (y 1).val < 256 := (y 1).isLt
  show m ((c.tc : Thread nD τ).loc main_arg0) ((win0_2.blk t).view.emb y) = _
  have e0 : ((win0_2.blk t).view.emb y 0).val = 2048 * t.val + (y 0).val := by blk_simp [ixw2]; omega
  have e1 : ((win0_2.blk t).view.emb y 1).val = 512 + (y 1).val := by blk_simp [ixw2]
  refine (H0 ((win0_2.blk t).view.emb y) (by rw [e1]; omega)).trans ?_
  rw [e0, e1]; rfl
include H1 in
theorem inG_is (t : Fin cfg0.N) : Is (a := 2048) (b := 256) (inG m c t) (rg a1 t.val) := Is.of fun y => by
  have y0 : (y 0).val < 2048 := (y 0).isLt
  have y1 : (y 1).val < 256 := (y 1).isLt
  show m ((c.tc : Thread nD τ).loc main_arg1) ((win0_3.blk t).view.emb y) = _
  have e0 : ((win0_3.blk t).view.emb y 0).val = 2048 * t.val + (y 0).val := by blk_simp [ixw3]; omega
  have e1 : ((win0_3.blk t).view.emb y 1).val = (y 1).val := by blk_simp [ixw3]
  refine (H1 ((win0_3.blk t).view.emb y) (by rw [e1]; omega)).trans ?_
  rw [e0, e1]; rfl

/-- The three results, element by element. -/
def oq (a0 a1 : ℕ → ℕ → ℝ) (r d : ℕ) : ℝ :=
  mdq (sc (rq a0 (r / 2048))) (rk a0 (r / 2048)) (rv a0 (r / 2048)) (rg a1 (r / 2048)) (r % 2048) d
def ok (a0 a1 : ℕ → ℕ → ℝ) (r d : ℕ) : ℝ :=
  mdk (sc (rq a0 (r / 2048))) (rk a0 (r / 2048)) (rv a0 (r / 2048)) (rg a1 (r / 2048)) (r % 2048) d
def ov (a0 a1 : ℕ → ℕ → ℝ) (r d : ℕ) : ℝ :=
  mdv (sc (rq a0 (r / 2048))) (rk a0 (r / 2048)) (rg a1 (r / 2048)) (r % 2048) d

include H0 H1 in
theorem arr4 : (dats (F := Ideal) m 0 c).arrAt 4 cfg0.N = fun i : S4096x256.Idx => ((oq a0 a1 (i 0).val (i 1).val : ℝ) : EReal) := by
  refine (dats (F := Ideal) m 0 c).arrAt_eq_of_covers 4 _ (by decide +kernel) fun t _ y => ?_
  have y0 : (y 0).val < 2048 := (y 0).isLt
  have e0 : ((win0_4.blk t).view.emb y 0).val = 2048 * t.val + (y 0).val := by blk_simp [ixw4]; omega
  have e1 : ((win0_4.blk t).view.emb y 1).val = (y 1).val := by blk_simp [ixw4]
  refine ((dqW_is (inQ_is H0 t) (inK_is H0 t) (inV_is H0 t) (inG_is H1 t)).at y).trans ?_
  show _ = ((oq a0 a1 ((win0_4.blk t).view.emb y 0).val ((win0_4.blk t).view.emb y 1).val : ℝ) : EReal)
  rw [e0, e1, oq, show (2048 * t.val + (y 0).val) / 2048 = t.val by omega, show (2048 * t.val + (y 0).val) % 2048 = (y 0).val by omega]
include H0 H1 in
theorem arr5 : (dats (F := Ideal) m 0 c).arrAt 5 cfg0.N = fun i : S4096x256.Idx => ((ok a0 a1 (i 0).val (i 1).val : ℝ) : EReal) := by
  refine (dats (F := Ideal) m 0 c).arrAt_eq_of_covers 5 _ (by decide +kernel) fun t _ y => ?_
  have y0 : (y 0).val < 2048 := (y 0).isLt
  have e0 : ((win0_5.blk t).view.emb y 0).val = 2048 * t.val + (y 0).val := by blk_simp [ixw5]; omega
  have e1 : ((win0_5.blk t).view.emb y 1).val = (y 1).val := by blk_simp [ixw5]
  refine ((dkW_is (inQ_is H0 t) (inK_is H0 t) (inV_is H0 t) (inG_is H1 t)).at y).trans ?_
  show _ = ((ok a0 a1 ((win0_5.blk t).view.emb y 0).val ((win0_5.blk t).view.emb y 1).val : ℝ) : EReal)
  rw [e0, e1, ok, show (2048 * t.val + (y 0).val) / 2048 = t.val by omega, show (2048 * t.val + (y 0).val) % 2048 = (y 0).val by omega]
include H0 H1 in
theorem arr6 : (dats (F := Ideal) m 0 c).arrAt 6 cfg0.N = fun i : S4096x256.Idx => ((ov a0 a1 (i 0).val (i 1).val : ℝ) : EReal) := by
  refine (dats (F := Ideal) m 0 c).arrAt_eq_of_covers 6 _ (by decide +kernel) fun t _ y => ?_
  have y0 : (y 0).val < 2048 := (y 0).isLt
  have e0 : ((win0_6.blk t).view.emb y 0).val = 2048 * t.val + (y 0).val := by blk_simp [ixw6]; omega
  have e1 : ((win0_6.blk t).view.emb y 1).val = (y 1).val := by blk_simp [ixw6]
  refine ((dvW_is (V := inV m c t) (inQ_is H0 t) (inK_is H0 t) (inG_is H1 t)).at y).trans ?_
  show _ = ((ov a0 a1 ((win0_6.blk t).view.emb y 0).val ((win0_6.blk t).view.emb y 1).val : ℝ) : EReal)
  rw [e0, e1, ov, show (2048 * t.val + (y 0).val) / 2048 = t.val by omega, show (2048 * t.val + (y 0).val) % 2048 = (y 0).val by omega]

end Cert.KernelIdeal.Sbw

/-! ### The claim -/

namespace Cert.Proof

open Idealize.ShloMosaic Idealize.SL.Sem
open Cert.KernelIdeal.Sbw (oq ok ov arr4 arr5 arr6)

/-- The real number an array of a rank-2 shape holds at a row and a column. -/
def realAt {a b : ℕ} (x : (⟨2, ![a, b]⟩ : Shape).Idx → EReal) (r c : ℕ) : ℝ :=
  if h : r < a ∧ c < b then (x (ix2 ⟨r, h.1⟩ ⟨c, h.2⟩)).toReal else 0

theorem realAt_eq {a b : ℕ} (x : (⟨2, ![a, b]⟩ : Shape).Idx → EReal) (i : (⟨2, ![a, b]⟩ : Shape).Idx) :
    realAt x (i 0).val (i 1).val = (x i).toReal := by
  have h0 : (i 0).val < a := (i 0).isLt
  have h1 : (i 1).val < b := (i 1).isLt
  rw [realAt, dif_pos ⟨h0, h1⟩]
  conv_rhs => rw [eq_ix2 i]
  rfl

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hp ha => by
  have H0 : ∀ (c : Dev Cert.KernelIdeal.nD) (i : Cert.KernelIdeal.S4096x2304.Idx), (i 1).val < 768 →
      m ((c.tc : Thread Cert.KernelIdeal.nD Cert.KernelIdeal.τ).loc Cert.KernelIdeal.main_arg0) i
        = ((realAt (a := 4096) (b := 2304) (m ((c.tc : Thread Cert.KernelIdeal.nD Cert.KernelIdeal.τ).loc Cert.KernelIdeal.main_arg0)) (i 0).val (i 1).val : ℝ) : EReal) :=
    fun c i hi => (Cert.Pre_finite.real0 (hp c) i hi).trans (congrArg _ (realAt_eq _ i).symm)
  have H1 : ∀ (c : Dev Cert.KernelIdeal.nD) (i : Cert.KernelIdeal.S4096x1024.Idx), (i 1).val < 256 →
      m ((c.tc : Thread Cert.KernelIdeal.nD Cert.KernelIdeal.τ).loc Cert.KernelIdeal.main_arg1) i
        = ((realAt (a := 4096) (b := 1024) (m ((c.tc : Thread Cert.KernelIdeal.nD Cert.KernelIdeal.τ).loc Cert.KernelIdeal.main_arg1)) (i 0).val (i 1).val : ℝ) : EReal) :=
    fun c i hi => (Cert.Pre_finite.real1 (hp c) i hi).trans (congrArg _ (realAt_eq _ i).symm)
  have H0' : ∀ (c : Dev Cert.KernelIdeal.nD) (i : Cert.ReferenceIdeal.S4096x2304.Idx), (i 1).val < 768 →
      m' ((c.tc : Thread Cert.ReferenceIdeal.nD Cert.ReferenceIdeal.τ).loc Cert.ReferenceIdeal.main_arg0) i
        = ((realAt (a := 4096) (b := 2304) (m ((c.tc : Thread Cert.KernelIdeal.nD Cert.KernelIdeal.τ).loc Cert.KernelIdeal.main_arg0)) (i 0).val (i 1).val : ℝ) : EReal) :=
    fun c i hi => (congrFun (ha c).1 i).trans (H0 c i hi)
  have H1' : ∀ (c : Dev Cert.KernelIdeal.nD) (i : Cert.ReferenceIdeal.S4096x1024.Idx), (i 1).val < 256 →
      m' ((c.tc : Thread Cert.ReferenceIdeal.nD Cert.ReferenceIdeal.τ).loc Cert.ReferenceIdeal.main_arg1) i
        = ((realAt (a := 4096) (b := 1024) (m ((c.tc : Thread Cert.KernelIdeal.nD Cert.KernelIdeal.τ).loc Cert.KernelIdeal.main_arg1)) (i 0).val (i 1).val : ℝ) : EReal) :=
    fun c i hi => (congrFun (ha c).2 i).trans (H1 c i hi)
  refine ⟨fun c (i : Cert.KernelIdeal.S4096x256.Idx) => ((oq (realAt (a := 4096) (b := 2304) (m ((c.tc : Thread Cert.KernelIdeal.nD Cert.KernelIdeal.τ).loc Cert.KernelIdeal.main_arg0)))
      (realAt (a := 4096) (b := 1024) (m ((c.tc : Thread Cert.KernelIdeal.nD Cert.KernelIdeal.τ).loc Cert.KernelIdeal.main_arg1))) (i 0).val (i 1).val : ℝ) : EReal), fun c (i : Cert.KernelIdeal.S4096x256.Idx) => ((ok (realAt (a := 4096) (b := 2304) (m ((c.tc : Thread Cert.KernelIdeal.nD Cert.KernelIdeal.τ).loc Cert.KernelIdeal.main_arg0)))
      (realAt (a := 4096) (b := 1024) (m ((c.tc : Thread Cert.KernelIdeal.nD Cert.KernelIdeal.τ).loc Cert.KernelIdeal.main_arg1))) (i 0).val (i 1).val : ℝ) : EReal),
    fun c (i : Cert.KernelIdeal.S4096x256.Idx) => ((ov (realAt (a := 4096) (b := 2304) (m ((c.tc : Thread Cert.KernelIdeal.nD Cert.KernelIdeal.τ).loc Cert.KernelIdeal.main_arg0)))
      (realAt (a := 4096) (b := 1024) (m ((c.tc : Thread Cert.KernelIdeal.nD Cert.KernelIdeal.τ).loc Cert.KernelIdeal.main_arg1))) (i 0).val (i 1).val : ℝ) : EReal), ?_, ?_⟩
  · refine (θ_run Cert.KernelIdeal.defs _ _).mono (fun _ h c => ⟨((h.1 c).1 4).trans (arr4 (H0 c) (H1 c)), ((h.1 c).1 5).trans (arr5 (H0 c) (H1 c)),
      ((h.1 c).1 6).trans (arr6 (H0 c) (H1 c)),
      ((h.1 c).1 2).trans (((Cert.KernelIdeal.Sbw.dats m 0 c).arrAt_in 2 rfl _).trans (Cert.KernelIdeal.Gen.V_main_arg0 m c)),
      ((h.1 c).1 3).trans (((Cert.KernelIdeal.Sbw.dats m 0 c).arrAt_in 3 rfl _).trans (Cert.KernelIdeal.Gen.V_main_arg1 m c))⟩)
      (Cert.KernelIdeal.Sbw.run_main m ρ)
  · refine (θ_run Cert.ReferenceIdeal.defs _ _).mono (fun _ h c => ⟨(h c).1.trans ?_, (h c).2.1.trans ?_, (h c).2.2.1.trans ?_, (h c).2.2.2.1, (h c).2.2.2.2⟩)
      (Cert.ReferenceIdeal.Value.run (F := Ideal) m' ρ')
    · exact (Cert.ReferenceIdeal.Read.val_main_v57_eq m' c).trans (funext fun i => Cert.ReferenceIdeal.Sbr.v57_is (H0' c) (H1' c) i)
    · exact (Cert.ReferenceIdeal.Read.val_main_v53_eq m' c).trans (funext fun i => Cert.ReferenceIdeal.Sbr.v53_is (H0' c) (H1' c) i)
    · exact (Cert.ReferenceIdeal.Read.val_main_v51_eq m' c).trans (funext fun i => Cert.ReferenceIdeal.Sbr.v51_is (H0' c) (H1' c) i)

end Cert.Proof

end
-- ==== Proof.FwdValue.lean ====
/-
  The forward attention's value claim: where the columns of the queries and of the keys hold real numbers, the array
  the pipeline writes and the reference's result hold the same extended reals.
-/
module

public import proofs.«01_k».proof.Defs
public import proofs.«01_k».proof.Proof.Gen.SbFwdIdeal
public import proofs.«01_k».proof.Proof.Gen.ReferenceSbFwdIdeal
public import proofs.«01_k».proof.Proof.Gen.ReferenceSbFwdIdeal.Run
public import proofs.«01_k».proof.Proof.Gen.Pre_finite_qk
public import proofs.«01_k».proof.Proof.FwdSame
public import proofs.«01_k».proof.Proof.FwdRun
public import proofs.«01_k».proof.Proof.FwdRef
public import proofs.«01_k».proof.Proof.Value
public import Idealize.ShloMosaic.Lib.Pipeline.ValueKit.Geometry

@[expose] public section

set_option maxRecDepth 16384
set_option maxHeartbeats 4000000

noncomputable section

namespace Cert.Pre_finite_qk

open Idealize.ShloMosaic

theorem real0 {x0 : FVec Ideal S4096x2304 .bf16} (h : fn (F := Ideal) x0 = fun _ => 1#1) (i : S4096x2304.Idx) (hi : (i 1).val < 512) :
    x0 i = (((x0 i).toReal : ℝ) : EReal) := by
  have h0 : (i 0).val < 4096 := (i 0).isLt
  have e := congrFun h (ix2 ⟨(i 0).val, h0⟩ ⟨(i 1).val, hi⟩)
  have ec : (extf .f32 · Facts.bitsLt_bf16_f32) ((extractStridedSlice S4096x512 ![0, 0] · Facts.slices_S4096x2304_S4096x512_0_0) x0) (ix2 ⟨(i 0).val, h0⟩ ⟨(i 1).val, hi⟩) = x0 i := by
    refine congrArg x0 (funext fun a => Fin.ext ?_)
    fin_cases a
    · show 0 + (i 0).val = (i 0).val; omega
    · show 0 + (i 1).val = (i 1).val; omega
  refine Cert.Pre_finite.real_of_cmp ?_
  rw [← ec]; exact e

end Cert.Pre_finite_qk

/-! ### The array the pipeline leaves -/

namespace Cert.SbFwdIdeal.Sbf

open Idealize.ShloMosaic Idealize.ShloMosaic.TcCoe Idealize.ShloMosaic.Tactic
open Cert.SbFwdIdeal Cert.SbFwdIdeal.Gen
open Cert.KernelIdeal.Sbw (Is IsE oW oW_isE moE sc)
open Cert.ReferenceIdeal.Sbr (rq rk)
open Cert.ReferenceSbFwdIdeal.Sbr (rvE)
open Idealize.ShloMosaic.Pipeline (Dat Cfg Window)

variable {m : (ℓ : Loc nD τ sig) → Buf (Elt Ideal) ℓ} {c : Dev nD} {a0 : ℕ → ℕ → ℝ} {w : ℕ → ℕ → EReal}
variable (HV : ∀ i : S4096x2304.Idx, m ((c.tc : Thread nD τ).loc main_arg0) i = w (i 0).val (i 1).val)
variable (H0 : ∀ i : S4096x2304.Idx, (i 1).val < 512 → m ((c.tc : Thread nD τ).loc main_arg0) i = ((a0 (i 0).val (i 1).val : ℝ) : EReal))

theorem ixw0 : ∀ t : Fin cfg0.N, win0_0.index t = ![t.val, 0] := (by decide +kernel : ∀ t : Fin grid0.N, _)
theorem ixw1 : ∀ t : Fin cfg0.N, win0_1.index t = ![t.val, 1] := (by decide +kernel : ∀ t : Fin grid0.N, _)
theorem ixw2 : ∀ t : Fin cfg0.N, win0_2.index t = ![t.val, 2] := (by decide +kernel : ∀ t : Fin grid0.N, _)
theorem ixw3 : ∀ t : Fin cfg0.N, win0_3.index t = ![t.val, 0] := (by decide +kernel : ∀ t : Fin grid0.N, _)

include H0 in
theorem inQ_is (t : Fin cfg0.N) : Is (a := 2048) (b := 256) (inQ m c t) (rq a0 t.val) := Is.of fun y => by
  have y0 : (y 0).val < 2048 := (y 0).isLt
  have y1 : (y 1).val < 256 := (y 1).isLt
  show m ((c.tc : Thread nD τ).loc main_arg0) ((win0_0.blk t).view.emb y) = _
  have e0 : ((win0_0.blk t).view.emb y 0).val = 2048 * t.val + (y 0).val := by blk_simp [ixw0]; omega
  have e1 : ((win0_0.blk t).view.emb y 1).val = (y 1).val := by blk_simp [ixw0]
  refine (H0 ((win0_0.blk t).view.emb y) (by rw [e1]; omega)).trans ?_
  rw [e0, e1]; rfl
include H0 in
theorem inK_is (t : Fin cfg0.N) : Is (a := 2048) (b := 256) (inK m c t) (rk a0 t.val) := Is.of fun y => by
  have y0 : (y 0).val < 2048 := (y 0).isLt
  have y1 : (y 1).val < 256 := (y 1).isLt
  show m ((c.tc : Thread nD τ).loc main_arg0) ((win0_1.blk t).view.emb y) = _
  have e0 : ((win0_1.blk t).view.emb y 0).val = 2048 * t.val + (y 0).val := by blk_simp [ixw1]; omega
  have e1 : ((win0_1.blk t).view.emb y 1).val = 256 + (y 1).val := by blk_simp [ixw1]
  refine (H0 ((win0_1.blk t).view.emb y) (by rw [e1]; omega)).trans ?_
  rw [e0, e1]; rfl
include HV in
theorem inV_is (t : Fin cfg0.N) : IsE (a := 2048) (b := 256) (inV m c t) (rvE w t.val) := IsE.of fun y => by
  have y0 : (y 0).val < 2048 := (y 0).isLt
  have y1 : (y 1).val < 256 := (y 1).isLt
  show m ((c.tc : Thread nD τ).loc main_arg0) ((win0_2.blk t).view.emb y) = _
  have e0 : ((win0_2.blk t).view.emb y 0).val = 2048 * t.val + (y 0).val := by blk_simp [ixw2]; omega
  have e1 : ((win0_2.blk t).view.emb y 1).val = 512 + (y 1).val := by blk_simp [ixw2]
  refine (HV ((win0_2.blk t).view.emb y)).trans ?_
  rw [e0, e1]; rfl
/-- The result, element by element. -/
def oo (a0 : ℕ → ℕ → ℝ) (w : ℕ → ℕ → EReal) (r d : ℕ) : EReal := moE (sc (rq a0 (r / 2048))) (rk a0 (r / 2048)) (rvE w (r / 2048)) (r % 2048) d

include HV H0 in
theorem arr3 : (dats (F := Ideal) m 0 c).arrAt 3 cfg0.N = fun i : S4096x256.Idx => oo a0 w (i 0).val (i 1).val := by
  refine (dats (F := Ideal) m 0 c).arrAt_eq_of_covers 3 _ (by decide +kernel) fun t _ y => ?_
  have y0 : (y 0).val < 2048 := (y 0).isLt
  have e0 : ((win0_3.blk t).view.emb y 0).val = 2048 * t.val + (y 0).val := by blk_simp [ixw3]; omega
  have e1 : ((win0_3.blk t).view.emb y 1).val = (y 1).val := by blk_simp [ixw3]
  refine ((oW_isE (inQ_is H0 t) (inK_is H0 t) (inV_is HV t)).at y).trans ?_
  show _ = oo a0 w ((win0_3.blk t).view.emb y 0).val ((win0_3.blk t).view.emb y 1).val
  rw [e0, e1, oo, show (2048 * t.val + (y 0).val) / 2048 = t.val by omega, show (2048 * t.val + (y 0).val) % 2048 = (y 0).val by omega]

end Cert.SbFwdIdeal.Sbf

/-! ### The claim -/

namespace Cert.Proof

open Idealize.ShloMosaic Idealize.SL.Sem
open Cert.SbFwdIdeal.Sbf (oo arr3)

/-- An array's element by its two numbers. -/
def anyAt {a b : ℕ} (x : (⟨2, ![a, b]⟩ : Shape).Idx → EReal) (r c : ℕ) : EReal :=
  if h : r < a ∧ c < b then x (ix2 ⟨r, h.1⟩ ⟨c, h.2⟩) else 0

theorem anyAt_eq {a b : ℕ} (x : (⟨2, ![a, b]⟩ : Shape).Idx → EReal) (i : (⟨2, ![a, b]⟩ : Shape).Idx) :
    x i = anyAt x (i 0).val (i 1).val := by
  have h0 : (i 0).val < a := (i 0).isLt
  have h1 : (i 1).val < b := (i 1).isLt
  rw [anyAt, dif_pos ⟨h0, h1⟩]
  conv_lhs => rw [eq_ix2 i]
  rfl

theorem algebraic_SbFwd : Cert.algebraic_SbFwdIdeal_ReferenceSbFwdIdeal_pre_finite_qk (hSbFwdIdeal := Cert.SbFwdIdeal.Gen.facts)
    (hReferenceSbFwdIdeal := Cert.ReferenceSbFwdIdeal.Gen.facts) (hPre_finite_qk := Cert.Pre_finite_qk.Gen.facts) := fun m ρ m' ρ' hp ha => by
  have H0 : ∀ (c : Dev Cert.SbFwdIdeal.nD) (i : Cert.SbFwdIdeal.S4096x2304.Idx), (i 1).val < 512 →
      m ((c.tc : Thread Cert.SbFwdIdeal.nD Cert.SbFwdIdeal.τ).loc Cert.SbFwdIdeal.main_arg0) i
        = ((realAt (a := 4096) (b := 2304) (m ((c.tc : Thread Cert.SbFwdIdeal.nD Cert.SbFwdIdeal.τ).loc Cert.SbFwdIdeal.main_arg0)) (i 0).val (i 1).val : ℝ) : EReal) :=
    fun c i hi => (Cert.Pre_finite_qk.real0 (hp c) i hi).trans (congrArg _ (realAt_eq _ i).symm)
  have H0' : ∀ (c : Dev Cert.SbFwdIdeal.nD) (i : Cert.ReferenceSbFwdIdeal.S4096x2304.Idx), (i 1).val < 512 →
      m' ((c.tc : Thread Cert.ReferenceSbFwdIdeal.nD Cert.ReferenceSbFwdIdeal.τ).loc Cert.ReferenceSbFwdIdeal.main_arg0) i
        = ((realAt (a := 4096) (b := 2304) (m ((c.tc : Thread Cert.SbFwdIdeal.nD Cert.SbFwdIdeal.τ).loc Cert.SbFwdIdeal.main_arg0)) (i 0).val (i 1).val : ℝ) : EReal) :=
    fun c i hi => (congrFun (ha c) i).trans (H0 c i hi)
  refine ⟨fun c (i : Cert.SbFwdIdeal.S4096x256.Idx) => oo (realAt (a := 4096) (b := 2304) (m ((c.tc : Thread Cert.SbFwdIdeal.nD Cert.SbFwdIdeal.τ).loc Cert.SbFwdIdeal.main_arg0))) (anyAt (a := 4096) (b := 2304) (m ((c.tc : Thread Cert.SbFwdIdeal.nD Cert.SbFwdIdeal.τ).loc Cert.SbFwdIdeal.main_arg0))) (i 0).val (i 1).val, ?_, ?_⟩
  · refine (θ_run Cert.SbFwdIdeal.defs _ _).mono (fun _ h c => ⟨((h.1 c).1 3).trans (arr3 (anyAt_eq (m ((c.tc : Thread Cert.SbFwdIdeal.nD Cert.SbFwdIdeal.τ).loc Cert.SbFwdIdeal.main_arg0))) (H0 c)),
      ((h.1 c).1 2).trans (((Cert.SbFwdIdeal.Sbf.dats m 0 c).arrAt_in 2 rfl _).trans (Cert.SbFwdIdeal.Gen.V_main_arg0 m c))⟩)
      (Cert.SbFwdIdeal.Sbf.run_main m ρ)
  · refine (θ_run Cert.ReferenceSbFwdIdeal.defs _ _).mono (fun _ h c => ⟨(h c).1.trans ?_, (h c).2⟩)
      (Cert.ReferenceSbFwdIdeal.Value.run (F := Ideal) m' ρ')
    exact (Cert.ReferenceSbFwdIdeal.Read.val_main_v32_eq m' c).trans (funext fun i => Cert.ReferenceSbFwdIdeal.Sbr.v32_is (fun i => (congrFun (ha c) i).trans (anyAt_eq (m ((c.tc : Thread Cert.SbFwdIdeal.nD Cert.SbFwdIdeal.τ).loc Cert.SbFwdIdeal.main_arg0)) i)) (H0' c) i)

/-- The run of the forward attention at any float values: its argument unchanged and every counter at zero. -/
theorem run_args_SbFwd {F : FTy → Type} [FloatOps F] (m : (ℓ : Loc Cert.SbFwdIdeal.nD Cert.SbFwdIdeal.τ Cert.SbFwdIdeal.sig) → Buf (Elt F) ℓ)
    (ρ : Dev Cert.SbFwdIdeal.nD → PrngReg) :
    θ_run (Cert.SbFwdIdeal.defs (F := F)) (onTc (τ := Cert.SbFwdIdeal.τ) (Cert.SbFwdIdeal.main (F := F))) ⟨m, fun _ => 0, ρ⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0) :=
  (θ_run Cert.SbFwdIdeal.defs _ _).mono (fun _ h =>
    ⟨fun c => ((h.1 c).1 2).trans (((Cert.SbFwdIdeal.Sbf.dats m 0 c).arrAt_in 2 rfl _).trans (Cert.SbFwdIdeal.Gen.V_main_arg0 m c)), h.2⟩)
    (Cert.SbFwdIdeal.Sbf.run_main m ρ)

theorem frame_SbFwd : Cert.quiescent_SbFwd (hSbFwd := Cert.SbFwd.Gen.facts) := fun m ρ _ => by
  rw [FwdSame.defs_eq]
  exact run_args_SbFwd (F := Bits) m ρ

theorem frame_RSbFwd : Cert.quiescent_ReferenceSbFwdIdeal (hReferenceSbFwdIdeal := Cert.ReferenceSbFwdIdeal.Gen.facts) := fun m ρ _ =>
  (θ_run Cert.ReferenceSbFwdIdeal.defs _ _).mono (fun r h => ⟨fun c => (h c).2, Idealize.ShloMosaic.sem_eq_zero_of_no_sems (by decide) r.2⟩)
    (Cert.ReferenceSbFwdIdeal.Value.run (F := Ideal) m ρ)

end Cert.Proof

end
-- ==== Proof.Same.lean ====
/-
  The two printed programs have one text: their tables of bodies agree, so a run of one is a run of the other.
-/
module
public import proofs.«01_k».proof.Defs
public import proofs.«01_k».proof.Proof.Gen.Kernel
public import proofs.«01_k».proof.Proof.Gen.KernelIdeal
@[expose] public section
set_option maxRecDepth 8192
noncomputable section
namespace Cert.Proof.Same
open Idealize.ShloMosaic Idealize.SL.Sem
variable {F : FTy → Type} [FloatOps F]
theorem body_eq : Cert.Kernel.cc0_sb_bwd (F := F) = Cert.KernelIdeal.cc0_sb_bwd (F := F) := rfl
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    rw [body_eq]
    rfl
  | ⟨n + 1, h⟩, _ => exact absurd h (by omega)
theorem defs_eq : Cert.Kernel.defs (F := F) = Cert.KernelIdeal.defs (F := F) := congrArg (Pipeline.defs Cert.Kernel.pcfgs) defs₀_eq
end Cert.Proof.Same
end
-- ==== Proof.lean ====
/-
  The certificate: the kernel of the stick-breaking attention's gradient runs and leaves its arguments alone, and over
  the extended reals its three results are the gradients of the attention's q, k and v.
-/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.DAct
public import proofs.«01_k».proof.Proof.Gen.DAct.Frame
public import proofs.«01_k».proof.Proof.Gen.DActIdeal
public import proofs.«01_k».proof.Proof.Gen.DActIdeal.Frame
public import proofs.«01_k».proof.Proof.Gen.ReferenceDActIdeal
public import proofs.«01_k».proof.Proof.Gen.ReferenceDActIdeal.Run
public import proofs.«01_k».proof.Proof.Gen.ReferenceDActIdeal.Read
public import proofs.«01_k».proof.Proof.Gen.DActIdeal.Value
public import proofs.«01_k».proof.Proof.Gen.GDown
public import proofs.«01_k».proof.Proof.Gen.GDown.Frame
public import proofs.«01_k».proof.Proof.Gen.GDownIdeal
public import proofs.«01_k».proof.Proof.Gen.GDownIdeal.Frame
public import proofs.«01_k».proof.Proof.Gen.ReferenceGDownIdeal
public import proofs.«01_k».proof.Proof.Gen.ReferenceGDownIdeal.Run
public import proofs.«01_k».proof.Proof.Gen.ReferenceGDownIdeal.Read
public import proofs.«01_k».proof.Proof.Gen.GDownIdeal.Value
public import proofs.«01_k».proof.Proof.Gen.DHidden
public import proofs.«01_k».proof.Proof.Gen.DHidden.Frame
public import proofs.«01_k».proof.Proof.Gen.DHiddenIdeal
public import proofs.«01_k».proof.Proof.Gen.DHiddenIdeal.Frame
public import proofs.«01_k».proof.Proof.Gen.ReferenceDHiddenIdeal
public import proofs.«01_k».proof.Proof.Gen.ReferenceDHiddenIdeal.Run
public import proofs.«01_k».proof.Proof.Gen.ReferenceDHiddenIdeal.Read
public import proofs.«01_k».proof.Proof.Gen.GUp
public import proofs.«01_k».proof.Proof.Gen.GUp.Frame
public import proofs.«01_k».proof.Proof.Gen.GUpIdeal
public import proofs.«01_k».proof.Proof.Gen.GUpIdeal.Frame
public import proofs.«01_k».proof.Proof.Gen.ReferenceGUpIdeal
public import proofs.«01_k».proof.Proof.Gen.ReferenceGUpIdeal.Run
public import proofs.«01_k».proof.Proof.Gen.ReferenceGUpIdeal.Read
public import proofs.«01_k».proof.Proof.Gen.GUpIdeal.Value
public import proofs.«01_k».proof.Proof.Gen.DIn
public import proofs.«01_k».proof.Proof.Gen.DIn.Frame
public import proofs.«01_k».proof.Proof.Gen.DInIdeal
public import proofs.«01_k».proof.Proof.Gen.DInIdeal.Frame
public import proofs.«01_k».proof.Proof.Gen.ReferenceDInIdeal
public import proofs.«01_k».proof.Proof.Gen.ReferenceDInIdeal.Run
public import proofs.«01_k».proof.Proof.Gen.ReferenceDInIdeal.Read
public import proofs.«01_k».proof.Proof.Gen.GQkv
public import proofs.«01_k».proof.Proof.Gen.GQkv.Frame
public import proofs.«01_k».proof.Proof.Gen.GQkvIdeal
public import proofs.«01_k».proof.Proof.Gen.GQkvIdeal.Frame
public import proofs.«01_k».proof.Proof.Gen.ReferenceGQkvIdeal
public import proofs.«01_k».proof.Proof.Gen.ReferenceGQkvIdeal.Run
public import proofs.«01_k».proof.Proof.Gen.ReferenceGQkvIdeal.Read
public import proofs.«01_k».proof.Proof.Gen.GQkvIdeal.Value
public import proofs.«01_k».proof.Proof.Gen.GAux
public import proofs.«01_k».proof.Proof.Gen.GAux.Frame
public import proofs.«01_k».proof.Proof.Gen.GAuxIdeal
public import proofs.«01_k».proof.Proof.Gen.GAuxIdeal.Frame
public import proofs.«01_k».proof.Proof.Gen.ReferenceGAuxIdeal
public import proofs.«01_k».proof.Proof.Gen.ReferenceGAuxIdeal.Run
public import proofs.«01_k».proof.Proof.Gen.ReferenceGAuxIdeal.Read
public import proofs.«01_k».proof.Proof.Gen.GAuxIdeal.Value
public import proofs.«01_k».proof.Proof.Gen.DMixed
public import proofs.«01_k».proof.Proof.Gen.DMixed.Frame
public import proofs.«01_k».proof.Proof.Gen.DMixedIdeal
public import proofs.«01_k».proof.Proof.Gen.DMixedIdeal.Frame
public import proofs.«01_k».proof.Proof.Gen.ReferenceDMixedIdeal
public import proofs.«01_k».proof.Proof.Gen.ReferenceDMixedIdeal.Run
public import proofs.«01_k».proof.Proof.Gen.ReferenceDMixedIdeal.Read
public import proofs.«01_k».proof.Proof.Gen.DMixedIdeal.Value
public import proofs.«01_k».proof.Proof.Gen.GOut
public import proofs.«01_k».proof.Proof.Gen.GOut.Frame
public import proofs.«01_k».proof.Proof.Gen.GOutIdeal
public import proofs.«01_k».proof.Proof.Gen.GOutIdeal.Frame
public import proofs.«01_k».proof.Proof.Gen.ReferenceGOutIdeal
public import proofs.«01_k».proof.Proof.Gen.ReferenceGOutIdeal.Run
public import proofs.«01_k».proof.Proof.Gen.ReferenceGOutIdeal.Read
public import proofs.«01_k».proof.Proof.Gen.GOutIdeal.Value
public import proofs.«01_k».proof.Proof.Gen.DOc
public import proofs.«01_k».proof.Proof.Gen.DOc.Frame
public import proofs.«01_k».proof.Proof.Gen.DOcIdeal
public import proofs.«01_k».proof.Proof.Gen.DOcIdeal.Frame
public import proofs.«01_k».proof.Proof.Gen.ReferenceDOcIdeal
public import proofs.«01_k».proof.Proof.Gen.ReferenceDOcIdeal.Run
public import proofs.«01_k».proof.Proof.Gen.ReferenceDOcIdeal.Read
public import proofs.«01_k».proof.Proof.Gen.DOcIdeal.Value
public import proofs.«01_k».proof.Proof.Gen.GCo
public import proofs.«01_k».proof.Proof.Gen.GCo.Frame
public import proofs.«01_k».proof.Proof.Gen.GCoIdeal
public import proofs.«01_k».proof.Proof.Gen.GCoIdeal.Frame
public import proofs.«01_k».proof.Proof.Gen.ReferenceGCoIdeal
public import proofs.«01_k».proof.Proof.Gen.ReferenceGCoIdeal.Run
public import proofs.«01_k».proof.Proof.Gen.ReferenceGCoIdeal.Read
public import proofs.«01_k».proof.Proof.Gen.GCoIdeal.Value
public import proofs.«01_k».proof.Proof.Gen.DHq
public import proofs.«01_k».proof.Proof.Gen.DHq.Frame
public import proofs.«01_k».proof.Proof.Gen.DHqIdeal
public import proofs.«01_k».proof.Proof.Gen.DHqIdeal.Frame
public import proofs.«01_k».proof.Proof.Gen.ReferenceDHqIdeal
public import proofs.«01_k».proof.Proof.Gen.ReferenceDHqIdeal.Run
public import proofs.«01_k».proof.Proof.Gen.ReferenceDHqIdeal.Read
public import proofs.«01_k».proof.Proof.Gen.DHqIdeal.Value
public import proofs.«01_k».proof.Proof.Gen.GCq
public import proofs.«01_k».proof.Proof.Gen.GCq.Frame
public import proofs.«01_k».proof.Proof.Gen.GCqIdeal
public import proofs.«01_k».proof.Proof.Gen.GCqIdeal.Frame
public import proofs.«01_k».proof.Proof.Gen.ReferenceGCqIdeal
public import proofs.«01_k».proof.Proof.Gen.ReferenceGCqIdeal.Run
public import proofs.«01_k».proof.Proof.Gen.ReferenceGCqIdeal.Read
public import proofs.«01_k».proof.Proof.Gen.GCqIdeal.Value
public import proofs.«01_k».proof.Proof.Gen.DMemn
public import proofs.«01_k».proof.Proof.Gen.DMemn.Frame
public import proofs.«01_k».proof.Proof.Gen.DMemnIdeal
public import proofs.«01_k».proof.Proof.Gen.DMemnIdeal.Frame
public import proofs.«01_k».proof.Proof.Gen.ReferenceDMemnIdeal
public import proofs.«01_k».proof.Proof.Gen.ReferenceDMemnIdeal.Run
public import proofs.«01_k».proof.Proof.Gen.ReferenceDMemnIdeal.Read
public import proofs.«01_k».proof.Proof.Gen.DMemnIdeal.Value
public import proofs.«01_k».proof.Proof.Gen.GCkv
public import proofs.«01_k».proof.Proof.Gen.GCkv.Frame
public import proofs.«01_k».proof.Proof.Gen.GCkvIdeal
public import proofs.«01_k».proof.Proof.Gen.GCkvIdeal.Frame
public import proofs.«01_k».proof.Proof.Gen.ReferenceGCkvIdeal
public import proofs.«01_k».proof.Proof.Gen.ReferenceGCkvIdeal.Run
public import proofs.«01_k».proof.Proof.Gen.ReferenceGCkvIdeal.Read
public import proofs.«01_k».proof.Proof.Gen.GCkvIdeal.Value
public import proofs.«01_k».proof.Proof.Gen.FUp
public import proofs.«01_k».proof.Proof.Gen.FUp.Frame
public import proofs.«01_k».proof.Proof.Gen.FUpIdeal
public import proofs.«01_k».proof.Proof.Gen.FUpIdeal.Frame
public import proofs.«01_k».proof.Proof.Gen.ReferenceFUpIdeal
public import proofs.«01_k».proof.Proof.Gen.ReferenceFUpIdeal.Run
public import proofs.«01_k».proof.Proof.Gen.ReferenceFUpIdeal.Read
public import proofs.«01_k».proof.Proof.Gen.FUpIdeal.Value
public import proofs.«01_k».proof.Proof.Gen.FDown
public import proofs.«01_k».proof.Proof.Gen.FDown.Frame
public import proofs.«01_k».proof.Proof.Gen.FDownIdeal
public import proofs.«01_k».proof.Proof.Gen.FDownIdeal.Frame
public import proofs.«01_k».proof.Proof.Gen.ReferenceFDownIdeal
public import proofs.«01_k».proof.Proof.Gen.ReferenceFDownIdeal.Run
public import proofs.«01_k».proof.Proof.Gen.ReferenceFDownIdeal.Read
public import proofs.«01_k».proof.Proof.Gen.FDownIdeal.Value
public import proofs.«01_k».proof.Proof.Gen.FQkv
public import proofs.«01_k».proof.Proof.Gen.FQkv.Frame
public import proofs.«01_k».proof.Proof.Gen.FQkvIdeal
public import proofs.«01_k».proof.Proof.Gen.FQkvIdeal.Frame
public import proofs.«01_k».proof.Proof.Gen.ReferenceFQkvIdeal
public import proofs.«01_k».proof.Proof.Gen.ReferenceFQkvIdeal.Run
public import proofs.«01_k».proof.Proof.Gen.ReferenceFQkvIdeal.Read
public import proofs.«01_k».proof.Proof.Gen.FQkvIdeal.Value
public import proofs.«01_k».proof.Proof.Gen.FAux
public import proofs.«01_k».proof.Proof.Gen.FAux.Frame
public import proofs.«01_k».proof.Proof.Gen.FAuxIdeal
public import proofs.«01_k».proof.Proof.Gen.FAuxIdeal.Frame
public import proofs.«01_k».proof.Proof.Gen.ReferenceFAuxIdeal
public import proofs.«01_k».proof.Proof.Gen.ReferenceFAuxIdeal.Run
public import proofs.«01_k».proof.Proof.Gen.ReferenceFAuxIdeal.Read
public import proofs.«01_k».proof.Proof.Gen.FAuxIdeal.Value
public import proofs.«01_k».proof.Proof.Gen.FOut
public import proofs.«01_k».proof.Proof.Gen.FOut.Frame
public import proofs.«01_k».proof.Proof.Gen.FOutIdeal
public import proofs.«01_k».proof.Proof.Gen.FOutIdeal.Frame
public import proofs.«01_k».proof.Proof.Gen.ReferenceFOutIdeal
public import proofs.«01_k».proof.Proof.Gen.ReferenceFOutIdeal.Run
public import proofs.«01_k».proof.Proof.Gen.ReferenceFOutIdeal.Read
public import proofs.«01_k».proof.Proof.Gen.FOutIdeal.Value
public import proofs.«01_k».proof.Proof.Gen.FCq
public import proofs.«01_k».proof.Proof.Gen.FCq.Frame
public import proofs.«01_k».proof.Proof.Gen.FCqIdeal
public import proofs.«01_k».proof.Proof.Gen.FCqIdeal.Frame
public import proofs.«01_k».proof.Proof.Gen.ReferenceFCqIdeal
public import proofs.«01_k».proof.Proof.Gen.ReferenceFCqIdeal.Run
public import proofs.«01_k».proof.Proof.Gen.ReferenceFCqIdeal.Read
public import proofs.«01_k».proof.Proof.Gen.FCqIdeal.Value
public import proofs.«01_k».proof.Proof.Gen.FCkv
public import proofs.«01_k».proof.Proof.Gen.FCkv.Frame
public import proofs.«01_k».proof.Proof.Gen.FCkvIdeal
public import proofs.«01_k».proof.Proof.Gen.FCkvIdeal.Frame
public import proofs.«01_k».proof.Proof.Gen.ReferenceFCkvIdeal
public import proofs.«01_k».proof.Proof.Gen.ReferenceFCkvIdeal.Run
public import proofs.«01_k».proof.Proof.Gen.ReferenceFCkvIdeal.Read
public import proofs.«01_k».proof.Proof.Gen.FCkvIdeal.Value
public import proofs.«01_k».proof.Proof.Gen.FCo
public import proofs.«01_k».proof.Proof.Gen.FCo.Frame
public import proofs.«01_k».proof.Proof.Gen.FCoIdeal
public import proofs.«01_k».proof.Proof.Gen.FCoIdeal.Frame
public import proofs.«01_k».proof.Proof.Gen.ReferenceFCoIdeal
public import proofs.«01_k».proof.Proof.Gen.ReferenceFCoIdeal.Run
public import proofs.«01_k».proof.Proof.Gen.ReferenceFCoIdeal.Read
public import proofs.«01_k».proof.Proof.Gen.FCoIdeal.Value
public import proofs.«01_k».proof.Proof.Gen.AdIn
public import proofs.«01_k».proof.Proof.Gen.AdIn.Frame
public import proofs.«01_k».proof.Proof.Gen.AdInIdeal
public import proofs.«01_k».proof.Proof.Gen.AdInIdeal.Frame
public import proofs.«01_k».proof.Proof.Gen.AdInIdeal.Value
public import proofs.«01_k».proof.Proof.Gen.ReferenceAdInIdeal
public import proofs.«01_k».proof.Proof.Gen.ReferenceAdInIdeal.Run
public import proofs.«01_k».proof.Proof.Gen.ReferenceAdInIdeal.Read
public import proofs.«01_k».proof.Proof.Gen.AdOut
public import proofs.«01_k».proof.Proof.Gen.AdOut.Frame
public import proofs.«01_k».proof.Proof.Gen.AdOutIdeal
public import proofs.«01_k».proof.Proof.Gen.AdOutIdeal.Frame
public import proofs.«01_k».proof.Proof.Gen.AdOutIdeal.Value
public import proofs.«01_k».proof.Proof.Gen.ReferenceAdOutIdeal
public import proofs.«01_k».proof.Proof.Gen.ReferenceAdOutIdeal.Run
public import proofs.«01_k».proof.Proof.Gen.ReferenceAdOutIdeal.Read
public import proofs.«01_k».proof.Proof.Gen.AdCross
public import proofs.«01_k».proof.Proof.Gen.AdCross.Frame
public import proofs.«01_k».proof.Proof.Gen.AdCrossIdeal
public import proofs.«01_k».proof.Proof.Gen.AdCrossIdeal.Frame
public import proofs.«01_k».proof.Proof.Gen.AdCrossIdeal.Value
public import proofs.«01_k».proof.Proof.Gen.ReferenceAdCrossIdeal
public import proofs.«01_k».proof.Proof.Gen.ReferenceAdCrossIdeal.Run
public import proofs.«01_k».proof.Proof.Gen.ReferenceAdCrossIdeal.Read
public import proofs.«01_k».proof.Proof.Gen.AdCo
public import proofs.«01_k».proof.Proof.Gen.AdCo.Frame
public import proofs.«01_k».proof.Proof.Gen.AdCoIdeal
public import proofs.«01_k».proof.Proof.Gen.AdCoIdeal.Frame
public import proofs.«01_k».proof.Proof.Gen.AdCoIdeal.Value
public import proofs.«01_k».proof.Proof.Gen.ReferenceAdCoIdeal
public import proofs.«01_k».proof.Proof.Gen.ReferenceAdCoIdeal.Run
public import proofs.«01_k».proof.Proof.Gen.ReferenceAdCoIdeal.Read
public import proofs.«01_k».proof.Proof.Gen.AdUp
public import proofs.«01_k».proof.Proof.Gen.AdUp.Frame
public import proofs.«01_k».proof.Proof.Gen.AdUpIdeal
public import proofs.«01_k».proof.Proof.Gen.AdUpIdeal.Frame
public import proofs.«01_k».proof.Proof.Gen.AdUpIdeal.Value
public import proofs.«01_k».proof.Proof.Gen.ReferenceAdUpIdeal
public import proofs.«01_k».proof.Proof.Gen.ReferenceAdUpIdeal.Run
public import proofs.«01_k».proof.Proof.Gen.ReferenceAdUpIdeal.Read
public import proofs.«01_k».proof.Proof.Gen.AdDown
public import proofs.«01_k».proof.Proof.Gen.AdDown.Frame
public import proofs.«01_k».proof.Proof.Gen.AdDownIdeal
public import proofs.«01_k».proof.Proof.Gen.AdDownIdeal.Frame
public import proofs.«01_k».proof.Proof.Gen.AdDownIdeal.Value
public import proofs.«01_k».proof.Proof.Gen.ReferenceAdDownIdeal
public import proofs.«01_k».proof.Proof.Gen.ReferenceAdDownIdeal.Run
public import proofs.«01_k».proof.Proof.Gen.ReferenceAdDownIdeal.Read
public import proofs.«01_k».proof.Proof.ActGrad
public import proofs.«01_k».proof.Proof.AdCo
public import proofs.«01_k».proof.Proof.AdCross
public import proofs.«01_k».proof.Proof.AdDown
public import proofs.«01_k».proof.Proof.AdIn
public import proofs.«01_k».proof.Proof.AdOut
public import proofs.«01_k».proof.Proof.AdUp
public import proofs.«01_k».proof.Proof.DHq
public import proofs.«01_k».proof.Proof.DIn
public import proofs.«01_k».proof.Proof.DMemn
public import proofs.«01_k».proof.Proof.DMixed
public import proofs.«01_k».proof.Proof.DOc
public import proofs.«01_k».proof.Proof.DownGrad
public import proofs.«01_k».proof.Proof.FAux
public import proofs.«01_k».proof.Proof.FCkv
public import proofs.«01_k».proof.Proof.FCo
public import proofs.«01_k».proof.Proof.FCq
public import proofs.«01_k».proof.Proof.FDown
public import proofs.«01_k».proof.Proof.FOut
public import proofs.«01_k».proof.Proof.FQkv
public import proofs.«01_k».proof.Proof.FUp
public import proofs.«01_k».proof.Proof.GAux
public import proofs.«01_k».proof.Proof.GCkv
public import proofs.«01_k».proof.Proof.GCo
public import proofs.«01_k».proof.Proof.GCq
public import proofs.«01_k».proof.Proof.GOut
public import proofs.«01_k».proof.Proof.GQkv
public import proofs.«01_k».proof.Proof.HiddenGrad
public import proofs.«01_k».proof.Proof.UpGrad
public import proofs.«01_k».proof.Proof.Gen.SbFwd
public import proofs.«01_k».proof.Proof.Gen.SbFwd.Frame
public import proofs.«01_k».proof.Proof.Gen.SbFwdIdeal
public import proofs.«01_k».proof.Proof.Gen.SbFwdIdeal.Frame
public import proofs.«01_k».proof.Proof.Gen.SbFwdIdeal.Skeleton
public import proofs.«01_k».proof.Proof.Gen.ReferenceSbFwdIdeal
public import proofs.«01_k».proof.Proof.Gen.ReferenceSbFwdIdeal.Run
public import proofs.«01_k».proof.Proof.Gen.ReferenceSbFwdIdeal.Read
public import proofs.«01_k».proof.Proof.Gen.Pre_finite_qk
public import proofs.«01_k».proof.Proof.FwdValue
public import proofs.«01_k».proof.Proof.Run
public import proofs.«01_k».proof.Proof.Same
public import proofs.«01_k».proof.Proof.Value

@[expose] public section

set_option maxRecDepth 8192

noncomputable section

namespace Cert.Proof

open Idealize.ShloMosaic Idealize.SL.Sem

/-- The run of the kernel at any float values: its arguments unchanged and every counter at zero. -/
theorem run_args {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h =>
    ⟨fun c => ⟨((h.1 c).1 2).trans (((Cert.KernelIdeal.Sbw.dats m 0 c).arrAt_in 2 rfl _).trans (Cert.KernelIdeal.Gen.V_main_arg0 m c)),
      ((h.1 c).1 3).trans (((Cert.KernelIdeal.Sbw.dats m 0 c).arrAt_in 3 rfl _).trans (Cert.KernelIdeal.Gen.V_main_arg1 m c))⟩, h.2⟩)
    (Cert.KernelIdeal.Sbw.run_main m ρ)

theorem frame_kernel : Cert.quiescent_Kernel (hKernel := Cert.Kernel.Gen.facts) := fun m ρ _ => by
  rw [Same.defs_eq]
  exact run_args (F := Bits) m ρ

theorem frame_kernelIdeal : Cert.quiescent_KernelIdeal (hKernelIdeal := Cert.KernelIdeal.Gen.facts) := fun m ρ _ => run_args (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => ⟨(h c).2.2.2.1, (h c).2.2.2.2⟩, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.DAct.Gen.facts, Cert.DActIdeal.Gen.facts, Cert.ReferenceDActIdeal.Gen.facts,
    Cert.GDown.Gen.facts, Cert.GDownIdeal.Gen.facts, Cert.ReferenceGDownIdeal.Gen.facts,
    Cert.DHidden.Gen.facts, Cert.DHiddenIdeal.Gen.facts, Cert.ReferenceDHiddenIdeal.Gen.facts,
    Cert.GUp.Gen.facts, Cert.GUpIdeal.Gen.facts, Cert.ReferenceGUpIdeal.Gen.facts,
    Cert.DIn.Gen.facts, Cert.DInIdeal.Gen.facts, Cert.ReferenceDInIdeal.Gen.facts,
    Cert.GQkv.Gen.facts, Cert.GQkvIdeal.Gen.facts, Cert.ReferenceGQkvIdeal.Gen.facts,
    Cert.GAux.Gen.facts, Cert.GAuxIdeal.Gen.facts, Cert.ReferenceGAuxIdeal.Gen.facts,
    Cert.DMixed.Gen.facts, Cert.DMixedIdeal.Gen.facts, Cert.ReferenceDMixedIdeal.Gen.facts,
    Cert.GOut.Gen.facts, Cert.GOutIdeal.Gen.facts, Cert.ReferenceGOutIdeal.Gen.facts,
    Cert.DOc.Gen.facts, Cert.DOcIdeal.Gen.facts, Cert.ReferenceDOcIdeal.Gen.facts,
    Cert.GCo.Gen.facts, Cert.GCoIdeal.Gen.facts, Cert.ReferenceGCoIdeal.Gen.facts,
    Cert.DHq.Gen.facts, Cert.DHqIdeal.Gen.facts, Cert.ReferenceDHqIdeal.Gen.facts,
    Cert.GCq.Gen.facts, Cert.GCqIdeal.Gen.facts, Cert.ReferenceGCqIdeal.Gen.facts,
    Cert.DMemn.Gen.facts, Cert.DMemnIdeal.Gen.facts, Cert.ReferenceDMemnIdeal.Gen.facts,
    Cert.GCkv.Gen.facts, Cert.GCkvIdeal.Gen.facts, Cert.ReferenceGCkvIdeal.Gen.facts,
    Cert.FUp.Gen.facts, Cert.FUpIdeal.Gen.facts, Cert.ReferenceFUpIdeal.Gen.facts,
    Cert.FDown.Gen.facts, Cert.FDownIdeal.Gen.facts, Cert.ReferenceFDownIdeal.Gen.facts,
    Cert.FQkv.Gen.facts, Cert.FQkvIdeal.Gen.facts, Cert.ReferenceFQkvIdeal.Gen.facts,
    Cert.FAux.Gen.facts, Cert.FAuxIdeal.Gen.facts, Cert.ReferenceFAuxIdeal.Gen.facts,
    Cert.FOut.Gen.facts, Cert.FOutIdeal.Gen.facts, Cert.ReferenceFOutIdeal.Gen.facts,
    Cert.FCq.Gen.facts, Cert.FCqIdeal.Gen.facts, Cert.ReferenceFCqIdeal.Gen.facts,
    Cert.FCkv.Gen.facts, Cert.FCkvIdeal.Gen.facts, Cert.ReferenceFCkvIdeal.Gen.facts,
    Cert.FCo.Gen.facts, Cert.FCoIdeal.Gen.facts, Cert.ReferenceFCoIdeal.Gen.facts,
    Cert.AdIn.Gen.facts, Cert.AdInIdeal.Gen.facts, Cert.ReferenceAdInIdeal.Gen.facts,
    Cert.AdOut.Gen.facts, Cert.AdOutIdeal.Gen.facts, Cert.ReferenceAdOutIdeal.Gen.facts,
    Cert.AdCross.Gen.facts, Cert.AdCrossIdeal.Gen.facts, Cert.ReferenceAdCrossIdeal.Gen.facts,
    Cert.AdCo.Gen.facts, Cert.AdCoIdeal.Gen.facts, Cert.ReferenceAdCoIdeal.Gen.facts,
    Cert.AdUp.Gen.facts, Cert.AdUpIdeal.Gen.facts, Cert.ReferenceAdUpIdeal.Gen.facts,
    Cert.AdDown.Gen.facts, Cert.AdDownIdeal.Gen.facts, Cert.ReferenceAdDownIdeal.Gen.facts,
    Cert.SbFwd.Gen.facts, Cert.SbFwdIdeal.Gen.facts, Cert.ReferenceSbFwdIdeal.Gen.facts,
    Cert.Pre_finite.Gen.facts, Cert.Pre_finite_qk.Gen.facts,
    frame_kernel, frame_kernelIdeal, fun m ρ _ => run_args (F := Ideal) m ρ, frame_reference, fun m ρ h => frame_reference m ρ trivial,
    fun m ρ _ => Cert.DAct.Gen.frame m ρ, fun m ρ _ => Cert.DActIdeal.Gen.frame m ρ, frame_RDAct,
    fun m ρ _ => Cert.GDown.Gen.frame m ρ, fun m ρ _ => Cert.GDownIdeal.Gen.frame m ρ, frame_RGDown,
    fun m ρ _ => Cert.DHidden.Gen.frame m ρ, fun m ρ _ => Cert.DHiddenIdeal.Gen.frame m ρ, frame_RDHidden,
    fun m ρ _ => Cert.GUp.Gen.frame m ρ, fun m ρ _ => Cert.GUpIdeal.Gen.frame m ρ, frame_RGUp,
    fun m ρ _ => Cert.DIn.Gen.frame m ρ, fun m ρ _ => Cert.DInIdeal.Gen.frame m ρ, frame_RDIn,
    fun m ρ _ => Cert.GQkv.Gen.frame m ρ, fun m ρ _ => Cert.GQkvIdeal.Gen.frame m ρ, frame_RGQkv,
    fun m ρ _ => Cert.GAux.Gen.frame m ρ, fun m ρ _ => Cert.GAuxIdeal.Gen.frame m ρ, frame_RGAux,
    fun m ρ _ => Cert.DMixed.Gen.frame m ρ, fun m ρ _ => Cert.DMixedIdeal.Gen.frame m ρ, frame_RDMixed,
    fun m ρ _ => Cert.GOut.Gen.frame m ρ, fun m ρ _ => Cert.GOutIdeal.Gen.frame m ρ, frame_RGOut,
    fun m ρ _ => Cert.DOc.Gen.frame m ρ, fun m ρ _ => Cert.DOcIdeal.Gen.frame m ρ, frame_RDOc,
    fun m ρ _ => Cert.GCo.Gen.frame m ρ, fun m ρ _ => Cert.GCoIdeal.Gen.frame m ρ, frame_RGCo,
    fun m ρ _ => Cert.DHq.Gen.frame m ρ, fun m ρ _ => Cert.DHqIdeal.Gen.frame m ρ, frame_RDHq,
    fun m ρ _ => Cert.GCq.Gen.frame m ρ, fun m ρ _ => Cert.GCqIdeal.Gen.frame m ρ, frame_RGCq,
    fun m ρ _ => Cert.DMemn.Gen.frame m ρ, fun m ρ _ => Cert.DMemnIdeal.Gen.frame m ρ, frame_RDMemn,
    fun m ρ _ => Cert.GCkv.Gen.frame m ρ, fun m ρ _ => Cert.GCkvIdeal.Gen.frame m ρ, frame_RGCkv,
    fun m ρ _ => Cert.FUp.Gen.frame m ρ, fun m ρ _ => Cert.FUpIdeal.Gen.frame m ρ, frame_RFUp,
    fun m ρ _ => Cert.FDown.Gen.frame m ρ, fun m ρ _ => Cert.FDownIdeal.Gen.frame m ρ, frame_RFDown,
    fun m ρ _ => Cert.FQkv.Gen.frame m ρ, fun m ρ _ => Cert.FQkvIdeal.Gen.frame m ρ, frame_RFQkv,
    fun m ρ _ => Cert.FAux.Gen.frame m ρ, fun m ρ _ => Cert.FAuxIdeal.Gen.frame m ρ, frame_RFAux,
    fun m ρ _ => Cert.FOut.Gen.frame m ρ, fun m ρ _ => Cert.FOutIdeal.Gen.frame m ρ, frame_RFOut,
    fun m ρ _ => Cert.FCq.Gen.frame m ρ, fun m ρ _ => Cert.FCqIdeal.Gen.frame m ρ, frame_RFCq,
    fun m ρ _ => Cert.FCkv.Gen.frame m ρ, fun m ρ _ => Cert.FCkvIdeal.Gen.frame m ρ, frame_RFCkv,
    fun m ρ _ => Cert.FCo.Gen.frame m ρ, fun m ρ _ => Cert.FCoIdeal.Gen.frame m ρ, frame_RFCo,
    fun m ρ _ => Cert.AdIn.Gen.frame m ρ, fun m ρ _ => Cert.AdInIdeal.Gen.frame m ρ, frame_RAdIn,
    fun m ρ _ => Cert.AdOut.Gen.frame m ρ, fun m ρ _ => Cert.AdOutIdeal.Gen.frame m ρ, frame_RAdOut,
    fun m ρ _ => Cert.AdCross.Gen.frame m ρ, fun m ρ _ => Cert.AdCrossIdeal.Gen.frame m ρ, frame_RAdCross,
    fun m ρ _ => Cert.AdCo.Gen.frame m ρ, fun m ρ _ => Cert.AdCoIdeal.Gen.frame m ρ, frame_RAdCo,
    fun m ρ _ => Cert.AdUp.Gen.frame m ρ, fun m ρ _ => Cert.AdUpIdeal.Gen.frame m ρ, frame_RAdUp,
    fun m ρ _ => Cert.AdDown.Gen.frame m ρ, fun m ρ _ => Cert.AdDownIdeal.Gen.frame m ρ, frame_RAdDown,
    frame_SbFwd, fun m ρ _ => run_args_SbFwd (F := Ideal) m ρ, fun m ρ _ => run_args_SbFwd (F := Ideal) m ρ, frame_RSbFwd, fun m ρ h => frame_RSbFwd m ρ trivial,
    trivial, algebraic,
    trivial, algebraic_DAct,
    trivial, algebraic_GDown,
    trivial, algebraic_DHidden,
    trivial, algebraic_GUp,
    trivial, algebraic_DIn,
    trivial, algebraic_GQkv,
    trivial, algebraic_GAux,
    trivial, algebraic_DMixed,
    trivial, algebraic_GOut,
    trivial, algebraic_DOc,
    trivial, algebraic_GCo,
    trivial, algebraic_DHq,
    trivial, algebraic_GCq,
    trivial, algebraic_DMemn,
    trivial, algebraic_GCkv,
    trivial, algebraic_FUp,
    trivial, algebraic_FDown,
    trivial, algebraic_FQkv,
    trivial, algebraic_FAux,
    trivial, algebraic_FOut,
    trivial, algebraic_FCq,
    trivial, algebraic_FCkv,
    trivial, algebraic_FCo,
    trivial, algebraic_AdIn,
    trivial, algebraic_AdOut,
    trivial, algebraic_AdCross,
    trivial, algebraic_AdCo,
    trivial, algebraic_AdUp,
    trivial, algebraic_AdDown,
    trivial, algebraic_SbFwd⟩

end Cert.Proof

end
